-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gates [hPre_finite_gates : Cert.Pre_finite_gates.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gates [hPre_finite_gates : Cert.Pre_finite_gates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_gates [hKernelIdeal : Cert.KernelIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_gates [hReferenceIdeal : Cert.ReferenceIdeal.Facts] [hPre_finite_gates : Cert.Pre_finite_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def preserves_Kernel_KernelIdeal : Prop :=
  True

def algebraic_KernelIdeal_ReferenceIdeal_pre_finite_gates [hKernelIdeal : Cert.KernelIdeal.Facts] [hReferenceIdeal : Cert.ReferenceIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v214) = v0 c
          ∧ r.2.mem ((c.tc : Thread Cert.ReferenceIdeal.nD Cert.ReferenceIdeal.τ).loc Cert.ReferenceIdeal.main_v222) = v1 c
          ∧ r.2.mem ((c.tc : Thread Cert.ReferenceIdeal.nD Cert.ReferenceIdeal.τ).loc Cert.ReferenceIdeal.main_v231) = v2 c
          ∧ r.2.mem ((c.tc : Thread Cert.ReferenceIdeal.nD Cert.ReferenceIdeal.τ).loc Cert.ReferenceIdeal.main_v241) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v52) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v54) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v54) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v30) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v29) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v25_0)) (v1 : (c : Dev Cert.Kernel9Ideal.nD) → Buf (Elt Ideal) ((c.tc : Thread Cert.Kernel9Ideal.nD Cert.Kernel9Ideal.τ).loc Cert.Kernel9Ideal.main_v25_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v25_0) = v0 c
          ∧ r.2.mem ((c.tc : Thread Cert.Kernel9Ideal.nD Cert.Kernel9Ideal.τ).loc Cert.Kernel9Ideal.main_v25_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v43) = v0 c
          ∧ r.2.mem ((c.tc : Thread Cert.Reference9Ideal.nD Cert.Reference9Ideal.τ).loc Cert.Reference9Ideal.main_v44) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v26) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v27) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v27_0)) (v1 : (c : Dev Cert.Kernel12Ideal.nD) → Buf (Elt Ideal) ((c.tc : Thread Cert.Kernel12Ideal.nD Cert.Kernel12Ideal.τ).loc Cert.Kernel12Ideal.main_v27_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v27_0) = v0 c
          ∧ r.2.mem ((c.tc : Thread Cert.Kernel12Ideal.nD Cert.Kernel12Ideal.τ).loc Cert.Kernel12Ideal.main_v27_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v46) = v0 c
          ∧ r.2.mem ((c.tc : Thread Cert.Reference12Ideal.nD Cert.Reference12Ideal.τ).loc Cert.Reference12Ideal.main_v47) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v6)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v6) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v30) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite_gates : Cert.Pre_finite_gates.Facts),
    quiescent_Kernel (hKernel := hKernel)
    ∧ quiescent_KernelIdeal (hKernelIdeal := hKernelIdeal)
    ∧ quiescent_KernelIdeal_pre_finite_gates (hKernelIdeal := hKernelIdeal) (hPre_finite_gates := hPre_finite_gates)
    ∧ quiescent_ReferenceIdeal (hReferenceIdeal := hReferenceIdeal)
    ∧ quiescent_ReferenceIdeal_pre_finite_gates (hReferenceIdeal := hReferenceIdeal) (hPre_finite_gates := hPre_finite_gates)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite_gates (hKernelIdeal := hKernelIdeal) (hReferenceIdeal := hReferenceIdeal) (hPre_finite_gates := hPre_finite_gates)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite_gates.lean ====
abbrev S16384x4096 : Shape := ⟨2, ![16384, 4096]⟩
abbrev S16384x2560 : Shape := ⟨2, ![16384, 2560]⟩
abbrev S1x512 : Shape := ⟨2, ![1, 512]⟩
abbrev S2048 : Shape := ⟨1, ![2048]⟩
abbrev S16384x2048 : Shape := ⟨2, ![16384, 2048]⟩
abbrev S32x2x2x4x256x512 : Shape := ⟨6, ![32, 2, 2, 4, 256, 512]⟩
abbrev S32x2x2x4x1x256 : Shape := ⟨6, ![32, 2, 2, 4, 1, 256]⟩
abbrev S32x2x4x2x128 : Shape := ⟨5, ![32, 2, 4, 2, 128]⟩
abbrev S16384x512 : Shape := ⟨2, ![16384, 512]⟩
abbrev S_ : Shape := ⟨0, ![]⟩

class Facts : Prop where
  slices_S16384x2560_S16384x512_0_2048 : S16384x2560.Slices ![0, 2048] S16384x512
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_

variable [Facts]

def fn {F : FTy → Type} [FloatOps F] (main_arg0 : FVec F S16384x4096 .bf16) (main_arg1 : FVec F S16384x2560 .f32) (main_arg2 : FVec F S1x512 .f32) (main_arg3 : FVec F S2048 .f32) (main_arg4 : FVec F S16384x2048 .bf16) (main_arg5 : FVec F S32x2x2x4x256x512 .f32) (main_arg6 : FVec F S32x2x2x4x1x256 .f32) (main_arg7 : FVec F S32x2x4x2x128 .f32) : IVec S_ 1 :=
  let main_v0 : FVec F S16384x512 .f32 := (extractStridedSlice S16384x512 ![0, 2048] · slices_S16384x2560_S16384x512_0_2048) main_arg1
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S1x512 .f32 := Host.absf main_arg2
  let main_cst_0 : FVec F S_ .f32 := constant S_ .f32 0x7F800000#32
  let main_v6 : FVec F S1x512 .f32 := broadcastInDim S1x512 ![] bcast_S_S1x512 main_cst_0
  let main_v7 : IVec S1x512 1 := cmpf .olt main_v5 main_v6
  let main_c_1 : IVec S_ 1 := constantI S_ 1 1#1
  let main_v8 : IVec S_ 1 := (fun x v => Host.reduce IntOp.andi x v reducesTo_S1x512_S_d0_1 h_S_) main_v7 main_c_1
  let main_v9 : IVec S_ 1 := andi main_v4 main_v8
  main_v9
-- ==== Kernel.lean ====
abbrev S16384x4096 : Shape := ⟨2, ![16384, 4096]⟩
abbrev S16384x2560 : Shape := ⟨2, ![16384, 2560]⟩
abbrev S1x512 : Shape := ⟨2, ![1, 512]⟩
abbrev S2048 : Shape := ⟨1, ![2048]⟩
abbrev S16384x2048 : Shape := ⟨2, ![16384, 2048]⟩
abbrev S32x2x2x4x256x512 : Shape := ⟨6, ![32, 2, 2, 4, 256, 512]⟩
abbrev S32x2x2x4x1x256 : Shape := ⟨6, ![32, 2, 2, 4, 1, 256]⟩
abbrev S32x2x4x2x128 : Shape := ⟨5, ![32, 2, 4, 2, 128]⟩
abbrev S1x2048 : Shape := ⟨2, ![1, 2048]⟩
abbrev S1024x256 : Shape := ⟨2, ![1024, 256]⟩
abbrev S1024x512 : Shape := ⟨2, ![1024, 512]⟩
abbrev S1024x128 : Shape := ⟨2, ![1024, 128]⟩
abbrev S1x128 : Shape := ⟨2, ![1, 128]⟩
abbrev S4x1x2x1x256x512 : Shape := ⟨6, ![4, 1, 2, 1, 256, 512]⟩
abbrev S4x1x2x1x1x256 : Shape := ⟨6, ![4, 1, 2, 1, 1, 256]⟩
abbrev S4x1x1x2x128 : Shape := ⟨5, ![4, 1, 1, 2, 128]⟩
abbrev S4x2x256x512 : Shape := ⟨4, ![4, 2, 256, 512]⟩
abbrev S4x2x1x256 : Shape := ⟨4, ![4, 2, 1, 256]⟩
abbrev S1x1 : Shape := ⟨2, ![1, 1]⟩
abbrev S256x256 : Shape := ⟨2, ![256, 256]⟩
abbrev S256x128 : Shape := ⟨2, ![256, 128]⟩
abbrev S128x256 : Shape := ⟨2, ![128, 256]⟩
abbrev S256x384 : Shape := ⟨2, ![256, 384]⟩
abbrev S384x256 : Shape := ⟨2, ![384, 256]⟩
abbrev S256x1 : Shape := ⟨2, ![256, 1]⟩
abbrev S1x256 : Shape := ⟨2, ![1, 256]⟩
abbrev S256 : Shape := ⟨1, ![256]⟩
abbrev S1 : Shape := ⟨1, ![1]⟩
abbrev S256x512 : Shape := ⟨2, ![256, 512]⟩
abbrev S256x640 : Shape := ⟨2, ![256, 640]⟩
abbrev S1x1x256x512 : Shape := ⟨4, ![1, 1, 256, 512]⟩
abbrev S1x1x1x256 : Shape := ⟨4, ![1, 1, 1, 256]⟩
abbrev S1x1x1x1x128 : Shape := ⟨5, ![1, 1, 1, 1, 128]⟩

abbrev nBuf : Space → Nat
  | .hbm => 13
  | .vmem => 26
  | .smem => 0
  | _ => 0

abbrev bufTy : (tb : Table) → Fin (tcTables nBuf tb) → BufTy
  | .hbm, ⟨0, _⟩ => ⟨S16384x4096, .bf16⟩
  | .hbm, ⟨1, _⟩ => ⟨S16384x2560, .f32⟩
  | .hbm, ⟨2, _⟩ => ⟨S1x512, .f32⟩
  | .hbm, ⟨3, _⟩ => ⟨S2048, .f32⟩
  | .hbm, ⟨4, _⟩ => ⟨S16384x2048, .bf16⟩
  | .hbm, ⟨5, _⟩ => ⟨S32x2x2x4x256x512, .f32⟩
  | .hbm, ⟨6, _⟩ => ⟨S32x2x2x4x1x256, .f32⟩
  | .hbm, ⟨7, _⟩ => ⟨S32x2x4x2x128, .f32⟩
  | .hbm, ⟨8, _⟩ => ⟨S1x2048, .f32⟩
  | .hbm, ⟨9, _⟩ => ⟨S16384x2048, .bf16⟩
  | .hbm, ⟨10, _⟩ => ⟨S32x2x2x4x256x512, .f32⟩
  | .hbm, ⟨11, _⟩ => ⟨S32x2x2x4x1x256, .f32⟩
  | .hbm, ⟨12, _⟩ => ⟨S32x2x4x2x128, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | .local _ .vmem, ⟨7, _⟩ => ⟨S1024x512, .f32⟩
  | .local _ .vmem, ⟨8, _⟩ => ⟨S1024x128, .f32⟩
  | .local _ .vmem, ⟨9, _⟩ => ⟨S1024x128, .f32⟩
  | .local _ .vmem, ⟨10, _⟩ => ⟨S1x128, .f32⟩
  | .local _ .vmem, ⟨11, _⟩ => ⟨S1x128, .f32⟩
  | .local _ .vmem, ⟨12, _⟩ => ⟨S1x512, .f32⟩
  | .local _ .vmem, ⟨13, _⟩ => ⟨S1x512, .f32⟩
  | .local _ .vmem, ⟨14, _⟩ => ⟨S1024x512, .bf16⟩
  | .local _ .vmem, ⟨15, _⟩ => ⟨S1024x512, .bf16⟩
  | .local _ .vmem, ⟨16, _⟩ => ⟨S4x1x2x1x256x512, .f32⟩
  | .local _ .vmem, ⟨17, _⟩ => ⟨S4x1x2x1x256x512, .f32⟩
  | .local _ .vmem, ⟨18, _⟩ => ⟨S4x1x2x1x1x256, .f32⟩
  | .local _ .vmem, ⟨19, _⟩ => ⟨S4x1x2x1x1x256, .f32⟩
  | .local _ .vmem, ⟨20, _⟩ => ⟨S4x1x1x2x128, .f32⟩
  | .local _ .vmem, ⟨21, _⟩ => ⟨S4x1x1x2x128, .f32⟩
  | .local _ .vmem, ⟨22, _⟩ => ⟨S1024x512, .f32⟩
  | .local _ .vmem, ⟨23, _⟩ => ⟨S1024x512, .f32⟩
  | .local _ .vmem, ⟨24, _⟩ => ⟨S4x2x256x512, .f32⟩
  | .local _ .vmem, ⟨25, _⟩ => ⟨S4x2x1x256, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_268 : BitVec 32 := 0#32
  let c4_i32 : BitVec 32 := 4#32
  let v839 : BitVec 32 := Scalar.addi c0_i32_268 c4_i32
  let c1_i32_269 : BitVec 32 := 1#32
  ⟨c0_i32_268, v839, c1_i32_269⟩
def k0_mult1 (k0_t1 : Fin k0_t1_loop.trips) : BitVec 32 :=
  let c0_i32_268 : BitVec 32 := 0#32
  let c1_i32_269 : BitVec 32 := 1#32
  let arg21 : BitVec 32 := Scf.iv c0_i32_268 c1_i32_269 k0_t1
  let c256_i32 : BitVec 32 := 256#32
  let v888 : BitVec 32 := Scalar.muli arg21 c256_i32
  v888
def k0_off1 (k0_t1 : Fin k0_t1_loop.trips) : Fin 2 → Nat :=
  let c0_i32_268 : BitVec 32 := 0#32
  let c1_i32_269 : BitVec 32 := 1#32
  let arg21 : BitVec 32 := Scf.iv c0_i32_268 c1_i32_269 k0_t1
  let c256_i32 : BitVec 32 := 256#32
  let v888 : BitVec 32 := Scalar.muli arg21 c256_i32
  let v889 : BitVec 32 := v888
  let v890 : Index := Scalar.indexCast v889
  let c0_331 : Index := 0#32
  ![v890.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.addi c4_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.addi c4_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c16_i32 : BitVec 32 := 16#32
  let v1 : BitVec 32 := Scalar.addi c16_i32 arg1
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_12 (i : grid0.Coords) : Fin 6 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![arg0.toNat, c1_i32.toNat, c0_i32.toNat, arg1.toNat, c0_i32_0.toNat, c0_i32_1.toNat]

def cc0_transform_13 (i : grid0.Coords) : Fin 6 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![arg0.toNat, c1_i32.toNat, c0_i32.toNat, arg1.toNat, c0_i32_0.toNat, c0_i32_1.toNat]

def cc0_transform_14 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, arg1.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x1x2x1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x1x2x1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x1x1x2x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S16384x4096 : Shape := ⟨2, ![16384, 4096]⟩
abbrev S16384x2560 : Shape := ⟨2, ![16384, 2560]⟩
abbrev S1x512 : Shape := ⟨2, ![1, 512]⟩
abbrev S2048 : Shape := ⟨1, ![2048]⟩
abbrev S16384x2048 : Shape := ⟨2, ![16384, 2048]⟩
abbrev S32x2x2x4x256x512 : Shape := ⟨6, ![32, 2, 2, 4, 256, 512]⟩
abbrev S32x2x2x4x1x256 : Shape := ⟨6, ![32, 2, 2, 4, 1, 256]⟩
abbrev S32x2x4x2x128 : Shape := ⟨5, ![32, 2, 4, 2, 128]⟩
abbrev S8192x4096 : Shape := ⟨2, ![8192, 4096]⟩
abbrev S32x256x4096 : Shape := ⟨3, ![32, 256, 4096]⟩
abbrev S32x256x1024 : Shape := ⟨3, ![32, 256, 1024]⟩
abbrev S32x256x2048 : Shape := ⟨3, ![32, 256, 2048]⟩
abbrev S32x256x4x256 : Shape := ⟨4, ![32, 256, 4, 256]⟩
abbrev S32x256x4x512 : Shape := ⟨4, ![32, 256, 4, 512]⟩
abbrev S8192x2048 : Shape := ⟨2, ![8192, 2048]⟩
abbrev S8192x512 : Shape := ⟨2, ![8192, 512]⟩
abbrev S32x256x4x128 : Shape := ⟨4, ![32, 256, 4, 128]⟩
abbrev S32x256x4x1 : Shape := ⟨4, ![32, 256, 4, 1]⟩
abbrev S32x256x4 : Shape := ⟨3, ![32, 256, 4]⟩
abbrev S_ : Shape := ⟨0, ![]⟩
abbrev S32x4x256x512 : Shape := ⟨4, ![32, 4, 256, 512]⟩
abbrev S32x4x256 : Shape := ⟨3, ![32, 4, 256]⟩
abbrev S32x4 : Shape := ⟨2, ![32, 4]⟩
abbrev S256x256 : Shape := ⟨2, ![256, 256]⟩
abbrev S32x256x1x4 : Shape := ⟨4, ![32, 256, 1, 4]⟩
abbrev S32x1x256x4 : Shape := ⟨4, ![32, 1, 256, 4]⟩
abbrev S32x256x256x4 : Shape := ⟨4, ![32, 256, 256, 4]⟩
abbrev S1x256x256x1 : Shape := ⟨4, ![1, 256, 256, 1]⟩
abbrev S32x1x4 : Shape := ⟨3, ![32, 1, 4]⟩
abbrev S32x4x256x256 : Shape := ⟨4, ![32, 4, 256, 256]⟩
abbrev S32x4x512x256 : Shape := ⟨4, ![32, 4, 512, 256]⟩
abbrev S32x4x1x1 : Shape := ⟨4, ![32, 4, 1, 1]⟩
abbrev S32x4x1 : Shape := ⟨3, ![32, 4, 1]⟩
abbrev S1x1x2048 : Shape := ⟨3, ![1, 1, 2048]⟩
abbrev S32x1x2x4x256x512 : Shape := ⟨6, ![32, 1, 2, 4, 256, 512]⟩
abbrev S32x2x4x256x512 : Shape := ⟨5, ![32, 2, 4, 256, 512]⟩
abbrev S32x1x4x256x512 : Shape := ⟨5, ![32, 1, 4, 256, 512]⟩
abbrev S32x1x2x4x1x256 : Shape := ⟨6, ![32, 1, 2, 4, 1, 256]⟩
abbrev S32x2x4x1x256 : Shape := ⟨5, ![32, 2, 4, 1, 256]⟩
abbrev S32x1x4x256 : Shape := ⟨4, ![32, 1, 4, 256]⟩
abbrev S32x2x4x256 : Shape := ⟨4, ![32, 2, 4, 256]⟩
abbrev S32x4x2 : Shape := ⟨3, ![32, 4, 2]⟩
abbrev S32x4x2x1 : Shape := ⟨4, ![32, 4, 2, 1]⟩
abbrev S32x4x2x128 : Shape := ⟨4, ![32, 4, 2, 128]⟩
abbrev S32x1x4x2x128 : Shape := ⟨5, ![32, 1, 4, 2, 128]⟩

abbrev nBuf : Space → Nat
  | .hbm => 327
  | .vmem => 0
  | .smem => 0
  | _ => 0

abbrev hbmTy0_0 (i : Nat) : BufTy := match i % 128 with
  | 0 => ⟨S16384x4096, .bf16⟩
  | 1 => ⟨S16384x2560, .f32⟩
  | 2 => ⟨S1x512, .f32⟩
  | 3 => ⟨S2048, .f32⟩
  | 4 => ⟨S16384x2048, .bf16⟩
  | 5 => ⟨S32x2x2x4x256x512, .f32⟩
  | 6 => ⟨S32x2x2x4x1x256, .f32⟩
  | 7 => ⟨S32x2x4x2x128, .f32⟩
  | 8 => ⟨S8192x4096, .bf16⟩
  | 9 => ⟨S8192x4096, .f32⟩
  | 10 => ⟨S32x256x4096, .f32⟩
  | 11 => ⟨S32x256x1024, .f32⟩
  | 12 => ⟨S32x256x1024, .f32⟩
  | 13 => ⟨S32x256x2048, .f32⟩
  | 14 => ⟨S32x256x4x256, .f32⟩
  | 15 => ⟨S32x256x4x256, .f32⟩
  | 16 => ⟨S32x256x4x512, .f32⟩
  | 17 => ⟨S8192x2048, .f32⟩
  | 18 => ⟨S32x256x2048, .f32⟩
  | 19 => ⟨S8192x512, .f32⟩
  | 20 => ⟨S8192x512, .f32⟩
  | 21 => ⟨S8192x512, .f32⟩
  | 22 => ⟨S32x256x4x128, .f32⟩
  | 23 => ⟨S32x256x4x1, .f32⟩
  | 24 => ⟨S32x256x4, .f32⟩
  | 25 => ⟨S32x256x4x1, .f32⟩
  | 26 => ⟨S32x256x4, .f32⟩
  | 27 => ⟨S32x256x4, .f32⟩
  | 28 => ⟨S_, .f32⟩
  | 29 => ⟨S32x256x4, .f32⟩
  | 30 => ⟨S32x256x4, .f32⟩
  | 31 => ⟨S32x256x4, .f32⟩
  | 32 => ⟨S32x256x4, .f32⟩
  | 33 => ⟨S32x256x4, .i1⟩
  | 34 => ⟨S32x256x4, .f32⟩
  | 35 => ⟨S32x256x4, .f32⟩
  | 36 => ⟨S32x256x4, .f32⟩
  | 37 => ⟨S32x256x4, .f32⟩
  | 38 => ⟨S32x256x4, .f32⟩
  | 39 => ⟨S32x256x4, .f32⟩
  | 40 => ⟨S32x256x4, .f32⟩
  | 41 => ⟨S32x256x4, .f32⟩
  | 42 => ⟨S32x256x4, .f32⟩
  | 43 => ⟨S_, .f32⟩
  | 44 => ⟨S32x4x256x512, .f32⟩
  | 45 => ⟨S_, .f32⟩
  | 46 => ⟨S32x4x256, .f32⟩
  | 47 => ⟨S_, .f32⟩
  | 48 => ⟨S32x4, .f32⟩
  | 49 => ⟨S_, .i1⟩
  | 50 => ⟨S256x256, .i1⟩
  | 51 => ⟨S256x256, .i32⟩
  | 52 => ⟨S_, .i32⟩
  | 53 => ⟨S256x256, .i32⟩
  | 54 => ⟨S256x256, .i32⟩
  | 55 => ⟨S256x256, .i32⟩
  | 56 => ⟨S256x256, .i1⟩
  | 57 => ⟨S_, .i1⟩
  | 58 => ⟨S256x256, .i1⟩
  | 59 => ⟨S256x256, .i1⟩
  | 60 => ⟨S_, .f32⟩
  | 61 => ⟨S_, .f32⟩
  | 62 => ⟨S32x256x4, .f32⟩
  | 63 => ⟨S32x256x1x4, .f32⟩
  | 64 => ⟨S32x1x256x4, .f32⟩
  | 65 => ⟨S32x256x256x4, .f32⟩
  | 66 => ⟨S32x256x256x4, .f32⟩
  | 67 => ⟨S32x256x256x4, .f32⟩
  | 68 => ⟨S32x1x256x4, .f32⟩
  | 69 => ⟨S32x256x256x4, .f32⟩
  | 70 => ⟨S32x256x256x4, .f32⟩
  | 71 => ⟨S1x256x256x1, .i1⟩
  | 72 => ⟨S_, .f32⟩
  | 73 => ⟨S_, .f32⟩
  | 74 => ⟨S32x256x256x4, .i1⟩
  | 75 => ⟨S32x256x256x4, .f32⟩
  | 76 => ⟨S32x256x256x4, .f32⟩
  | 77 => ⟨S32x1x4, .f32⟩
  | 78 => ⟨S32x256x4, .f32⟩
  | 79 => ⟨S32x256x4, .f32⟩
  | 80 => ⟨S_, .f32⟩
  | 81 => ⟨S32x256x4, .f32⟩
  | 82 => ⟨S32x256x4, .f32⟩
  | 83 => ⟨S32x256x4, .f32⟩
  | 84 => ⟨S32x256x4, .f32⟩
  | 85 => ⟨S32x4x256x256, .f32⟩
  | 86 => ⟨S32x256x256x4, .f32⟩
  | 87 => ⟨S32x256x1x4, .f32⟩
  | 88 => ⟨S32x256x256x4, .f32⟩
  | 89 => ⟨S32x256x256x4, .f32⟩
  | 90 => ⟨S32x256x256x4, .f32⟩
  | 91 => ⟨S32x256x256x4, .f32⟩
  | 92 => ⟨S32x4x512x256, .f32⟩
  | 93 => ⟨S32x256x4x512, .f32⟩
  | 94 => ⟨S32x256x4x1, .f32⟩
  | 95 => ⟨S32x4x512x256, .f32⟩
  | 96 => ⟨S32x256x4x512, .f32⟩
  | 97 => ⟨S32x256x4x512, .f32⟩
  | 98 => ⟨S32x256x4x512, .f32⟩
  | 99 => ⟨S32x256x4x512, .f32⟩
  | 100 => ⟨S_, .f32⟩
  | 101 => ⟨S32x256x4, .f32⟩
  | 102 => ⟨S32x4x256, .f32⟩
  | 103 => ⟨S32x256x4, .f32⟩
  | 104 => ⟨S32x256x4, .f32⟩
  | 105 => ⟨S32x256x4, .f32⟩
  | 106 => ⟨S32x256x4, .f32⟩
  | 107 => ⟨S32x256x4, .f32⟩
  | 108 => ⟨S32x256x4, .f32⟩
  | 109 => ⟨S32x256x4, .f32⟩
  | 110 => ⟨S32x256x4x1, .f32⟩
  | 111 => ⟨S32x256x4x512, .f32⟩
  | 112 => ⟨S32x256x4x512, .f32⟩
  | 113 => ⟨S32x1x4, .f32⟩
  | 114 => ⟨S32x4, .f32⟩
  | 115 => ⟨S32x1x4, .f32⟩
  | 116 => ⟨S32x256x4, .f32⟩
  | 117 => ⟨S32x256x4, .f32⟩
  | 118 => ⟨S32x256x4, .f32⟩
  | 119 => ⟨S32x4, .f32⟩
  | 120 => ⟨S_, .f32⟩
  | 121 => ⟨S32x4, .f32⟩
  | 122 => ⟨S32x4, .f32⟩
  | 123 => ⟨S32x4, .f32⟩
  | 124 => ⟨S32x4, .f32⟩
  | 125 => ⟨S32x4, .f32⟩
  | 126 => ⟨S32x1x4, .f32⟩
  | 127 => ⟨S32x256x4, .f32⟩
  | _ => ⟨S16384x4096, .bf16⟩

abbrev hbmTy0_1 (i : Nat) : BufTy := match i % 128 with
  | 0 => ⟨S32x256x4, .f32⟩
  | 1 => ⟨S32x256x4, .f32⟩
  | 2 => ⟨S32x4x1x1, .f32⟩
  | 3 => ⟨S32x4x256x512, .f32⟩
  | 4 => ⟨S32x4x256x512, .f32⟩
  | 5 => ⟨S32x256x4x1, .f32⟩
  | 6 => ⟨S32x256x4x256, .f32⟩
  | 7 => ⟨S32x256x4x256, .f32⟩
  | 8 => ⟨S32x4x256x512, .f32⟩
  | 9 => ⟨S32x4x256x512, .f32⟩
  | 10 => ⟨S32x4x1, .f32⟩
  | 11 => ⟨S32x4x256, .f32⟩
  | 12 => ⟨S32x4x256, .f32⟩
  | 13 => ⟨S32x4x256, .f32⟩
  | 14 => ⟨S32x4x256, .f32⟩
  | 15 => ⟨S32x256x4x1, .f32⟩
  | 16 => ⟨S32x256x4, .f32⟩
  | 17 => ⟨S32x256x4x1, .f32⟩
  | 18 => ⟨S32x256x4, .f32⟩
  | 19 => ⟨S32x256x4, .f32⟩
  | 20 => ⟨S_, .f32⟩
  | 21 => ⟨S32x256x4, .f32⟩
  | 22 => ⟨S32x256x4, .f32⟩
  | 23 => ⟨S32x256x4, .f32⟩
  | 24 => ⟨S32x256x4, .f32⟩
  | 25 => ⟨S32x256x4, .i1⟩
  | 26 => ⟨S32x256x4, .f32⟩
  | 27 => ⟨S32x256x4, .f32⟩
  | 28 => ⟨S32x256x4, .f32⟩
  | 29 => ⟨S32x256x4, .f32⟩
  | 30 => ⟨S32x256x4, .f32⟩
  | 31 => ⟨S32x256x4, .f32⟩
  | 32 => ⟨S32x256x4, .f32⟩
  | 33 => ⟨S32x256x4, .f32⟩
  | 34 => ⟨S32x256x4, .f32⟩
  | 35 => ⟨S32x256x4x256, .f32⟩
  | 36 => ⟨S32x256x4x256, .f32⟩
  | 37 => ⟨S32x256x4x512, .f32⟩
  | 38 => ⟨S32x256x4, .f32⟩
  | 39 => ⟨S32x256x4, .f32⟩
  | 40 => ⟨S_, .f32⟩
  | 41 => ⟨S32x4x256x512, .f32⟩
  | 42 => ⟨S_, .f32⟩
  | 43 => ⟨S32x4x256, .f32⟩
  | 44 => ⟨S_, .f32⟩
  | 45 => ⟨S32x4, .f32⟩
  | 46 => ⟨S_, .i1⟩
  | 47 => ⟨S256x256, .i1⟩
  | 48 => ⟨S256x256, .i32⟩
  | 49 => ⟨S_, .i32⟩
  | 50 => ⟨S256x256, .i32⟩
  | 51 => ⟨S256x256, .i32⟩
  | 52 => ⟨S256x256, .i32⟩
  | 53 => ⟨S256x256, .i1⟩
  | 54 => ⟨S_, .i1⟩
  | 55 => ⟨S256x256, .i1⟩
  | 56 => ⟨S256x256, .i1⟩
  | 57 => ⟨S_, .f32⟩
  | 58 => ⟨S_, .f32⟩
  | 59 => ⟨S32x256x4, .f32⟩
  | 60 => ⟨S32x256x1x4, .f32⟩
  | 61 => ⟨S32x1x256x4, .f32⟩
  | 62 => ⟨S32x256x256x4, .f32⟩
  | 63 => ⟨S32x256x256x4, .f32⟩
  | 64 => ⟨S32x256x256x4, .f32⟩
  | 65 => ⟨S32x1x256x4, .f32⟩
  | 66 => ⟨S32x256x256x4, .f32⟩
  | 67 => ⟨S32x256x256x4, .f32⟩
  | 68 => ⟨S1x256x256x1, .i1⟩
  | 69 => ⟨S_, .f32⟩
  | 70 => ⟨S_, .f32⟩
  | 71 => ⟨S32x256x256x4, .i1⟩
  | 72 => ⟨S32x256x256x4, .f32⟩
  | 73 => ⟨S32x256x256x4, .f32⟩
  | 74 => ⟨S32x1x4, .f32⟩
  | 75 => ⟨S32x256x4, .f32⟩
  | 76 => ⟨S32x256x4, .f32⟩
  | 77 => ⟨S_, .f32⟩
  | 78 => ⟨S32x256x4, .f32⟩
  | 79 => ⟨S32x256x4, .f32⟩
  | 80 => ⟨S32x256x4, .f32⟩
  | 81 => ⟨S32x256x4, .f32⟩
  | 82 => ⟨S32x4x256x256, .f32⟩
  | 83 => ⟨S32x256x256x4, .f32⟩
  | 84 => ⟨S32x256x1x4, .f32⟩
  | 85 => ⟨S32x256x256x4, .f32⟩
  | 86 => ⟨S32x256x256x4, .f32⟩
  | 87 => ⟨S32x256x256x4, .f32⟩
  | 88 => ⟨S32x256x256x4, .f32⟩
  | 89 => ⟨S32x4x512x256, .f32⟩
  | 90 => ⟨S32x256x4x512, .f32⟩
  | 91 => ⟨S32x256x4x1, .f32⟩
  | 92 => ⟨S32x4x512x256, .f32⟩
  | 93 => ⟨S32x256x4x512, .f32⟩
  | 94 => ⟨S32x256x4x512, .f32⟩
  | 95 => ⟨S32x256x4x512, .f32⟩
  | 96 => ⟨S32x256x4x512, .f32⟩
  | 97 => ⟨S_, .f32⟩
  | 98 => ⟨S32x256x4, .f32⟩
  | 99 => ⟨S32x4x256, .f32⟩
  | 100 => ⟨S32x256x4, .f32⟩
  | 101 => ⟨S32x256x4, .f32⟩
  | 102 => ⟨S32x256x4, .f32⟩
  | 103 => ⟨S32x256x4, .f32⟩
  | 104 => ⟨S32x256x4, .f32⟩
  | 105 => ⟨S32x256x4, .f32⟩
  | 106 => ⟨S32x256x4, .f32⟩
  | 107 => ⟨S32x256x4x1, .f32⟩
  | 108 => ⟨S32x256x4x512, .f32⟩
  | 109 => ⟨S32x256x4x512, .f32⟩
  | 110 => ⟨S32x1x4, .f32⟩
  | 111 => ⟨S32x4, .f32⟩
  | 112 => ⟨S32x1x4, .f32⟩
  | 113 => ⟨S32x256x4, .f32⟩
  | 114 => ⟨S32x256x4, .f32⟩
  | 115 => ⟨S32x256x4, .f32⟩
  | 116 => ⟨S32x4, .f32⟩
  | 117 => ⟨S_, .f32⟩
  | 118 => ⟨S32x4, .f32⟩
  | 119 => ⟨S32x4, .f32⟩
  | 120 => ⟨S32x4, .f32⟩
  | 121 => ⟨S32x4, .f32⟩
  | 122 => ⟨S32x4, .f32⟩
  | 123 => ⟨S32x1x4, .f32⟩
  | 124 => ⟨S32x256x4, .f32⟩
  | 125 => ⟨S32x256x4, .f32⟩
  | 126 => ⟨S32x256x4, .f32⟩
  | 127 => ⟨S32x4x1x1, .f32⟩
  | _ => ⟨S16384x4096, .bf16⟩

abbrev hbmTy0_2 (i : Nat) : BufTy := match i % 128 with
  | 0 => ⟨S32x4x256x512, .f32⟩
  | 1 => ⟨S32x4x256x512, .f32⟩
  | 2 => ⟨S32x256x4x1, .f32⟩
  | 3 => ⟨S32x256x4x256, .f32⟩
  | 4 => ⟨S32x256x4x256, .f32⟩
  | 5 => ⟨S32x4x256x512, .f32⟩
  | 6 => ⟨S32x4x256x512, .f32⟩
  | 7 => ⟨S32x4x1, .f32⟩
  | 8 => ⟨S32x4x256, .f32⟩
  | 9 => ⟨S32x4x256, .f32⟩
  | 10 => ⟨S32x4x256, .f32⟩
  | 11 => ⟨S32x4x256, .f32⟩
  | 12 => ⟨S32x256x4x512, .f32⟩
  | 13 => ⟨S32x256x4x512, .f32⟩
  | 14 => ⟨S32x256x4x512, .f32⟩
  | 15 => ⟨S_, .f32⟩
  | 16 => ⟨S32x256x4, .f32⟩
  | 17 => ⟨S32x256x4x1, .f32⟩
  | 18 => ⟨S_, .f32⟩
  | 19 => ⟨S32x256x4x1, .f32⟩
  | 20 => ⟨S32x256x4x1, .f32⟩
  | 21 => ⟨S_, .f32⟩
  | 22 => ⟨S32x256x4x1, .f32⟩
  | 23 => ⟨S32x256x4x1, .f32⟩
  | 24 => ⟨S32x256x4x1, .f32⟩
  | 25 => ⟨S32x256x4x512, .f32⟩
  | 26 => ⟨S32x256x4x512, .f32⟩
  | 27 => ⟨S32x256x2048, .f32⟩
  | 28 => ⟨S1x1x2048, .f32⟩
  | 29 => ⟨S32x256x2048, .f32⟩
  | 30 => ⟨S32x256x2048, .f32⟩
  | 31 => ⟨S32x256x2048, .f32⟩
  | 32 => ⟨S32x256x2048, .f32⟩
  | 33 => ⟨S_, .f32⟩
  | 34 => ⟨S32x256x2048, .f32⟩
  | 35 => ⟨S32x256x2048, .f32⟩
  | 36 => ⟨S_, .f32⟩
  | 37 => ⟨S32x256x2048, .f32⟩
  | 38 => ⟨S32x256x2048, .f32⟩
  | 39 => ⟨S32x256x2048, .f32⟩
  | 40 => ⟨S8192x2048, .f32⟩
  | 41 => ⟨S8192x2048, .bf16⟩
  | 42 => ⟨S8192x2048, .bf16⟩
  | 43 => ⟨S16384x2048, .bf16⟩
  | 44 => ⟨S32x1x2x4x256x512, .f32⟩
  | 45 => ⟨S32x2x4x256x512, .f32⟩
  | 46 => ⟨S32x1x4x256x512, .f32⟩
  | 47 => ⟨S32x1x4x256x512, .f32⟩
  | 48 => ⟨S32x2x4x256x512, .f32⟩
  | 49 => ⟨S32x1x2x4x256x512, .f32⟩
  | 50 => ⟨S32x1x2x4x256x512, .f32⟩
  | 51 => ⟨S32x2x2x4x256x512, .f32⟩
  | 52 => ⟨S32x1x2x4x1x256, .f32⟩
  | 53 => ⟨S32x2x4x1x256, .f32⟩
  | 54 => ⟨S32x1x4x256, .f32⟩
  | 55 => ⟨S32x1x4x256, .f32⟩
  | 56 => ⟨S32x2x4x256, .f32⟩
  | 57 => ⟨S32x2x4x1x256, .f32⟩
  | 58 => ⟨S32x1x2x4x1x256, .f32⟩
  | 59 => ⟨S32x1x2x4x1x256, .f32⟩
  | 60 => ⟨S32x2x2x4x1x256, .f32⟩
  | 61 => ⟨S32x4x1, .f32⟩
  | 62 => ⟨S32x4x1, .f32⟩
  | 63 => ⟨S32x4x2, .f32⟩
  | 64 => ⟨S32x4x2x1, .f32⟩
  | 65 => ⟨S32x4x2x128, .f32⟩
  | 66 => ⟨S32x1x4x2x128, .f32⟩
  | 67 => ⟨S32x4x2x128, .f32⟩
  | 68 => ⟨S32x1x4x2x128, .f32⟩
  | 69 => ⟨S32x1x4x2x128, .f32⟩
  | 70 => ⟨S32x2x4x2x128, .f32⟩
  | _ => ⟨S16384x4096, .bf16⟩

abbrev hbmTy (i : Nat) : BufTy := match i / 128 with
  | 0 => hbmTy0_0 i
  | 1 => hbmTy0_1 i
  | 2 => hbmTy0_2 i
  | _ => ⟨S16384x4096, .bf16⟩

abbrev bufTy : (tb : Table) → Fin (tcTables nBuf tb) → BufTy
  | .hbm, ⟨i, _⟩ => hbmTy i
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1 : Ref sig .tc := ⟨.hbm, 41, rfl⟩
abbrev main_v19 : Ref sig .tc := ⟨.hbm, 42, rfl⟩
abbrev main_cst : Ref sig .tc := ⟨.hbm, 43, rfl⟩
abbrev main_v20 : Ref sig .tc := ⟨.hbm, 44, rfl⟩
abbrev main_cst_0 : Ref sig .tc := ⟨.hbm, 45, rfl⟩
abbrev main_v21 : Ref sig .tc := ⟨.hbm, 46, rfl⟩
abbrev main_cst_1 : Ref sig .tc := ⟨.hbm, 47, rfl⟩
abbrev main_v22 : Ref sig .tc := ⟨.hbm, 48, rfl⟩
abbrev main_c : Ref sig .tc := ⟨.hbm, 49, rfl⟩
abbrev main_v23 : Ref sig .tc := ⟨.hbm, 50, rfl⟩
abbrev main_call1_v0 : Ref sig .tc := ⟨.hbm, 51, rfl⟩
abbrev main_call1_c : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_c_0 : Ref sig .tc := ⟨.hbm, 57, rfl⟩
abbrev main_call1_v5 : Ref sig .tc := ⟨.hbm, 58, rfl⟩
abbrev main_v24 : Ref sig .tc := ⟨.hbm, 59, rfl⟩
abbrev main_call2_call0_cst : Ref sig .tc := ⟨.hbm, 60, rfl⟩
abbrev main_call2_call0_v0 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_2 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_cst_3 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_cst_4 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_5 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_call4_v0 : Ref sig .tc := ⟨.hbm, 147, rfl⟩
abbrev main_call4_call0_cst : Ref sig .tc := ⟨.hbm, 148, rfl⟩
abbrev main_call4_call0_v0 : Ref sig .tc := ⟨.hbm, 149, rfl⟩
abbrev main_call4_call0_v1 : Ref sig .tc := ⟨.hbm, 150, rfl⟩
abbrev main_call4_call0_v2 : Ref sig .tc := ⟨.hbm, 151, rfl⟩
abbrev main_call4_call0_v3 : Ref sig .tc := ⟨.hbm, 152, rfl⟩
abbrev main_call4_call0_v4 : Ref sig .tc := ⟨.hbm, 153, rfl⟩
abbrev main_call4_call0_v5 : Ref sig .tc := ⟨.hbm, 154, rfl⟩
abbrev main_call4_call0_v6 : Ref sig .tc := ⟨.hbm, 155, rfl⟩
abbrev main_call4_call0_v7 : Ref sig .tc := ⟨.hbm, 156, rfl⟩
abbrev main_call4_call0_v8 : Ref sig .tc := ⟨.hbm, 157, rfl⟩
abbrev main_call4_call0_v9 : Ref sig .tc := ⟨.hbm, 158, rfl⟩
abbrev main_call4_call0_v10 : Ref sig .tc := ⟨.hbm, 159, rfl⟩
abbrev main_call4_call0_v11 : Ref sig .tc := ⟨.hbm, 160, rfl⟩
abbrev main_call4_v1 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_cst_6 : Ref sig .tc := ⟨.hbm, 168, rfl⟩
abbrev main_v109 : Ref sig .tc := ⟨.hbm, 169, rfl⟩
abbrev main_cst_7 : Ref sig .tc := ⟨.hbm, 170, rfl⟩
abbrev main_v110 : Ref sig .tc := ⟨.hbm, 171, rfl⟩
abbrev main_cst_8 : Ref sig .tc := ⟨.hbm, 172, rfl⟩
abbrev main_v111 : Ref sig .tc := ⟨.hbm, 173, rfl⟩
abbrev main_c_9 : Ref sig .tc := ⟨.hbm, 174, rfl⟩
abbrev main_v112 : Ref sig .tc := ⟨.hbm, 175, rfl⟩
abbrev main_call10_v0 : Ref sig .tc := ⟨.hbm, 176, rfl⟩
abbrev main_call10_c : Ref sig .tc := ⟨.hbm, 177, rfl⟩
abbrev main_call10_v1 : Ref sig .tc := ⟨.hbm, 178, rfl⟩
abbrev main_call10_v2 : Ref sig .tc := ⟨.hbm, 179, rfl⟩
abbrev main_call10_v3 : Ref sig .tc := ⟨.hbm, 180, rfl⟩
abbrev main_call10_v4 : Ref sig .tc := ⟨.hbm, 181, rfl⟩
abbrev main_call10_c_0 : Ref sig .tc := ⟨.hbm, 182, rfl⟩
abbrev main_call10_v5 : Ref sig .tc := ⟨.hbm, 183, rfl⟩
abbrev main_v113 : Ref sig .tc := ⟨.hbm, 184, rfl⟩
abbrev main_call11_call0_cst : Ref sig .tc := ⟨.hbm, 185, rfl⟩
abbrev main_call11_call0_v0 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_cst_10 : Ref sig .tc := ⟨.hbm, 197, rfl⟩
abbrev main_call12_v0 : Ref sig .tc := ⟨.hbm, 198, rfl⟩
abbrev main_call12_v1 : Ref sig .tc := ⟨.hbm, 199, rfl⟩
abbrev main_call12_v2 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_cst_11 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_cst_12 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_cst_13 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_v180 : Ref sig .tc := ⟨.hbm, 260, rfl⟩
abbrev main_v181 : Ref sig .tc := ⟨.hbm, 261, rfl⟩
abbrev main_v182 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_cst_14 : Ref sig .tc := ⟨.hbm, 271, rfl⟩
abbrev main_v191 : Ref sig .tc := ⟨.hbm, 272, rfl⟩
abbrev main_v192 : Ref sig .tc := ⟨.hbm, 273, rfl⟩
abbrev main_cst_15 : Ref sig .tc := ⟨.hbm, 274, rfl⟩
abbrev main_v193 : Ref sig .tc := ⟨.hbm, 275, rfl⟩
abbrev main_v194 : Ref sig .tc := ⟨.hbm, 276, rfl⟩
abbrev main_cst_16 : Ref sig .tc := ⟨.hbm, 277, rfl⟩
abbrev main_v195 : Ref sig .tc := ⟨.hbm, 278, rfl⟩
abbrev main_v196 : Ref sig .tc := ⟨.hbm, 279, rfl⟩
abbrev main_v197 : Ref sig .tc := ⟨.hbm, 280, rfl⟩
abbrev main_v198 : Ref sig .tc := ⟨.hbm, 281, rfl⟩
abbrev main_v199 : Ref sig .tc := ⟨.hbm, 282, rfl⟩
abbrev main_v200 : Ref sig .tc := ⟨.hbm, 283, rfl⟩
abbrev main_v201 : Ref sig .tc := ⟨.hbm, 284, rfl⟩
abbrev main_v202 : Ref sig .tc := ⟨.hbm, 285, rfl⟩
abbrev main_v203 : Ref sig .tc := ⟨.hbm, 286, rfl⟩
abbrev main_v204 : Ref sig .tc := ⟨.hbm, 287, rfl⟩
abbrev main_v205 : Ref sig .tc := ⟨.hbm, 288, rfl⟩
abbrev main_cst_17 : Ref sig .tc := ⟨.hbm, 289, rfl⟩
abbrev main_v206 : Ref sig .tc := ⟨.hbm, 290, rfl⟩
abbrev main_v207 : Ref sig .tc := ⟨.hbm, 291, rfl⟩
abbrev main_cst_18 : Ref sig .tc := ⟨.hbm, 292, rfl⟩
abbrev main_v208 : Ref sig .tc := ⟨.hbm, 293, rfl⟩
abbrev main_v209 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_v213 : Ref sig .tc := ⟨.hbm, 298, rfl⟩
abbrev main_v214 : Ref sig .tc := ⟨.hbm, 299, rfl⟩
abbrev main_v215 : Ref sig .tc := ⟨.hbm, 300, rfl⟩
abbrev main_v216 : Ref sig .tc := ⟨.hbm, 301, rfl⟩
abbrev main_v217 : Ref sig .tc := ⟨.hbm, 302, rfl⟩
abbrev main_v218 : Ref sig .tc := ⟨.hbm, 303, rfl⟩
abbrev main_v219 : Ref sig .tc := ⟨.hbm, 304, rfl⟩
abbrev main_v220 : Ref sig .tc := ⟨.hbm, 305, rfl⟩
abbrev main_v221 : Ref sig .tc := ⟨.hbm, 306, rfl⟩
abbrev main_v222 : Ref sig .tc := ⟨.hbm, 307, rfl⟩
abbrev main_v223 : Ref sig .tc := ⟨.hbm, 308, rfl⟩
abbrev main_v224 : Ref sig .tc := ⟨.hbm, 309, rfl⟩
abbrev main_v225 : Ref sig .tc := ⟨.hbm, 310, rfl⟩
abbrev main_v226 : Ref sig .tc := ⟨.hbm, 311, rfl⟩
abbrev main_v227 : Ref sig .tc := ⟨.hbm, 312, rfl⟩
abbrev main_v228 : Ref sig .tc := ⟨.hbm, 313, rfl⟩
abbrev main_v229 : Ref sig .tc := ⟨.hbm, 314, rfl⟩
abbrev main_v230 : Ref sig .tc := ⟨.hbm, 315, rfl⟩
abbrev main_v231 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_v237 : Ref sig .tc := ⟨.hbm, 322, rfl⟩
abbrev main_v238 : Ref sig .tc := ⟨.hbm, 323, rfl⟩
abbrev main_v239 : Ref sig .tc := ⟨.hbm, 324, rfl⟩
abbrev main_v240 : Ref sig .tc := ⟨.hbm, 325, rfl⟩
abbrev main_v241 : Ref sig .tc := ⟨.hbm, 326, rfl⟩

abbrev nD : Nat := 1
abbrev τ : Topo := Topo.v7x

variable {F : FTy → Type} [FloatOps F]
-- ==== Kernel2.lean ====
abbrev S16384x2048 : Shape := ⟨2, ![16384, 2048]⟩
abbrev S2048 : Shape := ⟨1, ![2048]⟩
abbrev S16x6x2048 : Shape := ⟨3, ![16, 6, 2048]⟩
abbrev S4x2048x8192 : Shape := ⟨3, ![4, 2048, 8192]⟩
abbrev S4x8192x2048 : Shape := ⟨3, ![4, 8192, 2048]⟩
abbrev S4x2048x16x512 : Shape := ⟨4, ![4, 2048, 16, 512]⟩
abbrev S4x16x2048x512 : Shape := ⟨4, ![4, 16, 2048, 512]⟩
abbrev S1x2048 : Shape := ⟨2, ![1, 2048]⟩
abbrev S1024x2048 : Shape := ⟨2, ![1024, 2048]⟩
abbrev S1x6x2048 : Shape := ⟨3, ![1, 6, 2048]⟩
abbrev S1x1x2048x512 : Shape := ⟨4, ![1, 1, 2048, 512]⟩
abbrev S1x512x2048 : Shape := ⟨3, ![1, 512, 2048]⟩
abbrev S1x1x2048 : Shape := ⟨3, ![1, 1, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 12
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S16x6x2048, .f32⟩
  | .hbm, ⟨4, _⟩ => ⟨S4x2048x8192, .f32⟩
  | .hbm, ⟨5, _⟩ => ⟨S4x8192x2048, .f32⟩
  | .hbm, ⟨6, _⟩ => ⟨S4x2048x16x512, .f32⟩
  | .hbm, ⟨7, _⟩ => ⟨S4x16x2048x512, .f32⟩
  | .hbm, ⟨8, _⟩ => ⟨S4x16x2048x512, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x6x2048, .f32⟩
  | .local _ .vmem, ⟨5, _⟩ => ⟨S1x6x2048, .f32⟩
  | .local _ .vmem, ⟨6, _⟩ => ⟨S1x1x2048x512, .bf16⟩
  | .local _ .vmem, ⟨7, _⟩ => ⟨S1x1x2048x512, .bf16⟩
  | .local _ .vmem, ⟨8, _⟩ => ⟨S1x512x2048, .f32⟩
  | .local _ .vmem, ⟨9, _⟩ => ⟨S1x512x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1024_i32 : BitVec 32 := 1024#32
  let v1 : BitVec 32 := Scalar.muli v0 c1024_i32
  let c8192_i32 : BitVec 32 := 8192#32
  let v2 : BitVec 1 := Scalar.cmpi .slt v1 c8192_i32
  let c8192_i32_0 : BitVec 32 := 8192#32
  let v3 : BitVec 32 := Scalar.subi v1 c8192_i32_0
  let c1024_i32_1 : BitVec 32 := 1024#32
  let v4 : BitVec 32 := Scalar.divsi v3 c1024_i32_1
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c1024_i32_1 c0_i32_4
  let v11 : BitVec 32 := Scalar.extui v10
  let c0_i32_5 : BitVec 32 := 0#32
  let v12 : BitVec 1 := Scalar.cmpi .slt c1024_i32_1 c0_i32_5
  let v13 : BitVec 32 := Scalar.extui v12
  let v14 : BitVec 32 := Scalar.subi v11 v13
  let v15 : BitVec 1 := Scalar.cmpi .ne v9 v14
  let v16 : BitVec 32 := Scalar.remsi v3 c1024_i32_1
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c1_i32_7 : BitVec 32 := 1#32
  let v21 : BitVec 32 := Scalar.addi c1_i32_7 v20
  let c0_i32_8 : BitVec 32 := 0#32
  let v22 : BitVec 32 := Scalar.select v2 c0_i32_8 v21
  let c0_i32_9 : BitVec 32 := 0#32
  let c0_i32_10 : BitVec 32 := 0#32
  let c0_i32_11 : BitVec 32 := 0#32
  ![v22.toNat, c0_i32_9.toNat, c0_i32_10.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S16384x2048 : Shape := ⟨2, ![16384, 2048]⟩
abbrev S2048 : Shape := ⟨1, ![2048]⟩
abbrev S16x6x2048 : Shape := ⟨3, ![16, 6, 2048]⟩
abbrev S4x2048x8192 : Shape := ⟨3, ![4, 2048, 8192]⟩
abbrev S4x8192x2048 : Shape := ⟨3, ![4, 8192, 2048]⟩
abbrev S1x6x2048 : Shape := ⟨3, ![1, 6, 2048]⟩
abbrev S8192x6x2048 : Shape := ⟨3, ![8192, 6, 2048]⟩
abbrev S8x6x2048 : Shape := ⟨3, ![8, 6, 2048]⟩
abbrev S8x1x6x2048 : Shape := ⟨4, ![8, 1, 6, 2048]⟩
abbrev S8x1024x6x2048 : Shape := ⟨4, ![8, 1024, 6, 2048]⟩
abbrev S16384x6x2048 : Shape := ⟨3, ![16384, 6, 2048]⟩
abbrev S16384x1x2048 : Shape := ⟨3, ![16384, 1, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x8192 : Shape := ⟨3, ![1, 2048, 8192]⟩
abbrev S2048x8192 : Shape := ⟨2, ![2048, 8192]⟩
abbrev S16384x8192 : Shape := ⟨2, ![16384, 8192]⟩
abbrev S1x8192x2048 : Shape := ⟨3, ![1, 8192, 2048]⟩
abbrev S8192x2048 : Shape := ⟨2, ![8192, 2048]⟩

abbrev nBuf : Space → Nat
  | .hbm => 68
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S16x6x2048, .f32⟩
  | .hbm, ⟨4, _⟩ => ⟨S4x2048x8192, .f32⟩
  | .hbm, ⟨5, _⟩ => ⟨S4x8192x2048, .f32⟩
  | .hbm, ⟨6, _⟩ => ⟨S1x6x2048, .f32⟩
  | .hbm, ⟨7, _⟩ => ⟨S8192x6x2048, .f32⟩
  | .hbm, ⟨8, _⟩ => ⟨S8x6x2048, .f32⟩
  | .hbm, ⟨9, _⟩ => ⟨S8x1x6x2048, .f32⟩
  | .hbm, ⟨10, _⟩ => ⟨S8x1024x6x2048, .f32⟩
  | .hbm, ⟨11, _⟩ => ⟨S8192x6x2048, .f32⟩
  | .hbm, ⟨12, _⟩ => ⟨S16384x6x2048, .f32⟩
  | .hbm, ⟨13, _⟩ => ⟨S16384x1x2048, .f32⟩
  | .hbm, ⟨14, _⟩ => ⟨S16384x2048, .f32⟩
  | .hbm, ⟨15, _⟩ => ⟨S16384x1x2048, .f32⟩
  | .hbm, ⟨16, _⟩ => ⟨S16384x2048, .f32⟩
  | .hbm, ⟨17, _⟩ => ⟨S16384x1x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x2048, .f32⟩
  | .hbm, ⟨31, _⟩ => ⟨S16384x2048, .f32⟩
  | .hbm, ⟨32, _⟩ => ⟨S1x2048, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S1x2048x8192, .f32⟩
  | .hbm, ⟨41, _⟩ => ⟨S2048x8192, .f32⟩
  | .hbm, ⟨42, _⟩ => ⟨S16384x8192, .f32⟩
  | .hbm, ⟨43, _⟩ => ⟨S_, .f32⟩
  | .hbm, ⟨44, _⟩ => ⟨S16384x8192, .f32⟩
  | .hbm, ⟨45, _⟩ => ⟨S16384x8192, .f32⟩
  | .hbm, ⟨46, _⟩ => ⟨S16384x8192, .f32⟩
  | .hbm, ⟨47, _⟩ => ⟨S1x8192x2048, .f32⟩
  | .hbm, ⟨48, _⟩ => ⟨S8192x2048, .f32⟩
  | .hbm, ⟨49, _⟩ => ⟨S16384x2048, .f32⟩
  | .hbm, ⟨50, _⟩ => ⟨S16384x2048, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S16384x2048, .f32⟩
  | .hbm, ⟨62, _⟩ => ⟨S16384x2048, .f32⟩
  | .hbm, ⟨63, _⟩ => ⟨S1x2048, .f32⟩
  | .hbm, ⟨64, _⟩ => ⟨S16384x2048, .f32⟩
  | .hbm, ⟨65, _⟩ => ⟨S16384x2048, .f32⟩
  | .hbm, ⟨66, _⟩ => ⟨S16384x2048, .f32⟩
  | .hbm, ⟨67, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_cst : Ref sig .tc := ⟨.hbm, 43, rfl⟩
abbrev main_call0_v0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Kernel3.lean ====
abbrev S16384x2048 : Shape := ⟨2, ![16384, 2048]⟩
abbrev S2048 : Shape := ⟨1, ![2048]⟩
abbrev S16x6x2048 : Shape := ⟨3, ![16, 6, 2048]⟩
abbrev S4x2048x8192 : Shape := ⟨3, ![4, 2048, 8192]⟩
abbrev S4x8192x2048 : Shape := ⟨3, ![4, 8192, 2048]⟩
abbrev S4x2048x16x512 : Shape := ⟨4, ![4, 2048, 16, 512]⟩
abbrev S4x16x2048x512 : Shape := ⟨4, ![4, 16, 2048, 512]⟩
abbrev S1x2048 : Shape := ⟨2, ![1, 2048]⟩
abbrev S1024x2048 : Shape := ⟨2, ![1024, 2048]⟩
abbrev S1x6x2048 : Shape := ⟨3, ![1, 6, 2048]⟩
abbrev S1x1x2048x512 : Shape := ⟨4, ![1, 1, 2048, 512]⟩
abbrev S1x512x2048 : Shape := ⟨3, ![1, 512, 2048]⟩
abbrev S1x1x2048 : Shape := ⟨3, ![1, 1, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 12
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S16x6x2048, .f32⟩
  | .hbm, ⟨4, _⟩ => ⟨S4x2048x8192, .f32⟩
  | .hbm, ⟨5, _⟩ => ⟨S4x8192x2048, .f32⟩
  | .hbm, ⟨6, _⟩ => ⟨S4x2048x16x512, .f32⟩
  | .hbm, ⟨7, _⟩ => ⟨S4x16x2048x512, .f32⟩
  | .hbm, ⟨8, _⟩ => ⟨S4x16x2048x512, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x6x2048, .f32⟩
  | .local _ .vmem, ⟨5, _⟩ => ⟨S1x6x2048, .f32⟩
  | .local _ .vmem, ⟨6, _⟩ => ⟨S1x1x2048x512, .bf16⟩
  | .local _ .vmem, ⟨7, _⟩ => ⟨S1x1x2048x512, .bf16⟩
  | .local _ .vmem, ⟨8, _⟩ => ⟨S1x512x2048, .f32⟩
  | .local _ .vmem, ⟨9, _⟩ => ⟨S1x512x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1024_i32 : BitVec 32 := 1024#32
  let v1 : BitVec 32 := Scalar.muli v0 c1024_i32
  let c8192_i32 : BitVec 32 := 8192#32
  let v2 : BitVec 1 := Scalar.cmpi .slt v1 c8192_i32
  let c8192_i32_0 : BitVec 32 := 8192#32
  let v3 : BitVec 32 := Scalar.subi v1 c8192_i32_0
  let c1024_i32_1 : BitVec 32 := 1024#32
  let v4 : BitVec 32 := Scalar.divsi v3 c1024_i32_1
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c1024_i32_1 c0_i32_4
  let v11 : BitVec 32 := Scalar.extui v10
  let c0_i32_5 : BitVec 32 := 0#32
  let v12 : BitVec 1 := Scalar.cmpi .slt c1024_i32_1 c0_i32_5
  let v13 : BitVec 32 := Scalar.extui v12
  let v14 : BitVec 32 := Scalar.subi v11 v13
  let v15 : BitVec 1 := Scalar.cmpi .ne v9 v14
  let v16 : BitVec 32 := Scalar.remsi v3 c1024_i32_1
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c1_i32_7 : BitVec 32 := 1#32
  let v21 : BitVec 32 := Scalar.addi c1_i32_7 v20
  let c0_i32_8 : BitVec 32 := 0#32
  let v22 : BitVec 32 := Scalar.select v2 c0_i32_8 v21
  let c0_i32_9 : BitVec 32 := 0#32
  let c0_i32_10 : BitVec 32 := 0#32
  let c0_i32_11 : BitVec 32 := 0#32
  ![v22.toNat, c0_i32_9.toNat, c0_i32_10.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S16384x2048 : Shape := ⟨2, ![16384, 2048]⟩
abbrev S2048 : Shape := ⟨1, ![2048]⟩
abbrev S16x6x2048 : Shape := ⟨3, ![16, 6, 2048]⟩
abbrev S4x2048x8192 : Shape := ⟨3, ![4, 2048, 8192]⟩
abbrev S4x8192x2048 : Shape := ⟨3, ![4, 8192, 2048]⟩
abbrev S1x6x2048 : Shape := ⟨3, ![1, 6, 2048]⟩
abbrev S8192x6x2048 : Shape := ⟨3, ![8192, 6, 2048]⟩
abbrev S8x6x2048 : Shape := ⟨3, ![8, 6, 2048]⟩
abbrev S8x1x6x2048 : Shape := ⟨4, ![8, 1, 6, 2048]⟩
abbrev S8x1024x6x2048 : Shape := ⟨4, ![8, 1024, 6, 2048]⟩
abbrev S16384x6x2048 : Shape := ⟨3, ![16384, 6, 2048]⟩
abbrev S16384x1x2048 : Shape := ⟨3, ![16384, 1, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x8192 : Shape := ⟨3, ![1, 2048, 8192]⟩
abbrev S2048x8192 : Shape := ⟨2, ![2048, 8192]⟩
abbrev S16384x8192 : Shape := ⟨2, ![16384, 8192]⟩
abbrev S1x8192x2048 : Shape := ⟨3, ![1, 8192, 2048]⟩
abbrev S8192x2048 : Shape := ⟨2, ![8192, 2048]⟩

abbrev nBuf : Space → Nat
  | .hbm => 68
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S16x6x2048, .f32⟩
  | .hbm, ⟨4, _⟩ => ⟨S4x2048x8192, .f32⟩
  | .hbm, ⟨5, _⟩ => ⟨S4x8192x2048, .f32⟩
  | .hbm, ⟨6, _⟩ => ⟨S1x6x2048, .f32⟩
  | .hbm, ⟨7, _⟩ => ⟨S8192x6x2048, .f32⟩
  | .hbm, ⟨8, _⟩ => ⟨S8x6x2048, .f32⟩
  | .hbm, ⟨9, _⟩ => ⟨S8x1x6x2048, .f32⟩
  | .hbm, ⟨10, _⟩ => ⟨S8x1024x6x2048, .f32⟩
  | .hbm, ⟨11, _⟩ => ⟨S8192x6x2048, .f32⟩
  | .hbm, ⟨12, _⟩ => ⟨S16384x6x2048, .f32⟩
  | .hbm, ⟨13, _⟩ => ⟨S16384x1x2048, .f32⟩
  | .hbm, ⟨14, _⟩ => ⟨S16384x2048, .f32⟩
  | .hbm, ⟨15, _⟩ => ⟨S16384x1x2048, .f32⟩
  | .hbm, ⟨16, _⟩ => ⟨S16384x2048, .f32⟩
  | .hbm, ⟨17, _⟩ => ⟨S16384x1x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x2048, .f32⟩
  | .hbm, ⟨31, _⟩ => ⟨S16384x2048, .f32⟩
  | .hbm, ⟨32, _⟩ => ⟨S1x2048, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S1x2048x8192, .f32⟩
  | .hbm, ⟨41, _⟩ => ⟨S2048x8192, .f32⟩
  | .hbm, ⟨42, _⟩ => ⟨S16384x8192, .f32⟩
  | .hbm, ⟨43, _⟩ => ⟨S_, .f32⟩
  | .hbm, ⟨44, _⟩ => ⟨S16384x8192, .f32⟩
  | .hbm, ⟨45, _⟩ => ⟨S16384x8192, .f32⟩
  | .hbm, ⟨46, _⟩ => ⟨S16384x8192, .f32⟩
  | .hbm, ⟨47, _⟩ => ⟨S1x8192x2048, .f32⟩
  | .hbm, ⟨48, _⟩ => ⟨S8192x2048, .f32⟩
  | .hbm, ⟨49, _⟩ => ⟨S16384x2048, .f32⟩
  | .hbm, ⟨50, _⟩ => ⟨S16384x2048, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S16384x2048, .f32⟩
  | .hbm, ⟨62, _⟩ => ⟨S16384x2048, .f32⟩
  | .hbm, ⟨63, _⟩ => ⟨S1x2048, .f32⟩
  | .hbm, ⟨64, _⟩ => ⟨S16384x2048, .f32⟩
  | .hbm, ⟨65, _⟩ => ⟨S16384x2048, .f32⟩
  | .hbm, ⟨66, _⟩ => ⟨S16384x2048, .f32⟩
  | .hbm, ⟨67, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_cst : Ref sig .tc := ⟨.hbm, 43, rfl⟩
abbrev main_call0_v0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Kernel4.lean ====
abbrev S16384x2048 : Shape := ⟨2, ![16384, 2048]⟩
abbrev S2048 : Shape := ⟨1, ![2048]⟩
abbrev S16x6x2048 : Shape := ⟨3, ![16, 6, 2048]⟩
abbrev S4x2048x8192 : Shape := ⟨3, ![4, 2048, 8192]⟩
abbrev S4x8192x2048 : Shape := ⟨3, ![4, 8192, 2048]⟩
abbrev S4x2048x16x512 : Shape := ⟨4, ![4, 2048, 16, 512]⟩
abbrev S4x16x2048x512 : Shape := ⟨4, ![4, 16, 2048, 512]⟩
abbrev S1x2048 : Shape := ⟨2, ![1, 2048]⟩
abbrev S1024x2048 : Shape := ⟨2, ![1024, 2048]⟩
abbrev S1x6x2048 : Shape := ⟨3, ![1, 6, 2048]⟩
abbrev S1x1x2048x512 : Shape := ⟨4, ![1, 1, 2048, 512]⟩
abbrev S1x512x2048 : Shape := ⟨3, ![1, 512, 2048]⟩
abbrev S1x1x2048 : Shape := ⟨3, ![1, 1, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 12
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S16x6x2048, .f32⟩
  | .hbm, ⟨4, _⟩ => ⟨S4x2048x8192, .f32⟩
  | .hbm, ⟨5, _⟩ => ⟨S4x8192x2048, .f32⟩
  | .hbm, ⟨6, _⟩ => ⟨S4x2048x16x512, .f32⟩
  | .hbm, ⟨7, _⟩ => ⟨S4x16x2048x512, .f32⟩
  | .hbm, ⟨8, _⟩ => ⟨S4x16x2048x512, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x6x2048, .f32⟩
  | .local _ .vmem, ⟨5, _⟩ => ⟨S1x6x2048, .f32⟩
  | .local _ .vmem, ⟨6, _⟩ => ⟨S1x1x2048x512, .bf16⟩
  | .local _ .vmem, ⟨7, _⟩ => ⟨S1x1x2048x512, .bf16⟩
  | .local _ .vmem, ⟨8, _⟩ => ⟨S1x512x2048, .f32⟩
  | .local _ .vmem, ⟨9, _⟩ => ⟨S1x512x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1024_i32 : BitVec 32 := 1024#32
  let v1 : BitVec 32 := Scalar.muli v0 c1024_i32
  let c8192_i32 : BitVec 32 := 8192#32
  let v2 : BitVec 1 := Scalar.cmpi .slt v1 c8192_i32
  let c8192_i32_0 : BitVec 32 := 8192#32
  let v3 : BitVec 32 := Scalar.subi v1 c8192_i32_0
  let c1024_i32_1 : BitVec 32 := 1024#32
  let v4 : BitVec 32 := Scalar.divsi v3 c1024_i32_1
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c1024_i32_1 c0_i32_4
  let v11 : BitVec 32 := Scalar.extui v10
  let c0_i32_5 : BitVec 32 := 0#32
  let v12 : BitVec 1 := Scalar.cmpi .slt c1024_i32_1 c0_i32_5
  let v13 : BitVec 32 := Scalar.extui v12
  let v14 : BitVec 32 := Scalar.subi v11 v13
  let v15 : BitVec 1 := Scalar.cmpi .ne v9 v14
  let v16 : BitVec 32 := Scalar.remsi v3 c1024_i32_1
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c1_i32_7 : BitVec 32 := 1#32
  let v21 : BitVec 32 := Scalar.addi c1_i32_7 v20
  let c0_i32_8 : BitVec 32 := 0#32
  let v22 : BitVec 32 := Scalar.select v2 c0_i32_8 v21
  let c0_i32_9 : BitVec 32 := 0#32
  let c0_i32_10 : BitVec 32 := 0#32
  let c0_i32_11 : BitVec 32 := 0#32
  ![v22.toNat, c0_i32_9.toNat, c0_i32_10.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S16384x2048 : Shape := ⟨2, ![16384, 2048]⟩
abbrev S2048 : Shape := ⟨1, ![2048]⟩
abbrev S16x6x2048 : Shape := ⟨3, ![16, 6, 2048]⟩
abbrev S4x2048x8192 : Shape := ⟨3, ![4, 2048, 8192]⟩
abbrev S4x8192x2048 : Shape := ⟨3, ![4, 8192, 2048]⟩
abbrev S1x6x2048 : Shape := ⟨3, ![1, 6, 2048]⟩
abbrev S8192x6x2048 : Shape := ⟨3, ![8192, 6, 2048]⟩
abbrev S8x6x2048 : Shape := ⟨3, ![8, 6, 2048]⟩
abbrev S8x1x6x2048 : Shape := ⟨4, ![8, 1, 6, 2048]⟩
abbrev S8x1024x6x2048 : Shape := ⟨4, ![8, 1024, 6, 2048]⟩
abbrev S16384x6x2048 : Shape := ⟨3, ![16384, 6, 2048]⟩
abbrev S16384x1x2048 : Shape := ⟨3, ![16384, 1, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x8192 : Shape := ⟨3, ![1, 2048, 8192]⟩
abbrev S2048x8192 : Shape := ⟨2, ![2048, 8192]⟩
abbrev S16384x8192 : Shape := ⟨2, ![16384, 8192]⟩
abbrev S1x8192x2048 : Shape := ⟨3, ![1, 8192, 2048]⟩
abbrev S8192x2048 : Shape := ⟨2, ![8192, 2048]⟩

abbrev nBuf : Space → Nat
  | .hbm => 68
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S16x6x2048, .f32⟩
  | .hbm, ⟨4, _⟩ => ⟨S4x2048x8192, .f32⟩
  | .hbm, ⟨5, _⟩ => ⟨S4x8192x2048, .f32⟩
  | .hbm, ⟨6, _⟩ => ⟨S1x6x2048, .f32⟩
  | .hbm, ⟨7, _⟩ => ⟨S8192x6x2048, .f32⟩
  | .hbm, ⟨8, _⟩ => ⟨S8x6x2048, .f32⟩
  | .hbm, ⟨9, _⟩ => ⟨S8x1x6x2048, .f32⟩
  | .hbm, ⟨10, _⟩ => ⟨S8x1024x6x2048, .f32⟩
  | .hbm, ⟨11, _⟩ => ⟨S8192x6x2048, .f32⟩
  | .hbm, ⟨12, _⟩ => ⟨S16384x6x2048, .f32⟩
  | .hbm, ⟨13, _⟩ => ⟨S16384x1x2048, .f32⟩
  | .hbm, ⟨14, _⟩ => ⟨S16384x2048, .f32⟩
  | .hbm, ⟨15, _⟩ => ⟨S16384x1x2048, .f32⟩
  | .hbm, ⟨16, _⟩ => ⟨S16384x2048, .f32⟩
  | .hbm, ⟨17, _⟩ => ⟨S16384x1x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x2048, .f32⟩
  | .hbm, ⟨31, _⟩ => ⟨S16384x2048, .f32⟩
  | .hbm, ⟨32, _⟩ => ⟨S1x2048, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S1x2048x8192, .f32⟩
  | .hbm, ⟨41, _⟩ => ⟨S2048x8192, .f32⟩
  | .hbm, ⟨42, _⟩ => ⟨S16384x8192, .f32⟩
  | .hbm, ⟨43, _⟩ => ⟨S_, .f32⟩
  | .hbm, ⟨44, _⟩ => ⟨S16384x8192, .f32⟩
  | .hbm, ⟨45, _⟩ => ⟨S16384x8192, .f32⟩
  | .hbm, ⟨46, _⟩ => ⟨S16384x8192, .f32⟩
  | .hbm, ⟨47, _⟩ => ⟨S1x8192x2048, .f32⟩
  | .hbm, ⟨48, _⟩ => ⟨S8192x2048, .f32⟩
  | .hbm, ⟨49, _⟩ => ⟨S16384x2048, .f32⟩
  | .hbm, ⟨50, _⟩ => ⟨S16384x2048, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S16384x2048, .f32⟩
  | .hbm, ⟨62, _⟩ => ⟨S16384x2048, .f32⟩
  | .hbm, ⟨63, _⟩ => ⟨S1x2048, .f32⟩
  | .hbm, ⟨64, _⟩ => ⟨S16384x2048, .f32⟩
  | .hbm, ⟨65, _⟩ => ⟨S16384x2048, .f32⟩
  | .hbm, ⟨66, _⟩ => ⟨S16384x2048, .f32⟩
  | .hbm, ⟨67, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_cst : Ref sig .tc := ⟨.hbm, 43, rfl⟩
abbrev main_call0_v0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Kernel5.lean ====
abbrev S16384x2048 : Shape := ⟨2, ![16384, 2048]⟩
abbrev S2048 : Shape := ⟨1, ![2048]⟩
abbrev S16x6x2048 : Shape := ⟨3, ![16, 6, 2048]⟩
abbrev S4x2048x8192 : Shape := ⟨3, ![4, 2048, 8192]⟩
abbrev S4x8192x2048 : Shape := ⟨3, ![4, 8192, 2048]⟩
abbrev S4x2048x16x512 : Shape := ⟨4, ![4, 2048, 16, 512]⟩
abbrev S4x16x2048x512 : Shape := ⟨4, ![4, 16, 2048, 512]⟩
abbrev S1x2048 : Shape := ⟨2, ![1, 2048]⟩
abbrev S8192x2048 : Shape := ⟨2, ![8192, 2048]⟩
abbrev S1024x2048 : Shape := ⟨2, ![1024, 2048]⟩
abbrev S1x6x2048 : Shape := ⟨3, ![1, 6, 2048]⟩
abbrev S1x1x2048x512 : Shape := ⟨4, ![1, 1, 2048, 512]⟩
abbrev S1x512x2048 : Shape := ⟨3, ![1, 512, 2048]⟩
abbrev S1x1x2048 : Shape := ⟨3, ![1, 1, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 12
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S16x6x2048, .f32⟩
  | .hbm, ⟨4, _⟩ => ⟨S4x2048x8192, .f32⟩
  | .hbm, ⟨5, _⟩ => ⟨S4x8192x2048, .f32⟩
  | .hbm, ⟨6, _⟩ => ⟨S4x2048x16x512, .f32⟩
  | .hbm, ⟨7, _⟩ => ⟨S4x16x2048x512, .f32⟩
  | .hbm, ⟨8, _⟩ => ⟨S4x16x2048x512, .bf16⟩
  | .hbm, ⟨9, _⟩ => ⟨S1x2048, .f32⟩
  | .hbm, ⟨10, _⟩ => ⟨S1x2048, .f32⟩
  | .hbm, ⟨11, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x6x2048, .f32⟩
  | .local _ .vmem, ⟨5, _⟩ => ⟨S1x6x2048, .f32⟩
  | .local _ .vmem, ⟨6, _⟩ => ⟨S1x1x2048x512, .bf16⟩
  | .local _ .vmem, ⟨7, _⟩ => ⟨S1x1x2048x512, .bf16⟩
  | .local _ .vmem, ⟨8, _⟩ => ⟨S1x512x2048, .f32⟩
  | .local _ .vmem, ⟨9, _⟩ => ⟨S1x512x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1024_i32 : BitVec 32 := 1024#32
  let v1 : BitVec 32 := Scalar.muli v0 c1024_i32
  let c8192_i32 : BitVec 32 := 8192#32
  let v2 : BitVec 1 := Scalar.cmpi .slt v1 c8192_i32
  let c8192_i32_0 : BitVec 32 := 8192#32
  let v3 : BitVec 32 := Scalar.subi v1 c8192_i32_0
  let c1024_i32_1 : BitVec 32 := 1024#32
  let v4 : BitVec 32 := Scalar.divsi v3 c1024_i32_1
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c1024_i32_1 c0_i32_4
  let v11 : BitVec 32 := Scalar.extui v10
  let c0_i32_5 : BitVec 32 := 0#32
  let v12 : BitVec 1 := Scalar.cmpi .slt c1024_i32_1 c0_i32_5
  let v13 : BitVec 32 := Scalar.extui v12
  let v14 : BitVec 32 := Scalar.subi v11 v13
  let v15 : BitVec 1 := Scalar.cmpi .ne v9 v14
  let v16 : BitVec 32 := Scalar.remsi v3 c1024_i32_1
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c1_i32_7 : BitVec 32 := 1#32
  let v21 : BitVec 32 := Scalar.addi c1_i32_7 v20
  let c0_i32_8 : BitVec 32 := 0#32
  let v22 : BitVec 32 := Scalar.select v2 c0_i32_8 v21
  let c0_i32_9 : BitVec 32 := 0#32
  let c0_i32_10 : BitVec 32 := 0#32
  let c0_i32_11 : BitVec 32 := 0#32
  ![v22.toNat, c0_i32_9.toNat, c0_i32_10.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference5Ideal.lean ====
abbrev S16384x2048 : Shape := ⟨2, ![16384, 2048]⟩
abbrev S2048 : Shape := ⟨1, ![2048]⟩
abbrev S16x6x2048 : Shape := ⟨3, ![16, 6, 2048]⟩
abbrev S4x2048x8192 : Shape := ⟨3, ![4, 2048, 8192]⟩
abbrev S4x8192x2048 : Shape := ⟨3, ![4, 8192, 2048]⟩
abbrev S8192x2048 : Shape := ⟨2, ![8192, 2048]⟩
abbrev S1x6x2048 : Shape := ⟨3, ![1, 6, 2048]⟩
abbrev S8192x6x2048 : Shape := ⟨3, ![8192, 6, 2048]⟩
abbrev S8x6x2048 : Shape := ⟨3, ![8, 6, 2048]⟩
abbrev S8x1x6x2048 : Shape := ⟨4, ![8, 1, 6, 2048]⟩
abbrev S8x1024x6x2048 : Shape := ⟨4, ![8, 1024, 6, 2048]⟩
abbrev S16384x6x2048 : Shape := ⟨3, ![16384, 6, 2048]⟩
abbrev S8192x1x2048 : Shape := ⟨3, ![8192, 1, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x8192 : Shape := ⟨3, ![1, 2048, 8192]⟩
abbrev S2048x8192 : Shape := ⟨2, ![2048, 8192]⟩
abbrev S8192x8192 : Shape := ⟨2, ![8192, 8192]⟩
abbrev S1x8192x2048 : Shape := ⟨3, ![1, 8192, 2048]⟩

abbrev nBuf : Space → Nat
  | .hbm => 70
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S16x6x2048, .f32⟩
  | .hbm, ⟨4, _⟩ => ⟨S4x2048x8192, .f32⟩
  | .hbm, ⟨5, _⟩ => ⟨S4x8192x2048, .f32⟩
  | .hbm, ⟨6, _⟩ => ⟨S8192x2048, .f32⟩
  | .hbm, ⟨7, _⟩ => ⟨S1x6x2048, .f32⟩
  | .hbm, ⟨8, _⟩ => ⟨S8192x6x2048, .f32⟩
  | .hbm, ⟨9, _⟩ => ⟨S8x6x2048, .f32⟩
  | .hbm, ⟨10, _⟩ => ⟨S8x1x6x2048, .f32⟩
  | .hbm, ⟨11, _⟩ => ⟨S8x1024x6x2048, .f32⟩
  | .hbm, ⟨12, _⟩ => ⟨S8192x6x2048, .f32⟩
  | .hbm, ⟨13, _⟩ => ⟨S16384x6x2048, .f32⟩
  | .hbm, ⟨14, _⟩ => ⟨S8192x6x2048, .f32⟩
  | .hbm, ⟨15, _⟩ => ⟨S8192x1x2048, .f32⟩
  | .hbm, ⟨16, _⟩ => ⟨S8192x2048, .f32⟩
  | .hbm, ⟨17, _⟩ => ⟨S8192x1x2048, .f32⟩
  | .hbm, ⟨18, _⟩ => ⟨S8192x2048, .f32⟩
  | .hbm, ⟨19, _⟩ => ⟨S8192x1x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S1x2048x8192, .f32⟩
  | .hbm, ⟨43, _⟩ => ⟨S2048x8192, .f32⟩
  | .hbm, ⟨44, _⟩ => ⟨S8192x8192, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S1x8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S8192x2048, .f32⟩
  | .hbm, ⟨64, _⟩ => ⟨S8192x2048, .f32⟩
  | .hbm, ⟨65, _⟩ => ⟨S1x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_call0_cst : Ref sig .tc := ⟨.hbm, 45, rfl⟩
abbrev main_call0_v0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== Kernel6.lean ====
abbrev S16384x2048 : Shape := ⟨2, ![16384, 2048]⟩
abbrev S2048 : Shape := ⟨1, ![2048]⟩
abbrev S16x6x2048 : Shape := ⟨3, ![16, 6, 2048]⟩
abbrev S4x2048x8192 : Shape := ⟨3, ![4, 2048, 8192]⟩
abbrev S4x8192x2048 : Shape := ⟨3, ![4, 8192, 2048]⟩
abbrev S4x2048x16x512 : Shape := ⟨4, ![4, 2048, 16, 512]⟩
abbrev S4x16x2048x512 : Shape := ⟨4, ![4, 16, 2048, 512]⟩
abbrev S1x2048 : Shape := ⟨2, ![1, 2048]⟩
abbrev S8192x2048 : Shape := ⟨2, ![8192, 2048]⟩
abbrev S1024x2048 : Shape := ⟨2, ![1024, 2048]⟩
abbrev S1x6x2048 : Shape := ⟨3, ![1, 6, 2048]⟩
abbrev S1x1x2048x512 : Shape := ⟨4, ![1, 1, 2048, 512]⟩
abbrev S1x512x2048 : Shape := ⟨3, ![1, 512, 2048]⟩
abbrev S1x1x2048 : Shape := ⟨3, ![1, 1, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 12
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S16x6x2048, .f32⟩
  | .hbm, ⟨4, _⟩ => ⟨S4x2048x8192, .f32⟩
  | .hbm, ⟨5, _⟩ => ⟨S4x8192x2048, .f32⟩
  | .hbm, ⟨6, _⟩ => ⟨S4x2048x16x512, .f32⟩
  | .hbm, ⟨7, _⟩ => ⟨S4x16x2048x512, .f32⟩
  | .hbm, ⟨8, _⟩ => ⟨S4x16x2048x512, .bf16⟩
  | .hbm, ⟨9, _⟩ => ⟨S1x2048, .f32⟩
  | .hbm, ⟨10, _⟩ => ⟨S1x2048, .f32⟩
  | .hbm, ⟨11, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x6x2048, .f32⟩
  | .local _ .vmem, ⟨5, _⟩ => ⟨S1x6x2048, .f32⟩
  | .local _ .vmem, ⟨6, _⟩ => ⟨S1x1x2048x512, .bf16⟩
  | .local _ .vmem, ⟨7, _⟩ => ⟨S1x1x2048x512, .bf16⟩
  | .local _ .vmem, ⟨8, _⟩ => ⟨S1x512x2048, .f32⟩
  | .local _ .vmem, ⟨9, _⟩ => ⟨S1x512x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c1024_i32 : BitVec 32 := 1024#32
  let v1 : BitVec 32 := Scalar.muli v0 c1024_i32
  let c8192_i32 : BitVec 32 := 8192#32
  let v2 : BitVec 1 := Scalar.cmpi .slt v1 c8192_i32
  let c8192_i32_0 : BitVec 32 := 8192#32
  let v3 : BitVec 32 := Scalar.subi v1 c8192_i32_0
  let c1024_i32_1 : BitVec 32 := 1024#32
  let v4 : BitVec 32 := Scalar.divsi v3 c1024_i32_1
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c1024_i32_1 c0_i32_3
  let v11 : BitVec 32 := Scalar.extui v10
  let c0_i32_4 : BitVec 32 := 0#32
  let v12 : BitVec 1 := Scalar.cmpi .slt c1024_i32_1 c0_i32_4
  let v13 : BitVec 32 := Scalar.extui v12
  let v14 : BitVec 32 := Scalar.subi v11 v13
  let v15 : BitVec 1 := Scalar.cmpi .ne v9 v14
  let v16 : BitVec 32 := Scalar.remsi v3 c1024_i32_1
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v2 c0_i32_7 v21
  let c0_i32_8 : BitVec 32 := 0#32
  let c0_i32_9 : BitVec 32 := 0#32
  let c0_i32_10 : BitVec 32 := 0#32
  ![v22.toNat, c0_i32_8.toNat, c0_i32_9.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference6Ideal.lean ====
abbrev S16384x2048 : Shape := ⟨2, ![16384, 2048]⟩
abbrev S2048 : Shape := ⟨1, ![2048]⟩
abbrev S16x6x2048 : Shape := ⟨3, ![16, 6, 2048]⟩
abbrev S4x2048x8192 : Shape := ⟨3, ![4, 2048, 8192]⟩
abbrev S4x8192x2048 : Shape := ⟨3, ![4, 8192, 2048]⟩
abbrev S8192x2048 : Shape := ⟨2, ![8192, 2048]⟩
abbrev S1x6x2048 : Shape := ⟨3, ![1, 6, 2048]⟩
abbrev S8192x6x2048 : Shape := ⟨3, ![8192, 6, 2048]⟩
abbrev S8x6x2048 : Shape := ⟨3, ![8, 6, 2048]⟩
abbrev S8x1x6x2048 : Shape := ⟨4, ![8, 1, 6, 2048]⟩
abbrev S8x1024x6x2048 : Shape := ⟨4, ![8, 1024, 6, 2048]⟩
abbrev S16384x6x2048 : Shape := ⟨3, ![16384, 6, 2048]⟩
abbrev S8192x1x2048 : Shape := ⟨3, ![8192, 1, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x8192 : Shape := ⟨3, ![1, 2048, 8192]⟩
abbrev S2048x8192 : Shape := ⟨2, ![2048, 8192]⟩
abbrev S8192x8192 : Shape := ⟨2, ![8192, 8192]⟩
abbrev S1x8192x2048 : Shape := ⟨3, ![1, 8192, 2048]⟩

abbrev nBuf : Space → Nat
  | .hbm => 70
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S16x6x2048, .f32⟩
  | .hbm, ⟨4, _⟩ => ⟨S4x2048x8192, .f32⟩
  | .hbm, ⟨5, _⟩ => ⟨S4x8192x2048, .f32⟩
  | .hbm, ⟨6, _⟩ => ⟨S8192x2048, .f32⟩
  | .hbm, ⟨7, _⟩ => ⟨S1x6x2048, .f32⟩
  | .hbm, ⟨8, _⟩ => ⟨S8192x6x2048, .f32⟩
  | .hbm, ⟨9, _⟩ => ⟨S8x6x2048, .f32⟩
  | .hbm, ⟨10, _⟩ => ⟨S8x1x6x2048, .f32⟩
  | .hbm, ⟨11, _⟩ => ⟨S8x1024x6x2048, .f32⟩
  | .hbm, ⟨12, _⟩ => ⟨S8192x6x2048, .f32⟩
  | .hbm, ⟨13, _⟩ => ⟨S16384x6x2048, .f32⟩
  | .hbm, ⟨14, _⟩ => ⟨S8192x6x2048, .f32⟩
  | .hbm, ⟨15, _⟩ => ⟨S8192x1x2048, .f32⟩
  | .hbm, ⟨16, _⟩ => ⟨S8192x2048, .f32⟩
  | .hbm, ⟨17, _⟩ => ⟨S8192x1x2048, .f32⟩
  | .hbm, ⟨18, _⟩ => ⟨S8192x2048, .f32⟩
  | .hbm, ⟨19, _⟩ => ⟨S8192x1x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S1x2048x8192, .f32⟩
  | .hbm, ⟨43, _⟩ => ⟨S2048x8192, .f32⟩
  | .hbm, ⟨44, _⟩ => ⟨S8192x8192, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S1x8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S8192x2048, .f32⟩
  | .hbm, ⟨64, _⟩ => ⟨S8192x2048, .f32⟩
  | .hbm, ⟨65, _⟩ => ⟨S1x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_call0_cst : Ref sig .tc := ⟨.hbm, 45, rfl⟩
abbrev main_call0_v0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== Kernel7.lean ====
abbrev S16384x2048 : Shape := ⟨2, ![16384, 2048]⟩
abbrev S1x2048x2048 : Shape := ⟨3, ![1, 2048, 2048]⟩
abbrev S1x2048 : Shape := ⟨2, ![1, 2048]⟩
abbrev S2048 : Shape := ⟨1, ![2048]⟩
abbrev S16x6x2048 : Shape := ⟨3, ![16, 6, 2048]⟩
abbrev S512x2048 : Shape := ⟨2, ![512, 2048]⟩
abbrev S1x6x2048 : Shape := ⟨3, ![1, 6, 2048]⟩
abbrev S2048x2048 : Shape := ⟨2, ![2048, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S1x2048, .f32⟩
  | .hbm, ⟨3, _⟩ => ⟨S16384x2048, .f32⟩
  | .hbm, ⟨4, _⟩ => ⟨S2048, .f32⟩
  | .hbm, ⟨5, _⟩ => ⟨S16x6x2048, .f32⟩
  | .hbm, ⟨6, _⟩ => ⟨S1x2048x2048, .bf16⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048x2048, .bf16⟩
  | .local _ .vmem, ⟨5, _⟩ => ⟨S1x2048, .f32⟩
  | .local _ .vmem, ⟨6, _⟩ => ⟨S1x2048, .f32⟩
  | .local _ .vmem, ⟨7, _⟩ => ⟨S1x6x2048, .f32⟩
  | .local _ .vmem, ⟨8, _⟩ => ⟨S1x6x2048, .f32⟩
  | .local _ .vmem, ⟨9, _⟩ => ⟨S512x2048, .f32⟩
  | .local _ .vmem, ⟨10, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x6x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S16384x2048 : Shape := ⟨2, ![16384, 2048]⟩
abbrev S1x2048x2048 : Shape := ⟨3, ![1, 2048, 2048]⟩
abbrev S1x2048 : Shape := ⟨2, ![1, 2048]⟩
abbrev S2048 : Shape := ⟨1, ![2048]⟩
abbrev S16x6x2048 : Shape := ⟨3, ![16, 6, 2048]⟩
abbrev S1x6x2048 : Shape := ⟨3, ![1, 6, 2048]⟩
abbrev S8192x6x2048 : Shape := ⟨3, ![8192, 6, 2048]⟩
abbrev S8x6x2048 : Shape := ⟨3, ![8, 6, 2048]⟩
abbrev S8x1x6x2048 : Shape := ⟨4, ![8, 1, 6, 2048]⟩
abbrev S8x1024x6x2048 : Shape := ⟨4, ![8, 1024, 6, 2048]⟩
abbrev S16384x6x2048 : Shape := ⟨3, ![16384, 6, 2048]⟩
abbrev S16384x1x2048 : Shape := ⟨3, ![16384, 1, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩

abbrev nBuf : Space → Nat
  | .hbm => 40
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S1x2048, .f32⟩
  | .hbm, ⟨3, _⟩ => ⟨S16384x2048, .f32⟩
  | .hbm, ⟨4, _⟩ => ⟨S2048, .f32⟩
  | .hbm, ⟨5, _⟩ => ⟨S16x6x2048, .f32⟩
  | .hbm, ⟨6, _⟩ => ⟨S1x6x2048, .f32⟩
  | .hbm, ⟨7, _⟩ => ⟨S8192x6x2048, .f32⟩
  | .hbm, ⟨8, _⟩ => ⟨S8x6x2048, .f32⟩
  | .hbm, ⟨9, _⟩ => ⟨S8x1x6x2048, .f32⟩
  | .hbm, ⟨10, _⟩ => ⟨S8x1024x6x2048, .f32⟩
  | .hbm, ⟨11, _⟩ => ⟨S8192x6x2048, .f32⟩
  | .hbm, ⟨12, _⟩ => ⟨S16384x6x2048, .f32⟩
  | .hbm, ⟨13, _⟩ => ⟨S16384x1x2048, .f32⟩
  | .hbm, ⟨14, _⟩ => ⟨S16384x2048, .f32⟩
  | .hbm, ⟨15, _⟩ => ⟨S16384x2048, .f32⟩
  | .hbm, ⟨16, _⟩ => ⟨S2048x2048, .f32⟩
  | .hbm, ⟨17, _⟩ => ⟨S16384x2048, .f32⟩
  | .hbm, ⟨18, _⟩ => ⟨S2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x2048, .f32⟩
  | .hbm, ⟨34, _⟩ => ⟨S16384x2048, .f32⟩
  | .hbm, ⟨35, _⟩ => ⟨S1x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel8.lean ====
abbrev S16384x2048 : Shape := ⟨2, ![16384, 2048]⟩
abbrev S2048 : Shape := ⟨1, ![2048]⟩
abbrev S16x6x2048 : Shape := ⟨3, ![16, 6, 2048]⟩
abbrev S1x2048x4096 : Shape := ⟨3, ![1, 2048, 4096]⟩
abbrev S1x2048 : Shape := ⟨2, ![1, 2048]⟩
abbrev S16384x4096 : Shape := ⟨2, ![16384, 4096]⟩
abbrev S512x2048 : Shape := ⟨2, ![512, 2048]⟩
abbrev S1x6x2048 : Shape := ⟨3, ![1, 6, 2048]⟩
abbrev S512x4096 : Shape := ⟨2, ![512, 4096]⟩
abbrev S1x1x2048 : Shape := ⟨3, ![1, 1, 2048]⟩
abbrev S512 : Shape := ⟨1, ![512]⟩
abbrev S512x1 : Shape := ⟨2, ![512, 1]⟩
abbrev S2048x4096 : Shape := ⟨2, ![2048, 4096]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16x6x2048, .f32⟩
  | .hbm, ⟨3, _⟩ => ⟨S1x2048x4096, .f32⟩
  | .hbm, ⟨4, _⟩ => ⟨S1x2048x4096, .bf16⟩
  | .hbm, ⟨5, _⟩ => ⟨S1x2048, .f32⟩
  | .hbm, ⟨6, _⟩ => ⟨S16384x4096, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S1x2048x4096, .bf16⟩
  | .local _ .vmem, ⟨6, _⟩ => ⟨S512x4096, .f32⟩
  | .local _ .vmem, ⟨7, _⟩ => ⟨S512x4096, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S16384x2048 : Shape := ⟨2, ![16384, 2048]⟩
abbrev S2048 : Shape := ⟨1, ![2048]⟩
abbrev S16x6x2048 : Shape := ⟨3, ![16, 6, 2048]⟩
abbrev S1x2048x4096 : Shape := ⟨3, ![1, 2048, 4096]⟩
abbrev S1x6x2048 : Shape := ⟨3, ![1, 6, 2048]⟩
abbrev S8192x6x2048 : Shape := ⟨3, ![8192, 6, 2048]⟩
abbrev S8x6x2048 : Shape := ⟨3, ![8, 6, 2048]⟩
abbrev S8x1x6x2048 : Shape := ⟨4, ![8, 1, 6, 2048]⟩
abbrev S8x1024x6x2048 : Shape := ⟨4, ![8, 1024, 6, 2048]⟩
abbrev S16384x6x2048 : Shape := ⟨3, ![16384, 6, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x1x2048 : Shape := ⟨3, ![16384, 1, 2048]⟩
abbrev S2048x4096 : Shape := ⟨2, ![2048, 4096]⟩
abbrev S16384x4096 : Shape := ⟨2, ![16384, 4096]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16x6x2048, .f32⟩
  | .hbm, ⟨3, _⟩ => ⟨S1x2048x4096, .f32⟩
  | .hbm, ⟨4, _⟩ => ⟨S1x6x2048, .f32⟩
  | .hbm, ⟨5, _⟩ => ⟨S8192x6x2048, .f32⟩
  | .hbm, ⟨6, _⟩ => ⟨S8x6x2048, .f32⟩
  | .hbm, ⟨7, _⟩ => ⟨S8x1x6x2048, .f32⟩
  | .hbm, ⟨8, _⟩ => ⟨S8x1024x6x2048, .f32⟩
  | .hbm, ⟨9, _⟩ => ⟨S8192x6x2048, .f32⟩
  | .hbm, ⟨10, _⟩ => ⟨S16384x6x2048, .f32⟩
  | .hbm, ⟨11, _⟩ => ⟨S16384x2048, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x2048, .f32⟩
  | .hbm, ⟨23, _⟩ => ⟨S16384x2048, .f32⟩
  | .hbm, ⟨24, _⟩ => ⟨S1x2048, .f32⟩
  | .hbm, ⟨25, _⟩ => ⟨S16384x2048, .f32⟩
  | .hbm, ⟨26, _⟩ => ⟨S16384x2048, .f32⟩
  | .hbm, ⟨27, _⟩ => ⟨S16384x1x2048, .f32⟩
  | .hbm, ⟨28, _⟩ => ⟨S16384x2048, .f32⟩
  | .hbm, ⟨29, _⟩ => ⟨S_, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x1x2048, .f32⟩
  | .hbm, ⟨34, _⟩ => ⟨S16384x2048, .f32⟩
  | .hbm, ⟨35, _⟩ => ⟨S16384x2048, .f32⟩
  | .hbm, ⟨36, _⟩ => ⟨S2048x4096, .f32⟩
  | .hbm, ⟨37, _⟩ => ⟨S16384x4096, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel9.lean ====
abbrev S16384x2048 : Shape := ⟨2, ![16384, 2048]⟩
abbrev S2048 : Shape := ⟨1, ![2048]⟩
abbrev S16x6x2048 : Shape := ⟨3, ![16, 6, 2048]⟩
abbrev S2x2048x6160 : Shape := ⟨3, ![2, 2048, 6160]⟩
abbrev S_ : Shape := ⟨0, ![]⟩
abbrev S2x2x2x4 : Shape := ⟨4, ![2, 2, 2, 4]⟩
abbrev S2x2048x1024 : Shape := ⟨3, ![2, 2048, 1024]⟩
abbrev S2x2048x2048 : Shape := ⟨3, ![2, 2048, 2048]⟩
abbrev S2x2048x16 : Shape := ⟨3, ![2, 2048, 16]⟩
abbrev S2x2048x4096 : Shape := ⟨3, ![2, 2048, 4096]⟩
abbrev S2x2048x2x2x4 : Shape := ⟨5, ![2, 2048, 2, 2, 4]⟩
abbrev S2x2048x4x2x2 : Shape := ⟨5, ![2, 2048, 4, 2, 2]⟩
abbrev S2x2048x4x4 : Shape := ⟨4, ![2, 2048, 4, 4]⟩
abbrev S2x2048x4x128 : Shape := ⟨4, ![2, 2048, 4, 128]⟩
abbrev S2x2048x512 : Shape := ⟨3, ![2, 2048, 512]⟩
abbrev S2x2048x2560 : Shape := ⟨3, ![2, 2048, 2560]⟩
abbrev S2x4x2x2 : Shape := ⟨4, ![2, 4, 2, 2]⟩
abbrev S2x4x4 : Shape := ⟨3, ![2, 4, 4]⟩
abbrev S2x4x128 : Shape := ⟨3, ![2, 4, 128]⟩
abbrev S2x1x512 : Shape := ⟨3, ![2, 1, 512]⟩
abbrev S1x2048 : Shape := ⟨2, ![1, 2048]⟩
abbrev S16384x4096 : Shape := ⟨2, ![16384, 4096]⟩
abbrev S16384x2560 : Shape := ⟨2, ![16384, 2560]⟩
abbrev S256x2048 : Shape := ⟨2, ![256, 2048]⟩
abbrev S1x6x2048 : Shape := ⟨3, ![1, 6, 2048]⟩
abbrev S1x2048x4096 : Shape := ⟨3, ![1, 2048, 4096]⟩
abbrev S1x2048x2560 : Shape := ⟨3, ![1, 2048, 2560]⟩
abbrev S256x4096 : Shape := ⟨2, ![256, 4096]⟩
abbrev S256x2560 : Shape := ⟨2, ![256, 2560]⟩
abbrev S1x1x2048 : Shape := ⟨3, ![1, 1, 2048]⟩
abbrev S256 : Shape := ⟨1, ![256]⟩
abbrev S256x1 : Shape := ⟨2, ![256, 1]⟩
abbrev S2048x4096 : Shape := ⟨2, ![2048, 4096]⟩
abbrev S2048x2560 : Shape := ⟨2, ![2048, 2560]⟩

abbrev nBuf : Space → Nat
  | .hbm => 37
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16x6x2048, .f32⟩
  | .hbm, ⟨3, _⟩ => ⟨S2x2048x6160, .f32⟩
  | .hbm, ⟨4, _⟩ => ⟨S_, .f32⟩
  | .hbm, ⟨5, _⟩ => ⟨S2x2x2x4, .f32⟩
  | .hbm, ⟨6, _⟩ => ⟨S2x2048x1024, .f32⟩
  | .hbm, ⟨7, _⟩ => ⟨S2x2048x1024, .f32⟩
  | .hbm, ⟨8, _⟩ => ⟨S2x2048x2048, .f32⟩
  | .hbm, ⟨9, _⟩ => ⟨S2x2048x2048, .f32⟩
  | .hbm, ⟨10, _⟩ => ⟨S2x2048x16, .f32⟩
  | .hbm, ⟨11, _⟩ => ⟨S2x2048x1024, .bf16⟩
  | .hbm, ⟨12, _⟩ => ⟨S_, .f32⟩
  | .hbm, ⟨13, _⟩ => ⟨S2x2048x1024, .f32⟩
  | .hbm, ⟨14, _⟩ => ⟨S2x2048x1024, .f32⟩
  | .hbm, ⟨15, _⟩ => ⟨S2x2048x1024, .bf16⟩
  | .hbm, ⟨16, _⟩ => ⟨S2x2048x2048, .bf16⟩
  | .hbm, ⟨17, _⟩ => ⟨S2x2048x4096, .bf16⟩
  | .hbm, ⟨18, _⟩ => ⟨S2x2048x2x2x4, .f32⟩
  | .hbm, ⟨19, _⟩ => ⟨S2x2048x4x2x2, .f32⟩
  | .hbm, ⟨20, _⟩ => ⟨S2x2048x4x4, .f32⟩
  | .hbm, ⟨21, _⟩ => ⟨S_, .i32⟩
  | .hbm, ⟨22, _⟩ => ⟨S_, .f32⟩
  | .hbm, ⟨23, _⟩ => ⟨S2x2048x4x128, .f32⟩
  | .hbm, ⟨24, _⟩ => ⟨S2x2048x512, .f32⟩
  | .hbm, ⟨25, _⟩ => ⟨S2x2048x2048, .bf16⟩
  | .hbm, ⟨26, _⟩ => ⟨S2x2048x512, .bf16⟩
  | .hbm, ⟨27, _⟩ => ⟨S2x2048x2560, .bf16⟩
  | .hbm, ⟨28, _⟩ => ⟨S2x4x2x2, .f32⟩
  | .hbm, ⟨29, _⟩ => ⟨S2x4x4, .f32⟩
  | .hbm, ⟨30, _⟩ => ⟨S_, .i32⟩
  | .hbm, ⟨31, _⟩ => ⟨S_, .f32⟩
  | .hbm, ⟨32, _⟩ => ⟨S2x4x128, .f32⟩
  | .hbm, ⟨33, _⟩ => ⟨S2x1x512, .f32⟩
  | .hbm, ⟨34, _⟩ => ⟨S1x2048, .f32⟩
  | .hbm, ⟨35, _⟩ => ⟨S16384x4096, .bf16⟩
  | .hbm, ⟨36, _⟩ => ⟨S16384x2560, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S1x2048x4096, .bf16⟩
  | .local _ .vmem, ⟨6, _⟩ => ⟨S1x2048x2560, .bf16⟩
  | .local _ .vmem, ⟨7, _⟩ => ⟨S256x4096, .bf16⟩
  | .local _ .vmem, ⟨8, _⟩ => ⟨S256x4096, .bf16⟩
  | .local _ .vmem, ⟨9, _⟩ => ⟨S256x2560, .f32⟩
  | .local _ .vmem, ⟨10, _⟩ => ⟨S256x2560, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_1 : Ref sig .tc := ⟨.hbm, 30, rfl⟩
abbrev main_call1_v0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25_0 : Ref sig .tc := ⟨.hbm, 35, rfl⟩
abbrev main_v25_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c63_i32 : BitVec 32 := 63#32
  let v1 : BitVec 32 := Scalar.maxsi c0_i32_0 v0
  let v2 : BitVec 32 := Scalar.minsi c63_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S16384x2048 : Shape := ⟨2, ![16384, 2048]⟩
abbrev S2048 : Shape := ⟨1, ![2048]⟩
abbrev S16x6x2048 : Shape := ⟨3, ![16, 6, 2048]⟩
abbrev S2x2048x6160 : Shape := ⟨3, ![2, 2048, 6160]⟩
abbrev S1x6x2048 : Shape := ⟨3, ![1, 6, 2048]⟩
abbrev S8192x6x2048 : Shape := ⟨3, ![8192, 6, 2048]⟩
abbrev S8x6x2048 : Shape := ⟨3, ![8, 6, 2048]⟩
abbrev S8x1x6x2048 : Shape := ⟨4, ![8, 1, 6, 2048]⟩
abbrev S8x1024x6x2048 : Shape := ⟨4, ![8, 1024, 6, 2048]⟩
abbrev S16384x6x2048 : Shape := ⟨3, ![16384, 6, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x1x2048 : Shape := ⟨3, ![16384, 1, 2048]⟩
abbrev S1x2048x6160 : Shape := ⟨3, ![1, 2048, 6160]⟩
abbrev S2048x6160 : Shape := ⟨2, ![2048, 6160]⟩
abbrev S16384x6160 : Shape := ⟨2, ![16384, 6160]⟩
abbrev S16384x1024 : Shape := ⟨2, ![16384, 1024]⟩
abbrev S16384x16 : Shape := ⟨2, ![16384, 16]⟩
abbrev S16384x4096 : Shape := ⟨2, ![16384, 4096]⟩
abbrev S16384x4x4 : Shape := ⟨3, ![16384, 4, 4]⟩
abbrev S16384x4x128 : Shape := ⟨3, ![16384, 4, 128]⟩
abbrev S16384x512 : Shape := ⟨2, ![16384, 512]⟩
abbrev S16384x2560 : Shape := ⟨2, ![16384, 2560]⟩

abbrev nBuf : Space → Nat
  | .hbm => 56
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16x6x2048, .f32⟩
  | .hbm, ⟨3, _⟩ => ⟨S2x2048x6160, .f32⟩
  | .hbm, ⟨4, _⟩ => ⟨S1x6x2048, .f32⟩
  | .hbm, ⟨5, _⟩ => ⟨S8192x6x2048, .f32⟩
  | .hbm, ⟨6, _⟩ => ⟨S8x6x2048, .f32⟩
  | .hbm, ⟨7, _⟩ => ⟨S8x1x6x2048, .f32⟩
  | .hbm, ⟨8, _⟩ => ⟨S8x1024x6x2048, .f32⟩
  | .hbm, ⟨9, _⟩ => ⟨S8192x6x2048, .f32⟩
  | .hbm, ⟨10, _⟩ => ⟨S16384x6x2048, .f32⟩
  | .hbm, ⟨11, _⟩ => ⟨S16384x2048, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x2048, .f32⟩
  | .hbm, ⟨23, _⟩ => ⟨S16384x2048, .f32⟩
  | .hbm, ⟨24, _⟩ => ⟨S1x2048, .f32⟩
  | .hbm, ⟨25, _⟩ => ⟨S16384x2048, .f32⟩
  | .hbm, ⟨26, _⟩ => ⟨S16384x2048, .f32⟩
  | .hbm, ⟨27, _⟩ => ⟨S16384x1x2048, .f32⟩
  | .hbm, ⟨28, _⟩ => ⟨S16384x2048, .f32⟩
  | .hbm, ⟨29, _⟩ => ⟨S_, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x1x2048, .f32⟩
  | .hbm, ⟨34, _⟩ => ⟨S16384x2048, .f32⟩
  | .hbm, ⟨35, _⟩ => ⟨S16384x2048, .f32⟩
  | .hbm, ⟨36, _⟩ => ⟨S1x2048x6160, .f32⟩
  | .hbm, ⟨37, _⟩ => ⟨S2048x6160, .f32⟩
  | .hbm, ⟨38, _⟩ => ⟨S16384x6160, .f32⟩
  | .hbm, ⟨39, _⟩ => ⟨S16384x1024, .f32⟩
  | .hbm, ⟨40, _⟩ => ⟨S16384x1024, .f32⟩
  | .hbm, ⟨41, _⟩ => ⟨S16384x2048, .f32⟩
  | .hbm, ⟨42, _⟩ => ⟨S16384x2048, .f32⟩
  | .hbm, ⟨43, _⟩ => ⟨S16384x16, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S16384x4096, .f32⟩
  | .hbm, ⟨48, _⟩ => ⟨S16384x4x4, .f32⟩
  | .hbm, ⟨49, _⟩ => ⟨S16384x4x4, .f32⟩
  | .hbm, ⟨50, _⟩ => ⟨S_, .i32⟩
  | .hbm, ⟨51, _⟩ => ⟨S_, .f32⟩
  | .hbm, ⟨52, _⟩ => ⟨S16384x4x128, .f32⟩
  | .hbm, ⟨53, _⟩ => ⟨S16384x512, .f32⟩
  | .hbm, ⟨54, _⟩ => ⟨S16384x4096, .bf16⟩
  | .hbm, ⟨55, _⟩ => ⟨S16384x2560, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_c : Ref sig .tc := ⟨.hbm, 50, rfl⟩
abbrev main_call0_v0 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Kernel10.lean ====
abbrev S16384x2048 : Shape := ⟨2, ![16384, 2048]⟩
abbrev S1x2048x2048 : Shape := ⟨3, ![1, 2048, 2048]⟩
abbrev S2048 : Shape := ⟨1, ![2048]⟩
abbrev S16x6x2048 : Shape := ⟨3, ![16, 6, 2048]⟩
abbrev S_ : Shape := ⟨0, ![]⟩
abbrev S1x2048 : Shape := ⟨2, ![1, 2048]⟩
abbrev S512x2048 : Shape := ⟨2, ![512, 2048]⟩
abbrev S1x6x2048 : Shape := ⟨3, ![1, 6, 2048]⟩
abbrev S2048x2048 : Shape := ⟨2, ![2048, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S16384x2048, .f32⟩
  | .hbm, ⟨3, _⟩ => ⟨S2048, .f32⟩
  | .hbm, ⟨4, _⟩ => ⟨S16x6x2048, .f32⟩
  | .hbm, ⟨5, _⟩ => ⟨S1x2048x2048, .bf16⟩
  | .hbm, ⟨6, _⟩ => ⟨S_, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048x2048, .bf16⟩
  | .local _ .vmem, ⟨5, _⟩ => ⟨S1x2048, .f32⟩
  | .local _ .vmem, ⟨6, _⟩ => ⟨S1x2048, .f32⟩
  | .local _ .vmem, ⟨7, _⟩ => ⟨S1x6x2048, .f32⟩
  | .local _ .vmem, ⟨8, _⟩ => ⟨S1x6x2048, .f32⟩
  | .local _ .vmem, ⟨9, _⟩ => ⟨S512x2048, .f32⟩
  | .local _ .vmem, ⟨10, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x6x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S16384x2048 : Shape := ⟨2, ![16384, 2048]⟩
abbrev S1x2048x2048 : Shape := ⟨3, ![1, 2048, 2048]⟩
abbrev S2048 : Shape := ⟨1, ![2048]⟩
abbrev S16x6x2048 : Shape := ⟨3, ![16, 6, 2048]⟩
abbrev S1x6x2048 : Shape := ⟨3, ![1, 6, 2048]⟩
abbrev S8192x6x2048 : Shape := ⟨3, ![8192, 6, 2048]⟩
abbrev S8x6x2048 : Shape := ⟨3, ![8, 6, 2048]⟩
abbrev S8x1x6x2048 : Shape := ⟨4, ![8, 1, 6, 2048]⟩
abbrev S8x1024x6x2048 : Shape := ⟨4, ![8, 1024, 6, 2048]⟩
abbrev S16384x6x2048 : Shape := ⟨3, ![16384, 6, 2048]⟩
abbrev S16384x1x2048 : Shape := ⟨3, ![16384, 1, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S16384x2048, .f32⟩
  | .hbm, ⟨3, _⟩ => ⟨S2048, .f32⟩
  | .hbm, ⟨4, _⟩ => ⟨S16x6x2048, .f32⟩
  | .hbm, ⟨5, _⟩ => ⟨S1x6x2048, .f32⟩
  | .hbm, ⟨6, _⟩ => ⟨S8192x6x2048, .f32⟩
  | .hbm, ⟨7, _⟩ => ⟨S8x6x2048, .f32⟩
  | .hbm, ⟨8, _⟩ => ⟨S8x1x6x2048, .f32⟩
  | .hbm, ⟨9, _⟩ => ⟨S8x1024x6x2048, .f32⟩
  | .hbm, ⟨10, _⟩ => ⟨S8192x6x2048, .f32⟩
  | .hbm, ⟨11, _⟩ => ⟨S16384x6x2048, .f32⟩
  | .hbm, ⟨12, _⟩ => ⟨S16384x1x2048, .f32⟩
  | .hbm, ⟨13, _⟩ => ⟨S16384x2048, .f32⟩
  | .hbm, ⟨14, _⟩ => ⟨S16384x2048, .f32⟩
  | .hbm, ⟨15, _⟩ => ⟨S2048x2048, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x2048, .f32⟩
  | .hbm, ⟨29, _⟩ => ⟨S16384x2048, .f32⟩
  | .hbm, ⟨30, _⟩ => ⟨S1x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel11.lean ====
abbrev S16384x2048 : Shape := ⟨2, ![16384, 2048]⟩
abbrev S2x2048x2048 : Shape := ⟨3, ![2, 2048, 2048]⟩
abbrev S2048 : Shape := ⟨1, ![2048]⟩
abbrev S16x6x2048 : Shape := ⟨3, ![16, 6, 2048]⟩
abbrev S_ : Shape := ⟨0, ![]⟩
abbrev S1x2048 : Shape := ⟨2, ![1, 2048]⟩
abbrev S512x2048 : Shape := ⟨2, ![512, 2048]⟩
abbrev S1x2048x2048 : Shape := ⟨3, ![1, 2048, 2048]⟩
abbrev S1x6x2048 : Shape := ⟨3, ![1, 6, 2048]⟩
abbrev S2048x2048 : Shape := ⟨2, ![2048, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S16384x2048, .f32⟩
  | .hbm, ⟨3, _⟩ => ⟨S2048, .f32⟩
  | .hbm, ⟨4, _⟩ => ⟨S16x6x2048, .f32⟩
  | .hbm, ⟨5, _⟩ => ⟨S2x2048x2048, .bf16⟩
  | .hbm, ⟨6, _⟩ => ⟨S_, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048x2048, .bf16⟩
  | .local _ .vmem, ⟨5, _⟩ => ⟨S1x2048, .f32⟩
  | .local _ .vmem, ⟨6, _⟩ => ⟨S1x2048, .f32⟩
  | .local _ .vmem, ⟨7, _⟩ => ⟨S1x6x2048, .f32⟩
  | .local _ .vmem, ⟨8, _⟩ => ⟨S1x6x2048, .f32⟩
  | .local _ .vmem, ⟨9, _⟩ => ⟨S512x2048, .f32⟩
  | .local _ .vmem, ⟨10, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x6x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S16384x2048 : Shape := ⟨2, ![16384, 2048]⟩
abbrev S2x2048x2048 : Shape := ⟨3, ![2, 2048, 2048]⟩
abbrev S2048 : Shape := ⟨1, ![2048]⟩
abbrev S16x6x2048 : Shape := ⟨3, ![16, 6, 2048]⟩
abbrev S1x6x2048 : Shape := ⟨3, ![1, 6, 2048]⟩
abbrev S8192x6x2048 : Shape := ⟨3, ![8192, 6, 2048]⟩
abbrev S8x6x2048 : Shape := ⟨3, ![8, 6, 2048]⟩
abbrev S8x1x6x2048 : Shape := ⟨4, ![8, 1, 6, 2048]⟩
abbrev S8x1024x6x2048 : Shape := ⟨4, ![8, 1024, 6, 2048]⟩
abbrev S16384x6x2048 : Shape := ⟨3, ![16384, 6, 2048]⟩
abbrev S16384x1x2048 : Shape := ⟨3, ![16384, 1, 2048]⟩
abbrev S1x2048x2048 : Shape := ⟨3, ![1, 2048, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S16384x2048, .f32⟩
  | .hbm, ⟨3, _⟩ => ⟨S2048, .f32⟩
  | .hbm, ⟨4, _⟩ => ⟨S16x6x2048, .f32⟩
  | .hbm, ⟨5, _⟩ => ⟨S1x6x2048, .f32⟩
  | .hbm, ⟨6, _⟩ => ⟨S8192x6x2048, .f32⟩
  | .hbm, ⟨7, _⟩ => ⟨S8x6x2048, .f32⟩
  | .hbm, ⟨8, _⟩ => ⟨S8x1x6x2048, .f32⟩
  | .hbm, ⟨9, _⟩ => ⟨S8x1024x6x2048, .f32⟩
  | .hbm, ⟨10, _⟩ => ⟨S8192x6x2048, .f32⟩
  | .hbm, ⟨11, _⟩ => ⟨S16384x6x2048, .f32⟩
  | .hbm, ⟨12, _⟩ => ⟨S16384x1x2048, .f32⟩
  | .hbm, ⟨13, _⟩ => ⟨S16384x2048, .f32⟩
  | .hbm, ⟨14, _⟩ => ⟨S16384x2048, .f32⟩
  | .hbm, ⟨15, _⟩ => ⟨S1x2048x2048, .f32⟩
  | .hbm, ⟨16, _⟩ => ⟨S2048x2048, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x2048, .f32⟩
  | .hbm, ⟨30, _⟩ => ⟨S16384x2048, .f32⟩
  | .hbm, ⟨31, _⟩ => ⟨S1x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel12.lean ====
abbrev S32x256x2048 : Shape := ⟨3, ![32, 256, 2048]⟩
abbrev S8x1024x2048 : Shape := ⟨3, ![8, 1024, 2048]⟩
abbrev S2048 : Shape := ⟨1, ![2048]⟩
abbrev S16x6x2048 : Shape := ⟨3, ![16, 6, 2048]⟩
abbrev S2x2048x6160 : Shape := ⟨3, ![2, 2048, 6160]⟩
abbrev S_ : Shape := ⟨0, ![]⟩
abbrev S2x2x2x4 : Shape := ⟨4, ![2, 2, 2, 4]⟩
abbrev S2x2048x1024 : Shape := ⟨3, ![2, 2048, 1024]⟩
abbrev S2x2048x2048 : Shape := ⟨3, ![2, 2048, 2048]⟩
abbrev S2x2048x16 : Shape := ⟨3, ![2, 2048, 16]⟩
abbrev S2x2048x4096 : Shape := ⟨3, ![2, 2048, 4096]⟩
abbrev S2x2048x2x2x4 : Shape := ⟨5, ![2, 2048, 2, 2, 4]⟩
abbrev S2x2048x4x2x2 : Shape := ⟨5, ![2, 2048, 4, 2, 2]⟩
abbrev S2x2048x4x4 : Shape := ⟨4, ![2, 2048, 4, 4]⟩
abbrev S2x2048x4x128 : Shape := ⟨4, ![2, 2048, 4, 128]⟩
abbrev S2x2048x512 : Shape := ⟨3, ![2, 2048, 512]⟩
abbrev S2x2048x2560 : Shape := ⟨3, ![2, 2048, 2560]⟩
abbrev S2x4x2x2 : Shape := ⟨4, ![2, 4, 2, 2]⟩
abbrev S2x4x4 : Shape := ⟨3, ![2, 4, 4]⟩
abbrev S2x4x128 : Shape := ⟨3, ![2, 4, 128]⟩
abbrev S2x1x512 : Shape := ⟨3, ![2, 1, 512]⟩
abbrev S8192x2048 : Shape := ⟨2, ![8192, 2048]⟩
abbrev S1x2048 : Shape := ⟨2, ![1, 2048]⟩
abbrev S16384x4096 : Shape := ⟨2, ![16384, 4096]⟩
abbrev S16384x2560 : Shape := ⟨2, ![16384, 2560]⟩
abbrev S256x2048 : Shape := ⟨2, ![256, 2048]⟩
abbrev S1x6x2048 : Shape := ⟨3, ![1, 6, 2048]⟩
abbrev S1x2048x4096 : Shape := ⟨3, ![1, 2048, 4096]⟩
abbrev S1x2048x2560 : Shape := ⟨3, ![1, 2048, 2560]⟩
abbrev S256x4096 : Shape := ⟨2, ![256, 4096]⟩
abbrev S256x2560 : Shape := ⟨2, ![256, 2560]⟩
abbrev S1x1x2048 : Shape := ⟨3, ![1, 1, 2048]⟩
abbrev S256 : Shape := ⟨1, ![256]⟩
abbrev S256x1 : Shape := ⟨2, ![256, 1]⟩
abbrev S2048x4096 : Shape := ⟨2, ![2048, 4096]⟩
abbrev S2048x2560 : Shape := ⟨2, ![2048, 2560]⟩

abbrev nBuf : Space → Nat
  | .hbm => 40
  | .vmem => 13
  | .smem => 0
  | _ => 0

abbrev bufTy : (tb : Table) → Fin (tcTables nBuf tb) → BufTy
  | .hbm, ⟨0, _⟩ => ⟨S32x256x2048, .f32⟩
  | .hbm, ⟨1, _⟩ => ⟨S8x1024x2048, .f32⟩
  | .hbm, ⟨2, _⟩ => ⟨S2048, .f32⟩
  | .hbm, ⟨3, _⟩ => ⟨S16x6x2048, .f32⟩
  | .hbm, ⟨4, _⟩ => ⟨S2x2048x6160, .f32⟩
  | .hbm, ⟨5, _⟩ => ⟨S_, .f32⟩
  | .hbm, ⟨6, _⟩ => ⟨S2x2x2x4, .f32⟩
  | .hbm, ⟨7, _⟩ => ⟨S2x2048x1024, .f32⟩
  | .hbm, ⟨8, _⟩ => ⟨S2x2048x1024, .f32⟩
  | .hbm, ⟨9, _⟩ => ⟨S2x2048x2048, .f32⟩
  | .hbm, ⟨10, _⟩ => ⟨S2x2048x2048, .f32⟩
  | .hbm, ⟨11, _⟩ => ⟨S2x2048x16, .f32⟩
  | .hbm, ⟨12, _⟩ => ⟨S2x2048x1024, .bf16⟩
  | .hbm, ⟨13, _⟩ => ⟨S_, .f32⟩
  | .hbm, ⟨14, _⟩ => ⟨S2x2048x1024, .f32⟩
  | .hbm, ⟨15, _⟩ => ⟨S2x2048x1024, .f32⟩
  | .hbm, ⟨16, _⟩ => ⟨S2x2048x1024, .bf16⟩
  | .hbm, ⟨17, _⟩ => ⟨S2x2048x2048, .bf16⟩
  | .hbm, ⟨18, _⟩ => ⟨S2x2048x4096, .bf16⟩
  | .hbm, ⟨19, _⟩ => ⟨S2x2048x2x2x4, .f32⟩
  | .hbm, ⟨20, _⟩ => ⟨S2x2048x4x2x2, .f32⟩
  | .hbm, ⟨21, _⟩ => ⟨S2x2048x4x4, .f32⟩
  | .hbm, ⟨22, _⟩ => ⟨S_, .i32⟩
  | .hbm, ⟨23, _⟩ => ⟨S_, .f32⟩
  | .hbm, ⟨24, _⟩ => ⟨S2x2048x4x128, .f32⟩
  | .hbm, ⟨25, _⟩ => ⟨S2x2048x512, .f32⟩
  | .hbm, ⟨26, _⟩ => ⟨S2x2048x2048, .bf16⟩
  | .hbm, ⟨27, _⟩ => ⟨S2x2048x512, .bf16⟩
  | .hbm, ⟨28, _⟩ => ⟨S2x2048x2560, .bf16⟩
  | .hbm, ⟨29, _⟩ => ⟨S2x4x2x2, .f32⟩
  | .hbm, ⟨30, _⟩ => ⟨S2x4x4, .f32⟩
  | .hbm, ⟨31, _⟩ => ⟨S_, .i32⟩
  | .hbm, ⟨32, _⟩ => ⟨S_, .f32⟩
  | .hbm, ⟨33, _⟩ => ⟨S2x4x128, .f32⟩
  | .hbm, ⟨34, _⟩ => ⟨S2x1x512, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S16384x4096, .bf16⟩
  | .hbm, ⟨39, _⟩ => ⟨S16384x2560, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x6x2048, .f32⟩
  | .local _ .vmem, ⟨6, _⟩ => ⟨S1x6x2048, .f32⟩
  | .local _ .vmem, ⟨7, _⟩ => ⟨S1x2048x4096, .bf16⟩
  | .local _ .vmem, ⟨8, _⟩ => ⟨S1x2048x2560, .bf16⟩
  | .local _ .vmem, ⟨9, _⟩ => ⟨S256x4096, .bf16⟩
  | .local _ .vmem, ⟨10, _⟩ => ⟨S256x4096, .bf16⟩
  | .local _ .vmem, ⟨11, _⟩ => ⟨S256x2560, .f32⟩
  | .local _ .vmem, ⟨12, _⟩ => ⟨S256x2560, .f32⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_1 : Ref sig .tc := ⟨.hbm, 31, rfl⟩
abbrev main_call1_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c32_i32 : BitVec 32 := 32#32
  let v1 : BitVec 1 := Scalar.cmpi .slt arg0 c32_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c32_i32_1 : BitVec 32 := 32#32
  let v5 : BitVec 1 := Scalar.cmpi .sge arg0 c32_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S32x256x2048 : Shape := ⟨3, ![32, 256, 2048]⟩
abbrev S8x1024x2048 : Shape := ⟨3, ![8, 1024, 2048]⟩
abbrev S2048 : Shape := ⟨1, ![2048]⟩
abbrev S16x6x2048 : Shape := ⟨3, ![16, 6, 2048]⟩
abbrev S2x2048x6160 : Shape := ⟨3, ![2, 2048, 6160]⟩
abbrev S8192x2048 : Shape := ⟨2, ![8192, 2048]⟩
abbrev S16384x2048 : Shape := ⟨2, ![16384, 2048]⟩
abbrev S1x6x2048 : Shape := ⟨3, ![1, 6, 2048]⟩
abbrev S8192x6x2048 : Shape := ⟨3, ![8192, 6, 2048]⟩
abbrev S8x6x2048 : Shape := ⟨3, ![8, 6, 2048]⟩
abbrev S8x1x6x2048 : Shape := ⟨4, ![8, 1, 6, 2048]⟩
abbrev S8x1024x6x2048 : Shape := ⟨4, ![8, 1024, 6, 2048]⟩
abbrev S16384x6x2048 : Shape := ⟨3, ![16384, 6, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x1x2048 : Shape := ⟨3, ![16384, 1, 2048]⟩
abbrev S1x2048x6160 : Shape := ⟨3, ![1, 2048, 6160]⟩
abbrev S2048x6160 : Shape := ⟨2, ![2048, 6160]⟩
abbrev S16384x6160 : Shape := ⟨2, ![16384, 6160]⟩
abbrev S16384x1024 : Shape := ⟨2, ![16384, 1024]⟩
abbrev S16384x16 : Shape := ⟨2, ![16384, 16]⟩
abbrev S16384x4096 : Shape := ⟨2, ![16384, 4096]⟩
abbrev S16384x4x4 : Shape := ⟨3, ![16384, 4, 4]⟩
abbrev S16384x4x128 : Shape := ⟨3, ![16384, 4, 128]⟩
abbrev S16384x512 : Shape := ⟨2, ![16384, 512]⟩
abbrev S16384x2560 : Shape := ⟨2, ![16384, 2560]⟩

abbrev nBuf : Space → Nat
  | .hbm => 60
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S8x1024x2048, .f32⟩
  | .hbm, ⟨2, _⟩ => ⟨S2048, .f32⟩
  | .hbm, ⟨3, _⟩ => ⟨S16x6x2048, .f32⟩
  | .hbm, ⟨4, _⟩ => ⟨S2x2048x6160, .f32⟩
  | .hbm, ⟨5, _⟩ => ⟨S8192x2048, .f32⟩
  | .hbm, ⟨6, _⟩ => ⟨S8192x2048, .f32⟩
  | .hbm, ⟨7, _⟩ => ⟨S16384x2048, .f32⟩
  | .hbm, ⟨8, _⟩ => ⟨S1x6x2048, .f32⟩
  | .hbm, ⟨9, _⟩ => ⟨S8192x6x2048, .f32⟩
  | .hbm, ⟨10, _⟩ => ⟨S8x6x2048, .f32⟩
  | .hbm, ⟨11, _⟩ => ⟨S8x1x6x2048, .f32⟩
  | .hbm, ⟨12, _⟩ => ⟨S8x1024x6x2048, .f32⟩
  | .hbm, ⟨13, _⟩ => ⟨S8192x6x2048, .f32⟩
  | .hbm, ⟨14, _⟩ => ⟨S16384x6x2048, .f32⟩
  | .hbm, ⟨15, _⟩ => ⟨S16384x2048, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x2048, .f32⟩
  | .hbm, ⟨27, _⟩ => ⟨S16384x2048, .f32⟩
  | .hbm, ⟨28, _⟩ => ⟨S1x2048, .f32⟩
  | .hbm, ⟨29, _⟩ => ⟨S16384x2048, .f32⟩
  | .hbm, ⟨30, _⟩ => ⟨S16384x2048, .f32⟩
  | .hbm, ⟨31, _⟩ => ⟨S16384x1x2048, .f32⟩
  | .hbm, ⟨32, _⟩ => ⟨S16384x2048, .f32⟩
  | .hbm, ⟨33, _⟩ => ⟨S_, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x1x2048, .f32⟩
  | .hbm, ⟨38, _⟩ => ⟨S16384x2048, .f32⟩
  | .hbm, ⟨39, _⟩ => ⟨S16384x2048, .f32⟩
  | .hbm, ⟨40, _⟩ => ⟨S1x2048x6160, .f32⟩
  | .hbm, ⟨41, _⟩ => ⟨S2048x6160, .f32⟩
  | .hbm, ⟨42, _⟩ => ⟨S16384x6160, .f32⟩
  | .hbm, ⟨43, _⟩ => ⟨S16384x1024, .f32⟩
  | .hbm, ⟨44, _⟩ => ⟨S16384x1024, .f32⟩
  | .hbm, ⟨45, _⟩ => ⟨S16384x2048, .f32⟩
  | .hbm, ⟨46, _⟩ => ⟨S16384x2048, .f32⟩
  | .hbm, ⟨47, _⟩ => ⟨S16384x16, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S16384x4096, .f32⟩
  | .hbm, ⟨52, _⟩ => ⟨S16384x4x4, .f32⟩
  | .hbm, ⟨53, _⟩ => ⟨S16384x4x4, .f32⟩
  | .hbm, ⟨54, _⟩ => ⟨S_, .i32⟩
  | .hbm, ⟨55, _⟩ => ⟨S_, .f32⟩
  | .hbm, ⟨56, _⟩ => ⟨S16384x4x128, .f32⟩
  | .hbm, ⟨57, _⟩ => ⟨S16384x512, .f32⟩
  | .hbm, ⟨58, _⟩ => ⟨S16384x4096, .bf16⟩
  | .hbm, ⟨59, _⟩ => ⟨S16384x2560, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c : Ref sig .tc := ⟨.hbm, 54, rfl⟩
abbrev main_call0_v0 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]
-- ==== Kernel13.lean ====
abbrev S16384x2048 : Shape := ⟨2, ![16384, 2048]⟩
abbrev S2x2048x2048 : Shape := ⟨3, ![2, 2048, 2048]⟩
abbrev S32x256x2048 : Shape := ⟨3, ![32, 256, 2048]⟩
abbrev S8x1024x2048 : Shape := ⟨3, ![8, 1024, 2048]⟩
abbrev S2048 : Shape := ⟨1, ![2048]⟩
abbrev S16x6x2048 : Shape := ⟨3, ![16, 6, 2048]⟩
abbrev S_ : Shape := ⟨0, ![]⟩
abbrev S8192x2048 : Shape := ⟨2, ![8192, 2048]⟩
abbrev S1x2048 : Shape := ⟨2, ![1, 2048]⟩
abbrev S512x2048 : Shape := ⟨2, ![512, 2048]⟩
abbrev S1x2048x2048 : Shape := ⟨3, ![1, 2048, 2048]⟩
abbrev S1x6x2048 : Shape := ⟨3, ![1, 6, 2048]⟩
abbrev S2048x2048 : Shape := ⟨2, ![2048, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S32x256x2048, .f32⟩
  | .hbm, ⟨3, _⟩ => ⟨S8x1024x2048, .f32⟩
  | .hbm, ⟨4, _⟩ => ⟨S2048, .f32⟩
  | .hbm, ⟨5, _⟩ => ⟨S16x6x2048, .f32⟩
  | .hbm, ⟨6, _⟩ => ⟨S2x2048x2048, .bf16⟩
  | .hbm, ⟨7, _⟩ => ⟨S_, .f32⟩
  | .hbm, ⟨8, _⟩ => ⟨S2048, .f32⟩
  | .hbm, ⟨9, _⟩ => ⟨S8192x2048, .f32⟩
  | .hbm, ⟨10, _⟩ => ⟨S8192x2048, .f32⟩
  | .hbm, ⟨11, _⟩ => ⟨S1x2048, .f32⟩
  | .hbm, ⟨12, _⟩ => ⟨S1x2048, .f32⟩
  | .hbm, ⟨13, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .bf16⟩
  | .local _ .vmem, ⟨5, _⟩ => ⟨S512x2048, .bf16⟩
  | .local _ .vmem, ⟨6, _⟩ => ⟨S1x2048x2048, .bf16⟩
  | .local _ .vmem, ⟨7, _⟩ => ⟨S1x2048, .f32⟩
  | .local _ .vmem, ⟨8, _⟩ => ⟨S1x2048, .f32⟩
  | .local _ .vmem, ⟨9, _⟩ => ⟨S1x6x2048, .f32⟩
  | .local _ .vmem, ⟨10, _⟩ => ⟨S1x6x2048, .f32⟩
  | .local _ .vmem, ⟨11, _⟩ => ⟨S512x2048, .f32⟩
  | .local _ .vmem, ⟨12, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c16_i32 : BitVec 32 := 16#32
  let v1 : BitVec 1 := Scalar.cmpi .slt arg0 c16_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c16_i32_1 : BitVec 32 := 16#32
  let v5 : BitVec 1 := Scalar.cmpi .sge arg0 c16_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x6x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S16384x2048 : Shape := ⟨2, ![16384, 2048]⟩
abbrev S2x2048x2048 : Shape := ⟨3, ![2, 2048, 2048]⟩
abbrev S32x256x2048 : Shape := ⟨3, ![32, 256, 2048]⟩
abbrev S8x1024x2048 : Shape := ⟨3, ![8, 1024, 2048]⟩
abbrev S2048 : Shape := ⟨1, ![2048]⟩
abbrev S16x6x2048 : Shape := ⟨3, ![16, 6, 2048]⟩
abbrev S8192x2048 : Shape := ⟨2, ![8192, 2048]⟩
abbrev S1x6x2048 : Shape := ⟨3, ![1, 6, 2048]⟩
abbrev S8192x6x2048 : Shape := ⟨3, ![8192, 6, 2048]⟩
abbrev S8x6x2048 : Shape := ⟨3, ![8, 6, 2048]⟩
abbrev S8x1x6x2048 : Shape := ⟨4, ![8, 1, 6, 2048]⟩
abbrev S8x1024x6x2048 : Shape := ⟨4, ![8, 1024, 6, 2048]⟩
abbrev S16384x6x2048 : Shape := ⟨3, ![16384, 6, 2048]⟩
abbrev S16384x1x2048 : Shape := ⟨3, ![16384, 1, 2048]⟩
abbrev S1x2048x2048 : Shape := ⟨3, ![1, 2048, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S32x256x2048, .f32⟩
  | .hbm, ⟨3, _⟩ => ⟨S8x1024x2048, .f32⟩
  | .hbm, ⟨4, _⟩ => ⟨S2048, .f32⟩
  | .hbm, ⟨5, _⟩ => ⟨S16x6x2048, .f32⟩
  | .hbm, ⟨6, _⟩ => ⟨S8192x2048, .f32⟩
  | .hbm, ⟨7, _⟩ => ⟨S8192x2048, .f32⟩
  | .hbm, ⟨8, _⟩ => ⟨S16384x2048, .f32⟩
  | .hbm, ⟨9, _⟩ => ⟨S1x6x2048, .f32⟩
  | .hbm, ⟨10, _⟩ => ⟨S8192x6x2048, .f32⟩
  | .hbm, ⟨11, _⟩ => ⟨S8x6x2048, .f32⟩
  | .hbm, ⟨12, _⟩ => ⟨S8x1x6x2048, .f32⟩
  | .hbm, ⟨13, _⟩ => ⟨S8x1024x6x2048, .f32⟩
  | .hbm, ⟨14, _⟩ => ⟨S8192x6x2048, .f32⟩
  | .hbm, ⟨15, _⟩ => ⟨S16384x6x2048, .f32⟩
  | .hbm, ⟨16, _⟩ => ⟨S16384x1x2048, .f32⟩
  | .hbm, ⟨17, _⟩ => ⟨S16384x2048, .f32⟩
  | .hbm, ⟨18, _⟩ => ⟨S16384x2048, .f32⟩
  | .hbm, ⟨19, _⟩ => ⟨S1x2048x2048, .f32⟩
  | .hbm, ⟨20, _⟩ => ⟨S2048x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x2048, .f32⟩
  | .hbm, ⟨34, _⟩ => ⟨S16384x2048, .f32⟩
  | .hbm, ⟨35, _⟩ => ⟨S1x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Proof.FfnBlock.lean ====
/-
  The feed-forward call, one grid point at a time: what each of the three cases of its body (first, middle and last
  column tile of a row block) leaves in the output block and in the normalised rows it carries.
-/
module

public import proofs.«01_k».proof.Proof.Gen.Kernel2Ideal.Frame
public import Idealize.ShloMosaic.Lib.Pipeline.Value
public import Idealize.ShloMosaic.Lib.Pointwise
public import Idealize.ShloMosaic.Lib.IdealHost

@[expose] public section

set_option maxRecDepth 16384

noncomputable section

namespace Cert.Ffn

open Cert.Kernel2Ideal Cert.Kernel2Ideal.Gen
open Idealize.ShloMosaic Idealize.ShloMosaic.TcCoe Idealize.SL.Sem

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl
theorem off4 : (![0, 0, 0, 0] : Fin 4 → Nat) = fun _ => 0 := funext fun a => by fin_cases a <;> rfl

/-- Row `r` of a block of six modulation rows. -/
abbrev modRow3 (x3 : Vec F S1x6x2048 .f32) : Vec F S1x1x2048 .f32 :=
  View.ld x3 (Rect.unit (s := S1x6x2048) ![0, 3, 0] S1x1x2048.size inb_S1x6x2048_S1x1x2048_0_3_0)
/-- The modulation block's row of scales. -/
abbrev modRow4 (x3 : Vec F S1x6x2048 .f32) : Vec F S1x1x2048 .f32 :=
  View.ld x3 (Rect.unit (s := S1x6x2048) ![0, 4, 0] S1x1x2048.size inb_S1x6x2048_S1x1x2048_0_4_0)
/-- The modulation block's row of gates. -/
abbrev modRow5 (x3 : Vec F S1x6x2048 .f32) : Vec F S1x1x2048 .f32 :=
  View.ld x3 (Rect.unit (s := S1x6x2048) ![0, 5, 0] S1x1x2048.size inb_S1x6x2048_S1x1x2048_0_5_0)

section Cases
variable (c : Dev nD) (i : grid0.Coords) (arg2 : Memref sig .tc .vmem S1024x2048 .f32) (harg2 : arg2.IsWhole)
  (arg3 : Memref sig .tc .vmem S1x2048 .f32) (harg3 : arg3.IsWhole) (arg4 : Memref sig .tc .vmem S1x2048 .f32) (harg4 : arg4.IsWhole)
  (arg5 : Memref sig .tc .vmem S1x6x2048 .f32) (harg5 : arg5.IsWhole) (arg6 : Memref sig .tc .vmem S1x1x2048x512 .bf16) (harg6 : arg6.IsWhole)
  (arg7 : Memref sig .tc .vmem S1x512x2048 .f32) (harg7 : arg7.IsWhole) (arg8 : Memref sig .tc .vmem S1024x2048 .f32) (harg8 : arg8.IsWhole)
  (arg9 : Memref sig .tc .vmem S1024x2048 .bf16) (harg9 : arg9.IsWhole)
  (x0 : Vec F S1024x2048 .f32) (x1 x2 : Vec F S1x2048 .f32) (x3 : Vec F S1x6x2048 .f32) (x4 : Vec F S1x1x2048x512 .bf16)
  (x5 : Vec F S1x512x2048 .f32) (xo : Vec F S1024x2048 .f32) (xs : Vec F S1024x2048 .bf16)

/-- A middle tile adds its contribution to the output block. -/
theorem out_B (hc0 : ¬cond0_0 i) (hc1 : ¬cond0_1 i) :
    out0_B_6 c i arg2 harg2 arg3 harg3 arg4 harg4 arg5 harg5 arg6 harg6 arg7 harg7 arg8 harg8 arg9 harg9 hc0 hc1 x0 x1 x2 x3 x4 x5 xo xs
      = k0_pay3 xs x4 xo x5 := by
  unfold out0_B_6
  rw [View.read_writes_eq_canon _ _ _ (cover0_B_6 c i arg2 harg2 arg3 harg3 arg4 harg4 arg5 harg5 arg6 harg6 arg7 harg7 arg8 harg8 arg9 harg9 hc0 hc1 x0 x1 x2 x3 x4 x5 xo xs)]
  unfold kernelRun0_B
  dsimp only
  sl_unfold_words
  rw [View.canon_unit_zero off2]
  simp only [View.readAt_eq_ld, harg6.read_unread, harg7.read_unread, harg8.read_unread, harg9.read_unread,
    View.ld_unit_zero (S := S1024x2048) off2, View.ld_unit_zero (S := S1x1x2048x512) off4, View.ld_unit_zero (S := S1x512x2048) off3]

/-- The first tile stores the normalised, scaled and shifted rows and starts the output block from zeros. -/
theorem out_A (hc0 : cond0_0 i) (hc1 : ¬cond0_1 i) :
    out0_A_6 c i arg2 harg2 arg3 harg3 arg4 harg4 arg5 harg5 arg6 harg6 arg7 harg7 arg8 harg8 arg9 harg9 hc0 hc1 x0 x1 x2 x3 x4 x5
      = k0_pay3 (k0_pay1 x0 x1 (modRow3 x3) (modRow4 x3)) x4 (k0_pay2 (F := F)) x5 := by
  unfold out0_A_6
  rw [View.read_writes_eq_canon _ _ _ (cover0_A_6 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1024x2048) off2]
  simp only [View.readCov_unit_zero (S := S1024x2048) _ off2, View.readAt_eq_ld, harg2.read_unread, harg3.read_unread, harg5.read_unread, harg6.read_unread, harg7.read_unread,
    View.ld_unit_zero (S := S1024x2048) off2, View.ld_unit_zero (S := S1x2048) off2, View.ld_unit_zero (S := S1x1x2048x512) off4, View.ld_unit_zero (S := S1x512x2048) off3]

/-- The rows the first tile leaves for the others. -/
theorem sout_A (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 x4 x5
      = k0_pay1 x0 x1 (modRow3 x3) (modRow4 x3) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_unit_zero off2]
  simp only [View.readAt_eq_ld, harg2.read_unread, harg3.read_unread, harg5.read_unread,
    View.ld_unit_zero (S := S1024x2048) off2, View.ld_unit_zero (S := S1x2048) off2]

/-- The last tile adds its contribution, normalises, and adds the gated result to the input rows. -/
theorem out_C (hc0 : ¬cond0_0 i) (hc1 : cond0_1 i) :
    out0_C_6 c i arg2 harg2 arg3 harg3 arg4 harg4 arg5 harg5 arg6 harg6 arg7 harg7 arg8 harg8 arg9 harg9 hc0 hc1 x0 x1 x2 x3 x4 x5 xo xs
      = k0_pay4 x0 (modRow5 x3) (k0_pay3 xs x4 xo x5) x2 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xo xs)]
  unfold kernelRun0_C
  dsimp only
  sl_unfold_words
  rw [View.canon_cons_unit_zero (S := S1024x2048) off2]
  simp only [View.readCov_unit_zero (S := S1024x2048) _ off2, View.readAt_eq_ld, harg2.read_unread, harg4.read_unread, harg5.read_unread, harg6.read_unread, harg7.read_unread, harg8.read_unread, harg9.read_unread,
    View.ld_unit_zero (S := S1024x2048) off2, View.ld_unit_zero (S := S1x2048) off2, View.ld_unit_zero (S := S1x1x2048x512) off4, View.ld_unit_zero (S := S1x512x2048) off3]

end Cases

end Cert.Ffn

end
-- ==== Proof.FfnPay.lean ====
/-
  The feed-forward call's stored values read at an index, over the extended reals.
-/
module

public import proofs.«01_k».proof.Proof.Gen.Kernel2Ideal.Skeleton
public import Idealize.ShloMosaic.Lib.Pointwise
public import Idealize.ShloMosaic.Lib.IdealHost

@[expose] public section

set_option maxRecDepth 16384

noncomputable section

namespace Cert.Ffn

open Cert.Kernel2Ideal Cert.Kernel2Ideal.Gen
open Idealize.ShloMosaic Idealize.ShloMosaic.TcCoe Idealize.SL.Sem

/-- The reciprocal root mean square of a row of 2048 entries, as the kernel and the plain formula both print it. -/
def rs (v : Fin 2048 → EReal) : EReal :=
  Ideal.rsqrt (Ideal.div (∑ k, v k * v k) (Ideal.ofBits .f32 0x45000000#32) + Ideal.ofBits .f32 0x358637BD#32)

/-- The carried rows: normalised, scaled and shifted. -/
theorem pay1_apply (x : FVec Ideal S1024x2048 .f32) (g : FVec Ideal S1x2048 .f32) (sh sc : FVec Ideal S1x1x2048 .f32) (r : Fin 1024) (d : Fin 2048) :
    k0_pay1 (F := Ideal) x g sh sc (ix2 r d)
      = x (ix2 r d) * rs (fun k => x (ix2 r k)) * g (ix2 0 d) * (1 + sc (ix3 0 0 d)) + sh (ix3 0 0 d) := by
  pointwise [k0_pay1]
  rfl

/-- The first tile's starting value. -/
theorem pay2_apply (j : S1024x2048.Idx) : k0_pay2 (F := Ideal) j = 0 := by
  pointwise [k0_pay2]

/-- A tile's contribution: the squared rectified product with its 512 columns, times its 512 rows. -/
theorem pay3_apply (h : FVec Ideal S1024x2048 .bf16) (wu : FVec Ideal S1x1x2048x512 .bf16) (o : FVec Ideal S1024x2048 .f32)
    (wd : FVec Ideal S1x512x2048 .f32) (r : Fin 1024) (d : Fin 2048) :
    k0_pay3 (F := Ideal) h wu o wd (ix2 r d)
      = o (ix2 r d) + ∑ f : Fin 512, max (∑ k : Fin 2048, h (ix2 r k) * wu (ix4 0 0 k f)) 0
          * max (∑ k : Fin 2048, h (ix2 r k) * wu (ix4 0 0 k f)) 0 * wd (ix3 0 f d) := by
  pointwise [k0_pay3]

/-- The last tile's result: the input row plus the gated, normalised product. -/
theorem pay4_apply (x : FVec Ideal S1024x2048 .f32) (g5 : FVec Ideal S1x1x2048 .f32) (o : FVec Ideal S1024x2048 .f32)
    (g : FVec Ideal S1x2048 .f32) (r : Fin 1024) (d : Fin 2048) :
    k0_pay4 (F := Ideal) x g5 o g (ix2 r d)
      = x (ix2 r d) + g5 (ix3 0 0 d) * (o (ix2 r d) * rs (fun k => o (ix2 r k)) * g (ix2 0 d)) := by
  pointwise [k0_pay4]
  rfl

end Cert.Ffn

end
-- ==== Proof.FfnRead.lean ====
/-
  The feed-forward call's input blocks at an index, in terms of the arguments.
-/
module

public import proofs.«01_k».proof.Proof.Gen.Kernel2Ideal.Frame
public import Idealize.ShloMosaic.Lib.Pointwise
public import Idealize.ShloMosaic.Lib.StableHlo.Run
public import Idealize.ShloMosaic.Lib.IdealHost

@[expose] public section

set_option maxRecDepth 16384

noncomputable section

namespace Cert.Ffn

open Cert.Kernel2Ideal Cert.Kernel2Ideal.Gen
open Idealize.ShloMosaic Idealize.ShloMosaic.TcCoe Idealize.SL.Sem

variable (m : (ℓ : Loc nD τ sig) → Buf (Elt Ideal) ℓ) (c : Dev nD)

/-- The arguments: rows, the two gains, modulation rows and the two weights. -/
abbrev argX : FVec Ideal S16384x2048 .f32 := m ((c : Thread nD τ).loc main_arg0)
abbrev argG1 : FVec Ideal S2048 .f32 := m ((c : Thread nD τ).loc main_arg1)
abbrev argG2 : FVec Ideal S2048 .f32 := m ((c : Thread nD τ).loc main_arg2)
abbrev argMod : FVec Ideal S16x6x2048 .f32 := m ((c : Thread nD τ).loc main_arg3)
abbrev argUp : FVec Ideal S4x2048x8192 .f32 := m ((c : Thread nD τ).loc main_arg4)
abbrev argDown : FVec Ideal S4x8192x2048 .f32 := m ((c : Thread nD τ).loc main_arg5)

/-- Row `r` of row block `b`. -/
abbrev rowOf (b : Fin 16) (r : Fin 1024) : Fin 16384 := ⟨b.val * 1024 + r.val, by omega⟩
/-- Column `f` of column tile `j`. -/
abbrev colOf (j : Fin 16) (f : Fin 512) : Fin 8192 := ⟨j.val * 512 + f.val, by omega⟩
/-- The modulation row a row block is given: the first for the 8 blocks of context rows, then one for each block. -/
abbrev modOf (b : Fin 16) : Fin 16 := ⟨if b.val < 8 then 0 else b.val - 7, by split <;> omega⟩
/-- A grid point's row block and column tile. -/
abbrev blkOf (t : Fin cfg0.N) : Fin 16 := ⟨t.val / 16, by have := lt_of_lt_of_eq t.isLt (show cfg0.N = 256 from N_0); omega⟩
abbrev tileOf (t : Fin cfg0.N) : Fin 16 := ⟨t.val % 16, by omega⟩

theorem index0 : ∀ t : Fin cfg0.N, win0_0.index t 0 = t.val / 16 ∧ win0_0.index t 1 = 0 :=
  (by decide +kernel : ∀ t : Fin grid0.N, win0_0.index t 0 = t.val / 16 ∧ win0_0.index t 1 = 0)
theorem index3 : ∀ t : Fin cfg0.N, win0_3.index t 0 = (if t.val / 16 < 8 then 0 else t.val / 16 - 7) ∧ win0_3.index t 1 = 0 ∧ win0_3.index t 2 = 0 :=
  (by decide +kernel : ∀ t : Fin grid0.N, win0_3.index t 0 = (if t.val / 16 < 8 then 0 else t.val / 16 - 7) ∧ win0_3.index t 1 = 0 ∧ win0_3.index t 2 = 0)
theorem index4 : ∀ t : Fin cfg0.N, win0_4.index t 0 = 0 ∧ win0_4.index t 1 = t.val % 16 ∧ win0_4.index t 2 = 0 ∧ win0_4.index t 3 = 0 :=
  (by decide +kernel : ∀ t : Fin grid0.N, win0_4.index t 0 = 0 ∧ win0_4.index t 1 = t.val % 16 ∧ win0_4.index t 2 = 0 ∧ win0_4.index t 3 = 0)
theorem index5 : ∀ t : Fin cfg0.N, win0_5.index t 0 = 0 ∧ win0_5.index t 1 = t.val % 16 ∧ win0_5.index t 2 = 0 :=
  (by decide +kernel : ∀ t : Fin grid0.N, win0_5.index t 0 = 0 ∧ win0_5.index t 1 = t.val % 16 ∧ win0_5.index t 2 = 0)

/-- The first weight as the launch finds it: cut into 16 tiles of 512 columns. -/
theorem V_up (j : Fin 16) (k : Fin 2048) (f : Fin 512) :
    (V m c main_v2 : FVec Ideal S4x16x2048x512 .bf16) (ix4 0 j k f) = argUp m c (ix3 0 k (colOf j f)) := by
  have e : @Eq (FVec Ideal S4x16x2048x512 .bf16) (V m c main_v2)
      (truncf (F := Ideal) (φ := .f32) .bf16 (transpose S4x16x2048x512 [0, 2, 1, 3] (shapeCast S4x2048x16x512 (argUp m c) shapeCasts_S4x2048x8192_S4x2048x16x512)
          transposes_S4x2048x16x512_S4x16x2048x512_0_2_1_3) bitsLt_bf16_f32) := by
    show StableHlo.after hostOps0 _ main_v2 = _
    after_results_simp
    rfl
  rw [e]
  pointwise

/-- The norms' gains as the launch finds them. -/
theorem V_pre (d : Fin 2048) : (V m c main_v3 : FVec Ideal S1x2048 .f32) (ix2 0 d) = argG1 m c (ix1 d) := by
  have e : @Eq (FVec Ideal S1x2048 .f32) (V m c main_v3) (shapeCast S1x2048 (argG1 m c) shapeCasts_S2048_S1x2048) := by
    show StableHlo.after hostOps0 _ main_v3 = _
    after_results_simp
    rfl
  rw [e]
  pointwise
theorem V_post (d : Fin 2048) : (V m c main_v4 : FVec Ideal S1x2048 .f32) (ix2 0 d) = argG2 m c (ix1 d) := by
  have e : @Eq (FVec Ideal S1x2048 .f32) (V m c main_v4) (shapeCast S1x2048 (argG2 m c) shapeCasts_S2048_S1x2048) := by
    show StableHlo.after hostOps0 _ main_v4 = _
    after_results_simp
    rfl
  rw [e]
  pointwise

/-- The block of input rows. -/
theorem blk_x (t : Fin cfg0.N) (r : Fin 1024) (d : Fin 2048) :
    (iblk m c 0 t : FVec Ideal S1024x2048 .f32) (ix2 r d) = argX m c (ix2 (rowOf (blkOf t) r) d) := by
  unfold iblk
  rw [View.read_apply]
  show V m c main_arg0 _ = _
  rw [V_main_arg0]
  obtain ⟨h0, h1⟩ := index0 t
  refine congrArg (m ((c : Thread nD τ).loc main_arg0)) (funext fun a => Fin.ext ?_)
  match a with
  | ⟨0, _⟩ => show win0_0.index t 0 * 1024 + 1 * r.val = t.val / 16 * 1024 + r.val; omega
  | ⟨1, _⟩ => show win0_0.index t 1 * 2048 + 1 * d.val = d.val; omega

/-- The gain before the first product, and the one after the second. -/
theorem blk_pre (t : Fin cfg0.N) (d : Fin 2048) :
    (iblk m c 1 t : FVec Ideal S1x2048 .f32) (ix2 0 d) = argG1 m c (ix1 d) := by
  rw [← V_pre m c d]
  unfold iblk
  rw [View.read_apply]
  show V m c main_v3 _ = _
  refine congrArg (V m c main_v3) (funext fun a => Fin.ext ?_)
  match a with
  | ⟨0, _⟩ => rfl
  | ⟨1, _⟩ => show 0 * 2048 + 1 * d.val = d.val; omega
theorem blk_post (t : Fin cfg0.N) (d : Fin 2048) :
    (iblk m c 2 t : FVec Ideal S1x2048 .f32) (ix2 0 d) = argG2 m c (ix1 d) := by
  rw [← V_post m c d]
  unfold iblk
  rw [View.read_apply]
  show V m c main_v4 _ = _
  refine congrArg (V m c main_v4) (funext fun a => Fin.ext ?_)
  match a with
  | ⟨0, _⟩ => rfl
  | ⟨1, _⟩ => show 0 * 2048 + 1 * d.val = d.val; omega

/-- The six modulation rows of a block. -/
theorem blk_mod (t : Fin cfg0.N) (q : Fin 6) (d : Fin 2048) :
    (iblk m c 3 t : FVec Ideal S1x6x2048 .f32) (ix3 0 q d) = argMod m c (ix3 (modOf (blkOf t)) q d) := by
  unfold iblk
  rw [View.read_apply]
  show V m c main_arg3 _ = _
  rw [V_main_arg3]
  obtain ⟨h0, h1, h2⟩ := index3 t
  refine congrArg (m ((c : Thread nD τ).loc main_arg3)) (funext fun a => Fin.ext ?_)
  match a with
  | ⟨0, _⟩ => show win0_3.index t 0 * 1 + 1 * 0 = (if t.val / 16 < 8 then 0 else t.val / 16 - 7); omega
  | ⟨1, _⟩ => show win0_3.index t 1 * 6 + 1 * q.val = q.val; omega
  | ⟨2, _⟩ => show win0_3.index t 2 * 2048 + 1 * d.val = d.val; omega

/-- A tile of the first weight's columns. -/
theorem blk_up (t : Fin cfg0.N) (k : Fin 2048) (f : Fin 512) :
    (iblk m c 4 t : FVec Ideal S1x1x2048x512 .bf16) (ix4 0 0 k f) = argUp m c (ix3 0 k (colOf (tileOf t) f)) := by
  rw [← V_up m c (tileOf t) k f]
  unfold iblk
  rw [View.read_apply]
  show V m c main_v2 _ = _
  obtain ⟨h0, h1, h2, h3⟩ := index4 t
  refine congrArg (V m c main_v2) (funext fun a => Fin.ext ?_)
  match a with
  | ⟨0, _⟩ => show win0_4.index t 0 * 1 + 1 * 0 = 0; omega
  | ⟨1, _⟩ => show win0_4.index t 1 * 1 + 1 * 0 = t.val % 16; omega
  | ⟨2, _⟩ => show win0_4.index t 2 * 2048 + 1 * k.val = k.val; omega
  | ⟨3, _⟩ => show win0_4.index t 3 * 512 + 1 * f.val = f.val; omega

/-- A tile of the second weight's rows. -/
theorem blk_down (t : Fin cfg0.N) (f : Fin 512) (d : Fin 2048) :
    (iblk m c 5 t : FVec Ideal S1x512x2048 .f32) (ix3 0 f d) = argDown m c (ix3 0 (colOf (tileOf t) f) d) := by
  unfold iblk
  rw [View.read_apply]
  show V m c main_arg5 _ = _
  rw [V_main_arg5]
  obtain ⟨h0, h1, h2⟩ := index5 t
  refine congrArg (m ((c : Thread nD τ).loc main_arg5)) (funext fun a => Fin.ext ?_)
  match a with
  | ⟨0, _⟩ => show win0_5.index t 0 * 1 + 1 * 0 = 0; omega
  | ⟨1, _⟩ => show win0_5.index t 1 * 512 + 1 * f.val = t.val % 16 * 512 + f.val; omega
  | ⟨2, _⟩ => show win0_5.index t 2 * 2048 + 1 * d.val = d.val; omega

end Cert.Ffn

end
-- ==== Proof.FfnFold.lean ====
/-
  The feed-forward call over its grid: after point `t` the carried rows are the normalised rows of `t`'s row block, and
  the output block is the product summed over the column tiles so far; after a row block's last tile it is the result.
-/
module

public import proofs.«01_k».proof.Proof.FfnBlock
public import proofs.«01_k».proof.Proof.FfnPay
public import proofs.«01_k».proof.Proof.FfnRead

@[expose] public section

set_option maxRecDepth 16384

noncomputable section

namespace Cert.Ffn

open Cert.Kernel2Ideal Cert.Kernel2Ideal.Gen
open Idealize.ShloMosaic Idealize.ShloMosaic.TcCoe Idealize.SL.Sem

/-! ## The sub-layer, plainly -/

section Plain
variable (X : FVec Ideal S16384x2048 .f32) (g1 g2 : FVec Ideal S2048 .f32) (M : FVec Ideal S16x6x2048 .f32)
  (U : FVec Ideal S4x2048x8192 .f32) (D : FVec Ideal S4x8192x2048 .f32)

/-- The modulation row of a row: the first for the context rows, then one for every 1024 rows. -/
def modRowOf (r : Fin 16384) : Fin 16 := ⟨if r.val < 8192 then 0 else 1 + (r.val - 8192) / 1024, by split <;> omega⟩

/-- A row, normalised, scaled and shifted. -/
def hin (r : Fin 16384) (d : Fin 2048) : EReal :=
  X (ix2 r d) * rs (fun k => X (ix2 r k)) * g1 (ix1 d) * (1 + M (ix3 (modRowOf r) 4 d)) + M (ix3 (modRowOf r) 3 d)

/-- The first product, rectified. -/
def act (r : Fin 16384) (f : Fin 8192) : EReal := max (∑ k : Fin 2048, hin X g1 M r k * U (ix3 0 k f)) 0

/-- A term of the second product. -/
def term (r : Fin 16384) (d : Fin 2048) (f : Fin 8192) : EReal := act X g1 M U r f * act X g1 M U r f * D (ix3 0 f d)

/-- The second product. -/
def mlp (r : Fin 16384) (d : Fin 2048) : EReal := ∑ f : Fin 8192, term X g1 M U D r d f

/-- The sub-layer's result. -/
def ffn (r : Fin 16384) (d : Fin 2048) : EReal :=
  X (ix2 r d) + M (ix3 (modRowOf r) 5 d) * (mlp X g1 M U D r d * rs (mlp X g1 M U D r) * g2 (ix1 d))

/-- The second product over the first `n` column tiles. -/
def upTo (r : Fin 16384) (d : Fin 2048) (n : ℕ) : EReal :=
  ∑ j : Fin 16, if j.val < n then ∑ f : Fin 512, term X g1 M U D r d (colOf j f) else 0

theorem upTo_zero (r : Fin 16384) (d : Fin 2048) : upTo X g1 M U D r d 0 = 0 := by
  simp [upTo]

/-- One tile more. -/
theorem upTo_succ (r : Fin 16384) (d : Fin 2048) (j : Fin 16) :
    upTo X g1 M U D r d (j.val + 1) = upTo X g1 M U D r d j.val + ∑ f : Fin 512, term X g1 M U D r d (colOf j f) := by
  unfold upTo
  rw [← Finset.sum_ite_eq' Finset.univ j (fun j => ∑ f : Fin 512, term X g1 M U D r d (colOf j f)) |>.trans (if_pos (Finset.mem_univ j)),
    ← Finset.sum_add_distrib]
  refine Finset.sum_congr rfl fun i _ => ?_
  by_cases h : i = j
  · subst h
    rw [if_pos (Nat.lt_succ_self _), if_neg (Nat.lt_irrefl _), if_pos rfl, zero_add]
  · have h' : i.val ≠ j.val := fun e => h (Fin.ext e)
    rw [if_neg h, add_zero]
    by_cases hlt : i.val < j.val
    · rw [if_pos hlt, if_pos (by omega)]
    · rw [if_neg hlt, if_neg (by omega)]

/-- All tiles: the whole product. -/
theorem upTo_all (r : Fin 16384) (d : Fin 2048) : upTo X g1 M U D r d 16 = mlp X g1 M U D r d := by
  unfold upTo mlp
  rw [← Equiv.sum_comp (finProdFinEquiv (m := 16) (n := 512)) (fun f : Fin (16 * 512) => term X g1 M U D r d f), Fintype.sum_prod_type]
  refine Finset.sum_congr rfl fun j _ => ?_
  rw [if_pos j.isLt]
  refine Finset.sum_congr rfl fun f _ => congrArg _ (Fin.ext ?_)
  show j.val * 512 + f.val = f.val + 512 * j.val
  omega

end Plain

/-! ## The grid -/

variable (m : (ℓ : Loc nD τ sig) → Buf (Elt Ideal) ℓ) (c : Dev nD)

theorem modRowOf_rowOf (b : Fin 16) (r : Fin 1024) : modRowOf (rowOf b r) = modOf b := by
  apply Fin.ext
  show (if b.val * 1024 + r.val < 8192 then 0 else 1 + (b.val * 1024 + r.val - 8192) / 1024) = if b.val < 8 then 0 else b.val - 7
  have := r.isLt
  split <;> split <;> omega

/-- The carried rows, at an index. -/
theorem carried_at (t : Fin cfg0.N) (r : Fin 1024) (d : Fin 2048) :
    k0_pay1 (F := Ideal) (iblk m c 0 t) (iblk m c 1 t) (modRow3 (iblk m c 3 t)) (modRow4 (iblk m c 3 t)) (ix2 r d)
      = hin (argX m c) (argG1 m c) (argMod m c) (rowOf (blkOf t) r) d := by
  have e3 : modRow3 (F := Ideal) (iblk m c 3 t) (ix3 0 0 d) = argMod m c (ix3 (modOf (blkOf t)) 3 d) := by
    rw [← blk_mod m c t 3 d]
    refine congrArg (iblk m c 3 t) (funext fun a => Fin.ext ?_)
    match a with
    | ⟨0, _⟩ => rfl
    | ⟨1, _⟩ => rfl
    | ⟨2, _⟩ => show 0 + 1 * d.val = d.val; omega
  have e4 : modRow4 (F := Ideal) (iblk m c 3 t) (ix3 0 0 d) = argMod m c (ix3 (modOf (blkOf t)) 4 d) := by
    rw [← blk_mod m c t 4 d]
    refine congrArg (iblk m c 3 t) (funext fun a => Fin.ext ?_)
    match a with
    | ⟨0, _⟩ => rfl
    | ⟨1, _⟩ => rfl
    | ⟨2, _⟩ => show 0 + 1 * d.val = d.val; omega
  refine (pay1_apply _ _ _ _ r d).trans ?_
  rw [e3, e4, blk_x, blk_pre]
  unfold hin
  rw [modRowOf_rowOf]
  simp only [blk_x]

/-- A tile's contribution over carried rows that are the block's normalised rows. -/
theorem tile_at (t : Fin cfg0.N) (h : FVec Ideal S1024x2048 .bf16) (o : FVec Ideal S1024x2048 .f32)
    (hh : ∀ (r : Fin 1024) (d : Fin 2048), h (ix2 r d) = hin (argX m c) (argG1 m c) (argMod m c) (rowOf (blkOf t) r) d)
    (ho : ∀ (r : Fin 1024) (d : Fin 2048), o (ix2 r d) = upTo (argX m c) (argG1 m c) (argMod m c) (argUp m c) (argDown m c) (rowOf (blkOf t) r) d (tileOf t).val)
    (r : Fin 1024) (d : Fin 2048) :
    k0_pay3 (F := Ideal) h (iblk m c 4 t) o (iblk m c 5 t) (ix2 r d)
      = upTo (argX m c) (argG1 m c) (argMod m c) (argUp m c) (argDown m c) (rowOf (blkOf t) r) d ((tileOf t).val + 1) := by
  refine (pay3_apply _ _ _ _ r d).trans ?_
  rw [upTo_succ, ho]
  simp only [hh, blk_up, blk_down]
  rfl

/-- The result at the last tile. -/
theorem last_at (t : Fin cfg0.N) (o : FVec Ideal S1024x2048 .f32)
    (ho : ∀ (r : Fin 1024) (d : Fin 2048), o (ix2 r d) = mlp (argX m c) (argG1 m c) (argMod m c) (argUp m c) (argDown m c) (rowOf (blkOf t) r) d)
    (r : Fin 1024) (d : Fin 2048) :
    k0_pay4 (F := Ideal) (iblk m c 0 t) (modRow5 (iblk m c 3 t)) o (iblk m c 2 t) (ix2 r d)
      = ffn (argX m c) (argG1 m c) (argG2 m c) (argMod m c) (argUp m c) (argDown m c) (rowOf (blkOf t) r) d := by
  have e5 : modRow5 (F := Ideal) (iblk m c 3 t) (ix3 0 0 d) = argMod m c (ix3 (modOf (blkOf t)) 5 d) := by
    rw [← blk_mod m c t 5 d]
    refine congrArg (iblk m c 3 t) (funext fun a => Fin.ext ?_)
    match a with
    | ⟨0, _⟩ => rfl
    | ⟨1, _⟩ => rfl
    | ⟨2, _⟩ => show 0 + 1 * d.val = d.val; omega
  refine (pay4_apply _ _ _ _ r d).trans ?_
  rw [e5, blk_x, blk_post]
  unfold ffn
  rw [modRowOf_rowOf]
  simp only [ho]

/-- What the output block and the carried rows hold after point `t`. -/
def Holds (t : Fin cfg0.N) (s : Vec Ideal S1024x2048 .f32 × Vec Ideal S1024x2048 .bf16) : Prop :=
  (∀ (r : Fin 1024) (d : Fin 2048), s.2 (ix2 r d) = hin (argX m c) (argG1 m c) (argMod m c) (rowOf (blkOf t) r) d)
  ∧ ∀ (r : Fin 1024) (d : Fin 2048), s.1 (ix2 r d)
      = if t.val % 16 = 15 then ffn (argX m c) (argG1 m c) (argG2 m c) (argMod m c) (argUp m c) (argDown m c) (rowOf (blkOf t) r) d
        else upTo (argX m c) (argG1 m c) (argMod m c) (argUp m c) (argDown m c) (rowOf (blkOf t) r) d (t.val % 16 + 1)

/-- A first tile's point. -/
theorem holds_first (t : Fin cfg0.N) (h0 : t.val % 16 = 0) : Holds m c t (outsAt0 m c t.val t.isLt) := by
  have h1 : ¬t.val % 16 = 15 := by omega
  rw [outsAt0_A m c t h0 h1, out_A, sout_A]
  refine ⟨carried_at m c t, fun r d => ?_⟩
  rw [if_neg h1]
  refine tile_at m c t _ _ (carried_at m c t) (fun r d => ?_) r d
  show k0_pay2 (F := Ideal) _ = upTo _ _ _ _ _ _ d (t.val % 16)
  rw [pay2_apply, h0, upTo_zero]

/-- A later tile's point, over what the point before left. -/
theorem holds_next (t : Fin cfg0.N) (h0 : ¬t.val % 16 = 0) (hlt : t.val - 1 < cfg0.N)
    (hacc : Holds m c ⟨t.val - 1, hlt⟩ (outsAt0 m c (t.val - 1) hlt)) : Holds m c t (outsAt0 m c t.val t.isLt) := by
  obtain ⟨t', ht'⟩ : ∃ t' : Fin cfg0.N, t' = ⟨t.val - 1, hlt⟩ := ⟨_, rfl⟩
  have ht : t.val = t'.val + 1 := by rw [ht']; show t.val = t.val - 1 + 1; omega
  rw [← ht'] at hacc
  generalize hE : outsAt0 m c (t.val - 1) hlt = acc at hacc
  have hb : blkOf t' = blkOf t := Fin.ext (by show t'.val / 16 = t.val / 16; omega)
  have h' : ¬t'.val % 16 = 15 := by omega
  have hj : t'.val % 16 + 1 = (tileOf t).val := by show t'.val % 16 + 1 = t.val % 16; omega
  obtain ⟨hs, ho⟩ := hacc
  rw [hb] at hs ho
  have ho' : ∀ (r : Fin 1024) (d : Fin 2048), acc.1 (ix2 r d) = upTo (argX m c) (argG1 m c) (argMod m c) (argUp m c) (argDown m c) (rowOf (blkOf t) r) d (tileOf t).val :=
    fun r d => by rw [ho r d, if_neg h', hj]
  have hT := tile_at m c t acc.2 acc.1 hs ho'
  by_cases h1 : t.val % 16 = 15
  · rw [outsAt0_C m c t h0 h1, out_C, hE]
    refine ⟨hs, fun r d => ?_⟩
    rw [if_pos h1]
    refine last_at m c t _ (fun r d => ?_) r d
    rw [hT r d, ← upTo_all]
    congr 1
    show t.val % 16 + 1 = 16
    omega
  · rw [outsAt0_B m c t h0 h1, out_B, hE]
    refine ⟨hs, fun r d => ?_⟩
    rw [if_neg h1]
    exact hT r d

/-- Every point. -/
theorem holds_all : ∀ (n : ℕ) (h : n < cfg0.N), Holds m c ⟨n, h⟩ (outsAt0 m c n h)
  | 0, h => holds_first m c ⟨0, h⟩ rfl
  | n + 1, h => by
    by_cases h0 : (n + 1) % 16 = 0
    · exact holds_first m c ⟨n + 1, h⟩ h0
    · exact holds_next m c ⟨n + 1, h⟩ h0 (Nat.lt_of_succ_lt h) (holds_all n (Nat.lt_of_succ_lt h))

/-! ## The result array -/

/-- The sub-layer's result as the contents of the result array. -/
def result : Buf (Elt Ideal) ((c : Thread nD τ).loc main_v5) :=
  fun i : S16384x2048.Idx => ffn (argX m c) (argG1 m c) (argG2 m c) (argMod m c) (argUp m c) (argDown m c) (i 0) (i 1)

theorem index6 : ∀ t : Fin cfg0.N, win0_6.index t 0 = t.val / 16 ∧ win0_6.index t 1 = 0 :=
  (by decide +kernel : ∀ t : Fin grid0.N, win0_6.index t 0 = t.val / 16 ∧ win0_6.index t 1 = 0)

/-- What a row block's last tile writes back is that block of the result. -/
theorem flushed_eq (t : Fin cfg0.N) (hf : (cfg0.win 6).flush t = true) :
    (dats m 0 c).flushed 6 t = ((cfg0.win 6).blk t).view.read (Elt Ideal) (result m c) := by
  show (cfg0.win 6).cut (grid0.coords t) ((dats m 0 c).after 6 t) = _
  rw [after0_6]
  have hm : t.val % 16 = 15 := (flush0_6 t).mp hf
  obtain ⟨e0, e1⟩ := index6 t
  have h := (holds_all m c t.val t.isLt).2
  funext y
  have hy := h (y 0) (y 1)
  rw [if_pos hm] at hy
  have hl : (cfg0.win 6).xinj (grid0.coords t) y = ix2 (y 0) (y 1) := by
    funext a; apply Fin.ext
    match a with
    | ⟨0, _⟩ => show (y 0).val = (y 0).val; rfl
    | ⟨1, _⟩ => show (y 1).val = (y 1).val; rfl
  show (outsAt0 m c t.val t.isLt).1 ((cfg0.win 6).xinj (grid0.coords t) y) = result m c (((cfg0.win 6).blk t).view.emb y)
  rw [hl]
  refine hy.trans ?_
  have hb0 : (((cfg0.win 6).blk t).view.emb y 0).val = win0_6.index t 0 * 1024 + 1 * (y 0).val := rfl
  have hb1 : (((cfg0.win 6).blk t).view.emb y 1).val = win0_6.index t 1 * 2048 + 1 * (y 1).val := rfl
  have q0 : rowOf (blkOf t) (y 0) = ((cfg0.win 6).blk t).view.emb y 0 := by
    apply Fin.ext
    rw [hb0, e0]
    show t.val / 16 * 1024 + (y 0).val = t.val / 16 * 1024 + 1 * (y 0).val
    omega
  have q1 : y 1 = ((cfg0.win 6).blk t).view.emb y 1 := by
    apply Fin.ext
    rw [hb1, e1]
    omega
  unfold result
  dsimp only
  rw [← q0, ← q1]

/-- Every index of the result array is in the block of its rows' last tile. -/
theorem covered (i : S16384x2048.Idx) : ∃ t : Fin cfg0.N, (cfg0.win 6).flush t = true ∧ i ∈ ((cfg0.win 6).blk t).view.set := by
  have h0 : (i 0).val < 16384 := (i 0).isLt
  have h1 : (i 1).val < 2048 := (i 1).isLt
  have hN : cfg0.N = 256 := N_0
  obtain ⟨t, ht⟩ : ∃ t : Fin cfg0.N, t.val = 16 * ((i 0).val / 1024) + 15 := ⟨⟨16 * ((i 0).val / 1024) + 15, by omega⟩, rfl⟩
  refine ⟨t, (flush0_6 t).mpr (by omega), ?_⟩
  obtain ⟨e0, e1⟩ := index6 t
  show i ∈ ((View.whole main_v5).slice (win0_6.rect t)).set
  rw [View.set_slice_whole, Rect.mem_set_unit]
  intro a
  match a with
  | ⟨0, _⟩ =>
    show win0_6.index t 0 * 1024 ≤ (i 0).val ∧ (i 0).val < win0_6.index t 0 * 1024 + 1024
    omega
  | ⟨1, _⟩ =>
    show win0_6.index t 1 * 2048 ≤ (i 1).val ∧ (i 1).val < win0_6.index t 1 * 2048 + 2048
    omega

/-- The result array ends holding the sub-layer's result. -/
theorem final : (dats m 0 c).arrAt 6 cfg0.N = result m c :=
  (dats m 0 c).arrAt_eq_of_cover 6 _ (fun t hf => flushed_eq m c t hf) covered

/-- The call's run: the result array holds the sub-layer's result, and the arguments are as they were. -/
theorem run (ρ : Dev nD → PrngReg) : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c)))⟩)
    (run_main m ρ)

end Cert.Ffn

end
-- ==== Proof.FfnRef.lean ====
/-
  The feed-forward reference read at an index: it is the plain sub-layer.
-/
module

public import proofs.«01_k».proof.Proof.Gen.Reference2Ideal.Read
public import proofs.«01_k».proof.Proof.FfnFold

@[expose] public section

set_option maxRecDepth 16384

noncomputable section

namespace Cert.Ffn

open Cert.Reference2Ideal Cert.Reference2Ideal.Gen Cert.Reference2Ideal.Read
open Idealize.ShloMosaic Idealize.ShloMosaic.TcCoe Idealize.SL.Sem

variable (X : FVec Ideal S16384x2048 .f32) (g1 g2 : FVec Ideal S2048 .f32) (M : FVec Ideal S16x6x2048 .f32)
  (U : FVec Ideal S4x2048x8192 .f32) (D : FVec Ideal S4x8192x2048 .f32)

/-- The joined modulation vectors: row `r` takes the vectors of its sample. -/
theorem ref_mods (r : Fin 16384) (q : Fin 6) (d : Fin 2048) : val_main_v6 (F := Ideal) M (ix3 r q d) = M (ix3 (modRowOf r) q d) := by
  unfold val_main_v6
  by_cases h : r.val < 8192
  · have e := concatenate_pair_apply_left (t := S16384x6x2048) (s₁ := S8192x6x2048) (s₂ := S8192x6x2048) 0 (val_main_v1 (F := Ideal) M)
      (val_main_v5 (F := Ideal) M) concatenates_S8192x6x2048_S8192x6x2048_S16384x6x2048_d0 (ix3 r q d) rfl (ix3 (⟨r.val, h⟩ : Fin 8192) q d)
      (by intro b; match b with | ⟨0, _⟩ => rfl | ⟨1, _⟩ => rfl | ⟨2, _⟩ => rfl)
    refine e.trans ?_
    rw [val_main_v1_apply, val_main_v0_apply]
    refine congrArg M (funext fun a => Fin.ext ?_)
    match a with
    | ⟨0, _⟩ => show 0 + 0 = if r.val < 8192 then 0 else _; rw [if_pos h]
    | ⟨1, _⟩ => rfl
    | ⟨2, _⟩ => rfl
  · have hr := r.isLt
    have e := concatenate_pair_apply_right (t := S16384x6x2048) (s₁ := S8192x6x2048) (s₂ := S8192x6x2048) 0 (val_main_v1 (F := Ideal) M)
      (val_main_v5 (F := Ideal) M) concatenates_S8192x6x2048_S8192x6x2048_S16384x6x2048_d0 (ix3 r q d) rfl rfl
      (ix3 (⟨r.val - 8192, by omega⟩ : Fin 8192) q d)
      (by intro b hb; match b with | ⟨0, _⟩ => exact absurd rfl hb | ⟨1, _⟩ => rfl | ⟨2, _⟩ => rfl)
      (by show r.val - 8192 + 8192 = r.val; omega)
    refine e.trans ?_
    rw [val_main_v5_apply, val_main_v4_apply, val_main_v3_apply, val_main_v2_apply]
    have hq := q.isLt
    have hd := d.isLt
    refine congrArg M (funext fun a => Fin.ext ?_)
    match a with
    | ⟨0, _⟩ =>
      show 1 + (((r.val - 8192) * 6 + q.val) * 2048 + d.val) / 12582912 = if r.val < 8192 then 0 else _
      rw [if_neg h]
      omega
    | ⟨1, _⟩ => show (((r.val - 8192) * 6 + q.val) * 2048 + d.val) / 2048 % 6 = q.val; omega
    | ⟨2, _⟩ => show (((r.val - 8192) * 6 + q.val) * 2048 + d.val) % 2048 = d.val; omega

/-- The shift vectors. -/
theorem ref_sh (r : Fin 16384) (d : Fin 2048) : val_main_v8 (F := Ideal) M (ix2 r d) = M (ix3 (modRowOf r) 3 d) := by
  rw [← ref_mods M r]
  pointwise [val_main_v8, val_main_v7]

/-- The scale vectors. -/
theorem ref_sc (r : Fin 16384) (d : Fin 2048) : val_main_v10 (F := Ideal) M (ix2 r d) = M (ix3 (modRowOf r) 4 d) := by
  rw [← ref_mods M r]
  pointwise [val_main_v10, val_main_v9]

/-- The gate vectors. -/
theorem ref_gate (r : Fin 16384) (d : Fin 2048) : val_main_v12 (F := Ideal) M (ix2 r d) = M (ix3 (modRowOf r) 5 d) := by
  rw [← ref_mods M r]
  pointwise [val_main_v12, val_main_v11]

/-- The normalised, scaled and shifted rows. -/
theorem ref_hin (r : Fin 16384) (d : Fin 2048) : val_main_v29 (F := Ideal) X g1 M (ix2 r d) = hin X g1 M r d := by
  unfold hin
  rw [← ref_sh M r d, ← ref_sc M r d]
  pointwise [val_main_v29, val_main_v28, val_main_v27, val_main_v26, val_main_cst_2, val_main_v25, val_main_v24, val_main_v23, val_main_v22,
    val_main_v21, val_main_v20, val_main_v19, val_main_v18, val_main_cst_1, val_main_v17, val_main_v16, val_main_cst_0, val_main_v15, val_main_v14,
    val_main_cst, val_main_v13]
  rfl

/-- The rectified first product. -/
theorem ref_act (r : Fin 16384) (f : Fin 8192) : val_main_v33 (F := Ideal) X g1 M U (ix2 r f) = act X g1 M U r f := by
  unfold act
  simp only [← ref_hin]
  pointwise [val_main_v33, val_main_v32, val_main_call0_v0, val_main_call0_cst, val_main_v31, val_main_v30]

/-- The second product. -/
theorem ref_mlp (r : Fin 16384) (d : Fin 2048) : val_main_v37 (F := Ideal) X g1 M U D (ix2 r d) = mlp X g1 M U D r d := by
  unfold mlp term
  simp only [← ref_act]
  pointwise [val_main_v37, val_main_v34, val_main_v36, val_main_v35]

/-- The reference's result. -/
theorem ref_ffn (r : Fin 16384) (d : Fin 2048) : val_main_v52 (F := Ideal) X g1 g2 M U D (ix2 r d) = ffn X g1 g2 M U D r d := by
  unfold ffn
  rw [← ref_gate M r d, funext (fun k => (ref_mlp X g1 M U D r k).symm)]
  pointwise [val_main_v52, val_main_v51, val_main_v50, val_main_v49, val_main_v48, val_main_v47, val_main_v46, val_main_v45, val_main_v44,
    val_main_v43, val_main_v42, val_main_v41, val_main_v40, val_main_v39, val_main_v38, val_main_cst_3, val_main_cst_4, val_main_cst_5]
  rfl

/-- The reference's result array. -/
theorem ref_eq : (val_main_v52 (F := Ideal) X g1 g2 M U D : FVec Ideal S16384x2048 .f32) = fun i => ffn X g1 g2 M U D (i 0) (i 1) := by
  funext i
  obtain ⟨r, d, rfl⟩ : ∃ (r : Fin 16384) (d : Fin 2048), i = ix2 r d := ⟨i 0, i 1, funext fun a => match a with | ⟨0, _⟩ => rfl | ⟨1, _⟩ => rfl⟩
  exact ref_ffn X g1 g2 M U D r d

end Cert.Ffn

end
-- ==== Proof.Ffn1Block.lean ====
/-
  The feed-forward call, one grid point at a time: what each of the three cases of its body (first, middle and last
  column tile of a row block) leaves in the output block and in the normalised rows it carries.
-/
module

public import proofs.«01_k».proof.Proof.Gen.Kernel3Ideal.Frame
public import Idealize.ShloMosaic.Lib.Pipeline.Value
public import Idealize.ShloMosaic.Lib.Pointwise
public import Idealize.ShloMosaic.Lib.IdealHost

@[expose] public section

set_option maxRecDepth 16384

noncomputable section

namespace Cert.Ffn1

open Cert.Kernel3Ideal Cert.Kernel3Ideal.Gen
open Idealize.ShloMosaic Idealize.ShloMosaic.TcCoe Idealize.SL.Sem

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl
theorem off4 : (![0, 0, 0, 0] : Fin 4 → Nat) = fun _ => 0 := funext fun a => by fin_cases a <;> rfl

/-- Row `r` of a block of six modulation rows. -/
abbrev modRow3 (x3 : Vec F S1x6x2048 .f32) : Vec F S1x1x2048 .f32 :=
  View.ld x3 (Rect.unit (s := S1x6x2048) ![0, 3, 0] S1x1x2048.size inb_S1x6x2048_S1x1x2048_0_3_0)
/-- The modulation block's row of scales. -/
abbrev modRow4 (x3 : Vec F S1x6x2048 .f32) : Vec F S1x1x2048 .f32 :=
  View.ld x3 (Rect.unit (s := S1x6x2048) ![0, 4, 0] S1x1x2048.size inb_S1x6x2048_S1x1x2048_0_4_0)
/-- The modulation block's row of gates. -/
abbrev modRow5 (x3 : Vec F S1x6x2048 .f32) : Vec F S1x1x2048 .f32 :=
  View.ld x3 (Rect.unit (s := S1x6x2048) ![0, 5, 0] S1x1x2048.size inb_S1x6x2048_S1x1x2048_0_5_0)

section Cases
variable (c : Dev nD) (i : grid0.Coords) (arg2 : Memref sig .tc .vmem S1024x2048 .f32) (harg2 : arg2.IsWhole)
  (arg3 : Memref sig .tc .vmem S1x2048 .f32) (harg3 : arg3.IsWhole) (arg4 : Memref sig .tc .vmem S1x2048 .f32) (harg4 : arg4.IsWhole)
  (arg5 : Memref sig .tc .vmem S1x6x2048 .f32) (harg5 : arg5.IsWhole) (arg6 : Memref sig .tc .vmem S1x1x2048x512 .bf16) (harg6 : arg6.IsWhole)
  (arg7 : Memref sig .tc .vmem S1x512x2048 .f32) (harg7 : arg7.IsWhole) (arg8 : Memref sig .tc .vmem S1024x2048 .f32) (harg8 : arg8.IsWhole)
  (arg9 : Memref sig .tc .vmem S1024x2048 .bf16) (harg9 : arg9.IsWhole)
  (x0 : Vec F S1024x2048 .f32) (x1 x2 : Vec F S1x2048 .f32) (x3 : Vec F S1x6x2048 .f32) (x4 : Vec F S1x1x2048x512 .bf16)
  (x5 : Vec F S1x512x2048 .f32) (xo : Vec F S1024x2048 .f32) (xs : Vec F S1024x2048 .bf16)

/-- A middle tile adds its contribution to the output block. -/
theorem out_B (hc0 : ¬cond0_0 i) (hc1 : ¬cond0_1 i) :
    out0_B_6 c i arg2 harg2 arg3 harg3 arg4 harg4 arg5 harg5 arg6 harg6 arg7 harg7 arg8 harg8 arg9 harg9 hc0 hc1 x0 x1 x2 x3 x4 x5 xo xs
      = k0_pay3 xs x4 xo x5 := by
  unfold out0_B_6
  rw [View.read_writes_eq_canon _ _ _ (cover0_B_6 c i arg2 harg2 arg3 harg3 arg4 harg4 arg5 harg5 arg6 harg6 arg7 harg7 arg8 harg8 arg9 harg9 hc0 hc1 x0 x1 x2 x3 x4 x5 xo xs)]
  unfold kernelRun0_B
  dsimp only
  sl_unfold_words
  rw [View.canon_unit_zero off2]
  simp only [View.readAt_eq_ld, harg6.read_unread, harg7.read_unread, harg8.read_unread, harg9.read_unread,
    View.ld_unit_zero (S := S1024x2048) off2, View.ld_unit_zero (S := S1x1x2048x512) off4, View.ld_unit_zero (S := S1x512x2048) off3]

/-- The first tile stores the normalised, scaled and shifted rows and starts the output block from zeros. -/
theorem out_A (hc0 : cond0_0 i) (hc1 : ¬cond0_1 i) :
    out0_A_6 c i arg2 harg2 arg3 harg3 arg4 harg4 arg5 harg5 arg6 harg6 arg7 harg7 arg8 harg8 arg9 harg9 hc0 hc1 x0 x1 x2 x3 x4 x5
      = k0_pay3 (k0_pay1 x0 x1 (modRow3 x3) (modRow4 x3)) x4 (k0_pay2 (F := F)) x5 := by
  unfold out0_A_6
  rw [View.read_writes_eq_canon _ _ _ (cover0_A_6 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1024x2048) off2]
  simp only [View.readCov_unit_zero (S := S1024x2048) _ off2, View.readAt_eq_ld, harg2.read_unread, harg3.read_unread, harg5.read_unread, harg6.read_unread, harg7.read_unread,
    View.ld_unit_zero (S := S1024x2048) off2, View.ld_unit_zero (S := S1x2048) off2, View.ld_unit_zero (S := S1x1x2048x512) off4, View.ld_unit_zero (S := S1x512x2048) off3]

/-- The rows the first tile leaves for the others. -/
theorem sout_A (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 x4 x5
      = k0_pay1 x0 x1 (modRow3 x3) (modRow4 x3) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_unit_zero off2]
  simp only [View.readAt_eq_ld, harg2.read_unread, harg3.read_unread, harg5.read_unread,
    View.ld_unit_zero (S := S1024x2048) off2, View.ld_unit_zero (S := S1x2048) off2]

/-- The last tile adds its contribution, normalises, and adds the gated result to the input rows. -/
theorem out_C (hc0 : ¬cond0_0 i) (hc1 : cond0_1 i) :
    out0_C_6 c i arg2 harg2 arg3 harg3 arg4 harg4 arg5 harg5 arg6 harg6 arg7 harg7 arg8 harg8 arg9 harg9 hc0 hc1 x0 x1 x2 x3 x4 x5 xo xs
      = k0_pay4 x0 (modRow5 x3) (k0_pay3 xs x4 xo x5) x2 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xo xs)]
  unfold kernelRun0_C
  dsimp only
  sl_unfold_words
  rw [View.canon_cons_unit_zero (S := S1024x2048) off2]
  simp only [View.readCov_unit_zero (S := S1024x2048) _ off2, View.readAt_eq_ld, harg2.read_unread, harg4.read_unread, harg5.read_unread, harg6.read_unread, harg7.read_unread, harg8.read_unread, harg9.read_unread,
    View.ld_unit_zero (S := S1024x2048) off2, View.ld_unit_zero (S := S1x2048) off2, View.ld_unit_zero (S := S1x1x2048x512) off4, View.ld_unit_zero (S := S1x512x2048) off3]

end Cases

end Cert.Ffn1

end
-- ==== Proof.Ffn1Pay.lean ====
/-
  The feed-forward call's stored values read at an index, over the extended reals.
-/
module

public import proofs.«01_k».proof.Proof.Gen.Kernel3Ideal.Skeleton
public import Idealize.ShloMosaic.Lib.Pointwise
public import Idealize.ShloMosaic.Lib.IdealHost

@[expose] public section

set_option maxRecDepth 16384

noncomputable section

namespace Cert.Ffn1

open Cert.Kernel3Ideal Cert.Kernel3Ideal.Gen
open Idealize.ShloMosaic Idealize.ShloMosaic.TcCoe Idealize.SL.Sem

/-- The reciprocal root mean square of a row of 2048 entries, as the kernel and the plain formula both print it. -/
def rs (v : Fin 2048 → EReal) : EReal :=
  Ideal.rsqrt (Ideal.div (∑ k, v k * v k) (Ideal.ofBits .f32 0x45000000#32) + Ideal.ofBits .f32 0x358637BD#32)

/-- The carried rows: normalised, scaled and shifted. -/
theorem pay1_apply (x : FVec Ideal S1024x2048 .f32) (g : FVec Ideal S1x2048 .f32) (sh sc : FVec Ideal S1x1x2048 .f32) (r : Fin 1024) (d : Fin 2048) :
    k0_pay1 (F := Ideal) x g sh sc (ix2 r d)
      = x (ix2 r d) * rs (fun k => x (ix2 r k)) * g (ix2 0 d) * (1 + sc (ix3 0 0 d)) + sh (ix3 0 0 d) := by
  pointwise [k0_pay1]
  rfl

/-- The first tile's starting value. -/
theorem pay2_apply (j : S1024x2048.Idx) : k0_pay2 (F := Ideal) j = 0 := by
  pointwise [k0_pay2]

/-- A tile's contribution: the squared rectified product with its 512 columns, times its 512 rows. -/
theorem pay3_apply (h : FVec Ideal S1024x2048 .bf16) (wu : FVec Ideal S1x1x2048x512 .bf16) (o : FVec Ideal S1024x2048 .f32)
    (wd : FVec Ideal S1x512x2048 .f32) (r : Fin 1024) (d : Fin 2048) :
    k0_pay3 (F := Ideal) h wu o wd (ix2 r d)
      = o (ix2 r d) + ∑ f : Fin 512, max (∑ k : Fin 2048, h (ix2 r k) * wu (ix4 0 0 k f)) 0
          * max (∑ k : Fin 2048, h (ix2 r k) * wu (ix4 0 0 k f)) 0 * wd (ix3 0 f d) := by
  pointwise [k0_pay3]

/-- The last tile's result: the input row plus the gated, normalised product. -/
theorem pay4_apply (x : FVec Ideal S1024x2048 .f32) (g5 : FVec Ideal S1x1x2048 .f32) (o : FVec Ideal S1024x2048 .f32)
    (g : FVec Ideal S1x2048 .f32) (r : Fin 1024) (d : Fin 2048) :
    k0_pay4 (F := Ideal) x g5 o g (ix2 r d)
      = x (ix2 r d) + g5 (ix3 0 0 d) * (o (ix2 r d) * rs (fun k => o (ix2 r k)) * g (ix2 0 d)) := by
  pointwise [k0_pay4]
  rfl

end Cert.Ffn1

end
-- ==== Proof.Ffn1Read.lean ====
/-
  The feed-forward call's input blocks at an index, in terms of the arguments.
-/
module

public import proofs.«01_k».proof.Proof.Gen.Kernel3Ideal.Frame
public import Idealize.ShloMosaic.Lib.Pointwise
public import Idealize.ShloMosaic.Lib.StableHlo.Run
public import Idealize.ShloMosaic.Lib.IdealHost

@[expose] public section

set_option maxRecDepth 16384

noncomputable section

namespace Cert.Ffn1

open Cert.Kernel3Ideal Cert.Kernel3Ideal.Gen
open Idealize.ShloMosaic Idealize.ShloMosaic.TcCoe Idealize.SL.Sem

variable (m : (ℓ : Loc nD τ sig) → Buf (Elt Ideal) ℓ) (c : Dev nD)

/-- The arguments: rows, the two gains, modulation rows and the two weights. -/
abbrev argX : FVec Ideal S16384x2048 .f32 := m ((c : Thread nD τ).loc main_arg0)
abbrev argG1 : FVec Ideal S2048 .f32 := m ((c : Thread nD τ).loc main_arg1)
abbrev argG2 : FVec Ideal S2048 .f32 := m ((c : Thread nD τ).loc main_arg2)
abbrev argMod : FVec Ideal S16x6x2048 .f32 := m ((c : Thread nD τ).loc main_arg3)
abbrev argUp : FVec Ideal S4x2048x8192 .f32 := m ((c : Thread nD τ).loc main_arg4)
abbrev argDown : FVec Ideal S4x8192x2048 .f32 := m ((c : Thread nD τ).loc main_arg5)

/-- Row `r` of row block `b`. -/
abbrev rowOf (b : Fin 16) (r : Fin 1024) : Fin 16384 := ⟨b.val * 1024 + r.val, by omega⟩
/-- Column `f` of column tile `j`. -/
abbrev colOf (j : Fin 16) (f : Fin 512) : Fin 8192 := ⟨j.val * 512 + f.val, by omega⟩
/-- The modulation row a row block is given: the first for the 8 blocks of context rows, then one for each block. -/
abbrev modOf (b : Fin 16) : Fin 16 := ⟨if b.val < 8 then 0 else b.val - 7, by split <;> omega⟩
/-- A grid point's row block and column tile. -/
abbrev blkOf (t : Fin cfg0.N) : Fin 16 := ⟨t.val / 16, by have := lt_of_lt_of_eq t.isLt (show cfg0.N = 256 from N_0); omega⟩
abbrev tileOf (t : Fin cfg0.N) : Fin 16 := ⟨t.val % 16, by omega⟩

theorem index0 : ∀ t : Fin cfg0.N, win0_0.index t 0 = t.val / 16 ∧ win0_0.index t 1 = 0 :=
  (by decide +kernel : ∀ t : Fin grid0.N, win0_0.index t 0 = t.val / 16 ∧ win0_0.index t 1 = 0)
theorem index3 : ∀ t : Fin cfg0.N, win0_3.index t 0 = (if t.val / 16 < 8 then 0 else t.val / 16 - 7) ∧ win0_3.index t 1 = 0 ∧ win0_3.index t 2 = 0 :=
  (by decide +kernel : ∀ t : Fin grid0.N, win0_3.index t 0 = (if t.val / 16 < 8 then 0 else t.val / 16 - 7) ∧ win0_3.index t 1 = 0 ∧ win0_3.index t 2 = 0)
theorem index4 : ∀ t : Fin cfg0.N, win0_4.index t 0 = 1 ∧ win0_4.index t 1 = t.val % 16 ∧ win0_4.index t 2 = 0 ∧ win0_4.index t 3 = 0 :=
  (by decide +kernel : ∀ t : Fin grid0.N, win0_4.index t 0 = 1 ∧ win0_4.index t 1 = t.val % 16 ∧ win0_4.index t 2 = 0 ∧ win0_4.index t 3 = 0)
theorem index5 : ∀ t : Fin cfg0.N, win0_5.index t 0 = 1 ∧ win0_5.index t 1 = t.val % 16 ∧ win0_5.index t 2 = 0 :=
  (by decide +kernel : ∀ t : Fin grid0.N, win0_5.index t 0 = 1 ∧ win0_5.index t 1 = t.val % 16 ∧ win0_5.index t 2 = 0)

/-- The first weight as the launch finds it: cut into 16 tiles of 512 columns. -/
theorem V_up (j : Fin 16) (k : Fin 2048) (f : Fin 512) :
    (V m c main_v2 : FVec Ideal S4x16x2048x512 .bf16) (ix4 1 j k f) = argUp m c (ix3 1 k (colOf j f)) := by
  have e : @Eq (FVec Ideal S4x16x2048x512 .bf16) (V m c main_v2)
      (truncf (F := Ideal) (φ := .f32) .bf16 (transpose S4x16x2048x512 [0, 2, 1, 3] (shapeCast S4x2048x16x512 (argUp m c) shapeCasts_S4x2048x8192_S4x2048x16x512)
          transposes_S4x2048x16x512_S4x16x2048x512_0_2_1_3) bitsLt_bf16_f32) := by
    show StableHlo.after hostOps0 _ main_v2 = _
    after_results_simp
    rfl
  rw [e]
  pointwise

/-- The norms' gains as the launch finds them. -/
theorem V_pre (d : Fin 2048) : (V m c main_v3 : FVec Ideal S1x2048 .f32) (ix2 0 d) = argG1 m c (ix1 d) := by
  have e : @Eq (FVec Ideal S1x2048 .f32) (V m c main_v3) (shapeCast S1x2048 (argG1 m c) shapeCasts_S2048_S1x2048) := by
    show StableHlo.after hostOps0 _ main_v3 = _
    after_results_simp
    rfl
  rw [e]
  pointwise
theorem V_post (d : Fin 2048) : (V m c main_v4 : FVec Ideal S1x2048 .f32) (ix2 0 d) = argG2 m c (ix1 d) := by
  have e : @Eq (FVec Ideal S1x2048 .f32) (V m c main_v4) (shapeCast S1x2048 (argG2 m c) shapeCasts_S2048_S1x2048) := by
    show StableHlo.after hostOps0 _ main_v4 = _
    after_results_simp
    rfl
  rw [e]
  pointwise

/-- The block of input rows. -/
theorem blk_x (t : Fin cfg0.N) (r : Fin 1024) (d : Fin 2048) :
    (iblk m c 0 t : FVec Ideal S1024x2048 .f32) (ix2 r d) = argX m c (ix2 (rowOf (blkOf t) r) d) := by
  unfold iblk
  rw [View.read_apply]
  show V m c main_arg0 _ = _
  rw [V_main_arg0]
  obtain ⟨h0, h1⟩ := index0 t
  refine congrArg (m ((c : Thread nD τ).loc main_arg0)) (funext fun a => Fin.ext ?_)
  match a with
  | ⟨0, _⟩ => show win0_0.index t 0 * 1024 + 1 * r.val = t.val / 16 * 1024 + r.val; omega
  | ⟨1, _⟩ => show win0_0.index t 1 * 2048 + 1 * d.val = d.val; omega

/-- The gain before the first product, and the one after the second. -/
theorem blk_pre (t : Fin cfg0.N) (d : Fin 2048) :
    (iblk m c 1 t : FVec Ideal S1x2048 .f32) (ix2 0 d) = argG1 m c (ix1 d) := by
  rw [← V_pre m c d]
  unfold iblk
  rw [View.read_apply]
  show V m c main_v3 _ = _
  refine congrArg (V m c main_v3) (funext fun a => Fin.ext ?_)
  match a with
  | ⟨0, _⟩ => rfl
  | ⟨1, _⟩ => show 0 * 2048 + 1 * d.val = d.val; omega
theorem blk_post (t : Fin cfg0.N) (d : Fin 2048) :
    (iblk m c 2 t : FVec Ideal S1x2048 .f32) (ix2 0 d) = argG2 m c (ix1 d) := by
  rw [← V_post m c d]
  unfold iblk
  rw [View.read_apply]
  show V m c main_v4 _ = _
  refine congrArg (V m c main_v4) (funext fun a => Fin.ext ?_)
  match a with
  | ⟨0, _⟩ => rfl
  | ⟨1, _⟩ => show 0 * 2048 + 1 * d.val = d.val; omega

/-- The six modulation rows of a block. -/
theorem blk_mod (t : Fin cfg0.N) (q : Fin 6) (d : Fin 2048) :
    (iblk m c 3 t : FVec Ideal S1x6x2048 .f32) (ix3 0 q d) = argMod m c (ix3 (modOf (blkOf t)) q d) := by
  unfold iblk
  rw [View.read_apply]
  show V m c main_arg3 _ = _
  rw [V_main_arg3]
  obtain ⟨h0, h1, h2⟩ := index3 t
  refine congrArg (m ((c : Thread nD τ).loc main_arg3)) (funext fun a => Fin.ext ?_)
  match a with
  | ⟨0, _⟩ => show win0_3.index t 0 * 1 + 1 * 0 = (if t.val / 16 < 8 then 0 else t.val / 16 - 7); omega
  | ⟨1, _⟩ => show win0_3.index t 1 * 6 + 1 * q.val = q.val; omega
  | ⟨2, _⟩ => show win0_3.index t 2 * 2048 + 1 * d.val = d.val; omega

/-- A tile of the first weight's columns. -/
theorem blk_up (t : Fin cfg0.N) (k : Fin 2048) (f : Fin 512) :
    (iblk m c 4 t : FVec Ideal S1x1x2048x512 .bf16) (ix4 0 0 k f) = argUp m c (ix3 1 k (colOf (tileOf t) f)) := by
  rw [← V_up m c (tileOf t) k f]
  unfold iblk
  rw [View.read_apply]
  show V m c main_v2 _ = _
  obtain ⟨h0, h1, h2, h3⟩ := index4 t
  refine congrArg (V m c main_v2) (funext fun a => Fin.ext ?_)
  match a with
  | ⟨0, _⟩ => show win0_4.index t 0 * 1 + 1 * 0 = 1; omega
  | ⟨1, _⟩ => show win0_4.index t 1 * 1 + 1 * 0 = t.val % 16; omega
  | ⟨2, _⟩ => show win0_4.index t 2 * 2048 + 1 * k.val = k.val; omega
  | ⟨3, _⟩ => show win0_4.index t 3 * 512 + 1 * f.val = f.val; omega

/-- A tile of the second weight's rows. -/
theorem blk_down (t : Fin cfg0.N) (f : Fin 512) (d : Fin 2048) :
    (iblk m c 5 t : FVec Ideal S1x512x2048 .f32) (ix3 0 f d) = argDown m c (ix3 1 (colOf (tileOf t) f) d) := by
  unfold iblk
  rw [View.read_apply]
  show V m c main_arg5 _ = _
  rw [V_main_arg5]
  obtain ⟨h0, h1, h2⟩ := index5 t
  refine congrArg (m ((c : Thread nD τ).loc main_arg5)) (funext fun a => Fin.ext ?_)
  match a with
  | ⟨0, _⟩ => show win0_5.index t 0 * 1 + 1 * 0 = 1; omega
  | ⟨1, _⟩ => show win0_5.index t 1 * 512 + 1 * f.val = t.val % 16 * 512 + f.val; omega
  | ⟨2, _⟩ => show win0_5.index t 2 * 2048 + 1 * d.val = d.val; omega

end Cert.Ffn1

end
-- ==== Proof.Ffn1Fold.lean ====
/-
  The feed-forward call over its grid: after point `t` the carried rows are the normalised rows of `t`'s row block, and
  the output block is the product summed over the column tiles so far; after a row block's last tile it is the result.
-/
module

public import proofs.«01_k».proof.Proof.Ffn1Block
public import proofs.«01_k».proof.Proof.Ffn1Pay
public import proofs.«01_k».proof.Proof.Ffn1Read

@[expose] public section

set_option maxRecDepth 16384

noncomputable section

namespace Cert.Ffn1

open Cert.Kernel3Ideal Cert.Kernel3Ideal.Gen
open Idealize.ShloMosaic Idealize.ShloMosaic.TcCoe Idealize.SL.Sem

/-! ## The sub-layer, plainly -/

section Plain
variable (X : FVec Ideal S16384x2048 .f32) (g1 g2 : FVec Ideal S2048 .f32) (M : FVec Ideal S16x6x2048 .f32)
  (U : FVec Ideal S4x2048x8192 .f32) (D : FVec Ideal S4x8192x2048 .f32)

/-- The modulation row of a row: the first for the context rows, then one for every 1024 rows. -/
def modRowOf (r : Fin 16384) : Fin 16 := ⟨if r.val < 8192 then 0 else 1 + (r.val - 8192) / 1024, by split <;> omega⟩

/-- A row, normalised, scaled and shifted. -/
def hin (r : Fin 16384) (d : Fin 2048) : EReal :=
  X (ix2 r d) * rs (fun k => X (ix2 r k)) * g1 (ix1 d) * (1 + M (ix3 (modRowOf r) 4 d)) + M (ix3 (modRowOf r) 3 d)

/-- The first product, rectified. -/
def act (r : Fin 16384) (f : Fin 8192) : EReal := max (∑ k : Fin 2048, hin X g1 M r k * U (ix3 1 k f)) 0

/-- A term of the second product. -/
def term (r : Fin 16384) (d : Fin 2048) (f : Fin 8192) : EReal := act X g1 M U r f * act X g1 M U r f * D (ix3 1 f d)

/-- The second product. -/
def mlp (r : Fin 16384) (d : Fin 2048) : EReal := ∑ f : Fin 8192, term X g1 M U D r d f

/-- The sub-layer's result. -/
def ffn (r : Fin 16384) (d : Fin 2048) : EReal :=
  X (ix2 r d) + M (ix3 (modRowOf r) 5 d) * (mlp X g1 M U D r d * rs (mlp X g1 M U D r) * g2 (ix1 d))

/-- The second product over the first `n` column tiles. -/
def upTo (r : Fin 16384) (d : Fin 2048) (n : ℕ) : EReal :=
  ∑ j : Fin 16, if j.val < n then ∑ f : Fin 512, term X g1 M U D r d (colOf j f) else 0

theorem upTo_zero (r : Fin 16384) (d : Fin 2048) : upTo X g1 M U D r d 0 = 0 := by
  simp [upTo]

/-- One tile more. -/
theorem upTo_succ (r : Fin 16384) (d : Fin 2048) (j : Fin 16) :
    upTo X g1 M U D r d (j.val + 1) = upTo X g1 M U D r d j.val + ∑ f : Fin 512, term X g1 M U D r d (colOf j f) := by
  unfold upTo
  rw [← Finset.sum_ite_eq' Finset.univ j (fun j => ∑ f : Fin 512, term X g1 M U D r d (colOf j f)) |>.trans (if_pos (Finset.mem_univ j)),
    ← Finset.sum_add_distrib]
  refine Finset.sum_congr rfl fun i _ => ?_
  by_cases h : i = j
  · subst h
    rw [if_pos (Nat.lt_succ_self _), if_neg (Nat.lt_irrefl _), if_pos rfl, zero_add]
  · have h' : i.val ≠ j.val := fun e => h (Fin.ext e)
    rw [if_neg h, add_zero]
    by_cases hlt : i.val < j.val
    · rw [if_pos hlt, if_pos (by omega)]
    · rw [if_neg hlt, if_neg (by omega)]

/-- All tiles: the whole product. -/
theorem upTo_all (r : Fin 16384) (d : Fin 2048) : upTo X g1 M U D r d 16 = mlp X g1 M U D r d := by
  unfold upTo mlp
  rw [← Equiv.sum_comp (finProdFinEquiv (m := 16) (n := 512)) (fun f : Fin (16 * 512) => term X g1 M U D r d f), Fintype.sum_prod_type]
  refine Finset.sum_congr rfl fun j _ => ?_
  rw [if_pos j.isLt]
  refine Finset.sum_congr rfl fun f _ => congrArg _ (Fin.ext ?_)
  show j.val * 512 + f.val = f.val + 512 * j.val
  omega

end Plain

/-! ## The grid -/

variable (m : (ℓ : Loc nD τ sig) → Buf (Elt Ideal) ℓ) (c : Dev nD)

theorem modRowOf_rowOf (b : Fin 16) (r : Fin 1024) : modRowOf (rowOf b r) = modOf b := by
  apply Fin.ext
  show (if b.val * 1024 + r.val < 8192 then 0 else 1 + (b.val * 1024 + r.val - 8192) / 1024) = if b.val < 8 then 0 else b.val - 7
  have := r.isLt
  split <;> split <;> omega

/-- The carried rows, at an index. -/
theorem carried_at (t : Fin cfg0.N) (r : Fin 1024) (d : Fin 2048) :
    k0_pay1 (F := Ideal) (iblk m c 0 t) (iblk m c 1 t) (modRow3 (iblk m c 3 t)) (modRow4 (iblk m c 3 t)) (ix2 r d)
      = hin (argX m c) (argG1 m c) (argMod m c) (rowOf (blkOf t) r) d := by
  have e3 : modRow3 (F := Ideal) (iblk m c 3 t) (ix3 0 0 d) = argMod m c (ix3 (modOf (blkOf t)) 3 d) := by
    rw [← blk_mod m c t 3 d]
    refine congrArg (iblk m c 3 t) (funext fun a => Fin.ext ?_)
    match a with
    | ⟨0, _⟩ => rfl
    | ⟨1, _⟩ => rfl
    | ⟨2, _⟩ => show 0 + 1 * d.val = d.val; omega
  have e4 : modRow4 (F := Ideal) (iblk m c 3 t) (ix3 0 0 d) = argMod m c (ix3 (modOf (blkOf t)) 4 d) := by
    rw [← blk_mod m c t 4 d]
    refine congrArg (iblk m c 3 t) (funext fun a => Fin.ext ?_)
    match a with
    | ⟨0, _⟩ => rfl
    | ⟨1, _⟩ => rfl
    | ⟨2, _⟩ => show 0 + 1 * d.val = d.val; omega
  refine (pay1_apply _ _ _ _ r d).trans ?_
  rw [e3, e4, blk_x, blk_pre]
  unfold hin
  rw [modRowOf_rowOf]
  simp only [blk_x]

/-- A tile's contribution over carried rows that are the block's normalised rows. -/
theorem tile_at (t : Fin cfg0.N) (h : FVec Ideal S1024x2048 .bf16) (o : FVec Ideal S1024x2048 .f32)
    (hh : ∀ (r : Fin 1024) (d : Fin 2048), h (ix2 r d) = hin (argX m c) (argG1 m c) (argMod m c) (rowOf (blkOf t) r) d)
    (ho : ∀ (r : Fin 1024) (d : Fin 2048), o (ix2 r d) = upTo (argX m c) (argG1 m c) (argMod m c) (argUp m c) (argDown m c) (rowOf (blkOf t) r) d (tileOf t).val)
    (r : Fin 1024) (d : Fin 2048) :
    k0_pay3 (F := Ideal) h (iblk m c 4 t) o (iblk m c 5 t) (ix2 r d)
      = upTo (argX m c) (argG1 m c) (argMod m c) (argUp m c) (argDown m c) (rowOf (blkOf t) r) d ((tileOf t).val + 1) := by
  refine (pay3_apply _ _ _ _ r d).trans ?_
  rw [upTo_succ, ho]
  simp only [hh, blk_up, blk_down]
  rfl

/-- The result at the last tile. -/
theorem last_at (t : Fin cfg0.N) (o : FVec Ideal S1024x2048 .f32)
    (ho : ∀ (r : Fin 1024) (d : Fin 2048), o (ix2 r d) = mlp (argX m c) (argG1 m c) (argMod m c) (argUp m c) (argDown m c) (rowOf (blkOf t) r) d)
    (r : Fin 1024) (d : Fin 2048) :
    k0_pay4 (F := Ideal) (iblk m c 0 t) (modRow5 (iblk m c 3 t)) o (iblk m c 2 t) (ix2 r d)
      = ffn (argX m c) (argG1 m c) (argG2 m c) (argMod m c) (argUp m c) (argDown m c) (rowOf (blkOf t) r) d := by
  have e5 : modRow5 (F := Ideal) (iblk m c 3 t) (ix3 0 0 d) = argMod m c (ix3 (modOf (blkOf t)) 5 d) := by
    rw [← blk_mod m c t 5 d]
    refine congrArg (iblk m c 3 t) (funext fun a => Fin.ext ?_)
    match a with
    | ⟨0, _⟩ => rfl
    | ⟨1, _⟩ => rfl
    | ⟨2, _⟩ => show 0 + 1 * d.val = d.val; omega
  refine (pay4_apply _ _ _ _ r d).trans ?_
  rw [e5, blk_x, blk_post]
  unfold ffn
  rw [modRowOf_rowOf]
  simp only [ho]

/-- What the output block and the carried rows hold after point `t`. -/
def Holds (t : Fin cfg0.N) (s : Vec Ideal S1024x2048 .f32 × Vec Ideal S1024x2048 .bf16) : Prop :=
  (∀ (r : Fin 1024) (d : Fin 2048), s.2 (ix2 r d) = hin (argX m c) (argG1 m c) (argMod m c) (rowOf (blkOf t) r) d)
  ∧ ∀ (r : Fin 1024) (d : Fin 2048), s.1 (ix2 r d)
      = if t.val % 16 = 15 then ffn (argX m c) (argG1 m c) (argG2 m c) (argMod m c) (argUp m c) (argDown m c) (rowOf (blkOf t) r) d
        else upTo (argX m c) (argG1 m c) (argMod m c) (argUp m c) (argDown m c) (rowOf (blkOf t) r) d (t.val % 16 + 1)

/-- A first tile's point. -/
theorem holds_first (t : Fin cfg0.N) (h0 : t.val % 16 = 0) : Holds m c t (outsAt0 m c t.val t.isLt) := by
  have h1 : ¬t.val % 16 = 15 := by omega
  rw [outsAt0_A m c t h0 h1, out_A, sout_A]
  refine ⟨carried_at m c t, fun r d => ?_⟩
  rw [if_neg h1]
  refine tile_at m c t _ _ (carried_at m c t) (fun r d => ?_) r d
  show k0_pay2 (F := Ideal) _ = upTo _ _ _ _ _ _ d (t.val % 16)
  rw [pay2_apply, h0, upTo_zero]

/-- A later tile's point, over what the point before left. -/
theorem holds_next (t : Fin cfg0.N) (h0 : ¬t.val % 16 = 0) (hlt : t.val - 1 < cfg0.N)
    (hacc : Holds m c ⟨t.val - 1, hlt⟩ (outsAt0 m c (t.val - 1) hlt)) : Holds m c t (outsAt0 m c t.val t.isLt) := by
  obtain ⟨t', ht'⟩ : ∃ t' : Fin cfg0.N, t' = ⟨t.val - 1, hlt⟩ := ⟨_, rfl⟩
  have ht : t.val = t'.val + 1 := by rw [ht']; show t.val = t.val - 1 + 1; omega
  rw [← ht'] at hacc
  generalize hE : outsAt0 m c (t.val - 1) hlt = acc at hacc
  have hb : blkOf t' = blkOf t := Fin.ext (by show t'.val / 16 = t.val / 16; omega)
  have h' : ¬t'.val % 16 = 15 := by omega
  have hj : t'.val % 16 + 1 = (tileOf t).val := by show t'.val % 16 + 1 = t.val % 16; omega
  obtain ⟨hs, ho⟩ := hacc
  rw [hb] at hs ho
  have ho' : ∀ (r : Fin 1024) (d : Fin 2048), acc.1 (ix2 r d) = upTo (argX m c) (argG1 m c) (argMod m c) (argUp m c) (argDown m c) (rowOf (blkOf t) r) d (tileOf t).val :=
    fun r d => by rw [ho r d, if_neg h', hj]
  have hT := tile_at m c t acc.2 acc.1 hs ho'
  by_cases h1 : t.val % 16 = 15
  · rw [outsAt0_C m c t h0 h1, out_C, hE]
    refine ⟨hs, fun r d => ?_⟩
    rw [if_pos h1]
    refine last_at m c t _ (fun r d => ?_) r d
    rw [hT r d, ← upTo_all]
    congr 1
    show t.val % 16 + 1 = 16
    omega
  · rw [outsAt0_B m c t h0 h1, out_B, hE]
    refine ⟨hs, fun r d => ?_⟩
    rw [if_neg h1]
    exact hT r d

/-- Every point. -/
theorem holds_all : ∀ (n : ℕ) (h : n < cfg0.N), Holds m c ⟨n, h⟩ (outsAt0 m c n h)
  | 0, h => holds_first m c ⟨0, h⟩ rfl
  | n + 1, h => by
    by_cases h0 : (n + 1) % 16 = 0
    · exact holds_first m c ⟨n + 1, h⟩ h0
    · exact holds_next m c ⟨n + 1, h⟩ h0 (Nat.lt_of_succ_lt h) (holds_all n (Nat.lt_of_succ_lt h))

/-! ## The result array -/

/-- The sub-layer's result as the contents of the result array. -/
def result : Buf (Elt Ideal) ((c : Thread nD τ).loc main_v5) :=
  fun i : S16384x2048.Idx => ffn (argX m c) (argG1 m c) (argG2 m c) (argMod m c) (argUp m c) (argDown m c) (i 0) (i 1)

theorem index6 : ∀ t : Fin cfg0.N, win0_6.index t 0 = t.val / 16 ∧ win0_6.index t 1 = 0 :=
  (by decide +kernel : ∀ t : Fin grid0.N, win0_6.index t 0 = t.val / 16 ∧ win0_6.index t 1 = 0)

/-- What a row block's last tile writes back is that block of the result. -/
theorem flushed_eq (t : Fin cfg0.N) (hf : (cfg0.win 6).flush t = true) :
    (dats m 0 c).flushed 6 t = ((cfg0.win 6).blk t).view.read (Elt Ideal) (result m c) := by
  show (cfg0.win 6).cut (grid0.coords t) ((dats m 0 c).after 6 t) = _
  rw [after0_6]
  have hm : t.val % 16 = 15 := (flush0_6 t).mp hf
  obtain ⟨e0, e1⟩ := index6 t
  have h := (holds_all m c t.val t.isLt).2
  funext y
  have hy := h (y 0) (y 1)
  rw [if_pos hm] at hy
  have hl : (cfg0.win 6).xinj (grid0.coords t) y = ix2 (y 0) (y 1) := by
    funext a; apply Fin.ext
    match a with
    | ⟨0, _⟩ => show (y 0).val = (y 0).val; rfl
    | ⟨1, _⟩ => show (y 1).val = (y 1).val; rfl
  show (outsAt0 m c t.val t.isLt).1 ((cfg0.win 6).xinj (grid0.coords t) y) = result m c (((cfg0.win 6).blk t).view.emb y)
  rw [hl]
  refine hy.trans ?_
  have hb0 : (((cfg0.win 6).blk t).view.emb y 0).val = win0_6.index t 0 * 1024 + 1 * (y 0).val := rfl
  have hb1 : (((cfg0.win 6).blk t).view.emb y 1).val = win0_6.index t 1 * 2048 + 1 * (y 1).val := rfl
  have q0 : rowOf (blkOf t) (y 0) = ((cfg0.win 6).blk t).view.emb y 0 := by
    apply Fin.ext
    rw [hb0, e0]
    show t.val / 16 * 1024 + (y 0).val = t.val / 16 * 1024 + 1 * (y 0).val
    omega
  have q1 : y 1 = ((cfg0.win 6).blk t).view.emb y 1 := by
    apply Fin.ext
    rw [hb1, e1]
    omega
  unfold result
  dsimp only
  rw [← q0, ← q1]

/-- Every index of the result array is in the block of its rows' last tile. -/
theorem covered (i : S16384x2048.Idx) : ∃ t : Fin cfg0.N, (cfg0.win 6).flush t = true ∧ i ∈ ((cfg0.win 6).blk t).view.set := by
  have h0 : (i 0).val < 16384 := (i 0).isLt
  have h1 : (i 1).val < 2048 := (i 1).isLt
  have hN : cfg0.N = 256 := N_0
  obtain ⟨t, ht⟩ : ∃ t : Fin cfg0.N, t.val = 16 * ((i 0).val / 1024) + 15 := ⟨⟨16 * ((i 0).val / 1024) + 15, by omega⟩, rfl⟩
  refine ⟨t, (flush0_6 t).mpr (by omega), ?_⟩
  obtain ⟨e0, e1⟩ := index6 t
  show i ∈ ((View.whole main_v5).slice (win0_6.rect t)).set
  rw [View.set_slice_whole, Rect.mem_set_unit]
  intro a
  match a with
  | ⟨0, _⟩ =>
    show win0_6.index t 0 * 1024 ≤ (i 0).val ∧ (i 0).val < win0_6.index t 0 * 1024 + 1024
    omega
  | ⟨1, _⟩ =>
    show win0_6.index t 1 * 2048 ≤ (i 1).val ∧ (i 1).val < win0_6.index t 1 * 2048 + 2048
    omega

/-- The result array ends holding the sub-layer's result. -/
theorem final : (dats m 0 c).arrAt 6 cfg0.N = result m c :=
  (dats m 0 c).arrAt_eq_of_cover 6 _ (fun t hf => flushed_eq m c t hf) covered

/-- The call's run: the result array holds the sub-layer's result, and the arguments are as they were. -/
theorem run (ρ : Dev nD → PrngReg) : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c)))⟩)
    (run_main m ρ)

end Cert.Ffn1

end
-- ==== Proof.Ffn1Ref.lean ====
/-
  The feed-forward reference read at an index: it is the plain sub-layer.
-/
module

public import proofs.«01_k».proof.Proof.Gen.Reference3Ideal.Read
public import proofs.«01_k».proof.Proof.Ffn1Fold

@[expose] public section

set_option maxRecDepth 16384

noncomputable section

namespace Cert.Ffn1

open Cert.Reference3Ideal Cert.Reference3Ideal.Gen Cert.Reference3Ideal.Read
open Idealize.ShloMosaic Idealize.ShloMosaic.TcCoe Idealize.SL.Sem

variable (X : FVec Ideal S16384x2048 .f32) (g1 g2 : FVec Ideal S2048 .f32) (M : FVec Ideal S16x6x2048 .f32)
  (U : FVec Ideal S4x2048x8192 .f32) (D : FVec Ideal S4x8192x2048 .f32)

/-- The joined modulation vectors: row `r` takes the vectors of its sample. -/
theorem ref_mods (r : Fin 16384) (q : Fin 6) (d : Fin 2048) : val_main_v6 (F := Ideal) M (ix3 r q d) = M (ix3 (modRowOf r) q d) := by
  unfold val_main_v6
  by_cases h : r.val < 8192
  · have e := concatenate_pair_apply_left (t := S16384x6x2048) (s₁ := S8192x6x2048) (s₂ := S8192x6x2048) 0 (val_main_v1 (F := Ideal) M)
      (val_main_v5 (F := Ideal) M) concatenates_S8192x6x2048_S8192x6x2048_S16384x6x2048_d0 (ix3 r q d) rfl (ix3 (⟨r.val, h⟩ : Fin 8192) q d)
      (by intro b; match b with | ⟨0, _⟩ => rfl | ⟨1, _⟩ => rfl | ⟨2, _⟩ => rfl)
    refine e.trans ?_
    rw [val_main_v1_apply, val_main_v0_apply]
    refine congrArg M (funext fun a => Fin.ext ?_)
    match a with
    | ⟨0, _⟩ => show 0 + 0 = if r.val < 8192 then 0 else _; rw [if_pos h]
    | ⟨1, _⟩ => rfl
    | ⟨2, _⟩ => rfl
  · have hr := r.isLt
    have e := concatenate_pair_apply_right (t := S16384x6x2048) (s₁ := S8192x6x2048) (s₂ := S8192x6x2048) 0 (val_main_v1 (F := Ideal) M)
      (val_main_v5 (F := Ideal) M) concatenates_S8192x6x2048_S8192x6x2048_S16384x6x2048_d0 (ix3 r q d) rfl rfl
      (ix3 (⟨r.val - 8192, by omega⟩ : Fin 8192) q d)
      (by intro b hb; match b with | ⟨0, _⟩ => exact absurd rfl hb | ⟨1, _⟩ => rfl | ⟨2, _⟩ => rfl)
      (by show r.val - 8192 + 8192 = r.val; omega)
    refine e.trans ?_
    rw [val_main_v5_apply, val_main_v4_apply, val_main_v3_apply, val_main_v2_apply]
    have hq := q.isLt
    have hd := d.isLt
    refine congrArg M (funext fun a => Fin.ext ?_)
    match a with
    | ⟨0, _⟩ =>
      show 1 + (((r.val - 8192) * 6 + q.val) * 2048 + d.val) / 12582912 = if r.val < 8192 then 0 else _
      rw [if_neg h]
      omega
    | ⟨1, _⟩ => show (((r.val - 8192) * 6 + q.val) * 2048 + d.val) / 2048 % 6 = q.val; omega
    | ⟨2, _⟩ => show (((r.val - 8192) * 6 + q.val) * 2048 + d.val) % 2048 = d.val; omega

/-- The shift vectors. -/
theorem ref_sh (r : Fin 16384) (d : Fin 2048) : val_main_v8 (F := Ideal) M (ix2 r d) = M (ix3 (modRowOf r) 3 d) := by
  rw [← ref_mods M r]
  pointwise [val_main_v8, val_main_v7]

/-- The scale vectors. -/
theorem ref_sc (r : Fin 16384) (d : Fin 2048) : val_main_v10 (F := Ideal) M (ix2 r d) = M (ix3 (modRowOf r) 4 d) := by
  rw [← ref_mods M r]
  pointwise [val_main_v10, val_main_v9]

/-- The gate vectors. -/
theorem ref_gate (r : Fin 16384) (d : Fin 2048) : val_main_v12 (F := Ideal) M (ix2 r d) = M (ix3 (modRowOf r) 5 d) := by
  rw [← ref_mods M r]
  pointwise [val_main_v12, val_main_v11]

/-- The normalised, scaled and shifted rows. -/
theorem ref_hin (r : Fin 16384) (d : Fin 2048) : val_main_v29 (F := Ideal) X g1 M (ix2 r d) = hin X g1 M r d := by
  unfold hin
  rw [← ref_sh M r d, ← ref_sc M r d]
  pointwise [val_main_v29, val_main_v28, val_main_v27, val_main_v26, val_main_cst_2, val_main_v25, val_main_v24, val_main_v23, val_main_v22,
    val_main_v21, val_main_v20, val_main_v19, val_main_v18, val_main_cst_1, val_main_v17, val_main_v16, val_main_cst_0, val_main_v15, val_main_v14,
    val_main_cst, val_main_v13]
  rfl

/-- The rectified first product. -/
theorem ref_act (r : Fin 16384) (f : Fin 8192) : val_main_v33 (F := Ideal) X g1 M U (ix2 r f) = act X g1 M U r f := by
  unfold act
  simp only [← ref_hin]
  pointwise [val_main_v33, val_main_v32, val_main_call0_v0, val_main_call0_cst, val_main_v31, val_main_v30]

/-- The second product. -/
theorem ref_mlp (r : Fin 16384) (d : Fin 2048) : val_main_v37 (F := Ideal) X g1 M U D (ix2 r d) = mlp X g1 M U D r d := by
  unfold mlp term
  simp only [← ref_act]
  pointwise [val_main_v37, val_main_v34, val_main_v36, val_main_v35]

/-- The reference's result. -/
theorem ref_ffn (r : Fin 16384) (d : Fin 2048) : val_main_v52 (F := Ideal) X g1 g2 M U D (ix2 r d) = ffn X g1 g2 M U D r d := by
  unfold ffn
  rw [← ref_gate M r d, funext (fun k => (ref_mlp X g1 M U D r k).symm)]
  pointwise [val_main_v52, val_main_v51, val_main_v50, val_main_v49, val_main_v48, val_main_v47, val_main_v46, val_main_v45, val_main_v44,
    val_main_v43, val_main_v42, val_main_v41, val_main_v40, val_main_v39, val_main_v38, val_main_cst_3, val_main_cst_4, val_main_cst_5]
  rfl

/-- The reference's result array. -/
theorem ref_eq : (val_main_v52 (F := Ideal) X g1 g2 M U D : FVec Ideal S16384x2048 .f32) = fun i => ffn X g1 g2 M U D (i 0) (i 1) := by
  funext i
  obtain ⟨r, d, rfl⟩ : ∃ (r : Fin 16384) (d : Fin 2048), i = ix2 r d := ⟨i 0, i 1, funext fun a => match a with | ⟨0, _⟩ => rfl | ⟨1, _⟩ => rfl⟩
  exact ref_ffn X g1 g2 M U D r d

end Cert.Ffn1

end
-- ==== Proof.Ffn2Block.lean ====
/-
  The feed-forward call, one grid point at a time: what each of the three cases of its body (first, middle and last
  column tile of a row block) leaves in the output block and in the normalised rows it carries.
-/
module

public import proofs.«01_k».proof.Proof.Gen.Kernel4Ideal.Frame
public import Idealize.ShloMosaic.Lib.Pipeline.Value
public import Idealize.ShloMosaic.Lib.Pointwise
public import Idealize.ShloMosaic.Lib.IdealHost

@[expose] public section

set_option maxRecDepth 16384

noncomputable section

namespace Cert.Ffn2

open Cert.Kernel4Ideal Cert.Kernel4Ideal.Gen
open Idealize.ShloMosaic Idealize.ShloMosaic.TcCoe Idealize.SL.Sem

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl
theorem off4 : (![0, 0, 0, 0] : Fin 4 → Nat) = fun _ => 0 := funext fun a => by fin_cases a <;> rfl

/-- Row `r` of a block of six modulation rows. -/
abbrev modRow3 (x3 : Vec F S1x6x2048 .f32) : Vec F S1x1x2048 .f32 :=
  View.ld x3 (Rect.unit (s := S1x6x2048) ![0, 3, 0] S1x1x2048.size inb_S1x6x2048_S1x1x2048_0_3_0)
/-- The modulation block's row of scales. -/
abbrev modRow4 (x3 : Vec F S1x6x2048 .f32) : Vec F S1x1x2048 .f32 :=
  View.ld x3 (Rect.unit (s := S1x6x2048) ![0, 4, 0] S1x1x2048.size inb_S1x6x2048_S1x1x2048_0_4_0)
/-- The modulation block's row of gates. -/
abbrev modRow5 (x3 : Vec F S1x6x2048 .f32) : Vec F S1x1x2048 .f32 :=
  View.ld x3 (Rect.unit (s := S1x6x2048) ![0, 5, 0] S1x1x2048.size inb_S1x6x2048_S1x1x2048_0_5_0)

section Cases
variable (c : Dev nD) (i : grid0.Coords) (arg2 : Memref sig .tc .vmem S1024x2048 .f32) (harg2 : arg2.IsWhole)
  (arg3 : Memref sig .tc .vmem S1x2048 .f32) (harg3 : arg3.IsWhole) (arg4 : Memref sig .tc .vmem S1x2048 .f32) (harg4 : arg4.IsWhole)
  (arg5 : Memref sig .tc .vmem S1x6x2048 .f32) (harg5 : arg5.IsWhole) (arg6 : Memref sig .tc .vmem S1x1x2048x512 .bf16) (harg6 : arg6.IsWhole)
  (arg7 : Memref sig .tc .vmem S1x512x2048 .f32) (harg7 : arg7.IsWhole) (arg8 : Memref sig .tc .vmem S1024x2048 .f32) (harg8 : arg8.IsWhole)
  (arg9 : Memref sig .tc .vmem S1024x2048 .bf16) (harg9 : arg9.IsWhole)
  (x0 : Vec F S1024x2048 .f32) (x1 x2 : Vec F S1x2048 .f32) (x3 : Vec F S1x6x2048 .f32) (x4 : Vec F S1x1x2048x512 .bf16)
  (x5 : Vec F S1x512x2048 .f32) (xo : Vec F S1024x2048 .f32) (xs : Vec F S1024x2048 .bf16)

/-- A middle tile adds its contribution to the output block. -/
theorem out_B (hc0 : ¬cond0_0 i) (hc1 : ¬cond0_1 i) :
    out0_B_6 c i arg2 harg2 arg3 harg3 arg4 harg4 arg5 harg5 arg6 harg6 arg7 harg7 arg8 harg8 arg9 harg9 hc0 hc1 x0 x1 x2 x3 x4 x5 xo xs
      = k0_pay3 xs x4 xo x5 := by
  unfold out0_B_6
  rw [View.read_writes_eq_canon _ _ _ (cover0_B_6 c i arg2 harg2 arg3 harg3 arg4 harg4 arg5 harg5 arg6 harg6 arg7 harg7 arg8 harg8 arg9 harg9 hc0 hc1 x0 x1 x2 x3 x4 x5 xo xs)]
  unfold kernelRun0_B
  dsimp only
  sl_unfold_words
  rw [View.canon_unit_zero off2]
  simp only [View.readAt_eq_ld, harg6.read_unread, harg7.read_unread, harg8.read_unread, harg9.read_unread,
    View.ld_unit_zero (S := S1024x2048) off2, View.ld_unit_zero (S := S1x1x2048x512) off4, View.ld_unit_zero (S := S1x512x2048) off3]

/-- The first tile stores the normalised, scaled and shifted rows and starts the output block from zeros. -/
theorem out_A (hc0 : cond0_0 i) (hc1 : ¬cond0_1 i) :
    out0_A_6 c i arg2 harg2 arg3 harg3 arg4 harg4 arg5 harg5 arg6 harg6 arg7 harg7 arg8 harg8 arg9 harg9 hc0 hc1 x0 x1 x2 x3 x4 x5
      = k0_pay3 (k0_pay1 x0 x1 (modRow3 x3) (modRow4 x3)) x4 (k0_pay2 (F := F)) x5 := by
  unfold out0_A_6
  rw [View.read_writes_eq_canon _ _ _ (cover0_A_6 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1024x2048) off2]
  simp only [View.readCov_unit_zero (S := S1024x2048) _ off2, View.readAt_eq_ld, harg2.read_unread, harg3.read_unread, harg5.read_unread, harg6.read_unread, harg7.read_unread,
    View.ld_unit_zero (S := S1024x2048) off2, View.ld_unit_zero (S := S1x2048) off2, View.ld_unit_zero (S := S1x1x2048x512) off4, View.ld_unit_zero (S := S1x512x2048) off3]

/-- The rows the first tile leaves for the others. -/
theorem sout_A (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 x4 x5
      = k0_pay1 x0 x1 (modRow3 x3) (modRow4 x3) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_unit_zero off2]
  simp only [View.readAt_eq_ld, harg2.read_unread, harg3.read_unread, harg5.read_unread,
    View.ld_unit_zero (S := S1024x2048) off2, View.ld_unit_zero (S := S1x2048) off2]

/-- The last tile adds its contribution, normalises, and adds the gated result to the input rows. -/
theorem out_C (hc0 : ¬cond0_0 i) (hc1 : cond0_1 i) :
    out0_C_6 c i arg2 harg2 arg3 harg3 arg4 harg4 arg5 harg5 arg6 harg6 arg7 harg7 arg8 harg8 arg9 harg9 hc0 hc1 x0 x1 x2 x3 x4 x5 xo xs
      = k0_pay4 x0 (modRow5 x3) (k0_pay3 xs x4 xo x5) x2 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xo xs)]
  unfold kernelRun0_C
  dsimp only
  sl_unfold_words
  rw [View.canon_cons_unit_zero (S := S1024x2048) off2]
  simp only [View.readCov_unit_zero (S := S1024x2048) _ off2, View.readAt_eq_ld, harg2.read_unread, harg4.read_unread, harg5.read_unread, harg6.read_unread, harg7.read_unread, harg8.read_unread, harg9.read_unread,
    View.ld_unit_zero (S := S1024x2048) off2, View.ld_unit_zero (S := S1x2048) off2, View.ld_unit_zero (S := S1x1x2048x512) off4, View.ld_unit_zero (S := S1x512x2048) off3]

end Cases

end Cert.Ffn2

end
-- ==== Proof.Ffn2Pay.lean ====
/-
  The feed-forward call's stored values read at an index, over the extended reals.
-/
module

public import proofs.«01_k».proof.Proof.Gen.Kernel4Ideal.Skeleton
public import Idealize.ShloMosaic.Lib.Pointwise
public import Idealize.ShloMosaic.Lib.IdealHost

@[expose] public section

set_option maxRecDepth 16384

noncomputable section

namespace Cert.Ffn2

open Cert.Kernel4Ideal Cert.Kernel4Ideal.Gen
open Idealize.ShloMosaic Idealize.ShloMosaic.TcCoe Idealize.SL.Sem

/-- The reciprocal root mean square of a row of 2048 entries, as the kernel and the plain formula both print it. -/
def rs (v : Fin 2048 → EReal) : EReal :=
  Ideal.rsqrt (Ideal.div (∑ k, v k * v k) (Ideal.ofBits .f32 0x45000000#32) + Ideal.ofBits .f32 0x358637BD#32)

/-- The carried rows: normalised, scaled and shifted. -/
theorem pay1_apply (x : FVec Ideal S1024x2048 .f32) (g : FVec Ideal S1x2048 .f32) (sh sc : FVec Ideal S1x1x2048 .f32) (r : Fin 1024) (d : Fin 2048) :
    k0_pay1 (F := Ideal) x g sh sc (ix2 r d)
      = x (ix2 r d) * rs (fun k => x (ix2 r k)) * g (ix2 0 d) * (1 + sc (ix3 0 0 d)) + sh (ix3 0 0 d) := by
  pointwise [k0_pay1]
  rfl

/-- The first tile's starting value. -/
theorem pay2_apply (j : S1024x2048.Idx) : k0_pay2 (F := Ideal) j = 0 := by
  pointwise [k0_pay2]

/-- A tile's contribution: the squared rectified product with its 512 columns, times its 512 rows. -/
theorem pay3_apply (h : FVec Ideal S1024x2048 .bf16) (wu : FVec Ideal S1x1x2048x512 .bf16) (o : FVec Ideal S1024x2048 .f32)
    (wd : FVec Ideal S1x512x2048 .f32) (r : Fin 1024) (d : Fin 2048) :
    k0_pay3 (F := Ideal) h wu o wd (ix2 r d)
      = o (ix2 r d) + ∑ f : Fin 512, max (∑ k : Fin 2048, h (ix2 r k) * wu (ix4 0 0 k f)) 0
          * max (∑ k : Fin 2048, h (ix2 r k) * wu (ix4 0 0 k f)) 0 * wd (ix3 0 f d) := by
  pointwise [k0_pay3]

/-- The last tile's result: the input row plus the gated, normalised product. -/
theorem pay4_apply (x : FVec Ideal S1024x2048 .f32) (g5 : FVec Ideal S1x1x2048 .f32) (o : FVec Ideal S1024x2048 .f32)
    (g : FVec Ideal S1x2048 .f32) (r : Fin 1024) (d : Fin 2048) :
    k0_pay4 (F := Ideal) x g5 o g (ix2 r d)
      = x (ix2 r d) + g5 (ix3 0 0 d) * (o (ix2 r d) * rs (fun k => o (ix2 r k)) * g (ix2 0 d)) := by
  pointwise [k0_pay4]
  rfl

end Cert.Ffn2

end
-- ==== Proof.Ffn2Read.lean ====
/-
  The feed-forward call's input blocks at an index, in terms of the arguments.
-/
module

public import proofs.«01_k».proof.Proof.Gen.Kernel4Ideal.Frame
public import Idealize.ShloMosaic.Lib.Pointwise
public import Idealize.ShloMosaic.Lib.StableHlo.Run
public import Idealize.ShloMosaic.Lib.IdealHost

@[expose] public section

set_option maxRecDepth 16384

noncomputable section

namespace Cert.Ffn2

open Cert.Kernel4Ideal Cert.Kernel4Ideal.Gen
open Idealize.ShloMosaic Idealize.ShloMosaic.TcCoe Idealize.SL.Sem

variable (m : (ℓ : Loc nD τ sig) → Buf (Elt Ideal) ℓ) (c : Dev nD)

/-- The arguments: rows, the two gains, modulation rows and the two weights. -/
abbrev argX : FVec Ideal S16384x2048 .f32 := m ((c : Thread nD τ).loc main_arg0)
abbrev argG1 : FVec Ideal S2048 .f32 := m ((c : Thread nD τ).loc main_arg1)
abbrev argG2 : FVec Ideal S2048 .f32 := m ((c : Thread nD τ).loc main_arg2)
abbrev argMod : FVec Ideal S16x6x2048 .f32 := m ((c : Thread nD τ).loc main_arg3)
abbrev argUp : FVec Ideal S4x2048x8192 .f32 := m ((c : Thread nD τ).loc main_arg4)
abbrev argDown : FVec Ideal S4x8192x2048 .f32 := m ((c : Thread nD τ).loc main_arg5)

/-- Row `r` of row block `b`. -/
abbrev rowOf (b : Fin 16) (r : Fin 1024) : Fin 16384 := ⟨b.val * 1024 + r.val, by omega⟩
/-- Column `f` of column tile `j`. -/
abbrev colOf (j : Fin 16) (f : Fin 512) : Fin 8192 := ⟨j.val * 512 + f.val, by omega⟩
/-- The modulation row a row block is given: the first for the 8 blocks of context rows, then one for each block. -/
abbrev modOf (b : Fin 16) : Fin 16 := ⟨if b.val < 8 then 0 else b.val - 7, by split <;> omega⟩
/-- A grid point's row block and column tile. -/
abbrev blkOf (t : Fin cfg0.N) : Fin 16 := ⟨t.val / 16, by have := lt_of_lt_of_eq t.isLt (show cfg0.N = 256 from N_0); omega⟩
abbrev tileOf (t : Fin cfg0.N) : Fin 16 := ⟨t.val % 16, by omega⟩

theorem index0 : ∀ t : Fin cfg0.N, win0_0.index t 0 = t.val / 16 ∧ win0_0.index t 1 = 0 :=
  (by decide +kernel : ∀ t : Fin grid0.N, win0_0.index t 0 = t.val / 16 ∧ win0_0.index t 1 = 0)
theorem index3 : ∀ t : Fin cfg0.N, win0_3.index t 0 = (if t.val / 16 < 8 then 0 else t.val / 16 - 7) ∧ win0_3.index t 1 = 0 ∧ win0_3.index t 2 = 0 :=
  (by decide +kernel : ∀ t : Fin grid0.N, win0_3.index t 0 = (if t.val / 16 < 8 then 0 else t.val / 16 - 7) ∧ win0_3.index t 1 = 0 ∧ win0_3.index t 2 = 0)
theorem index4 : ∀ t : Fin cfg0.N, win0_4.index t 0 = 2 ∧ win0_4.index t 1 = t.val % 16 ∧ win0_4.index t 2 = 0 ∧ win0_4.index t 3 = 0 :=
  (by decide +kernel : ∀ t : Fin grid0.N, win0_4.index t 0 = 2 ∧ win0_4.index t 1 = t.val % 16 ∧ win0_4.index t 2 = 0 ∧ win0_4.index t 3 = 0)
theorem index5 : ∀ t : Fin cfg0.N, win0_5.index t 0 = 2 ∧ win0_5.index t 1 = t.val % 16 ∧ win0_5.index t 2 = 0 :=
  (by decide +kernel : ∀ t : Fin grid0.N, win0_5.index t 0 = 2 ∧ win0_5.index t 1 = t.val % 16 ∧ win0_5.index t 2 = 0)

/-- The first weight as the launch finds it: cut into 16 tiles of 512 columns. -/
theorem V_up (j : Fin 16) (k : Fin 2048) (f : Fin 512) :
    (V m c main_v2 : FVec Ideal S4x16x2048x512 .bf16) (ix4 2 j k f) = argUp m c (ix3 2 k (colOf j f)) := by
  have e : @Eq (FVec Ideal S4x16x2048x512 .bf16) (V m c main_v2)
      (truncf (F := Ideal) (φ := .f32) .bf16 (transpose S4x16x2048x512 [0, 2, 1, 3] (shapeCast S4x2048x16x512 (argUp m c) shapeCasts_S4x2048x8192_S4x2048x16x512)
          transposes_S4x2048x16x512_S4x16x2048x512_0_2_1_3) bitsLt_bf16_f32) := by
    show StableHlo.after hostOps0 _ main_v2 = _
    after_results_simp
    rfl
  rw [e]
  pointwise

/-- The norms' gains as the launch finds them. -/
theorem V_pre (d : Fin 2048) : (V m c main_v3 : FVec Ideal S1x2048 .f32) (ix2 0 d) = argG1 m c (ix1 d) := by
  have e : @Eq (FVec Ideal S1x2048 .f32) (V m c main_v3) (shapeCast S1x2048 (argG1 m c) shapeCasts_S2048_S1x2048) := by
    show StableHlo.after hostOps0 _ main_v3 = _
    after_results_simp
    rfl
  rw [e]
  pointwise
theorem V_post (d : Fin 2048) : (V m c main_v4 : FVec Ideal S1x2048 .f32) (ix2 0 d) = argG2 m c (ix1 d) := by
  have e : @Eq (FVec Ideal S1x2048 .f32) (V m c main_v4) (shapeCast S1x2048 (argG2 m c) shapeCasts_S2048_S1x2048) := by
    show StableHlo.after hostOps0 _ main_v4 = _
    after_results_simp
    rfl
  rw [e]
  pointwise

/-- The block of input rows. -/
theorem blk_x (t : Fin cfg0.N) (r : Fin 1024) (d : Fin 2048) :
    (iblk m c 0 t : FVec Ideal S1024x2048 .f32) (ix2 r d) = argX m c (ix2 (rowOf (blkOf t) r) d) := by
  unfold iblk
  rw [View.read_apply]
  show V m c main_arg0 _ = _
  rw [V_main_arg0]
  obtain ⟨h0, h1⟩ := index0 t
  refine congrArg (m ((c : Thread nD τ).loc main_arg0)) (funext fun a => Fin.ext ?_)
  match a with
  | ⟨0, _⟩ => show win0_0.index t 0 * 1024 + 1 * r.val = t.val / 16 * 1024 + r.val; omega
  | ⟨1, _⟩ => show win0_0.index t 1 * 2048 + 1 * d.val = d.val; omega

/-- The gain before the first product, and the one after the second. -/
theorem blk_pre (t : Fin cfg0.N) (d : Fin 2048) :
    (iblk m c 1 t : FVec Ideal S1x2048 .f32) (ix2 0 d) = argG1 m c (ix1 d) := by
  rw [← V_pre m c d]
  unfold iblk
  rw [View.read_apply]
  show V m c main_v3 _ = _
  refine congrArg (V m c main_v3) (funext fun a => Fin.ext ?_)
  match a with
  | ⟨0, _⟩ => rfl
  | ⟨1, _⟩ => show 0 * 2048 + 1 * d.val = d.val; omega
theorem blk_post (t : Fin cfg0.N) (d : Fin 2048) :
    (iblk m c 2 t : FVec Ideal S1x2048 .f32) (ix2 0 d) = argG2 m c (ix1 d) := by
  rw [← V_post m c d]
  unfold iblk
  rw [View.read_apply]
  show V m c main_v4 _ = _
  refine congrArg (V m c main_v4) (funext fun a => Fin.ext ?_)
  match a with
  | ⟨0, _⟩ => rfl
  | ⟨1, _⟩ => show 0 * 2048 + 1 * d.val = d.val; omega

/-- The six modulation rows of a block. -/
theorem blk_mod (t : Fin cfg0.N) (q : Fin 6) (d : Fin 2048) :
    (iblk m c 3 t : FVec Ideal S1x6x2048 .f32) (ix3 0 q d) = argMod m c (ix3 (modOf (blkOf t)) q d) := by
  unfold iblk
  rw [View.read_apply]
  show V m c main_arg3 _ = _
  rw [V_main_arg3]
  obtain ⟨h0, h1, h2⟩ := index3 t
  refine congrArg (m ((c : Thread nD τ).loc main_arg3)) (funext fun a => Fin.ext ?_)
  match a with
  | ⟨0, _⟩ => show win0_3.index t 0 * 1 + 1 * 0 = (if t.val / 16 < 8 then 0 else t.val / 16 - 7); omega
  | ⟨1, _⟩ => show win0_3.index t 1 * 6 + 1 * q.val = q.val; omega
  | ⟨2, _⟩ => show win0_3.index t 2 * 2048 + 1 * d.val = d.val; omega

/-- A tile of the first weight's columns. -/
theorem blk_up (t : Fin cfg0.N) (k : Fin 2048) (f : Fin 512) :
    (iblk m c 4 t : FVec Ideal S1x1x2048x512 .bf16) (ix4 0 0 k f) = argUp m c (ix3 2 k (colOf (tileOf t) f)) := by
  rw [← V_up m c (tileOf t) k f]
  unfold iblk
  rw [View.read_apply]
  show V m c main_v2 _ = _
  obtain ⟨h0, h1, h2, h3⟩ := index4 t
  refine congrArg (V m c main_v2) (funext fun a => Fin.ext ?_)
  match a with
  | ⟨0, _⟩ => show win0_4.index t 0 * 1 + 1 * 0 = 2; omega
  | ⟨1, _⟩ => show win0_4.index t 1 * 1 + 1 * 0 = t.val % 16; omega
  | ⟨2, _⟩ => show win0_4.index t 2 * 2048 + 1 * k.val = k.val; omega
  | ⟨3, _⟩ => show win0_4.index t 3 * 512 + 1 * f.val = f.val; omega

/-- A tile of the second weight's rows. -/
theorem blk_down (t : Fin cfg0.N) (f : Fin 512) (d : Fin 2048) :
    (iblk m c 5 t : FVec Ideal S1x512x2048 .f32) (ix3 0 f d) = argDown m c (ix3 2 (colOf (tileOf t) f) d) := by
  unfold iblk
  rw [View.read_apply]
  show V m c main_arg5 _ = _
  rw [V_main_arg5]
  obtain ⟨h0, h1, h2⟩ := index5 t
  refine congrArg (m ((c : Thread nD τ).loc main_arg5)) (funext fun a => Fin.ext ?_)
  match a with
  | ⟨0, _⟩ => show win0_5.index t 0 * 1 + 1 * 0 = 2; omega
  | ⟨1, _⟩ => show win0_5.index t 1 * 512 + 1 * f.val = t.val % 16 * 512 + f.val; omega
  | ⟨2, _⟩ => show win0_5.index t 2 * 2048 + 1 * d.val = d.val; omega

end Cert.Ffn2

end
-- ==== Proof.Ffn2Fold.lean ====
/-
  The feed-forward call over its grid: after point `t` the carried rows are the normalised rows of `t`'s row block, and
  the output block is the product summed over the column tiles so far; after a row block's last tile it is the result.
-/
module

public import proofs.«01_k».proof.Proof.Ffn2Block
public import proofs.«01_k».proof.Proof.Ffn2Pay
public import proofs.«01_k».proof.Proof.Ffn2Read

@[expose] public section

set_option maxRecDepth 16384

noncomputable section

namespace Cert.Ffn2

open Cert.Kernel4Ideal Cert.Kernel4Ideal.Gen
open Idealize.ShloMosaic Idealize.ShloMosaic.TcCoe Idealize.SL.Sem

/-! ## The sub-layer, plainly -/

section Plain
variable (X : FVec Ideal S16384x2048 .f32) (g1 g2 : FVec Ideal S2048 .f32) (M : FVec Ideal S16x6x2048 .f32)
  (U : FVec Ideal S4x2048x8192 .f32) (D : FVec Ideal S4x8192x2048 .f32)

/-- The modulation row of a row: the first for the context rows, then one for every 1024 rows. -/
def modRowOf (r : Fin 16384) : Fin 16 := ⟨if r.val < 8192 then 0 else 1 + (r.val - 8192) / 1024, by split <;> omega⟩

/-- A row, normalised, scaled and shifted. -/
def hin (r : Fin 16384) (d : Fin 2048) : EReal :=
  X (ix2 r d) * rs (fun k => X (ix2 r k)) * g1 (ix1 d) * (1 + M (ix3 (modRowOf r) 4 d)) + M (ix3 (modRowOf r) 3 d)

/-- The first product, rectified. -/
def act (r : Fin 16384) (f : Fin 8192) : EReal := max (∑ k : Fin 2048, hin X g1 M r k * U (ix3 2 k f)) 0

/-- A term of the second product. -/
def term (r : Fin 16384) (d : Fin 2048) (f : Fin 8192) : EReal := act X g1 M U r f * act X g1 M U r f * D (ix3 2 f d)

/-- The second product. -/
def mlp (r : Fin 16384) (d : Fin 2048) : EReal := ∑ f : Fin 8192, term X g1 M U D r d f

/-- The sub-layer's result. -/
def ffn (r : Fin 16384) (d : Fin 2048) : EReal :=
  X (ix2 r d) + M (ix3 (modRowOf r) 5 d) * (mlp X g1 M U D r d * rs (mlp X g1 M U D r) * g2 (ix1 d))

/-- The second product over the first `n` column tiles. -/
def upTo (r : Fin 16384) (d : Fin 2048) (n : ℕ) : EReal :=
  ∑ j : Fin 16, if j.val < n then ∑ f : Fin 512, term X g1 M U D r d (colOf j f) else 0

theorem upTo_zero (r : Fin 16384) (d : Fin 2048) : upTo X g1 M U D r d 0 = 0 := by
  simp [upTo]

/-- One tile more. -/
theorem upTo_succ (r : Fin 16384) (d : Fin 2048) (j : Fin 16) :
    upTo X g1 M U D r d (j.val + 1) = upTo X g1 M U D r d j.val + ∑ f : Fin 512, term X g1 M U D r d (colOf j f) := by
  unfold upTo
  rw [← Finset.sum_ite_eq' Finset.univ j (fun j => ∑ f : Fin 512, term X g1 M U D r d (colOf j f)) |>.trans (if_pos (Finset.mem_univ j)),
    ← Finset.sum_add_distrib]
  refine Finset.sum_congr rfl fun i _ => ?_
  by_cases h : i = j
  · subst h
    rw [if_pos (Nat.lt_succ_self _), if_neg (Nat.lt_irrefl _), if_pos rfl, zero_add]
  · have h' : i.val ≠ j.val := fun e => h (Fin.ext e)
    rw [if_neg h, add_zero]
    by_cases hlt : i.val < j.val
    · rw [if_pos hlt, if_pos (by omega)]
    · rw [if_neg hlt, if_neg (by omega)]

/-- All tiles: the whole product. -/
theorem upTo_all (r : Fin 16384) (d : Fin 2048) : upTo X g1 M U D r d 16 = mlp X g1 M U D r d := by
  unfold upTo mlp
  rw [← Equiv.sum_comp (finProdFinEquiv (m := 16) (n := 512)) (fun f : Fin (16 * 512) => term X g1 M U D r d f), Fintype.sum_prod_type]
  refine Finset.sum_congr rfl fun j _ => ?_
  rw [if_pos j.isLt]
  refine Finset.sum_congr rfl fun f _ => congrArg _ (Fin.ext ?_)
  show j.val * 512 + f.val = f.val + 512 * j.val
  omega

end Plain

/-! ## The grid -/

variable (m : (ℓ : Loc nD τ sig) → Buf (Elt Ideal) ℓ) (c : Dev nD)

theorem modRowOf_rowOf (b : Fin 16) (r : Fin 1024) : modRowOf (rowOf b r) = modOf b := by
  apply Fin.ext
  show (if b.val * 1024 + r.val < 8192 then 0 else 1 + (b.val * 1024 + r.val - 8192) / 1024) = if b.val < 8 then 0 else b.val - 7
  have := r.isLt
  split <;> split <;> omega

/-- The carried rows, at an index. -/
theorem carried_at (t : Fin cfg0.N) (r : Fin 1024) (d : Fin 2048) :
    k0_pay1 (F := Ideal) (iblk m c 0 t) (iblk m c 1 t) (modRow3 (iblk m c 3 t)) (modRow4 (iblk m c 3 t)) (ix2 r d)
      = hin (argX m c) (argG1 m c) (argMod m c) (rowOf (blkOf t) r) d := by
  have e3 : modRow3 (F := Ideal) (iblk m c 3 t) (ix3 0 0 d) = argMod m c (ix3 (modOf (blkOf t)) 3 d) := by
    rw [← blk_mod m c t 3 d]
    refine congrArg (iblk m c 3 t) (funext fun a => Fin.ext ?_)
    match a with
    | ⟨0, _⟩ => rfl
    | ⟨1, _⟩ => rfl
    | ⟨2, _⟩ => show 0 + 1 * d.val = d.val; omega
  have e4 : modRow4 (F := Ideal) (iblk m c 3 t) (ix3 0 0 d) = argMod m c (ix3 (modOf (blkOf t)) 4 d) := by
    rw [← blk_mod m c t 4 d]
    refine congrArg (iblk m c 3 t) (funext fun a => Fin.ext ?_)
    match a with
    | ⟨0, _⟩ => rfl
    | ⟨1, _⟩ => rfl
    | ⟨2, _⟩ => show 0 + 1 * d.val = d.val; omega
  refine (pay1_apply _ _ _ _ r d).trans ?_
  rw [e3, e4, blk_x, blk_pre]
  unfold hin
  rw [modRowOf_rowOf]
  simp only [blk_x]

/-- A tile's contribution over carried rows that are the block's normalised rows. -/
theorem tile_at (t : Fin cfg0.N) (h : FVec Ideal S1024x2048 .bf16) (o : FVec Ideal S1024x2048 .f32)
    (hh : ∀ (r : Fin 1024) (d : Fin 2048), h (ix2 r d) = hin (argX m c) (argG1 m c) (argMod m c) (rowOf (blkOf t) r) d)
    (ho : ∀ (r : Fin 1024) (d : Fin 2048), o (ix2 r d) = upTo (argX m c) (argG1 m c) (argMod m c) (argUp m c) (argDown m c) (rowOf (blkOf t) r) d (tileOf t).val)
    (r : Fin 1024) (d : Fin 2048) :
    k0_pay3 (F := Ideal) h (iblk m c 4 t) o (iblk m c 5 t) (ix2 r d)
      = upTo (argX m c) (argG1 m c) (argMod m c) (argUp m c) (argDown m c) (rowOf (blkOf t) r) d ((tileOf t).val + 1) := by
  refine (pay3_apply _ _ _ _ r d).trans ?_
  rw [upTo_succ, ho]
  simp only [hh, blk_up, blk_down]
  rfl

/-- The result at the last tile. -/
theorem last_at (t : Fin cfg0.N) (o : FVec Ideal S1024x2048 .f32)
    (ho : ∀ (r : Fin 1024) (d : Fin 2048), o (ix2 r d) = mlp (argX m c) (argG1 m c) (argMod m c) (argUp m c) (argDown m c) (rowOf (blkOf t) r) d)
    (r : Fin 1024) (d : Fin 2048) :
    k0_pay4 (F := Ideal) (iblk m c 0 t) (modRow5 (iblk m c 3 t)) o (iblk m c 2 t) (ix2 r d)
      = ffn (argX m c) (argG1 m c) (argG2 m c) (argMod m c) (argUp m c) (argDown m c) (rowOf (blkOf t) r) d := by
  have e5 : modRow5 (F := Ideal) (iblk m c 3 t) (ix3 0 0 d) = argMod m c (ix3 (modOf (blkOf t)) 5 d) := by
    rw [← blk_mod m c t 5 d]
    refine congrArg (iblk m c 3 t) (funext fun a => Fin.ext ?_)
    match a with
    | ⟨0, _⟩ => rfl
    | ⟨1, _⟩ => rfl
    | ⟨2, _⟩ => show 0 + 1 * d.val = d.val; omega
  refine (pay4_apply _ _ _ _ r d).trans ?_
  rw [e5, blk_x, blk_post]
  unfold ffn
  rw [modRowOf_rowOf]
  simp only [ho]

/-- What the output block and the carried rows hold after point `t`. -/
def Holds (t : Fin cfg0.N) (s : Vec Ideal S1024x2048 .f32 × Vec Ideal S1024x2048 .bf16) : Prop :=
  (∀ (r : Fin 1024) (d : Fin 2048), s.2 (ix2 r d) = hin (argX m c) (argG1 m c) (argMod m c) (rowOf (blkOf t) r) d)
  ∧ ∀ (r : Fin 1024) (d : Fin 2048), s.1 (ix2 r d)
      = if t.val % 16 = 15 then ffn (argX m c) (argG1 m c) (argG2 m c) (argMod m c) (argUp m c) (argDown m c) (rowOf (blkOf t) r) d
        else upTo (argX m c) (argG1 m c) (argMod m c) (argUp m c) (argDown m c) (rowOf (blkOf t) r) d (t.val % 16 + 1)

/-- A first tile's point. -/
theorem holds_first (t : Fin cfg0.N) (h0 : t.val % 16 = 0) : Holds m c t (outsAt0 m c t.val t.isLt) := by
  have h1 : ¬t.val % 16 = 15 := by omega
  rw [outsAt0_A m c t h0 h1, out_A, sout_A]
  refine ⟨carried_at m c t, fun r d => ?_⟩
  rw [if_neg h1]
  refine tile_at m c t _ _ (carried_at m c t) (fun r d => ?_) r d
  show k0_pay2 (F := Ideal) _ = upTo _ _ _ _ _ _ d (t.val % 16)
  rw [pay2_apply, h0, upTo_zero]

/-- A later tile's point, over what the point before left. -/
theorem holds_next (t : Fin cfg0.N) (h0 : ¬t.val % 16 = 0) (hlt : t.val - 1 < cfg0.N)
    (hacc : Holds m c ⟨t.val - 1, hlt⟩ (outsAt0 m c (t.val - 1) hlt)) : Holds m c t (outsAt0 m c t.val t.isLt) := by
  obtain ⟨t', ht'⟩ : ∃ t' : Fin cfg0.N, t' = ⟨t.val - 1, hlt⟩ := ⟨_, rfl⟩
  have ht : t.val = t'.val + 1 := by rw [ht']; show t.val = t.val - 1 + 1; omega
  rw [← ht'] at hacc
  generalize hE : outsAt0 m c (t.val - 1) hlt = acc at hacc
  have hb : blkOf t' = blkOf t := Fin.ext (by show t'.val / 16 = t.val / 16; omega)
  have h' : ¬t'.val % 16 = 15 := by omega
  have hj : t'.val % 16 + 1 = (tileOf t).val := by show t'.val % 16 + 1 = t.val % 16; omega
  obtain ⟨hs, ho⟩ := hacc
  rw [hb] at hs ho
  have ho' : ∀ (r : Fin 1024) (d : Fin 2048), acc.1 (ix2 r d) = upTo (argX m c) (argG1 m c) (argMod m c) (argUp m c) (argDown m c) (rowOf (blkOf t) r) d (tileOf t).val :=
    fun r d => by rw [ho r d, if_neg h', hj]
  have hT := tile_at m c t acc.2 acc.1 hs ho'
  by_cases h1 : t.val % 16 = 15
  · rw [outsAt0_C m c t h0 h1, out_C, hE]
    refine ⟨hs, fun r d => ?_⟩
    rw [if_pos h1]
    refine last_at m c t _ (fun r d => ?_) r d
    rw [hT r d, ← upTo_all]
    congr 1
    show t.val % 16 + 1 = 16
    omega
  · rw [outsAt0_B m c t h0 h1, out_B, hE]
    refine ⟨hs, fun r d => ?_⟩
    rw [if_neg h1]
    exact hT r d

/-- Every point. -/
theorem holds_all : ∀ (n : ℕ) (h : n < cfg0.N), Holds m c ⟨n, h⟩ (outsAt0 m c n h)
  | 0, h => holds_first m c ⟨0, h⟩ rfl
  | n + 1, h => by
    by_cases h0 : (n + 1) % 16 = 0
    · exact holds_first m c ⟨n + 1, h⟩ h0
    · exact holds_next m c ⟨n + 1, h⟩ h0 (Nat.lt_of_succ_lt h) (holds_all n (Nat.lt_of_succ_lt h))

/-! ## The result array -/

/-- The sub-layer's result as the contents of the result array. -/
def result : Buf (Elt Ideal) ((c : Thread nD τ).loc main_v5) :=
  fun i : S16384x2048.Idx => ffn (argX m c) (argG1 m c) (argG2 m c) (argMod m c) (argUp m c) (argDown m c) (i 0) (i 1)

theorem index6 : ∀ t : Fin cfg0.N, win0_6.index t 0 = t.val / 16 ∧ win0_6.index t 1 = 0 :=
  (by decide +kernel : ∀ t : Fin grid0.N, win0_6.index t 0 = t.val / 16 ∧ win0_6.index t 1 = 0)

/-- What a row block's last tile writes back is that block of the result. -/
theorem flushed_eq (t : Fin cfg0.N) (hf : (cfg0.win 6).flush t = true) :
    (dats m 0 c).flushed 6 t = ((cfg0.win 6).blk t).view.read (Elt Ideal) (result m c) := by
  show (cfg0.win 6).cut (grid0.coords t) ((dats m 0 c).after 6 t) = _
  rw [after0_6]
  have hm : t.val % 16 = 15 := (flush0_6 t).mp hf
  obtain ⟨e0, e1⟩ := index6 t
  have h := (holds_all m c t.val t.isLt).2
  funext y
  have hy := h (y 0) (y 1)
  rw [if_pos hm] at hy
  have hl : (cfg0.win 6).xinj (grid0.coords t) y = ix2 (y 0) (y 1) := by
    funext a; apply Fin.ext
    match a with
    | ⟨0, _⟩ => show (y 0).val = (y 0).val; rfl
    | ⟨1, _⟩ => show (y 1).val = (y 1).val; rfl
  show (outsAt0 m c t.val t.isLt).1 ((cfg0.win 6).xinj (grid0.coords t) y) = result m c (((cfg0.win 6).blk t).view.emb y)
  rw [hl]
  refine hy.trans ?_
  have hb0 : (((cfg0.win 6).blk t).view.emb y 0).val = win0_6.index t 0 * 1024 + 1 * (y 0).val := rfl
  have hb1 : (((cfg0.win 6).blk t).view.emb y 1).val = win0_6.index t 1 * 2048 + 1 * (y 1).val := rfl
  have q0 : rowOf (blkOf t) (y 0) = ((cfg0.win 6).blk t).view.emb y 0 := by
    apply Fin.ext
    rw [hb0, e0]
    show t.val / 16 * 1024 + (y 0).val = t.val / 16 * 1024 + 1 * (y 0).val
    omega
  have q1 : y 1 = ((cfg0.win 6).blk t).view.emb y 1 := by
    apply Fin.ext
    rw [hb1, e1]
    omega
  unfold result
  dsimp only
  rw [← q0, ← q1]

/-- Every index of the result array is in the block of its rows' last tile. -/
theorem covered (i : S16384x2048.Idx) : ∃ t : Fin cfg0.N, (cfg0.win 6).flush t = true ∧ i ∈ ((cfg0.win 6).blk t).view.set := by
  have h0 : (i 0).val < 16384 := (i 0).isLt
  have h1 : (i 1).val < 2048 := (i 1).isLt
  have hN : cfg0.N = 256 := N_0
  obtain ⟨t, ht⟩ : ∃ t : Fin cfg0.N, t.val = 16 * ((i 0).val / 1024) + 15 := ⟨⟨16 * ((i 0).val / 1024) + 15, by omega⟩, rfl⟩
  refine ⟨t, (flush0_6 t).mpr (by omega), ?_⟩
  obtain ⟨e0, e1⟩ := index6 t
  show i ∈ ((View.whole main_v5).slice (win0_6.rect t)).set
  rw [View.set_slice_whole, Rect.mem_set_unit]
  intro a
  match a with
  | ⟨0, _⟩ =>
    show win0_6.index t 0 * 1024 ≤ (i 0).val ∧ (i 0).val < win0_6.index t 0 * 1024 + 1024
    omega
  | ⟨1, _⟩ =>
    show win0_6.index t 1 * 2048 ≤ (i 1).val ∧ (i 1).val < win0_6.index t 1 * 2048 + 2048
    omega

/-- The result array ends holding the sub-layer's result. -/
theorem final : (dats m 0 c).arrAt 6 cfg0.N = result m c :=
  (dats m 0 c).arrAt_eq_of_cover 6 _ (fun t hf => flushed_eq m c t hf) covered

/-- The call's run: the result array holds the sub-layer's result, and the arguments are as they were. -/
theorem run (ρ : Dev nD → PrngReg) : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c)))⟩)
    (run_main m ρ)

end Cert.Ffn2

end
-- ==== Proof.Ffn2Ref.lean ====
/-
  The feed-forward reference read at an index: it is the plain sub-layer.
-/
module

public import proofs.«01_k».proof.Proof.Gen.Reference4Ideal.Read
public import proofs.«01_k».proof.Proof.Ffn2Fold

@[expose] public section

set_option maxRecDepth 16384

noncomputable section

namespace Cert.Ffn2

open Cert.Reference4Ideal Cert.Reference4Ideal.Gen Cert.Reference4Ideal.Read
open Idealize.ShloMosaic Idealize.ShloMosaic.TcCoe Idealize.SL.Sem

variable (X : FVec Ideal S16384x2048 .f32) (g1 g2 : FVec Ideal S2048 .f32) (M : FVec Ideal S16x6x2048 .f32)
  (U : FVec Ideal S4x2048x8192 .f32) (D : FVec Ideal S4x8192x2048 .f32)

/-- The joined modulation vectors: row `r` takes the vectors of its sample. -/
theorem ref_mods (r : Fin 16384) (q : Fin 6) (d : Fin 2048) : val_main_v6 (F := Ideal) M (ix3 r q d) = M (ix3 (modRowOf r) q d) := by
  unfold val_main_v6
  by_cases h : r.val < 8192
  · have e := concatenate_pair_apply_left (t := S16384x6x2048) (s₁ := S8192x6x2048) (s₂ := S8192x6x2048) 0 (val_main_v1 (F := Ideal) M)
      (val_main_v5 (F := Ideal) M) concatenates_S8192x6x2048_S8192x6x2048_S16384x6x2048_d0 (ix3 r q d) rfl (ix3 (⟨r.val, h⟩ : Fin 8192) q d)
      (by intro b; match b with | ⟨0, _⟩ => rfl | ⟨1, _⟩ => rfl | ⟨2, _⟩ => rfl)
    refine e.trans ?_
    rw [val_main_v1_apply, val_main_v0_apply]
    refine congrArg M (funext fun a => Fin.ext ?_)
    match a with
    | ⟨0, _⟩ => show 0 + 0 = if r.val < 8192 then 0 else _; rw [if_pos h]
    | ⟨1, _⟩ => rfl
    | ⟨2, _⟩ => rfl
  · have hr := r.isLt
    have e := concatenate_pair_apply_right (t := S16384x6x2048) (s₁ := S8192x6x2048) (s₂ := S8192x6x2048) 0 (val_main_v1 (F := Ideal) M)
      (val_main_v5 (F := Ideal) M) concatenates_S8192x6x2048_S8192x6x2048_S16384x6x2048_d0 (ix3 r q d) rfl rfl
      (ix3 (⟨r.val - 8192, by omega⟩ : Fin 8192) q d)
      (by intro b hb; match b with | ⟨0, _⟩ => exact absurd rfl hb | ⟨1, _⟩ => rfl | ⟨2, _⟩ => rfl)
      (by show r.val - 8192 + 8192 = r.val; omega)
    refine e.trans ?_
    rw [val_main_v5_apply, val_main_v4_apply, val_main_v3_apply, val_main_v2_apply]
    have hq := q.isLt
    have hd := d.isLt
    refine congrArg M (funext fun a => Fin.ext ?_)
    match a with
    | ⟨0, _⟩ =>
      show 1 + (((r.val - 8192) * 6 + q.val) * 2048 + d.val) / 12582912 = if r.val < 8192 then 0 else _
      rw [if_neg h]
      omega
    | ⟨1, _⟩ => show (((r.val - 8192) * 6 + q.val) * 2048 + d.val) / 2048 % 6 = q.val; omega
    | ⟨2, _⟩ => show (((r.val - 8192) * 6 + q.val) * 2048 + d.val) % 2048 = d.val; omega

/-- The shift vectors. -/
theorem ref_sh (r : Fin 16384) (d : Fin 2048) : val_main_v8 (F := Ideal) M (ix2 r d) = M (ix3 (modRowOf r) 3 d) := by
  rw [← ref_mods M r]
  pointwise [val_main_v8, val_main_v7]

/-- The scale vectors. -/
theorem ref_sc (r : Fin 16384) (d : Fin 2048) : val_main_v10 (F := Ideal) M (ix2 r d) = M (ix3 (modRowOf r) 4 d) := by
  rw [← ref_mods M r]
  pointwise [val_main_v10, val_main_v9]

/-- The gate vectors. -/
theorem ref_gate (r : Fin 16384) (d : Fin 2048) : val_main_v12 (F := Ideal) M (ix2 r d) = M (ix3 (modRowOf r) 5 d) := by
  rw [← ref_mods M r]
  pointwise [val_main_v12, val_main_v11]

/-- The normalised, scaled and shifted rows. -/
theorem ref_hin (r : Fin 16384) (d : Fin 2048) : val_main_v29 (F := Ideal) X g1 M (ix2 r d) = hin X g1 M r d := by
  unfold hin
  rw [← ref_sh M r d, ← ref_sc M r d]
  pointwise [val_main_v29, val_main_v28, val_main_v27, val_main_v26, val_main_cst_2, val_main_v25, val_main_v24, val_main_v23, val_main_v22,
    val_main_v21, val_main_v20, val_main_v19, val_main_v18, val_main_cst_1, val_main_v17, val_main_v16, val_main_cst_0, val_main_v15, val_main_v14,
    val_main_cst, val_main_v13]
  rfl

/-- The rectified first product. -/
theorem ref_act (r : Fin 16384) (f : Fin 8192) : val_main_v33 (F := Ideal) X g1 M U (ix2 r f) = act X g1 M U r f := by
  unfold act
  simp only [← ref_hin]
  pointwise [val_main_v33, val_main_v32, val_main_call0_v0, val_main_call0_cst, val_main_v31, val_main_v30]

/-- The second product. -/
theorem ref_mlp (r : Fin 16384) (d : Fin 2048) : val_main_v37 (F := Ideal) X g1 M U D (ix2 r d) = mlp X g1 M U D r d := by
  unfold mlp term
  simp only [← ref_act]
  pointwise [val_main_v37, val_main_v34, val_main_v36, val_main_v35]

/-- The reference's result. -/
theorem ref_ffn (r : Fin 16384) (d : Fin 2048) : val_main_v52 (F := Ideal) X g1 g2 M U D (ix2 r d) = ffn X g1 g2 M U D r d := by
  unfold ffn
  rw [← ref_gate M r d, funext (fun k => (ref_mlp X g1 M U D r k).symm)]
  pointwise [val_main_v52, val_main_v51, val_main_v50, val_main_v49, val_main_v48, val_main_v47, val_main_v46, val_main_v45, val_main_v44,
    val_main_v43, val_main_v42, val_main_v41, val_main_v40, val_main_v39, val_main_v38, val_main_cst_3, val_main_cst_4, val_main_cst_5]
  rfl

/-- The reference's result array. -/
theorem ref_eq : (val_main_v52 (F := Ideal) X g1 g2 M U D : FVec Ideal S16384x2048 .f32) = fun i => ffn X g1 g2 M U D (i 0) (i 1) := by
  funext i
  obtain ⟨r, d, rfl⟩ : ∃ (r : Fin 16384) (d : Fin 2048), i = ix2 r d := ⟨i 0, i 1, funext fun a => match a with | ⟨0, _⟩ => rfl | ⟨1, _⟩ => rfl⟩
  exact ref_ffn X g1 g2 M U D r d

end Cert.Ffn2

end
-- ==== Proof.Ffn3Block.lean ====
/-
  The feed-forward call, one grid point at a time: what each of the three cases of its body (first, middle and last
  column tile of a row block) leaves in the output block and in the normalised rows it carries.
-/
module

public import proofs.«01_k».proof.Proof.Gen.Kernel5Ideal.Frame
public import Idealize.ShloMosaic.Lib.Pipeline.Value
public import Idealize.ShloMosaic.Lib.Pointwise
public import Idealize.ShloMosaic.Lib.IdealHost

@[expose] public section

set_option maxRecDepth 16384

noncomputable section

namespace Cert.Ffn3

open Cert.Kernel5Ideal Cert.Kernel5Ideal.Gen
open Idealize.ShloMosaic Idealize.ShloMosaic.TcCoe Idealize.SL.Sem

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl
theorem off4 : (![0, 0, 0, 0] : Fin 4 → Nat) = fun _ => 0 := funext fun a => by fin_cases a <;> rfl

/-- Row `r` of a block of six modulation rows. -/
abbrev modRow3 (x3 : Vec F S1x6x2048 .f32) : Vec F S1x1x2048 .f32 :=
  View.ld x3 (Rect.unit (s := S1x6x2048) ![0, 3, 0] S1x1x2048.size inb_S1x6x2048_S1x1x2048_0_3_0)
/-- The modulation block's row of scales. -/
abbrev modRow4 (x3 : Vec F S1x6x2048 .f32) : Vec F S1x1x2048 .f32 :=
  View.ld x3 (Rect.unit (s := S1x6x2048) ![0, 4, 0] S1x1x2048.size inb_S1x6x2048_S1x1x2048_0_4_0)
/-- The modulation block's row of gates. -/
abbrev modRow5 (x3 : Vec F S1x6x2048 .f32) : Vec F S1x1x2048 .f32 :=
  View.ld x3 (Rect.unit (s := S1x6x2048) ![0, 5, 0] S1x1x2048.size inb_S1x6x2048_S1x1x2048_0_5_0)

section Cases
variable (c : Dev nD) (i : grid0.Coords) (arg2 : Memref sig .tc .vmem S1024x2048 .f32) (harg2 : arg2.IsWhole)
  (arg3 : Memref sig .tc .vmem S1x2048 .f32) (harg3 : arg3.IsWhole) (arg4 : Memref sig .tc .vmem S1x2048 .f32) (harg4 : arg4.IsWhole)
  (arg5 : Memref sig .tc .vmem S1x6x2048 .f32) (harg5 : arg5.IsWhole) (arg6 : Memref sig .tc .vmem S1x1x2048x512 .bf16) (harg6 : arg6.IsWhole)
  (arg7 : Memref sig .tc .vmem S1x512x2048 .f32) (harg7 : arg7.IsWhole) (arg8 : Memref sig .tc .vmem S1024x2048 .f32) (harg8 : arg8.IsWhole)
  (arg9 : Memref sig .tc .vmem S1024x2048 .bf16) (harg9 : arg9.IsWhole)
  (x0 : Vec F S1024x2048 .f32) (x1 x2 : Vec F S1x2048 .f32) (x3 : Vec F S1x6x2048 .f32) (x4 : Vec F S1x1x2048x512 .bf16)
  (x5 : Vec F S1x512x2048 .f32) (xo : Vec F S1024x2048 .f32) (xs : Vec F S1024x2048 .bf16)

/-- A middle tile adds its contribution to the output block. -/
theorem out_B (hc0 : ¬cond0_0 i) (hc1 : ¬cond0_1 i) :
    out0_B_6 c i arg2 harg2 arg3 harg3 arg4 harg4 arg5 harg5 arg6 harg6 arg7 harg7 arg8 harg8 arg9 harg9 hc0 hc1 x0 x1 x2 x3 x4 x5 xo xs
      = k0_pay3 xs x4 xo x5 := by
  unfold out0_B_6
  rw [View.read_writes_eq_canon _ _ _ (cover0_B_6 c i arg2 harg2 arg3 harg3 arg4 harg4 arg5 harg5 arg6 harg6 arg7 harg7 arg8 harg8 arg9 harg9 hc0 hc1 x0 x1 x2 x3 x4 x5 xo xs)]
  unfold kernelRun0_B
  dsimp only
  sl_unfold_words
  rw [View.canon_unit_zero off2]
  simp only [View.readAt_eq_ld, harg6.read_unread, harg7.read_unread, harg8.read_unread, harg9.read_unread,
    View.ld_unit_zero (S := S1024x2048) off2, View.ld_unit_zero (S := S1x1x2048x512) off4, View.ld_unit_zero (S := S1x512x2048) off3]

/-- The first tile stores the normalised, scaled and shifted rows and starts the output block from zeros. -/
theorem out_A (hc0 : cond0_0 i) (hc1 : ¬cond0_1 i) :
    out0_A_6 c i arg2 harg2 arg3 harg3 arg4 harg4 arg5 harg5 arg6 harg6 arg7 harg7 arg8 harg8 arg9 harg9 hc0 hc1 x0 x1 x2 x3 x4 x5
      = k0_pay3 (k0_pay1 x0 x1 (modRow3 x3) (modRow4 x3)) x4 (k0_pay2 (F := F)) x5 := by
  unfold out0_A_6
  rw [View.read_writes_eq_canon _ _ _ (cover0_A_6 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1024x2048) off2]
  simp only [View.readCov_unit_zero (S := S1024x2048) _ off2, View.readAt_eq_ld, harg2.read_unread, harg3.read_unread, harg5.read_unread, harg6.read_unread, harg7.read_unread,
    View.ld_unit_zero (S := S1024x2048) off2, View.ld_unit_zero (S := S1x2048) off2, View.ld_unit_zero (S := S1x1x2048x512) off4, View.ld_unit_zero (S := S1x512x2048) off3]

/-- The rows the first tile leaves for the others. -/
theorem sout_A (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 x4 x5
      = k0_pay1 x0 x1 (modRow3 x3) (modRow4 x3) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_unit_zero off2]
  simp only [View.readAt_eq_ld, harg2.read_unread, harg3.read_unread, harg5.read_unread,
    View.ld_unit_zero (S := S1024x2048) off2, View.ld_unit_zero (S := S1x2048) off2]

/-- The last tile adds its contribution, normalises, and adds the gated result to the input rows. -/
theorem out_C (hc0 : ¬cond0_0 i) (hc1 : cond0_1 i) :
    out0_C_6 c i arg2 harg2 arg3 harg3 arg4 harg4 arg5 harg5 arg6 harg6 arg7 harg7 arg8 harg8 arg9 harg9 hc0 hc1 x0 x1 x2 x3 x4 x5 xo xs
      = k0_pay4 x0 (modRow5 x3) (k0_pay3 xs x4 xo x5) x2 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xo xs)]
  unfold kernelRun0_C
  dsimp only
  sl_unfold_words
  rw [View.canon_cons_unit_zero (S := S1024x2048) off2]
  simp only [View.readCov_unit_zero (S := S1024x2048) _ off2, View.readAt_eq_ld, harg2.read_unread, harg4.read_unread, harg5.read_unread, harg6.read_unread, harg7.read_unread, harg8.read_unread, harg9.read_unread,
    View.ld_unit_zero (S := S1024x2048) off2, View.ld_unit_zero (S := S1x2048) off2, View.ld_unit_zero (S := S1x1x2048x512) off4, View.ld_unit_zero (S := S1x512x2048) off3]

end Cases

end Cert.Ffn3

end
-- ==== Proof.Ffn3Pay.lean ====
/-
  The feed-forward call's stored values read at an index, over the extended reals.
-/
module

public import proofs.«01_k».proof.Proof.Gen.Kernel5Ideal.Skeleton
public import Idealize.ShloMosaic.Lib.Pointwise
public import Idealize.ShloMosaic.Lib.IdealHost

@[expose] public section

set_option maxRecDepth 16384

noncomputable section

namespace Cert.Ffn3

open Cert.Kernel5Ideal Cert.Kernel5Ideal.Gen
open Idealize.ShloMosaic Idealize.ShloMosaic.TcCoe Idealize.SL.Sem

/-- The reciprocal root mean square of a row of 2048 entries, as the kernel and the plain formula both print it. -/
def rs (v : Fin 2048 → EReal) : EReal :=
  Ideal.rsqrt (Ideal.div (∑ k, v k * v k) (Ideal.ofBits .f32 0x45000000#32) + Ideal.ofBits .f32 0x358637BD#32)

/-- The carried rows: normalised, scaled and shifted. -/
theorem pay1_apply (x : FVec Ideal S1024x2048 .f32) (g : FVec Ideal S1x2048 .f32) (sh sc : FVec Ideal S1x1x2048 .f32) (r : Fin 1024) (d : Fin 2048) :
    k0_pay1 (F := Ideal) x g sh sc (ix2 r d)
      = x (ix2 r d) * rs (fun k => x (ix2 r k)) * g (ix2 0 d) * (1 + sc (ix3 0 0 d)) + sh (ix3 0 0 d) := by
  pointwise [k0_pay1]
  rfl

/-- The first tile's starting value. -/
theorem pay2_apply (j : S1024x2048.Idx) : k0_pay2 (F := Ideal) j = 0 := by
  pointwise [k0_pay2]

/-- A tile's contribution: the squared rectified product with its 512 columns, times its 512 rows. -/
theorem pay3_apply (h : FVec Ideal S1024x2048 .bf16) (wu : FVec Ideal S1x1x2048x512 .bf16) (o : FVec Ideal S1024x2048 .f32)
    (wd : FVec Ideal S1x512x2048 .f32) (r : Fin 1024) (d : Fin 2048) :
    k0_pay3 (F := Ideal) h wu o wd (ix2 r d)
      = o (ix2 r d) + ∑ f : Fin 512, max (∑ k : Fin 2048, h (ix2 r k) * wu (ix4 0 0 k f)) 0
          * max (∑ k : Fin 2048, h (ix2 r k) * wu (ix4 0 0 k f)) 0 * wd (ix3 0 f d) := by
  pointwise [k0_pay3]

/-- The last tile's result: the input row plus the gated, normalised product. -/
theorem pay4_apply (x : FVec Ideal S1024x2048 .f32) (g5 : FVec Ideal S1x1x2048 .f32) (o : FVec Ideal S1024x2048 .f32)
    (g : FVec Ideal S1x2048 .f32) (r : Fin 1024) (d : Fin 2048) :
    k0_pay4 (F := Ideal) x g5 o g (ix2 r d)
      = x (ix2 r d) + g5 (ix3 0 0 d) * (o (ix2 r d) * rs (fun k => o (ix2 r k)) * g (ix2 0 d)) := by
  pointwise [k0_pay4]
  rfl

end Cert.Ffn3

end
-- ==== Proof.Ffn3Read.lean ====
/-
  The feed-forward call's input blocks at an index, in terms of the arguments.
-/
module

public import proofs.«01_k».proof.Proof.Gen.Kernel5Ideal.Frame
public import Idealize.ShloMosaic.Lib.Pointwise
public import Idealize.ShloMosaic.Lib.StableHlo.Run
public import Idealize.ShloMosaic.Lib.IdealHost

@[expose] public section

set_option maxRecDepth 16384

noncomputable section

namespace Cert.Ffn3

open Cert.Kernel5Ideal Cert.Kernel5Ideal.Gen
open Idealize.ShloMosaic Idealize.ShloMosaic.TcCoe Idealize.SL.Sem

variable (m : (ℓ : Loc nD τ sig) → Buf (Elt Ideal) ℓ) (c : Dev nD)

/-- The arguments: rows, the two gains, modulation rows and the two weights. -/
abbrev argX : FVec Ideal S16384x2048 .f32 := m ((c : Thread nD τ).loc main_arg0)
abbrev argG1 : FVec Ideal S2048 .f32 := m ((c : Thread nD τ).loc main_arg1)
abbrev argG2 : FVec Ideal S2048 .f32 := m ((c : Thread nD τ).loc main_arg2)
abbrev argMod : FVec Ideal S16x6x2048 .f32 := m ((c : Thread nD τ).loc main_arg3)
abbrev argUp : FVec Ideal S4x2048x8192 .f32 := m ((c : Thread nD τ).loc main_arg4)
abbrev argDown : FVec Ideal S4x8192x2048 .f32 := m ((c : Thread nD τ).loc main_arg5)

/-- Row `r` of row block `b`. -/
abbrev rowOf (b : Fin 16) (r : Fin 1024) : Fin 16384 := ⟨b.val * 1024 + r.val, by omega⟩
/-- Column `f` of column tile `j`. -/
abbrev colOf (j : Fin 16) (f : Fin 512) : Fin 8192 := ⟨j.val * 512 + f.val, by omega⟩
/-- The modulation row a row block is given: the first for the 8 blocks of context rows, then one for each block. -/
abbrev modOf (b : Fin 16) : Fin 16 := ⟨if b.val < 8 then 0 else b.val - 7, by split <;> omega⟩
/-- A grid point's row block and column tile. -/
abbrev blkOf (t : Fin cfg0.N) : Fin 16 := ⟨t.val / 16, by have := lt_of_lt_of_eq t.isLt (show cfg0.N = 128 from N_0); omega⟩
abbrev tileOf (t : Fin cfg0.N) : Fin 16 := ⟨t.val % 16, by omega⟩

theorem index0 : ∀ t : Fin cfg0.N, win0_0.index t 0 = t.val / 16 ∧ win0_0.index t 1 = 0 :=
  (by decide +kernel : ∀ t : Fin grid0.N, win0_0.index t 0 = t.val / 16 ∧ win0_0.index t 1 = 0)
theorem index3 : ∀ t : Fin cfg0.N, win0_3.index t 0 = (if t.val / 16 < 8 then 0 else t.val / 16 - 7) ∧ win0_3.index t 1 = 0 ∧ win0_3.index t 2 = 0 :=
  (by decide +kernel : ∀ t : Fin grid0.N, win0_3.index t 0 = (if t.val / 16 < 8 then 0 else t.val / 16 - 7) ∧ win0_3.index t 1 = 0 ∧ win0_3.index t 2 = 0)
theorem index4 : ∀ t : Fin cfg0.N, win0_4.index t 0 = 3 ∧ win0_4.index t 1 = t.val % 16 ∧ win0_4.index t 2 = 0 ∧ win0_4.index t 3 = 0 :=
  (by decide +kernel : ∀ t : Fin grid0.N, win0_4.index t 0 = 3 ∧ win0_4.index t 1 = t.val % 16 ∧ win0_4.index t 2 = 0 ∧ win0_4.index t 3 = 0)
theorem index5 : ∀ t : Fin cfg0.N, win0_5.index t 0 = 3 ∧ win0_5.index t 1 = t.val % 16 ∧ win0_5.index t 2 = 0 :=
  (by decide +kernel : ∀ t : Fin grid0.N, win0_5.index t 0 = 3 ∧ win0_5.index t 1 = t.val % 16 ∧ win0_5.index t 2 = 0)

/-- The first weight as the launch finds it: cut into 16 tiles of 512 columns. -/
theorem V_up (j : Fin 16) (k : Fin 2048) (f : Fin 512) :
    (V m c main_v2 : FVec Ideal S4x16x2048x512 .bf16) (ix4 3 j k f) = argUp m c (ix3 3 k (colOf j f)) := by
  have e : @Eq (FVec Ideal S4x16x2048x512 .bf16) (V m c main_v2)
      (truncf (F := Ideal) (φ := .f32) .bf16 (transpose S4x16x2048x512 [0, 2, 1, 3] (shapeCast S4x2048x16x512 (argUp m c) shapeCasts_S4x2048x8192_S4x2048x16x512)
          transposes_S4x2048x16x512_S4x16x2048x512_0_2_1_3) bitsLt_bf16_f32) := by
    show StableHlo.after hostOps0 _ main_v2 = _
    after_results_simp
    rfl
  rw [e]
  pointwise

/-- The norms' gains as the launch finds them. -/
theorem V_pre (d : Fin 2048) : (V m c main_v3 : FVec Ideal S1x2048 .f32) (ix2 0 d) = argG1 m c (ix1 d) := by
  have e : @Eq (FVec Ideal S1x2048 .f32) (V m c main_v3) (shapeCast S1x2048 (argG1 m c) shapeCasts_S2048_S1x2048) := by
    show StableHlo.after hostOps0 _ main_v3 = _
    after_results_simp
    rfl
  rw [e]
  pointwise
theorem V_post (d : Fin 2048) : (V m c main_v4 : FVec Ideal S1x2048 .f32) (ix2 0 d) = argG2 m c (ix1 d) := by
  have e : @Eq (FVec Ideal S1x2048 .f32) (V m c main_v4) (shapeCast S1x2048 (argG2 m c) shapeCasts_S2048_S1x2048) := by
    show StableHlo.after hostOps0 _ main_v4 = _
    after_results_simp
    rfl
  rw [e]
  pointwise

/-- The block of input rows. -/
theorem blk_x (t : Fin cfg0.N) (r : Fin 1024) (d : Fin 2048) :
    (iblk m c 0 t : FVec Ideal S1024x2048 .f32) (ix2 r d) = argX m c (ix2 (rowOf (blkOf t) r) d) := by
  unfold iblk
  rw [View.read_apply]
  show V m c main_arg0 _ = _
  rw [V_main_arg0]
  obtain ⟨h0, h1⟩ := index0 t
  refine congrArg (m ((c : Thread nD τ).loc main_arg0)) (funext fun a => Fin.ext ?_)
  match a with
  | ⟨0, _⟩ => show win0_0.index t 0 * 1024 + 1 * r.val = t.val / 16 * 1024 + r.val; omega
  | ⟨1, _⟩ => show win0_0.index t 1 * 2048 + 1 * d.val = d.val; omega

/-- The gain before the first product, and the one after the second. -/
theorem blk_pre (t : Fin cfg0.N) (d : Fin 2048) :
    (iblk m c 1 t : FVec Ideal S1x2048 .f32) (ix2 0 d) = argG1 m c (ix1 d) := by
  rw [← V_pre m c d]
  unfold iblk
  rw [View.read_apply]
  show V m c main_v3 _ = _
  refine congrArg (V m c main_v3) (funext fun a => Fin.ext ?_)
  match a with
  | ⟨0, _⟩ => rfl
  | ⟨1, _⟩ => show 0 * 2048 + 1 * d.val = d.val; omega
theorem blk_post (t : Fin cfg0.N) (d : Fin 2048) :
    (iblk m c 2 t : FVec Ideal S1x2048 .f32) (ix2 0 d) = argG2 m c (ix1 d) := by
  rw [← V_post m c d]
  unfold iblk
  rw [View.read_apply]
  show V m c main_v4 _ = _
  refine congrArg (V m c main_v4) (funext fun a => Fin.ext ?_)
  match a with
  | ⟨0, _⟩ => rfl
  | ⟨1, _⟩ => show 0 * 2048 + 1 * d.val = d.val; omega

/-- The six modulation rows of a block. -/
theorem blk_mod (t : Fin cfg0.N) (q : Fin 6) (d : Fin 2048) :
    (iblk m c 3 t : FVec Ideal S1x6x2048 .f32) (ix3 0 q d) = argMod m c (ix3 (modOf (blkOf t)) q d) := by
  unfold iblk
  rw [View.read_apply]
  show V m c main_arg3 _ = _
  rw [V_main_arg3]
  obtain ⟨h0, h1, h2⟩ := index3 t
  refine congrArg (m ((c : Thread nD τ).loc main_arg3)) (funext fun a => Fin.ext ?_)
  match a with
  | ⟨0, _⟩ => show win0_3.index t 0 * 1 + 1 * 0 = (if t.val / 16 < 8 then 0 else t.val / 16 - 7); omega
  | ⟨1, _⟩ => show win0_3.index t 1 * 6 + 1 * q.val = q.val; omega
  | ⟨2, _⟩ => show win0_3.index t 2 * 2048 + 1 * d.val = d.val; omega

/-- A tile of the first weight's columns. -/
theorem blk_up (t : Fin cfg0.N) (k : Fin 2048) (f : Fin 512) :
    (iblk m c 4 t : FVec Ideal S1x1x2048x512 .bf16) (ix4 0 0 k f) = argUp m c (ix3 3 k (colOf (tileOf t) f)) := by
  rw [← V_up m c (tileOf t) k f]
  unfold iblk
  rw [View.read_apply]
  show V m c main_v2 _ = _
  obtain ⟨h0, h1, h2, h3⟩ := index4 t
  refine congrArg (V m c main_v2) (funext fun a => Fin.ext ?_)
  match a with
  | ⟨0, _⟩ => show win0_4.index t 0 * 1 + 1 * 0 = 3; omega
  | ⟨1, _⟩ => show win0_4.index t 1 * 1 + 1 * 0 = t.val % 16; omega
  | ⟨2, _⟩ => show win0_4.index t 2 * 2048 + 1 * k.val = k.val; omega
  | ⟨3, _⟩ => show win0_4.index t 3 * 512 + 1 * f.val = f.val; omega

/-- A tile of the second weight's rows. -/
theorem blk_down (t : Fin cfg0.N) (f : Fin 512) (d : Fin 2048) :
    (iblk m c 5 t : FVec Ideal S1x512x2048 .f32) (ix3 0 f d) = argDown m c (ix3 3 (colOf (tileOf t) f) d) := by
  unfold iblk
  rw [View.read_apply]
  show V m c main_arg5 _ = _
  rw [V_main_arg5]
  obtain ⟨h0, h1, h2⟩ := index5 t
  refine congrArg (m ((c : Thread nD τ).loc main_arg5)) (funext fun a => Fin.ext ?_)
  match a with
  | ⟨0, _⟩ => show win0_5.index t 0 * 1 + 1 * 0 = 3; omega
  | ⟨1, _⟩ => show win0_5.index t 1 * 512 + 1 * f.val = t.val % 16 * 512 + f.val; omega
  | ⟨2, _⟩ => show win0_5.index t 2 * 2048 + 1 * d.val = d.val; omega

end Cert.Ffn3

end
-- ==== Proof.Ffn3Fold.lean ====
/-
  The feed-forward call over its grid: after point `t` the carried rows are the normalised rows of `t`'s row block, and
  the output block is the product summed over the column tiles so far; after a row block's last tile it is the result.
-/
module

public import proofs.«01_k».proof.Proof.Ffn3Block
public import proofs.«01_k».proof.Proof.Ffn3Pay
public import proofs.«01_k».proof.Proof.Ffn3Read

@[expose] public section

set_option maxRecDepth 16384

noncomputable section

namespace Cert.Ffn3

open Cert.Kernel5Ideal Cert.Kernel5Ideal.Gen
open Idealize.ShloMosaic Idealize.ShloMosaic.TcCoe Idealize.SL.Sem

/-! ## The sub-layer, plainly -/

section Plain
variable (X : FVec Ideal S16384x2048 .f32) (g1 g2 : FVec Ideal S2048 .f32) (M : FVec Ideal S16x6x2048 .f32)
  (U : FVec Ideal S4x2048x8192 .f32) (D : FVec Ideal S4x8192x2048 .f32)

/-- The modulation row of a row: the first for the context rows, then one for every 1024 rows. -/
def modRowOf (r : Fin 16384) : Fin 16 := ⟨if r.val < 8192 then 0 else 1 + (r.val - 8192) / 1024, by split <;> omega⟩

/-- A row, normalised, scaled and shifted. -/
def hin (r : Fin 16384) (d : Fin 2048) : EReal :=
  X (ix2 r d) * rs (fun k => X (ix2 r k)) * g1 (ix1 d) * (1 + M (ix3 (modRowOf r) 4 d)) + M (ix3 (modRowOf r) 3 d)

/-- The first product, rectified. -/
def act (r : Fin 16384) (f : Fin 8192) : EReal := max (∑ k : Fin 2048, hin X g1 M r k * U (ix3 3 k f)) 0

/-- A term of the second product. -/
def term (r : Fin 16384) (d : Fin 2048) (f : Fin 8192) : EReal := act X g1 M U r f * act X g1 M U r f * D (ix3 3 f d)

/-- The second product. -/
def mlp (r : Fin 16384) (d : Fin 2048) : EReal := ∑ f : Fin 8192, term X g1 M U D r d f

/-- The sub-layer's result. -/
def ffn (r : Fin 16384) (d : Fin 2048) : EReal :=
  X (ix2 r d) + M (ix3 (modRowOf r) 5 d) * (mlp X g1 M U D r d * rs (mlp X g1 M U D r) * g2 (ix1 d))

/-- The second product over the first `n` column tiles. -/
def upTo (r : Fin 16384) (d : Fin 2048) (n : ℕ) : EReal :=
  ∑ j : Fin 16, if j.val < n then ∑ f : Fin 512, term X g1 M U D r d (colOf j f) else 0

theorem upTo_zero (r : Fin 16384) (d : Fin 2048) : upTo X g1 M U D r d 0 = 0 := by
  simp [upTo]

/-- One tile more. -/
theorem upTo_succ (r : Fin 16384) (d : Fin 2048) (j : Fin 16) :
    upTo X g1 M U D r d (j.val + 1) = upTo X g1 M U D r d j.val + ∑ f : Fin 512, term X g1 M U D r d (colOf j f) := by
  unfold upTo
  rw [← Finset.sum_ite_eq' Finset.univ j (fun j => ∑ f : Fin 512, term X g1 M U D r d (colOf j f)) |>.trans (if_pos (Finset.mem_univ j)),
    ← Finset.sum_add_distrib]
  refine Finset.sum_congr rfl fun i _ => ?_
  by_cases h : i = j
  · subst h
    rw [if_pos (Nat.lt_succ_self _), if_neg (Nat.lt_irrefl _), if_pos rfl, zero_add]
  · have h' : i.val ≠ j.val := fun e => h (Fin.ext e)
    rw [if_neg h, add_zero]
    by_cases hlt : i.val < j.val
    · rw [if_pos hlt, if_pos (by omega)]
    · rw [if_neg hlt, if_neg (by omega)]

/-- All tiles: the whole product. -/
theorem upTo_all (r : Fin 16384) (d : Fin 2048) : upTo X g1 M U D r d 16 = mlp X g1 M U D r d := by
  unfold upTo mlp
  rw [← Equiv.sum_comp (finProdFinEquiv (m := 16) (n := 512)) (fun f : Fin (16 * 512) => term X g1 M U D r d f), Fintype.sum_prod_type]
  refine Finset.sum_congr rfl fun j _ => ?_
  rw [if_pos j.isLt]
  refine Finset.sum_congr rfl fun f _ => congrArg _ (Fin.ext ?_)
  show j.val * 512 + f.val = f.val + 512 * j.val
  omega

end Plain

/-! ## The grid -/

variable (m : (ℓ : Loc nD τ sig) → Buf (Elt Ideal) ℓ) (c : Dev nD)

theorem modRowOf_rowOf (b : Fin 16) (r : Fin 1024) : modRowOf (rowOf b r) = modOf b := by
  apply Fin.ext
  show (if b.val * 1024 + r.val < 8192 then 0 else 1 + (b.val * 1024 + r.val - 8192) / 1024) = if b.val < 8 then 0 else b.val - 7
  have := r.isLt
  split <;> split <;> omega

/-- The carried rows, at an index. -/
theorem carried_at (t : Fin cfg0.N) (r : Fin 1024) (d : Fin 2048) :
    k0_pay1 (F := Ideal) (iblk m c 0 t) (iblk m c 1 t) (modRow3 (iblk m c 3 t)) (modRow4 (iblk m c 3 t)) (ix2 r d)
      = hin (argX m c) (argG1 m c) (argMod m c) (rowOf (blkOf t) r) d := by
  have e3 : modRow3 (F := Ideal) (iblk m c 3 t) (ix3 0 0 d) = argMod m c (ix3 (modOf (blkOf t)) 3 d) := by
    rw [← blk_mod m c t 3 d]
    refine congrArg (iblk m c 3 t) (funext fun a => Fin.ext ?_)
    match a with
    | ⟨0, _⟩ => rfl
    | ⟨1, _⟩ => rfl
    | ⟨2, _⟩ => show 0 + 1 * d.val = d.val; omega
  have e4 : modRow4 (F := Ideal) (iblk m c 3 t) (ix3 0 0 d) = argMod m c (ix3 (modOf (blkOf t)) 4 d) := by
    rw [← blk_mod m c t 4 d]
    refine congrArg (iblk m c 3 t) (funext fun a => Fin.ext ?_)
    match a with
    | ⟨0, _⟩ => rfl
    | ⟨1, _⟩ => rfl
    | ⟨2, _⟩ => show 0 + 1 * d.val = d.val; omega
  refine (pay1_apply _ _ _ _ r d).trans ?_
  rw [e3, e4, blk_x, blk_pre]
  unfold hin
  rw [modRowOf_rowOf]
  simp only [blk_x]

/-- A tile's contribution over carried rows that are the block's normalised rows. -/
theorem tile_at (t : Fin cfg0.N) (h : FVec Ideal S1024x2048 .bf16) (o : FVec Ideal S1024x2048 .f32)
    (hh : ∀ (r : Fin 1024) (d : Fin 2048), h (ix2 r d) = hin (argX m c) (argG1 m c) (argMod m c) (rowOf (blkOf t) r) d)
    (ho : ∀ (r : Fin 1024) (d : Fin 2048), o (ix2 r d) = upTo (argX m c) (argG1 m c) (argMod m c) (argUp m c) (argDown m c) (rowOf (blkOf t) r) d (tileOf t).val)
    (r : Fin 1024) (d : Fin 2048) :
    k0_pay3 (F := Ideal) h (iblk m c 4 t) o (iblk m c 5 t) (ix2 r d)
      = upTo (argX m c) (argG1 m c) (argMod m c) (argUp m c) (argDown m c) (rowOf (blkOf t) r) d ((tileOf t).val + 1) := by
  refine (pay3_apply _ _ _ _ r d).trans ?_
  rw [upTo_succ, ho]
  simp only [hh, blk_up, blk_down]
  rfl

/-- The result at the last tile. -/
theorem last_at (t : Fin cfg0.N) (o : FVec Ideal S1024x2048 .f32)
    (ho : ∀ (r : Fin 1024) (d : Fin 2048), o (ix2 r d) = mlp (argX m c) (argG1 m c) (argMod m c) (argUp m c) (argDown m c) (rowOf (blkOf t) r) d)
    (r : Fin 1024) (d : Fin 2048) :
    k0_pay4 (F := Ideal) (iblk m c 0 t) (modRow5 (iblk m c 3 t)) o (iblk m c 2 t) (ix2 r d)
      = ffn (argX m c) (argG1 m c) (argG2 m c) (argMod m c) (argUp m c) (argDown m c) (rowOf (blkOf t) r) d := by
  have e5 : modRow5 (F := Ideal) (iblk m c 3 t) (ix3 0 0 d) = argMod m c (ix3 (modOf (blkOf t)) 5 d) := by
    rw [← blk_mod m c t 5 d]
    refine congrArg (iblk m c 3 t) (funext fun a => Fin.ext ?_)
    match a with
    | ⟨0, _⟩ => rfl
    | ⟨1, _⟩ => rfl
    | ⟨2, _⟩ => show 0 + 1 * d.val = d.val; omega
  refine (pay4_apply _ _ _ _ r d).trans ?_
  rw [e5, blk_x, blk_post]
  unfold ffn
  rw [modRowOf_rowOf]
  simp only [ho]

/-- What the output block and the carried rows hold after point `t`. -/
def Holds (t : Fin cfg0.N) (s : Vec Ideal S1024x2048 .f32 × Vec Ideal S1024x2048 .bf16) : Prop :=
  (∀ (r : Fin 1024) (d : Fin 2048), s.2 (ix2 r d) = hin (argX m c) (argG1 m c) (argMod m c) (rowOf (blkOf t) r) d)
  ∧ ∀ (r : Fin 1024) (d : Fin 2048), s.1 (ix2 r d)
      = if t.val % 16 = 15 then ffn (argX m c) (argG1 m c) (argG2 m c) (argMod m c) (argUp m c) (argDown m c) (rowOf (blkOf t) r) d
        else upTo (argX m c) (argG1 m c) (argMod m c) (argUp m c) (argDown m c) (rowOf (blkOf t) r) d (t.val % 16 + 1)

/-- A first tile's point. -/
theorem holds_first (t : Fin cfg0.N) (h0 : t.val % 16 = 0) : Holds m c t (outsAt0 m c t.val t.isLt) := by
  have h1 : ¬t.val % 16 = 15 := by omega
  rw [outsAt0_A m c t h0 h1, out_A, sout_A]
  refine ⟨carried_at m c t, fun r d => ?_⟩
  rw [if_neg h1]
  refine tile_at m c t _ _ (carried_at m c t) (fun r d => ?_) r d
  show k0_pay2 (F := Ideal) _ = upTo _ _ _ _ _ _ d (t.val % 16)
  rw [pay2_apply, h0, upTo_zero]

/-- A later tile's point, over what the point before left. -/
theorem holds_next (t : Fin cfg0.N) (h0 : ¬t.val % 16 = 0) (hlt : t.val - 1 < cfg0.N)
    (hacc : Holds m c ⟨t.val - 1, hlt⟩ (outsAt0 m c (t.val - 1) hlt)) : Holds m c t (outsAt0 m c t.val t.isLt) := by
  obtain ⟨t', ht'⟩ : ∃ t' : Fin cfg0.N, t' = ⟨t.val - 1, hlt⟩ := ⟨_, rfl⟩
  have ht : t.val = t'.val + 1 := by rw [ht']; show t.val = t.val - 1 + 1; omega
  rw [← ht'] at hacc
  generalize hE : outsAt0 m c (t.val - 1) hlt = acc at hacc
  have hb : blkOf t' = blkOf t := Fin.ext (by show t'.val / 16 = t.val / 16; omega)
  have h' : ¬t'.val % 16 = 15 := by omega
  have hj : t'.val % 16 + 1 = (tileOf t).val := by show t'.val % 16 + 1 = t.val % 16; omega
  obtain ⟨hs, ho⟩ := hacc
  rw [hb] at hs ho
  have ho' : ∀ (r : Fin 1024) (d : Fin 2048), acc.1 (ix2 r d) = upTo (argX m c) (argG1 m c) (argMod m c) (argUp m c) (argDown m c) (rowOf (blkOf t) r) d (tileOf t).val :=
    fun r d => by rw [ho r d, if_neg h', hj]
  have hT := tile_at m c t acc.2 acc.1 hs ho'
  by_cases h1 : t.val % 16 = 15
  · rw [outsAt0_C m c t h0 h1, out_C, hE]
    refine ⟨hs, fun r d => ?_⟩
    rw [if_pos h1]
    refine last_at m c t _ (fun r d => ?_) r d
    rw [hT r d, ← upTo_all]
    congr 1
    show t.val % 16 + 1 = 16
    omega
  · rw [outsAt0_B m c t h0 h1, out_B, hE]
    refine ⟨hs, fun r d => ?_⟩
    rw [if_neg h1]
    exact hT r d

/-- Every point. -/
theorem holds_all : ∀ (n : ℕ) (h : n < cfg0.N), Holds m c ⟨n, h⟩ (outsAt0 m c n h)
  | 0, h => holds_first m c ⟨0, h⟩ rfl
  | n + 1, h => by
    by_cases h0 : (n + 1) % 16 = 0
    · exact holds_first m c ⟨n + 1, h⟩ h0
    · exact holds_next m c ⟨n + 1, h⟩ h0 (Nat.lt_of_succ_lt h) (holds_all n (Nat.lt_of_succ_lt h))

/-! ## The result array -/

/-- The row of the input a row of the result stands for. -/
abbrev inRow (r : Fin 8192) : Fin 16384 := ⟨0 + r.val, by omega⟩

/-- The sub-layer's result as the contents of the result array. -/
def result : Buf (Elt Ideal) ((c : Thread nD τ).loc main_v5) :=
  fun i : S8192x2048.Idx => ffn (argX m c) (argG1 m c) (argG2 m c) (argMod m c) (argUp m c) (argDown m c) (inRow (i 0)) (i 1)

theorem index6 : ∀ t : Fin cfg0.N, win0_6.index t 0 = t.val / 16 ∧ win0_6.index t 1 = 0 :=
  (by decide +kernel : ∀ t : Fin grid0.N, win0_6.index t 0 = t.val / 16 ∧ win0_6.index t 1 = 0)

/-- What a row block's last tile writes back is that block of the result. -/
theorem flushed_eq (t : Fin cfg0.N) (hf : (cfg0.win 6).flush t = true) :
    (dats m 0 c).flushed 6 t = ((cfg0.win 6).blk t).view.read (Elt Ideal) (result m c) := by
  show (cfg0.win 6).cut (grid0.coords t) ((dats m 0 c).after 6 t) = _
  rw [after0_6]
  have hm : t.val % 16 = 15 := (flush0_6 t).mp hf
  obtain ⟨e0, e1⟩ := index6 t
  have h := (holds_all m c t.val t.isLt).2
  funext y
  have hy := h (y 0) (y 1)
  rw [if_pos hm] at hy
  have hl : (cfg0.win 6).xinj (grid0.coords t) y = ix2 (y 0) (y 1) := by
    funext a; apply Fin.ext
    match a with
    | ⟨0, _⟩ => show (y 0).val = (y 0).val; rfl
    | ⟨1, _⟩ => show (y 1).val = (y 1).val; rfl
  show (outsAt0 m c t.val t.isLt).1 ((cfg0.win 6).xinj (grid0.coords t) y) = result m c (((cfg0.win 6).blk t).view.emb y)
  rw [hl]
  refine hy.trans ?_
  have hb0 : (((cfg0.win 6).blk t).view.emb y 0).val = win0_6.index t 0 * 1024 + 1 * (y 0).val := rfl
  have hb1 : (((cfg0.win 6).blk t).view.emb y 1).val = win0_6.index t 1 * 2048 + 1 * (y 1).val := rfl
  have q0 : rowOf (blkOf t) (y 0) = inRow (((cfg0.win 6).blk t).view.emb y 0) := by
    apply Fin.ext
    show t.val / 16 * 1024 + (y 0).val = 0 + (((cfg0.win 6).blk t).view.emb y 0).val
    rw [hb0, e0]
    omega
  have q1 : y 1 = ((cfg0.win 6).blk t).view.emb y 1 := by
    apply Fin.ext
    rw [hb1, e1]
    omega
  unfold result
  dsimp only
  rw [← q0, ← q1]

/-- Every index of the result array is in the block of its rows' last tile. -/
theorem covered (i : S8192x2048.Idx) : ∃ t : Fin cfg0.N, (cfg0.win 6).flush t = true ∧ i ∈ ((cfg0.win 6).blk t).view.set := by
  have h0 : (i 0).val < 8192 := (i 0).isLt
  have h1 : (i 1).val < 2048 := (i 1).isLt
  have hN : cfg0.N = 128 := N_0
  obtain ⟨t, ht⟩ : ∃ t : Fin cfg0.N, t.val = 16 * ((i 0).val / 1024) + 15 := ⟨⟨16 * ((i 0).val / 1024) + 15, by omega⟩, rfl⟩
  refine ⟨t, (flush0_6 t).mpr (by omega), ?_⟩
  obtain ⟨e0, e1⟩ := index6 t
  show i ∈ ((View.whole main_v5).slice (win0_6.rect t)).set
  rw [View.set_slice_whole, Rect.mem_set_unit]
  intro a
  match a with
  | ⟨0, _⟩ =>
    show win0_6.index t 0 * 1024 ≤ (i 0).val ∧ (i 0).val < win0_6.index t 0 * 1024 + 1024
    omega
  | ⟨1, _⟩ =>
    show win0_6.index t 1 * 2048 ≤ (i 1).val ∧ (i 1).val < win0_6.index t 1 * 2048 + 2048
    omega

/-- The result array ends holding the sub-layer's result. -/
theorem final : (dats m 0 c).arrAt 6 cfg0.N = result m c :=
  (dats m 0 c).arrAt_eq_of_cover 6 _ (fun t hf => flushed_eq m c t hf) covered

/-- The call's run: the result array holds the sub-layer's result, and the arguments are as they were. -/
theorem run (ρ : Dev nD → PrngReg) : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c)))⟩)
    (run_main m ρ)

end Cert.Ffn3

end
-- ==== Proof.Ffn3Ref.lean ====
/-
  The feed-forward reference read at an index: it is the plain sub-layer.
-/
module

public import proofs.«01_k».proof.Proof.Gen.Reference5Ideal.Read
public import proofs.«01_k».proof.Proof.Ffn3Fold

@[expose] public section

set_option maxRecDepth 16384

noncomputable section

namespace Cert.Ffn3

open Cert.Reference5Ideal Cert.Reference5Ideal.Gen Cert.Reference5Ideal.Read
open Idealize.ShloMosaic Idealize.ShloMosaic.TcCoe Idealize.SL.Sem

variable (X : FVec Ideal S16384x2048 .f32) (g1 g2 : FVec Ideal S2048 .f32) (M : FVec Ideal S16x6x2048 .f32)
  (U : FVec Ideal S4x2048x8192 .f32) (D : FVec Ideal S4x8192x2048 .f32)

/-- The joined modulation vectors: row `r` takes the vectors of its sample. -/
theorem ref_mods (r : Fin 16384) (q : Fin 6) (d : Fin 2048) : val_main_v7 (F := Ideal) M (ix3 r q d) = M (ix3 (modRowOf r) q d) := by
  unfold val_main_v7
  by_cases h : r.val < 8192
  · have e := concatenate_pair_apply_left (t := S16384x6x2048) (s₁ := S8192x6x2048) (s₂ := S8192x6x2048) 0 (val_main_v2 (F := Ideal) M)
      (val_main_v6 (F := Ideal) M) concatenates_S8192x6x2048_S8192x6x2048_S16384x6x2048_d0 (ix3 r q d) rfl (ix3 (⟨r.val, h⟩ : Fin 8192) q d)
      (by intro b; match b with | ⟨0, _⟩ => rfl | ⟨1, _⟩ => rfl | ⟨2, _⟩ => rfl)
    refine e.trans ?_
    rw [val_main_v2_apply, val_main_v1_apply]
    refine congrArg M (funext fun a => Fin.ext ?_)
    match a with
    | ⟨0, _⟩ => show 0 + 0 = if r.val < 8192 then 0 else _; rw [if_pos h]
    | ⟨1, _⟩ => rfl
    | ⟨2, _⟩ => rfl
  · have hr := r.isLt
    have e := concatenate_pair_apply_right (t := S16384x6x2048) (s₁ := S8192x6x2048) (s₂ := S8192x6x2048) 0 (val_main_v2 (F := Ideal) M)
      (val_main_v6 (F := Ideal) M) concatenates_S8192x6x2048_S8192x6x2048_S16384x6x2048_d0 (ix3 r q d) rfl rfl
      (ix3 (⟨r.val - 8192, by omega⟩ : Fin 8192) q d)
      (by intro b hb; match b with | ⟨0, _⟩ => exact absurd rfl hb | ⟨1, _⟩ => rfl | ⟨2, _⟩ => rfl)
      (by show r.val - 8192 + 8192 = r.val; omega)
    refine e.trans ?_
    rw [val_main_v6_apply, val_main_v5_apply, val_main_v4_apply, val_main_v3_apply]
    have hq := q.isLt
    have hd := d.isLt
    refine congrArg M (funext fun a => Fin.ext ?_)
    match a with
    | ⟨0, _⟩ =>
      show 1 + (((r.val - 8192) * 6 + q.val) * 2048 + d.val) / 12582912 = if r.val < 8192 then 0 else _
      rw [if_neg h]
      omega
    | ⟨1, _⟩ => show (((r.val - 8192) * 6 + q.val) * 2048 + d.val) / 2048 % 6 = q.val; omega
    | ⟨2, _⟩ => show (((r.val - 8192) * 6 + q.val) * 2048 + d.val) % 2048 = d.val; omega

/-- The modulation vectors of the rows taken. -/
theorem ref_cut (r : Fin 8192) (q : Fin 6) (d : Fin 2048) : val_main_v8 (F := Ideal) M (ix3 r q d) = M (ix3 (modRowOf (inRow r)) q d) := by
  rw [← ref_mods M (inRow r), val_main_v8_apply]
  refine congrArg (val_main_v7 (F := Ideal) M) (funext fun a => Fin.ext ?_)
  match a with
  | ⟨0, _⟩ => first | rfl | (show r.val = 0 + r.val; omega)
  | ⟨1, _⟩ => rfl
  | ⟨2, _⟩ => rfl

/-- The rows taken. -/
theorem ref_rows (r : Fin 8192) (d : Fin 2048) : val_main_v0 (F := Ideal) X (ix2 r d) = X (ix2 (inRow r) d) := by
  rw [val_main_v0_apply]
  refine congrArg X (funext fun a => Fin.ext ?_)
  match a with
  | ⟨0, _⟩ => first | rfl | (show r.val = 0 + r.val; omega)
  | ⟨1, _⟩ => rfl

/-- The shift vectors. -/
theorem ref_sh (r : Fin 8192) (d : Fin 2048) : val_main_v10 (F := Ideal) M (ix2 r d) = M (ix3 (modRowOf (inRow r)) 3 d) := by
  rw [← ref_cut M r]
  pointwise [val_main_v10, val_main_v9]

/-- The scale vectors. -/
theorem ref_sc (r : Fin 8192) (d : Fin 2048) : val_main_v12 (F := Ideal) M (ix2 r d) = M (ix3 (modRowOf (inRow r)) 4 d) := by
  rw [← ref_cut M r]
  pointwise [val_main_v12, val_main_v11]

/-- The gate vectors. -/
theorem ref_gate (r : Fin 8192) (d : Fin 2048) : val_main_v14 (F := Ideal) M (ix2 r d) = M (ix3 (modRowOf (inRow r)) 5 d) := by
  rw [← ref_cut M r]
  pointwise [val_main_v14, val_main_v13]

/-- The normalised, scaled and shifted rows. -/
theorem ref_hin (r : Fin 8192) (d : Fin 2048) : val_main_v31 (F := Ideal) X g1 M (ix2 r d) = hin X g1 M (inRow r) d := by
  unfold hin
  rw [← ref_sh M r d, ← ref_sc M r d]
  simp only [← ref_rows X]
  pointwise [val_main_v31, val_main_v30, val_main_v29, val_main_v28, val_main_cst_2, val_main_v27, val_main_v26, val_main_v25, val_main_v24,
    val_main_v23, val_main_v22, val_main_v21, val_main_v20, val_main_cst_1, val_main_v19, val_main_v18, val_main_cst_0, val_main_v17, val_main_v16,
    val_main_cst, val_main_v15]
  rfl

/-- The rectified first product. -/
theorem ref_act (r : Fin 8192) (f : Fin 8192) : val_main_v35 (F := Ideal) X g1 M U (ix2 r f) = act X g1 M U (inRow r) f := by
  unfold act
  simp only [← ref_hin]
  pointwise [val_main_v35, val_main_v34, val_main_call0_v0, val_main_call0_cst, val_main_v33, val_main_v32]

/-- The second product. -/
theorem ref_mlp (r : Fin 8192) (d : Fin 2048) : val_main_v39 (F := Ideal) X g1 M U D (ix2 r d) = mlp X g1 M U D (inRow r) d := by
  unfold mlp term
  simp only [← ref_act]
  pointwise [val_main_v39, val_main_v36, val_main_v38, val_main_v37]

/-- The reference's result. -/
theorem ref_ffn (r : Fin 8192) (d : Fin 2048) : val_main_v54 (F := Ideal) X g1 g2 M U D (ix2 r d) = ffn X g1 g2 M U D (inRow r) d := by
  unfold ffn
  rw [← ref_rows X r d, ← ref_gate M r d, funext (fun k => (ref_mlp X g1 M U D r k).symm)]
  pointwise [val_main_v54, val_main_v53, val_main_v52, val_main_v51, val_main_v50, val_main_v49, val_main_v48, val_main_v47, val_main_v46,
    val_main_v45, val_main_v44, val_main_v43, val_main_v42, val_main_v41, val_main_v40, val_main_cst_3, val_main_cst_4, val_main_cst_5]
  rfl

/-- The reference's result array. -/
theorem ref_eq : (val_main_v54 (F := Ideal) X g1 g2 M U D : FVec Ideal S8192x2048 .f32) = fun i => ffn X g1 g2 M U D (inRow (i 0)) (i 1) := by
  funext i
  obtain ⟨r, d, rfl⟩ : ∃ (r : Fin 8192) (d : Fin 2048), i = ix2 r d := ⟨i 0, i 1, funext fun a => match a with | ⟨0, _⟩ => rfl | ⟨1, _⟩ => rfl⟩
  exact ref_ffn X g1 g2 M U D r d

end Cert.Ffn3

end
-- ==== Proof.Ffn4Block.lean ====
/-
  The feed-forward call, one grid point at a time: what each of the three cases of its body (first, middle and last
  column tile of a row block) leaves in the output block and in the normalised rows it carries.
-/
module

public import proofs.«01_k».proof.Proof.Gen.Kernel6Ideal.Frame
public import Idealize.ShloMosaic.Lib.Pipeline.Value
public import Idealize.ShloMosaic.Lib.Pointwise
public import Idealize.ShloMosaic.Lib.IdealHost

@[expose] public section

set_option maxRecDepth 16384

noncomputable section

namespace Cert.Ffn4

open Cert.Kernel6Ideal Cert.Kernel6Ideal.Gen
open Idealize.ShloMosaic Idealize.ShloMosaic.TcCoe Idealize.SL.Sem

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl
theorem off4 : (![0, 0, 0, 0] : Fin 4 → Nat) = fun _ => 0 := funext fun a => by fin_cases a <;> rfl

/-- Row `r` of a block of six modulation rows. -/
abbrev modRow3 (x3 : Vec F S1x6x2048 .f32) : Vec F S1x1x2048 .f32 :=
  View.ld x3 (Rect.unit (s := S1x6x2048) ![0, 3, 0] S1x1x2048.size inb_S1x6x2048_S1x1x2048_0_3_0)
/-- The modulation block's row of scales. -/
abbrev modRow4 (x3 : Vec F S1x6x2048 .f32) : Vec F S1x1x2048 .f32 :=
  View.ld x3 (Rect.unit (s := S1x6x2048) ![0, 4, 0] S1x1x2048.size inb_S1x6x2048_S1x1x2048_0_4_0)
/-- The modulation block's row of gates. -/
abbrev modRow5 (x3 : Vec F S1x6x2048 .f32) : Vec F S1x1x2048 .f32 :=
  View.ld x3 (Rect.unit (s := S1x6x2048) ![0, 5, 0] S1x1x2048.size inb_S1x6x2048_S1x1x2048_0_5_0)

section Cases
variable (c : Dev nD) (i : grid0.Coords) (arg2 : Memref sig .tc .vmem S1024x2048 .f32) (harg2 : arg2.IsWhole)
  (arg3 : Memref sig .tc .vmem S1x2048 .f32) (harg3 : arg3.IsWhole) (arg4 : Memref sig .tc .vmem S1x2048 .f32) (harg4 : arg4.IsWhole)
  (arg5 : Memref sig .tc .vmem S1x6x2048 .f32) (harg5 : arg5.IsWhole) (arg6 : Memref sig .tc .vmem S1x1x2048x512 .bf16) (harg6 : arg6.IsWhole)
  (arg7 : Memref sig .tc .vmem S1x512x2048 .f32) (harg7 : arg7.IsWhole) (arg8 : Memref sig .tc .vmem S1024x2048 .f32) (harg8 : arg8.IsWhole)
  (arg9 : Memref sig .tc .vmem S1024x2048 .bf16) (harg9 : arg9.IsWhole)
  (x0 : Vec F S1024x2048 .f32) (x1 x2 : Vec F S1x2048 .f32) (x3 : Vec F S1x6x2048 .f32) (x4 : Vec F S1x1x2048x512 .bf16)
  (x5 : Vec F S1x512x2048 .f32) (xo : Vec F S1024x2048 .f32) (xs : Vec F S1024x2048 .bf16)

/-- A middle tile adds its contribution to the output block. -/
theorem out_B (hc0 : ¬cond0_0 i) (hc1 : ¬cond0_1 i) :
    out0_B_6 c i arg2 harg2 arg3 harg3 arg4 harg4 arg5 harg5 arg6 harg6 arg7 harg7 arg8 harg8 arg9 harg9 hc0 hc1 x0 x1 x2 x3 x4 x5 xo xs
      = k0_pay3 xs x4 xo x5 := by
  unfold out0_B_6
  rw [View.read_writes_eq_canon _ _ _ (cover0_B_6 c i arg2 harg2 arg3 harg3 arg4 harg4 arg5 harg5 arg6 harg6 arg7 harg7 arg8 harg8 arg9 harg9 hc0 hc1 x0 x1 x2 x3 x4 x5 xo xs)]
  unfold kernelRun0_B
  dsimp only
  sl_unfold_words
  rw [View.canon_unit_zero off2]
  simp only [View.readAt_eq_ld, harg6.read_unread, harg7.read_unread, harg8.read_unread, harg9.read_unread,
    View.ld_unit_zero (S := S1024x2048) off2, View.ld_unit_zero (S := S1x1x2048x512) off4, View.ld_unit_zero (S := S1x512x2048) off3]

/-- The first tile stores the normalised, scaled and shifted rows and starts the output block from zeros. -/
theorem out_A (hc0 : cond0_0 i) (hc1 : ¬cond0_1 i) :
    out0_A_6 c i arg2 harg2 arg3 harg3 arg4 harg4 arg5 harg5 arg6 harg6 arg7 harg7 arg8 harg8 arg9 harg9 hc0 hc1 x0 x1 x2 x3 x4 x5
      = k0_pay3 (k0_pay1 x0 x1 (modRow3 x3) (modRow4 x3)) x4 (k0_pay2 (F := F)) x5 := by
  unfold out0_A_6
  rw [View.read_writes_eq_canon _ _ _ (cover0_A_6 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1024x2048) off2]
  simp only [View.readCov_unit_zero (S := S1024x2048) _ off2, View.readAt_eq_ld, harg2.read_unread, harg3.read_unread, harg5.read_unread, harg6.read_unread, harg7.read_unread,
    View.ld_unit_zero (S := S1024x2048) off2, View.ld_unit_zero (S := S1x2048) off2, View.ld_unit_zero (S := S1x1x2048x512) off4, View.ld_unit_zero (S := S1x512x2048) off3]

/-- The rows the first tile leaves for the others. -/
theorem sout_A (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 x4 x5
      = k0_pay1 x0 x1 (modRow3 x3) (modRow4 x3) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_unit_zero off2]
  simp only [View.readAt_eq_ld, harg2.read_unread, harg3.read_unread, harg5.read_unread,
    View.ld_unit_zero (S := S1024x2048) off2, View.ld_unit_zero (S := S1x2048) off2]

/-- The last tile adds its contribution, normalises, and adds the gated result to the input rows. -/
theorem out_C (hc0 : ¬cond0_0 i) (hc1 : cond0_1 i) :
    out0_C_6 c i arg2 harg2 arg3 harg3 arg4 harg4 arg5 harg5 arg6 harg6 arg7 harg7 arg8 harg8 arg9 harg9 hc0 hc1 x0 x1 x2 x3 x4 x5 xo xs
      = k0_pay4 x0 (modRow5 x3) (k0_pay3 xs x4 xo x5) x2 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xo xs)]
  unfold kernelRun0_C
  dsimp only
  sl_unfold_words
  rw [View.canon_cons_unit_zero (S := S1024x2048) off2]
  simp only [View.readCov_unit_zero (S := S1024x2048) _ off2, View.readAt_eq_ld, harg2.read_unread, harg4.read_unread, harg5.read_unread, harg6.read_unread, harg7.read_unread, harg8.read_unread, harg9.read_unread,
    View.ld_unit_zero (S := S1024x2048) off2, View.ld_unit_zero (S := S1x2048) off2, View.ld_unit_zero (S := S1x1x2048x512) off4, View.ld_unit_zero (S := S1x512x2048) off3]

end Cases

end Cert.Ffn4

end
-- ==== Proof.Ffn4Pay.lean ====
/-
  The feed-forward call's stored values read at an index, over the extended reals.
-/
module

public import proofs.«01_k».proof.Proof.Gen.Kernel6Ideal.Skeleton
public import Idealize.ShloMosaic.Lib.Pointwise
public import Idealize.ShloMosaic.Lib.IdealHost

@[expose] public section

set_option maxRecDepth 16384

noncomputable section

namespace Cert.Ffn4

open Cert.Kernel6Ideal Cert.Kernel6Ideal.Gen
open Idealize.ShloMosaic Idealize.ShloMosaic.TcCoe Idealize.SL.Sem

/-- The reciprocal root mean square of a row of 2048 entries, as the kernel and the plain formula both print it. -/
def rs (v : Fin 2048 → EReal) : EReal :=
  Ideal.rsqrt (Ideal.div (∑ k, v k * v k) (Ideal.ofBits .f32 0x45000000#32) + Ideal.ofBits .f32 0x358637BD#32)

/-- The carried rows: normalised, scaled and shifted. -/
theorem pay1_apply (x : FVec Ideal S1024x2048 .f32) (g : FVec Ideal S1x2048 .f32) (sh sc : FVec Ideal S1x1x2048 .f32) (r : Fin 1024) (d : Fin 2048) :
    k0_pay1 (F := Ideal) x g sh sc (ix2 r d)
      = x (ix2 r d) * rs (fun k => x (ix2 r k)) * g (ix2 0 d) * (1 + sc (ix3 0 0 d)) + sh (ix3 0 0 d) := by
  pointwise [k0_pay1]
  rfl

/-- The first tile's starting value. -/
theorem pay2_apply (j : S1024x2048.Idx) : k0_pay2 (F := Ideal) j = 0 := by
  pointwise [k0_pay2]

/-- A tile's contribution: the squared rectified product with its 512 columns, times its 512 rows. -/
theorem pay3_apply (h : FVec Ideal S1024x2048 .bf16) (wu : FVec Ideal S1x1x2048x512 .bf16) (o : FVec Ideal S1024x2048 .f32)
    (wd : FVec Ideal S1x512x2048 .f32) (r : Fin 1024) (d : Fin 2048) :
    k0_pay3 (F := Ideal) h wu o wd (ix2 r d)
      = o (ix2 r d) + ∑ f : Fin 512, max (∑ k : Fin 2048, h (ix2 r k) * wu (ix4 0 0 k f)) 0
          * max (∑ k : Fin 2048, h (ix2 r k) * wu (ix4 0 0 k f)) 0 * wd (ix3 0 f d) := by
  pointwise [k0_pay3]

/-- The last tile's result: the input row plus the gated, normalised product. -/
theorem pay4_apply (x : FVec Ideal S1024x2048 .f32) (g5 : FVec Ideal S1x1x2048 .f32) (o : FVec Ideal S1024x2048 .f32)
    (g : FVec Ideal S1x2048 .f32) (r : Fin 1024) (d : Fin 2048) :
    k0_pay4 (F := Ideal) x g5 o g (ix2 r d)
      = x (ix2 r d) + g5 (ix3 0 0 d) * (o (ix2 r d) * rs (fun k => o (ix2 r k)) * g (ix2 0 d)) := by
  pointwise [k0_pay4]
  rfl

end Cert.Ffn4

end
-- ==== Proof.Ffn4Read.lean ====
/-
  The feed-forward call's input blocks at an index, in terms of the arguments.
-/
module

public import proofs.«01_k».proof.Proof.Gen.Kernel6Ideal.Frame
public import Idealize.ShloMosaic.Lib.Pointwise
public import Idealize.ShloMosaic.Lib.StableHlo.Run
public import Idealize.ShloMosaic.Lib.IdealHost

@[expose] public section

set_option maxRecDepth 16384

noncomputable section

namespace Cert.Ffn4

open Cert.Kernel6Ideal Cert.Kernel6Ideal.Gen
open Idealize.ShloMosaic Idealize.ShloMosaic.TcCoe Idealize.SL.Sem

variable (m : (ℓ : Loc nD τ sig) → Buf (Elt Ideal) ℓ) (c : Dev nD)

/-- The arguments: rows, the two gains, modulation rows and the two weights. -/
abbrev argX : FVec Ideal S16384x2048 .f32 := m ((c : Thread nD τ).loc main_arg0)
abbrev argG1 : FVec Ideal S2048 .f32 := m ((c : Thread nD τ).loc main_arg1)
abbrev argG2 : FVec Ideal S2048 .f32 := m ((c : Thread nD τ).loc main_arg2)
abbrev argMod : FVec Ideal S16x6x2048 .f32 := m ((c : Thread nD τ).loc main_arg3)
abbrev argUp : FVec Ideal S4x2048x8192 .f32 := m ((c : Thread nD τ).loc main_arg4)
abbrev argDown : FVec Ideal S4x8192x2048 .f32 := m ((c : Thread nD τ).loc main_arg5)

/-- Row `r` of row block `b`. -/
abbrev rowOf (b : Fin 16) (r : Fin 1024) : Fin 16384 := ⟨b.val * 1024 + r.val, by omega⟩
/-- Column `f` of column tile `j`. -/
abbrev colOf (j : Fin 16) (f : Fin 512) : Fin 8192 := ⟨j.val * 512 + f.val, by omega⟩
/-- The modulation row a row block is given: the first for the 8 blocks of context rows, then one for each block. -/
abbrev modOf (b : Fin 16) : Fin 16 := ⟨if b.val < 8 then 0 else b.val - 7, by split <;> omega⟩
/-- A grid point's row block and column tile. -/
abbrev blkOf (t : Fin cfg0.N) : Fin 16 := ⟨t.val / 16 + 8, by have := lt_of_lt_of_eq t.isLt (show cfg0.N = 128 from N_0); omega⟩
abbrev tileOf (t : Fin cfg0.N) : Fin 16 := ⟨t.val % 16, by omega⟩

theorem index0 : ∀ t : Fin cfg0.N, win0_0.index t 0 = t.val / 16 + 8 ∧ win0_0.index t 1 = 0 :=
  (by decide +kernel : ∀ t : Fin grid0.N, win0_0.index t 0 = t.val / 16 + 8 ∧ win0_0.index t 1 = 0)
theorem index3 : ∀ t : Fin cfg0.N, win0_3.index t 0 = (if t.val / 16 + 8 < 8 then 0 else t.val / 16 + 8 - 7) ∧ win0_3.index t 1 = 0 ∧ win0_3.index t 2 = 0 :=
  (by decide +kernel : ∀ t : Fin grid0.N, win0_3.index t 0 = (if t.val / 16 + 8 < 8 then 0 else t.val / 16 + 8 - 7) ∧ win0_3.index t 1 = 0 ∧ win0_3.index t 2 = 0)
theorem index4 : ∀ t : Fin cfg0.N, win0_4.index t 0 = 3 ∧ win0_4.index t 1 = t.val % 16 ∧ win0_4.index t 2 = 0 ∧ win0_4.index t 3 = 0 :=
  (by decide +kernel : ∀ t : Fin grid0.N, win0_4.index t 0 = 3 ∧ win0_4.index t 1 = t.val % 16 ∧ win0_4.index t 2 = 0 ∧ win0_4.index t 3 = 0)
theorem index5 : ∀ t : Fin cfg0.N, win0_5.index t 0 = 3 ∧ win0_5.index t 1 = t.val % 16 ∧ win0_5.index t 2 = 0 :=
  (by decide +kernel : ∀ t : Fin grid0.N, win0_5.index t 0 = 3 ∧ win0_5.index t 1 = t.val % 16 ∧ win0_5.index t 2 = 0)

/-- The first weight as the launch finds it: cut into 16 tiles of 512 columns. -/
theorem V_up (j : Fin 16) (k : Fin 2048) (f : Fin 512) :
    (V m c main_v2 : FVec Ideal S4x16x2048x512 .bf16) (ix4 3 j k f) = argUp m c (ix3 3 k (colOf j f)) := by
  have e : @Eq (FVec Ideal S4x16x2048x512 .bf16) (V m c main_v2)
      (truncf (F := Ideal) (φ := .f32) .bf16 (transpose S4x16x2048x512 [0, 2, 1, 3] (shapeCast S4x2048x16x512 (argUp m c) shapeCasts_S4x2048x8192_S4x2048x16x512)
          transposes_S4x2048x16x512_S4x16x2048x512_0_2_1_3) bitsLt_bf16_f32) := by
    show StableHlo.after hostOps0 _ main_v2 = _
    after_results_simp
    rfl
  rw [e]
  pointwise

/-- The norms' gains as the launch finds them. -/
theorem V_pre (d : Fin 2048) : (V m c main_v3 : FVec Ideal S1x2048 .f32) (ix2 0 d) = argG1 m c (ix1 d) := by
  have e : @Eq (FVec Ideal S1x2048 .f32) (V m c main_v3) (shapeCast S1x2048 (argG1 m c) shapeCasts_S2048_S1x2048) := by
    show StableHlo.after hostOps0 _ main_v3 = _
    after_results_simp
    rfl
  rw [e]
  pointwise
theorem V_post (d : Fin 2048) : (V m c main_v4 : FVec Ideal S1x2048 .f32) (ix2 0 d) = argG2 m c (ix1 d) := by
  have e : @Eq (FVec Ideal S1x2048 .f32) (V m c main_v4) (shapeCast S1x2048 (argG2 m c) shapeCasts_S2048_S1x2048) := by
    show StableHlo.after hostOps0 _ main_v4 = _
    after_results_simp
    rfl
  rw [e]
  pointwise

/-- The block of input rows. -/
theorem blk_x (t : Fin cfg0.N) (r : Fin 1024) (d : Fin 2048) :
    (iblk m c 0 t : FVec Ideal S1024x2048 .f32) (ix2 r d) = argX m c (ix2 (rowOf (blkOf t) r) d) := by
  unfold iblk
  rw [View.read_apply]
  show V m c main_arg0 _ = _
  rw [V_main_arg0]
  obtain ⟨h0, h1⟩ := index0 t
  refine congrArg (m ((c : Thread nD τ).loc main_arg0)) (funext fun a => Fin.ext ?_)
  match a with
  | ⟨0, _⟩ => show win0_0.index t 0 * 1024 + 1 * r.val = (t.val / 16 + 8) * 1024 + r.val; omega
  | ⟨1, _⟩ => show win0_0.index t 1 * 2048 + 1 * d.val = d.val; omega

/-- The gain before the first product, and the one after the second. -/
theorem blk_pre (t : Fin cfg0.N) (d : Fin 2048) :
    (iblk m c 1 t : FVec Ideal S1x2048 .f32) (ix2 0 d) = argG1 m c (ix1 d) := by
  rw [← V_pre m c d]
  unfold iblk
  rw [View.read_apply]
  show V m c main_v3 _ = _
  refine congrArg (V m c main_v3) (funext fun a => Fin.ext ?_)
  match a with
  | ⟨0, _⟩ => rfl
  | ⟨1, _⟩ => show 0 * 2048 + 1 * d.val = d.val; omega
theorem blk_post (t : Fin cfg0.N) (d : Fin 2048) :
    (iblk m c 2 t : FVec Ideal S1x2048 .f32) (ix2 0 d) = argG2 m c (ix1 d) := by
  rw [← V_post m c d]
  unfold iblk
  rw [View.read_apply]
  show V m c main_v4 _ = _
  refine congrArg (V m c main_v4) (funext fun a => Fin.ext ?_)
  match a with
  | ⟨0, _⟩ => rfl
  | ⟨1, _⟩ => show 0 * 2048 + 1 * d.val = d.val; omega

/-- The six modulation rows of a block. -/
theorem blk_mod (t : Fin cfg0.N) (q : Fin 6) (d : Fin 2048) :
    (iblk m c 3 t : FVec Ideal S1x6x2048 .f32) (ix3 0 q d) = argMod m c (ix3 (modOf (blkOf t)) q d) := by
  unfold iblk
  rw [View.read_apply]
  show V m c main_arg3 _ = _
  rw [V_main_arg3]
  obtain ⟨h0, h1, h2⟩ := index3 t
  refine congrArg (m ((c : Thread nD τ).loc main_arg3)) (funext fun a => Fin.ext ?_)
  match a with
  | ⟨0, _⟩ => show win0_3.index t 0 * 1 + 1 * 0 = (if t.val / 16 + 8 < 8 then 0 else t.val / 16 + 8 - 7); omega
  | ⟨1, _⟩ => show win0_3.index t 1 * 6 + 1 * q.val = q.val; omega
  | ⟨2, _⟩ => show win0_3.index t 2 * 2048 + 1 * d.val = d.val; omega

/-- A tile of the first weight's columns. -/
theorem blk_up (t : Fin cfg0.N) (k : Fin 2048) (f : Fin 512) :
    (iblk m c 4 t : FVec Ideal S1x1x2048x512 .bf16) (ix4 0 0 k f) = argUp m c (ix3 3 k (colOf (tileOf t) f)) := by
  rw [← V_up m c (tileOf t) k f]
  unfold iblk
  rw [View.read_apply]
  show V m c main_v2 _ = _
  obtain ⟨h0, h1, h2, h3⟩ := index4 t
  refine congrArg (V m c main_v2) (funext fun a => Fin.ext ?_)
  match a with
  | ⟨0, _⟩ => show win0_4.index t 0 * 1 + 1 * 0 = 3; omega
  | ⟨1, _⟩ => show win0_4.index t 1 * 1 + 1 * 0 = t.val % 16; omega
  | ⟨2, _⟩ => show win0_4.index t 2 * 2048 + 1 * k.val = k.val; omega
  | ⟨3, _⟩ => show win0_4.index t 3 * 512 + 1 * f.val = f.val; omega

/-- A tile of the second weight's rows. -/
theorem blk_down (t : Fin cfg0.N) (f : Fin 512) (d : Fin 2048) :
    (iblk m c 5 t : FVec Ideal S1x512x2048 .f32) (ix3 0 f d) = argDown m c (ix3 3 (colOf (tileOf t) f) d) := by
  unfold iblk
  rw [View.read_apply]
  show V m c main_arg5 _ = _
  rw [V_main_arg5]
  obtain ⟨h0, h1, h2⟩ := index5 t
  refine congrArg (m ((c : Thread nD τ).loc main_arg5)) (funext fun a => Fin.ext ?_)
  match a with
  | ⟨0, _⟩ => show win0_5.index t 0 * 1 + 1 * 0 = 3; omega
  | ⟨1, _⟩ => show win0_5.index t 1 * 512 + 1 * f.val = t.val % 16 * 512 + f.val; omega
  | ⟨2, _⟩ => show win0_5.index t 2 * 2048 + 1 * d.val = d.val; omega

end Cert.Ffn4

end
-- ==== Proof.Ffn4Fold.lean ====
/-
  The feed-forward call over its grid: after point `t` the carried rows are the normalised rows of `t`'s row block, and
  the output block is the product summed over the column tiles so far; after a row block's last tile it is the result.
-/
module

public import proofs.«01_k».proof.Proof.Ffn4Block
public import proofs.«01_k».proof.Proof.Ffn4Pay
public import proofs.«01_k».proof.Proof.Ffn4Read

@[expose] public section

set_option maxRecDepth 16384

noncomputable section

namespace Cert.Ffn4

open Cert.Kernel6Ideal Cert.Kernel6Ideal.Gen
open Idealize.ShloMosaic Idealize.ShloMosaic.TcCoe Idealize.SL.Sem

/-! ## The sub-layer, plainly -/

section Plain
variable (X : FVec Ideal S16384x2048 .f32) (g1 g2 : FVec Ideal S2048 .f32) (M : FVec Ideal S16x6x2048 .f32)
  (U : FVec Ideal S4x2048x8192 .f32) (D : FVec Ideal S4x8192x2048 .f32)

/-- The modulation row of a row: the first for the context rows, then one for every 1024 rows. -/
def modRowOf (r : Fin 16384) : Fin 16 := ⟨if r.val < 8192 then 0 else 1 + (r.val - 8192) / 1024, by split <;> omega⟩

/-- A row, normalised, scaled and shifted. -/
def hin (r : Fin 16384) (d : Fin 2048) : EReal :=
  X (ix2 r d) * rs (fun k => X (ix2 r k)) * g1 (ix1 d) * (1 + M (ix3 (modRowOf r) 4 d)) + M (ix3 (modRowOf r) 3 d)

/-- The first product, rectified. -/
def act (r : Fin 16384) (f : Fin 8192) : EReal := max (∑ k : Fin 2048, hin X g1 M r k * U (ix3 3 k f)) 0

/-- A term of the second product. -/
def term (r : Fin 16384) (d : Fin 2048) (f : Fin 8192) : EReal := act X g1 M U r f * act X g1 M U r f * D (ix3 3 f d)

/-- The second product. -/
def mlp (r : Fin 16384) (d : Fin 2048) : EReal := ∑ f : Fin 8192, term X g1 M U D r d f

/-- The sub-layer's result. -/
def ffn (r : Fin 16384) (d : Fin 2048) : EReal :=
  X (ix2 r d) + M (ix3 (modRowOf r) 5 d) * (mlp X g1 M U D r d * rs (mlp X g1 M U D r) * g2 (ix1 d))

/-- The second product over the first `n` column tiles. -/
def upTo (r : Fin 16384) (d : Fin 2048) (n : ℕ) : EReal :=
  ∑ j : Fin 16, if j.val < n then ∑ f : Fin 512, term X g1 M U D r d (colOf j f) else 0

theorem upTo_zero (r : Fin 16384) (d : Fin 2048) : upTo X g1 M U D r d 0 = 0 := by
  simp [upTo]

/-- One tile more. -/
theorem upTo_succ (r : Fin 16384) (d : Fin 2048) (j : Fin 16) :
    upTo X g1 M U D r d (j.val + 1) = upTo X g1 M U D r d j.val + ∑ f : Fin 512, term X g1 M U D r d (colOf j f) := by
  unfold upTo
  rw [← Finset.sum_ite_eq' Finset.univ j (fun j => ∑ f : Fin 512, term X g1 M U D r d (colOf j f)) |>.trans (if_pos (Finset.mem_univ j)),
    ← Finset.sum_add_distrib]
  refine Finset.sum_congr rfl fun i _ => ?_
  by_cases h : i = j
  · subst h
    rw [if_pos (Nat.lt_succ_self _), if_neg (Nat.lt_irrefl _), if_pos rfl, zero_add]
  · have h' : i.val ≠ j.val := fun e => h (Fin.ext e)
    rw [if_neg h, add_zero]
    by_cases hlt : i.val < j.val
    · rw [if_pos hlt, if_pos (by omega)]
    · rw [if_neg hlt, if_neg (by omega)]

/-- All tiles: the whole product. -/
theorem upTo_all (r : Fin 16384) (d : Fin 2048) : upTo X g1 M U D r d 16 = mlp X g1 M U D r d := by
  unfold upTo mlp
  rw [← Equiv.sum_comp (finProdFinEquiv (m := 16) (n := 512)) (fun f : Fin (16 * 512) => term X g1 M U D r d f), Fintype.sum_prod_type]
  refine Finset.sum_congr rfl fun j _ => ?_
  rw [if_pos j.isLt]
  refine Finset.sum_congr rfl fun f _ => congrArg _ (Fin.ext ?_)
  show j.val * 512 + f.val = f.val + 512 * j.val
  omega

end Plain

/-! ## The grid -/

variable (m : (ℓ : Loc nD τ sig) → Buf (Elt Ideal) ℓ) (c : Dev nD)

theorem modRowOf_rowOf (b : Fin 16) (r : Fin 1024) : modRowOf (rowOf b r) = modOf b := by
  apply Fin.ext
  show (if b.val * 1024 + r.val < 8192 then 0 else 1 + (b.val * 1024 + r.val - 8192) / 1024) = if b.val < 8 then 0 else b.val - 7
  have := r.isLt
  split <;> split <;> omega

/-- The carried rows, at an index. -/
theorem carried_at (t : Fin cfg0.N) (r : Fin 1024) (d : Fin 2048) :
    k0_pay1 (F := Ideal) (iblk m c 0 t) (iblk m c 1 t) (modRow3 (iblk m c 3 t)) (modRow4 (iblk m c 3 t)) (ix2 r d)
      = hin (argX m c) (argG1 m c) (argMod m c) (rowOf (blkOf t) r) d := by
  have e3 : modRow3 (F := Ideal) (iblk m c 3 t) (ix3 0 0 d) = argMod m c (ix3 (modOf (blkOf t)) 3 d) := by
    rw [← blk_mod m c t 3 d]
    refine congrArg (iblk m c 3 t) (funext fun a => Fin.ext ?_)
    match a with
    | ⟨0, _⟩ => rfl
    | ⟨1, _⟩ => rfl
    | ⟨2, _⟩ => show 0 + 1 * d.val = d.val; omega
  have e4 : modRow4 (F := Ideal) (iblk m c 3 t) (ix3 0 0 d) = argMod m c (ix3 (modOf (blkOf t)) 4 d) := by
    rw [← blk_mod m c t 4 d]
    refine congrArg (iblk m c 3 t) (funext fun a => Fin.ext ?_)
    match a with
    | ⟨0, _⟩ => rfl
    | ⟨1, _⟩ => rfl
    | ⟨2, _⟩ => show 0 + 1 * d.val = d.val; omega
  refine (pay1_apply _ _ _ _ r d).trans ?_
  rw [e3, e4, blk_x, blk_pre]
  unfold hin
  rw [modRowOf_rowOf]
  simp only [blk_x]

/-- A tile's contribution over carried rows that are the block's normalised rows. -/
theorem tile_at (t : Fin cfg0.N) (h : FVec Ideal S1024x2048 .bf16) (o : FVec Ideal S1024x2048 .f32)
    (hh : ∀ (r : Fin 1024) (d : Fin 2048), h (ix2 r d) = hin (argX m c) (argG1 m c) (argMod m c) (rowOf (blkOf t) r) d)
    (ho : ∀ (r : Fin 1024) (d : Fin 2048), o (ix2 r d) = upTo (argX m c) (argG1 m c) (argMod m c) (argUp m c) (argDown m c) (rowOf (blkOf t) r) d (tileOf t).val)
    (r : Fin 1024) (d : Fin 2048) :
    k0_pay3 (F := Ideal) h (iblk m c 4 t) o (iblk m c 5 t) (ix2 r d)
      = upTo (argX m c) (argG1 m c) (argMod m c) (argUp m c) (argDown m c) (rowOf (blkOf t) r) d ((tileOf t).val + 1) := by
  refine (pay3_apply _ _ _ _ r d).trans ?_
  rw [upTo_succ, ho]
  simp only [hh, blk_up, blk_down]
  rfl

/-- The result at the last tile. -/
theorem last_at (t : Fin cfg0.N) (o : FVec Ideal S1024x2048 .f32)
    (ho : ∀ (r : Fin 1024) (d : Fin 2048), o (ix2 r d) = mlp (argX m c) (argG1 m c) (argMod m c) (argUp m c) (argDown m c) (rowOf (blkOf t) r) d)
    (r : Fin 1024) (d : Fin 2048) :
    k0_pay4 (F := Ideal) (iblk m c 0 t) (modRow5 (iblk m c 3 t)) o (iblk m c 2 t) (ix2 r d)
      = ffn (argX m c) (argG1 m c) (argG2 m c) (argMod m c) (argUp m c) (argDown m c) (rowOf (blkOf t) r) d := by
  have e5 : modRow5 (F := Ideal) (iblk m c 3 t) (ix3 0 0 d) = argMod m c (ix3 (modOf (blkOf t)) 5 d) := by
    rw [← blk_mod m c t 5 d]
    refine congrArg (iblk m c 3 t) (funext fun a => Fin.ext ?_)
    match a with
    | ⟨0, _⟩ => rfl
    | ⟨1, _⟩ => rfl
    | ⟨2, _⟩ => show 0 + 1 * d.val = d.val; omega
  refine (pay4_apply _ _ _ _ r d).trans ?_
  rw [e5, blk_x, blk_post]
  unfold ffn
  rw [modRowOf_rowOf]
  simp only [ho]

/-- What the output block and the carried rows hold after point `t`. -/
def Holds (t : Fin cfg0.N) (s : Vec Ideal S1024x2048 .f32 × Vec Ideal S1024x2048 .bf16) : Prop :=
  (∀ (r : Fin 1024) (d : Fin 2048), s.2 (ix2 r d) = hin (argX m c) (argG1 m c) (argMod m c) (rowOf (blkOf t) r) d)
  ∧ ∀ (r : Fin 1024) (d : Fin 2048), s.1 (ix2 r d)
      = if t.val % 16 = 15 then ffn (argX m c) (argG1 m c) (argG2 m c) (argMod m c) (argUp m c) (argDown m c) (rowOf (blkOf t) r) d
        else upTo (argX m c) (argG1 m c) (argMod m c) (argUp m c) (argDown m c) (rowOf (blkOf t) r) d (t.val % 16 + 1)

/-- A first tile's point. -/
theorem holds_first (t : Fin cfg0.N) (h0 : t.val % 16 = 0) : Holds m c t (outsAt0 m c t.val t.isLt) := by
  have h1 : ¬t.val % 16 = 15 := by omega
  rw [outsAt0_A m c t h0 h1, out_A, sout_A]
  refine ⟨carried_at m c t, fun r d => ?_⟩
  rw [if_neg h1]
  refine tile_at m c t _ _ (carried_at m c t) (fun r d => ?_) r d
  show k0_pay2 (F := Ideal) _ = upTo _ _ _ _ _ _ d (t.val % 16)
  rw [pay2_apply, h0, upTo_zero]

/-- A later tile's point, over what the point before left. -/
theorem holds_next (t : Fin cfg0.N) (h0 : ¬t.val % 16 = 0) (hlt : t.val - 1 < cfg0.N)
    (hacc : Holds m c ⟨t.val - 1, hlt⟩ (outsAt0 m c (t.val - 1) hlt)) : Holds m c t (outsAt0 m c t.val t.isLt) := by
  obtain ⟨t', ht'⟩ : ∃ t' : Fin cfg0.N, t' = ⟨t.val - 1, hlt⟩ := ⟨_, rfl⟩
  have ht : t.val = t'.val + 1 := by rw [ht']; show t.val = t.val - 1 + 1; omega
  rw [← ht'] at hacc
  generalize hE : outsAt0 m c (t.val - 1) hlt = acc at hacc
  have hb : blkOf t' = blkOf t := Fin.ext (by show t'.val / 16 + 8 = t.val / 16 + 8; omega)
  have h' : ¬t'.val % 16 = 15 := by omega
  have hj : t'.val % 16 + 1 = (tileOf t).val := by show t'.val % 16 + 1 = t.val % 16; omega
  obtain ⟨hs, ho⟩ := hacc
  rw [hb] at hs ho
  have ho' : ∀ (r : Fin 1024) (d : Fin 2048), acc.1 (ix2 r d) = upTo (argX m c) (argG1 m c) (argMod m c) (argUp m c) (argDown m c) (rowOf (blkOf t) r) d (tileOf t).val :=
    fun r d => by rw [ho r d, if_neg h', hj]
  have hT := tile_at m c t acc.2 acc.1 hs ho'
  by_cases h1 : t.val % 16 = 15
  · rw [outsAt0_C m c t h0 h1, out_C, hE]
    refine ⟨hs, fun r d => ?_⟩
    rw [if_pos h1]
    refine last_at m c t _ (fun r d => ?_) r d
    rw [hT r d, ← upTo_all]
    congr 1
    show t.val % 16 + 1 = 16
    omega
  · rw [outsAt0_B m c t h0 h1, out_B, hE]
    refine ⟨hs, fun r d => ?_⟩
    rw [if_neg h1]
    exact hT r d

/-- Every point. -/
theorem holds_all : ∀ (n : ℕ) (h : n < cfg0.N), Holds m c ⟨n, h⟩ (outsAt0 m c n h)
  | 0, h => holds_first m c ⟨0, h⟩ rfl
  | n + 1, h => by
    by_cases h0 : (n + 1) % 16 = 0
    · exact holds_first m c ⟨n + 1, h⟩ h0
    · exact holds_next m c ⟨n + 1, h⟩ h0 (Nat.lt_of_succ_lt h) (holds_all n (Nat.lt_of_succ_lt h))

/-! ## The result array -/

/-- The row of the input a row of the result stands for. -/
abbrev inRow (r : Fin 8192) : Fin 16384 := ⟨8192 + r.val, by omega⟩

/-- The sub-layer's result as the contents of the result array. -/
def result : Buf (Elt Ideal) ((c : Thread nD τ).loc main_v5) :=
  fun i : S8192x2048.Idx => ffn (argX m c) (argG1 m c) (argG2 m c) (argMod m c) (argUp m c) (argDown m c) (inRow (i 0)) (i 1)

theorem index6 : ∀ t : Fin cfg0.N, win0_6.index t 0 = t.val / 16 ∧ win0_6.index t 1 = 0 :=
  (by decide +kernel : ∀ t : Fin grid0.N, win0_6.index t 0 = t.val / 16 ∧ win0_6.index t 1 = 0)

/-- What a row block's last tile writes back is that block of the result. -/
theorem flushed_eq (t : Fin cfg0.N) (hf : (cfg0.win 6).flush t = true) :
    (dats m 0 c).flushed 6 t = ((cfg0.win 6).blk t).view.read (Elt Ideal) (result m c) := by
  show (cfg0.win 6).cut (grid0.coords t) ((dats m 0 c).after 6 t) = _
  rw [after0_6]
  have hm : t.val % 16 = 15 := (flush0_6 t).mp hf
  obtain ⟨e0, e1⟩ := index6 t
  have h := (holds_all m c t.val t.isLt).2
  funext y
  have hy := h (y 0) (y 1)
  rw [if_pos hm] at hy
  have hl : (cfg0.win 6).xinj (grid0.coords t) y = ix2 (y 0) (y 1) := by
    funext a; apply Fin.ext
    match a with
    | ⟨0, _⟩ => show (y 0).val = (y 0).val; rfl
    | ⟨1, _⟩ => show (y 1).val = (y 1).val; rfl
  show (outsAt0 m c t.val t.isLt).1 ((cfg0.win 6).xinj (grid0.coords t) y) = result m c (((cfg0.win 6).blk t).view.emb y)
  rw [hl]
  refine hy.trans ?_
  have hb0 : (((cfg0.win 6).blk t).view.emb y 0).val = win0_6.index t 0 * 1024 + 1 * (y 0).val := rfl
  have hb1 : (((cfg0.win 6).blk t).view.emb y 1).val = win0_6.index t 1 * 2048 + 1 * (y 1).val := rfl
  have q0 : rowOf (blkOf t) (y 0) = inRow (((cfg0.win 6).blk t).view.emb y 0) := by
    apply Fin.ext
    show (t.val / 16 + 8) * 1024 + (y 0).val = 8192 + (((cfg0.win 6).blk t).view.emb y 0).val
    rw [hb0, e0]
    omega
  have q1 : y 1 = ((cfg0.win 6).blk t).view.emb y 1 := by
    apply Fin.ext
    rw [hb1, e1]
    omega
  unfold result
  dsimp only
  rw [← q0, ← q1]

/-- Every index of the result array is in the block of its rows' last tile. -/
theorem covered (i : S8192x2048.Idx) : ∃ t : Fin cfg0.N, (cfg0.win 6).flush t = true ∧ i ∈ ((cfg0.win 6).blk t).view.set := by
  have h0 : (i 0).val < 8192 := (i 0).isLt
  have h1 : (i 1).val < 2048 := (i 1).isLt
  have hN : cfg0.N = 128 := N_0
  obtain ⟨t, ht⟩ : ∃ t : Fin cfg0.N, t.val = 16 * ((i 0).val / 1024) + 15 := ⟨⟨16 * ((i 0).val / 1024) + 15, by omega⟩, rfl⟩
  refine ⟨t, (flush0_6 t).mpr (by omega), ?_⟩
  obtain ⟨e0, e1⟩ := index6 t
  show i ∈ ((View.whole main_v5).slice (win0_6.rect t)).set
  rw [View.set_slice_whole, Rect.mem_set_unit]
  intro a
  match a with
  | ⟨0, _⟩ =>
    show win0_6.index t 0 * 1024 ≤ (i 0).val ∧ (i 0).val < win0_6.index t 0 * 1024 + 1024
    omega
  | ⟨1, _⟩ =>
    show win0_6.index t 1 * 2048 ≤ (i 1).val ∧ (i 1).val < win0_6.index t 1 * 2048 + 2048
    omega

/-- The result array ends holding the sub-layer's result. -/
theorem final : (dats m 0 c).arrAt 6 cfg0.N = result m c :=
  (dats m 0 c).arrAt_eq_of_cover 6 _ (fun t hf => flushed_eq m c t hf) covered

/-- The call's run: the result array holds the sub-layer's result, and the arguments are as they were. -/
theorem run (ρ : Dev nD → PrngReg) : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c)))⟩)
    (run_main m ρ)

end Cert.Ffn4

end
-- ==== Proof.Ffn4Ref.lean ====
/-
  The feed-forward reference read at an index: it is the plain sub-layer.
-/
module

public import proofs.«01_k».proof.Proof.Gen.Reference6Ideal.Read
public import proofs.«01_k».proof.Proof.Ffn4Fold

@[expose] public section

set_option maxRecDepth 16384

noncomputable section

namespace Cert.Ffn4

open Cert.Reference6Ideal Cert.Reference6Ideal.Gen Cert.Reference6Ideal.Read
open Idealize.ShloMosaic Idealize.ShloMosaic.TcCoe Idealize.SL.Sem

variable (X : FVec Ideal S16384x2048 .f32) (g1 g2 : FVec Ideal S2048 .f32) (M : FVec Ideal S16x6x2048 .f32)
  (U : FVec Ideal S4x2048x8192 .f32) (D : FVec Ideal S4x8192x2048 .f32)

/-- The joined modulation vectors: row `r` takes the vectors of its sample. -/
theorem ref_mods (r : Fin 16384) (q : Fin 6) (d : Fin 2048) : val_main_v7 (F := Ideal) M (ix3 r q d) = M (ix3 (modRowOf r) q d) := by
  unfold val_main_v7
  by_cases h : r.val < 8192
  · have e := concatenate_pair_apply_left (t := S16384x6x2048) (s₁ := S8192x6x2048) (s₂ := S8192x6x2048) 0 (val_main_v2 (F := Ideal) M)
      (val_main_v6 (F := Ideal) M) concatenates_S8192x6x2048_S8192x6x2048_S16384x6x2048_d0 (ix3 r q d) rfl (ix3 (⟨r.val, h⟩ : Fin 8192) q d)
      (by intro b; match b with | ⟨0, _⟩ => rfl | ⟨1, _⟩ => rfl | ⟨2, _⟩ => rfl)
    refine e.trans ?_
    rw [val_main_v2_apply, val_main_v1_apply]
    refine congrArg M (funext fun a => Fin.ext ?_)
    match a with
    | ⟨0, _⟩ => show 0 + 0 = if r.val < 8192 then 0 else _; rw [if_pos h]
    | ⟨1, _⟩ => rfl
    | ⟨2, _⟩ => rfl
  · have hr := r.isLt
    have e := concatenate_pair_apply_right (t := S16384x6x2048) (s₁ := S8192x6x2048) (s₂ := S8192x6x2048) 0 (val_main_v2 (F := Ideal) M)
      (val_main_v6 (F := Ideal) M) concatenates_S8192x6x2048_S8192x6x2048_S16384x6x2048_d0 (ix3 r q d) rfl rfl
      (ix3 (⟨r.val - 8192, by omega⟩ : Fin 8192) q d)
      (by intro b hb; match b with | ⟨0, _⟩ => exact absurd rfl hb | ⟨1, _⟩ => rfl | ⟨2, _⟩ => rfl)
      (by show r.val - 8192 + 8192 = r.val; omega)
    refine e.trans ?_
    rw [val_main_v6_apply, val_main_v5_apply, val_main_v4_apply, val_main_v3_apply]
    have hq := q.isLt
    have hd := d.isLt
    refine congrArg M (funext fun a => Fin.ext ?_)
    match a with
    | ⟨0, _⟩ =>
      show 1 + (((r.val - 8192) * 6 + q.val) * 2048 + d.val) / 12582912 = if r.val < 8192 then 0 else _
      rw [if_neg h]
      omega
    | ⟨1, _⟩ => show (((r.val - 8192) * 6 + q.val) * 2048 + d.val) / 2048 % 6 = q.val; omega
    | ⟨2, _⟩ => show (((r.val - 8192) * 6 + q.val) * 2048 + d.val) % 2048 = d.val; omega

/-- The modulation vectors of the rows taken. -/
theorem ref_cut (r : Fin 8192) (q : Fin 6) (d : Fin 2048) : val_main_v8 (F := Ideal) M (ix3 r q d) = M (ix3 (modRowOf (inRow r)) q d) := by
  rw [← ref_mods M (inRow r), val_main_v8_apply]
  refine congrArg (val_main_v7 (F := Ideal) M) (funext fun a => Fin.ext ?_)
  match a with
  | ⟨0, _⟩ => first | rfl | (show r.val = 0 + r.val; omega)
  | ⟨1, _⟩ => rfl
  | ⟨2, _⟩ => rfl

/-- The rows taken. -/
theorem ref_rows (r : Fin 8192) (d : Fin 2048) : val_main_v0 (F := Ideal) X (ix2 r d) = X (ix2 (inRow r) d) := by
  rw [val_main_v0_apply]
  refine congrArg X (funext fun a => Fin.ext ?_)
  match a with
  | ⟨0, _⟩ => first | rfl | (show r.val = 0 + r.val; omega)
  | ⟨1, _⟩ => rfl

/-- The shift vectors. -/
theorem ref_sh (r : Fin 8192) (d : Fin 2048) : val_main_v10 (F := Ideal) M (ix2 r d) = M (ix3 (modRowOf (inRow r)) 3 d) := by
  rw [← ref_cut M r]
  pointwise [val_main_v10, val_main_v9]

/-- The scale vectors. -/
theorem ref_sc (r : Fin 8192) (d : Fin 2048) : val_main_v12 (F := Ideal) M (ix2 r d) = M (ix3 (modRowOf (inRow r)) 4 d) := by
  rw [← ref_cut M r]
  pointwise [val_main_v12, val_main_v11]

/-- The gate vectors. -/
theorem ref_gate (r : Fin 8192) (d : Fin 2048) : val_main_v14 (F := Ideal) M (ix2 r d) = M (ix3 (modRowOf (inRow r)) 5 d) := by
  rw [← ref_cut M r]
  pointwise [val_main_v14, val_main_v13]

/-- The normalised, scaled and shifted rows. -/
theorem ref_hin (r : Fin 8192) (d : Fin 2048) : val_main_v31 (F := Ideal) X g1 M (ix2 r d) = hin X g1 M (inRow r) d := by
  unfold hin
  rw [← ref_sh M r d, ← ref_sc M r d]
  simp only [← ref_rows X]
  pointwise [val_main_v31, val_main_v30, val_main_v29, val_main_v28, val_main_cst_2, val_main_v27, val_main_v26, val_main_v25, val_main_v24,
    val_main_v23, val_main_v22, val_main_v21, val_main_v20, val_main_cst_1, val_main_v19, val_main_v18, val_main_cst_0, val_main_v17, val_main_v16,
    val_main_cst, val_main_v15]
  rfl

/-- The rectified first product. -/
theorem ref_act (r : Fin 8192) (f : Fin 8192) : val_main_v35 (F := Ideal) X g1 M U (ix2 r f) = act X g1 M U (inRow r) f := by
  unfold act
  simp only [← ref_hin]
  pointwise [val_main_v35, val_main_v34, val_main_call0_v0, val_main_call0_cst, val_main_v33, val_main_v32]

/-- The second product. -/
theorem ref_mlp (r : Fin 8192) (d : Fin 2048) : val_main_v39 (F := Ideal) X g1 M U D (ix2 r d) = mlp X g1 M U D (inRow r) d := by
  unfold mlp term
  simp only [← ref_act]
  pointwise [val_main_v39, val_main_v36, val_main_v38, val_main_v37]

/-- The reference's result. -/
theorem ref_ffn (r : Fin 8192) (d : Fin 2048) : val_main_v54 (F := Ideal) X g1 g2 M U D (ix2 r d) = ffn X g1 g2 M U D (inRow r) d := by
  unfold ffn
  rw [← ref_rows X r d, ← ref_gate M r d, funext (fun k => (ref_mlp X g1 M U D r k).symm)]
  pointwise [val_main_v54, val_main_v53, val_main_v52, val_main_v51, val_main_v50, val_main_v49, val_main_v48, val_main_v47, val_main_v46,
    val_main_v45, val_main_v44, val_main_v43, val_main_v42, val_main_v41, val_main_v40, val_main_cst_3, val_main_cst_4, val_main_cst_5]
  rfl

/-- The reference's result array. -/
theorem ref_eq : (val_main_v54 (F := Ideal) X g1 g2 M U D : FVec Ideal S8192x2048 .f32) = fun i => ffn X g1 g2 M U D (inRow (i 0)) (i 1) := by
  funext i
  obtain ⟨r, d, rfl⟩ : ∃ (r : Fin 8192) (d : Fin 2048), i = ix2 r d := ⟨i 0, i 1, funext fun a => match a with | ⟨0, _⟩ => rfl | ⟨1, _⟩ => rfl⟩
  exact ref_ffn X g1 g2 M U D r d

end Cert.Ffn4

end
-- ==== Proof.FirstInWeights.lean ====
/-
  The weights of the first mLSTM layer's input projections as the host code prepares them: q, k and v side by side with k scaled,
  and o with the gates regrouped by head.
-/
module

public import proofs.«01_k».proof.Proof.Gen.Kernel12Ideal.Value
public import Idealize.ShloMosaic.Lib.Pointwise
public import Idealize.ShloMosaic.Lib.StableHlo.Run
public import Idealize.ShloMosaic.Lib.IdealHost

@[expose] public section

set_option maxRecDepth 16384

noncomputable section

namespace Cert.FirstIn

open Cert.Kernel12Ideal Cert.Kernel12Ideal.Gen
open Idealize.ShloMosaic Idealize.ShloMosaic.TcCoe Idealize.SL.Sem

/-- The scale of the keys. -/
def keyScale : EReal := Ideal.ofBits .f32 0x3D800000#32

/-- The weight of q, k and v as the launch is given it: the columns of k are scaled. -/
def wA (W : FVec Ideal S2x2048x6160 .f32) : FVec Ideal S2x2048x4096 .bf16 := fun i =>
  if 1024 ≤ (i 2).val ∧ (i 2).val < 2048 then (W (ix3 (i 0) (i 1) (⟨(i 2).val, by have : (i 2).val < 4096 := (i 2).isLt; omega⟩ : Fin 6160)) : EReal) * keyScale
  else W (ix3 (i 0) (i 1) (⟨(i 2).val, by have : (i 2).val < 4096 := (i 2).isLt; omega⟩ : Fin 6160))

/-- The column of the input weight that column `f` of the second weight is: o's columns, then for each head its four gate columns. -/
def colB (f : Fin 2560) : Fin 6160 :=
  ⟨if f.val < 2048 then 4096 + f.val else 6144 + ((f.val - 2048) % 4 * 4 + (f.val - 2048) / 128), by have := f.isLt; split <;> omega⟩

/-- The weight of o and the gates as the launch is given it: unused columns are zero. -/
def wB (W : FVec Ideal S2x2048x6160 .f32) : FVec Ideal S2x2048x2560 .bf16 := fun i =>
  if 2048 ≤ (i 2).val ∧ 4 ≤ ((i 2).val - 2048) % 128 then (0 : EReal) else W (ix3 (i 0) (i 1) (colB (i 2)))

/-- A column outside k. -/
theorem wA_plain (W : FVec Ideal S2x2048x6160 .f32) (l : Fin 2) (k : Fin 2048) (f : Fin 4096) (h : ¬(1024 ≤ f.val ∧ f.val < 2048)) :
    wA W (ix3 l k f) = W (ix3 l k (⟨f.val, by have := f.isLt; omega⟩ : Fin 6160)) := if_neg h
/-- A column of k. -/
theorem wA_key (W : FVec Ideal S2x2048x6160 .f32) (l : Fin 2) (k : Fin 2048) (f : Fin 4096) (h : 1024 ≤ f.val ∧ f.val < 2048) :
    @Eq EReal (wA W (ix3 l k f)) (W (ix3 l k (⟨f.val, by have := f.isLt; omega⟩ : Fin 6160)) * keyScale) := if_pos h
/-- An unused column. -/
theorem wB_unused (W : FVec Ideal S2x2048x6160 .f32) (l : Fin 2) (k : Fin 2048) (f : Fin 2560) (h : 2048 ≤ f.val ∧ 4 ≤ (f.val - 2048) % 128) :
    @Eq EReal (wB W (ix3 l k f)) 0 := if_pos h
/-- A column of o or of a gate. -/
theorem wB_used (W : FVec Ideal S2x2048x6160 .f32) (l : Fin 2) (k : Fin 2048) (f : Fin 2560) (h : ¬(2048 ≤ f.val ∧ 4 ≤ (f.val - 2048) % 128)) :
    wB W (ix3 l k f) = W (ix3 l k (colB f)) := if_neg h

/-! ## The host operations that prepare the weights -/

variable (m : (ℓ : Loc nD τ sig) → Buf (Elt Ideal) ℓ) (c : Dev nD)
/-- The input weights of the mLSTM layers. -/
abbrev argW : FVec Ideal S2x2048x6160 .f32 := m ((c : Thread nD τ).loc main_arg4)

/-- The weight of q, k and v, as the host operations make it. -/
def hkA (W : FVec Ideal S2x2048x6160 .f32) : FVec Ideal S2x2048x4096 .bf16 :=
  concatenate S2x2048x4096 2
    [⟨S2x2048x1024, (truncf .bf16 (extractStridedSlice S2x2048x1024 ![0, 0, 0] W slices_S2x2048x6160_S2x2048x1024_0_0_0 : FVec Ideal S2x2048x1024 .f32) bitsLt_bf16_f32 : FVec Ideal S2x2048x1024 .bf16)⟩,
     ⟨S2x2048x1024, (truncf .bf16 (mulf (extractStridedSlice S2x2048x1024 ![0, 0, 1024] W slices_S2x2048x6160_S2x2048x1024_0_0_1024 : FVec Ideal S2x2048x1024 .f32)
        (broadcastInDim S2x2048x1024 ![] bcast_S_S2x2048x1024 (constant S_ .f32 0x3D800000#32 : FVec Ideal S_ .f32))) bitsLt_bf16_f32 : FVec Ideal S2x2048x1024 .bf16)⟩,
     ⟨S2x2048x2048, (truncf .bf16 (extractStridedSlice S2x2048x2048 ![0, 0, 2048] W slices_S2x2048x6160_S2x2048x2048_0_0_2048 : FVec Ideal S2x2048x2048 .f32) bitsLt_bf16_f32 : FVec Ideal S2x2048x2048 .bf16)⟩]
    concatenates_S2x2048x1024_S2x2048x1024_S2x2048x2048_S2x2048x4096_d2

/-- The gate columns with the head first. -/
def hkG (W : FVec Ideal S2x2048x6160 .f32) : FVec Ideal S2x2048x4x4 .f32 :=
  shapeCast S2x2048x4x4 (transpose S2x2048x4x2x2 [0, 1, 4, 2, 3]
    (shapeCast S2x2048x2x2x4 (extractStridedSlice S2x2048x16 ![0, 0, 6144] W slices_S2x2048x6160_S2x2048x16_0_0_6144 : FVec Ideal S2x2048x16 .f32) shapeCasts_S2x2048x16_S2x2048x2x2x4 : FVec Ideal S2x2048x2x2x4 .f32)
    transposes_S2x2048x2x2x4_S2x2048x4x2x2_0_1_4_2_3 : FVec Ideal S2x2048x4x2x2 .f32) shapeCasts_S2x2048x4x2x2_S2x2048x4x4

/-- The gate columns of a head at the front of 128. -/
def hkP (W : FVec Ideal S2x2048x6160 .f32) : FVec Ideal S2x2048x4x128 .f32 :=
  pad S2x2048x4x128 ![0, 0, 0, 0] ![0, 0, 0, 124] ![0, 0, 0, 0] (hkG W) (sitofp .f32 (constantI S_ 32 0#32) : FVec Ideal S_ .f32) pads_S2x2048x4x4_S2x2048x4x128_000_000_000_01240 h_S_

/-- The weight of o and the gates, as the host operations make it. -/
def hkB (W : FVec Ideal S2x2048x6160 .f32) : FVec Ideal S2x2048x2560 .bf16 :=
  concatenate S2x2048x2560 2
    [⟨S2x2048x2048, (truncf .bf16 (extractStridedSlice S2x2048x2048 ![0, 0, 4096] W slices_S2x2048x6160_S2x2048x2048_0_0_4096 : FVec Ideal S2x2048x2048 .f32) bitsLt_bf16_f32 : FVec Ideal S2x2048x2048 .bf16)⟩,
     ⟨S2x2048x512, (truncf .bf16 (shapeCast S2x2048x512 (hkP W) shapeCasts_S2x2048x4x128_S2x2048x512 : FVec Ideal S2x2048x512 .f32) bitsLt_bf16_f32 : FVec Ideal S2x2048x512 .bf16)⟩]
    concatenates_S2x2048x2048_S2x2048x512_S2x2048x2560_d2

/-- The launch is given the weight of q, k and v. -/
theorem V_hkA : @Eq (FVec Ideal S2x2048x4096 .bf16) (V m c main_v11) (hkA (argW m c)) := by
  show StableHlo.after (List.flatten [hostOps0, hostOps0_1, hostOps0_2, hostOps0_3, hostOps0_4]) _ main_v11 = _
  simp only [hostOps0, hostOps0_1, hostOps0_2, hostOps0_3, hostOps0_4, List.flatten_cons, List.flatten_nil, List.append_nil, List.cons_append, List.nil_append]
  after_results_simp
  rfl

/-- The launch is given the weight of o and the gates. -/
theorem V_hkB : @Eq (FVec Ideal S2x2048x2560 .bf16) (V m c main_v19) (hkB (argW m c)) := by
  show StableHlo.after (List.flatten [hostOps0, hostOps0_1, hostOps0_2, hostOps0_3, hostOps0_4]) _ main_v19 = _
  simp only [hostOps0, hostOps0_1, hostOps0_2, hostOps0_3, hostOps0_4, List.flatten_cons, List.flatten_nil, List.append_nil, List.cons_append, List.nil_append]
  after_results_simp
  rfl

/-- Scaling every column entry scales the product, whatever the entries. -/
theorem sum_scale (f w : Fin 2048 → EReal) : ∑ k, f k * (w k * keyScale) = (∑ k, f k * w k) * keyScale := by
  have h0 : (0 : EReal) ≤ keyScale ∧ keyScale ≠ ⊤ := by
    have e : keyScale = (((1 : ℝ) / 16 : ℝ) : EReal) := by
      unfold keyScale
      simp [Ideal.ofBits, Ideal.ieee, -EReal.coe_mul]
      norm_num
    rw [e]
    exact ⟨by exact_mod_cast (by norm_num : (0 : ℝ) ≤ 1 / 16), EReal.coe_ne_top _⟩
  have key : ∀ (s : Finset (Fin 2048)), ∑ k ∈ s, f k * (w k * keyScale) = (∑ k ∈ s, f k * w k) * keyScale := by
    intro s
    induction s using Finset.induction_on with
    | empty => simp
    | insert a s ha ih => rw [Finset.sum_insert ha, Finset.sum_insert ha, ih, EReal.right_distrib_of_nonneg_of_ne_top h0.1 h0.2, mul_assoc]
  exact key Finset.univ

/-- Three arrays side by side, read in the first. -/
theorem cat3_0 (x y : FVec Ideal S2x2048x1024 .bf16) (z : FVec Ideal S2x2048x2048 .bf16) (j : S2x2048x4096.Idx) (i : S2x2048x1024.Idx)
    (hi : ∀ b : Fin 3, b ≠ 2 → (i b).val = (j b).val) (ha : 0 + (i 2).val = (j 2).val) :
    concatenate S2x2048x4096 2 [⟨S2x2048x1024, x⟩, ⟨S2x2048x1024, y⟩, ⟨S2x2048x2048, z⟩] concatenates_S2x2048x1024_S2x2048x1024_S2x2048x2048_S2x2048x4096_d2 j = x i :=
  concatenate_apply_piece (t := S2x2048x4096) 2 [⟨S2x2048x1024, x⟩, ⟨S2x2048x1024, y⟩, ⟨S2x2048x2048, z⟩] concatenates_S2x2048x1024_S2x2048x1024_S2x2048x2048_S2x2048x4096_d2
    j 0 (by show 0 < 3; omega) S2x2048x1024 x rfl rfl 0 rfl i hi ha

/-- Read in the second. -/
theorem cat3_1 (x y : FVec Ideal S2x2048x1024 .bf16) (z : FVec Ideal S2x2048x2048 .bf16) (j : S2x2048x4096.Idx) (i : S2x2048x1024.Idx)
    (hi : ∀ b : Fin 3, b ≠ 2 → (i b).val = (j b).val) (ha : 1024 + (i 2).val = (j 2).val) :
    concatenate S2x2048x4096 2 [⟨S2x2048x1024, x⟩, ⟨S2x2048x1024, y⟩, ⟨S2x2048x2048, z⟩] concatenates_S2x2048x1024_S2x2048x1024_S2x2048x2048_S2x2048x4096_d2 j = y i :=
  concatenate_apply_piece (t := S2x2048x4096) 2 [⟨S2x2048x1024, x⟩, ⟨S2x2048x1024, y⟩, ⟨S2x2048x2048, z⟩] concatenates_S2x2048x1024_S2x2048x1024_S2x2048x2048_S2x2048x4096_d2
    j 1 (by show 1 < 3; omega) S2x2048x1024 y rfl rfl 1024 rfl i hi ha

/-- Read in the third. -/
theorem cat3_2 (x y : FVec Ideal S2x2048x1024 .bf16) (z : FVec Ideal S2x2048x2048 .bf16) (j : S2x2048x4096.Idx) (i : S2x2048x2048.Idx)
    (hi : ∀ b : Fin 3, b ≠ 2 → (i b).val = (j b).val) (ha : 2048 + (i 2).val = (j 2).val) :
    concatenate S2x2048x4096 2 [⟨S2x2048x1024, x⟩, ⟨S2x2048x1024, y⟩, ⟨S2x2048x2048, z⟩] concatenates_S2x2048x1024_S2x2048x1024_S2x2048x2048_S2x2048x4096_d2 j = z i :=
  concatenate_apply_piece (t := S2x2048x4096) 2 [⟨S2x2048x1024, x⟩, ⟨S2x2048x1024, y⟩, ⟨S2x2048x2048, z⟩] concatenates_S2x2048x1024_S2x2048x1024_S2x2048x2048_S2x2048x4096_d2
    j 2 (by show 2 < 3; omega) S2x2048x2048 z rfl rfl 2048 rfl i hi ha

/-- The weight of q, k and v at an index. -/
theorem hkA_apply (W : FVec Ideal S2x2048x6160 .f32) (l : Fin 2) (k : Fin 2048) (f : Fin 4096) : hkA W (ix3 l k f) = wA W (ix3 l k f) := by
  have hf := f.isLt
  unfold hkA wA keyScale
  dsimp only
  by_cases h1 : f.val < 1024
  · rw [if_neg (by show ¬(1024 ≤ f.val ∧ f.val < 2048); omega)]
    refine (cat3_0 _ _ _ (ix3 l k f)
      (ix3 l k (⟨f.val, h1⟩ : Fin 1024)) (by intro b hb; match b with | ⟨0, _⟩ => rfl | ⟨1, _⟩ => rfl | ⟨2, _⟩ => exact absurd rfl hb) (by show 0 + f.val = f.val; omega)).trans ?_
    refine congrArg W (funext fun a => Fin.ext ?_)
    match a with
    | ⟨0, _⟩ => show 0 + l.val = l.val; omega
    | ⟨1, _⟩ => show 0 + k.val = k.val; omega
    | ⟨2, _⟩ => show 0 + f.val = f.val; omega
  · by_cases h2 : f.val < 2048
    · rw [if_pos (by show 1024 ≤ f.val ∧ f.val < 2048; omega)]
      refine (cat3_1 _ _ _ (ix3 l k f)
        (ix3 l k (⟨f.val - 1024, by omega⟩ : Fin 1024)) (by intro b hb; match b with | ⟨0, _⟩ => rfl | ⟨1, _⟩ => rfl | ⟨2, _⟩ => exact absurd rfl hb) (by show 1024 + (f.val - 1024) = f.val; omega)).trans ?_
      refine congrArg (fun x : EReal => x * Ideal.ofBits .f32 0x3D800000#32) (congrArg W (funext fun a => Fin.ext ?_))
      match a with
      | ⟨0, _⟩ => show 0 + l.val = l.val; omega
      | ⟨1, _⟩ => show 0 + k.val = k.val; omega
      | ⟨2, _⟩ => show 1024 + (f.val - 1024) = f.val; omega
    · rw [if_neg (by show ¬(1024 ≤ f.val ∧ f.val < 2048); omega)]
      refine (cat3_2 _ _ _ (ix3 l k f)
        (ix3 l k (⟨f.val - 2048, by omega⟩ : Fin 2048)) (by intro b hb; match b with | ⟨0, _⟩ => rfl | ⟨1, _⟩ => rfl | ⟨2, _⟩ => exact absurd rfl hb) (by show 2048 + (f.val - 2048) = f.val; omega)).trans ?_
      refine congrArg W (funext fun a => Fin.ext ?_)
      match a with
      | ⟨0, _⟩ => show 0 + l.val = l.val; omega
      | ⟨1, _⟩ => show 0 + k.val = k.val; omega
      | ⟨2, _⟩ => show 2048 + (f.val - 2048) = f.val; omega

/-- The gate columns, head first. -/
theorem hkG_apply (W : FVec Ideal S2x2048x6160 .f32) (l : Fin 2) (k : Fin 2048) (h j : Fin 4) :
    hkG W (ix4 l k h j) = W (ix3 l k (⟨6144 + (j.val * 4 + h.val), by omega⟩ : Fin 6160)) := by
  unfold hkG
  have hj := j.isLt
  refine (shapeCast_apply _ shapeCasts_S2x2048x4x2x2_S2x2048x4x4 (ix4 l k h j)
    (ix5 l k h (⟨j.val / 2, by omega⟩ : Fin 2) (⟨j.val % 2, by omega⟩ : Fin 2)) ?_).trans ?_
  · rewrite [Shape.rowMajor_val_five, Shape.rowMajor_val_four]
    show (((l.val * 2048 + k.val) * 4 + h.val) * 2 + j.val / 2) * 2 + j.val % 2 = ((l.val * 2048 + k.val) * 4 + h.val) * 4 + j.val
    omega
  refine Eq.trans (b := shapeCast S2x2048x2x2x4 (extractStridedSlice S2x2048x16 ![0, 0, 6144] W slices_S2x2048x6160_S2x2048x16_0_0_6144 : FVec Ideal S2x2048x16 .f32) shapeCasts_S2x2048x16_S2x2048x2x2x4
    (ix5 l k (⟨j.val / 2, by omega⟩ : Fin 2) (⟨j.val % 2, by omega⟩ : Fin 2) h)) ?_ ?_
  · rw [Pointwise.transpose_apply]
    refine congrArg _ (funext fun a => Fin.ext ?_)
    match a with
    | ⟨0, _⟩ => rfl
    | ⟨1, _⟩ => rfl
    | ⟨2, _⟩ => rfl
    | ⟨3, _⟩ => rfl
    | ⟨4, _⟩ => rfl
  refine (shapeCast_apply _ shapeCasts_S2x2048x16_S2x2048x2x2x4 _ (ix3 l k (⟨j.val * 4 + h.val, by omega⟩ : Fin 16)) ?_).trans ?_
  · rewrite [Shape.rowMajor_val_five, Shape.rowMajor_val_three]
    show (l.val * 2048 + k.val) * 16 + (j.val * 4 + h.val) = (((l.val * 2048 + k.val) * 2 + j.val / 2) * 2 + j.val % 2) * 4 + h.val
    omega
  refine congrArg W (funext fun a => Fin.ext ?_)
  match a with
  | ⟨0, _⟩ => show 0 + l.val = l.val; omega
  | ⟨1, _⟩ => show 0 + k.val = k.val; omega
  | ⟨2, _⟩ => show 6144 + (j.val * 4 + h.val) = _; rfl

/-- The weight of o and the gates at an index. -/
theorem hkB_apply (W : FVec Ideal S2x2048x6160 .f32) (l : Fin 2) (k : Fin 2048) (f : Fin 2560) : hkB W (ix3 l k f) = wB W (ix3 l k f) := by
  have hf := f.isLt
  unfold hkB wB colB
  dsimp only
  by_cases h1 : f.val < 2048
  · rw [if_neg (by show ¬(2048 ≤ f.val ∧ 4 ≤ (f.val - 2048) % 128); omega)]
    refine (concatenate_pair_apply_left (t := S2x2048x2560) (s₁ := S2x2048x2048) (s₂ := S2x2048x512) 2 _ _ concatenates_S2x2048x2048_S2x2048x512_S2x2048x2560_d2 (ix3 l k f) rfl
      (ix3 l k (⟨f.val, h1⟩ : Fin 2048)) (by intro b; match b with | ⟨0, _⟩ => rfl | ⟨1, _⟩ => rfl | ⟨2, _⟩ => rfl)).trans ?_
    refine congrArg W (funext fun a => Fin.ext ?_)
    match a with
    | ⟨0, _⟩ => show 0 + l.val = l.val; omega
    | ⟨1, _⟩ => show 0 + k.val = k.val; omega
    | ⟨2, _⟩ => show 4096 + f.val = if f.val < 2048 then 4096 + f.val else _; rw [if_pos h1]
  · refine (concatenate_pair_apply_right (t := S2x2048x2560) (s₁ := S2x2048x2048) (s₂ := S2x2048x512) 2 _ _ concatenates_S2x2048x2048_S2x2048x512_S2x2048x2560_d2 (ix3 l k f) rfl rfl
      (ix3 l k (⟨f.val - 2048, by omega⟩ : Fin 512)) (by intro b hb; match b with | ⟨0, _⟩ => rfl | ⟨1, _⟩ => rfl | ⟨2, _⟩ => exact absurd rfl hb)
      (by show f.val - 2048 + 2048 = f.val; omega)).trans ?_
    refine (shapeCast_apply (hkP W) shapeCasts_S2x2048x4x128_S2x2048x512 (ix3 l k (⟨f.val - 2048, by omega⟩ : Fin 512))
      (ix4 l k (⟨(f.val - 2048) / 128, by omega⟩ : Fin 4) (⟨(f.val - 2048) % 128, by omega⟩ : Fin 128)) ?_).trans ?_
    · rewrite [Shape.rowMajor_val_four, Shape.rowMajor_val_three]
      show ((l.val * 2048 + k.val) * 4 + (f.val - 2048) / 128) * 128 + (f.val - 2048) % 128 = (l.val * 2048 + k.val) * 512 + (f.val - 2048)
      omega
    unfold hkP
    by_cases h2 : 4 ≤ (f.val - 2048) % 128
    · rw [if_pos (by show 2048 ≤ f.val ∧ 4 ≤ (f.val - 2048) % 128; omega)]
      unfold pad
      refine (dif_neg fun hin => ?_).trans ?_
      · have h3 : 0 ≤ (f.val - 2048) % 128 ∧ ((f.val - 2048) % 128 - 0) % (0 + 1) = 0 ∧ ((f.val - 2048) % 128 - 0) / (0 + 1) < 4 := hin 3
        omega
      · show @Eq EReal (((0#32 : BitVec 32).toInt : ℝ) : EReal) 0
        simp
    · rw [if_neg (by show ¬(2048 ≤ f.val ∧ 4 ≤ (f.val - 2048) % 128); omega)]
      unfold pad
      refine (dif_pos ?_).trans ?_
      · intro a
        match a with
        | ⟨0, _⟩ => show 0 ≤ l.val ∧ (l.val - 0) % (0 + 1) = 0 ∧ (l.val - 0) / (0 + 1) < 2; omega
        | ⟨1, _⟩ => show 0 ≤ k.val ∧ (k.val - 0) % (0 + 1) = 0 ∧ (k.val - 0) / (0 + 1) < 2048; omega
        | ⟨2, _⟩ =>
          show 0 ≤ (f.val - 2048) / 128 ∧ ((f.val - 2048) / 128 - 0) % (0 + 1) = 0 ∧ ((f.val - 2048) / 128 - 0) / (0 + 1) < 4
          omega
        | ⟨3, _⟩ =>
          show 0 ≤ (f.val - 2048) % 128 ∧ ((f.val - 2048) % 128 - 0) % (0 + 1) = 0 ∧ ((f.val - 2048) % 128 - 0) / (0 + 1) < 4
          omega
      refine Eq.trans (b := hkG W (ix4 l k (⟨(f.val - 2048) / 128, by omega⟩ : Fin 4) (⟨(f.val - 2048) % 128, by omega⟩ : Fin 4))) ?_ ?_
      · refine congrArg (hkG W) (funext fun a => Fin.ext ?_)
        match a with
        | ⟨0, _⟩ => show (l.val - 0) / (0 + 1) = l.val; omega
        | ⟨1, _⟩ => show (k.val - 0) / (0 + 1) = k.val; omega
        | ⟨2, _⟩ => show ((f.val - 2048) / 128 - 0) / (0 + 1) = (f.val - 2048) / 128; omega
        | ⟨3, _⟩ => show ((f.val - 2048) % 128 - 0) / (0 + 1) = (f.val - 2048) % 128; omega
      rw [hkG_apply]
      refine congrArg W (funext fun a => Fin.ext ?_)
      match a with
      | ⟨0, _⟩ => rfl
      | ⟨1, _⟩ => rfl
      | ⟨2, _⟩ =>
        show 6144 + ((f.val - 2048) % 128 * 4 + (f.val - 2048) / 128) = if f.val < 2048 then _ else 6144 + ((f.val - 2048) % 4 * 4 + (f.val - 2048) / 128)
        rw [if_neg h1]
        omega

end Cert.FirstIn

end
-- ==== Proof.MlstmInWeights.lean ====
/-
  The weights of the second mLSTM layer's input projections are prepared by the same host code as the first layer's.
-/
module

public import proofs.«01_k».proof.Proof.Gen.Kernel9Ideal.Value
public import proofs.«01_k».proof.Proof.FirstInWeights
public import Idealize.ShloMosaic.Lib.Pointwise
public import Idealize.ShloMosaic.Lib.StableHlo.Run
public import Idealize.ShloMosaic.Lib.IdealHost

@[expose] public section

set_option maxRecDepth 16384

noncomputable section

namespace Cert.MlstmIn

open Cert.Kernel9Ideal Cert.Kernel9Ideal.Gen
open Cert.FirstIn (keyScale wA wB colB hkA hkB hkA_apply hkB_apply wA_plain wA_key wB_unused wB_used sum_scale)
open Idealize.ShloMosaic Idealize.ShloMosaic.TcCoe Idealize.SL.Sem

/-! ## The host operations that prepare the weights -/

variable (m : (ℓ : Loc nD τ sig) → Buf (Elt Ideal) ℓ) (c : Dev nD)
/-- The input weights of the mLSTM layers. -/
abbrev argW : FVec Ideal S2x2048x6160 .f32 := m ((c : Thread nD τ).loc main_arg3)

/-- The launch is given the weight of q, k and v. -/
theorem V_hkA : @Eq (FVec Ideal S2x2048x4096 .bf16) (V m c main_v11) (hkA (argW m c)) := by
  show StableHlo.after (List.flatten [hostOps0, hostOps0_1, hostOps0_2, hostOps0_3, hostOps0_4]) _ main_v11 = _
  simp only [hostOps0, hostOps0_1, hostOps0_2, hostOps0_3, hostOps0_4, List.flatten_cons, List.flatten_nil, List.append_nil, List.cons_append, List.nil_append]
  after_results_simp
  rfl

/-- The launch is given the weight of o and the gates. -/
theorem V_hkB : @Eq (FVec Ideal S2x2048x2560 .bf16) (V m c main_v19) (hkB (argW m c)) := by
  show StableHlo.after (List.flatten [hostOps0, hostOps0_1, hostOps0_2, hostOps0_3, hostOps0_4]) _ main_v19 = _
  simp only [hostOps0, hostOps0_1, hostOps0_2, hostOps0_3, hostOps0_4, List.flatten_cons, List.flatten_nil, List.append_nil, List.cons_append, List.nil_append]
  after_results_simp
  rfl

end Cert.MlstmIn

end
-- ==== Proof.MlstmIn.lean ====
/-
  The mLSTM input projections: each row is normalised, scaled, shifted and multiplied by two weights.
-/
module

public import proofs.«01_k».proof.Proof.MlstmInWeights

@[expose] public section

set_option maxRecDepth 16384

noncomputable section

namespace Cert.MlstmIn

open Cert.Kernel9Ideal Cert.Kernel9Ideal.Gen
open Cert.FirstIn (keyScale wA wB colB hkA hkB hkA_apply hkB_apply wA_plain wA_key wB_unused wB_used sum_scale)
open Idealize.ShloMosaic Idealize.ShloMosaic.TcCoe Idealize.SL.Sem

theorem off2 : (![0, 0] : Fin 2 → Nat) = fun _ => 0 := funext fun a => by fin_cases a <;> rfl
theorem off3 : (![0, 0, 0] : Fin 3 → Nat) = fun _ => 0 := funext fun a => by fin_cases a <;> rfl

/-! ## The plain formula -/

/-- The reciprocal root mean square of a row of 2048 entries, as the kernel and the plain formula both print it. -/
def rs (v : Fin 2048 → EReal) : EReal :=
  Ideal.rsqrt (Ideal.div (∑ k, v k * v k) (Ideal.ofBits .f32 0x45000000#32) + Ideal.ofBits .f32 0x358637BD#32)

/-- The modulation row of a row: the first for the context rows, then one for every 1024 rows. -/
def modRowOf (r : Fin 16384) : Fin 16 := ⟨if r.val < 8192 then 0 else 1 + (r.val - 8192) / 1024, by split <;> omega⟩

section Formula
variable (X : FVec Ideal S16384x2048 .f32) (g : FVec Ideal S2048 .f32) (M : FVec Ideal S16x6x2048 .f32)

/-- A row, normalised, scaled and shifted. -/
def hin (r : Fin 16384) (d : Fin 2048) : EReal :=
  X (ix2 r d) * rs (fun k => X (ix2 r k)) * g (ix1 d) * (1 + M (ix3 (modRowOf r) 1 d)) + M (ix3 (modRowOf r) 0 d)

/-- The first projection, by the second of the two weights of 4096 columns. -/
def projA (W : FVec Ideal S2x2048x4096 .bf16) (r : Fin 16384) (f : Fin 4096) : EReal := ∑ k : Fin 2048, hin X g M r k * W (ix3 1 k f)
/-- The second projection, by the second of the two weights of 2560 columns. -/
def projB (W : FVec Ideal S2x2048x2560 .bf16) (r : Fin 16384) (f : Fin 2560) : EReal := ∑ k : Fin 2048, hin X g M r k * W (ix3 1 k f)
end Formula

/-! ## The body's stored values at an index -/

/-- The rows, normalised, scaled and shifted. -/
theorem pay1_apply (x : FVec Ideal S256x2048 .f32) (g : FVec Ideal S1x2048 .f32) (sh sc : FVec Ideal S1x1x2048 .f32) (r : Fin 256) (k : Fin 2048) :
    (k0_pay1 (F := Ideal) x g sh sc (ix2 r k) : EReal) = x (ix2 r k) * rs (fun j => x (ix2 r j)) * g (ix2 0 k) * (1 + sc (ix3 0 0 k)) + sh (ix3 0 0 k) := by
  pointwise [k0_pay1]
  rfl

/-- The first product. -/
theorem pay2_apply (x : FVec Ideal S256x2048 .f32) (g : FVec Ideal S1x2048 .f32) (sh sc : FVec Ideal S1x1x2048 .f32)
    (w : FVec Ideal S1x2048x4096 .bf16) (r : Fin 256) (f : Fin 4096) :
    (k0_pay2 (F := Ideal) x g sh sc w (ix2 r f) : EReal) = ∑ k : Fin 2048, (k0_pay1 (F := Ideal) x g sh sc (ix2 r k) : EReal) * w (ix3 0 k f) := by
  pointwise [k0_pay2]

/-- The second product. -/
theorem pay3_apply (x : FVec Ideal S256x2048 .f32) (g : FVec Ideal S1x2048 .f32) (sh sc : FVec Ideal S1x1x2048 .f32)
    (w : FVec Ideal S1x2048x2560 .bf16) (r : Fin 256) (f : Fin 2560) :
    (k0_pay3 (F := Ideal) x g sh sc w (ix2 r f) : EReal) = ∑ k : Fin 2048, (k0_pay1 (F := Ideal) x g sh sc (ix2 r k) : EReal) * w (ix3 0 k f) := by
  pointwise [k0_pay3]

/-- Row 0 of a block of six modulation rows. -/
theorem ld_mod0 (x : FVec Ideal S1x6x2048 .f32) (d : Fin 2048) :
    View.ld (Val := Elt Ideal) (e' := .f32) x (Rect.unit (s := S1x6x2048) ![0, 0, 0] S1x1x2048.size inb_S1x6x2048_S1x1x2048_0_0_0) (ix3 0 0 d) = x (ix3 0 0 d) := by
  show x _ = x _
  refine congrArg x (funext fun a => Fin.ext ?_)
  match a with
  | ⟨0, _⟩ => rfl
  | ⟨1, _⟩ => rfl
  | ⟨2, _⟩ => show 0 + 1 * d.val = d.val; omega

/-- Row 1 of a block of six modulation rows. -/
theorem ld_mod1 (x : FVec Ideal S1x6x2048 .f32) (d : Fin 2048) :
    View.ld (Val := Elt Ideal) (e' := .f32) x (Rect.unit (s := S1x6x2048) ![0, 1, 0] S1x1x2048.size inb_S1x6x2048_S1x1x2048_0_1_0) (ix3 0 0 d) = x (ix3 0 1 d) := by
  show x _ = x _
  refine congrArg x (funext fun a => Fin.ext ?_)
  match a with
  | ⟨0, _⟩ => rfl
  | ⟨1, _⟩ => rfl
  | ⟨2, _⟩ => show 0 + 1 * d.val = d.val; omega

/-! ## The blocks -/

variable (m : (ℓ : Loc nD τ sig) → Buf (Elt Ideal) ℓ) (c : Dev nD)

/-- The arguments: rows, the gain, modulation rows and the two pairs of weights. -/
abbrev argX : FVec Ideal S16384x2048 .f32 := m ((c : Thread nD τ).loc main_arg0)
abbrev argG : FVec Ideal S2048 .f32 := m ((c : Thread nD τ).loc main_arg1)
abbrev argMod : FVec Ideal S16x6x2048 .f32 := m ((c : Thread nD τ).loc main_arg2)
abbrev argA : FVec Ideal S2x2048x4096 .bf16 := wA (argW m c)
abbrev argB : FVec Ideal S2x2048x2560 .bf16 := wB (argW m c)

/-- Row `r` of row block `t`, and the modulation row the block is given. -/
abbrev rowOf (t : Fin cfg0.N) (r : Fin 256) : Fin 16384 := ⟨t.val * 256 + r.val, by have := lt_of_lt_of_eq t.isLt (show cfg0.N = 64 from N_0); omega⟩
abbrev modOf (t : Fin cfg0.N) : Fin 16 := ⟨if t.val < 32 then 0 else (t.val - 32) / 4 + 1, by have := lt_of_lt_of_eq t.isLt (show cfg0.N = 64 from N_0); split <;> omega⟩

theorem modRowOf_rowOf (t : Fin cfg0.N) (r : Fin 256) : modRowOf (rowOf t r) = modOf t := by
  apply Fin.ext
  show (if t.val * 256 + r.val < 8192 then 0 else 1 + (t.val * 256 + r.val - 8192) / 1024) = if t.val < 32 then 0 else (t.val - 32) / 4 + 1
  have := r.isLt
  split <;> split <;> omega

theorem index0 : ∀ t : Fin cfg0.N, win0_0.index t 0 = t.val ∧ win0_0.index t 1 = 0 :=
  (by decide +kernel : ∀ t : Fin grid0.N, win0_0.index t 0 = t.val ∧ win0_0.index t 1 = 0)
theorem index2 : ∀ t : Fin cfg0.N, win0_2.index t 0 = (if t.val < 32 then 0 else (t.val - 32) / 4 + 1) ∧ win0_2.index t 1 = 0 ∧ win0_2.index t 2 = 0 :=
  (by decide +kernel : ∀ t : Fin grid0.N, win0_2.index t 0 = (if t.val < 32 then 0 else (t.val - 32) / 4 + 1) ∧ win0_2.index t 1 = 0 ∧ win0_2.index t 2 = 0)
theorem index3 : ∀ t : Fin cfg0.N, win0_3.index t 0 = 1 ∧ win0_3.index t 1 = 0 ∧ win0_3.index t 2 = 0 :=
  (by decide +kernel : ∀ t : Fin grid0.N, win0_3.index t 0 = 1 ∧ win0_3.index t 1 = 0 ∧ win0_3.index t 2 = 0)
theorem index4 : ∀ t : Fin cfg0.N, win0_4.index t 0 = 1 ∧ win0_4.index t 1 = 0 ∧ win0_4.index t 2 = 0 :=
  (by decide +kernel : ∀ t : Fin grid0.N, win0_4.index t 0 = 1 ∧ win0_4.index t 1 = 0 ∧ win0_4.index t 2 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)

/-- The block of input rows. -/
theorem blk_x (t : Fin cfg0.N) (r : Fin 256) (d : Fin 2048) :
    (iblk m c 0 t : FVec Ideal S256x2048 .f32) (ix2 r d) = argX m c (ix2 (rowOf t r) d) := by
  unfold iblk
  rw [View.read_apply]
  show V m c main_arg0 _ = _
  rw [V_main_arg0]
  obtain ⟨h0, h1⟩ := index0 t
  refine congrArg (m ((c : Thread nD τ).loc main_arg0)) (funext fun a => Fin.ext ?_)
  match a with
  | ⟨0, _⟩ => show win0_0.index t 0 * 256 + 1 * r.val = t.val * 256 + r.val; omega
  | ⟨1, _⟩ => show win0_0.index t 1 * 2048 + 1 * d.val = d.val; omega

/-- The gain as the launch finds it. -/
theorem V_gain (d : Fin 2048) : (V m c main_v24 : FVec Ideal S1x2048 .f32) (ix2 0 d) = argG m c (ix1 d) := by
  have e : @Eq (FVec Ideal S1x2048 .f32) (V m c main_v24) (shapeCast S1x2048 (argG m c) shapeCasts_S2048_S1x2048) := by
    show StableHlo.after (List.flatten [hostOps0, hostOps0_1, hostOps0_2, hostOps0_3, hostOps0_4]) _ main_v24 = _
    simp only [hostOps0, hostOps0_1, hostOps0_2, hostOps0_3, hostOps0_4, List.flatten_cons, List.flatten_nil, List.append_nil, List.cons_append, List.nil_append]
    after_results_simp
    rfl
  rw [e]
  pointwise

/-- The gain's block: all of it. -/
theorem blk_gain (t : Fin cfg0.N) (d : Fin 2048) :
    (iblk m c 1 t : FVec Ideal S1x2048 .f32) (ix2 0 d) = argG m c (ix1 d) := by
  rw [← V_gain m c d]
  unfold iblk
  rw [View.read_apply]
  show V m c main_v24 _ = _
  refine congrArg (V m c main_v24) (funext fun a => Fin.ext ?_)
  match a with
  | ⟨0, _⟩ => rfl
  | ⟨1, _⟩ => show 0 * 2048 + 1 * d.val = d.val; omega

/-- The six modulation rows of a block. -/
theorem blk_mod (t : Fin cfg0.N) (q : Fin 6) (d : Fin 2048) :
    (iblk m c 2 t : FVec Ideal S1x6x2048 .f32) (ix3 0 q d) = argMod m c (ix3 (modOf t) q d) := by
  unfold iblk
  rw [View.read_apply]
  show V m c main_arg2 _ = _
  rw [V_main_arg2]
  obtain ⟨h0, h1, h2⟩ := index2 t
  refine congrArg (m ((c : Thread nD τ).loc main_arg2)) (funext fun a => Fin.ext ?_)
  match a with
  | ⟨0, _⟩ => show win0_2.index t 0 * 1 + 1 * 0 = (if t.val < 32 then 0 else (t.val - 32) / 4 + 1); omega
  | ⟨1, _⟩ => show win0_2.index t 1 * 6 + 1 * q.val = q.val; omega
  | ⟨2, _⟩ => show win0_2.index t 2 * 2048 + 1 * d.val = d.val; omega

/-- The weight's block: the second of the two weights. -/
theorem blk_wA (t : Fin cfg0.N) (k : Fin 2048) (f : Fin 4096) :
    (iblk m c 3 t : FVec Ideal S1x2048x4096 .bf16) (ix3 0 k f) = argA m c (ix3 1 k f) := by
  refine Eq.trans ?_ (hkA_apply (argW m c) 1 k f)
  unfold iblk
  rw [View.read_apply]
  show V m c main_v11 _ = _
  rw [V_hkA]
  obtain ⟨h0, h1, h2⟩ := index3 t
  refine congrArg (hkA (argW m c)) (funext fun a => Fin.ext ?_)
  match a with
  | ⟨0, _⟩ => show win0_3.index t 0 * 1 + 1 * 0 = 1; omega
  | ⟨1, _⟩ => show win0_3.index t 1 * 2048 + 1 * k.val = k.val; omega
  | ⟨2, _⟩ => show win0_3.index t 2 * 4096 + 1 * f.val = f.val; omega

/-- The weight's block: the second of the two weights. -/
theorem blk_wB (t : Fin cfg0.N) (k : Fin 2048) (f : Fin 2560) :
    (iblk m c 4 t : FVec Ideal S1x2048x2560 .bf16) (ix3 0 k f) = argB m c (ix3 1 k f) := by
  refine Eq.trans ?_ (hkB_apply (argW m c) 1 k f)
  unfold iblk
  rw [View.read_apply]
  show V m c main_v19 _ = _
  rw [V_hkB]
  obtain ⟨h0, h1, h2⟩ := index4 t
  refine congrArg (hkB (argW m c)) (funext fun a => Fin.ext ?_)
  match a with
  | ⟨0, _⟩ => show win0_4.index t 0 * 1 + 1 * 0 = 1; omega
  | ⟨1, _⟩ => show win0_4.index t 1 * 2048 + 1 * k.val = k.val; omega
  | ⟨2, _⟩ => show win0_4.index t 2 * 2560 + 1 * f.val = f.val; omega

/-! ## The results -/

/-- What a grid point stores in its block of result 0: its rows of the projection. -/
theorem out_apply5 (t : Fin cfg0.N) (r : Fin 256) (f : Fin 4096) :
    (out0_5 (iblk m c 0 t) (iblk m c 1 t) (iblk m c 2 t) (iblk m c 3 t) (iblk m c 4 t) : FVec Ideal S256x4096 .bf16) (ix2 r f)
      = projA (argX m c) (argG m c) (argMod m c) (argA m c) (rowOf t r) f := by
  unfold out0_5
  rw [View.canon_unit_zero off2]
  simp only [View.ld_unit_zero (S := S256x2048) off2, View.ld_unit_zero (S := S1x2048) off2, View.ld_unit_zero (S := S1x2048x4096) off3]
  refine (pay2_apply _ _ _ _ _ r f).trans ?_
  simp only [pay1_apply]
  unfold projA hin
  simp only [modRowOf_rowOf, ← blk_x m c t, ← blk_gain m c t, ← blk_mod m c t, ← blk_wA m c t]
  refine Finset.sum_congr rfl fun k _ => ?_
  rw [ld_mod0, ld_mod1]

/-- What a grid point stores in its block of result 1: its rows of the projection. -/
theorem out_apply6 (t : Fin cfg0.N) (r : Fin 256) (f : Fin 2560) :
    (out0_6 (iblk m c 0 t) (iblk m c 1 t) (iblk m c 2 t) (iblk m c 3 t) (iblk m c 4 t) : FVec Ideal S256x2560 .f32) (ix2 r f)
      = projB (argX m c) (argG m c) (argMod m c) (argB m c) (rowOf t r) f := by
  unfold out0_6
  rw [View.canon_unit_zero off2]
  simp only [View.ld_unit_zero (S := S256x2048) off2, View.ld_unit_zero (S := S1x2048) off2, View.ld_unit_zero (S := S1x2048x2560) off3]
  refine (pay3_apply _ _ _ _ _ r f).trans ?_
  simp only [pay1_apply]
  unfold projB hin
  simp only [modRowOf_rowOf, ← blk_x m c t, ← blk_gain m c t, ← blk_mod m c t, ← blk_wB m c t]
  refine Finset.sum_congr rfl fun k _ => ?_
  rw [ld_mod0, ld_mod1]

/-- The result as the contents of the result array. -/
def resultA : Buf (Elt Ideal) ((c : Thread nD τ).loc main_v25_0) := fun i : S16384x4096.Idx => projA (argX m c) (argG m c) (argMod m c) (argA m c) (i 0) (i 1)

/-- What a grid point writes back is its block of rows of the result. -/
theorem flushed_eq5 (t : Fin cfg0.N) : (dats m 0 c).flushed 5 t = ((cfg0.win 5).blk t).view.read (Elt Ideal) (resultA m c) := by
  rw [Value.flushed5]
  obtain ⟨e0, e1⟩ := index5 t
  funext y
  have hl : (cfg0.win 5).xinj (grid0.coords t) y = ix2 (y 0) (y 1) := by
    funext a; apply Fin.ext
    match a with
    | ⟨0, _⟩ => show (y 0).val = (y 0).val; rfl
    | ⟨1, _⟩ => show (y 1).val = (y 1).val; rfl
  show out0_5 (iblk m c 0 t) (iblk m c 1 t) (iblk m c 2 t) (iblk m c 3 t) (iblk m c 4 t) ((cfg0.win 5).xinj (grid0.coords t) y) = resultA m c (((cfg0.win 5).blk t).view.emb y)
  rw [hl]
  refine (out_apply5 m c t (y 0) (y 1)).trans ?_
  have hb0 : (((cfg0.win 5).blk t).view.emb y 0).val = win0_5.index t 0 * 256 + 1 * (y 0).val := rfl
  have hb1 : (((cfg0.win 5).blk t).view.emb y 1).val = win0_5.index t 1 * 4096 + 1 * (y 1).val := rfl
  have q0 : rowOf t (y 0) = ((cfg0.win 5).blk t).view.emb y 0 := by
    apply Fin.ext
    rw [hb0, e0]
    show t.val * 256 + (y 0).val = t.val * 256 + 1 * (y 0).val
    omega
  have q1 : y 1 = ((cfg0.win 5).blk t).view.emb y 1 := by
    apply Fin.ext
    rw [hb1, e1]
    omega
  unfold resultA
  dsimp only
  rw [← q0, ← q1]

theorem flushes5 : ∀ t : Fin cfg0.N, (cfg0.win 5).flush t = true :=
  (by decide +kernel : ∀ t : Fin grid0.N, win0_5.flush t = true)

/-- Every index of the result array is in the block of its rows' grid point. -/
theorem covered5 (i : S16384x4096.Idx) : ∃ t : Fin cfg0.N, (cfg0.win 5).flush t = true ∧ i ∈ ((cfg0.win 5).blk t).view.set := by
  have h0 : (i 0).val < 16384 := (i 0).isLt
  have h1 : (i 1).val < 4096 := (i 1).isLt
  have hN : cfg0.N = 64 := N_0
  obtain ⟨t, ht⟩ : ∃ t : Fin cfg0.N, t.val = (i 0).val / 256 := ⟨⟨(i 0).val / 256, by omega⟩, rfl⟩
  refine ⟨t, flushes5 t, ?_⟩
  obtain ⟨e0, e1⟩ := index5 t
  show i ∈ ((View.whole main_v25_0).slice (win0_5.rect t)).set
  rw [View.set_slice_whole, Rect.mem_set_unit]
  intro a
  match a with
  | ⟨0, _⟩ =>
    show win0_5.index t 0 * 256 ≤ (i 0).val ∧ (i 0).val < win0_5.index t 0 * 256 + 256
    omega
  | ⟨1, _⟩ =>
    show win0_5.index t 1 * 4096 ≤ (i 1).val ∧ (i 1).val < win0_5.index t 1 * 4096 + 4096
    omega

/-- The result array ends holding the result. -/
theorem final5 : (dats m 0 c).arrAt 5 cfg0.N = resultA m c :=
  (dats m 0 c).arrAt_eq_of_cover 5 _ (fun t _ => flushed_eq5 m c t) covered5

/-- The result as the contents of the result array. -/
def resultB : Buf (Elt Ideal) ((c : Thread nD τ).loc main_v25_1) := fun i : S16384x2560.Idx => projB (argX m c) (argG m c) (argMod m c) (argB m c) (i 0) (i 1)

/-- What a grid point writes back is its block of rows of the result. -/
theorem flushed_eq6 (t : Fin cfg0.N) : (dats m 0 c).flushed 6 t = ((cfg0.win 6).blk t).view.read (Elt Ideal) (resultB m c) := by
  rw [Value.flushed6]
  obtain ⟨e0, e1⟩ := index6 t
  funext y
  have hl : (cfg0.win 6).xinj (grid0.coords t) y = ix2 (y 0) (y 1) := by
    funext a; apply Fin.ext
    match a with
    | ⟨0, _⟩ => show (y 0).val = (y 0).val; rfl
    | ⟨1, _⟩ => show (y 1).val = (y 1).val; rfl
  show out0_6 (iblk m c 0 t) (iblk m c 1 t) (iblk m c 2 t) (iblk m c 3 t) (iblk m c 4 t) ((cfg0.win 6).xinj (grid0.coords t) y) = resultB m c (((cfg0.win 6).blk t).view.emb y)
  rw [hl]
  refine (out_apply6 m c t (y 0) (y 1)).trans ?_
  have hb0 : (((cfg0.win 6).blk t).view.emb y 0).val = win0_6.index t 0 * 256 + 1 * (y 0).val := rfl
  have hb1 : (((cfg0.win 6).blk t).view.emb y 1).val = win0_6.index t 1 * 2560 + 1 * (y 1).val := rfl
  have q0 : rowOf t (y 0) = ((cfg0.win 6).blk t).view.emb y 0 := by
    apply Fin.ext
    rw [hb0, e0]
    show t.val * 256 + (y 0).val = t.val * 256 + 1 * (y 0).val
    omega
  have q1 : y 1 = ((cfg0.win 6).blk t).view.emb y 1 := by
    apply Fin.ext
    rw [hb1, e1]
    omega
  unfold resultB
  dsimp only
  rw [← q0, ← q1]

theorem flushes6 : ∀ t : Fin cfg0.N, (cfg0.win 6).flush t = true :=
  (by decide +kernel : ∀ t : Fin grid0.N, win0_6.flush t = true)

/-- Every index of the result array is in the block of its rows' grid point. -/
theorem covered6 (i : S16384x2560.Idx) : ∃ t : Fin cfg0.N, (cfg0.win 6).flush t = true ∧ i ∈ ((cfg0.win 6).blk t).view.set := by
  have h0 : (i 0).val < 16384 := (i 0).isLt
  have h1 : (i 1).val < 2560 := (i 1).isLt
  have hN : cfg0.N = 64 := N_0
  obtain ⟨t, ht⟩ : ∃ t : Fin cfg0.N, t.val = (i 0).val / 256 := ⟨⟨(i 0).val / 256, by omega⟩, rfl⟩
  refine ⟨t, flushes6 t, ?_⟩
  obtain ⟨e0, e1⟩ := index6 t
  show i ∈ ((View.whole main_v25_1).slice (win0_6.rect t)).set
  rw [View.set_slice_whole, Rect.mem_set_unit]
  intro a
  match a with
  | ⟨0, _⟩ =>
    show win0_6.index t 0 * 256 ≤ (i 0).val ∧ (i 0).val < win0_6.index t 0 * 256 + 256
    omega
  | ⟨1, _⟩ =>
    show win0_6.index t 1 * 2560 ≤ (i 1).val ∧ (i 1).val < win0_6.index t 1 * 2560 + 2560
    omega

/-- The result array ends holding the result. -/
theorem final6 : (dats m 0 c).arrAt 6 cfg0.N = resultB m c :=
  (dats m 0 c).arrAt_eq_of_cover 6 _ (fun t _ => flushed_eq6 m c t) covered6

/-- The call's run: the result arrays hold the plain formulas, and the arguments are as they were. -/
theorem run (ρ : Dev nD → PrngReg) : θ_run defs (onTc (τ := τ) (main (F := Ideal))) ⟨m, fun _ => 0, ρ⟩ fun r => ∀ c : Dev nD,
      r.2.mem ((c : Thread nD τ).loc main_v25_0) = resultA m c ∧
      r.2.mem ((c : Thread nD τ).loc main_v25_1) = resultB m c ∧
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3) :=
  (θ_run defs _ _).mono (fun r h c => ⟨(h c).1.trans (final5 m c), (h c).2.1.trans (final6 m c), (h c).2.2⟩) (Value.run_blocks m ρ)

end Cert.MlstmIn

end
-- ==== Proof.MlstmInRef.lean ====
/-
  The mLSTM input projections' reference read at an index: it is the plain formulas.
-/
module

public import proofs.«01_k».proof.Proof.Gen.Reference9Ideal.Read
public import proofs.«01_k».proof.Proof.MlstmIn

@[expose] public section

set_option maxRecDepth 16384

noncomputable section

namespace Cert.MlstmIn

open Cert.Reference9Ideal Cert.Reference9Ideal.Gen Cert.Reference9Ideal.Read
open Cert.FirstIn (keyScale wA wB colB hkA hkB hkA_apply hkB_apply wA_plain wA_key wB_unused wB_used sum_scale)
open Idealize.ShloMosaic Idealize.ShloMosaic.TcCoe Idealize.SL.Sem

variable (X : FVec Ideal S16384x2048 .f32) (g : FVec Ideal S2048 .f32) (M : FVec Ideal S16x6x2048 .f32)
  (W : FVec Ideal S2x2048x6160 .f32)

/-- The joined modulation vectors: row `r` takes the vectors of its sample. -/
theorem ref_mods (r : Fin 16384) (q : Fin 6) (d : Fin 2048) : val_main_v6 (F := Ideal) M (ix3 r q d) = M (ix3 (modRowOf r) q d) := by
  unfold val_main_v6
  by_cases h : r.val < 8192
  · have e := concatenate_pair_apply_left (t := S16384x6x2048) (s₁ := S8192x6x2048) (s₂ := S8192x6x2048) 0 (val_main_v1 (F := Ideal) M)
      (val_main_v5 (F := Ideal) M) concatenates_S8192x6x2048_S8192x6x2048_S16384x6x2048_d0 (ix3 r q d) rfl (ix3 (⟨r.val, h⟩ : Fin 8192) q d)
      (by intro b; match b with | ⟨0, _⟩ => rfl | ⟨1, _⟩ => rfl | ⟨2, _⟩ => rfl)
    refine e.trans ?_
    rw [val_main_v1_apply, val_main_v0_apply]
    refine congrArg M (funext fun a => Fin.ext ?_)
    match a with
    | ⟨0, _⟩ => show 0 + 0 = if r.val < 8192 then 0 else _; rw [if_pos h]
    | ⟨1, _⟩ => rfl
    | ⟨2, _⟩ => rfl
  · have hr := r.isLt
    have e := concatenate_pair_apply_right (t := S16384x6x2048) (s₁ := S8192x6x2048) (s₂ := S8192x6x2048) 0 (val_main_v1 (F := Ideal) M)
      (val_main_v5 (F := Ideal) M) concatenates_S8192x6x2048_S8192x6x2048_S16384x6x2048_d0 (ix3 r q d) rfl rfl
      (ix3 (⟨r.val - 8192, by omega⟩ : Fin 8192) q d)
      (by intro b hb; match b with | ⟨0, _⟩ => exact absurd rfl hb | ⟨1, _⟩ => rfl | ⟨2, _⟩ => rfl)
      (by show r.val - 8192 + 8192 = r.val; omega)
    refine e.trans ?_
    rw [val_main_v5_apply, val_main_v4_apply, val_main_v3_apply, val_main_v2_apply]
    have hq := q.isLt
    have hd := d.isLt
    refine congrArg M (funext fun a => Fin.ext ?_)
    match a with
    | ⟨0, _⟩ =>
      show 1 + (((r.val - 8192) * 6 + q.val) * 2048 + d.val) / 12582912 = if r.val < 8192 then 0 else _
      rw [if_neg h]
      omega
    | ⟨1, _⟩ => show (((r.val - 8192) * 6 + q.val) * 2048 + d.val) / 2048 % 6 = q.val; omega
    | ⟨2, _⟩ => show (((r.val - 8192) * 6 + q.val) * 2048 + d.val) % 2048 = d.val; omega

/-- The shift vectors. -/
theorem ref_sh (r : Fin 16384) (d : Fin 2048) : val_main_v26 (F := Ideal) M (ix2 r d) = M (ix3 (modRowOf r) 0 d) := by
  rw [← ref_mods M r]
  pointwise [val_main_v26, val_main_v25]

/-- The scale vectors. -/
theorem ref_sc (r : Fin 16384) (d : Fin 2048) : val_main_v21 (F := Ideal) M (ix2 r d) = M (ix3 (modRowOf r) 1 d) := by
  rw [← ref_mods M r]
  pointwise [val_main_v21, val_main_v20]

/-- The normalised, scaled and shifted rows. -/
theorem ref_hin (r : Fin 16384) (d : Fin 2048) : val_main_v27 (F := Ideal) X g M (ix2 r d) = hin X g M r d := by
  unfold hin
  rw [← ref_sh M r d, ← ref_sc M r d]
  pointwise [val_main_v27, val_main_v24, val_main_v23, val_main_v22, val_main_cst_2, val_main_v19, val_main_v18, val_main_v17, val_main_v16,
    val_main_v15, val_main_v14, val_main_v13, val_main_v12, val_main_cst_1, val_main_v11, val_main_v10, val_main_cst_0, val_main_v9, val_main_v8,
    val_main_cst, val_main_v7]
  rfl

/-- The product with the whole input weight. -/
theorem ref_prod (r : Fin 16384) (f : Fin 6160) :
    (val_main_v30 (F := Ideal) X g M W (ix2 r f) : EReal) = ∑ k : Fin 2048, hin X g M r k * W (ix3 1 k f) := by
  simp only [← ref_hin]
  pointwise [val_main_v30, val_main_v29, val_main_v28]

/-- Three arrays side by side, read in the first. -/
theorem ref_cat3_0 (x y : FVec Ideal S16384x1024 .f32) (z : FVec Ideal S16384x2048 .f32) (j : S16384x4096.Idx) (i : S16384x1024.Idx)
    (hi : ∀ b : Fin 2, b ≠ 1 → (i b).val = (j b).val) (ha : 0 + (i 1).val = (j 1).val) :
    concatenate S16384x4096 1 [⟨S16384x1024, x⟩, ⟨S16384x1024, y⟩, ⟨S16384x2048, z⟩] concatenates_S16384x1024_S16384x1024_S16384x2048_S16384x4096_d1 j = x i :=
  concatenate_apply_piece (t := S16384x4096) 1 [⟨S16384x1024, x⟩, ⟨S16384x1024, y⟩, ⟨S16384x2048, z⟩] concatenates_S16384x1024_S16384x1024_S16384x2048_S16384x4096_d1
    j 0 (by show 0 < 3; omega) S16384x1024 x rfl rfl 0 rfl i hi ha

/-- Three arrays side by side, read in the second. -/
theorem ref_cat3_1 (x y : FVec Ideal S16384x1024 .f32) (z : FVec Ideal S16384x2048 .f32) (j : S16384x4096.Idx) (i : S16384x1024.Idx)
    (hi : ∀ b : Fin 2, b ≠ 1 → (i b).val = (j b).val) (ha : 1024 + (i 1).val = (j 1).val) :
    concatenate S16384x4096 1 [⟨S16384x1024, x⟩, ⟨S16384x1024, y⟩, ⟨S16384x2048, z⟩] concatenates_S16384x1024_S16384x1024_S16384x2048_S16384x4096_d1 j = y i :=
  concatenate_apply_piece (t := S16384x4096) 1 [⟨S16384x1024, x⟩, ⟨S16384x1024, y⟩, ⟨S16384x2048, z⟩] concatenates_S16384x1024_S16384x1024_S16384x2048_S16384x4096_d1
    j 1 (by show 1 < 3; omega) S16384x1024 y rfl rfl 1024 rfl i hi ha

/-- Three arrays side by side, read in the third. -/
theorem ref_cat3_2 (x y : FVec Ideal S16384x1024 .f32) (z : FVec Ideal S16384x2048 .f32) (j : S16384x4096.Idx) (i : S16384x2048.Idx)
    (hi : ∀ b : Fin 2, b ≠ 1 → (i b).val = (j b).val) (ha : 2048 + (i 1).val = (j 1).val) :
    concatenate S16384x4096 1 [⟨S16384x1024, x⟩, ⟨S16384x1024, y⟩, ⟨S16384x2048, z⟩] concatenates_S16384x1024_S16384x1024_S16384x2048_S16384x4096_d1 j = z i :=
  concatenate_apply_piece (t := S16384x4096) 1 [⟨S16384x1024, x⟩, ⟨S16384x1024, y⟩, ⟨S16384x2048, z⟩] concatenates_S16384x1024_S16384x1024_S16384x2048_S16384x4096_d1
    j 2 (by show 2 < 3; omega) S16384x2048 z rfl rfl 2048 rfl i hi ha

/-- The reference's result 0. -/
theorem ref_projA (r : Fin 16384) (f : Fin 4096) : (val_main_v43 (F := Ideal) X g M W (ix2 r f) : EReal) = projA X g M (wA W) r f := by
  have hf := f.isLt
  unfold projA
  rw [val_main_v43_apply]
  show @Eq EReal (val_main_v38 (F := Ideal) X g M W (ix2 r f)) _
  unfold val_main_v38
  by_cases h1 : f.val < 1024
  · refine (ref_cat3_0 _ _ _ (ix2 r f) (ix2 r (⟨f.val, h1⟩ : Fin 1024))
      (by intro b hb; match b with | ⟨0, _⟩ => rfl | ⟨1, _⟩ => exact absurd rfl hb) (by show 0 + f.val = f.val; omega)).trans ?_
    rw [val_main_v31_apply]
    refine Eq.trans (congrArg (val_main_v30 (F := Ideal) X g M W) (a₂ := ix2 r (⟨f.val, by omega⟩ : Fin 6160)) (funext fun a => Fin.ext ?_)) ?_
    · match a with
      | ⟨0, _⟩ => rfl
      | ⟨1, _⟩ => rfl
    · rw [ref_prod]
      exact Finset.sum_congr rfl fun k _ => by rw [wA_plain W 1 k f (by omega)]
  · by_cases h2 : f.val < 2048
    · refine (ref_cat3_1 _ _ _ (ix2 r f) (ix2 r (⟨f.val - 1024, by omega⟩ : Fin 1024))
        (by intro b hb; match b with | ⟨0, _⟩ => rfl | ⟨1, _⟩ => exact absurd rfl hb) (by show 1024 + (f.val - 1024) = f.val; omega)).trans ?_
      rw [val_main_v37_apply, val_main_v36_apply, val_main_v32_apply]
      show @Eq EReal ((val_main_v30 (F := Ideal) X g M W _ : EReal) * keyScale) _
      refine Eq.trans (congrArg (fun j => (val_main_v30 (F := Ideal) X g M W j : EReal) * keyScale) (a₂ := ix2 r (⟨f.val, by omega⟩ : Fin 6160)) (funext fun a => Fin.ext ?_)) ?_
      · match a with
        | ⟨0, _⟩ => rfl
        | ⟨1, _⟩ => show 1024 + (f.val - 1024) = f.val; omega
      · dsimp only
        rw [ref_prod, ← sum_scale]
        exact Finset.sum_congr rfl fun k _ => by rw [wA_key W 1 k f (by omega)]
    · refine (ref_cat3_2 _ _ _ (ix2 r f) (ix2 r (⟨f.val - 2048, by omega⟩ : Fin 2048))
        (by intro b hb; match b with | ⟨0, _⟩ => rfl | ⟨1, _⟩ => exact absurd rfl hb) (by show 2048 + (f.val - 2048) = f.val; omega)).trans ?_
      rw [val_main_v33_apply]
      refine Eq.trans (congrArg (val_main_v30 (F := Ideal) X g M W) (a₂ := ix2 r (⟨f.val, by omega⟩ : Fin 6160)) (funext fun a => Fin.ext ?_)) ?_
      · match a with
        | ⟨0, _⟩ => rfl
        | ⟨1, _⟩ => show 2048 + (f.val - 2048) = f.val; omega
      · rw [ref_prod]
        exact Finset.sum_congr rfl fun k _ => by rw [wA_plain W 1 k f (by omega)]

theorem ref_eqA : (val_main_v43 (F := Ideal) X g M W : FVec Ideal S16384x4096 .bf16) = fun i => projA X g M (wA W) (i 0) (i 1) := by
  funext i
  obtain ⟨r, d, rfl⟩ : ∃ (r : Fin 16384) (d : Fin 4096), i = ix2 r d := ⟨i 0, i 1, funext fun a => match a with | ⟨0, _⟩ => rfl | ⟨1, _⟩ => rfl⟩
  exact ref_projA X g M W r d

/-- The reference's result 1. -/
theorem ref_projB (r : Fin 16384) (f : Fin 2560) : (val_main_v44 (F := Ideal) X g M W (ix2 r f) : EReal) = projB X g M (wB W) r f := by
  have hf := f.isLt
  have hr := r.isLt
  unfold projB val_main_v44
  by_cases h1 : f.val < 2048
  · refine (concatenate_pair_apply_left (t := S16384x2560) (s₁ := S16384x2048) (s₂ := S16384x512) 1 _ _ concatenates_S16384x2048_S16384x512_S16384x2560_d1 (ix2 r f) rfl
      (ix2 r (⟨f.val, h1⟩ : Fin 2048)) (by intro b; match b with | ⟨0, _⟩ => rfl | ⟨1, _⟩ => rfl)).trans ?_
    rw [val_main_v34_apply]
    refine Eq.trans (congrArg (val_main_v30 (F := Ideal) X g M W) (a₂ := ix2 r (colB f)) (funext fun a => Fin.ext ?_)) ?_
    · match a with
      | ⟨0, _⟩ => rfl
      | ⟨1, _⟩ => show 4096 + f.val = if f.val < 2048 then 4096 + f.val else _; rw [if_pos h1]
    · rw [ref_prod]
      exact Finset.sum_congr rfl fun k _ => by rw [wB_used W 1 k f (by omega)]
  · refine (concatenate_pair_apply_right (t := S16384x2560) (s₁ := S16384x2048) (s₂ := S16384x512) 1 _ _ concatenates_S16384x2048_S16384x512_S16384x2560_d1 (ix2 r f) rfl rfl
      (ix2 r (⟨f.val - 2048, by omega⟩ : Fin 512)) (by intro b hb; match b with | ⟨0, _⟩ => rfl | ⟨1, _⟩ => exact absurd rfl hb)
      (by show f.val - 2048 + 2048 = f.val; omega)).trans ?_
    rw [val_main_v42_apply]
    unfold val_main_v41 pad
    by_cases h2 : 4 ≤ (f.val - 2048) % 128
    · refine (dif_neg fun hin => ?_).trans ?_
      · have h3 : 0 ≤ (r.val * 512 + (f.val - 2048)) % 128 ∧ ((r.val * 512 + (f.val - 2048)) % 128 - 0) % (0 + 1) = 0
            ∧ ((r.val * 512 + (f.val - 2048)) % 128 - 0) / (0 + 1) < 4 := hin 2
        omega
      · refine Eq.trans (b := (0 : EReal)) ?_ ?_
        · show @Eq EReal (((0#32 : BitVec 32).toInt : ℝ) : EReal) 0
          simp
        · refine (Finset.sum_eq_zero fun k _ => ?_).symm
          rw [wB_unused W 1 k f (by omega), mul_zero]
    · refine (dif_pos ?_).trans ?_
      · intro a
        match a with
        | ⟨0, _⟩ =>
          show 0 ≤ (r.val * 512 + (f.val - 2048)) / 512 ∧ ((r.val * 512 + (f.val - 2048)) / 512 - 0) % (0 + 1) = 0
            ∧ ((r.val * 512 + (f.val - 2048)) / 512 - 0) / (0 + 1) < 16384
          omega
        | ⟨1, _⟩ =>
          show 0 ≤ (r.val * 512 + (f.val - 2048)) / 128 % 4 ∧ ((r.val * 512 + (f.val - 2048)) / 128 % 4 - 0) % (0 + 1) = 0
            ∧ ((r.val * 512 + (f.val - 2048)) / 128 % 4 - 0) / (0 + 1) < 4
          omega
        | ⟨2, _⟩ =>
          show 0 ≤ (r.val * 512 + (f.val - 2048)) % 128 ∧ ((r.val * 512 + (f.val - 2048)) % 128 - 0) % (0 + 1) = 0
            ∧ ((r.val * 512 + (f.val - 2048)) % 128 - 0) / (0 + 1) < 4
          omega
      refine Eq.trans (congrArg (val_main_v40 (F := Ideal) X g M W)
        (a₂ := ix3 r (⟨(f.val - 2048) / 128, by omega⟩ : Fin 4) (⟨(f.val - 2048) % 128, by omega⟩ : Fin 4)) (funext fun a => Fin.ext ?_)) ?_
      · match a with
        | ⟨0, _⟩ => show ((r.val * 512 + (f.val - 2048)) / 512 - 0) / (0 + 1) = r.val; omega
        | ⟨1, _⟩ => show ((r.val * 512 + (f.val - 2048)) / 128 % 4 - 0) / (0 + 1) = (f.val - 2048) / 128; omega
        | ⟨2, _⟩ => show ((r.val * 512 + (f.val - 2048)) % 128 - 0) / (0 + 1) = (f.val - 2048) % 128; omega
      rw [val_main_v40_apply, val_main_v39_apply, val_main_v35_apply]
      refine Eq.trans (congrArg (val_main_v30 (F := Ideal) X g M W) (a₂ := ix2 r (colB f)) (funext fun a => Fin.ext ?_)) ?_
      · match a with
        | ⟨0, _⟩ => show ((r.val * 4 + (f.val - 2048) % 128) * 4 + (f.val - 2048) / 128) / 16 = r.val; omega
        | ⟨1, _⟩ =>
          show 6144 + ((r.val * 4 + (f.val - 2048) % 128) * 4 + (f.val - 2048) / 128) % 16
            = if f.val < 2048 then _ else 6144 + ((f.val - 2048) % 4 * 4 + (f.val - 2048) / 128)
          rw [if_neg h1]
          omega
      · rw [ref_prod]
        exact Finset.sum_congr rfl fun k _ => by rw [wB_used W 1 k f (by omega)]

theorem ref_eqB : (val_main_v44 (F := Ideal) X g M W : FVec Ideal S16384x2560 .f32) = fun i => projB X g M (wB W) (i 0) (i 1) := by
  funext i
  obtain ⟨r, d, rfl⟩ : ∃ (r : Fin 16384) (d : Fin 2560), i = ix2 r d := ⟨i 0, i 1, funext fun a => match a with | ⟨0, _⟩ => rfl | ⟨1, _⟩ => rfl⟩
  exact ref_projB X g M W r d

end Cert.MlstmIn

end
-- ==== Proof.LruIn.lean ====
/-
  The RG-LRU input projection: each row is normalised, scaled, shifted and multiplied by the weight.
-/
module

public import proofs.«01_k».proof.Proof.Gen.Kernel8Ideal.Value
public import Idealize.ShloMosaic.Lib.Pointwise
public import Idealize.ShloMosaic.Lib.StableHlo.Run
public import Idealize.ShloMosaic.Lib.IdealHost

@[expose] public section

set_option maxRecDepth 16384

noncomputable section

namespace Cert.LruIn

open Cert.Kernel8Ideal Cert.Kernel8Ideal.Gen
open Idealize.ShloMosaic Idealize.ShloMosaic.TcCoe Idealize.SL.Sem

theorem off2 : (![0, 0] : Fin 2 → Nat) = fun _ => 0 := funext fun a => by fin_cases a <;> rfl
theorem off3 : (![0, 0, 0] : Fin 3 → Nat) = fun _ => 0 := funext fun a => by fin_cases a <;> rfl

/-! ## The plain formula -/

/-- The reciprocal root mean square of a row of 2048 entries, as the kernel and the plain formula both print it. -/
def rs (v : Fin 2048 → EReal) : EReal :=
  Ideal.rsqrt (Ideal.div (∑ k, v k * v k) (Ideal.ofBits .f32 0x45000000#32) + Ideal.ofBits .f32 0x358637BD#32)

/-- The modulation row of a row: the first for the context rows, then one for every 1024 rows. -/
def modRowOf (r : Fin 16384) : Fin 16 := ⟨if r.val < 8192 then 0 else 1 + (r.val - 8192) / 1024, by split <;> omega⟩

section Formula
variable (X : FVec Ideal S16384x2048 .f32) (g : FVec Ideal S2048 .f32) (M : FVec Ideal S16x6x2048 .f32)

/-- A row, normalised, scaled and shifted. -/
def hin (r : Fin 16384) (d : Fin 2048) : EReal :=
  X (ix2 r d) * rs (fun k => X (ix2 r k)) * g (ix1 d) * (1 + M (ix3 (modRowOf r) 1 d)) + M (ix3 (modRowOf r) 0 d)

/-- The projection. -/
def proj (W : FVec Ideal S1x2048x4096 .f32) (r : Fin 16384) (f : Fin 4096) : EReal := ∑ k : Fin 2048, hin X g M r k * W (ix3 0 k f)
end Formula

/-! ## The body's stored value at an index -/

theorem pay1_apply (x : FVec Ideal S512x2048 .f32) (g : FVec Ideal S1x2048 .f32) (sh sc : FVec Ideal S1x1x2048 .f32)
    (w : FVec Ideal S1x2048x4096 .bf16) (r : Fin 512) (f : Fin 4096) :
    (k0_pay1 (F := Ideal) x g sh sc w (ix2 r f) : EReal)
      = ∑ k : Fin 2048, (x (ix2 r k) * rs (fun j => x (ix2 r j)) * g (ix2 0 k) * (1 + sc (ix3 0 0 k)) + sh (ix3 0 0 k)) * w (ix3 0 k f) := by
  pointwise [k0_pay1]
  rfl

/-- Row 0 of a block of six modulation rows. -/
theorem ld_mod0 (x : FVec Ideal S1x6x2048 .f32) (d : Fin 2048) :
    View.ld (Val := Elt Ideal) (e' := .f32) x (Rect.unit (s := S1x6x2048) ![0, 0, 0] S1x1x2048.size inb_S1x6x2048_S1x1x2048_0_0_0) (ix3 0 0 d) = x (ix3 0 0 d) := by
  show x _ = x _
  refine congrArg x (funext fun a => Fin.ext ?_)
  match a with
  | ⟨0, _⟩ => rfl
  | ⟨1, _⟩ => rfl
  | ⟨2, _⟩ => show 0 + 1 * d.val = d.val; omega

/-- Row 1 of a block of six modulation rows. -/
theorem ld_mod1 (x : FVec Ideal S1x6x2048 .f32) (d : Fin 2048) :
    View.ld (Val := Elt Ideal) (e' := .f32) x (Rect.unit (s := S1x6x2048) ![0, 1, 0] S1x1x2048.size inb_S1x6x2048_S1x1x2048_0_1_0) (ix3 0 0 d) = x (ix3 0 1 d) := by
  show x _ = x _
  refine congrArg x (funext fun a => Fin.ext ?_)
  match a with
  | ⟨0, _⟩ => rfl
  | ⟨1, _⟩ => rfl
  | ⟨2, _⟩ => show 0 + 1 * d.val = d.val; omega

/-! ## The blocks -/

variable (m : (ℓ : Loc nD τ sig) → Buf (Elt Ideal) ℓ) (c : Dev nD)

/-- The arguments: rows, the gain, modulation rows and the weight. -/
abbrev argX : FVec Ideal S16384x2048 .f32 := m ((c : Thread nD τ).loc main_arg0)
abbrev argG : FVec Ideal S2048 .f32 := m ((c : Thread nD τ).loc main_arg1)
abbrev argMod : FVec Ideal S16x6x2048 .f32 := m ((c : Thread nD τ).loc main_arg2)
abbrev argW : FVec Ideal S1x2048x4096 .f32 := m ((c : Thread nD τ).loc main_arg3)

/-- Row `r` of row block `t`, and the modulation row the block is given. -/
abbrev rowOf (t : Fin cfg0.N) (r : Fin 512) : Fin 16384 := ⟨t.val * 512 + r.val, by have := lt_of_lt_of_eq t.isLt (show cfg0.N = 32 from N_0); omega⟩
abbrev modOf (t : Fin cfg0.N) : Fin 16 := ⟨if t.val < 16 then 0 else (t.val - 16) / 2 + 1, by have := lt_of_lt_of_eq t.isLt (show cfg0.N = 32 from N_0); split <;> omega⟩

theorem modRowOf_rowOf (t : Fin cfg0.N) (r : Fin 512) : modRowOf (rowOf t r) = modOf t := by
  apply Fin.ext
  show (if t.val * 512 + r.val < 8192 then 0 else 1 + (t.val * 512 + r.val - 8192) / 1024) = if t.val < 16 then 0 else (t.val - 16) / 2 + 1
  have := r.isLt
  split <;> split <;> omega

theorem index0 : ∀ t : Fin cfg0.N, win0_0.index t 0 = t.val ∧ win0_0.index t 1 = 0 :=
  (by decide +kernel : ∀ t : Fin grid0.N, win0_0.index t 0 = t.val ∧ win0_0.index t 1 = 0)
theorem index2 : ∀ t : Fin cfg0.N, win0_2.index t 0 = (if t.val < 16 then 0 else (t.val - 16) / 2 + 1) ∧ win0_2.index t 1 = 0 ∧ win0_2.index t 2 = 0 :=
  (by decide +kernel : ∀ t : Fin grid0.N, win0_2.index t 0 = (if t.val < 16 then 0 else (t.val - 16) / 2 + 1) ∧ win0_2.index t 1 = 0 ∧ win0_2.index t 2 = 0)
theorem index3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem index4 : ∀ t : Fin cfg0.N, win0_4.index t 0 = t.val ∧ win0_4.index t 1 = 0 :=
  (by decide +kernel : ∀ t : Fin grid0.N, win0_4.index t 0 = t.val ∧ win0_4.index t 1 = 0)

/-- The block of input rows. -/
theorem blk_x (t : Fin cfg0.N) (r : Fin 512) (d : Fin 2048) :
    (iblk m c 0 t : FVec Ideal S512x2048 .f32) (ix2 r d) = argX m c (ix2 (rowOf t r) d) := by
  unfold iblk
  rw [View.read_apply]
  show V m c main_arg0 _ = _
  rw [V_main_arg0]
  obtain ⟨h0, h1⟩ := index0 t
  refine congrArg (m ((c : Thread nD τ).loc main_arg0)) (funext fun a => Fin.ext ?_)
  match a with
  | ⟨0, _⟩ => show win0_0.index t 0 * 512 + 1 * r.val = t.val * 512 + r.val; omega
  | ⟨1, _⟩ => show win0_0.index t 1 * 2048 + 1 * d.val = d.val; omega

/-- The gain as the launch finds it. -/
theorem V_gain (d : Fin 2048) : (V m c main_v1 : FVec Ideal S1x2048 .f32) (ix2 0 d) = argG m c (ix1 d) := by
  have e : @Eq (FVec Ideal S1x2048 .f32) (V m c main_v1) (shapeCast S1x2048 (argG m c) shapeCasts_S2048_S1x2048) := by
    show StableHlo.after hostOps0 _ main_v1 = _
    after_results_simp
    rfl
  rw [e]
  pointwise

/-- The gain's block: all of it. -/
theorem blk_gain (t : Fin cfg0.N) (d : Fin 2048) :
    (iblk m c 1 t : FVec Ideal S1x2048 .f32) (ix2 0 d) = argG m c (ix1 d) := by
  rw [← V_gain m c d]
  unfold iblk
  rw [View.read_apply]
  show V m c main_v1 _ = _
  refine congrArg (V m c main_v1) (funext fun a => Fin.ext ?_)
  match a with
  | ⟨0, _⟩ => rfl
  | ⟨1, _⟩ => show 0 * 2048 + 1 * d.val = d.val; omega

/-- The six modulation rows of a block. -/
theorem blk_mod (t : Fin cfg0.N) (q : Fin 6) (d : Fin 2048) :
    (iblk m c 2 t : FVec Ideal S1x6x2048 .f32) (ix3 0 q d) = argMod m c (ix3 (modOf t) q d) := by
  unfold iblk
  rw [View.read_apply]
  show V m c main_arg2 _ = _
  rw [V_main_arg2]
  obtain ⟨h0, h1, h2⟩ := index2 t
  refine congrArg (m ((c : Thread nD τ).loc main_arg2)) (funext fun a => Fin.ext ?_)
  match a with
  | ⟨0, _⟩ => show win0_2.index t 0 * 1 + 1 * 0 = (if t.val < 16 then 0 else (t.val - 16) / 2 + 1); omega
  | ⟨1, _⟩ => show win0_2.index t 1 * 6 + 1 * q.val = q.val; omega
  | ⟨2, _⟩ => show win0_2.index t 2 * 2048 + 1 * d.val = d.val; omega

/-- The weight as the launch finds it: the float32 weight. -/
theorem V_w (k : Fin 2048) (f : Fin 4096) :
    (V m c main_v0 : FVec Ideal S1x2048x4096 .bf16) (ix3 0 k f) = argW m c (ix3 0 k f) := by
  have e : @Eq (FVec Ideal S1x2048x4096 .bf16) (V m c main_v0) (truncf (F := Ideal) (φ := .f32) .bf16 (argW m c) bitsLt_bf16_f32) := by
    show StableHlo.after hostOps0 _ main_v0 = _
    after_results_simp
  rw [e]
  rfl

/-- The weight's block: all of it. -/
theorem blk_w (t : Fin cfg0.N) (k : Fin 2048) (f : Fin 4096) :
    (iblk m c 3 t : FVec Ideal S1x2048x4096 .bf16) (ix3 0 k f) = argW m c (ix3 0 k f) := by
  rw [← V_w m c k f]
  unfold iblk
  rw [View.read_apply]
  show V m c main_v0 _ = _
  obtain ⟨h0, h1, h2⟩ := index3 t
  refine congrArg (V m c main_v0) (funext fun a => Fin.ext ?_)
  match a with
  | ⟨0, _⟩ => show win0_3.index t 0 * 1 + 1 * 0 = 0; omega
  | ⟨1, _⟩ => show win0_3.index t 1 * 2048 + 1 * k.val = k.val; omega
  | ⟨2, _⟩ => show win0_3.index t 2 * 4096 + 1 * f.val = f.val; omega

/-! ## The result -/

/-- What a grid point stores: its rows of the projection. -/
theorem out_apply (t : Fin cfg0.N) (r : Fin 512) (f : Fin 4096) :
    (out0_4 (iblk m c 0 t) (iblk m c 1 t) (iblk m c 2 t) (iblk m c 3 t) : FVec Ideal S512x4096 .f32) (ix2 r f)
      = proj (argX m c) (argG m c) (argMod m c) (argW m c) (rowOf t r) f := by
  unfold out0_4
  rw [View.canon_unit_zero off2]
  simp only [View.ld_unit_zero (S := S512x2048) off2, View.ld_unit_zero (S := S1x2048) off2, View.ld_unit_zero (S := S1x2048x4096) off3]
  refine (pay1_apply _ _ _ _ _ r f).trans ?_
  unfold proj hin
  simp only [modRowOf_rowOf, ← blk_x m c t, ← blk_gain m c t, ← blk_mod m c t, ← blk_w m c t]
  refine Finset.sum_congr rfl fun k _ => ?_
  rw [ld_mod0, ld_mod1]

/-- The result as the contents of the result array. -/
def result : Buf (Elt Ideal) ((c : Thread nD τ).loc main_v2) := fun i : S16384x4096.Idx => proj (argX m c) (argG m c) (argMod m c) (argW m c) (i 0) (i 1)

/-- What a grid point writes back is its block of rows of the result. -/
theorem flushed_eq4 (t : Fin cfg0.N) : (dats m 0 c).flushed 4 t = ((cfg0.win 4).blk t).view.read (Elt Ideal) (result m c) := by
  rw [Value.flushed4]
  obtain ⟨e0, e1⟩ := index4 t
  funext y
  have hl : (cfg0.win 4).xinj (grid0.coords t) y = ix2 (y 0) (y 1) := by
    funext a; apply Fin.ext
    match a with
    | ⟨0, _⟩ => show (y 0).val = (y 0).val; rfl
    | ⟨1, _⟩ => show (y 1).val = (y 1).val; rfl
  show out0_4 (iblk m c 0 t) (iblk m c 1 t) (iblk m c 2 t) (iblk m c 3 t) ((cfg0.win 4).xinj (grid0.coords t) y) = result m c (((cfg0.win 4).blk t).view.emb y)
  rw [hl]
  refine (out_apply m c t (y 0) (y 1)).trans ?_
  have hb0 : (((cfg0.win 4).blk t).view.emb y 0).val = win0_4.index t 0 * 512 + 1 * (y 0).val := rfl
  have hb1 : (((cfg0.win 4).blk t).view.emb y 1).val = win0_4.index t 1 * 4096 + 1 * (y 1).val := rfl
  have q0 : rowOf t (y 0) = ((cfg0.win 4).blk t).view.emb y 0 := by
    apply Fin.ext
    rw [hb0, e0]
    show t.val * 512 + (y 0).val = t.val * 512 + 1 * (y 0).val
    omega
  have q1 : y 1 = ((cfg0.win 4).blk t).view.emb y 1 := by
    apply Fin.ext
    rw [hb1, e1]
    omega
  unfold result
  dsimp only
  rw [← q0, ← q1]

theorem flushes4 : ∀ t : Fin cfg0.N, (cfg0.win 4).flush t = true :=
  (by decide +kernel : ∀ t : Fin grid0.N, win0_4.flush t = true)

/-- Every index of the result array is in the block of its rows' grid point. -/
theorem covered4 (i : S16384x4096.Idx) : ∃ t : Fin cfg0.N, (cfg0.win 4).flush t = true ∧ i ∈ ((cfg0.win 4).blk t).view.set := by
  have h0 : (i 0).val < 16384 := (i 0).isLt
  have h1 : (i 1).val < 4096 := (i 1).isLt
  have hN : cfg0.N = 32 := N_0
  obtain ⟨t, ht⟩ : ∃ t : Fin cfg0.N, t.val = (i 0).val / 512 := ⟨⟨(i 0).val / 512, by omega⟩, rfl⟩
  refine ⟨t, flushes4 t, ?_⟩
  obtain ⟨e0, e1⟩ := index4 t
  show i ∈ ((View.whole main_v2).slice (win0_4.rect t)).set
  rw [View.set_slice_whole, Rect.mem_set_unit]
  intro a
  match a with
  | ⟨0, _⟩ =>
    show win0_4.index t 0 * 512 ≤ (i 0).val ∧ (i 0).val < win0_4.index t 0 * 512 + 512
    omega
  | ⟨1, _⟩ =>
    show win0_4.index t 1 * 4096 ≤ (i 1).val ∧ (i 1).val < win0_4.index t 1 * 4096 + 4096
    omega

/-- The result array ends holding the result. -/
theorem final4 : (dats m 0 c).arrAt 4 cfg0.N = result m c :=
  (dats m 0 c).arrAt_eq_of_cover 4 _ (fun t _ => flushed_eq4 m c t) covered4

/-- The call's run: the result array holds the plain formula, and the arguments are as they were. -/
theorem run (ρ : Dev nD → PrngReg) : θ_run defs (onTc (τ := τ) (main (F := Ideal))) ⟨m, fun _ => 0, ρ⟩ fun r => ∀ c : Dev nD,
      r.2.mem ((c : Thread nD τ).loc main_v2) = result m c ∧
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3) :=
  (θ_run defs _ _).mono (fun r h c => ⟨(h c).1.trans (final4 m c), (h c).2⟩) (Value.run_blocks m ρ)

end Cert.LruIn

end
-- ==== Proof.LruInRef.lean ====
/-
  The RG-LRU input projection's reference read at an index: it is the plain formula.
-/
module

public import proofs.«01_k».proof.Proof.Gen.Reference8Ideal.Read
public import proofs.«01_k».proof.Proof.LruIn

@[expose] public section

set_option maxRecDepth 16384

noncomputable section

namespace Cert.LruIn

open Cert.Reference8Ideal Cert.Reference8Ideal.Gen Cert.Reference8Ideal.Read
open Idealize.ShloMosaic Idealize.ShloMosaic.TcCoe Idealize.SL.Sem

variable (X : FVec Ideal S16384x2048 .f32) (g : FVec Ideal S2048 .f32) (M : FVec Ideal S16x6x2048 .f32) (W : FVec Ideal S1x2048x4096 .f32)

/-- The joined modulation vectors: row `r` takes the vectors of its sample. -/
theorem ref_mods (r : Fin 16384) (q : Fin 6) (d : Fin 2048) : val_main_v6 (F := Ideal) M (ix3 r q d) = M (ix3 (modRowOf r) q d) := by
  unfold val_main_v6
  by_cases h : r.val < 8192
  · have e := concatenate_pair_apply_left (t := S16384x6x2048) (s₁ := S8192x6x2048) (s₂ := S8192x6x2048) 0 (val_main_v1 (F := Ideal) M)
      (val_main_v5 (F := Ideal) M) concatenates_S8192x6x2048_S8192x6x2048_S16384x6x2048_d0 (ix3 r q d) rfl (ix3 (⟨r.val, h⟩ : Fin 8192) q d)
      (by intro b; match b with | ⟨0, _⟩ => rfl | ⟨1, _⟩ => rfl | ⟨2, _⟩ => rfl)
    refine e.trans ?_
    rw [val_main_v1_apply, val_main_v0_apply]
    refine congrArg M (funext fun a => Fin.ext ?_)
    match a with
    | ⟨0, _⟩ => show 0 + 0 = if r.val < 8192 then 0 else _; rw [if_pos h]
    | ⟨1, _⟩ => rfl
    | ⟨2, _⟩ => rfl
  · have hr := r.isLt
    have e := concatenate_pair_apply_right (t := S16384x6x2048) (s₁ := S8192x6x2048) (s₂ := S8192x6x2048) 0 (val_main_v1 (F := Ideal) M)
      (val_main_v5 (F := Ideal) M) concatenates_S8192x6x2048_S8192x6x2048_S16384x6x2048_d0 (ix3 r q d) rfl rfl
      (ix3 (⟨r.val - 8192, by omega⟩ : Fin 8192) q d)
      (by intro b hb; match b with | ⟨0, _⟩ => exact absurd rfl hb | ⟨1, _⟩ => rfl | ⟨2, _⟩ => rfl)
      (by show r.val - 8192 + 8192 = r.val; omega)
    refine e.trans ?_
    rw [val_main_v5_apply, val_main_v4_apply, val_main_v3_apply, val_main_v2_apply]
    have hq := q.isLt
    have hd := d.isLt
    refine congrArg M (funext fun a => Fin.ext ?_)
    match a with
    | ⟨0, _⟩ =>
      show 1 + (((r.val - 8192) * 6 + q.val) * 2048 + d.val) / 12582912 = if r.val < 8192 then 0 else _
      rw [if_neg h]
      omega
    | ⟨1, _⟩ => show (((r.val - 8192) * 6 + q.val) * 2048 + d.val) / 2048 % 6 = q.val; omega
    | ⟨2, _⟩ => show (((r.val - 8192) * 6 + q.val) * 2048 + d.val) % 2048 = d.val; omega

/-- The shift vectors. -/
theorem ref_sh (r : Fin 16384) (d : Fin 2048) : val_main_v26 (F := Ideal) M (ix2 r d) = M (ix3 (modRowOf r) 0 d) := by
  rw [← ref_mods M r]
  pointwise [val_main_v26, val_main_v25]

/-- The scale vectors. -/
theorem ref_sc (r : Fin 16384) (d : Fin 2048) : val_main_v21 (F := Ideal) M (ix2 r d) = M (ix3 (modRowOf r) 1 d) := by
  rw [← ref_mods M r]
  pointwise [val_main_v21, val_main_v20]

/-- The normalised, scaled and shifted rows. -/
theorem ref_hin (r : Fin 16384) (d : Fin 2048) : val_main_v27 (F := Ideal) X g M (ix2 r d) = hin X g M r d := by
  unfold hin
  rw [← ref_sh M r d, ← ref_sc M r d]
  pointwise [val_main_v27, val_main_v24, val_main_v23, val_main_v22, val_main_cst_2, val_main_v19, val_main_v18, val_main_v17, val_main_v16,
    val_main_v15, val_main_v14, val_main_v13, val_main_v12, val_main_cst_1, val_main_v11, val_main_v10, val_main_cst_0, val_main_v9, val_main_v8,
    val_main_cst, val_main_v7]
  rfl

/-- The reference's result. -/
theorem ref_proj (r : Fin 16384) (f : Fin 4096) : val_main_v29 (F := Ideal) X g M W (ix2 r f) = proj X g M W r f := by
  unfold proj
  simp only [← ref_hin]
  pointwise [val_main_v29, val_main_v28]

/-- The reference's result array. -/
theorem ref_eq : (val_main_v29 (F := Ideal) X g M W : FVec Ideal S16384x4096 .f32) = fun i => proj X g M W (i 0) (i 1) := by
  funext i
  obtain ⟨r, d, rfl⟩ : ∃ (r : Fin 16384) (d : Fin 4096), i = ix2 r d := ⟨i 0, i 1, funext fun a => match a with | ⟨0, _⟩ => rfl | ⟨1, _⟩ => rfl⟩
  exact ref_proj X g M W r d

end Cert.LruIn

end
-- ==== Proof.FnetOut.lean ====
/-
  The Fourier mixer's output projection: the rows times the weight plus a bias, normalised, gated and added to the stream.
-/
module

public import proofs.«01_k».proof.Proof.Gen.Kernel7Ideal.Value
public import Idealize.ShloMosaic.Lib.Pointwise
public import Idealize.ShloMosaic.Lib.StableHlo.Run
public import Idealize.ShloMosaic.Lib.IdealHost

@[expose] public section

set_option maxRecDepth 16384

noncomputable section

namespace Cert.FnetOut

open Cert.Kernel7Ideal Cert.Kernel7Ideal.Gen
open Idealize.ShloMosaic Idealize.ShloMosaic.TcCoe Idealize.SL.Sem

theorem off2 : (![0, 0] : Fin 2 → Nat) = fun _ => 0 := funext fun a => by fin_cases a <;> rfl
theorem off3 : (![0, 0, 0] : Fin 3 → Nat) = fun _ => 0 := funext fun a => by fin_cases a <;> rfl

/-! ## The plain formula -/

/-- The reciprocal root mean square of a row of 2048 entries, as the kernel and the plain formula both print it. -/
def rs (v : Fin 2048 → EReal) : EReal :=
  Ideal.rsqrt (Ideal.div (∑ k, v k * v k) (Ideal.ofBits .f32 0x45000000#32) + Ideal.ofBits .f32 0x358637BD#32)

/-- The modulation row of a row: the first for the context rows, then one for every 1024 rows. -/
def modRowOf (r : Fin 16384) : Fin 16 := ⟨if r.val < 8192 then 0 else 1 + (r.val - 8192) / 1024, by split <;> omega⟩

section Formula
variable (Y : FVec Ideal S16384x2048 .bf16) (W : FVec Ideal S1x2048x2048 .f32) (B : FVec Ideal S1x2048 .f32) (X : FVec Ideal S16384x2048 .f32)
  (g : FVec Ideal S2048 .f32) (M : FVec Ideal S16x6x2048 .f32)

/-- The product plus the bias. -/
def lin (r : Fin 16384) (d : Fin 2048) : EReal := (∑ k : Fin 2048, Y (ix2 r k) * W (ix3 0 k d)) + B (ix2 0 d)

/-- The stream after the mixer. -/
def out (r : Fin 16384) (d : Fin 2048) : EReal :=
  X (ix2 r d) + M (ix3 (modRowOf r) 2 d) * (lin Y W B r d * rs (lin Y W B r) * g (ix1 d))
end Formula

/-! ## The body's stored value at an index -/

/-- A block's product plus the bias. -/
def blin (y : FVec Ideal S512x2048 .bf16) (w : FVec Ideal S1x2048x2048 .bf16) (b : FVec Ideal S1x2048 .f32) (r : Fin 512) (d : Fin 2048) : EReal :=
  (∑ k : Fin 2048, y (ix2 r k) * w (ix3 0 k d)) + b (ix2 0 d)

theorem pay1_apply (y : FVec Ideal S512x2048 .bf16) (w : FVec Ideal S1x2048x2048 .bf16) (b : FVec Ideal S1x2048 .f32) (x : FVec Ideal S512x2048 .f32)
    (gate : FVec Ideal S1x1x2048 .f32) (g : FVec Ideal S1x2048 .f32) (r : Fin 512) (d : Fin 2048) :
    (k0_pay1 (F := Ideal) y w b x gate g (ix2 r d) : EReal)
      = x (ix2 r d) + gate (ix3 0 0 d) * (blin y w b r d * rs (blin y w b r) * g (ix2 0 d)) := by
  pointwise [k0_pay1]
  rfl

/-- Row 2 of a block of six modulation rows. -/
theorem ld_mod2 (x : FVec Ideal S1x6x2048 .f32) (d : Fin 2048) :
    View.ld (Val := Elt Ideal) (e' := .f32) x (Rect.unit (s := S1x6x2048) ![0, 2, 0] S1x1x2048.size inb_S1x6x2048_S1x1x2048_0_2_0) (ix3 0 0 d) = x (ix3 0 2 d) := by
  show x _ = x _
  refine congrArg x (funext fun a => Fin.ext ?_)
  match a with
  | ⟨0, _⟩ => rfl
  | ⟨1, _⟩ => rfl
  | ⟨2, _⟩ => show 0 + 1 * d.val = d.val; omega

/-! ## The blocks -/

variable (m : (ℓ : Loc nD τ sig) → Buf (Elt Ideal) ℓ) (c : Dev nD)

/-- The arguments: the mixer's rows, the weight, the bias, the stream, the gain and the modulation rows. -/
abbrev argY : FVec Ideal S16384x2048 .bf16 := m ((c : Thread nD τ).loc main_arg0)
abbrev argW : FVec Ideal S1x2048x2048 .f32 := m ((c : Thread nD τ).loc main_arg1)
abbrev argB : FVec Ideal S1x2048 .f32 := m ((c : Thread nD τ).loc main_arg2)
abbrev argX : FVec Ideal S16384x2048 .f32 := m ((c : Thread nD τ).loc main_arg3)
abbrev argG : FVec Ideal S2048 .f32 := m ((c : Thread nD τ).loc main_arg4)
abbrev argMod : FVec Ideal S16x6x2048 .f32 := m ((c : Thread nD τ).loc main_arg5)

/-- Row `r` of row block `t`, and the modulation row the block is given. -/
abbrev rowOf (t : Fin cfg0.N) (r : Fin 512) : Fin 16384 := ⟨t.val * 512 + r.val, by have := lt_of_lt_of_eq t.isLt (show cfg0.N = 32 from N_0); omega⟩
abbrev modOf (t : Fin cfg0.N) : Fin 16 := ⟨if t.val < 16 then 0 else (t.val - 16) / 2 + 1, by have := lt_of_lt_of_eq t.isLt (show cfg0.N = 32 from N_0); split <;> omega⟩

theorem modRowOf_rowOf (t : Fin cfg0.N) (r : Fin 512) : modRowOf (rowOf t r) = modOf t := by
  apply Fin.ext
  show (if t.val * 512 + r.val < 8192 then 0 else 1 + (t.val * 512 + r.val - 8192) / 1024) = if t.val < 16 then 0 else (t.val - 16) / 2 + 1
  have := r.isLt
  split <;> split <;> omega

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)
theorem index5 : ∀ t : Fin cfg0.N, win0_5.index t 0 = (if t.val < 16 then 0 else (t.val - 16) / 2 + 1) ∧ win0_5.index t 1 = 0 ∧ win0_5.index t 2 = 0 :=
  (by decide +kernel : ∀ t : Fin grid0.N, win0_5.index t 0 = (if t.val < 16 then 0 else (t.val - 16) / 2 + 1) ∧ win0_5.index t 1 = 0 ∧ win0_5.index t 2 = 0)
theorem index6 : ∀ t : Fin cfg0.N, win0_6.index t 0 = t.val ∧ win0_6.index t 1 = 0 :=
  (by decide +kernel : ∀ t : Fin grid0.N, win0_6.index t 0 = t.val ∧ win0_6.index t 1 = 0)

/-- The block of the stream's rows. -/
theorem blk_x (t : Fin cfg0.N) (r : Fin 512) (d : Fin 2048) :
    (iblk m c 0 t : FVec Ideal S512x2048 .f32) (ix2 r d) = argX m c (ix2 (rowOf t r) d) := by
  unfold iblk
  rw [View.read_apply]
  show V m c main_arg3 _ = _
  rw [V_main_arg3]
  obtain ⟨h0, h1⟩ := index0 t
  refine congrArg (m ((c : Thread nD τ).loc main_arg3)) (funext fun a => Fin.ext ?_)
  match a with
  | ⟨0, _⟩ => show win0_0.index t 0 * 512 + 1 * r.val = t.val * 512 + r.val; omega
  | ⟨1, _⟩ => show win0_0.index t 1 * 2048 + 1 * d.val = d.val; omega

/-- The block of the mixer's rows. -/
theorem blk_y (t : Fin cfg0.N) (r : Fin 512) (d : Fin 2048) :
    (iblk m c 1 t : FVec Ideal S512x2048 .bf16) (ix2 r d) = argY m c (ix2 (rowOf t r) d) := by
  unfold iblk
  rw [View.read_apply]
  show V m c main_arg0 _ = _
  rw [V_main_arg0]
  obtain ⟨h0, h1⟩ := index1 t
  refine congrArg (m ((c : Thread nD τ).loc main_arg0)) (funext fun a => Fin.ext ?_)
  match a with
  | ⟨0, _⟩ => show win0_1.index t 0 * 512 + 1 * r.val = t.val * 512 + r.val; omega
  | ⟨1, _⟩ => show win0_1.index t 1 * 2048 + 1 * d.val = d.val; omega

/-- The weight as the launch finds it: the float32 weight. -/
theorem V_w (k : Fin 2048) (f : Fin 2048) :
    (V m c main_v0 : FVec Ideal S1x2048x2048 .bf16) (ix3 0 k f) = argW m c (ix3 0 k f) := by
  have e : @Eq (FVec Ideal S1x2048x2048 .bf16) (V m c main_v0) (truncf (F := Ideal) (φ := .f32) .bf16 (argW m c) bitsLt_bf16_f32) := by
    show StableHlo.after hostOps0 _ main_v0 = _
    after_results_simp
  rw [e]
  rfl

/-- The weight's block: all of it. -/
theorem blk_w (t : Fin cfg0.N) (k : Fin 2048) (f : Fin 2048) :
    (iblk m c 2 t : FVec Ideal S1x2048x2048 .bf16) (ix3 0 k f) = argW m c (ix3 0 k f) := by
  rw [← V_w m c k f]
  unfold iblk
  rw [View.read_apply]
  show V m c main_v0 _ = _
  obtain ⟨h0, h1, h2⟩ := index2 t
  refine congrArg (V m c main_v0) (funext fun a => Fin.ext ?_)
  match a with
  | ⟨0, _⟩ => show win0_2.index t 0 * 1 + 1 * 0 = 0; omega
  | ⟨1, _⟩ => show win0_2.index t 1 * 2048 + 1 * k.val = k.val; omega
  | ⟨2, _⟩ => show win0_2.index t 2 * 2048 + 1 * f.val = f.val; omega

/-- The bias as the launch finds it. -/
theorem V_bias (d : Fin 2048) : (V m c main_v2 : FVec Ideal S1x2048 .f32) (ix2 0 d) = argB m c (ix2 0 d) := by
  have e : @Eq (FVec Ideal S1x2048 .f32) (V m c main_v2) (shapeCast S1x2048 (shapeCast S2048 (argB m c) shapeCasts_S1x2048_S2048) shapeCasts_S2048_S1x2048) := by
    show StableHlo.after hostOps0 _ main_v2 = _
    after_results_simp
    rfl
  rw [e]
  pointwise

/-- The bias's block: all of it. -/
theorem blk_bias (t : Fin cfg0.N) (d : Fin 2048) :
    (iblk m c 3 t : FVec Ideal S1x2048 .f32) (ix2 0 d) = argB m c (ix2 0 d) := by
  rw [← V_bias m c d]
  unfold iblk
  rw [View.read_apply]
  show V m c main_v2 _ = _
  refine congrArg (V m c main_v2) (funext fun a => Fin.ext ?_)
  match a with
  | ⟨0, _⟩ => rfl
  | ⟨1, _⟩ => show 0 * 2048 + 1 * d.val = d.val; omega

/-- The gain as the launch finds it. -/
theorem V_gain (d : Fin 2048) : (V m c main_v3 : FVec Ideal S1x2048 .f32) (ix2 0 d) = argG m c (ix1 d) := by
  have e : @Eq (FVec Ideal S1x2048 .f32) (V m c main_v3) (shapeCast S1x2048 (argG m c) shapeCasts_S2048_S1x2048) := by
    show StableHlo.after hostOps0 _ main_v3 = _
    after_results_simp
    rfl
  rw [e]
  pointwise

/-- The gain's block: all of it. -/
theorem blk_gain (t : Fin cfg0.N) (d : Fin 2048) :
    (iblk m c 4 t : FVec Ideal S1x2048 .f32) (ix2 0 d) = argG m c (ix1 d) := by
  rw [← V_gain m c d]
  unfold iblk
  rw [View.read_apply]
  show V m c main_v3 _ = _
  refine congrArg (V m c main_v3) (funext fun a => Fin.ext ?_)
  match a with
  | ⟨0, _⟩ => rfl
  | ⟨1, _⟩ => show 0 * 2048 + 1 * d.val = d.val; omega

/-- The six modulation rows of a block. -/
theorem blk_mod (t : Fin cfg0.N) (q : Fin 6) (d : Fin 2048) :
    (iblk m c 5 t : FVec Ideal S1x6x2048 .f32) (ix3 0 q d) = argMod m c (ix3 (modOf t) q d) := by
  unfold iblk
  rw [View.read_apply]
  show V m c main_arg5 _ = _
  rw [V_main_arg5]
  obtain ⟨h0, h1, h2⟩ := index5 t
  refine congrArg (m ((c : Thread nD τ).loc main_arg5)) (funext fun a => Fin.ext ?_)
  match a with
  | ⟨0, _⟩ => show win0_5.index t 0 * 1 + 1 * 0 = (if t.val < 16 then 0 else (t.val - 16) / 2 + 1); omega
  | ⟨1, _⟩ => show win0_5.index t 1 * 6 + 1 * q.val = q.val; omega
  | ⟨2, _⟩ => show win0_5.index t 2 * 2048 + 1 * d.val = d.val; omega

/-! ## The result -/

/-- A block's product plus the bias is its rows of the whole one. -/
theorem blin_eq (t : Fin cfg0.N) (r : Fin 512) (d : Fin 2048) :
    blin (iblk m c 1 t) (iblk m c 2 t) (iblk m c 3 t) r d = lin (argY m c) (argW m c) (argB m c) (rowOf t r) d := by
  unfold lin
  simp only [← blk_y m c t, ← blk_w m c t, ← blk_bias m c t]
  rfl

/-- What a grid point stores: its rows of the result. -/
theorem out_apply (t : Fin cfg0.N) (r : Fin 512) (d : Fin 2048) :
    (out0_6 (iblk m c 0 t) (iblk m c 1 t) (iblk m c 2 t) (iblk m c 3 t) (iblk m c 4 t) (iblk m c 5 t) : FVec Ideal S512x2048 .f32) (ix2 r d)
      = out (argY m c) (argW m c) (argB m c) (argX m c) (argG m c) (argMod m c) (rowOf t r) d := by
  unfold out0_6
  rw [View.canon_unit_zero off2]
  simp only [View.ld_unit_zero (S := S512x2048) off2, View.ld_unit_zero (S := S1x2048) off2, View.ld_unit_zero (S := S1x2048x2048) off3]
  refine (pay1_apply _ _ _ _ _ _ r d).trans ?_
  unfold out
  rw [← funext (blin_eq m c t r), modRowOf_rowOf, ← blk_x m c t r d, ← blk_gain m c t d, ← blk_mod m c t 2 d, ld_mod2]

/-- The result as the contents of the result array. -/
def result : Buf (Elt Ideal) ((c : Thread nD τ).loc main_v4) := fun i : S16384x2048.Idx => out (argY m c) (argW m c) (argB m c) (argX m c) (argG m c) (argMod m c) (i 0) (i 1)

/-- What a grid point writes back is its block of rows of the result. -/
theorem flushed_eq6 (t : Fin cfg0.N) : (dats m 0 c).flushed 6 t = ((cfg0.win 6).blk t).view.read (Elt Ideal) (result m c) := by
  rw [Value.flushed6]
  obtain ⟨e0, e1⟩ := index6 t
  funext y
  have hl : (cfg0.win 6).xinj (grid0.coords t) y = ix2 (y 0) (y 1) := by
    funext a; apply Fin.ext
    match a with
    | ⟨0, _⟩ => show (y 0).val = (y 0).val; rfl
    | ⟨1, _⟩ => show (y 1).val = (y 1).val; rfl
  show out0_6 (iblk m c 0 t) (iblk m c 1 t) (iblk m c 2 t) (iblk m c 3 t) (iblk m c 4 t) (iblk m c 5 t) ((cfg0.win 6).xinj (grid0.coords t) y) = result m c (((cfg0.win 6).blk t).view.emb y)
  rw [hl]
  refine (out_apply m c t (y 0) (y 1)).trans ?_
  have hb0 : (((cfg0.win 6).blk t).view.emb y 0).val = win0_6.index t 0 * 512 + 1 * (y 0).val := rfl
  have hb1 : (((cfg0.win 6).blk t).view.emb y 1).val = win0_6.index t 1 * 2048 + 1 * (y 1).val := rfl
  have q0 : rowOf t (y 0) = ((cfg0.win 6).blk t).view.emb y 0 := by
    apply Fin.ext
    rw [hb0, e0]
    show t.val * 512 + (y 0).val = t.val * 512 + 1 * (y 0).val
    omega
  have q1 : y 1 = ((cfg0.win 6).blk t).view.emb y 1 := by
    apply Fin.ext
    rw [hb1, e1]
    omega
  unfold result
  dsimp only
  rw [← q0, ← q1]

theorem flushes6 : ∀ t : Fin cfg0.N, (cfg0.win 6).flush t = true :=
  (by decide +kernel : ∀ t : Fin grid0.N, win0_6.flush t = true)

/-- Every index of the result array is in the block of its rows' grid point. -/
theorem covered6 (i : S16384x2048.Idx) : ∃ t : Fin cfg0.N, (cfg0.win 6).flush t = true ∧ i ∈ ((cfg0.win 6).blk t).view.set := by
  have h0 : (i 0).val < 16384 := (i 0).isLt
  have h1 : (i 1).val < 2048 := (i 1).isLt
  have hN : cfg0.N = 32 := N_0
  obtain ⟨t, ht⟩ : ∃ t : Fin cfg0.N, t.val = (i 0).val / 512 := ⟨⟨(i 0).val / 512, by omega⟩, rfl⟩
  refine ⟨t, flushes6 t, ?_⟩
  obtain ⟨e0, e1⟩ := index6 t
  show i ∈ ((View.whole main_v4).slice (win0_6.rect t)).set
  rw [View.set_slice_whole, Rect.mem_set_unit]
  intro a
  match a with
  | ⟨0, _⟩ =>
    show win0_6.index t 0 * 512 ≤ (i 0).val ∧ (i 0).val < win0_6.index t 0 * 512 + 512
    omega
  | ⟨1, _⟩ =>
    show win0_6.index t 1 * 2048 ≤ (i 1).val ∧ (i 1).val < win0_6.index t 1 * 2048 + 2048
    omega

/-- The result array ends holding the result. -/
theorem final6 : (dats m 0 c).arrAt 6 cfg0.N = result m c :=
  (dats m 0 c).arrAt_eq_of_cover 6 _ (fun t _ => flushed_eq6 m c t) covered6

/-- The call's run: the result array holds the plain formula, and the arguments are as they were. -/
theorem run (ρ : Dev nD → PrngReg) : θ_run defs (onTc (τ := τ) (main (F := Ideal))) ⟨m, fun _ => 0, ρ⟩ fun r => ∀ c : Dev nD,
      r.2.mem ((c : Thread nD τ).loc main_v4) = result m c ∧
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3) ∧
      r.2.mem ((c : Thread nD τ).loc main_arg4) = m ((c : Thread nD τ).loc main_arg4) ∧
      r.2.mem ((c : Thread nD τ).loc main_arg5) = m ((c : Thread nD τ).loc main_arg5) :=
  (θ_run defs _ _).mono (fun r h c => ⟨(h c).1.trans (final6 m c), (h c).2⟩) (Value.run_blocks m ρ)

end Cert.FnetOut

end
-- ==== Proof.FnetOutRef.lean ====
/-
  The Fourier mixer's output projection's reference read at an index: it is the plain formula.
-/
module

public import proofs.«01_k».proof.Proof.Gen.Reference7Ideal.Read
public import proofs.«01_k».proof.Proof.FnetOut

@[expose] public section

set_option maxRecDepth 16384

noncomputable section

namespace Cert.FnetOut

open Cert.Reference7Ideal Cert.Reference7Ideal.Gen Cert.Reference7Ideal.Read
open Idealize.ShloMosaic Idealize.ShloMosaic.TcCoe Idealize.SL.Sem

variable (Y : FVec Ideal S16384x2048 .bf16) (W : FVec Ideal S1x2048x2048 .f32) (B : FVec Ideal S1x2048 .f32) (X : FVec Ideal S16384x2048 .f32)
  (g : FVec Ideal S2048 .f32) (M : FVec Ideal S16x6x2048 .f32)

/-- The joined modulation vectors: row `r` takes the vectors of its sample. -/
theorem ref_mods (r : Fin 16384) (q : Fin 6) (d : Fin 2048) : val_main_v6 (F := Ideal) M (ix3 r q d) = M (ix3 (modRowOf r) q d) := by
  unfold val_main_v6
  by_cases h : r.val < 8192
  · have e := concatenate_pair_apply_left (t := S16384x6x2048) (s₁ := S8192x6x2048) (s₂ := S8192x6x2048) 0 (val_main_v1 (F := Ideal) M)
      (val_main_v5 (F := Ideal) M) concatenates_S8192x6x2048_S8192x6x2048_S16384x6x2048_d0 (ix3 r q d) rfl (ix3 (⟨r.val, h⟩ : Fin 8192) q d)
      (by intro b; match b with | ⟨0, _⟩ => rfl | ⟨1, _⟩ => rfl | ⟨2, _⟩ => rfl)
    refine e.trans ?_
    rw [val_main_v1_apply, val_main_v0_apply]
    refine congrArg M (funext fun a => Fin.ext ?_)
    match a with
    | ⟨0, _⟩ => show 0 + 0 = if r.val < 8192 then 0 else _; rw [if_pos h]
    | ⟨1, _⟩ => rfl
    | ⟨2, _⟩ => rfl
  · have hr := r.isLt
    have e := concatenate_pair_apply_right (t := S16384x6x2048) (s₁ := S8192x6x2048) (s₂ := S8192x6x2048) 0 (val_main_v1 (F := Ideal) M)
      (val_main_v5 (F := Ideal) M) concatenates_S8192x6x2048_S8192x6x2048_S16384x6x2048_d0 (ix3 r q d) rfl rfl
      (ix3 (⟨r.val - 8192, by omega⟩ : Fin 8192) q d)
      (by intro b hb; match b with | ⟨0, _⟩ => exact absurd rfl hb | ⟨1, _⟩ => rfl | ⟨2, _⟩ => rfl)
      (by show r.val - 8192 + 8192 = r.val; omega)
    refine e.trans ?_
    rw [val_main_v5_apply, val_main_v4_apply, val_main_v3_apply, val_main_v2_apply]
    have hq := q.isLt
    have hd := d.isLt
    refine congrArg M (funext fun a => Fin.ext ?_)
    match a with
    | ⟨0, _⟩ =>
      show 1 + (((r.val - 8192) * 6 + q.val) * 2048 + d.val) / 12582912 = if r.val < 8192 then 0 else _
      rw [if_neg h]
      omega
    | ⟨1, _⟩ => show (((r.val - 8192) * 6 + q.val) * 2048 + d.val) / 2048 % 6 = q.val; omega
    | ⟨2, _⟩ => show (((r.val - 8192) * 6 + q.val) * 2048 + d.val) % 2048 = d.val; omega

/-- The gate vectors. -/
theorem ref_gate (r : Fin 16384) (d : Fin 2048) : val_main_v8 (F := Ideal) M (ix2 r d) = M (ix3 (modRowOf r) 2 d) := by
  rw [← ref_mods M r]
  pointwise [val_main_v8, val_main_v7]

/-- The product plus the bias. -/
theorem ref_lin (r : Fin 16384) (d : Fin 2048) : (val_main_v15 (F := Ideal) Y W B (ix2 r d) : EReal) = lin Y W B r d := by
  unfold lin
  pointwise [val_main_v15, val_main_v14, val_main_v13, val_main_v12, val_main_v11, val_main_v10, val_main_v9]

/-- The reference's result. -/
theorem ref_out (r : Fin 16384) (d : Fin 2048) : (val_main_v30 (F := Ideal) Y W B X g M (ix2 r d) : EReal) = out Y W B X g M r d := by
  unfold out
  rw [← ref_gate M r d, funext (fun k => (ref_lin Y W B r k).symm)]
  pointwise [val_main_v30, val_main_v29, val_main_v28, val_main_v27, val_main_v26, val_main_v25, val_main_v24, val_main_v23, val_main_v22,
    val_main_v21, val_main_v20, val_main_v19, val_main_v18, val_main_v17, val_main_v16, val_main_cst, val_main_cst_0, val_main_cst_1]
  rfl

/-- The reference's result array. -/
theorem ref_eq : (val_main_v30 (F := Ideal) Y W B X g M : FVec Ideal S16384x2048 .f32) = fun i => out Y W B X g M (i 0) (i 1) := by
  funext i
  obtain ⟨r, d, rfl⟩ : ∃ (r : Fin 16384) (d : Fin 2048), i = ix2 r d := ⟨i 0, i 1, funext fun a => match a with | ⟨0, _⟩ => rfl | ⟨1, _⟩ => rfl⟩
  exact ref_out Y W B X g M r d

end Cert.FnetOut

end
-- ==== Proof.LruOut.lean ====
/-
  The RG-LRU output projection: the rows times the weight, normalised, gated and added to the stream.
-/
module

public import proofs.«01_k».proof.Proof.Gen.Kernel10Ideal.Value
public import Idealize.ShloMosaic.Lib.Pointwise
public import Idealize.ShloMosaic.Lib.StableHlo.Run
public import Idealize.ShloMosaic.Lib.IdealHost

@[expose] public section

set_option maxRecDepth 16384

noncomputable section

namespace Cert.LruOut

open Cert.Kernel10Ideal Cert.Kernel10Ideal.Gen
open Idealize.ShloMosaic Idealize.ShloMosaic.TcCoe Idealize.SL.Sem

theorem off2 : (![0, 0] : Fin 2 → Nat) = fun _ => 0 := funext fun a => by fin_cases a <;> rfl
theorem off3 : (![0, 0, 0] : Fin 3 → Nat) = fun _ => 0 := funext fun a => by fin_cases a <;> rfl

/-! ## The plain formula -/

/-- The reciprocal root mean square of a row of 2048 entries, as the kernel and the plain formula both print it. -/
def rs (v : Fin 2048 → EReal) : EReal :=
  Ideal.rsqrt (Ideal.div (∑ k, v k * v k) (Ideal.ofBits .f32 0x45000000#32) + Ideal.ofBits .f32 0x358637BD#32)

/-- The modulation row of a row: the first for the context rows, then one for every 1024 rows. -/
def modRowOf (r : Fin 16384) : Fin 16 := ⟨if r.val < 8192 then 0 else 1 + (r.val - 8192) / 1024, by split <;> omega⟩

section Formula
variable (Y : FVec Ideal S16384x2048 .bf16) (W : FVec Ideal S1x2048x2048 .f32) (X : FVec Ideal S16384x2048 .f32)
  (g : FVec Ideal S2048 .f32) (M : FVec Ideal S16x6x2048 .f32)

/-- The product. -/
def lin (r : Fin 16384) (d : Fin 2048) : EReal := ∑ k : Fin 2048, Y (ix2 r k) * W (ix3 0 k d)

/-- The stream after the mixer. -/
def out (r : Fin 16384) (d : Fin 2048) : EReal :=
  X (ix2 r d) + M (ix3 (modRowOf r) 2 d) * (lin Y W r d * rs (lin Y W r) * g (ix1 d))
end Formula

/-! ## The body's stored value at an index -/

/-- A block's product plus the bias. -/
def blin (y : FVec Ideal S512x2048 .bf16) (w : FVec Ideal S1x2048x2048 .bf16) (b : FVec Ideal S1x2048 .f32) (r : Fin 512) (d : Fin 2048) : EReal :=
  (∑ k : Fin 2048, y (ix2 r k) * w (ix3 0 k d)) + b (ix2 0 d)

theorem pay1_apply (y : FVec Ideal S512x2048 .bf16) (w : FVec Ideal S1x2048x2048 .bf16) (b : FVec Ideal S1x2048 .f32) (x : FVec Ideal S512x2048 .f32)
    (gate : FVec Ideal S1x1x2048 .f32) (g : FVec Ideal S1x2048 .f32) (r : Fin 512) (d : Fin 2048) :
    (k0_pay1 (F := Ideal) y w b x gate g (ix2 r d) : EReal)
      = x (ix2 r d) + gate (ix3 0 0 d) * (blin y w b r d * rs (blin y w b r) * g (ix2 0 d)) := by
  pointwise [k0_pay1]
  rfl

/-- Row 2 of a block of six modulation rows. -/
theorem ld_mod2 (x : FVec Ideal S1x6x2048 .f32) (d : Fin 2048) :
    View.ld (Val := Elt Ideal) (e' := .f32) x (Rect.unit (s := S1x6x2048) ![0, 2, 0] S1x1x2048.size inb_S1x6x2048_S1x1x2048_0_2_0) (ix3 0 0 d) = x (ix3 0 2 d) := by
  show x _ = x _
  refine congrArg x (funext fun a => Fin.ext ?_)
  match a with
  | ⟨0, _⟩ => rfl
  | ⟨1, _⟩ => rfl
  | ⟨2, _⟩ => show 0 + 1 * d.val = d.val; omega

/-! ## The blocks -/

variable (m : (ℓ : Loc nD τ sig) → Buf (Elt Ideal) ℓ) (c : Dev nD)

/-- The arguments: the mixer's rows, the weight, the stream, the gain and the modulation rows. -/
abbrev argY : FVec Ideal S16384x2048 .bf16 := m ((c : Thread nD τ).loc main_arg0)
abbrev argW : FVec Ideal S1x2048x2048 .f32 := m ((c : Thread nD τ).loc main_arg1)
abbrev argX : FVec Ideal S16384x2048 .f32 := m ((c : Thread nD τ).loc main_arg2)
abbrev argG : FVec Ideal S2048 .f32 := m ((c : Thread nD τ).loc main_arg3)
abbrev argMod : FVec Ideal S16x6x2048 .f32 := m ((c : Thread nD τ).loc main_arg4)

/-- Row `r` of row block `t`, and the modulation row the block is given. -/
abbrev rowOf (t : Fin cfg0.N) (r : Fin 512) : Fin 16384 := ⟨t.val * 512 + r.val, by have := lt_of_lt_of_eq t.isLt (show cfg0.N = 32 from N_0); omega⟩
abbrev modOf (t : Fin cfg0.N) : Fin 16 := ⟨if t.val < 16 then 0 else (t.val - 16) / 2 + 1, by have := lt_of_lt_of_eq t.isLt (show cfg0.N = 32 from N_0); split <;> omega⟩

theorem modRowOf_rowOf (t : Fin cfg0.N) (r : Fin 512) : modRowOf (rowOf t r) = modOf t := by
  apply Fin.ext
  show (if t.val * 512 + r.val < 8192 then 0 else 1 + (t.val * 512 + r.val - 8192) / 1024) = if t.val < 16 then 0 else (t.val - 16) / 2 + 1
  have := r.isLt
  split <;> split <;> omega

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)
theorem index5 : ∀ t : Fin cfg0.N, win0_5.index t 0 = (if t.val < 16 then 0 else (t.val - 16) / 2 + 1) ∧ win0_5.index t 1 = 0 ∧ win0_5.index t 2 = 0 :=
  (by decide +kernel : ∀ t : Fin grid0.N, win0_5.index t 0 = (if t.val < 16 then 0 else (t.val - 16) / 2 + 1) ∧ win0_5.index t 1 = 0 ∧ win0_5.index t 2 = 0)
theorem index6 : ∀ t : Fin cfg0.N, win0_6.index t 0 = t.val ∧ win0_6.index t 1 = 0 :=
  (by decide +kernel : ∀ t : Fin grid0.N, win0_6.index t 0 = t.val ∧ win0_6.index t 1 = 0)

/-- The block of the stream's rows. -/
theorem blk_x (t : Fin cfg0.N) (r : Fin 512) (d : Fin 2048) :
    (iblk m c 0 t : FVec Ideal S512x2048 .f32) (ix2 r d) = argX m c (ix2 (rowOf t r) d) := by
  unfold iblk
  rw [View.read_apply]
  show V m c main_arg2 _ = _
  rw [V_main_arg2]
  obtain ⟨h0, h1⟩ := index0 t
  refine congrArg (m ((c : Thread nD τ).loc main_arg2)) (funext fun a => Fin.ext ?_)
  match a with
  | ⟨0, _⟩ => show win0_0.index t 0 * 512 + 1 * r.val = t.val * 512 + r.val; omega
  | ⟨1, _⟩ => show win0_0.index t 1 * 2048 + 1 * d.val = d.val; omega

/-- The block of the mixer's rows. -/
theorem blk_y (t : Fin cfg0.N) (r : Fin 512) (d : Fin 2048) :
    (iblk m c 1 t : FVec Ideal S512x2048 .bf16) (ix2 r d) = argY m c (ix2 (rowOf t r) d) := by
  unfold iblk
  rw [View.read_apply]
  show V m c main_arg0 _ = _
  rw [V_main_arg0]
  obtain ⟨h0, h1⟩ := index1 t
  refine congrArg (m ((c : Thread nD τ).loc main_arg0)) (funext fun a => Fin.ext ?_)
  match a with
  | ⟨0, _⟩ => show win0_1.index t 0 * 512 + 1 * r.val = t.val * 512 + r.val; omega
  | ⟨1, _⟩ => show win0_1.index t 1 * 2048 + 1 * d.val = d.val; omega

/-- The weight as the launch finds it: the float32 weight. -/
theorem V_w (l : Fin 1) (k : Fin 2048) (f : Fin 2048) :
    (V m c main_v0 : FVec Ideal S1x2048x2048 .bf16) (ix3 l k f) = argW m c (ix3 l k f) := by
  have e : @Eq (FVec Ideal S1x2048x2048 .bf16) (V m c main_v0) (truncf (F := Ideal) (φ := .f32) .bf16 (argW m c) bitsLt_bf16_f32) := by
    show StableHlo.after hostOps0 _ main_v0 = _
    after_results_simp
  rw [e]
  rfl

/-- The weight's block: all of it. -/
theorem blk_w (t : Fin cfg0.N) (k : Fin 2048) (f : Fin 2048) :
    (iblk m c 2 t : FVec Ideal S1x2048x2048 .bf16) (ix3 0 k f) = argW m c (ix3 0 k f) := by
  rw [← V_w m c 0 k f]
  unfold iblk
  rw [View.read_apply]
  show V m c main_v0 _ = _
  obtain ⟨h0, h1, h2⟩ := index2 t
  refine congrArg (V m c main_v0) (funext fun a => Fin.ext ?_)
  match a with
  | ⟨0, _⟩ => show win0_2.index t 0 * 1 + 1 * 0 = 0; omega
  | ⟨1, _⟩ => show win0_2.index t 1 * 2048 + 1 * k.val = k.val; omega
  | ⟨2, _⟩ => show win0_2.index t 2 * 2048 + 1 * f.val = f.val; omega

/-- The bias as the launch finds it: zeros. -/
theorem V_bias (d : Fin 2048) : @Eq EReal ((V m c main_v2 : FVec Ideal S1x2048 .f32) (ix2 0 d)) 0 := by
  have e : @Eq (FVec Ideal S1x2048 .f32) (V m c main_v2) (shapeCast S1x2048 (broadcastInDim S2048 ![] bcast_S_S2048 (constant (F := Ideal) S_ .f32 0x00000000#32)) shapeCasts_S2048_S1x2048) := by
    show StableHlo.after hostOps0 _ main_v2 = _
    after_results_simp
    rfl
  rw [e]
  pointwise

/-- The bias's block: zeros. -/
theorem blk_bias (t : Fin cfg0.N) (d : Fin 2048) : @Eq EReal ((iblk m c 3 t : FVec Ideal S1x2048 .f32) (ix2 0 d)) 0 := by
  rw [← V_bias m c d]
  unfold iblk
  rw [View.read_apply]
  show V m c main_v2 _ = _
  refine congrArg (V m c main_v2) (funext fun a => Fin.ext ?_)
  match a with
  | ⟨0, _⟩ => rfl
  | ⟨1, _⟩ => show 0 * 2048 + 1 * d.val = d.val; omega

/-- The gain as the launch finds it. -/
theorem V_gain (d : Fin 2048) : (V m c main_v3 : FVec Ideal S1x2048 .f32) (ix2 0 d) = argG m c (ix1 d) := by
  have e : @Eq (FVec Ideal S1x2048 .f32) (V m c main_v3) (shapeCast S1x2048 (argG m c) shapeCasts_S2048_S1x2048) := by
    show StableHlo.after hostOps0 _ main_v3 = _
    after_results_simp
    rfl
  rw [e]
  pointwise

/-- The gain's block: all of it. -/
theorem blk_gain (t : Fin cfg0.N) (d : Fin 2048) :
    (iblk m c 4 t : FVec Ideal S1x2048 .f32) (ix2 0 d) = argG m c (ix1 d) := by
  rw [← V_gain m c d]
  unfold iblk
  rw [View.read_apply]
  show V m c main_v3 _ = _
  refine congrArg (V m c main_v3) (funext fun a => Fin.ext ?_)
  match a with
  | ⟨0, _⟩ => rfl
  | ⟨1, _⟩ => show 0 * 2048 + 1 * d.val = d.val; omega

/-- The six modulation rows of a block. -/
theorem blk_mod (t : Fin cfg0.N) (q : Fin 6) (d : Fin 2048) :
    (iblk m c 5 t : FVec Ideal S1x6x2048 .f32) (ix3 0 q d) = argMod m c (ix3 (modOf t) q d) := by
  unfold iblk
  rw [View.read_apply]
  show V m c main_arg4 _ = _
  rw [V_main_arg4]
  obtain ⟨h0, h1, h2⟩ := index5 t
  refine congrArg (m ((c : Thread nD τ).loc main_arg4)) (funext fun a => Fin.ext ?_)
  match a with
  | ⟨0, _⟩ => show win0_5.index t 0 * 1 + 1 * 0 = (if t.val < 16 then 0 else (t.val - 16) / 2 + 1); omega
  | ⟨1, _⟩ => show win0_5.index t 1 * 6 + 1 * q.val = q.val; omega
  | ⟨2, _⟩ => show win0_5.index t 2 * 2048 + 1 * d.val = d.val; omega

/-! ## The result -/

/-- A block's product plus the zero bias is its rows of the whole product. -/
theorem blin_eq (t : Fin cfg0.N) (r : Fin 512) (d : Fin 2048) :
    blin (iblk m c 1 t) (iblk m c 2 t) (iblk m c 3 t) r d = lin (argY m c) (argW m c) (rowOf t r) d := by
  unfold lin blin
  simp only [← blk_y m c t, ← blk_w m c t]
  exact (congrArg _ (blk_bias m c t d)).trans (add_zero _)

/-- What a grid point stores: its rows of the result. -/
theorem out_apply (t : Fin cfg0.N) (r : Fin 512) (d : Fin 2048) :
    (out0_6 (iblk m c 0 t) (iblk m c 1 t) (iblk m c 2 t) (iblk m c 3 t) (iblk m c 4 t) (iblk m c 5 t) : FVec Ideal S512x2048 .f32) (ix2 r d)
      = out (argY m c) (argW m c) (argX m c) (argG m c) (argMod m c) (rowOf t r) d := by
  unfold out0_6
  rw [View.canon_unit_zero off2]
  simp only [View.ld_unit_zero (S := S512x2048) off2, View.ld_unit_zero (S := S1x2048) off2, View.ld_unit_zero (S := S1x2048x2048) off3]
  refine (pay1_apply _ _ _ _ _ _ r d).trans ?_
  unfold out
  rw [← funext (blin_eq m c t r), modRowOf_rowOf, ← blk_x m c t r d, ← blk_gain m c t d, ← blk_mod m c t 2 d, ld_mod2]

/-- The result as the contents of the result array. -/
def result : Buf (Elt Ideal) ((c : Thread nD τ).loc main_v4) := fun i : S16384x2048.Idx => out (argY m c) (argW m c) (argX m c) (argG m c) (argMod m c) (i 0) (i 1)

/-- What a grid point writes back is its block of rows of the result. -/
theorem flushed_eq6 (t : Fin cfg0.N) : (dats m 0 c).flushed 6 t = ((cfg0.win 6).blk t).view.read (Elt Ideal) (result m c) := by
  rw [Value.flushed6]
  obtain ⟨e0, e1⟩ := index6 t
  funext y
  have hl : (cfg0.win 6).xinj (grid0.coords t) y = ix2 (y 0) (y 1) := by
    funext a; apply Fin.ext
    match a with
    | ⟨0, _⟩ => show (y 0).val = (y 0).val; rfl
    | ⟨1, _⟩ => show (y 1).val = (y 1).val; rfl
  show out0_6 (iblk m c 0 t) (iblk m c 1 t) (iblk m c 2 t) (iblk m c 3 t) (iblk m c 4 t) (iblk m c 5 t) ((cfg0.win 6).xinj (grid0.coords t) y) = result m c (((cfg0.win 6).blk t).view.emb y)
  rw [hl]
  refine (out_apply m c t (y 0) (y 1)).trans ?_
  have hb0 : (((cfg0.win 6).blk t).view.emb y 0).val = win0_6.index t 0 * 512 + 1 * (y 0).val := rfl
  have hb1 : (((cfg0.win 6).blk t).view.emb y 1).val = win0_6.index t 1 * 2048 + 1 * (y 1).val := rfl
  have q0 : rowOf t (y 0) = ((cfg0.win 6).blk t).view.emb y 0 := by
    apply Fin.ext
    rw [hb0, e0]
    show t.val * 512 + (y 0).val = t.val * 512 + 1 * (y 0).val
    omega
  have q1 : y 1 = ((cfg0.win 6).blk t).view.emb y 1 := by
    apply Fin.ext
    rw [hb1, e1]
    omega
  unfold result
  dsimp only
  rw [← q0, ← q1]

theorem flushes6 : ∀ t : Fin cfg0.N, (cfg0.win 6).flush t = true :=
  (by decide +kernel : ∀ t : Fin grid0.N, win0_6.flush t = true)

/-- Every index of the result array is in the block of its rows' grid point. -/
theorem covered6 (i : S16384x2048.Idx) : ∃ t : Fin cfg0.N, (cfg0.win 6).flush t = true ∧ i ∈ ((cfg0.win 6).blk t).view.set := by
  have h0 : (i 0).val < 16384 := (i 0).isLt
  have h1 : (i 1).val < 2048 := (i 1).isLt
  have hN : cfg0.N = 32 := N_0
  obtain ⟨t, ht⟩ : ∃ t : Fin cfg0.N, t.val = (i 0).val / 512 := ⟨⟨(i 0).val / 512, by omega⟩, rfl⟩
  refine ⟨t, flushes6 t, ?_⟩
  obtain ⟨e0, e1⟩ := index6 t
  show i ∈ ((View.whole main_v4).slice (win0_6.rect t)).set
  rw [View.set_slice_whole, Rect.mem_set_unit]
  intro a
  match a with
  | ⟨0, _⟩ =>
    show win0_6.index t 0 * 512 ≤ (i 0).val ∧ (i 0).val < win0_6.index t 0 * 512 + 512
    omega
  | ⟨1, _⟩ =>
    show win0_6.index t 1 * 2048 ≤ (i 1).val ∧ (i 1).val < win0_6.index t 1 * 2048 + 2048
    omega

/-- The result array ends holding the result. -/
theorem final6 : (dats m 0 c).arrAt 6 cfg0.N = result m c :=
  (dats m 0 c).arrAt_eq_of_cover 6 _ (fun t _ => flushed_eq6 m c t) covered6

/-- The call's run: the result array holds the plain formula, and the arguments are as they were. -/
theorem run (ρ : Dev nD → PrngReg) : θ_run defs (onTc (τ := τ) (main (F := Ideal))) ⟨m, fun _ => 0, ρ⟩ fun r => ∀ c : Dev nD,
      r.2.mem ((c : Thread nD τ).loc main_v4) = result m c ∧
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3) ∧
      r.2.mem ((c : Thread nD τ).loc main_arg4) = m ((c : Thread nD τ).loc main_arg4) :=
  (θ_run defs _ _).mono (fun r h c => ⟨(h c).1.trans (final6 m c), (h c).2⟩) (Value.run_blocks m ρ)

end Cert.LruOut

end
-- ==== Proof.LruOutRef.lean ====
/-
  The RG-LRU output projection's reference read at an index: it is the plain formula.
-/
module

public import proofs.«01_k».proof.Proof.Gen.Reference10Ideal.Read
public import proofs.«01_k».proof.Proof.LruOut

@[expose] public section

set_option maxRecDepth 16384

noncomputable section

namespace Cert.LruOut

open Cert.Reference10Ideal Cert.Reference10Ideal.Gen Cert.Reference10Ideal.Read
open Idealize.ShloMosaic Idealize.ShloMosaic.TcCoe Idealize.SL.Sem

variable (Y : FVec Ideal S16384x2048 .bf16) (W : FVec Ideal S1x2048x2048 .f32) (X : FVec Ideal S16384x2048 .f32)
  (g : FVec Ideal S2048 .f32) (M : FVec Ideal S16x6x2048 .f32)

/-- The joined modulation vectors: row `r` takes the vectors of its sample. -/
theorem ref_mods (r : Fin 16384) (q : Fin 6) (d : Fin 2048) : val_main_v6 (F := Ideal) M (ix3 r q d) = M (ix3 (modRowOf r) q d) := by
  unfold val_main_v6
  by_cases h : r.val < 8192
  · have e := concatenate_pair_apply_left (t := S16384x6x2048) (s₁ := S8192x6x2048) (s₂ := S8192x6x2048) 0 (val_main_v1 (F := Ideal) M)
      (val_main_v5 (F := Ideal) M) concatenates_S8192x6x2048_S8192x6x2048_S16384x6x2048_d0 (ix3 r q d) rfl (ix3 (⟨r.val, h⟩ : Fin 8192) q d)
      (by intro b; match b with | ⟨0, _⟩ => rfl | ⟨1, _⟩ => rfl | ⟨2, _⟩ => rfl)
    refine e.trans ?_
    rw [val_main_v1_apply, val_main_v0_apply]
    refine congrArg M (funext fun a => Fin.ext ?_)
    match a with
    | ⟨0, _⟩ => show 0 + 0 = if r.val < 8192 then 0 else _; rw [if_pos h]
    | ⟨1, _⟩ => rfl
    | ⟨2, _⟩ => rfl
  · have hr := r.isLt
    have e := concatenate_pair_apply_right (t := S16384x6x2048) (s₁ := S8192x6x2048) (s₂ := S8192x6x2048) 0 (val_main_v1 (F := Ideal) M)
      (val_main_v5 (F := Ideal) M) concatenates_S8192x6x2048_S8192x6x2048_S16384x6x2048_d0 (ix3 r q d) rfl rfl
      (ix3 (⟨r.val - 8192, by omega⟩ : Fin 8192) q d)
      (by intro b hb; match b with | ⟨0, _⟩ => exact absurd rfl hb | ⟨1, _⟩ => rfl | ⟨2, _⟩ => rfl)
      (by show r.val - 8192 + 8192 = r.val; omega)
    refine e.trans ?_
    rw [val_main_v5_apply, val_main_v4_apply, val_main_v3_apply, val_main_v2_apply]
    have hq := q.isLt
    have hd := d.isLt
    refine congrArg M (funext fun a => Fin.ext ?_)
    match a with
    | ⟨0, _⟩ =>
      show 1 + (((r.val - 8192) * 6 + q.val) * 2048 + d.val) / 12582912 = if r.val < 8192 then 0 else _
      rw [if_neg h]
      omega
    | ⟨1, _⟩ => show (((r.val - 8192) * 6 + q.val) * 2048 + d.val) / 2048 % 6 = q.val; omega
    | ⟨2, _⟩ => show (((r.val - 8192) * 6 + q.val) * 2048 + d.val) % 2048 = d.val; omega

/-- The gate vectors. -/
theorem ref_gate (r : Fin 16384) (d : Fin 2048) : val_main_v8 (F := Ideal) M (ix2 r d) = M (ix3 (modRowOf r) 2 d) := by
  rw [← ref_mods M r]
  pointwise [val_main_v8, val_main_v7]

/-- The product. -/
theorem ref_lin (r : Fin 16384) (d : Fin 2048) : (val_main_v11 (F := Ideal) Y W (ix2 r d) : EReal) = lin Y W r d := by
  unfold lin
  pointwise [val_main_v11, val_main_v10, val_main_v9]

/-- The reference's result. -/
theorem ref_out (r : Fin 16384) (d : Fin 2048) : (val_main_v26 (F := Ideal) Y W X g M (ix2 r d) : EReal) = out Y W X g M r d := by
  unfold out
  rw [← ref_gate M r d, funext (fun k => (ref_lin Y W r k).symm)]
  pointwise [val_main_v26, val_main_v25, val_main_v24, val_main_v23, val_main_v22, val_main_v21, val_main_v20, val_main_v19, val_main_v18, val_main_v17, val_main_v16, val_main_v15, val_main_v14, val_main_v13, val_main_v12, val_main_cst, val_main_cst_0, val_main_cst_1]
  rfl

/-- The reference's result array. -/
theorem ref_eq : (val_main_v26 (F := Ideal) Y W X g M : FVec Ideal S16384x2048 .f32) = fun i => out Y W X g M (i 0) (i 1) := by
  funext i
  obtain ⟨r, d, rfl⟩ : ∃ (r : Fin 16384) (d : Fin 2048), i = ix2 r d := ⟨i 0, i 1, funext fun a => match a with | ⟨0, _⟩ => rfl | ⟨1, _⟩ => rfl⟩
  exact ref_out Y W X g M r d

end Cert.LruOut

end
-- ==== Proof.SecondOut.lean ====
/-
  The second mLSTM layer's output projection: the rows times the weight, normalised, gated and added to the stream.
-/
module

public import proofs.«01_k».proof.Proof.Gen.Kernel11Ideal.Value
public import Idealize.ShloMosaic.Lib.Pointwise
public import Idealize.ShloMosaic.Lib.StableHlo.Run
public import Idealize.ShloMosaic.Lib.IdealHost

@[expose] public section

set_option maxRecDepth 16384

noncomputable section

namespace Cert.SecondOut

open Cert.Kernel11Ideal Cert.Kernel11Ideal.Gen
open Idealize.ShloMosaic Idealize.ShloMosaic.TcCoe Idealize.SL.Sem

theorem off2 : (![0, 0] : Fin 2 → Nat) = fun _ => 0 := funext fun a => by fin_cases a <;> rfl
theorem off3 : (![0, 0, 0] : Fin 3 → Nat) = fun _ => 0 := funext fun a => by fin_cases a <;> rfl

/-! ## The plain formula -/

/-- The reciprocal root mean square of a row of 2048 entries, as the kernel and the plain formula both print it. -/
def rs (v : Fin 2048 → EReal) : EReal :=
  Ideal.rsqrt (Ideal.div (∑ k, v k * v k) (Ideal.ofBits .f32 0x45000000#32) + Ideal.ofBits .f32 0x358637BD#32)

/-- The modulation row of a row: the first for the context rows, then one for every 1024 rows. -/
def modRowOf (r : Fin 16384) : Fin 16 := ⟨if r.val < 8192 then 0 else 1 + (r.val - 8192) / 1024, by split <;> omega⟩

section Formula
variable (Y : FVec Ideal S16384x2048 .bf16) (W : FVec Ideal S2x2048x2048 .f32) (X : FVec Ideal S16384x2048 .f32)
  (g : FVec Ideal S2048 .f32) (M : FVec Ideal S16x6x2048 .f32)

/-- The product, by the second of the two weights. -/
def lin (r : Fin 16384) (d : Fin 2048) : EReal := ∑ k : Fin 2048, Y (ix2 r k) * W (ix3 1 k d)

/-- The stream after the mixer. -/
def out (r : Fin 16384) (d : Fin 2048) : EReal :=
  X (ix2 r d) + M (ix3 (modRowOf r) 2 d) * (lin Y W r d * rs (lin Y W r) * g (ix1 d))
end Formula

/-! ## The body's stored value at an index -/

/-- A block's product plus the bias. -/
def blin (y : FVec Ideal S512x2048 .bf16) (w : FVec Ideal S1x2048x2048 .bf16) (b : FVec Ideal S1x2048 .f32) (r : Fin 512) (d : Fin 2048) : EReal :=
  (∑ k : Fin 2048, y (ix2 r k) * w (ix3 0 k d)) + b (ix2 0 d)

theorem pay1_apply (y : FVec Ideal S512x2048 .bf16) (w : FVec Ideal S1x2048x2048 .bf16) (b : FVec Ideal S1x2048 .f32) (x : FVec Ideal S512x2048 .f32)
    (gate : FVec Ideal S1x1x2048 .f32) (g : FVec Ideal S1x2048 .f32) (r : Fin 512) (d : Fin 2048) :
    (k0_pay1 (F := Ideal) y w b x gate g (ix2 r d) : EReal)
      = x (ix2 r d) + gate (ix3 0 0 d) * (blin y w b r d * rs (blin y w b r) * g (ix2 0 d)) := by
  pointwise [k0_pay1]
  rfl

/-- Row 2 of a block of six modulation rows. -/
theorem ld_mod2 (x : FVec Ideal S1x6x2048 .f32) (d : Fin 2048) :
    View.ld (Val := Elt Ideal) (e' := .f32) x (Rect.unit (s := S1x6x2048) ![0, 2, 0] S1x1x2048.size inb_S1x6x2048_S1x1x2048_0_2_0) (ix3 0 0 d) = x (ix3 0 2 d) := by
  show x _ = x _
  refine congrArg x (funext fun a => Fin.ext ?_)
  match a with
  | ⟨0, _⟩ => rfl
  | ⟨1, _⟩ => rfl
  | ⟨2, _⟩ => show 0 + 1 * d.val = d.val; omega

/-! ## The blocks -/

variable (m : (ℓ : Loc nD τ sig) → Buf (Elt Ideal) ℓ) (c : Dev nD)

/-- The arguments: the mixer's rows, the weight, the stream, the gain and the modulation rows. -/
abbrev argY : FVec Ideal S16384x2048 .bf16 := m ((c : Thread nD τ).loc main_arg0)
abbrev argW : FVec Ideal S2x2048x2048 .f32 := m ((c : Thread nD τ).loc main_arg1)
abbrev argX : FVec Ideal S16384x2048 .f32 := m ((c : Thread nD τ).loc main_arg2)
abbrev argG : FVec Ideal S2048 .f32 := m ((c : Thread nD τ).loc main_arg3)
abbrev argMod : FVec Ideal S16x6x2048 .f32 := m ((c : Thread nD τ).loc main_arg4)

/-- Row `r` of row block `t`, and the modulation row the block is given. -/
abbrev rowOf (t : Fin cfg0.N) (r : Fin 512) : Fin 16384 := ⟨t.val * 512 + r.val, by have := lt_of_lt_of_eq t.isLt (show cfg0.N = 32 from N_0); omega⟩
abbrev modOf (t : Fin cfg0.N) : Fin 16 := ⟨if t.val < 16 then 0 else (t.val - 16) / 2 + 1, by have := lt_of_lt_of_eq t.isLt (show cfg0.N = 32 from N_0); split <;> omega⟩

theorem modRowOf_rowOf (t : Fin cfg0.N) (r : Fin 512) : modRowOf (rowOf t r) = modOf t := by
  apply Fin.ext
  show (if t.val * 512 + r.val < 8192 then 0 else 1 + (t.val * 512 + r.val - 8192) / 1024) = if t.val < 16 then 0 else (t.val - 16) / 2 + 1
  have := r.isLt
  split <;> split <;> omega

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = 1 ∧ win0_2.index t 1 = 0 ∧ win0_2.index t 2 = 0 :=
  (by decide +kernel : ∀ t : Fin grid0.N, win0_2.index t 0 = 1 ∧ win0_2.index t 1 = 0 ∧ win0_2.index t 2 = 0)
theorem index5 : ∀ t : Fin cfg0.N, win0_5.index t 0 = (if t.val < 16 then 0 else (t.val - 16) / 2 + 1) ∧ win0_5.index t 1 = 0 ∧ win0_5.index t 2 = 0 :=
  (by decide +kernel : ∀ t : Fin grid0.N, win0_5.index t 0 = (if t.val < 16 then 0 else (t.val - 16) / 2 + 1) ∧ win0_5.index t 1 = 0 ∧ win0_5.index t 2 = 0)
theorem index6 : ∀ t : Fin cfg0.N, win0_6.index t 0 = t.val ∧ win0_6.index t 1 = 0 :=
  (by decide +kernel : ∀ t : Fin grid0.N, win0_6.index t 0 = t.val ∧ win0_6.index t 1 = 0)

/-- The block of the stream's rows. -/
theorem blk_x (t : Fin cfg0.N) (r : Fin 512) (d : Fin 2048) :
    (iblk m c 0 t : FVec Ideal S512x2048 .f32) (ix2 r d) = argX m c (ix2 (rowOf t r) d) := by
  unfold iblk
  rw [View.read_apply]
  show V m c main_arg2 _ = _
  rw [V_main_arg2]
  obtain ⟨h0, h1⟩ := index0 t
  refine congrArg (m ((c : Thread nD τ).loc main_arg2)) (funext fun a => Fin.ext ?_)
  match a with
  | ⟨0, _⟩ => show win0_0.index t 0 * 512 + 1 * r.val = t.val * 512 + r.val; omega
  | ⟨1, _⟩ => show win0_0.index t 1 * 2048 + 1 * d.val = d.val; omega

/-- The block of the mixer's rows. -/
theorem blk_y (t : Fin cfg0.N) (r : Fin 512) (d : Fin 2048) :
    (iblk m c 1 t : FVec Ideal S512x2048 .bf16) (ix2 r d) = argY m c (ix2 (rowOf t r) d) := by
  unfold iblk
  rw [View.read_apply]
  show V m c main_arg0 _ = _
  rw [V_main_arg0]
  obtain ⟨h0, h1⟩ := index1 t
  refine congrArg (m ((c : Thread nD τ).loc main_arg0)) (funext fun a => Fin.ext ?_)
  match a with
  | ⟨0, _⟩ => show win0_1.index t 0 * 512 + 1 * r.val = t.val * 512 + r.val; omega
  | ⟨1, _⟩ => show win0_1.index t 1 * 2048 + 1 * d.val = d.val; omega

/-- The weight as the launch finds it: the float32 weight. -/
theorem V_w (l : Fin 2) (k : Fin 2048) (f : Fin 2048) :
    (V m c main_v0 : FVec Ideal S2x2048x2048 .bf16) (ix3 l k f) = argW m c (ix3 l k f) := by
  have e : @Eq (FVec Ideal S2x2048x2048 .bf16) (V m c main_v0) (truncf (F := Ideal) (φ := .f32) .bf16 (argW m c) bitsLt_bf16_f32) := by
    show StableHlo.after hostOps0 _ main_v0 = _
    after_results_simp
  rw [e]
  rfl

/-- The weight's block: the second of the two weights. -/
theorem blk_w (t : Fin cfg0.N) (k : Fin 2048) (f : Fin 2048) :
    (iblk m c 2 t : FVec Ideal S1x2048x2048 .bf16) (ix3 0 k f) = argW m c (ix3 1 k f) := by
  rw [← V_w m c 1 k f]
  unfold iblk
  rw [View.read_apply]
  show V m c main_v0 _ = _
  obtain ⟨h0, h1, h2⟩ := index2 t
  refine congrArg (V m c main_v0) (funext fun a => Fin.ext ?_)
  match a with
  | ⟨0, _⟩ => show win0_2.index t 0 * 1 + 1 * 0 = 1; omega
  | ⟨1, _⟩ => show win0_2.index t 1 * 2048 + 1 * k.val = k.val; omega
  | ⟨2, _⟩ => show win0_2.index t 2 * 2048 + 1 * f.val = f.val; omega

/-- The bias as the launch finds it: zeros. -/
theorem V_bias (d : Fin 2048) : @Eq EReal ((V m c main_v2 : FVec Ideal S1x2048 .f32) (ix2 0 d)) 0 := by
  have e : @Eq (FVec Ideal S1x2048 .f32) (V m c main_v2) (shapeCast S1x2048 (broadcastInDim S2048 ![] bcast_S_S2048 (constant (F := Ideal) S_ .f32 0x00000000#32)) shapeCasts_S2048_S1x2048) := by
    show StableHlo.after hostOps0 _ main_v2 = _
    after_results_simp
    rfl
  rw [e]
  pointwise

/-- The bias's block: zeros. -/
theorem blk_bias (t : Fin cfg0.N) (d : Fin 2048) : @Eq EReal ((iblk m c 3 t : FVec Ideal S1x2048 .f32) (ix2 0 d)) 0 := by
  rw [← V_bias m c d]
  unfold iblk
  rw [View.read_apply]
  show V m c main_v2 _ = _
  refine congrArg (V m c main_v2) (funext fun a => Fin.ext ?_)
  match a with
  | ⟨0, _⟩ => rfl
  | ⟨1, _⟩ => show 0 * 2048 + 1 * d.val = d.val; omega

/-- The gain as the launch finds it. -/
theorem V_gain (d : Fin 2048) : (V m c main_v3 : FVec Ideal S1x2048 .f32) (ix2 0 d) = argG m c (ix1 d) := by
  have e : @Eq (FVec Ideal S1x2048 .f32) (V m c main_v3) (shapeCast S1x2048 (argG m c) shapeCasts_S2048_S1x2048) := by
    show StableHlo.after hostOps0 _ main_v3 = _
    after_results_simp
    rfl
  rw [e]
  pointwise

/-- The gain's block: all of it. -/
theorem blk_gain (t : Fin cfg0.N) (d : Fin 2048) :
    (iblk m c 4 t : FVec Ideal S1x2048 .f32) (ix2 0 d) = argG m c (ix1 d) := by
  rw [← V_gain m c d]
  unfold iblk
  rw [View.read_apply]
  show V m c main_v3 _ = _
  refine congrArg (V m c main_v3) (funext fun a => Fin.ext ?_)
  match a with
  | ⟨0, _⟩ => rfl
  | ⟨1, _⟩ => show 0 * 2048 + 1 * d.val = d.val; omega

/-- The six modulation rows of a block. -/
theorem blk_mod (t : Fin cfg0.N) (q : Fin 6) (d : Fin 2048) :
    (iblk m c 5 t : FVec Ideal S1x6x2048 .f32) (ix3 0 q d) = argMod m c (ix3 (modOf t) q d) := by
  unfold iblk
  rw [View.read_apply]
  show V m c main_arg4 _ = _
  rw [V_main_arg4]
  obtain ⟨h0, h1, h2⟩ := index5 t
  refine congrArg (m ((c : Thread nD τ).loc main_arg4)) (funext fun a => Fin.ext ?_)
  match a with
  | ⟨0, _⟩ => show win0_5.index t 0 * 1 + 1 * 0 = (if t.val < 16 then 0 else (t.val - 16) / 2 + 1); omega
  | ⟨1, _⟩ => show win0_5.index t 1 * 6 + 1 * q.val = q.val; omega
  | ⟨2, _⟩ => show win0_5.index t 2 * 2048 + 1 * d.val = d.val; omega

/-! ## The result -/

/-- A block's product plus the zero bias is its rows of the whole product. -/
theorem blin_eq (t : Fin cfg0.N) (r : Fin 512) (d : Fin 2048) :
    blin (iblk m c 1 t) (iblk m c 2 t) (iblk m c 3 t) r d = lin (argY m c) (argW m c) (rowOf t r) d := by
  unfold lin blin
  simp only [← blk_y m c t, ← blk_w m c t]
  exact (congrArg _ (blk_bias m c t d)).trans (add_zero _)

/-- What a grid point stores: its rows of the result. -/
theorem out_apply (t : Fin cfg0.N) (r : Fin 512) (d : Fin 2048) :
    (out0_6 (iblk m c 0 t) (iblk m c 1 t) (iblk m c 2 t) (iblk m c 3 t) (iblk m c 4 t) (iblk m c 5 t) : FVec Ideal S512x2048 .f32) (ix2 r d)
      = out (argY m c) (argW m c) (argX m c) (argG m c) (argMod m c) (rowOf t r) d := by
  unfold out0_6
  rw [View.canon_unit_zero off2]
  simp only [View.ld_unit_zero (S := S512x2048) off2, View.ld_unit_zero (S := S1x2048) off2, View.ld_unit_zero (S := S1x2048x2048) off3]
  refine (pay1_apply _ _ _ _ _ _ r d).trans ?_
  unfold out
  rw [← funext (blin_eq m c t r), modRowOf_rowOf, ← blk_x m c t r d, ← blk_gain m c t d, ← blk_mod m c t 2 d, ld_mod2]

/-- The result as the contents of the result array. -/
def result : Buf (Elt Ideal) ((c : Thread nD τ).loc main_v4) := fun i : S16384x2048.Idx => out (argY m c) (argW m c) (argX m c) (argG m c) (argMod m c) (i 0) (i 1)

/-- What a grid point writes back is its block of rows of the result. -/
theorem flushed_eq6 (t : Fin cfg0.N) : (dats m 0 c).flushed 6 t = ((cfg0.win 6).blk t).view.read (Elt Ideal) (result m c) := by
  rw [Value.flushed6]
  obtain ⟨e0, e1⟩ := index6 t
  funext y
  have hl : (cfg0.win 6).xinj (grid0.coords t) y = ix2 (y 0) (y 1) := by
    funext a; apply Fin.ext
    match a with
    | ⟨0, _⟩ => show (y 0).val = (y 0).val; rfl
    | ⟨1, _⟩ => show (y 1).val = (y 1).val; rfl
  show out0_6 (iblk m c 0 t) (iblk m c 1 t) (iblk m c 2 t) (iblk m c 3 t) (iblk m c 4 t) (iblk m c 5 t) ((cfg0.win 6).xinj (grid0.coords t) y) = result m c (((cfg0.win 6).blk t).view.emb y)
  rw [hl]
  refine (out_apply m c t (y 0) (y 1)).trans ?_
  have hb0 : (((cfg0.win 6).blk t).view.emb y 0).val = win0_6.index t 0 * 512 + 1 * (y 0).val := rfl
  have hb1 : (((cfg0.win 6).blk t).view.emb y 1).val = win0_6.index t 1 * 2048 + 1 * (y 1).val := rfl
  have q0 : rowOf t (y 0) = ((cfg0.win 6).blk t).view.emb y 0 := by
    apply Fin.ext
    rw [hb0, e0]
    show t.val * 512 + (y 0).val = t.val * 512 + 1 * (y 0).val
    omega
  have q1 : y 1 = ((cfg0.win 6).blk t).view.emb y 1 := by
    apply Fin.ext
    rw [hb1, e1]
    omega
  unfold result
  dsimp only
  rw [← q0, ← q1]

theorem flushes6 : ∀ t : Fin cfg0.N, (cfg0.win 6).flush t = true :=
  (by decide +kernel : ∀ t : Fin grid0.N, win0_6.flush t = true)

/-- Every index of the result array is in the block of its rows' grid point. -/
theorem covered6 (i : S16384x2048.Idx) : ∃ t : Fin cfg0.N, (cfg0.win 6).flush t = true ∧ i ∈ ((cfg0.win 6).blk t).view.set := by
  have h0 : (i 0).val < 16384 := (i 0).isLt
  have h1 : (i 1).val < 2048 := (i 1).isLt
  have hN : cfg0.N = 32 := N_0
  obtain ⟨t, ht⟩ : ∃ t : Fin cfg0.N, t.val = (i 0).val / 512 := ⟨⟨(i 0).val / 512, by omega⟩, rfl⟩
  refine ⟨t, flushes6 t, ?_⟩
  obtain ⟨e0, e1⟩ := index6 t
  show i ∈ ((View.whole main_v4).slice (win0_6.rect t)).set
  rw [View.set_slice_whole, Rect.mem_set_unit]
  intro a
  match a with
  | ⟨0, _⟩ =>
    show win0_6.index t 0 * 512 ≤ (i 0).val ∧ (i 0).val < win0_6.index t 0 * 512 + 512
    omega
  | ⟨1, _⟩ =>
    show win0_6.index t 1 * 2048 ≤ (i 1).val ∧ (i 1).val < win0_6.index t 1 * 2048 + 2048
    omega

/-- The result array ends holding the result. -/
theorem final6 : (dats m 0 c).arrAt 6 cfg0.N = result m c :=
  (dats m 0 c).arrAt_eq_of_cover 6 _ (fun t _ => flushed_eq6 m c t) covered6

/-- The call's run: the result array holds the plain formula, and the arguments are as they were. -/
theorem run (ρ : Dev nD → PrngReg) : θ_run defs (onTc (τ := τ) (main (F := Ideal))) ⟨m, fun _ => 0, ρ⟩ fun r => ∀ c : Dev nD,
      r.2.mem ((c : Thread nD τ).loc main_v4) = result m c ∧
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3) ∧
      r.2.mem ((c : Thread nD τ).loc main_arg4) = m ((c : Thread nD τ).loc main_arg4) :=
  (θ_run defs _ _).mono (fun r h c => ⟨(h c).1.trans (final6 m c), (h c).2⟩) (Value.run_blocks m ρ)

end Cert.SecondOut

end
-- ==== Proof.SecondOutRef.lean ====
/-
  The second mLSTM layer's output projection's reference read at an index: it is the plain formula.
-/
module

public import proofs.«01_k».proof.Proof.Gen.Reference11Ideal.Read
public import proofs.«01_k».proof.Proof.SecondOut

@[expose] public section

set_option maxRecDepth 16384

noncomputable section

namespace Cert.SecondOut

open Cert.Reference11Ideal Cert.Reference11Ideal.Gen Cert.Reference11Ideal.Read
open Idealize.ShloMosaic Idealize.ShloMosaic.TcCoe Idealize.SL.Sem

variable (Y : FVec Ideal S16384x2048 .bf16) (W : FVec Ideal S2x2048x2048 .f32) (X : FVec Ideal S16384x2048 .f32)
  (g : FVec Ideal S2048 .f32) (M : FVec Ideal S16x6x2048 .f32)

/-- The joined modulation vectors: row `r` takes the vectors of its sample. -/
theorem ref_mods (r : Fin 16384) (q : Fin 6) (d : Fin 2048) : val_main_v6 (F := Ideal) M (ix3 r q d) = M (ix3 (modRowOf r) q d) := by
  unfold val_main_v6
  by_cases h : r.val < 8192
  · have e := concatenate_pair_apply_left (t := S16384x6x2048) (s₁ := S8192x6x2048) (s₂ := S8192x6x2048) 0 (val_main_v1 (F := Ideal) M)
      (val_main_v5 (F := Ideal) M) concatenates_S8192x6x2048_S8192x6x2048_S16384x6x2048_d0 (ix3 r q d) rfl (ix3 (⟨r.val, h⟩ : Fin 8192) q d)
      (by intro b; match b with | ⟨0, _⟩ => rfl | ⟨1, _⟩ => rfl | ⟨2, _⟩ => rfl)
    refine e.trans ?_
    rw [val_main_v1_apply, val_main_v0_apply]
    refine congrArg M (funext fun a => Fin.ext ?_)
    match a with
    | ⟨0, _⟩ => show 0 + 0 = if r.val < 8192 then 0 else _; rw [if_pos h]
    | ⟨1, _⟩ => rfl
    | ⟨2, _⟩ => rfl
  · have hr := r.isLt
    have e := concatenate_pair_apply_right (t := S16384x6x2048) (s₁ := S8192x6x2048) (s₂ := S8192x6x2048) 0 (val_main_v1 (F := Ideal) M)
      (val_main_v5 (F := Ideal) M) concatenates_S8192x6x2048_S8192x6x2048_S16384x6x2048_d0 (ix3 r q d) rfl rfl
      (ix3 (⟨r.val - 8192, by omega⟩ : Fin 8192) q d)
      (by intro b hb; match b with | ⟨0, _⟩ => exact absurd rfl hb | ⟨1, _⟩ => rfl | ⟨2, _⟩ => rfl)
      (by show r.val - 8192 + 8192 = r.val; omega)
    refine e.trans ?_
    rw [val_main_v5_apply, val_main_v4_apply, val_main_v3_apply, val_main_v2_apply]
    have hq := q.isLt
    have hd := d.isLt
    refine congrArg M (funext fun a => Fin.ext ?_)
    match a with
    | ⟨0, _⟩ =>
      show 1 + (((r.val - 8192) * 6 + q.val) * 2048 + d.val) / 12582912 = if r.val < 8192 then 0 else _
      rw [if_neg h]
      omega
    | ⟨1, _⟩ => show (((r.val - 8192) * 6 + q.val) * 2048 + d.val) / 2048 % 6 = q.val; omega
    | ⟨2, _⟩ => show (((r.val - 8192) * 6 + q.val) * 2048 + d.val) % 2048 = d.val; omega

/-- The gate vectors. -/
theorem ref_gate (r : Fin 16384) (d : Fin 2048) : val_main_v8 (F := Ideal) M (ix2 r d) = M (ix3 (modRowOf r) 2 d) := by
  rw [← ref_mods M r]
  pointwise [val_main_v8, val_main_v7]

/-- The product. -/
theorem ref_lin (r : Fin 16384) (d : Fin 2048) : (val_main_v12 (F := Ideal) Y W (ix2 r d) : EReal) = lin Y W r d := by
  unfold lin
  pointwise [val_main_v12, val_main_v11, val_main_v10, val_main_v9]

/-- The reference's result. -/
theorem ref_out (r : Fin 16384) (d : Fin 2048) : (val_main_v27 (F := Ideal) Y W X g M (ix2 r d) : EReal) = out Y W X g M r d := by
  unfold out
  rw [← ref_gate M r d, funext (fun k => (ref_lin Y W r k).symm)]
  pointwise [val_main_v27, val_main_v26, val_main_v25, val_main_v24, val_main_v23, val_main_v22, val_main_v21, val_main_v20, val_main_v19, val_main_v18, val_main_v17, val_main_v16, val_main_v15, val_main_v14, val_main_v13, val_main_cst, val_main_cst_0, val_main_cst_1]
  rfl

/-- The reference's result array. -/
theorem ref_eq : (val_main_v27 (F := Ideal) Y W X g M : FVec Ideal S16384x2048 .f32) = fun i => out Y W X g M (i 0) (i 1) := by
  funext i
  obtain ⟨r, d, rfl⟩ : ∃ (r : Fin 16384) (d : Fin 2048), i = ix2 r d := ⟨i 0, i 1, funext fun a => match a with | ⟨0, _⟩ => rfl | ⟨1, _⟩ => rfl⟩
  exact ref_out Y W X g M r d

end Cert.SecondOut

end
-- ==== Proof.FirstIn.lean ====
/-
  The first mLSTM layer's input projections: each row, from one of two arrays, is normalised, scaled, shifted and multiplied by two weights.
-/
module

public import proofs.«01_k».proof.Proof.FirstInWeights

@[expose] public section

set_option maxRecDepth 16384

noncomputable section

namespace Cert.FirstIn

open Cert.Kernel12Ideal Cert.Kernel12Ideal.Gen
open Idealize.ShloMosaic Idealize.ShloMosaic.TcCoe Idealize.SL.Sem

theorem off2 : (![0, 0] : Fin 2 → Nat) = fun _ => 0 := funext fun a => by fin_cases a <;> rfl
theorem off3 : (![0, 0, 0] : Fin 3 → Nat) = fun _ => 0 := funext fun a => by fin_cases a <;> rfl

/-! ## The plain formula -/

/-- The reciprocal root mean square of a row of 2048 entries, as the kernel and the plain formula both print it. -/
def rs (v : Fin 2048 → EReal) : EReal :=
  Ideal.rsqrt (Ideal.div (∑ k, v k * v k) (Ideal.ofBits .f32 0x45000000#32) + Ideal.ofBits .f32 0x358637BD#32)

/-- The modulation row of a row: the first for the context rows, then one for every 1024 rows. -/
def modRowOf (r : Fin 16384) : Fin 16 := ⟨if r.val < 8192 then 0 else 1 + (r.val - 8192) / 1024, by split <;> omega⟩

/-- The shape of both batches' rows in one array. -/
abbrev SRows : Shape := ⟨2, ![16384, 2048]⟩

/-- The rows of the two inputs in one array: first the context batch's, then the sample batch's. -/
def rows (P : FVec Ideal S32x256x2048 .f32) (S : FVec Ideal S8x1024x2048 .f32) : FVec Ideal SRows .f32 := fun i =>
  if h : (i 0).val < 8192 then P (ix3 (⟨(i 0).val / 256, by omega⟩ : Fin 32) (⟨(i 0).val % 256, by omega⟩ : Fin 256) (i 1))
  else S (ix3 (⟨((i 0).val - 8192) / 1024, by have : (i 0).val < 16384 := (i 0).isLt; omega⟩ : Fin 8) (⟨((i 0).val - 8192) % 1024, by omega⟩ : Fin 1024) (i 1))

theorem rows_left (P : FVec Ideal S32x256x2048 .f32) (S : FVec Ideal S8x1024x2048 .f32) (r : Fin 16384) (d : Fin 2048) (h : r.val < 8192) :
    rows P S (ix2 r d) = P (ix3 (⟨r.val / 256, by omega⟩ : Fin 32) (⟨r.val % 256, by omega⟩ : Fin 256) d) := dif_pos h
theorem rows_right (P : FVec Ideal S32x256x2048 .f32) (S : FVec Ideal S8x1024x2048 .f32) (r : Fin 16384) (d : Fin 2048) (h : ¬r.val < 8192) :
    rows P S (ix2 r d) = S (ix3 (⟨(r.val - 8192) / 1024, by have := r.isLt; omega⟩ : Fin 8) (⟨(r.val - 8192) % 1024, by omega⟩ : Fin 1024) d) := dif_neg h

section Formula
variable (X : FVec Ideal SRows .f32) (g : FVec Ideal S2048 .f32) (M : FVec Ideal S16x6x2048 .f32)

/-- A row, normalised, scaled and shifted. -/
def hin (r : Fin 16384) (d : Fin 2048) : EReal :=
  X (ix2 r d) * rs (fun k => X (ix2 r k)) * g (ix1 d) * (1 + M (ix3 (modRowOf r) 1 d)) + M (ix3 (modRowOf r) 0 d)

/-- The first projection, by the first of the two weights of 4096 columns. -/
def projA (W : FVec Ideal S2x2048x4096 .bf16) (r : Fin 16384) (f : Fin 4096) : EReal := ∑ k : Fin 2048, hin X g M r k * W (ix3 0 k f)
/-- The second projection, by the first of the two weights of 2560 columns. -/
def projB (W : FVec Ideal S2x2048x2560 .bf16) (r : Fin 16384) (f : Fin 2560) : EReal := ∑ k : Fin 2048, hin X g M r k * W (ix3 0 k f)
end Formula

/-! ## One grid point of each batch -/

section Cases
variable {F : FTy → Type} [FloatOps F] (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S1x2048 .f32) (harg3 : arg3.IsWhole) (arg4 : Memref sig .tc .vmem S1x6x2048 .f32) (harg4 : arg4.IsWhole) (arg5 : Memref sig .tc .vmem S1x2048x4096 .bf16) (harg5 : arg5.IsWhole) (arg6 : Memref sig .tc .vmem S1x2048x2560 .bf16) (harg6 : arg6.IsWhole) (arg7 : Memref sig .tc .vmem S256x4096 .bf16) (harg7 : arg7.IsWhole) (arg8 : Memref sig .tc .vmem S256x2560 .f32) (harg8 : arg8.IsWhole)
  (x0 : Vec F S256x2048 .f32) (x1 : Vec F S256x2048 .f32) (x2 : Vec F S1x2048 .f32) (x3 : Vec F S1x6x2048 .f32) (x4 : Vec F S1x2048x4096 .bf16) (x5 : Vec F S1x2048x2560 .bf16)

/-- A point of the context batch stores the first product of the first block of rows. -/
theorem out_A6 (hc0 : cond0_0 i) (hc1 : ¬cond0_1 i) :
    out0_A_6 c i arg1 harg1 arg2 harg2 arg3 harg3 arg4 harg4 arg5 harg5 arg6 harg6 arg7 harg7 arg8 harg8 hc0 hc1 x0 x1 x2 x3 x4 x5
      = k0_pay2 x0 x2 (View.ld x3 (Rect.unit (s := S1x6x2048) ![0, 0, 0] S1x1x2048.size inb_S1x6x2048_S1x1x2048_0_0_0)) (View.ld x3 (Rect.unit (s := S1x6x2048) ![0, 1, 0] S1x1x2048.size inb_S1x6x2048_S1x1x2048_0_1_0)) x4 := by
  unfold out0_A_6
  rw [View.read_writes_eq_canon _ _ _ (cover0_A_6 c i arg1 harg1 arg2 harg2 arg3 harg3 arg4 harg4 arg5 harg5 arg6 harg6 arg7 harg7 arg8 harg8 hc0 hc1 x0 x1 x2 x3 x4 x5)]
  unfold kernelRun0_A
  dsimp only
  sl_unfold_words
  rw [View.canon_unit_zero off2]
  simp only [View.readAt_eq_ld, harg1.read_unread, harg2.read_unread, harg3.read_unread, harg4.read_unread, harg5.read_unread, harg6.read_unread,
    View.ld_unit_zero (S := S256x2048) off2, View.ld_unit_zero (S := S1x2048) off2, View.ld_unit_zero (S := S1x2048x4096) off3]

/-- A point of the context batch stores the second product of the first block of rows. -/
theorem out_A7 (hc0 : cond0_0 i) (hc1 : ¬cond0_1 i) :
    out0_A_7 c i arg1 harg1 arg2 harg2 arg3 harg3 arg4 harg4 arg5 harg5 arg6 harg6 arg7 harg7 arg8 harg8 hc0 hc1 x0 x1 x2 x3 x4 x5
      = k0_pay3 x0 x2 (View.ld x3 (Rect.unit (s := S1x6x2048) ![0, 0, 0] S1x1x2048.size inb_S1x6x2048_S1x1x2048_0_0_0)) (View.ld x3 (Rect.unit (s := S1x6x2048) ![0, 1, 0] S1x1x2048.size inb_S1x6x2048_S1x1x2048_0_1_0)) x5 := by
  unfold out0_A_7
  rw [View.read_writes_eq_canon _ _ _ (cover0_A_7 c i arg1 harg1 arg2 harg2 arg3 harg3 arg4 harg4 arg5 harg5 arg6 harg6 arg7 harg7 arg8 harg8 hc0 hc1 x0 x1 x2 x3 x4 x5)]
  unfold kernelRun0_A
  dsimp only
  sl_unfold_words
  rw [View.canon_unit_zero off2]
  simp only [View.readAt_eq_ld, harg1.read_unread, harg2.read_unread, harg3.read_unread, harg4.read_unread, harg5.read_unread, harg6.read_unread,
    View.ld_unit_zero (S := S256x2048) off2, View.ld_unit_zero (S := S1x2048) off2, View.ld_unit_zero (S := S1x2048x2560) off3]

/-- A point of the sample batch stores the first product of the second block of rows. -/
theorem out_B6 (hc0 : ¬cond0_0 i) (hc1 : cond0_1 i) :
    out0_B_6 c i arg1 harg1 arg2 harg2 arg3 harg3 arg4 harg4 arg5 harg5 arg6 harg6 arg7 harg7 arg8 harg8 hc0 hc1 x0 x1 x2 x3 x4 x5
      = k0_pay5 x1 x2 (View.ld x3 (Rect.unit (s := S1x6x2048) ![0, 0, 0] S1x1x2048.size inb_S1x6x2048_S1x1x2048_0_0_0)) (View.ld x3 (Rect.unit (s := S1x6x2048) ![0, 1, 0] S1x1x2048.size inb_S1x6x2048_S1x1x2048_0_1_0)) x4 := by
  unfold out0_B_6
  rw [View.read_writes_eq_canon _ _ _ (cover0_B_6 c i arg1 harg1 arg2 harg2 arg3 harg3 arg4 harg4 arg5 harg5 arg6 harg6 arg7 harg7 arg8 harg8 hc0 hc1 x0 x1 x2 x3 x4 x5)]
  unfold kernelRun0_B
  dsimp only
  sl_unfold_words
  rw [View.canon_unit_zero off2]
  simp only [View.readAt_eq_ld, harg1.read_unread, harg2.read_unread, harg3.read_unread, harg4.read_unread, harg5.read_unread, harg6.read_unread,
    View.ld_unit_zero (S := S256x2048) off2, View.ld_unit_zero (S := S1x2048) off2, View.ld_unit_zero (S := S1x2048x4096) off3]

/-- A point of the sample batch stores the second product of the second block of rows. -/
theorem out_B7 (hc0 : ¬cond0_0 i) (hc1 : cond0_1 i) :
    out0_B_7 c i arg1 harg1 arg2 harg2 arg3 harg3 arg4 harg4 arg5 harg5 arg6 harg6 arg7 harg7 arg8 harg8 hc0 hc1 x0 x1 x2 x3 x4 x5
      = k0_pay6 x1 x2 (View.ld x3 (Rect.unit (s := S1x6x2048) ![0, 0, 0] S1x1x2048.size inb_S1x6x2048_S1x1x2048_0_0_0)) (View.ld x3 (Rect.unit (s := S1x6x2048) ![0, 1, 0] S1x1x2048.size inb_S1x6x2048_S1x1x2048_0_1_0)) x5 := by
  unfold out0_B_7
  rw [View.read_writes_eq_canon _ _ _ (cover0_B_7 c i arg1 harg1 arg2 harg2 arg3 harg3 arg4 harg4 arg5 harg5 arg6 harg6 arg7 harg7 arg8 harg8 hc0 hc1 x0 x1 x2 x3 x4 x5)]
  unfold kernelRun0_B
  dsimp only
  sl_unfold_words
  rw [View.canon_unit_zero off2]
  simp only [View.readAt_eq_ld, harg1.read_unread, harg2.read_unread, harg3.read_unread, harg4.read_unread, harg5.read_unread, harg6.read_unread,
    View.ld_unit_zero (S := S256x2048) off2, View.ld_unit_zero (S := S1x2048) off2, View.ld_unit_zero (S := S1x2048x2560) off3]

end Cases

/-! ## The body's stored values at an index -/

/-- The rows, normalised, scaled and shifted. -/
theorem pay1_apply (x : FVec Ideal S256x2048 .f32) (g : FVec Ideal S1x2048 .f32) (sh sc : FVec Ideal S1x1x2048 .f32) (r : Fin 256) (k : Fin 2048) :
    (k0_pay1 (F := Ideal) x g sh sc (ix2 r k) : EReal) = x (ix2 r k) * rs (fun j => x (ix2 r j)) * g (ix2 0 k) * (1 + sc (ix3 0 0 k)) + sh (ix3 0 0 k) := by
  pointwise [k0_pay1]
  rfl

/-- The first product. -/
theorem pay2_apply (x : FVec Ideal S256x2048 .f32) (g : FVec Ideal S1x2048 .f32) (sh sc : FVec Ideal S1x1x2048 .f32)
    (w : FVec Ideal S1x2048x4096 .bf16) (r : Fin 256) (f : Fin 4096) :
    (k0_pay2 (F := Ideal) x g sh sc w (ix2 r f) : EReal) = ∑ k : Fin 2048, (k0_pay1 (F := Ideal) x g sh sc (ix2 r k) : EReal) * w (ix3 0 k f) := by
  pointwise [k0_pay2]

/-- The second product. -/
theorem pay3_apply (x : FVec Ideal S256x2048 .f32) (g : FVec Ideal S1x2048 .f32) (sh sc : FVec Ideal S1x1x2048 .f32)
    (w : FVec Ideal S1x2048x2560 .bf16) (r : Fin 256) (f : Fin 2560) :
    (k0_pay3 (F := Ideal) x g sh sc w (ix2 r f) : EReal) = ∑ k : Fin 2048, (k0_pay1 (F := Ideal) x g sh sc (ix2 r k) : EReal) * w (ix3 0 k f) := by
  pointwise [k0_pay3]

/-- The rows, normalised, scaled and shifted. -/
theorem pay4_apply (x : FVec Ideal S256x2048 .f32) (g : FVec Ideal S1x2048 .f32) (sh sc : FVec Ideal S1x1x2048 .f32) (r : Fin 256) (k : Fin 2048) :
    (k0_pay4 (F := Ideal) x g sh sc (ix2 r k) : EReal) = x (ix2 r k) * rs (fun j => x (ix2 r j)) * g (ix2 0 k) * (1 + sc (ix3 0 0 k)) + sh (ix3 0 0 k) := by
  pointwise [k0_pay4]
  rfl

/-- The first product. -/
theorem pay5_apply (x : FVec Ideal S256x2048 .f32) (g : FVec Ideal S1x2048 .f32) (sh sc : FVec Ideal S1x1x2048 .f32)
    (w : FVec Ideal S1x2048x4096 .bf16) (r : Fin 256) (f : Fin 4096) :
    (k0_pay5 (F := Ideal) x g sh sc w (ix2 r f) : EReal) = ∑ k : Fin 2048, (k0_pay4 (F := Ideal) x g sh sc (ix2 r k) : EReal) * w (ix3 0 k f) := by
  pointwise [k0_pay5]

/-- The second product. -/
theorem pay6_apply (x : FVec Ideal S256x2048 .f32) (g : FVec Ideal S1x2048 .f32) (sh sc : FVec Ideal S1x1x2048 .f32)
    (w : FVec Ideal S1x2048x2560 .bf16) (r : Fin 256) (f : Fin 2560) :
    (k0_pay6 (F := Ideal) x g sh sc w (ix2 r f) : EReal) = ∑ k : Fin 2048, (k0_pay4 (F := Ideal) x g sh sc (ix2 r k) : EReal) * w (ix3 0 k f) := by
  pointwise [k0_pay6]

/-- Row 0 of a block of six modulation rows. -/
theorem ld_mod0 (x : FVec Ideal S1x6x2048 .f32) (d : Fin 2048) :
    View.ld (Val := Elt Ideal) (e' := .f32) x (Rect.unit (s := S1x6x2048) ![0, 0, 0] S1x1x2048.size inb_S1x6x2048_S1x1x2048_0_0_0) (ix3 0 0 d) = x (ix3 0 0 d) := by
  show x _ = x _
  refine congrArg x (funext fun a => Fin.ext ?_)
  match a with
  | ⟨0, _⟩ => rfl
  | ⟨1, _⟩ => rfl
  | ⟨2, _⟩ => show 0 + 1 * d.val = d.val; omega

/-- Row 1 of a block of six modulation rows. -/
theorem ld_mod1 (x : FVec Ideal S1x6x2048 .f32) (d : Fin 2048) :
    View.ld (Val := Elt Ideal) (e' := .f32) x (Rect.unit (s := S1x6x2048) ![0, 1, 0] S1x1x2048.size inb_S1x6x2048_S1x1x2048_0_1_0) (ix3 0 0 d) = x (ix3 0 1 d) := by
  show x _ = x _
  refine congrArg x (funext fun a => Fin.ext ?_)
  match a with
  | ⟨0, _⟩ => rfl
  | ⟨1, _⟩ => rfl
  | ⟨2, _⟩ => show 0 + 1 * d.val = d.val; omega

/-! ## The blocks -/

variable (m : (ℓ : Loc nD τ sig) → Buf (Elt Ideal) ℓ) (c : Dev nD)

/-- The arguments: the two batches' rows, the gain, the modulation rows and the two pairs of weights as the host prepares them. -/
abbrev argP : FVec Ideal S32x256x2048 .f32 := m ((c : Thread nD τ).loc main_arg0)
abbrev argS : FVec Ideal S8x1024x2048 .f32 := m ((c : Thread nD τ).loc main_arg1)
abbrev argG : FVec Ideal S2048 .f32 := m ((c : Thread nD τ).loc main_arg2)
abbrev argMod : FVec Ideal S16x6x2048 .f32 := m ((c : Thread nD τ).loc main_arg3)
abbrev argA : FVec Ideal S2x2048x4096 .bf16 := wA (argW m c)
abbrev argB : FVec Ideal S2x2048x2560 .bf16 := wB (argW m c)

/-- Row `r` of row block `t`, and the modulation row the block is given. -/
abbrev rowOf (t : Fin cfg0.N) (r : Fin 256) : Fin 16384 := ⟨t.val * 256 + r.val, by have := lt_of_lt_of_eq t.isLt (show cfg0.N = 64 from N_0); omega⟩
abbrev modOf (t : Fin cfg0.N) : Fin 16 := ⟨if t.val < 32 then 0 else (t.val - 32) / 4 + 1, by have := lt_of_lt_of_eq t.isLt (show cfg0.N = 64 from N_0); split <;> omega⟩

theorem modRowOf_rowOf (t : Fin cfg0.N) (r : Fin 256) : modRowOf (rowOf t r) = modOf t := by
  apply Fin.ext
  show (if t.val * 256 + r.val < 8192 then 0 else 1 + (t.val * 256 + r.val - 8192) / 1024) = if t.val < 32 then 0 else (t.val - 32) / 4 + 1
  have := r.isLt
  split <;> split <;> omega

theorem index0 : ∀ t : Fin cfg0.N, win0_0.index t 0 = (if t.val < 32 then t.val else 31) ∧ win0_0.index t 1 = 0 :=
  (by decide +kernel : ∀ t : Fin grid0.N, win0_0.index t 0 = (if t.val < 32 then t.val else 31) ∧ win0_0.index t 1 = 0)
theorem index1 : ∀ t : Fin cfg0.N, win0_1.index t 0 = (if t.val < 32 then 0 else t.val - 32) ∧ win0_1.index t 1 = 0 :=
  (by decide +kernel : ∀ t : Fin grid0.N, win0_1.index t 0 = (if t.val < 32 then 0 else t.val - 32) ∧ win0_1.index t 1 = 0)
theorem index3 : ∀ t : Fin cfg0.N, win0_3.index t 0 = (if t.val < 32 then 0 else (t.val - 32) / 4 + 1) ∧ win0_3.index t 1 = 0 ∧ win0_3.index t 2 = 0 :=
  (by decide +kernel : ∀ t : Fin grid0.N, win0_3.index t 0 = (if t.val < 32 then 0 else (t.val - 32) / 4 + 1) ∧ win0_3.index t 1 = 0 ∧ win0_3.index t 2 = 0)
theorem index4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)
theorem index5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)
theorem index6 : ∀ t : Fin cfg0.N, win0_6.index t 0 = t.val ∧ win0_6.index t 1 = 0 :=
  (by decide +kernel : ∀ t : Fin grid0.N, win0_6.index t 0 = t.val ∧ win0_6.index t 1 = 0)
theorem index7 : ∀ t : Fin cfg0.N, win0_7.index t 0 = t.val ∧ win0_7.index t 1 = 0 :=
  (by decide +kernel : ∀ t : Fin grid0.N, win0_7.index t 0 = t.val ∧ win0_7.index t 1 = 0)

/-- The context batch's rows as the launch finds them: the batch's array, one row after another. -/
theorem V_p (i : Fin 8192) (d : Fin 2048) : (V m c main_v24 : FVec Ideal S8192x2048 .f32) (ix2 i d)
    = argP m c (ix3 (⟨i.val / 256, by omega⟩ : Fin 32) (⟨i.val % 256, by omega⟩ : Fin 256) d) := by
  have e : @Eq (FVec Ideal S8192x2048 .f32) (V m c main_v24) (shapeCast S8192x2048 (argP m c) shapeCasts_S32x256x2048_S8192x2048) := by
    show StableHlo.after (List.flatten [hostOps0, hostOps0_1, hostOps0_2, hostOps0_3, hostOps0_4]) _ main_v24 = _
    simp only [hostOps0, hostOps0_1, hostOps0_2, hostOps0_3, hostOps0_4, List.flatten_cons, List.flatten_nil, List.append_nil, List.cons_append, List.nil_append]
    after_results_simp
    rfl
  rw [e]
  refine shapeCast_apply (argP m c) shapeCasts_S32x256x2048_S8192x2048 (ix2 i d) _ ?_
  rewrite [Shape.rowMajor_val_three, Shape.rowMajor_val_two]
  have hi := i.isLt
  have hd := d.isLt
  show (i.val / 256 * 256 + i.val % 256) * 2048 + d.val = i.val * 2048 + d.val
  omega

/-- The block of the context batch's rows, at a point of that batch. -/
theorem blk_p (t : Fin cfg0.N) (h : t.val < 32) (r : Fin 256) (d : Fin 2048) :
    (iblk m c 0 t : FVec Ideal S256x2048 .f32) (ix2 r d) = rows (argP m c) (argS m c) (ix2 (rowOf t r) d) := by
  have hN := lt_of_lt_of_eq t.isLt (show cfg0.N = 64 from N_0)
  have hr := r.isLt
  rw [rows_left _ _ _ _ (by show t.val * 256 + r.val < 8192; have := r.isLt; omega)]
  refine Eq.trans ?_ (V_p m c (⟨t.val * 256 + r.val, by omega⟩ : Fin 8192) d)
  unfold iblk
  rw [View.read_apply]
  show V m c main_v24 _ = _
  obtain ⟨h0, h1⟩ := index0 t
  rw [if_pos h] at h0
  refine congrArg (V m c main_v24) (funext fun a => Fin.ext ?_)
  match a with
  | ⟨0, _⟩ => show win0_0.index t 0 * 256 + 1 * r.val = t.val * 256 + r.val; omega
  | ⟨1, _⟩ => show win0_0.index t 1 * 2048 + 1 * d.val = d.val; omega

/-- The sample batch's rows as the launch finds them: the batch's array, one row after another. -/
theorem V_s (i : Fin 8192) (d : Fin 2048) : (V m c main_v25 : FVec Ideal S8192x2048 .f32) (ix2 i d)
    = argS m c (ix3 (⟨i.val / 1024, by omega⟩ : Fin 8) (⟨i.val % 1024, by omega⟩ : Fin 1024) d) := by
  have e : @Eq (FVec Ideal S8192x2048 .f32) (V m c main_v25) (shapeCast S8192x2048 (argS m c) shapeCasts_S8x1024x2048_S8192x2048) := by
    show StableHlo.after (List.flatten [hostOps0, hostOps0_1, hostOps0_2, hostOps0_3, hostOps0_4]) _ main_v25 = _
    simp only [hostOps0, hostOps0_1, hostOps0_2, hostOps0_3, hostOps0_4, List.flatten_cons, List.flatten_nil, List.append_nil, List.cons_append, List.nil_append]
    after_results_simp
    rfl
  rw [e]
  refine shapeCast_apply (argS m c) shapeCasts_S8x1024x2048_S8192x2048 (ix2 i d) _ ?_
  rewrite [Shape.rowMajor_val_three, Shape.rowMajor_val_two]
  have hi := i.isLt
  have hd := d.isLt
  show (i.val / 1024 * 1024 + i.val % 1024) * 2048 + d.val = i.val * 2048 + d.val
  omega

/-- The block of the sample batch's rows, at a point of that batch. -/
theorem blk_s (t : Fin cfg0.N) (h : ¬t.val < 32) (r : Fin 256) (d : Fin 2048) :
    (iblk m c 1 t : FVec Ideal S256x2048 .f32) (ix2 r d) = rows (argP m c) (argS m c) (ix2 (rowOf t r) d) := by
  have hN := lt_of_lt_of_eq t.isLt (show cfg0.N = 64 from N_0)
  have hr := r.isLt
  rw [rows_right _ _ _ _ (by show ¬t.val * 256 + r.val < 8192; omega)]
  refine Eq.trans ?_ (V_s m c (⟨t.val * 256 + r.val - 8192, by omega⟩ : Fin 8192) d)
  unfold iblk
  rw [View.read_apply]
  show V m c main_v25 _ = _
  obtain ⟨h0, h1⟩ := index1 t
  rw [if_neg h] at h0
  refine congrArg (V m c main_v25) (funext fun a => Fin.ext ?_)
  match a with
  | ⟨0, _⟩ => show win0_1.index t 0 * 256 + 1 * r.val = t.val * 256 + r.val - 8192; omega
  | ⟨1, _⟩ => show win0_1.index t 1 * 2048 + 1 * d.val = d.val; omega

/-- The gain as the launch finds it. -/
theorem V_gain (d : Fin 2048) : (V m c main_v26 : FVec Ideal S1x2048 .f32) (ix2 0 d) = argG m c (ix1 d) := by
  have e : @Eq (FVec Ideal S1x2048 .f32) (V m c main_v26) (shapeCast S1x2048 (argG m c) shapeCasts_S2048_S1x2048) := by
    show StableHlo.after (List.flatten [hostOps0, hostOps0_1, hostOps0_2, hostOps0_3, hostOps0_4]) _ main_v26 = _
    simp only [hostOps0, hostOps0_1, hostOps0_2, hostOps0_3, hostOps0_4, List.flatten_cons, List.flatten_nil, List.append_nil, List.cons_append, List.nil_append]
    after_results_simp
    rfl
  rw [e]
  pointwise

/-- The gain's block: all of it. -/
theorem blk_gain (t : Fin cfg0.N) (d : Fin 2048) :
    (iblk m c 2 t : FVec Ideal S1x2048 .f32) (ix2 0 d) = argG m c (ix1 d) := by
  rw [← V_gain m c d]
  unfold iblk
  rw [View.read_apply]
  show V m c main_v26 _ = _
  refine congrArg (V m c main_v26) (funext fun a => Fin.ext ?_)
  match a with
  | ⟨0, _⟩ => rfl
  | ⟨1, _⟩ => show 0 * 2048 + 1 * d.val = d.val; omega

/-- The six modulation rows of a block. -/
theorem blk_mod (t : Fin cfg0.N) (q : Fin 6) (d : Fin 2048) :
    (iblk m c 3 t : FVec Ideal S1x6x2048 .f32) (ix3 0 q d) = argMod m c (ix3 (modOf t) q d) := by
  unfold iblk
  rw [View.read_apply]
  show V m c main_arg3 _ = _
  rw [V_main_arg3]
  obtain ⟨h0, h1, h2⟩ := index3 t
  refine congrArg (m ((c : Thread nD τ).loc main_arg3)) (funext fun a => Fin.ext ?_)
  match a with
  | ⟨0, _⟩ => show win0_3.index t 0 * 1 + 1 * 0 = (if t.val < 32 then 0 else (t.val - 32) / 4 + 1); omega
  | ⟨1, _⟩ => show win0_3.index t 1 * 6 + 1 * q.val = q.val; omega
  | ⟨2, _⟩ => show win0_3.index t 2 * 2048 + 1 * d.val = d.val; omega

/-- The weight's block: the first of the two weights. -/
theorem blk_wA (t : Fin cfg0.N) (k : Fin 2048) (f : Fin 4096) :
    (iblk m c 4 t : FVec Ideal S1x2048x4096 .bf16) (ix3 0 k f) = argA m c (ix3 0 k f) := by
  refine Eq.trans ?_ (hkA_apply (argW m c) 0 k f)
  unfold iblk
  rw [View.read_apply]
  show V m c main_v11 _ = _
  rw [V_hkA]
  obtain ⟨h0, h1, h2⟩ := index4 t
  refine congrArg (hkA (argW m c)) (funext fun a => Fin.ext ?_)
  match a with
  | ⟨0, _⟩ => show win0_4.index t 0 * 1 + 1 * 0 = 0; omega
  | ⟨1, _⟩ => show win0_4.index t 1 * 2048 + 1 * k.val = k.val; omega
  | ⟨2, _⟩ => show win0_4.index t 2 * 4096 + 1 * f.val = f.val; omega

/-- The weight's block: the first of the two weights. -/
theorem blk_wB (t : Fin cfg0.N) (k : Fin 2048) (f : Fin 2560) :
    (iblk m c 5 t : FVec Ideal S1x2048x2560 .bf16) (ix3 0 k f) = argB m c (ix3 0 k f) := by
  refine Eq.trans ?_ (hkB_apply (argW m c) 0 k f)
  unfold iblk
  rw [View.read_apply]
  show V m c main_v19 _ = _
  rw [V_hkB]
  obtain ⟨h0, h1, h2⟩ := index5 t
  refine congrArg (hkB (argW m c)) (funext fun a => Fin.ext ?_)
  match a with
  | ⟨0, _⟩ => show win0_5.index t 0 * 1 + 1 * 0 = 0; omega
  | ⟨1, _⟩ => show win0_5.index t 1 * 2048 + 1 * k.val = k.val; omega
  | ⟨2, _⟩ => show win0_5.index t 2 * 2560 + 1 * f.val = f.val; omega

/-! ## The results -/

/-- What a grid point stores in its block of result 0: its rows of the projection. -/
theorem out_apply6 (t : Fin cfg0.N) (r : Fin 256) (f : Fin 4096) :
    ((outsAt0 m c t.val t.isLt).1 : FVec Ideal S256x4096 .bf16) (ix2 r f)
      = projA (rows (argP m c) (argS m c)) (argG m c) (argMod m c) (argA m c) (rowOf t r) f := by
  by_cases h : t.val < 32
  · rw [outsAt0_A m c t h (by omega)]
    dsimp only
    rw [out_A6]
    refine (pay2_apply _ _ _ _ _ r f).trans ?_
    simp only [pay1_apply]
    unfold projA hin
    simp only [modRowOf_rowOf, ← blk_p m c t h, ← blk_gain m c t, ← blk_mod m c t, ← blk_wA m c t]
    refine Finset.sum_congr rfl fun k _ => ?_
    rw [ld_mod0, ld_mod1]
  · rw [outsAt0_B m c t h (by omega)]
    dsimp only
    rw [out_B6]
    refine (pay5_apply _ _ _ _ _ r f).trans ?_
    simp only [pay4_apply]
    unfold projA hin
    simp only [modRowOf_rowOf, ← blk_s m c t h, ← blk_gain m c t, ← blk_mod m c t, ← blk_wA m c t]
    refine Finset.sum_congr rfl fun k _ => ?_
    rw [ld_mod0, ld_mod1]

/-- What a grid point stores in its block of result 1: its rows of the projection. -/
theorem out_apply7 (t : Fin cfg0.N) (r : Fin 256) (f : Fin 2560) :
    ((outsAt0 m c t.val t.isLt).2 : FVec Ideal S256x2560 .f32) (ix2 r f)
      = projB (rows (argP m c) (argS m c)) (argG m c) (argMod m c) (argB m c) (rowOf t r) f := by
  by_cases h : t.val < 32
  · rw [outsAt0_A m c t h (by omega)]
    dsimp only
    rw [out_A7]
    refine (pay3_apply _ _ _ _ _ r f).trans ?_
    simp only [pay1_apply]
    unfold projB hin
    simp only [modRowOf_rowOf, ← blk_p m c t h, ← blk_gain m c t, ← blk_mod m c t, ← blk_wB m c t]
    refine Finset.sum_congr rfl fun k _ => ?_
    rw [ld_mod0, ld_mod1]
  · rw [outsAt0_B m c t h (by omega)]
    dsimp only
    rw [out_B7]
    refine (pay6_apply _ _ _ _ _ r f).trans ?_
    simp only [pay4_apply]
    unfold projB hin
    simp only [modRowOf_rowOf, ← blk_s m c t h, ← blk_gain m c t, ← blk_mod m c t, ← blk_wB m c t]
    refine Finset.sum_congr rfl fun k _ => ?_
    rw [ld_mod0, ld_mod1]

/-- The result as the contents of the result array. -/
def resultA : Buf (Elt Ideal) ((c : Thread nD τ).loc main_v27_0) := fun i : S16384x4096.Idx => projA (rows (argP m c) (argS m c)) (argG m c) (argMod m c) (argA m c) (i 0) (i 1)

/-- What a grid point writes back is its block of rows of the result. -/
theorem flushed_eq6 (t : Fin cfg0.N) : (dats m 0 c).flushed 6 t = ((cfg0.win 6).blk t).view.read (Elt Ideal) (resultA m c) := by
  rw [Value.flushed6]
  obtain ⟨e0, e1⟩ := index6 t
  funext y
  have hl : (cfg0.win 6).xinj (grid0.coords t) y = ix2 (y 0) (y 1) := by
    funext a; apply Fin.ext
    match a with
    | ⟨0, _⟩ => show (y 0).val = (y 0).val; rfl
    | ⟨1, _⟩ => show (y 1).val = (y 1).val; rfl
  show ((outsAt0 m c t.val t.isLt).1 : FVec Ideal S256x4096 .bf16) ((cfg0.win 6).xinj (grid0.coords t) y) = resultA m c (((cfg0.win 6).blk t).view.emb y)
  rw [hl]
  refine (out_apply6 m c t (y 0) (y 1)).trans ?_
  have hb0 : (((cfg0.win 6).blk t).view.emb y 0).val = win0_6.index t 0 * 256 + 1 * (y 0).val := rfl
  have hb1 : (((cfg0.win 6).blk t).view.emb y 1).val = win0_6.index t 1 * 4096 + 1 * (y 1).val := rfl
  have q0 : rowOf t (y 0) = ((cfg0.win 6).blk t).view.emb y 0 := by
    apply Fin.ext
    rw [hb0, e0]
    show t.val * 256 + (y 0).val = t.val * 256 + 1 * (y 0).val
    omega
  have q1 : y 1 = ((cfg0.win 6).blk t).view.emb y 1 := by
    apply Fin.ext
    rw [hb1, e1]
    omega
  unfold resultA
  dsimp only
  rw [← q0, ← q1]

theorem flushes6 : ∀ t : Fin cfg0.N, (cfg0.win 6).flush t = true :=
  (by decide +kernel : ∀ t : Fin grid0.N, win0_6.flush t = true)

/-- Every index of the result array is in the block of its rows' grid point. -/
theorem covered6 (i : S16384x4096.Idx) : ∃ t : Fin cfg0.N, (cfg0.win 6).flush t = true ∧ i ∈ ((cfg0.win 6).blk t).view.set := by
  have h0 : (i 0).val < 16384 := (i 0).isLt
  have h1 : (i 1).val < 4096 := (i 1).isLt
  have hN : cfg0.N = 64 := N_0
  obtain ⟨t, ht⟩ : ∃ t : Fin cfg0.N, t.val = (i 0).val / 256 := ⟨⟨(i 0).val / 256, by omega⟩, rfl⟩
  refine ⟨t, flushes6 t, ?_⟩
  obtain ⟨e0, e1⟩ := index6 t
  show i ∈ ((View.whole main_v27_0).slice (win0_6.rect t)).set
  rw [View.set_slice_whole, Rect.mem_set_unit]
  intro a
  match a with
  | ⟨0, _⟩ =>
    show win0_6.index t 0 * 256 ≤ (i 0).val ∧ (i 0).val < win0_6.index t 0 * 256 + 256
    omega
  | ⟨1, _⟩ =>
    show win0_6.index t 1 * 4096 ≤ (i 1).val ∧ (i 1).val < win0_6.index t 1 * 4096 + 4096
    omega

/-- The result array ends holding the result. -/
theorem final6 : (dats m 0 c).arrAt 6 cfg0.N = resultA m c :=
  (dats m 0 c).arrAt_eq_of_cover 6 _ (fun t _ => flushed_eq6 m c t) covered6

/-- The result as the contents of the result array. -/
def resultB : Buf (Elt Ideal) ((c : Thread nD τ).loc main_v27_1) := fun i : S16384x2560.Idx => projB (rows (argP m c) (argS m c)) (argG m c) (argMod m c) (argB m c) (i 0) (i 1)

/-- What a grid point writes back is its block of rows of the result. -/
theorem flushed_eq7 (t : Fin cfg0.N) : (dats m 0 c).flushed 7 t = ((cfg0.win 7).blk t).view.read (Elt Ideal) (resultB m c) := by
  rw [Value.flushed7]
  obtain ⟨e0, e1⟩ := index7 t
  funext y
  have hl : (cfg0.win 7).xinj (grid0.coords t) y = ix2 (y 0) (y 1) := by
    funext a; apply Fin.ext
    match a with
    | ⟨0, _⟩ => show (y 0).val = (y 0).val; rfl
    | ⟨1, _⟩ => show (y 1).val = (y 1).val; rfl
  show ((outsAt0 m c t.val t.isLt).2 : FVec Ideal S256x2560 .f32) ((cfg0.win 7).xinj (grid0.coords t) y) = resultB m c (((cfg0.win 7).blk t).view.emb y)
  rw [hl]
  refine (out_apply7 m c t (y 0) (y 1)).trans ?_
  have hb0 : (((cfg0.win 7).blk t).view.emb y 0).val = win0_7.index t 0 * 256 + 1 * (y 0).val := rfl
  have hb1 : (((cfg0.win 7).blk t).view.emb y 1).val = win0_7.index t 1 * 2560 + 1 * (y 1).val := rfl
  have q0 : rowOf t (y 0) = ((cfg0.win 7).blk t).view.emb y 0 := by
    apply Fin.ext
    rw [hb0, e0]
    show t.val * 256 + (y 0).val = t.val * 256 + 1 * (y 0).val
    omega
  have q1 : y 1 = ((cfg0.win 7).blk t).view.emb y 1 := by
    apply Fin.ext
    rw [hb1, e1]
    omega
  unfold resultB
  dsimp only
  rw [← q0, ← q1]

theorem flushes7 : ∀ t : Fin cfg0.N, (cfg0.win 7).flush t = true :=
  (by decide +kernel : ∀ t : Fin grid0.N, win0_7.flush t = true)

/-- Every index of the result array is in the block of its rows' grid point. -/
theorem covered7 (i : S16384x2560.Idx) : ∃ t : Fin cfg0.N, (cfg0.win 7).flush t = true ∧ i ∈ ((cfg0.win 7).blk t).view.set := by
  have h0 : (i 0).val < 16384 := (i 0).isLt
  have h1 : (i 1).val < 2560 := (i 1).isLt
  have hN : cfg0.N = 64 := N_0
  obtain ⟨t, ht⟩ : ∃ t : Fin cfg0.N, t.val = (i 0).val / 256 := ⟨⟨(i 0).val / 256, by omega⟩, rfl⟩
  refine ⟨t, flushes7 t, ?_⟩
  obtain ⟨e0, e1⟩ := index7 t
  show i ∈ ((View.whole main_v27_1).slice (win0_7.rect t)).set
  rw [View.set_slice_whole, Rect.mem_set_unit]
  intro a
  match a with
  | ⟨0, _⟩ =>
    show win0_7.index t 0 * 256 ≤ (i 0).val ∧ (i 0).val < win0_7.index t 0 * 256 + 256
    omega
  | ⟨1, _⟩ =>
    show win0_7.index t 1 * 2560 ≤ (i 1).val ∧ (i 1).val < win0_7.index t 1 * 2560 + 2560
    omega

/-- The result array ends holding the result. -/
theorem final7 : (dats m 0 c).arrAt 7 cfg0.N = resultB m c :=
  (dats m 0 c).arrAt_eq_of_cover 7 _ (fun t _ => flushed_eq7 m c t) covered7

/-- The call's run: the result arrays hold the plain formulas, and the arguments are as they were. -/
theorem run (ρ : Dev nD → PrngReg) : θ_run defs (onTc (τ := τ) (main (F := Ideal))) ⟨m, fun _ => 0, ρ⟩ fun r => ∀ c : Dev nD,
      r.2.mem ((c : Thread nD τ).loc main_v27_0) = resultA m c ∧
      r.2.mem ((c : Thread nD τ).loc main_v27_1) = resultB m c ∧
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3) ∧
      r.2.mem ((c : Thread nD τ).loc main_arg4) = m ((c : Thread nD τ).loc main_arg4) :=
  (θ_run defs _ _).mono (fun r h c => ⟨(h c).1.trans (final6 m c), (h c).2.1.trans (final7 m c), (h c).2.2⟩) (Value.run_blocks m ρ)

end Cert.FirstIn

end
-- ==== Proof.FirstInRef.lean ====
/-
  The first mLSTM layer's input projections' reference read at an index: it is the plain formulas.
-/
module

public import proofs.«01_k».proof.Proof.Gen.Reference12Ideal.Read
public import proofs.«01_k».proof.Proof.FirstIn

@[expose] public section

set_option maxRecDepth 16384

noncomputable section

namespace Cert.FirstIn

open Cert.Reference12Ideal Cert.Reference12Ideal.Gen Cert.Reference12Ideal.Read
open Idealize.ShloMosaic Idealize.ShloMosaic.TcCoe Idealize.SL.Sem

variable (P : FVec Ideal S32x256x2048 .f32) (S : FVec Ideal S8x1024x2048 .f32) (g : FVec Ideal S2048 .f32) (M : FVec Ideal S16x6x2048 .f32)
  (W : FVec Ideal S2x2048x6160 .f32)

/-- The two inputs' rows in one array. -/
theorem ref_rows : val_main_v2 (F := Ideal) P S = rows P S := by
  funext i
  obtain ⟨r, d, rfl⟩ : ∃ (r : Fin 16384) (d : Fin 2048), i = ix2 r d := ⟨i 0, i 1, funext fun a => match a with | ⟨0, _⟩ => rfl | ⟨1, _⟩ => rfl⟩
  have hd := d.isLt
  have hr := r.isLt
  unfold val_main_v2
  by_cases h : r.val < 8192
  · have e := concatenate_pair_apply_left (t := S16384x2048) (s₁ := S8192x2048) (s₂ := S8192x2048) 0 (val_main_v0 (F := Ideal) P)
      (val_main_v1 (F := Ideal) S) concatenates_S8192x2048_S8192x2048_S16384x2048_d0 (ix2 r d) rfl (ix2 (⟨r.val, h⟩ : Fin 8192) d)
      (by intro b; match b with | ⟨0, _⟩ => rfl | ⟨1, _⟩ => rfl)
    refine e.trans ?_
    rw [val_main_v0_apply, rows_left _ _ _ _ h]
    refine congrArg P (funext fun a => Fin.ext ?_)
    match a with
    | ⟨0, _⟩ => show (r.val * 2048 + d.val) / 524288 = r.val / 256; omega
    | ⟨1, _⟩ => show (r.val * 2048 + d.val) / 2048 % 256 = r.val % 256; omega
    | ⟨2, _⟩ => show (r.val * 2048 + d.val) % 2048 = d.val; omega
  · have e := concatenate_pair_apply_right (t := S16384x2048) (s₁ := S8192x2048) (s₂ := S8192x2048) 0 (val_main_v0 (F := Ideal) P)
      (val_main_v1 (F := Ideal) S) concatenates_S8192x2048_S8192x2048_S16384x2048_d0 (ix2 r d) rfl rfl
      (ix2 (⟨r.val - 8192, by omega⟩ : Fin 8192) d)
      (by intro b hb; match b with | ⟨0, _⟩ => exact absurd rfl hb | ⟨1, _⟩ => rfl)
      (by show r.val - 8192 + 8192 = r.val; omega)
    refine e.trans ?_
    rw [val_main_v1_apply, rows_right _ _ _ _ h]
    refine congrArg S (funext fun a => Fin.ext ?_)
    match a with
    | ⟨0, _⟩ => show ((r.val - 8192) * 2048 + d.val) / 2097152 = (r.val - 8192) / 1024; omega
    | ⟨1, _⟩ => show ((r.val - 8192) * 2048 + d.val) / 2048 % 1024 = (r.val - 8192) % 1024; omega
    | ⟨2, _⟩ => show ((r.val - 8192) * 2048 + d.val) % 2048 = d.val; omega

/-- The joined modulation vectors: row `r` takes the vectors of its sample. -/
theorem ref_mods (r : Fin 16384) (q : Fin 6) (d : Fin 2048) : val_main_v9 (F := Ideal) M (ix3 r q d) = M (ix3 (modRowOf r) q d) := by
  unfold val_main_v9
  by_cases h : r.val < 8192
  · have e := concatenate_pair_apply_left (t := S16384x6x2048) (s₁ := S8192x6x2048) (s₂ := S8192x6x2048) 0 (val_main_v4 (F := Ideal) M)
      (val_main_v8 (F := Ideal) M) concatenates_S8192x6x2048_S8192x6x2048_S16384x6x2048_d0 (ix3 r q d) rfl (ix3 (⟨r.val, h⟩ : Fin 8192) q d)
      (by intro b; match b with | ⟨0, _⟩ => rfl | ⟨1, _⟩ => rfl | ⟨2, _⟩ => rfl)
    refine e.trans ?_
    rw [val_main_v4_apply, val_main_v3_apply]
    refine congrArg M (funext fun a => Fin.ext ?_)
    match a with
    | ⟨0, _⟩ => show 0 + 0 = if r.val < 8192 then 0 else _; rw [if_pos h]
    | ⟨1, _⟩ => rfl
    | ⟨2, _⟩ => rfl
  · have hr := r.isLt
    have e := concatenate_pair_apply_right (t := S16384x6x2048) (s₁ := S8192x6x2048) (s₂ := S8192x6x2048) 0 (val_main_v4 (F := Ideal) M)
      (val_main_v8 (F := Ideal) M) concatenates_S8192x6x2048_S8192x6x2048_S16384x6x2048_d0 (ix3 r q d) rfl rfl
      (ix3 (⟨r.val - 8192, by omega⟩ : Fin 8192) q d)
      (by intro b hb; match b with | ⟨0, _⟩ => exact absurd rfl hb | ⟨1, _⟩ => rfl | ⟨2, _⟩ => rfl)
      (by show r.val - 8192 + 8192 = r.val; omega)
    refine e.trans ?_
    rw [val_main_v8_apply, val_main_v7_apply, val_main_v6_apply, val_main_v5_apply]
    have hq := q.isLt
    have hd := d.isLt
    refine congrArg M (funext fun a => Fin.ext ?_)
    match a with
    | ⟨0, _⟩ =>
      show 1 + (((r.val - 8192) * 6 + q.val) * 2048 + d.val) / 12582912 = if r.val < 8192 then 0 else _
      rw [if_neg h]
      omega
    | ⟨1, _⟩ => show (((r.val - 8192) * 6 + q.val) * 2048 + d.val) / 2048 % 6 = q.val; omega
    | ⟨2, _⟩ => show (((r.val - 8192) * 6 + q.val) * 2048 + d.val) % 2048 = d.val; omega

/-- The shift vectors. -/
theorem ref_sh (r : Fin 16384) (d : Fin 2048) : val_main_v29 (F := Ideal) M (ix2 r d) = M (ix3 (modRowOf r) 0 d) := by
  rw [← ref_mods M r]
  pointwise [val_main_v29, val_main_v28]

/-- The scale vectors. -/
theorem ref_sc (r : Fin 16384) (d : Fin 2048) : val_main_v24 (F := Ideal) M (ix2 r d) = M (ix3 (modRowOf r) 1 d) := by
  rw [← ref_mods M r]
  pointwise [val_main_v24, val_main_v23]

/-- The normalised, scaled and shifted rows. -/
theorem ref_hin (r : Fin 16384) (d : Fin 2048) : val_main_v30 (F := Ideal) P S g M (ix2 r d) = hin (rows P S) g M r d := by
  unfold hin
  rw [← ref_rows P S, ← ref_sh M r d, ← ref_sc M r d]
  pointwise [val_main_v30, val_main_v27, val_main_v26, val_main_v25, val_main_cst_2, val_main_v22, val_main_v21, val_main_v20, val_main_v19,
    val_main_v18, val_main_v17, val_main_v16, val_main_v15, val_main_cst_1, val_main_v14, val_main_v13, val_main_cst_0, val_main_v12, val_main_v11,
    val_main_cst, val_main_v10]
  rfl

/-- The product with the whole input weight. -/
theorem ref_prod (r : Fin 16384) (f : Fin 6160) :
    (val_main_v33 (F := Ideal) P S g M W (ix2 r f) : EReal) = ∑ k : Fin 2048, hin (rows P S) g M r k * W (ix3 0 k f) := by
  simp only [← ref_hin]
  pointwise [val_main_v33, val_main_v32, val_main_v31]

/-- Three arrays side by side, read in the first. -/
theorem ref_cat3_0 (x y : FVec Ideal S16384x1024 .f32) (z : FVec Ideal S16384x2048 .f32) (j : S16384x4096.Idx) (i : S16384x1024.Idx)
    (hi : ∀ b : Fin 2, b ≠ 1 → (i b).val = (j b).val) (ha : 0 + (i 1).val = (j 1).val) :
    concatenate S16384x4096 1 [⟨S16384x1024, x⟩, ⟨S16384x1024, y⟩, ⟨S16384x2048, z⟩] concatenates_S16384x1024_S16384x1024_S16384x2048_S16384x4096_d1 j = x i :=
  concatenate_apply_piece (t := S16384x4096) 1 [⟨S16384x1024, x⟩, ⟨S16384x1024, y⟩, ⟨S16384x2048, z⟩] concatenates_S16384x1024_S16384x1024_S16384x2048_S16384x4096_d1
    j 0 (by show 0 < 3; omega) S16384x1024 x rfl rfl 0 rfl i hi ha

/-- Three arrays side by side, read in the second. -/
theorem ref_cat3_1 (x y : FVec Ideal S16384x1024 .f32) (z : FVec Ideal S16384x2048 .f32) (j : S16384x4096.Idx) (i : S16384x1024.Idx)
    (hi : ∀ b : Fin 2, b ≠ 1 → (i b).val = (j b).val) (ha : 1024 + (i 1).val = (j 1).val) :
    concatenate S16384x4096 1 [⟨S16384x1024, x⟩, ⟨S16384x1024, y⟩, ⟨S16384x2048, z⟩] concatenates_S16384x1024_S16384x1024_S16384x2048_S16384x4096_d1 j = y i :=
  concatenate_apply_piece (t := S16384x4096) 1 [⟨S16384x1024, x⟩, ⟨S16384x1024, y⟩, ⟨S16384x2048, z⟩] concatenates_S16384x1024_S16384x1024_S16384x2048_S16384x4096_d1
    j 1 (by show 1 < 3; omega) S16384x1024 y rfl rfl 1024 rfl i hi ha

/-- Three arrays side by side, read in the third. -/
theorem ref_cat3_2 (x y : FVec Ideal S16384x1024 .f32) (z : FVec Ideal S16384x2048 .f32) (j : S16384x4096.Idx) (i : S16384x2048.Idx)
    (hi : ∀ b : Fin 2, b ≠ 1 → (i b).val = (j b).val) (ha : 2048 + (i 1).val = (j 1).val) :
    concatenate S16384x4096 1 [⟨S16384x1024, x⟩, ⟨S16384x1024, y⟩, ⟨S16384x2048, z⟩] concatenates_S16384x1024_S16384x1024_S16384x2048_S16384x4096_d1 j = z i :=
  concatenate_apply_piece (t := S16384x4096) 1 [⟨S16384x1024, x⟩, ⟨S16384x1024, y⟩, ⟨S16384x2048, z⟩] concatenates_S16384x1024_S16384x1024_S16384x2048_S16384x4096_d1
    j 2 (by show 2 < 3; omega) S16384x2048 z rfl rfl 2048 rfl i hi ha

/-- The reference's result 0. -/
theorem ref_projA (r : Fin 16384) (f : Fin 4096) : (val_main_v46 (F := Ideal) P S g M W (ix2 r f) : EReal) = projA (rows P S) g M (wA W) r f := by
  have hf := f.isLt
  unfold projA
  rw [val_main_v46_apply]
  show @Eq EReal (val_main_v41 (F := Ideal) P S g M W (ix2 r f)) _
  unfold val_main_v41
  by_cases h1 : f.val < 1024
  · refine (ref_cat3_0 _ _ _ (ix2 r f) (ix2 r (⟨f.val, h1⟩ : Fin 1024))
      (by intro b hb; match b with | ⟨0, _⟩ => rfl | ⟨1, _⟩ => exact absurd rfl hb) (by show 0 + f.val = f.val; omega)).trans ?_
    rw [val_main_v34_apply]
    refine Eq.trans (congrArg (val_main_v33 (F := Ideal) P S g M W) (a₂ := ix2 r (⟨f.val, by omega⟩ : Fin 6160)) (funext fun a => Fin.ext ?_)) ?_
    · match a with
      | ⟨0, _⟩ => rfl
      | ⟨1, _⟩ => rfl
    · rw [ref_prod]
      exact Finset.sum_congr rfl fun k _ => by rw [wA_plain W 0 k f (by omega)]
  · by_cases h2 : f.val < 2048
    · refine (ref_cat3_1 _ _ _ (ix2 r f) (ix2 r (⟨f.val - 1024, by omega⟩ : Fin 1024))
        (by intro b hb; match b with | ⟨0, _⟩ => rfl | ⟨1, _⟩ => exact absurd rfl hb) (by show 1024 + (f.val - 1024) = f.val; omega)).trans ?_
      rw [val_main_v40_apply, val_main_v39_apply, val_main_v35_apply]
      show @Eq EReal ((val_main_v33 (F := Ideal) P S g M W _ : EReal) * keyScale) _
      refine Eq.trans (congrArg (fun j => (val_main_v33 (F := Ideal) P S g M W j : EReal) * keyScale) (a₂ := ix2 r (⟨f.val, by omega⟩ : Fin 6160)) (funext fun a => Fin.ext ?_)) ?_
      · match a with
        | ⟨0, _⟩ => rfl
        | ⟨1, _⟩ => show 1024 + (f.val - 1024) = f.val; omega
      · dsimp only
        rw [ref_prod, ← sum_scale]
        exact Finset.sum_congr rfl fun k _ => by rw [wA_key W 0 k f (by omega)]
    · refine (ref_cat3_2 _ _ _ (ix2 r f) (ix2 r (⟨f.val - 2048, by omega⟩ : Fin 2048))
        (by intro b hb; match b with | ⟨0, _⟩ => rfl | ⟨1, _⟩ => exact absurd rfl hb) (by show 2048 + (f.val - 2048) = f.val; omega)).trans ?_
      rw [val_main_v36_apply]
      refine Eq.trans (congrArg (val_main_v33 (F := Ideal) P S g M W) (a₂ := ix2 r (⟨f.val, by omega⟩ : Fin 6160)) (funext fun a => Fin.ext ?_)) ?_
      · match a with
        | ⟨0, _⟩ => rfl
        | ⟨1, _⟩ => show 2048 + (f.val - 2048) = f.val; omega
      · rw [ref_prod]
        exact Finset.sum_congr rfl fun k _ => by rw [wA_plain W 0 k f (by omega)]

theorem ref_eqA : (val_main_v46 (F := Ideal) P S g M W : FVec Ideal S16384x4096 .bf16) = fun i => projA (rows P S) g M (wA W) (i 0) (i 1) := by
  funext i
  obtain ⟨r, d, rfl⟩ : ∃ (r : Fin 16384) (d : Fin 4096), i = ix2 r d := ⟨i 0, i 1, funext fun a => match a with | ⟨0, _⟩ => rfl | ⟨1, _⟩ => rfl⟩
  exact ref_projA P S g M W r d

/-- The reference's result 1. -/
theorem ref_projB (r : Fin 16384) (f : Fin 2560) : (val_main_v47 (F := Ideal) P S g M W (ix2 r f) : EReal) = projB (rows P S) g M (wB W) r f := by
  have hf := f.isLt
  have hr := r.isLt
  unfold projB val_main_v47
  by_cases h1 : f.val < 2048
  · refine (concatenate_pair_apply_left (t := S16384x2560) (s₁ := S16384x2048) (s₂ := S16384x512) 1 _ _ concatenates_S16384x2048_S16384x512_S16384x2560_d1 (ix2 r f) rfl
      (ix2 r (⟨f.val, h1⟩ : Fin 2048)) (by intro b; match b with | ⟨0, _⟩ => rfl | ⟨1, _⟩ => rfl)).trans ?_
    rw [val_main_v37_apply]
    refine Eq.trans (congrArg (val_main_v33 (F := Ideal) P S g M W) (a₂ := ix2 r (colB f)) (funext fun a => Fin.ext ?_)) ?_
    · match a with
      | ⟨0, _⟩ => rfl
      | ⟨1, _⟩ => show 4096 + f.val = if f.val < 2048 then 4096 + f.val else _; rw [if_pos h1]
    · rw [ref_prod]
      exact Finset.sum_congr rfl fun k _ => by rw [wB_used W 0 k f (by omega)]
  · refine (concatenate_pair_apply_right (t := S16384x2560) (s₁ := S16384x2048) (s₂ := S16384x512) 1 _ _ concatenates_S16384x2048_S16384x512_S16384x2560_d1 (ix2 r f) rfl rfl
      (ix2 r (⟨f.val - 2048, by omega⟩ : Fin 512)) (by intro b hb; match b with | ⟨0, _⟩ => rfl | ⟨1, _⟩ => exact absurd rfl hb)
      (by show f.val - 2048 + 2048 = f.val; omega)).trans ?_
    rw [val_main_v45_apply]
    unfold val_main_v44 pad
    by_cases h2 : 4 ≤ (f.val - 2048) % 128
    · refine (dif_neg fun hin => ?_).trans ?_
      · have h3 : 0 ≤ (r.val * 512 + (f.val - 2048)) % 128 ∧ ((r.val * 512 + (f.val - 2048)) % 128 - 0) % (0 + 1) = 0
            ∧ ((r.val * 512 + (f.val - 2048)) % 128 - 0) / (0 + 1) < 4 := hin 2
        omega
      · refine Eq.trans (b := (0 : EReal)) ?_ ?_
        · show @Eq EReal (((0#32 : BitVec 32).toInt : ℝ) : EReal) 0
          simp
        · refine (Finset.sum_eq_zero fun k _ => ?_).symm
          rw [wB_unused W 0 k f (by omega), mul_zero]
    · refine (dif_pos ?_).trans ?_
      · intro a
        match a with
        | ⟨0, _⟩ =>
          show 0 ≤ (r.val * 512 + (f.val - 2048)) / 512 ∧ ((r.val * 512 + (f.val - 2048)) / 512 - 0) % (0 + 1) = 0
            ∧ ((r.val * 512 + (f.val - 2048)) / 512 - 0) / (0 + 1) < 16384
          omega
        | ⟨1, _⟩ =>
          show 0 ≤ (r.val * 512 + (f.val - 2048)) / 128 % 4 ∧ ((r.val * 512 + (f.val - 2048)) / 128 % 4 - 0) % (0 + 1) = 0
            ∧ ((r.val * 512 + (f.val - 2048)) / 128 % 4 - 0) / (0 + 1) < 4
          omega
        | ⟨2, _⟩ =>
          show 0 ≤ (r.val * 512 + (f.val - 2048)) % 128 ∧ ((r.val * 512 + (f.val - 2048)) % 128 - 0) % (0 + 1) = 0
            ∧ ((r.val * 512 + (f.val - 2048)) % 128 - 0) / (0 + 1) < 4
          omega
      refine Eq.trans (congrArg (val_main_v43 (F := Ideal) P S g M W)
        (a₂ := ix3 r (⟨(f.val - 2048) / 128, by omega⟩ : Fin 4) (⟨(f.val - 2048) % 128, by omega⟩ : Fin 4)) (funext fun a => Fin.ext ?_)) ?_
      · match a with
        | ⟨0, _⟩ => show ((r.val * 512 + (f.val - 2048)) / 512 - 0) / (0 + 1) = r.val; omega
        | ⟨1, _⟩ => show ((r.val * 512 + (f.val - 2048)) / 128 % 4 - 0) / (0 + 1) = (f.val - 2048) / 128; omega
        | ⟨2, _⟩ => show ((r.val * 512 + (f.val - 2048)) % 128 - 0) / (0 + 1) = (f.val - 2048) % 128; omega
      rw [val_main_v43_apply, val_main_v42_apply, val_main_v38_apply]
      refine Eq.trans (congrArg (val_main_v33 (F := Ideal) P S g M W) (a₂ := ix2 r (colB f)) (funext fun a => Fin.ext ?_)) ?_
      · match a with
        | ⟨0, _⟩ => show ((r.val * 4 + (f.val - 2048) % 128) * 4 + (f.val - 2048) / 128) / 16 = r.val; omega
        | ⟨1, _⟩ =>
          show 6144 + ((r.val * 4 + (f.val - 2048) % 128) * 4 + (f.val - 2048) / 128) % 16
            = if f.val < 2048 then _ else 6144 + ((f.val - 2048) % 4 * 4 + (f.val - 2048) / 128)
          rw [if_neg h1]
          omega
      · rw [ref_prod]
        exact Finset.sum_congr rfl fun k _ => by rw [wB_used W 0 k f (by omega)]

theorem ref_eqB : (val_main_v47 (F := Ideal) P S g M W : FVec Ideal S16384x2560 .f32) = fun i => projB (rows P S) g M (wB W) (i 0) (i 1) := by
  funext i
  obtain ⟨r, d, rfl⟩ : ∃ (r : Fin 16384) (d : Fin 2560), i = ix2 r d := ⟨i 0, i 1, funext fun a => match a with | ⟨0, _⟩ => rfl | ⟨1, _⟩ => rfl⟩
  exact ref_projB P S g M W r d

end Cert.FirstIn

end
-- ==== Proof.FirstOut.lean ====
/-
  The first mLSTM layer's output projection: the rows times the weight, normalised, gated and added to the stream, whose rows come from two arrays.
-/
module

public import proofs.«01_k».proof.Proof.Gen.Kernel13Ideal.Value
public import Idealize.ShloMosaic.Lib.Pointwise
public import Idealize.ShloMosaic.Lib.StableHlo.Run
public import Idealize.ShloMosaic.Lib.IdealHost

@[expose] public section

set_option maxRecDepth 16384

noncomputable section

namespace Cert.FirstOut

open Cert.Kernel13Ideal Cert.Kernel13Ideal.Gen
open Idealize.ShloMosaic Idealize.ShloMosaic.TcCoe Idealize.SL.Sem

theorem off2 : (![0, 0] : Fin 2 → Nat) = fun _ => 0 := funext fun a => by fin_cases a <;> rfl
theorem off3 : (![0, 0, 0] : Fin 3 → Nat) = fun _ => 0 := funext fun a => by fin_cases a <;> rfl

/-! ## The plain formula -/

/-- The reciprocal root mean square of a row of 2048 entries, as the kernel and the plain formula both print it. -/
def rs (v : Fin 2048 → EReal) : EReal :=
  Ideal.rsqrt (Ideal.div (∑ k, v k * v k) (Ideal.ofBits .f32 0x45000000#32) + Ideal.ofBits .f32 0x358637BD#32)

/-- The modulation row of a row: the first for the context rows, then one for every 1024 rows. -/
def modRowOf (r : Fin 16384) : Fin 16 := ⟨if r.val < 8192 then 0 else 1 + (r.val - 8192) / 1024, by split <;> omega⟩

/-- The rows of the two inputs in one array: first the context batch's, then the sample batch's. -/
def rows (P : FVec Ideal S32x256x2048 .f32) (S : FVec Ideal S8x1024x2048 .f32) : FVec Ideal S16384x2048 .f32 := fun i =>
  if h : (i 0).val < 8192 then P (ix3 (⟨(i 0).val / 256, by omega⟩ : Fin 32) (⟨(i 0).val % 256, by omega⟩ : Fin 256) (i 1))
  else S (ix3 (⟨((i 0).val - 8192) / 1024, by have : (i 0).val < 16384 := (i 0).isLt; omega⟩ : Fin 8) (⟨((i 0).val - 8192) % 1024, by omega⟩ : Fin 1024) (i 1))

theorem rows_left (P : FVec Ideal S32x256x2048 .f32) (S : FVec Ideal S8x1024x2048 .f32) (r : Fin 16384) (d : Fin 2048) (h : r.val < 8192) :
    rows P S (ix2 r d) = P (ix3 (⟨r.val / 256, by omega⟩ : Fin 32) (⟨r.val % 256, by omega⟩ : Fin 256) d) := dif_pos h
theorem rows_right (P : FVec Ideal S32x256x2048 .f32) (S : FVec Ideal S8x1024x2048 .f32) (r : Fin 16384) (d : Fin 2048) (h : ¬r.val < 8192) :
    rows P S (ix2 r d) = S (ix3 (⟨(r.val - 8192) / 1024, by have := r.isLt; omega⟩ : Fin 8) (⟨(r.val - 8192) % 1024, by omega⟩ : Fin 1024) d) := dif_neg h

section Formula
variable (Y : FVec Ideal S16384x2048 .bf16) (W : FVec Ideal S2x2048x2048 .f32) (X : FVec Ideal S16384x2048 .f32)
  (g : FVec Ideal S2048 .f32) (M : FVec Ideal S16x6x2048 .f32)

/-- The product, by the first of the two weights. -/
def lin (r : Fin 16384) (d : Fin 2048) : EReal := ∑ k : Fin 2048, Y (ix2 r k) * W (ix3 0 k d)

/-- The stream after the mixer. -/
def out (r : Fin 16384) (d : Fin 2048) : EReal :=
  X (ix2 r d) + M (ix3 (modRowOf r) 2 d) * (lin Y W r d * rs (lin Y W r) * g (ix1 d))
end Formula

/-! ## One grid point of each batch -/

section Cases
variable {F : FTy → Type} [FloatOps F] (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S512x2048 .bf16) (harg3 : arg3.IsWhole) (arg4 : Memref sig .tc .vmem S1x2048x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x6x2048 .f32) (harg7 : arg7.IsWhole) (arg8 : Memref sig .tc .vmem S512x2048 .f32) (harg8 : arg8.IsWhole)
  (x0 : Vec F S512x2048 .f32) (x1 : Vec F S512x2048 .f32) (x2 : Vec F S512x2048 .bf16) (x3 : Vec F S1x2048x2048 .bf16) (x4 : Vec F S1x2048 .f32) (x5 : Vec F S1x2048 .f32) (x6 : Vec F S1x6x2048 .f32)

/-- A point of the context batch computes on the first block of rows. -/
theorem out_A7 (hc0 : cond0_0 i) (hc1 : ¬cond0_1 i) :
    out0_A_7 c i arg1 harg1 arg2 harg2 arg3 harg3 arg4 harg4 arg5 harg5 arg6 harg6 arg7 harg7 arg8 harg8 hc0 hc1 x0 x1 x2 x3 x4 x5 x6
      = k0_pay1 x2 x3 x4 x0 (View.ld x6 (Rect.unit (s := S1x6x2048) ![0, 2, 0] S1x1x2048.size inb_S1x6x2048_S1x1x2048_0_2_0)) x5 := by
  unfold out0_A_7
  rw [View.read_writes_eq_canon _ _ _ (cover0_A_7 c i arg1 harg1 arg2 harg2 arg3 harg3 arg4 harg4 arg5 harg5 arg6 harg6 arg7 harg7 arg8 harg8 hc0 hc1 x0 x1 x2 x3 x4 x5 x6)]
  unfold kernelRun0_A
  dsimp only
  sl_unfold_words
  rw [View.canon_unit_zero off2]
  simp only [View.readAt_eq_ld, harg1.read_unread, harg2.read_unread, harg3.read_unread, harg4.read_unread, harg5.read_unread, harg6.read_unread, harg7.read_unread,
    View.ld_unit_zero (S := S512x2048) off2, View.ld_unit_zero (S := S1x2048) off2, View.ld_unit_zero (S := S1x2048x2048) off3]

/-- A point of the sample batch computes on the second block of rows. -/
theorem out_B7 (hc0 : ¬cond0_0 i) (hc1 : cond0_1 i) :
    out0_B_7 c i arg1 harg1 arg2 harg2 arg3 harg3 arg4 harg4 arg5 harg5 arg6 harg6 arg7 harg7 arg8 harg8 hc0 hc1 x0 x1 x2 x3 x4 x5 x6
      = k0_pay2 x2 x3 x4 x1 (View.ld x6 (Rect.unit (s := S1x6x2048) ![0, 2, 0] S1x1x2048.size inb_S1x6x2048_S1x1x2048_0_2_0)) x5 := by
  unfold out0_B_7
  rw [View.read_writes_eq_canon _ _ _ (cover0_B_7 c i arg1 harg1 arg2 harg2 arg3 harg3 arg4 harg4 arg5 harg5 arg6 harg6 arg7 harg7 arg8 harg8 hc0 hc1 x0 x1 x2 x3 x4 x5 x6)]
  unfold kernelRun0_B
  dsimp only
  sl_unfold_words
  rw [View.canon_unit_zero off2]
  simp only [View.readAt_eq_ld, harg1.read_unread, harg2.read_unread, harg3.read_unread, harg4.read_unread, harg5.read_unread, harg6.read_unread, harg7.read_unread,
    View.ld_unit_zero (S := S512x2048) off2, View.ld_unit_zero (S := S1x2048) off2, View.ld_unit_zero (S := S1x2048x2048) off3]

end Cases

/-! ## The body's stored value at an index -/

/-- A block's product plus the bias. -/
def blin (y : FVec Ideal S512x2048 .bf16) (w : FVec Ideal S1x2048x2048 .bf16) (b : FVec Ideal S1x2048 .f32) (r : Fin 512) (d : Fin 2048) : EReal :=
  (∑ k : Fin 2048, y (ix2 r k) * w (ix3 0 k d)) + b (ix2 0 d)

theorem pay1_apply (y : FVec Ideal S512x2048 .bf16) (w : FVec Ideal S1x2048x2048 .bf16) (b : FVec Ideal S1x2048 .f32) (x : FVec Ideal S512x2048 .f32)
    (gate : FVec Ideal S1x1x2048 .f32) (g : FVec Ideal S1x2048 .f32) (r : Fin 512) (d : Fin 2048) :
    (k0_pay1 (F := Ideal) y w b x gate g (ix2 r d) : EReal)
      = x (ix2 r d) + gate (ix3 0 0 d) * (blin y w b r d * rs (blin y w b r) * g (ix2 0 d)) := by
  pointwise [k0_pay1]
  rfl

theorem pay2_apply (y : FVec Ideal S512x2048 .bf16) (w : FVec Ideal S1x2048x2048 .bf16) (b : FVec Ideal S1x2048 .f32) (x : FVec Ideal S512x2048 .f32)
    (gate : FVec Ideal S1x1x2048 .f32) (g : FVec Ideal S1x2048 .f32) (r : Fin 512) (d : Fin 2048) :
    (k0_pay2 (F := Ideal) y w b x gate g (ix2 r d) : EReal)
      = x (ix2 r d) + gate (ix3 0 0 d) * (blin y w b r d * rs (blin y w b r) * g (ix2 0 d)) := by
  pointwise [k0_pay2]
  rfl

/-- Row 2 of a block of six modulation rows. -/
theorem ld_mod2 (x : FVec Ideal S1x6x2048 .f32) (d : Fin 2048) :
    View.ld (Val := Elt Ideal) (e' := .f32) x (Rect.unit (s := S1x6x2048) ![0, 2, 0] S1x1x2048.size inb_S1x6x2048_S1x1x2048_0_2_0) (ix3 0 0 d) = x (ix3 0 2 d) := by
  show x _ = x _
  refine congrArg x (funext fun a => Fin.ext ?_)
  match a with
  | ⟨0, _⟩ => rfl
  | ⟨1, _⟩ => rfl
  | ⟨2, _⟩ => show 0 + 1 * d.val = d.val; omega

/-! ## The blocks -/

variable (m : (ℓ : Loc nD τ sig) → Buf (Elt Ideal) ℓ) (c : Dev nD)

/-- The arguments: the mixer's rows, the weight, the two batches' rows, the gain and the modulation rows. -/
abbrev argY : FVec Ideal S16384x2048 .bf16 := m ((c : Thread nD τ).loc main_arg0)
abbrev argW : FVec Ideal S2x2048x2048 .f32 := m ((c : Thread nD τ).loc main_arg1)
abbrev argP : FVec Ideal S32x256x2048 .f32 := m ((c : Thread nD τ).loc main_arg2)
abbrev argS : FVec Ideal S8x1024x2048 .f32 := m ((c : Thread nD τ).loc main_arg3)
abbrev argG : FVec Ideal S2048 .f32 := m ((c : Thread nD τ).loc main_arg4)
abbrev argMod : FVec Ideal S16x6x2048 .f32 := m ((c : Thread nD τ).loc main_arg5)

/-- Row `r` of row block `t`, and the modulation row the block is given. -/
abbrev rowOf (t : Fin cfg0.N) (r : Fin 512) : Fin 16384 := ⟨t.val * 512 + r.val, by have := lt_of_lt_of_eq t.isLt (show cfg0.N = 32 from N_0); omega⟩
abbrev modOf (t : Fin cfg0.N) : Fin 16 := ⟨if t.val < 16 then 0 else (t.val - 16) / 2 + 1, by have := lt_of_lt_of_eq t.isLt (show cfg0.N = 32 from N_0); split <;> omega⟩

theorem modRowOf_rowOf (t : Fin cfg0.N) (r : Fin 512) : modRowOf (rowOf t r) = modOf t := by
  apply Fin.ext
  show (if t.val * 512 + r.val < 8192 then 0 else 1 + (t.val * 512 + r.val - 8192) / 1024) = if t.val < 16 then 0 else (t.val - 16) / 2 + 1
  have := r.isLt
  split <;> split <;> omega

theorem index0 : ∀ t : Fin cfg0.N, win0_0.index t 0 = (if t.val < 16 then t.val else 15) ∧ win0_0.index t 1 = 0 :=
  (by decide +kernel : ∀ t : Fin grid0.N, win0_0.index t 0 = (if t.val < 16 then t.val else 15) ∧ win0_0.index t 1 = 0)
theorem index1 : ∀ t : Fin cfg0.N, win0_1.index t 0 = (if t.val < 16 then 0 else t.val - 16) ∧ win0_1.index t 1 = 0 :=
  (by decide +kernel : ∀ t : Fin grid0.N, win0_1.index t 0 = (if t.val < 16 then 0 else t.val - 16) ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem index6 : ∀ t : Fin cfg0.N, win0_6.index t 0 = (if t.val < 16 then 0 else (t.val - 16) / 2 + 1) ∧ win0_6.index t 1 = 0 ∧ win0_6.index t 2 = 0 :=
  (by decide +kernel : ∀ t : Fin grid0.N, win0_6.index t 0 = (if t.val < 16 then 0 else (t.val - 16) / 2 + 1) ∧ win0_6.index t 1 = 0 ∧ win0_6.index t 2 = 0)
theorem index7 : ∀ t : Fin cfg0.N, win0_7.index t 0 = t.val ∧ win0_7.index t 1 = 0 :=
  (by decide +kernel : ∀ t : Fin grid0.N, win0_7.index t 0 = t.val ∧ win0_7.index t 1 = 0)

/-- The context batch's rows as the launch finds them: the batch's array, one row after another. -/
theorem V_p (i : Fin 8192) (d : Fin 2048) : (V m c main_v2 : FVec Ideal S8192x2048 .f32) (ix2 i d)
    = argP m c (ix3 (⟨i.val / 256, by omega⟩ : Fin 32) (⟨i.val % 256, by omega⟩ : Fin 256) d) := by
  have e : @Eq (FVec Ideal S8192x2048 .f32) (V m c main_v2) (shapeCast S8192x2048 (argP m c) shapeCasts_S32x256x2048_S8192x2048) := by
    show StableHlo.after hostOps0 _ main_v2 = _
    after_results_simp
    rfl
  rw [e]
  refine shapeCast_apply (argP m c) shapeCasts_S32x256x2048_S8192x2048 (ix2 i d) _ ?_
  rewrite [Shape.rowMajor_val_three, Shape.rowMajor_val_two]
  have hi := i.isLt
  have hd := d.isLt
  show (i.val / 256 * 256 + i.val % 256) * 2048 + d.val = i.val * 2048 + d.val
  omega

/-- The block of the context batch's rows, at a point of that batch. -/
theorem blk_p (t : Fin cfg0.N) (h : t.val < 16) (r : Fin 512) (d : Fin 2048) :
    (iblk m c 0 t : FVec Ideal S512x2048 .f32) (ix2 r d) = rows (argP m c) (argS m c) (ix2 (rowOf t r) d) := by
  have hN := lt_of_lt_of_eq t.isLt (show cfg0.N = 32 from N_0)
  have hr := r.isLt
  rw [rows_left _ _ _ _ (by show t.val * 512 + r.val < 8192; have := r.isLt; omega)]
  refine Eq.trans ?_ (V_p m c (⟨t.val * 512 + r.val, by omega⟩ : Fin 8192) d)
  unfold iblk
  rw [View.read_apply]
  show V m c main_v2 _ = _
  obtain ⟨h0, h1⟩ := index0 t
  rw [if_pos h] at h0
  refine congrArg (V m c main_v2) (funext fun a => Fin.ext ?_)
  match a with
  | ⟨0, _⟩ => show win0_0.index t 0 * 512 + 1 * r.val = t.val * 512 + r.val; omega
  | ⟨1, _⟩ => show win0_0.index t 1 * 2048 + 1 * d.val = d.val; omega

/-- The sample batch's rows as the launch finds them: the batch's array, one row after another. -/
theorem V_s (i : Fin 8192) (d : Fin 2048) : (V m c main_v3 : FVec Ideal S8192x2048 .f32) (ix2 i d)
    = argS m c (ix3 (⟨i.val / 1024, by omega⟩ : Fin 8) (⟨i.val % 1024, by omega⟩ : Fin 1024) d) := by
  have e : @Eq (FVec Ideal S8192x2048 .f32) (V m c main_v3) (shapeCast S8192x2048 (argS m c) shapeCasts_S8x1024x2048_S8192x2048) := by
    show StableHlo.after hostOps0 _ main_v3 = _
    after_results_simp
    rfl
  rw [e]
  refine shapeCast_apply (argS m c) shapeCasts_S8x1024x2048_S8192x2048 (ix2 i d) _ ?_
  rewrite [Shape.rowMajor_val_three, Shape.rowMajor_val_two]
  have hi := i.isLt
  have hd := d.isLt
  show (i.val / 1024 * 1024 + i.val % 1024) * 2048 + d.val = i.val * 2048 + d.val
  omega

/-- The block of the sample batch's rows, at a point of that batch. -/
theorem blk_s (t : Fin cfg0.N) (h : ¬t.val < 16) (r : Fin 512) (d : Fin 2048) :
    (iblk m c 1 t : FVec Ideal S512x2048 .f32) (ix2 r d) = rows (argP m c) (argS m c) (ix2 (rowOf t r) d) := by
  have hN := lt_of_lt_of_eq t.isLt (show cfg0.N = 32 from N_0)
  have hr := r.isLt
  rw [rows_right _ _ _ _ (by show ¬t.val * 512 + r.val < 8192; omega)]
  refine Eq.trans ?_ (V_s m c (⟨t.val * 512 + r.val - 8192, by omega⟩ : Fin 8192) d)
  unfold iblk
  rw [View.read_apply]
  show V m c main_v3 _ = _
  obtain ⟨h0, h1⟩ := index1 t
  rw [if_neg h] at h0
  refine congrArg (V m c main_v3) (funext fun a => Fin.ext ?_)
  match a with
  | ⟨0, _⟩ => show win0_1.index t 0 * 512 + 1 * r.val = t.val * 512 + r.val - 8192; omega
  | ⟨1, _⟩ => show win0_1.index t 1 * 2048 + 1 * d.val = d.val; omega

/-- The block of the mixer's rows. -/
theorem blk_y (t : Fin cfg0.N) (r : Fin 512) (d : Fin 2048) :
    (iblk m c 2 t : FVec Ideal S512x2048 .bf16) (ix2 r d) = argY m c (ix2 (rowOf t r) d) := by
  unfold iblk
  rw [View.read_apply]
  show V m c main_arg0 _ = _
  rw [V_main_arg0]
  obtain ⟨h0, h1⟩ := index2 t
  refine congrArg (m ((c : Thread nD τ).loc main_arg0)) (funext fun a => Fin.ext ?_)
  match a with
  | ⟨0, _⟩ => show win0_2.index t 0 * 512 + 1 * r.val = t.val * 512 + r.val; omega
  | ⟨1, _⟩ => show win0_2.index t 1 * 2048 + 1 * d.val = d.val; omega

/-- The weight as the launch finds it: the float32 weight. -/
theorem V_w (l : Fin 2) (k : Fin 2048) (f : Fin 2048) :
    (V m c main_v0 : FVec Ideal S2x2048x2048 .bf16) (ix3 l k f) = argW m c (ix3 l k f) := by
  have e : @Eq (FVec Ideal S2x2048x2048 .bf16) (V m c main_v0) (truncf (F := Ideal) (φ := .f32) .bf16 (argW m c) bitsLt_bf16_f32) := by
    show StableHlo.after hostOps0 _ main_v0 = _
    after_results_simp
  rw [e]
  rfl

/-- The weight's block: the first of the two weights. -/
theorem blk_w (t : Fin cfg0.N) (k : Fin 2048) (f : Fin 2048) :
    (iblk m c 3 t : FVec Ideal S1x2048x2048 .bf16) (ix3 0 k f) = argW m c (ix3 0 k f) := by
  rw [← V_w m c 0 k f]
  unfold iblk
  rw [View.read_apply]
  show V m c main_v0 _ = _
  obtain ⟨h0, h1, h2⟩ := index3 t
  refine congrArg (V m c main_v0) (funext fun a => Fin.ext ?_)
  match a with
  | ⟨0, _⟩ => show win0_3.index t 0 * 1 + 1 * 0 = 0; omega
  | ⟨1, _⟩ => show win0_3.index t 1 * 2048 + 1 * k.val = k.val; omega
  | ⟨2, _⟩ => show win0_3.index t 2 * 2048 + 1 * f.val = f.val; omega

/-- The bias as the launch finds it: zeros. -/
theorem V_bias (d : Fin 2048) : @Eq EReal ((V m c main_v4 : FVec Ideal S1x2048 .f32) (ix2 0 d)) 0 := by
  have e : @Eq (FVec Ideal S1x2048 .f32) (V m c main_v4) (shapeCast S1x2048 (broadcastInDim S2048 ![] bcast_S_S2048 (constant (F := Ideal) S_ .f32 0x00000000#32)) shapeCasts_S2048_S1x2048) := by
    show StableHlo.after hostOps0 _ main_v4 = _
    after_results_simp
    rfl
  rw [e]
  pointwise

/-- The bias's block: zeros. -/
theorem blk_bias (t : Fin cfg0.N) (d : Fin 2048) : @Eq EReal ((iblk m c 4 t : FVec Ideal S1x2048 .f32) (ix2 0 d)) 0 := by
  rw [← V_bias m c d]
  unfold iblk
  rw [View.read_apply]
  show V m c main_v4 _ = _
  refine congrArg (V m c main_v4) (funext fun a => Fin.ext ?_)
  match a with
  | ⟨0, _⟩ => rfl
  | ⟨1, _⟩ => show 0 * 2048 + 1 * d.val = d.val; omega

/-- The gain as the launch finds it. -/
theorem V_gain (d : Fin 2048) : (V m c main_v5 : FVec Ideal S1x2048 .f32) (ix2 0 d) = argG m c (ix1 d) := by
  have e : @Eq (FVec Ideal S1x2048 .f32) (V m c main_v5) (shapeCast S1x2048 (argG m c) shapeCasts_S2048_S1x2048) := by
    show StableHlo.after hostOps0 _ main_v5 = _
    after_results_simp
    rfl
  rw [e]
  pointwise

/-- The gain's block: all of it. -/
theorem blk_gain (t : Fin cfg0.N) (d : Fin 2048) :
    (iblk m c 5 t : FVec Ideal S1x2048 .f32) (ix2 0 d) = argG m c (ix1 d) := by
  rw [← V_gain m c d]
  unfold iblk
  rw [View.read_apply]
  show V m c main_v5 _ = _
  refine congrArg (V m c main_v5) (funext fun a => Fin.ext ?_)
  match a with
  | ⟨0, _⟩ => rfl
  | ⟨1, _⟩ => show 0 * 2048 + 1 * d.val = d.val; omega

/-- The six modulation rows of a block. -/
theorem blk_mod (t : Fin cfg0.N) (q : Fin 6) (d : Fin 2048) :
    (iblk m c 6 t : FVec Ideal S1x6x2048 .f32) (ix3 0 q d) = argMod m c (ix3 (modOf t) q d) := by
  unfold iblk
  rw [View.read_apply]
  show V m c main_arg5 _ = _
  rw [V_main_arg5]
  obtain ⟨h0, h1, h2⟩ := index6 t
  refine congrArg (m ((c : Thread nD τ).loc main_arg5)) (funext fun a => Fin.ext ?_)
  match a with
  | ⟨0, _⟩ => show win0_6.index t 0 * 1 + 1 * 0 = (if t.val < 16 then 0 else (t.val - 16) / 2 + 1); omega
  | ⟨1, _⟩ => show win0_6.index t 1 * 6 + 1 * q.val = q.val; omega
  | ⟨2, _⟩ => show win0_6.index t 2 * 2048 + 1 * d.val = d.val; omega

/-! ## The result -/

/-- A block's product plus the zero bias is its rows of the whole product. -/
theorem blin_eq (t : Fin cfg0.N) (r : Fin 512) (d : Fin 2048) :
    blin (iblk m c 2 t) (iblk m c 3 t) (iblk m c 4 t) r d = lin (argY m c) (argW m c) (rowOf t r) d := by
  unfold lin blin
  simp only [← blk_y m c t, ← blk_w m c t]
  exact (congrArg _ (blk_bias m c t d)).trans (add_zero _)

/-- What a grid point stores: its rows of the result. -/
theorem out_apply (t : Fin cfg0.N) (r : Fin 512) (d : Fin 2048) :
    (outsAt0 m c t.val t.isLt : FVec Ideal S512x2048 .f32) (ix2 r d)
      = out (argY m c) (argW m c) (rows (argP m c) (argS m c)) (argG m c) (argMod m c) (rowOf t r) d := by
  by_cases h : t.val < 16
  · rw [outsAt0_A m c t h (by omega), out_A7]
    refine (pay1_apply _ _ _ _ _ _ r d).trans ?_
    unfold out
    rw [← funext (blin_eq m c t r), modRowOf_rowOf, ← blk_p m c t h r d, ← blk_gain m c t d, ← blk_mod m c t 2 d, ld_mod2]
  · rw [outsAt0_B m c t h (by omega), out_B7]
    refine (pay2_apply _ _ _ _ _ _ r d).trans ?_
    unfold out
    rw [← funext (blin_eq m c t r), modRowOf_rowOf, ← blk_s m c t h r d, ← blk_gain m c t d, ← blk_mod m c t 2 d, ld_mod2]

/-- The result as the contents of the result array. -/
def result : Buf (Elt Ideal) ((c : Thread nD τ).loc main_v6) := fun i : S16384x2048.Idx => out (argY m c) (argW m c) (rows (argP m c) (argS m c)) (argG m c) (argMod m c) (i 0) (i 1)

/-- What a grid point writes back is its block of rows of the result. -/
theorem flushed_eq7 (t : Fin cfg0.N) : (dats m 0 c).flushed 7 t = ((cfg0.win 7).blk t).view.read (Elt Ideal) (result m c) := by
  rw [Value.flushed7]
  obtain ⟨e0, e1⟩ := index7 t
  funext y
  have hl : (cfg0.win 7).xinj (grid0.coords t) y = ix2 (y 0) (y 1) := by
    funext a; apply Fin.ext
    match a with
    | ⟨0, _⟩ => show (y 0).val = (y 0).val; rfl
    | ⟨1, _⟩ => show (y 1).val = (y 1).val; rfl
  show (outsAt0 m c t.val t.isLt : FVec Ideal S512x2048 .f32) ((cfg0.win 7).xinj (grid0.coords t) y) = result m c (((cfg0.win 7).blk t).view.emb y)
  rw [hl]
  refine (out_apply m c t (y 0) (y 1)).trans ?_
  have hb0 : (((cfg0.win 7).blk t).view.emb y 0).val = win0_7.index t 0 * 512 + 1 * (y 0).val := rfl
  have hb1 : (((cfg0.win 7).blk t).view.emb y 1).val = win0_7.index t 1 * 2048 + 1 * (y 1).val := rfl
  have q0 : rowOf t (y 0) = ((cfg0.win 7).blk t).view.emb y 0 := by
    apply Fin.ext
    rw [hb0, e0]
    show t.val * 512 + (y 0).val = t.val * 512 + 1 * (y 0).val
    omega
  have q1 : y 1 = ((cfg0.win 7).blk t).view.emb y 1 := by
    apply Fin.ext
    rw [hb1, e1]
    omega
  unfold result
  dsimp only
  rw [← q0, ← q1]

theorem flushes7 : ∀ t : Fin cfg0.N, (cfg0.win 7).flush t = true :=
  (by decide +kernel : ∀ t : Fin grid0.N, win0_7.flush t = true)

/-- Every index of the result array is in the block of its rows' grid point. -/
theorem covered7 (i : S16384x2048.Idx) : ∃ t : Fin cfg0.N, (cfg0.win 7).flush t = true ∧ i ∈ ((cfg0.win 7).blk t).view.set := by
  have h0 : (i 0).val < 16384 := (i 0).isLt
  have h1 : (i 1).val < 2048 := (i 1).isLt
  have hN : cfg0.N = 32 := N_0
  obtain ⟨t, ht⟩ : ∃ t : Fin cfg0.N, t.val = (i 0).val / 512 := ⟨⟨(i 0).val / 512, by omega⟩, rfl⟩
  refine ⟨t, flushes7 t, ?_⟩
  obtain ⟨e0, e1⟩ := index7 t
  show i ∈ ((View.whole main_v6).slice (win0_7.rect t)).set
  rw [View.set_slice_whole, Rect.mem_set_unit]
  intro a
  match a with
  | ⟨0, _⟩ =>
    show win0_7.index t 0 * 512 ≤ (i 0).val ∧ (i 0).val < win0_7.index t 0 * 512 + 512
    omega
  | ⟨1, _⟩ =>
    show win0_7.index t 1 * 2048 ≤ (i 1).val ∧ (i 1).val < win0_7.index t 1 * 2048 + 2048
    omega

/-- The result array ends holding the result. -/
theorem final7 : (dats m 0 c).arrAt 7 cfg0.N = result m c :=
  (dats m 0 c).arrAt_eq_of_cover 7 _ (fun t _ => flushed_eq7 m c t) covered7

/-- The call's run: the result array holds the plain formula, and the arguments are as they were. -/
theorem run (ρ : Dev nD → PrngReg) : θ_run defs (onTc (τ := τ) (main (F := Ideal))) ⟨m, fun _ => 0, ρ⟩ fun r => ∀ c : Dev nD,
      r.2.mem ((c : Thread nD τ).loc main_v6) = result m c ∧
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3) ∧
      r.2.mem ((c : Thread nD τ).loc main_arg4) = m ((c : Thread nD τ).loc main_arg4) ∧
      r.2.mem ((c : Thread nD τ).loc main_arg5) = m ((c : Thread nD τ).loc main_arg5) :=
  (θ_run defs _ _).mono (fun r h c => ⟨(h c).1.trans (final7 m c), (h c).2⟩) (Value.run_blocks m ρ)

end Cert.FirstOut

end
-- ==== Proof.FirstOutRef.lean ====
/-
  The first mLSTM layer's output projection's reference read at an index: it is the plain formula.
-/
module

public import proofs.«01_k».proof.Proof.Gen.Reference13Ideal.Read
public import proofs.«01_k».proof.Proof.FirstOut

@[expose] public section

set_option maxRecDepth 16384

noncomputable section

namespace Cert.FirstOut

open Cert.Reference13Ideal Cert.Reference13Ideal.Gen Cert.Reference13Ideal.Read
open Idealize.ShloMosaic Idealize.ShloMosaic.TcCoe Idealize.SL.Sem

variable (Y : FVec Ideal S16384x2048 .bf16) (W : FVec Ideal S2x2048x2048 .f32) (P : FVec Ideal S32x256x2048 .f32)
  (S : FVec Ideal S8x1024x2048 .f32) (g : FVec Ideal S2048 .f32) (M : FVec Ideal S16x6x2048 .f32)

/-- The two inputs' rows in one array. -/
theorem ref_rows : val_main_v2 (F := Ideal) P S = rows P S := by
  funext i
  obtain ⟨r, d, rfl⟩ : ∃ (r : Fin 16384) (d : Fin 2048), i = ix2 r d := ⟨i 0, i 1, funext fun a => match a with | ⟨0, _⟩ => rfl | ⟨1, _⟩ => rfl⟩
  have hd := d.isLt
  have hr := r.isLt
  unfold val_main_v2
  by_cases h : r.val < 8192
  · have e := concatenate_pair_apply_left (t := S16384x2048) (s₁ := S8192x2048) (s₂ := S8192x2048) 0 (val_main_v0 (F := Ideal) P)
      (val_main_v1 (F := Ideal) S) concatenates_S8192x2048_S8192x2048_S16384x2048_d0 (ix2 r d) rfl (ix2 (⟨r.val, h⟩ : Fin 8192) d)
      (by intro b; match b with | ⟨0, _⟩ => rfl | ⟨1, _⟩ => rfl)
    refine e.trans ?_
    rw [val_main_v0_apply, rows_left _ _ _ _ h]
    refine congrArg P (funext fun a => Fin.ext ?_)
    match a with
    | ⟨0, _⟩ => show (r.val * 2048 + d.val) / 524288 = r.val / 256; omega
    | ⟨1, _⟩ => show (r.val * 2048 + d.val) / 2048 % 256 = r.val % 256; omega
    | ⟨2, _⟩ => show (r.val * 2048 + d.val) % 2048 = d.val; omega
  · have e := concatenate_pair_apply_right (t := S16384x2048) (s₁ := S8192x2048) (s₂ := S8192x2048) 0 (val_main_v0 (F := Ideal) P)
      (val_main_v1 (F := Ideal) S) concatenates_S8192x2048_S8192x2048_S16384x2048_d0 (ix2 r d) rfl rfl
      (ix2 (⟨r.val - 8192, by omega⟩ : Fin 8192) d)
      (by intro b hb; match b with | ⟨0, _⟩ => exact absurd rfl hb | ⟨1, _⟩ => rfl)
      (by show r.val - 8192 + 8192 = r.val; omega)
    refine e.trans ?_
    rw [val_main_v1_apply, rows_right _ _ _ _ h]
    refine congrArg S (funext fun a => Fin.ext ?_)
    match a with
    | ⟨0, _⟩ => show ((r.val - 8192) * 2048 + d.val) / 2097152 = (r.val - 8192) / 1024; omega
    | ⟨1, _⟩ => show ((r.val - 8192) * 2048 + d.val) / 2048 % 1024 = (r.val - 8192) % 1024; omega
    | ⟨2, _⟩ => show ((r.val - 8192) * 2048 + d.val) % 2048 = d.val; omega

/-- The joined modulation vectors: row `r` takes the vectors of its sample. -/
theorem ref_mods (r : Fin 16384) (q : Fin 6) (d : Fin 2048) : val_main_v9 (F := Ideal) M (ix3 r q d) = M (ix3 (modRowOf r) q d) := by
  unfold val_main_v9
  by_cases h : r.val < 8192
  · have e := concatenate_pair_apply_left (t := S16384x6x2048) (s₁ := S8192x6x2048) (s₂ := S8192x6x2048) 0 (val_main_v4 (F := Ideal) M)
      (val_main_v8 (F := Ideal) M) concatenates_S8192x6x2048_S8192x6x2048_S16384x6x2048_d0 (ix3 r q d) rfl (ix3 (⟨r.val, h⟩ : Fin 8192) q d)
      (by intro b; match b with | ⟨0, _⟩ => rfl | ⟨1, _⟩ => rfl | ⟨2, _⟩ => rfl)
    refine e.trans ?_
    rw [val_main_v4_apply, val_main_v3_apply]
    refine congrArg M (funext fun a => Fin.ext ?_)
    match a with
    | ⟨0, _⟩ => show 0 + 0 = if r.val < 8192 then 0 else _; rw [if_pos h]
    | ⟨1, _⟩ => rfl
    | ⟨2, _⟩ => rfl
  · have hr := r.isLt
    have e := concatenate_pair_apply_right (t := S16384x6x2048) (s₁ := S8192x6x2048) (s₂ := S8192x6x2048) 0 (val_main_v4 (F := Ideal) M)
      (val_main_v8 (F := Ideal) M) concatenates_S8192x6x2048_S8192x6x2048_S16384x6x2048_d0 (ix3 r q d) rfl rfl
      (ix3 (⟨r.val - 8192, by omega⟩ : Fin 8192) q d)
      (by intro b hb; match b with | ⟨0, _⟩ => exact absurd rfl hb | ⟨1, _⟩ => rfl | ⟨2, _⟩ => rfl)
      (by show r.val - 8192 + 8192 = r.val; omega)
    refine e.trans ?_
    rw [val_main_v8_apply, val_main_v7_apply, val_main_v6_apply, val_main_v5_apply]
    have hq := q.isLt
    have hd := d.isLt
    refine congrArg M (funext fun a => Fin.ext ?_)
    match a with
    | ⟨0, _⟩ =>
      show 1 + (((r.val - 8192) * 6 + q.val) * 2048 + d.val) / 12582912 = if r.val < 8192 then 0 else _
      rw [if_neg h]
      omega
    | ⟨1, _⟩ => show (((r.val - 8192) * 6 + q.val) * 2048 + d.val) / 2048 % 6 = q.val; omega
    | ⟨2, _⟩ => show (((r.val - 8192) * 6 + q.val) * 2048 + d.val) % 2048 = d.val; omega

/-- The gate vectors. -/
theorem ref_gate (r : Fin 16384) (d : Fin 2048) : val_main_v11 (F := Ideal) M (ix2 r d) = M (ix3 (modRowOf r) 2 d) := by
  rw [← ref_mods M r]
  pointwise [val_main_v11, val_main_v10]

/-- The product. -/
theorem ref_lin (r : Fin 16384) (d : Fin 2048) : (val_main_v15 (F := Ideal) Y W (ix2 r d) : EReal) = lin Y W r d := by
  unfold lin
  pointwise [val_main_v15, val_main_v14, val_main_v13, val_main_v12]

/-- The reference's result. -/
theorem ref_out (r : Fin 16384) (d : Fin 2048) : (val_main_v30 (F := Ideal) Y W P S g M (ix2 r d) : EReal) = out Y W (rows P S) g M r d := by
  unfold out
  rw [← ref_rows P S, ← ref_gate M r d, funext (fun k => (ref_lin Y W r k).symm)]
  pointwise [val_main_v30, val_main_v29, val_main_v28, val_main_v27, val_main_v26, val_main_v25, val_main_v24, val_main_v23, val_main_v22, val_main_v21, val_main_v20, val_main_v19, val_main_v18, val_main_v17, val_main_v16, val_main_cst, val_main_cst_0, val_main_cst_1]
  rfl

/-- The reference's result array. -/
theorem ref_eq : (val_main_v30 (F := Ideal) Y W P S g M : FVec Ideal S16384x2048 .f32) = fun i => out Y W (rows P S) g M (i 0) (i 1) := by
  funext i
  obtain ⟨r, d, rfl⟩ : ∃ (r : Fin 16384) (d : Fin 2048), i = ix2 r d := ⟨i 0, i 1, funext fun a => match a with | ⟨0, _⟩ => rfl | ⟨1, _⟩ => rfl⟩
  exact ref_out Y W P S g M r d

end Cert.FirstOut

end
-- ==== Proof.MlstmUnit.lean ====
/-
  The memory call's stored values as functions of one sequence's inputs: the same text for each of the four
  sequences of a block, once per direction.
-/
module

public import proofs.«01_k».proof.Proof.Gen.KernelIdeal.Skeleton
public import Idealize.ShloMosaic.Lib.Pointwise
public import Idealize.ShloMosaic.Lib.IdealHost

@[expose] public section

set_option maxRecDepth 16384

noncomputable section

namespace Cert.Mlstm

open Cert.KernelIdeal Cert.KernelIdeal.Gen
open Idealize.ShloMosaic Idealize.ShloMosaic.TcCoe Idealize.SL.Sem

variable {F : FTy → Type} [FloatOps F]

/-- The gates of one sequence, a lane per gate. -/
def gt (x : Vec F S256x128 .f32) (b : Vec F S1x128 .f32) : FVec F S256x128 .f32 :=
  k0_pay16 (F := F) k0_pay12 (k0_pay13 (F := F) x b) (k0_pay14 (F := F) x b) (k0_pay15 (F := F) x b)

/-- The gates, transposed. -/
def gtT (x : Vec F S256x128 .f32) (b : Vec F S1x128 .f32) : FVec F S128x256 .f32 :=
  k0_pay17 (F := F) k0_pay12 (k0_pay13 (F := F) x b) (k0_pay14 (F := F) x b) (k0_pay15 (F := F) x b)

/-- The gates in three parts. -/
def sp (x : Vec F S256x128 .f32) (b : Vec F S1x128 .f32) : FVec F S256x384 .bf16 :=
  k0_pay18 (F := F) k0_pay12 (k0_pay13 (F := F) x b) (k0_pay14 (F := F) x b) (k0_pay15 (F := F) x b)

/-- The transposed gates in three parts. -/
def spT (x : Vec F S256x128 .f32) (b : Vec F S1x128 .f32) : FVec F S384x256 .bf16 :=
  k0_pay19 (F := F) k0_pay12 (k0_pay13 (F := F) x b) (k0_pay14 (F := F) x b) (k0_pay15 (F := F) x b)

/-- The summed forget gates up to each position (forward). -/
def cum0 (x : Vec F S256x128 .f32) (b : Vec F S1x128 .f32) : FVec F S256x1 .f32 :=
  k0_pay35 (F := F) k0_pay10 (sp x b)

/-- The masked input gates (forward). -/
def msk0 (x : Vec F S256x128 .f32) (b : Vec F S1x128 .f32) : FVec F S256x256 .f32 :=
  k0_pay36 (F := F) k0_pay10 k0_pay11 (gtT x b) (spT x b)

/-- The summed forget gates of the whole sequence (forward). -/
def tot0 (x : Vec F S256x128 .f32) (b : Vec F S1x128 .f32) : FVec F S1x1 .f32 :=
  k0_pay37 (F := F) k0_pay10 (sp x b)

/-- What each position brings to the end of the sequence (forward). -/
def gl0 (x : Vec F S256x128 .f32) (b : Vec F S1x128 .f32) : FVec F S256x1 .f32 :=
  k0_pay38 (F := F) k0_pay10 (gt x b) (sp x b)

/-- The largest exponent of each row (forward). -/
def rmx0 (x : Vec F S256x128 .f32) (b : Vec F S1x128 .f32) : FVec F S256x1 .f32 :=
  k0_pay39 (F := F) k0_pay10 k0_pay11 (gtT x b) (sp x b) (spT x b)

/-- The largest exponent at the end (forward). -/
def gmx0 (x : Vec F S256x128 .f32) (b : Vec F S1x128 .f32) : FVec F S1x1 .f32 :=
  k0_pay40 (F := F) k0_pay10 (gt x b) (sp x b)

/-- The stored running maximum (forward). -/
def mst0 (x : Vec F S256x128 .f32) (b : Vec F S1x128 .f32) : FVec F S1x1 .f32 :=
  k0_pay91 (F := F) (k0_pay2 (F := F)) (tot0 x b) (gmx0 x b)

/-- The weighted sum of the values (forward). -/
def num0 (x : Vec F S256x128 .f32) (b : Vec F S1x128 .f32) (q : Vec F S256x256 .bf16) (k : Vec F S256x256 .bf16) (v : Vec F S256x512 .bf16) : FVec F S256x512 .f32 :=
  k0_pay102 (F := F) (k0_pay2 (F := F)) (cum0 x b) (msk0 x b) (rmx0 x b) q k v

/-- The sum of the weights (forward). -/
def den0 (x : Vec F S256x128 .f32) (b : Vec F S1x128 .f32) (q : Vec F S256x256 .bf16) (k : Vec F S256x256 .bf16) (v : Vec F S256x512 .bf16) : FVec F S256x128 .f32 :=
  k0_pay103 (F := F) (k0_pay2 (F := F)) (cum0 x b) (msk0 x b) (rmx0 x b) q k v

/-- The floor of the denominator (forward). -/
def flr0 (x : Vec F S256x128 .f32) (b : Vec F S1x128 .f32) : FVec F S256x1 .f32 :=
  k0_pay104 (F := F) (k0_pay2 (F := F)) (cum0 x b) (rmx0 x b)

/-- The weighted keys (forward). -/
def kw0 (x : Vec F S256x128 .f32) (b : Vec F S1x128 .f32) (k : Vec F S256x256 .bf16) : FVec F S256x256 .bf16 :=
  k0_pay105 (F := F) (gl0 x b) (mst0 x b) k

/-- The sum of the weighted keys (forward). -/
def ksum0 (x : Vec F S256x128 .f32) (b : Vec F S1x128 .f32) (k : Vec F S256x256 .bf16) : FVec F S1x256 .f32 :=
  k0_pay106 (F := F) (gl0 x b) (mst0 x b) k

/-- The summed forget gates up to each position (backward). -/
def cum1 (x : Vec F S256x128 .f32) (b : Vec F S1x128 .f32) : FVec F S256x1 .f32 :=
  k0_pay44 (F := F) (k0_pay41 (F := F) k0_pay11 (sp x b)) (k0_pay42 (F := F) k0_pay11 (sp x b)) (k0_pay43 (F := F) k0_pay11 (sp x b))

/-- The masked input gates (backward). -/
def msk1 (x : Vec F S256x128 .f32) (b : Vec F S1x128 .f32) : FVec F S256x256 .f32 :=
  k0_pay45 (F := F) k0_pay10 k0_pay11 (gtT x b) (spT x b)

/-- The summed forget gates of the whole sequence (backward). -/
def tot1 (x : Vec F S256x128 .f32) (b : Vec F S1x128 .f32) : FVec F S1x1 .f32 :=
  k0_pay46 (F := F) (k0_pay41 (F := F) k0_pay11 (sp x b)) (k0_pay42 (F := F) k0_pay11 (sp x b)) (k0_pay43 (F := F) k0_pay11 (sp x b))

/-- What each position brings to the end of the sequence (backward). -/
def gl1 (x : Vec F S256x128 .f32) (b : Vec F S1x128 .f32) : FVec F S256x1 .f32 :=
  k0_pay47 (F := F) (gt x b) (k0_pay41 (F := F) k0_pay11 (sp x b)) (k0_pay42 (F := F) k0_pay11 (sp x b)) (k0_pay43 (F := F) k0_pay11 (sp x b))

/-- The largest exponent of each row (backward). -/
def rmx1 (x : Vec F S256x128 .f32) (b : Vec F S1x128 .f32) : FVec F S256x1 .f32 :=
  k0_pay48 (F := F) k0_pay10 k0_pay11 (gtT x b) (spT x b) (k0_pay41 (F := F) k0_pay11 (sp x b)) (k0_pay42 (F := F) k0_pay11 (sp x b)) (k0_pay43 (F := F) k0_pay11 (sp x b))

/-- The largest exponent at the end (backward). -/
def gmx1 (x : Vec F S256x128 .f32) (b : Vec F S1x128 .f32) : FVec F S1x1 .f32 :=
  k0_pay49 (F := F) (gt x b) (k0_pay41 (F := F) k0_pay11 (sp x b)) (k0_pay42 (F := F) k0_pay11 (sp x b)) (k0_pay43 (F := F) k0_pay11 (sp x b))

/-- The stored running maximum (backward). -/
def mst1 (x : Vec F S256x128 .f32) (b : Vec F S1x128 .f32) : FVec F S1x1 .f32 :=
  k0_pay92 (F := F) (k0_pay3 (F := F)) (tot1 x b) (gmx1 x b)

/-- The weighted sum of the values (backward). -/
def num1 (x : Vec F S256x128 .f32) (b : Vec F S1x128 .f32) (q : Vec F S256x256 .bf16) (k : Vec F S256x256 .bf16) (v : Vec F S256x512 .bf16) : FVec F S256x512 .f32 :=
  k0_pay113 (F := F) v (k0_pay108 (F := F) (k0_pay3 (F := F)) (cum1 x b) (msk1 x b) (rmx1 x b) q k)

/-- The sum of the weights (backward). -/
def den1 (x : Vec F S256x128 .f32) (b : Vec F S1x128 .f32) (q : Vec F S256x256 .bf16) (k : Vec F S256x256 .bf16) (v : Vec F S256x512 .bf16) : FVec F S256x128 .f32 :=
  k0_pay114 (F := F) v (k0_pay108 (F := F) (k0_pay3 (F := F)) (cum1 x b) (msk1 x b) (rmx1 x b) q k)

/-- The floor of the denominator (backward). -/
def flr1 (x : Vec F S256x128 .f32) (b : Vec F S1x128 .f32) : FVec F S256x1 .f32 :=
  k0_pay115 (F := F) (k0_pay107 (F := F) (k0_pay3 (F := F)) (cum1 x b) (rmx1 x b))

/-- The weighted keys (backward). -/
def kw1 (x : Vec F S256x128 .f32) (b : Vec F S1x128 .f32) (k : Vec F S256x256 .bf16) : FVec F S256x256 .bf16 :=
  k0_pay116 (F := F) (k0_pay109 (F := F) k) (k0_pay110 (F := F) (gl1 x b) (mst1 x b))

/-- The sum of the weighted keys (backward). -/
def ksum1 (x : Vec F S256x128 .f32) (b : Vec F S1x128 .f32) (k : Vec F S256x256 .bf16) : FVec F S1x256 .f32 :=
  k0_pay117 (F := F) (k0_pay109 (F := F) k) (k0_pay110 (F := F) (gl1 x b) (mst1 x b))

/-- The stored matrix state (forward). -/
def C0 (x : Vec F S256x128 .f32) (b : Vec F S1x128 .f32) (k : Vec F S256x256 .bf16) (v : Vec F S256x512 .bf16) : FVec F S1x1x256x512 .f32 :=
  k0_pay170 (F := F) (kw0 x b k) v

/-- The stored vector state (forward). -/
def N0 (x : Vec F S256x128 .f32) (b : Vec F S1x128 .f32) (k : Vec F S256x256 .bf16) : FVec F S1x1x1x256 .f32 :=
  k0_pay171 (F := F) (ksum0 x b k)

/-- The stored rows of the result (forward). -/
def H0 (x : Vec F S256x128 .f32) (b : Vec F S1x128 .f32) (q : Vec F S256x256 .bf16) (k : Vec F S256x256 .bf16) (v : Vec F S256x512 .bf16) : FVec F S256x512 .f32 :=
  k0_pay172 (F := F) (num0 x b q k v) (den0 x b q k v) (flr0 x b)

/-- The stored matrix state (backward). -/
def C1 (x : Vec F S256x128 .f32) (b : Vec F S1x128 .f32) (k : Vec F S256x256 .bf16) (v : Vec F S256x512 .bf16) : FVec F S1x1x256x512 .f32 :=
  k0_pay173 (F := F) (kw1 x b k) v

/-- The stored vector state (backward). -/
def N1 (x : Vec F S256x128 .f32) (b : Vec F S1x128 .f32) (k : Vec F S256x256 .bf16) : FVec F S1x1x1x256 .f32 :=
  k0_pay174 (F := F) (ksum1 x b k)

/-- The stored rows of the result (backward). -/
def H1 (x : Vec F S256x128 .f32) (b : Vec F S1x128 .f32) (q : Vec F S256x256 .bf16) (k : Vec F S256x256 .bf16) (v : Vec F S256x512 .bf16) : FVec F S256x512 .f32 :=
  k0_pay175 (F := F) (num1 x b q k v) (den1 x b q k v) (flr1 x b)

/-- The same value for another sequence of the block, or its own name. -/
theorem e_v43 (x : Vec F S256x128 .f32) (b : Vec F S1x128 .f32) : k0_pay16 (F := F) k0_pay12 (k0_pay13 (F := F) x b) (k0_pay14 (F := F) x b) (k0_pay15 (F := F) x b) = gt x b := rfl
/-- The same value for another sequence of the block, or its own name. -/
theorem e_v73 (x : Vec F S256x128 .f32) (b : Vec F S1x128 .f32) : k0_pay20 (F := F) k0_pay12 x b = gt x b := rfl
/-- The same value for another sequence of the block, or its own name. -/
theorem e_v103 (x : Vec F S256x128 .f32) (b : Vec F S1x128 .f32) : k0_pay24 (F := F) k0_pay12 x b = gt x b := rfl
/-- The same value for another sequence of the block, or its own name. -/
theorem e_v133 (x : Vec F S256x128 .f32) (b : Vec F S1x128 .f32) : k0_pay28 (F := F) k0_pay12 x b = gt x b := rfl
/-- The same value for another sequence of the block, or its own name. -/
theorem e_v44 (x : Vec F S256x128 .f32) (b : Vec F S1x128 .f32) : k0_pay17 (F := F) k0_pay12 (k0_pay13 (F := F) x b) (k0_pay14 (F := F) x b) (k0_pay15 (F := F) x b) = gtT x b := rfl
/-- The same value for another sequence of the block, or its own name. -/
theorem e_v74 (x : Vec F S256x128 .f32) (b : Vec F S1x128 .f32) : k0_pay21 (F := F) k0_pay12 x b = gtT x b := rfl
/-- The same value for another sequence of the block, or its own name. -/
theorem e_v104 (x : Vec F S256x128 .f32) (b : Vec F S1x128 .f32) : k0_pay25 (F := F) k0_pay12 x b = gtT x b := rfl
/-- The same value for another sequence of the block, or its own name. -/
theorem e_v134 (x : Vec F S256x128 .f32) (b : Vec F S1x128 .f32) : k0_pay29 (F := F) k0_pay12 x b = gtT x b := rfl
/-- The same value for another sequence of the block, or its own name. -/
theorem e_v52 (x : Vec F S256x128 .f32) (b : Vec F S1x128 .f32) : k0_pay18 (F := F) k0_pay12 (k0_pay13 (F := F) x b) (k0_pay14 (F := F) x b) (k0_pay15 (F := F) x b) = sp x b := rfl
/-- The same value for another sequence of the block, or its own name. -/
theorem e_v82 (x : Vec F S256x128 .f32) (b : Vec F S1x128 .f32) : k0_pay22 (F := F) k0_pay12 x b = sp x b := rfl
/-- The same value for another sequence of the block, or its own name. -/
theorem e_v112 (x : Vec F S256x128 .f32) (b : Vec F S1x128 .f32) : k0_pay26 (F := F) k0_pay12 x b = sp x b := rfl
/-- The same value for another sequence of the block, or its own name. -/
theorem e_v142 (x : Vec F S256x128 .f32) (b : Vec F S1x128 .f32) : k0_pay33 (F := F) (k0_pay30 (F := F) k0_pay12 x b) (k0_pay31 (F := F) k0_pay12 x b) (k0_pay32 (F := F) k0_pay12 x b) = sp x b := rfl
/-- The same value for another sequence of the block, or its own name. -/
theorem e_v60 (x : Vec F S256x128 .f32) (b : Vec F S1x128 .f32) : k0_pay19 (F := F) k0_pay12 (k0_pay13 (F := F) x b) (k0_pay14 (F := F) x b) (k0_pay15 (F := F) x b) = spT x b := rfl
/-- The same value for another sequence of the block, or its own name. -/
theorem e_v90 (x : Vec F S256x128 .f32) (b : Vec F S1x128 .f32) : k0_pay23 (F := F) k0_pay12 x b = spT x b := rfl
/-- The same value for another sequence of the block, or its own name. -/
theorem e_v120 (x : Vec F S256x128 .f32) (b : Vec F S1x128 .f32) : k0_pay27 (F := F) k0_pay12 x b = spT x b := rfl
/-- The same value for another sequence of the block, or its own name. -/
theorem e_v150 (x : Vec F S256x128 .f32) (b : Vec F S1x128 .f32) : k0_pay34 (F := F) (gtT x b) = spT x b := rfl
/-- The same value for another sequence of the block, or its own name. -/
theorem e_v169 (x : Vec F S256x128 .f32) (b : Vec F S1x128 .f32) : k0_pay35 (F := F) k0_pay10 (sp x b) = cum0 x b := rfl
/-- The same value for another sequence of the block, or its own name. -/
theorem e_v241 (x : Vec F S256x128 .f32) (b : Vec F S1x128 .f32) : k0_pay50 (F := F) k0_pay10 (sp x b) = cum0 x b := rfl
/-- The same value for another sequence of the block, or its own name. -/
theorem e_v313 (x : Vec F S256x128 .f32) (b : Vec F S1x128 .f32) : k0_pay65 (F := F) (sp x b) (k0_pay64 (F := F) k0_pay10) (constant (F := F) S256x384 .f32 0x00000000#32) = cum0 x b := rfl
/-- The same value for another sequence of the block, or its own name. -/
theorem e_v385 (x : Vec F S256x128 .f32) (b : Vec F S1x128 .f32) : k0_pay79 (F := F) k0_pay10 (sp x b) = cum0 x b := rfl
/-- The same value for another sequence of the block, or its own name. -/
theorem e_v178 (x : Vec F S256x128 .f32) (b : Vec F S1x128 .f32) : k0_pay36 (F := F) k0_pay10 k0_pay11 (gtT x b) (spT x b) = msk0 x b := rfl
/-- The same value for another sequence of the block, or its own name. -/
theorem e_v250 (x : Vec F S256x128 .f32) (b : Vec F S1x128 .f32) : k0_pay53 (F := F) k0_pay10 (k0_pay52 (F := F) k0_pay11 (gtT x b) (spT x b)) = msk0 x b := rfl
/-- The same value for another sequence of the block, or its own name. -/
theorem e_v322 (x : Vec F S256x128 .f32) (b : Vec F S1x128 .f32) : k0_pay66 (F := F) k0_pay10 k0_pay11 (gtT x b) (spT x b) = msk0 x b := rfl
/-- The same value for another sequence of the block, or its own name. -/
theorem e_v394 (x : Vec F S256x128 .f32) (b : Vec F S1x128 .f32) : k0_pay80 (F := F) k0_pay10 k0_pay11 (gtT x b) (spT x b) = msk0 x b := rfl
/-- The same value for another sequence of the block, or its own name. -/
theorem e_v179 (x : Vec F S256x128 .f32) (b : Vec F S1x128 .f32) : k0_pay37 (F := F) k0_pay10 (sp x b) = tot0 x b := rfl
/-- The same value for another sequence of the block, or its own name. -/
theorem e_v251 (x : Vec F S256x128 .f32) (b : Vec F S1x128 .f32) : k0_pay54 (F := F) (cum0 x b) = tot0 x b := rfl
/-- The same value for another sequence of the block, or its own name. -/
theorem e_v323 (x : Vec F S256x128 .f32) (b : Vec F S1x128 .f32) : k0_pay67 (F := F) (sp x b) (k0_pay64 (F := F) k0_pay10) (constant (F := F) S256x384 .f32 0x00000000#32) = tot0 x b := rfl
/-- The same value for another sequence of the block, or its own name. -/
theorem e_v395 (x : Vec F S256x128 .f32) (b : Vec F S1x128 .f32) : k0_pay81 (F := F) k0_pay10 (sp x b) = tot0 x b := rfl
/-- The same value for another sequence of the block, or its own name. -/
theorem e_v181 (x : Vec F S256x128 .f32) (b : Vec F S1x128 .f32) : k0_pay38 (F := F) k0_pay10 (gt x b) (sp x b) = gl0 x b := rfl
/-- The same value for another sequence of the block, or its own name. -/
theorem e_v253 (x : Vec F S256x128 .f32) (b : Vec F S1x128 .f32) : k0_pay55 (F := F) (cum0 x b) (k0_pay51 (F := F) k0_pay10 (gt x b) (sp x b)) = gl0 x b := rfl
/-- The same value for another sequence of the block, or its own name. -/
theorem e_v325 (x : Vec F S256x128 .f32) (b : Vec F S1x128 .f32) : k0_pay68 (F := F) (gt x b) (sp x b) (k0_pay64 (F := F) k0_pay10) (constant (F := F) S256x384 .f32 0x00000000#32) = gl0 x b := rfl
/-- The same value for another sequence of the block, or its own name. -/
theorem e_v397 (x : Vec F S256x128 .f32) (b : Vec F S1x128 .f32) : k0_pay82 (F := F) k0_pay10 (gt x b) (sp x b) = gl0 x b := rfl
/-- The same value for another sequence of the block, or its own name. -/
theorem e_v184 (x : Vec F S256x128 .f32) (b : Vec F S1x128 .f32) : k0_pay39 (F := F) k0_pay10 k0_pay11 (gtT x b) (sp x b) (spT x b) = rmx0 x b := rfl
/-- The same value for another sequence of the block, or its own name. -/
theorem e_v256 (x : Vec F S256x128 .f32) (b : Vec F S1x128 .f32) : k0_pay56 (F := F) k0_pay10 (cum0 x b) (k0_pay52 (F := F) k0_pay11 (gtT x b) (spT x b)) = rmx0 x b := rfl
/-- The same value for another sequence of the block, or its own name. -/
theorem e_v328 (x : Vec F S256x128 .f32) (b : Vec F S1x128 .f32) : k0_pay69 (F := F) k0_pay10 k0_pay11 (gtT x b) (sp x b) (spT x b) (k0_pay64 (F := F) k0_pay10) (constant (F := F) S256x384 .f32 0x00000000#32) = rmx0 x b := rfl
/-- The same value for another sequence of the block, or its own name. -/
theorem e_v400 (x : Vec F S256x128 .f32) (b : Vec F S1x128 .f32) : k0_pay83 (F := F) k0_pay10 k0_pay11 (gtT x b) (sp x b) (spT x b) = rmx0 x b := rfl
/-- The same value for another sequence of the block, or its own name. -/
theorem e_v186 (x : Vec F S256x128 .f32) (b : Vec F S1x128 .f32) : k0_pay40 (F := F) k0_pay10 (gt x b) (sp x b) = gmx0 x b := rfl
/-- The same value for another sequence of the block, or its own name. -/
theorem e_v258 (x : Vec F S256x128 .f32) (b : Vec F S1x128 .f32) : k0_pay57 (F := F) (cum0 x b) (k0_pay51 (F := F) k0_pay10 (gt x b) (sp x b)) = gmx0 x b := rfl
/-- The same value for another sequence of the block, or its own name. -/
theorem e_v330 (x : Vec F S256x128 .f32) (b : Vec F S1x128 .f32) : k0_pay70 (F := F) (gt x b) (sp x b) (k0_pay64 (F := F) k0_pay10) (constant (F := F) S256x384 .f32 0x00000000#32) = gmx0 x b := rfl
/-- The same value for another sequence of the block, or its own name. -/
theorem e_v402 (x : Vec F S256x128 .f32) (b : Vec F S1x128 .f32) : k0_pay84 (F := F) k0_pay10 (gt x b) (sp x b) = gmx0 x b := rfl
/-- The same value for another sequence of the block, or its own name. -/
theorem e_v440 (x : Vec F S256x128 .f32) (b : Vec F S1x128 .f32) : k0_pay91 (F := F) (k0_pay2 (F := F)) (tot0 x b) (gmx0 x b) = mst0 x b := rfl
/-- The same value for another sequence of the block, or its own name. -/
theorem e_v444 (x : Vec F S256x128 .f32) (b : Vec F S1x128 .f32) : k0_pay93 (F := F) (k0_pay4 (F := F)) (tot0 x b) (gmx0 x b) = mst0 x b := rfl
/-- The same value for another sequence of the block, or its own name. -/
theorem e_v448 (x : Vec F S256x128 .f32) (b : Vec F S1x128 .f32) : k0_pay95 (F := F) (k0_pay6 (F := F)) (tot0 x b) (gmx0 x b) = mst0 x b := rfl
/-- The same value for another sequence of the block, or its own name. -/
theorem e_v452 (x : Vec F S256x128 .f32) (b : Vec F S1x128 .f32) : k0_pay97 (F := F) (k0_pay8 (F := F)) (tot0 x b) (gmx0 x b) = mst0 x b := rfl
/-- The same value for another sequence of the block, or its own name. -/
theorem e_v477 (x : Vec F S256x128 .f32) (b : Vec F S1x128 .f32) (q : Vec F S256x256 .bf16) (k : Vec F S256x256 .bf16) (v : Vec F S256x512 .bf16) : k0_pay102 (F := F) (k0_pay2 (F := F)) (cum0 x b) (msk0 x b) (rmx0 x b) q k v = num0 x b q k v := rfl
/-- The same value for another sequence of the block, or its own name. -/
theorem e_v537 (x : Vec F S256x128 .f32) (b : Vec F S1x128 .f32) (q : Vec F S256x256 .bf16) (k : Vec F S256x256 .bf16) (v : Vec F S256x512 .bf16) : k0_pay121 (F := F) (k0_pay4 (F := F)) (cum0 x b) (msk0 x b) (rmx0 x b) q k v = num0 x b q k v := rfl
/-- The same value for another sequence of the block, or its own name. -/
theorem e_v597 (x : Vec F S256x128 .f32) (b : Vec F S1x128 .f32) (q : Vec F S256x256 .bf16) (k : Vec F S256x256 .bf16) (v : Vec F S256x512 .bf16) : k0_pay139 (F := F) v (k0_pay135 (F := F) (k0_pay6 (F := F)) (cum0 x b) (msk0 x b) (rmx0 x b) q k) = num0 x b q k v := rfl
/-- The same value for another sequence of the block, or its own name. -/
theorem e_v657 (x : Vec F S256x128 .f32) (b : Vec F S1x128 .f32) (q : Vec F S256x256 .bf16) (k : Vec F S256x256 .bf16) (v : Vec F S256x512 .bf16) : k0_pay155 (F := F) (k0_pay8 (F := F)) (cum0 x b) (msk0 x b) (rmx0 x b) q k v = num0 x b q k v := rfl
/-- The same value for another sequence of the block, or its own name. -/
theorem e_v478 (x : Vec F S256x128 .f32) (b : Vec F S1x128 .f32) (q : Vec F S256x256 .bf16) (k : Vec F S256x256 .bf16) (v : Vec F S256x512 .bf16) : k0_pay103 (F := F) (k0_pay2 (F := F)) (cum0 x b) (msk0 x b) (rmx0 x b) q k v = den0 x b q k v := rfl
/-- The same value for another sequence of the block, or its own name. -/
theorem e_v538 (x : Vec F S256x128 .f32) (b : Vec F S1x128 .f32) (q : Vec F S256x256 .bf16) (k : Vec F S256x256 .bf16) (v : Vec F S256x512 .bf16) : k0_pay122 (F := F) (k0_pay4 (F := F)) (cum0 x b) (msk0 x b) (rmx0 x b) q k v = den0 x b q k v := rfl
/-- The same value for another sequence of the block, or its own name. -/
theorem e_v598 (x : Vec F S256x128 .f32) (b : Vec F S1x128 .f32) (q : Vec F S256x256 .bf16) (k : Vec F S256x256 .bf16) (v : Vec F S256x512 .bf16) : k0_pay140 (F := F) v (k0_pay135 (F := F) (k0_pay6 (F := F)) (cum0 x b) (msk0 x b) (rmx0 x b) q k) = den0 x b q k v := rfl
/-- The same value for another sequence of the block, or its own name. -/
theorem e_v658 (x : Vec F S256x128 .f32) (b : Vec F S1x128 .f32) (q : Vec F S256x256 .bf16) (k : Vec F S256x256 .bf16) (v : Vec F S256x512 .bf16) : k0_pay156 (F := F) (k0_pay8 (F := F)) (cum0 x b) (msk0 x b) (rmx0 x b) q k v = den0 x b q k v := rfl
/-- The same value for another sequence of the block, or its own name. -/
theorem e_v481 (x : Vec F S256x128 .f32) (b : Vec F S1x128 .f32) : k0_pay104 (F := F) (k0_pay2 (F := F)) (cum0 x b) (rmx0 x b) = flr0 x b := rfl
/-- The same value for another sequence of the block, or its own name. -/
theorem e_v541 (x : Vec F S256x128 .f32) (b : Vec F S1x128 .f32) : k0_pay123 (F := F) (k0_pay4 (F := F)) (cum0 x b) (rmx0 x b) = flr0 x b := rfl
/-- The same value for another sequence of the block, or its own name. -/
theorem e_v601 (x : Vec F S256x128 .f32) (b : Vec F S1x128 .f32) : k0_pay141 (F := F) (k0_pay134 (F := F) (k0_pay6 (F := F)) (cum0 x b) (rmx0 x b)) = flr0 x b := rfl
/-- The same value for another sequence of the block, or its own name. -/
theorem e_v661 (x : Vec F S256x128 .f32) (b : Vec F S1x128 .f32) : k0_pay157 (F := F) (k0_pay8 (F := F)) (cum0 x b) (rmx0 x b) = flr0 x b := rfl
/-- The same value for another sequence of the block, or its own name. -/
theorem e_v482 (x : Vec F S256x128 .f32) (b : Vec F S1x128 .f32) (k : Vec F S256x256 .bf16) : k0_pay105 (F := F) (gl0 x b) (mst0 x b) k = kw0 x b k := rfl
/-- The same value for another sequence of the block, or its own name. -/
theorem e_v542 (x : Vec F S256x128 .f32) (b : Vec F S1x128 .f32) (k : Vec F S256x256 .bf16) : k0_pay124 (F := F) (gl0 x b) (mst0 x b) k = kw0 x b k := rfl
/-- The same value for another sequence of the block, or its own name. -/
theorem e_v602 (x : Vec F S256x128 .f32) (b : Vec F S1x128 .f32) (k : Vec F S256x256 .bf16) : k0_pay142 (F := F) (gl0 x b) (mst0 x b) (k0_pay136 (F := F) k) = kw0 x b k := rfl
/-- The same value for another sequence of the block, or its own name. -/
theorem e_v662 (x : Vec F S256x128 .f32) (b : Vec F S1x128 .f32) (k : Vec F S256x256 .bf16) : k0_pay158 (F := F) (gl0 x b) (mst0 x b) k = kw0 x b k := rfl
/-- The same value for another sequence of the block, or its own name. -/
theorem e_v484 (x : Vec F S256x128 .f32) (b : Vec F S1x128 .f32) (k : Vec F S256x256 .bf16) : k0_pay106 (F := F) (gl0 x b) (mst0 x b) k = ksum0 x b k := rfl
/-- The same value for another sequence of the block, or its own name. -/
theorem e_v544 (x : Vec F S256x128 .f32) (b : Vec F S1x128 .f32) (k : Vec F S256x256 .bf16) : k0_pay125 (F := F) (gl0 x b) (mst0 x b) k = ksum0 x b k := rfl
/-- The same value for another sequence of the block, or its own name. -/
theorem e_v604 (x : Vec F S256x128 .f32) (b : Vec F S1x128 .f32) (k : Vec F S256x256 .bf16) : k0_pay143 (F := F) (gl0 x b) (mst0 x b) (k0_pay136 (F := F) k) = ksum0 x b k := rfl
/-- The same value for another sequence of the block, or its own name. -/
theorem e_v664 (x : Vec F S256x128 .f32) (b : Vec F S1x128 .f32) (k : Vec F S256x256 .bf16) : k0_pay159 (F := F) (gl0 x b) (mst0 x b) k = ksum0 x b k := rfl
/-- The same value for another sequence of the block, or its own name. -/
theorem e_v205 (x : Vec F S256x128 .f32) (b : Vec F S1x128 .f32) : k0_pay44 (F := F) (k0_pay41 (F := F) k0_pay11 (sp x b)) (k0_pay42 (F := F) k0_pay11 (sp x b)) (k0_pay43 (F := F) k0_pay11 (sp x b)) = cum1 x b := rfl
/-- The same value for another sequence of the block, or its own name. -/
theorem e_v277 (x : Vec F S256x128 .f32) (b : Vec F S1x128 .f32) : k0_pay58 (F := F) k0_pay11 (sp x b) = cum1 x b := rfl
/-- The same value for another sequence of the block, or its own name. -/
theorem e_v349 (x : Vec F S256x128 .f32) (b : Vec F S1x128 .f32) : k0_pay72 (F := F) k0_pay11 (sp x b) = cum1 x b := rfl
/-- The same value for another sequence of the block, or its own name. -/
theorem e_v421 (x : Vec F S256x128 .f32) (b : Vec F S1x128 .f32) : k0_pay86 (F := F) (sp x b) (k0_pay85 k0_pay11) = cum1 x b := rfl
/-- The same value for another sequence of the block, or its own name. -/
theorem e_v214 (x : Vec F S256x128 .f32) (b : Vec F S1x128 .f32) : k0_pay45 (F := F) k0_pay10 k0_pay11 (gtT x b) (spT x b) = msk1 x b := rfl
/-- The same value for another sequence of the block, or its own name. -/
theorem e_v286 (x : Vec F S256x128 .f32) (b : Vec F S1x128 .f32) : k0_pay59 (F := F) k0_pay10 k0_pay11 (gtT x b) (spT x b) = msk1 x b := rfl
/-- The same value for another sequence of the block, or its own name. -/
theorem e_v358 (x : Vec F S256x128 .f32) (b : Vec F S1x128 .f32) : k0_pay74 (F := F) k0_pay11 (gtT x b) (k0_pay71 (F := F) k0_pay10 (spT x b)) = msk1 x b := rfl
/-- The same value for another sequence of the block, or its own name. -/
theorem e_v430 (x : Vec F S256x128 .f32) (b : Vec F S1x128 .f32) : k0_pay87 (F := F) k0_pay10 k0_pay11 (gtT x b) (spT x b) = msk1 x b := rfl
/-- The same value for another sequence of the block, or its own name. -/
theorem e_v215 (x : Vec F S256x128 .f32) (b : Vec F S1x128 .f32) : k0_pay46 (F := F) (k0_pay41 (F := F) k0_pay11 (sp x b)) (k0_pay42 (F := F) k0_pay11 (sp x b)) (k0_pay43 (F := F) k0_pay11 (sp x b)) = tot1 x b := rfl
/-- The same value for another sequence of the block, or its own name. -/
theorem e_v287 (x : Vec F S256x128 .f32) (b : Vec F S1x128 .f32) : k0_pay60 (F := F) k0_pay11 (sp x b) = tot1 x b := rfl
/-- The same value for another sequence of the block, or its own name. -/
theorem e_v359 (x : Vec F S256x128 .f32) (b : Vec F S1x128 .f32) : k0_pay75 (F := F) (cum1 x b) = tot1 x b := rfl
/-- The same value for another sequence of the block, or its own name. -/
theorem e_v217 (x : Vec F S256x128 .f32) (b : Vec F S1x128 .f32) : k0_pay47 (F := F) (gt x b) (k0_pay41 (F := F) k0_pay11 (sp x b)) (k0_pay42 (F := F) k0_pay11 (sp x b)) (k0_pay43 (F := F) k0_pay11 (sp x b)) = gl1 x b := rfl
/-- The same value for another sequence of the block, or its own name. -/
theorem e_v289 (x : Vec F S256x128 .f32) (b : Vec F S1x128 .f32) : k0_pay61 (F := F) k0_pay11 (gt x b) (sp x b) = gl1 x b := rfl
/-- The same value for another sequence of the block, or its own name. -/
theorem e_v361 (x : Vec F S256x128 .f32) (b : Vec F S1x128 .f32) : k0_pay76 (F := F) (cum1 x b) (k0_pay73 (F := F) k0_pay11 (gt x b) (sp x b)) = gl1 x b := rfl
/-- The same value for another sequence of the block, or its own name. -/
theorem e_v433 (x : Vec F S256x128 .f32) (b : Vec F S1x128 .f32) : k0_pay89 (F := F) (gt x b) (sp x b) (k0_pay85 k0_pay11) = gl1 x b := rfl
/-- The same value for another sequence of the block, or its own name. -/
theorem e_v220 (x : Vec F S256x128 .f32) (b : Vec F S1x128 .f32) : k0_pay48 (F := F) k0_pay10 k0_pay11 (gtT x b) (spT x b) (k0_pay41 (F := F) k0_pay11 (sp x b)) (k0_pay42 (F := F) k0_pay11 (sp x b)) (k0_pay43 (F := F) k0_pay11 (sp x b)) = rmx1 x b := rfl
/-- The same value for another sequence of the block, or its own name. -/
theorem e_v292 (x : Vec F S256x128 .f32) (b : Vec F S1x128 .f32) : k0_pay62 (F := F) k0_pay10 k0_pay11 (gtT x b) (sp x b) (spT x b) = rmx1 x b := rfl
/-- The same value for another sequence of the block, or its own name. -/
theorem e_v364 (x : Vec F S256x128 .f32) (b : Vec F S1x128 .f32) : k0_pay77 (F := F) k0_pay11 (gtT x b) (k0_pay71 (F := F) k0_pay10 (spT x b)) (cum1 x b) = rmx1 x b := rfl
/-- The same value for another sequence of the block, or its own name. -/
theorem e_v436 (x : Vec F S256x128 .f32) (b : Vec F S1x128 .f32) : k0_pay90 (F := F) k0_pay10 k0_pay11 (gtT x b) (sp x b) (spT x b) (k0_pay85 k0_pay11) = rmx1 x b := rfl
/-- The same value for another sequence of the block, or its own name. -/
theorem e_v222 (x : Vec F S256x128 .f32) (b : Vec F S1x128 .f32) : k0_pay49 (F := F) (gt x b) (k0_pay41 (F := F) k0_pay11 (sp x b)) (k0_pay42 (F := F) k0_pay11 (sp x b)) (k0_pay43 (F := F) k0_pay11 (sp x b)) = gmx1 x b := rfl
/-- The same value for another sequence of the block, or its own name. -/
theorem e_v294 (x : Vec F S256x128 .f32) (b : Vec F S1x128 .f32) : k0_pay63 (F := F) k0_pay11 (gt x b) (sp x b) = gmx1 x b := rfl
/-- The same value for another sequence of the block, or its own name. -/
theorem e_v366 (x : Vec F S256x128 .f32) (b : Vec F S1x128 .f32) : k0_pay78 (F := F) (cum1 x b) (k0_pay73 (F := F) k0_pay11 (gt x b) (sp x b)) = gmx1 x b := rfl
/-- The same value for another sequence of the block, or its own name. -/
theorem e_v442 (x : Vec F S256x128 .f32) (b : Vec F S1x128 .f32) : k0_pay92 (F := F) (k0_pay3 (F := F)) (tot1 x b) (gmx1 x b) = mst1 x b := rfl
/-- The same value for another sequence of the block, or its own name. -/
theorem e_v446 (x : Vec F S256x128 .f32) (b : Vec F S1x128 .f32) : k0_pay94 (F := F) (k0_pay5 (F := F)) (tot1 x b) (gmx1 x b) = mst1 x b := rfl
/-- The same value for another sequence of the block, or its own name. -/
theorem e_v450 (x : Vec F S256x128 .f32) (b : Vec F S1x128 .f32) : k0_pay96 (F := F) (k0_pay7 (F := F)) (tot1 x b) (gmx1 x b) = mst1 x b := rfl
/-- The same value for another sequence of the block, or its own name. -/
theorem e_v454 (x : Vec F S256x128 .f32) (b : Vec F S1x128 .f32) : k0_pay98 (F := F) (k0_pay9 (F := F)) (gt x b) (sp x b) (k0_pay85 k0_pay11) = mst1 x b := rfl
/-- The same value for another sequence of the block, or its own name. -/
theorem e_v507 (x : Vec F S256x128 .f32) (b : Vec F S1x128 .f32) (q : Vec F S256x256 .bf16) (k : Vec F S256x256 .bf16) (v : Vec F S256x512 .bf16) : k0_pay113 (F := F) v (k0_pay108 (F := F) (k0_pay3 (F := F)) (cum1 x b) (msk1 x b) (rmx1 x b) q k) = num1 x b q k v := rfl
/-- The same value for another sequence of the block, or its own name. -/
theorem e_v567 (x : Vec F S256x128 .f32) (b : Vec F S1x128 .f32) (q : Vec F S256x256 .bf16) (k : Vec F S256x256 .bf16) (v : Vec F S256x512 .bf16) : k0_pay129 (F := F) (k0_pay5 (F := F)) (cum1 x b) (msk1 x b) (rmx1 x b) q k v = num1 x b q k v := rfl
/-- The same value for another sequence of the block, or its own name. -/
theorem e_v627 (x : Vec F S256x128 .f32) (b : Vec F S1x128 .f32) (q : Vec F S256x256 .bf16) (k : Vec F S256x256 .bf16) (v : Vec F S256x512 .bf16) : k0_pay147 (F := F) (k0_pay7 (F := F)) (cum1 x b) (msk1 x b) (rmx1 x b) q k v = num1 x b q k v := rfl
/-- The same value for another sequence of the block, or its own name. -/
theorem e_v687 (x : Vec F S256x128 .f32) (b : Vec F S1x128 .f32) (q : Vec F S256x256 .bf16) (k : Vec F S256x256 .bf16) (v : Vec F S256x512 .bf16) : k0_pay165 (F := F) v (k0_pay161 (F := F) q k) (k0_pay162 (F := F) (k0_pay9 (F := F)) (cum1 x b) (msk1 x b) (rmx1 x b)) = num1 x b q k v := rfl
/-- The same value for another sequence of the block, or its own name. -/
theorem e_v508 (x : Vec F S256x128 .f32) (b : Vec F S1x128 .f32) (q : Vec F S256x256 .bf16) (k : Vec F S256x256 .bf16) (v : Vec F S256x512 .bf16) : k0_pay114 (F := F) v (k0_pay108 (F := F) (k0_pay3 (F := F)) (cum1 x b) (msk1 x b) (rmx1 x b) q k) = den1 x b q k v := rfl
/-- The same value for another sequence of the block, or its own name. -/
theorem e_v568 (x : Vec F S256x128 .f32) (b : Vec F S1x128 .f32) (q : Vec F S256x256 .bf16) (k : Vec F S256x256 .bf16) (v : Vec F S256x512 .bf16) : k0_pay130 (F := F) (k0_pay5 (F := F)) (cum1 x b) (msk1 x b) (rmx1 x b) q k v = den1 x b q k v := rfl
/-- The same value for another sequence of the block, or its own name. -/
theorem e_v628 (x : Vec F S256x128 .f32) (b : Vec F S1x128 .f32) (q : Vec F S256x256 .bf16) (k : Vec F S256x256 .bf16) (v : Vec F S256x512 .bf16) : k0_pay148 (F := F) (k0_pay7 (F := F)) (cum1 x b) (msk1 x b) (rmx1 x b) q k v = den1 x b q k v := rfl
/-- The same value for another sequence of the block, or its own name. -/
theorem e_v688 (x : Vec F S256x128 .f32) (b : Vec F S1x128 .f32) (q : Vec F S256x256 .bf16) (k : Vec F S256x256 .bf16) (v : Vec F S256x512 .bf16) : k0_pay166 (F := F) v (k0_pay161 (F := F) q k) (k0_pay162 (F := F) (k0_pay9 (F := F)) (cum1 x b) (msk1 x b) (rmx1 x b)) = den1 x b q k v := rfl
/-- The same value for another sequence of the block, or its own name. -/
theorem e_v511 (x : Vec F S256x128 .f32) (b : Vec F S1x128 .f32) : k0_pay115 (F := F) (k0_pay107 (F := F) (k0_pay3 (F := F)) (cum1 x b) (rmx1 x b)) = flr1 x b := rfl
/-- The same value for another sequence of the block, or its own name. -/
theorem e_v571 (x : Vec F S256x128 .f32) (b : Vec F S1x128 .f32) : k0_pay131 (F := F) (k0_pay5 (F := F)) (cum1 x b) (rmx1 x b) = flr1 x b := rfl
/-- The same value for another sequence of the block, or its own name. -/
theorem e_v631 (x : Vec F S256x128 .f32) (b : Vec F S1x128 .f32) : k0_pay149 (F := F) (k0_pay7 (F := F)) (cum1 x b) (rmx1 x b) = flr1 x b := rfl
/-- The same value for another sequence of the block, or its own name. -/
theorem e_v691 (x : Vec F S256x128 .f32) (b : Vec F S1x128 .f32) : k0_pay167 (F := F) (k0_pay160 (F := F) (k0_pay9 (F := F)) (cum1 x b) (rmx1 x b)) = flr1 x b := rfl
/-- The same value for another sequence of the block, or its own name. -/
theorem e_v512 (x : Vec F S256x128 .f32) (b : Vec F S1x128 .f32) (k : Vec F S256x256 .bf16) : k0_pay116 (F := F) (k0_pay109 (F := F) k) (k0_pay110 (F := F) (gl1 x b) (mst1 x b)) = kw1 x b k := rfl
/-- The same value for another sequence of the block, or its own name. -/
theorem e_v572 (x : Vec F S256x128 .f32) (b : Vec F S1x128 .f32) (k : Vec F S256x256 .bf16) : k0_pay132 (F := F) (gl1 x b) (mst1 x b) k = kw1 x b k := rfl
/-- The same value for another sequence of the block, or its own name. -/
theorem e_v632 (x : Vec F S256x128 .f32) (b : Vec F S1x128 .f32) (k : Vec F S256x256 .bf16) : k0_pay150 (F := F) (gl1 x b) (mst1 x b) k = kw1 x b k := rfl
/-- The same value for another sequence of the block, or its own name. -/
theorem e_v692 (x : Vec F S256x128 .f32) (b : Vec F S1x128 .f32) (k : Vec F S256x256 .bf16) : k0_pay168 (F := F) (gl1 x b) (mst1 x b) k = kw1 x b k := rfl
/-- The same value for another sequence of the block, or its own name. -/
theorem e_v514 (x : Vec F S256x128 .f32) (b : Vec F S1x128 .f32) (k : Vec F S256x256 .bf16) : k0_pay117 (F := F) (k0_pay109 (F := F) k) (k0_pay110 (F := F) (gl1 x b) (mst1 x b)) = ksum1 x b k := rfl
/-- The same value for another sequence of the block, or its own name. -/
theorem e_v574 (x : Vec F S256x128 .f32) (b : Vec F S1x128 .f32) (k : Vec F S256x256 .bf16) : k0_pay133 (F := F) (gl1 x b) (mst1 x b) k = ksum1 x b k := rfl
/-- The same value for another sequence of the block, or its own name. -/
theorem e_v634 (x : Vec F S256x128 .f32) (b : Vec F S1x128 .f32) (k : Vec F S256x256 .bf16) : k0_pay151 (F := F) (k0_pay145 (F := F) (gl1 x b) (mst1 x b) k) = ksum1 x b k := rfl
/-- The same value for another sequence of the block, or its own name. -/
theorem e_v694 (x : Vec F S256x128 .f32) (b : Vec F S1x128 .f32) (k : Vec F S256x256 .bf16) : k0_pay169 (F := F) (gl1 x b) (mst1 x b) k = ksum1 x b k := rfl
/-- The same value for another sequence of the block, or its own name. -/
theorem s_C00 (x : Vec F S256x128 .f32) (b : Vec F S1x128 .f32) (k : Vec F S256x256 .bf16) (v : Vec F S256x512 .bf16) : k0_pay170 (F := F) (kw0 x b k) v = C0 x b k v := rfl
/-- The same value for another sequence of the block, or its own name. -/
theorem s_N00 (x : Vec F S256x128 .f32) (b : Vec F S1x128 .f32) (k : Vec F S256x256 .bf16) : k0_pay171 (F := F) (ksum0 x b k) = N0 x b k := rfl
/-- The same value for another sequence of the block, or its own name. -/
theorem s_H00 (x : Vec F S256x128 .f32) (b : Vec F S1x128 .f32) (q : Vec F S256x256 .bf16) (k : Vec F S256x256 .bf16) (v : Vec F S256x512 .bf16) : k0_pay172 (F := F) (num0 x b q k v) (den0 x b q k v) (flr0 x b) = H0 x b q k v := rfl
/-- The same value for another sequence of the block, or its own name. -/
theorem s_C10 (x : Vec F S256x128 .f32) (b : Vec F S1x128 .f32) (k : Vec F S256x256 .bf16) (v : Vec F S256x512 .bf16) : k0_pay173 (F := F) (kw1 x b k) v = C1 x b k v := rfl
/-- The same value for another sequence of the block, or its own name. -/
theorem s_N10 (x : Vec F S256x128 .f32) (b : Vec F S1x128 .f32) (k : Vec F S256x256 .bf16) : k0_pay174 (F := F) (ksum1 x b k) = N1 x b k := rfl
/-- The same value for another sequence of the block, or its own name. -/
theorem s_H10 (x : Vec F S256x128 .f32) (b : Vec F S1x128 .f32) (q : Vec F S256x256 .bf16) (k : Vec F S256x256 .bf16) (v : Vec F S256x512 .bf16) : k0_pay175 (F := F) (num1 x b q k v) (den1 x b q k v) (flr1 x b) = H1 x b q k v := rfl
/-- The same value for another sequence of the block, or its own name. -/
theorem s_C01 (x : Vec F S256x128 .f32) (b : Vec F S1x128 .f32) (k : Vec F S256x256 .bf16) (v : Vec F S256x512 .bf16) : k0_pay176 (F := F) (kw0 x b k) v = C0 x b k v := rfl
/-- The same value for another sequence of the block, or its own name. -/
theorem s_N01 (x : Vec F S256x128 .f32) (b : Vec F S1x128 .f32) (k : Vec F S256x256 .bf16) : k0_pay177 (F := F) (ksum0 x b k) = N0 x b k := rfl
/-- The same value for another sequence of the block, or its own name. -/
theorem s_H01 (x : Vec F S256x128 .f32) (b : Vec F S1x128 .f32) (q : Vec F S256x256 .bf16) (k : Vec F S256x256 .bf16) (v : Vec F S256x512 .bf16) : k0_pay180 (F := F) (num0 x b q k v) (k0_pay178 (F := F) (den0 x b q k v) (flr0 x b)) (k0_pay179 (F := F)) = H0 x b q k v := rfl
/-- The same value for another sequence of the block, or its own name. -/
theorem s_C11 (x : Vec F S256x128 .f32) (b : Vec F S1x128 .f32) (k : Vec F S256x256 .bf16) (v : Vec F S256x512 .bf16) : k0_pay181 (F := F) (kw1 x b k) v = C1 x b k v := rfl
/-- The same value for another sequence of the block, or its own name. -/
theorem s_N11 (x : Vec F S256x128 .f32) (b : Vec F S1x128 .f32) (k : Vec F S256x256 .bf16) : k0_pay182 (F := F) (ksum1 x b k) = N1 x b k := rfl
/-- The same value for another sequence of the block, or its own name. -/
theorem s_H11 (x : Vec F S256x128 .f32) (b : Vec F S1x128 .f32) (q : Vec F S256x256 .bf16) (k : Vec F S256x256 .bf16) (v : Vec F S256x512 .bf16) : k0_pay183 (F := F) (num1 x b q k v) (den1 x b q k v) (flr1 x b) = H1 x b q k v := rfl
/-- The same value for another sequence of the block, or its own name. -/
theorem s_C02 (x : Vec F S256x128 .f32) (b : Vec F S1x128 .f32) (k : Vec F S256x256 .bf16) (v : Vec F S256x512 .bf16) : k0_pay184 (F := F) (kw0 x b k) v = C0 x b k v := rfl
/-- The same value for another sequence of the block, or its own name. -/
theorem s_N02 (x : Vec F S256x128 .f32) (b : Vec F S1x128 .f32) (k : Vec F S256x256 .bf16) : k0_pay185 (F := F) (ksum0 x b k) = N0 x b k := rfl
/-- The same value for another sequence of the block, or its own name. -/
theorem s_H02 (x : Vec F S256x128 .f32) (b : Vec F S1x128 .f32) (q : Vec F S256x256 .bf16) (k : Vec F S256x256 .bf16) (v : Vec F S256x512 .bf16) : k0_pay186 (F := F) (num0 x b q k v) (den0 x b q k v) (flr0 x b) = H0 x b q k v := rfl
/-- The same value for another sequence of the block, or its own name. -/
theorem s_C12 (x : Vec F S256x128 .f32) (b : Vec F S1x128 .f32) (k : Vec F S256x256 .bf16) (v : Vec F S256x512 .bf16) : k0_pay187 (F := F) (kw1 x b k) v = C1 x b k v := rfl
/-- The same value for another sequence of the block, or its own name. -/
theorem s_N12 (x : Vec F S256x128 .f32) (b : Vec F S1x128 .f32) (k : Vec F S256x256 .bf16) : k0_pay188 (F := F) (ksum1 x b k) = N1 x b k := rfl
/-- The same value for another sequence of the block, or its own name. -/
theorem s_H12 (x : Vec F S256x128 .f32) (b : Vec F S1x128 .f32) (q : Vec F S256x256 .bf16) (k : Vec F S256x256 .bf16) (v : Vec F S256x512 .bf16) : k0_pay189 (F := F) (num1 x b q k v) (den1 x b q k v) (flr1 x b) = H1 x b q k v := rfl
/-- The same value for another sequence of the block, or its own name. -/
theorem s_C03 (x : Vec F S256x128 .f32) (b : Vec F S1x128 .f32) (k : Vec F S256x256 .bf16) (v : Vec F S256x512 .bf16) : k0_pay191 (F := F) (k0_pay190 (F := F) (kw0 x b k) v) = C0 x b k v := rfl
/-- The same value for another sequence of the block, or its own name. -/
theorem s_N03 (x : Vec F S256x128 .f32) (b : Vec F S1x128 .f32) (k : Vec F S256x256 .bf16) : k0_pay192 (F := F) (ksum0 x b k) = N0 x b k := rfl
/-- The same value for another sequence of the block, or its own name. -/
theorem s_H03 (x : Vec F S256x128 .f32) (b : Vec F S1x128 .f32) (q : Vec F S256x256 .bf16) (k : Vec F S256x256 .bf16) (v : Vec F S256x512 .bf16) : k0_pay193 (F := F) (num0 x b q k v) (den0 x b q k v) (flr0 x b) = H0 x b q k v := rfl
/-- The same value for another sequence of the block, or its own name. -/
theorem s_C13 (x : Vec F S256x128 .f32) (b : Vec F S1x128 .f32) (k : Vec F S256x256 .bf16) (v : Vec F S256x512 .bf16) : k0_pay194 (F := F) (kw1 x b k) v = C1 x b k v := rfl
/-- The same value for another sequence of the block, or its own name. -/
theorem s_N13 (x : Vec F S256x128 .f32) (b : Vec F S1x128 .f32) (k : Vec F S256x256 .bf16) : k0_pay195 (F := F) (ksum1 x b k) = N1 x b k := rfl
/-- The same value for another sequence of the block, or its own name. -/
theorem s_H13 (x : Vec F S256x128 .f32) (b : Vec F S1x128 .f32) (q : Vec F S256x256 .bf16) (k : Vec F S256x256 .bf16) (v : Vec F S256x512 .bf16) : k0_pay197 (F := F) (k0_pay196 (F := F) (num1 x b q k v) (den1 x b q k v) (flr1 x b)) = H1 x b q k v := rfl
/-- The same value for another sequence of the block, or its own name. -/
theorem s_M201 (m : FVec F S1x1 .f32) : k0_pay201 (F := F) m = k0_pay201 m := rfl
/-- The same value for another sequence of the block, or its own name. -/
theorem s_M203 (m : FVec F S1x1 .f32) : k0_pay203 (F := F) (k0_pay202 (F := F) m) = k0_pay201 m := rfl
/-- The same value for another sequence of the block, or its own name. -/
theorem s_M204 (m : FVec F S1x1 .f32) : k0_pay204 (F := F) m = k0_pay201 m := rfl
/-- The same value for another sequence of the block, or its own name. -/
theorem s_M205 (m : FVec F S1x1 .f32) : k0_pay205 (F := F) m = k0_pay201 m := rfl
/-- The same value for another sequence of the block, or its own name. -/
theorem s_M206 (m : FVec F S1x1 .f32) : k0_pay206 (F := F) m = k0_pay201 m := rfl
/-- The same value for another sequence of the block, or its own name. -/
theorem s_M207 (m : FVec F S1x1 .f32) : k0_pay207 (F := F) m = k0_pay201 m := rfl
/-- The same value for another sequence of the block, or its own name. -/
theorem s_M208 (m : FVec F S1x1 .f32) : k0_pay208 (F := F) m = k0_pay201 m := rfl
/-- The same value for another sequence of the block, or its own name. -/
theorem s_M1 (m : FVec F S1x1 .f32) : k0_pay1 (F := F) (k0_pay209 (F := F) m) = k0_pay201 m := rfl

end Cert.Mlstm

end
-- ==== Proof.MlstmBlock.lean ====
module

public import proofs.«01_k».proof.Proof.Gen.KernelIdeal.Frame
public import Idealize.ShloMosaic.Lib.Pipeline.Value
public import proofs.«01_k».proof.Proof.MlstmUnit
public import Idealize.ShloMosaic.Lib.Pointwise
public import Idealize.ShloMosaic.Lib.ValueIdxRank6
public import Idealize.ShloMosaic.Lib.Pipeline.ValueKit.Tiles
public import Idealize.ShloMosaic.Lib.IdealHost

@[expose] public section

set_option maxRecDepth 16384

noncomputable section

namespace Cert.Mlstm

open Cert.KernelIdeal Cert.KernelIdeal.Gen
open Idealize.ShloMosaic Idealize.ShloMosaic.TcCoe Idealize.SL.Sem

variable {F : FTy → Type} [FloatOps F]

/-- The 256 rows of sequence `sb` inside a block of four sequences. -/
def rows {n : Nat} {e : EltTy} (sb : Fin 4) (x : Vec F ⟨2, ![1024, n]⟩ e) : Vec F ⟨2, ![256, n]⟩ e :=
  fun j => x (ix2 ⟨256 * sb.val + (j 0).val, by
    have h1 := sb.isLt
    have h2 : (j 0).val < 256 := (j 0).isLt
    omega⟩ (j 1))

theorem ld_rows0 {n : Nat} {e : EltTy} (x : Vec F ⟨2, ![1024, n]⟩ e) (h) :
    View.ld x (Rect.unit (s := ⟨2, ![1024, n]⟩) ![0, 0] ![256, n] h) = rows 0 x :=
  funext fun j => View.ld_unit_apply_of x _ _ h j _ (fun a => match a with
    | ⟨0, _⟩ => by show 256 * 0 + (j 0).val = 0 + (j 0).val; omega
    | ⟨1, _⟩ => by show (j 1).val = 0 + (j 1).val; omega)

theorem ld_rows1 {n : Nat} {e : EltTy} (x : Vec F ⟨2, ![1024, n]⟩ e) (h) :
    View.ld x (Rect.unit (s := ⟨2, ![1024, n]⟩) ![256, 0] ![256, n] h) = rows 1 x :=
  funext fun j => View.ld_unit_apply_of x _ _ h j _ (fun a => match a with
    | ⟨0, _⟩ => by show 256 * 1 + (j 0).val = 256 + (j 0).val; omega
    | ⟨1, _⟩ => by show (j 1).val = 0 + (j 1).val; omega)

theorem ld_rows2 {n : Nat} {e : EltTy} (x : Vec F ⟨2, ![1024, n]⟩ e) (h) :
    View.ld x (Rect.unit (s := ⟨2, ![1024, n]⟩) ![512, 0] ![256, n] h) = rows 2 x :=
  funext fun j => View.ld_unit_apply_of x _ _ h j _ (fun a => match a with
    | ⟨0, _⟩ => by show 256 * 2 + (j 0).val = 512 + (j 0).val; omega
    | ⟨1, _⟩ => by show (j 1).val = 0 + (j 1).val; omega)

theorem ld_rows3 {n : Nat} {e : EltTy} (x : Vec F ⟨2, ![1024, n]⟩ e) (h) :
    View.ld x (Rect.unit (s := ⟨2, ![1024, n]⟩) ![768, 0] ![256, n] h) = rows 3 x :=
  funext fun j => View.ld_unit_apply_of x _ _ h j _ (fun a => match a with
    | ⟨0, _⟩ => by show 256 * 3 + (j 0).val = 768 + (j 0).val; omega
    | ⟨1, _⟩ => by show (j 1).val = 0 + (j 1).val; omega)

theorem pc4 {e : EltTy} {a b : Nat} (P : Fin 4 → Fin 2 → Vec F ⟨4, ![1, 1, a, b]⟩ e) (sb : Fin 4) (d : Fin 2)
    (h) (x : (⟨4, ![1, 1, a, b]⟩ : Shape).Idx) :
    P sb d x = (fun y : (⟨4, ![4, 2, a, b]⟩ : Shape).Idx => P (y 0) (y 1) (ix4 0 0 (y 2) (y 3)))
      ((Rect.unit (s := ⟨4, ![4, 2, a, b]⟩) ![sb.val, d.val, 0, 0] ![1, 1, a, b] h).emb x) := by
  have e0 : (Rect.unit (s := ⟨4, ![4, 2, a, b]⟩) ![sb.val, d.val, 0, 0] ![1, 1, a, b] h).emb x = ix4 sb d (x 2) (x 3) :=
    funext fun k => Fin.ext ((Rect.idx_unit_val _ _ h x k).trans (match k with
      | ⟨0, _⟩ => by have h0 : (x 0).val < 1 := (x 0).isLt
                     show sb.val + (x 0).val = sb.val; omega
      | ⟨1, _⟩ => by have h0 : (x 1).val < 1 := (x 1).isLt
                     show d.val + (x 1).val = d.val; omega
      | ⟨2, _⟩ => by show 0 + (x 2).val = (x 2).val; omega
      | ⟨3, _⟩ => by show 0 + (x 3).val = (x 3).val; omega))
  rw [e0]
  show P sb d x = P sb d (ix4 0 0 (x 2) (x 3))
  refine congrArg (P sb d) (funext fun k => Fin.ext ?_)
  match k with
  | ⟨0, _⟩ => have h0 : (x 0).val < 1 := (x 0).isLt
              show (x 0).val = 0; omega
  | ⟨1, _⟩ => have h0 : (x 1).val < 1 := (x 1).isLt
              show (x 1).val = 0; omega
  | ⟨2, _⟩ => rfl
  | ⟨3, _⟩ => rfl

theorem mem4 {a b : Nat} (sb : Fin 4) (d : Fin 2) (h) (r : Fin a) (c : Fin b) :
    (ix4 sb d r c : (⟨4, ![4, 2, a, b]⟩ : Shape).Idx) ∈
      (Rect.unit (s := ⟨4, ![4, 2, a, b]⟩) ![sb.val, d.val, 0, 0] ![1, 1, a, b] h).set :=
  Rect.mem_set_unit.2 fun k => match k with
    | ⟨0, _⟩ => ⟨Nat.le_refl sb.val, Nat.lt_succ_self sb.val⟩
    | ⟨1, _⟩ => ⟨Nat.le_refl d.val, Nat.lt_succ_self d.val⟩
    | ⟨2, _⟩ => ⟨Nat.zero_le _, by show r.val < 0 + a; omega⟩
    | ⟨3, _⟩ => ⟨Nat.zero_le _, by show c.val < 0 + b; omega⟩

theorem idx_whole4 {n0 n1 n2 n3 : Nat} (h) (j : (⟨4, ![n0, n1, n2, n3]⟩ : Shape).Idx) :
    (Rect.unit (s := ⟨4, ![n0, n1, n2, n3]⟩) ![0, 0, 0, 0] ![n0, n1, n2, n3] h).toLoadRect.idx j = j :=
  funext fun k => Fin.ext ((Rect.idx_unit_val _ _ h j k).trans (match k with
    | ⟨0, _⟩ => Nat.zero_add _ | ⟨1, _⟩ => Nat.zero_add _ | ⟨2, _⟩ => Nat.zero_add _ | ⟨3, _⟩ => Nat.zero_add _))

/-- Eight pieces, one per sequence and direction, read at an index. -/
theorem canon4 {e : EltTy} {a b : Nat} (P : Fin 4 → Fin 2 → Vec F ⟨4, ![1, 1, a, b]⟩ e)
    (h31) (h30) (h21) (h20) (h11) (h10) (h01) (h00)
    (sb : Fin 4) (d : Fin 2) (r : Fin a) (c : Fin b) :
    View.canon (Val := Elt F) (s := ⟨4, ![4, 2, a, b]⟩) (e := e) [
      ⟨Rect.unit (s := ⟨4, ![4, 2, a, b]⟩) ![3, 1, 0, 0] ![1, 1, a, b] h31, P 3 1⟩,
      ⟨Rect.unit (s := ⟨4, ![4, 2, a, b]⟩) ![3, 0, 0, 0] ![1, 1, a, b] h30, P 3 0⟩,
      ⟨Rect.unit (s := ⟨4, ![4, 2, a, b]⟩) ![2, 1, 0, 0] ![1, 1, a, b] h21, P 2 1⟩,
      ⟨Rect.unit (s := ⟨4, ![4, 2, a, b]⟩) ![2, 0, 0, 0] ![1, 1, a, b] h20, P 2 0⟩,
      ⟨Rect.unit (s := ⟨4, ![4, 2, a, b]⟩) ![1, 1, 0, 0] ![1, 1, a, b] h11, P 1 1⟩,
      ⟨Rect.unit (s := ⟨4, ![4, 2, a, b]⟩) ![1, 0, 0, 0] ![1, 1, a, b] h10, P 1 0⟩,
      ⟨Rect.unit (s := ⟨4, ![4, 2, a, b]⟩) ![0, 1, 0, 0] ![1, 1, a, b] h01, P 0 1⟩,
      ⟨Rect.unit (s := ⟨4, ![4, 2, a, b]⟩) ![0, 0, 0, 0] ![1, 1, a, b] h00, P 0 0⟩] (ix4 sb d r c)
      = P sb d (ix4 0 0 r c) := by
  refine (View.canon_apply_of_pieces (Val := Elt F) (fun y : (⟨4, ![4, 2, a, b]⟩ : Shape).Idx => P (y 0) (y 1) (ix4 0 0 (y 2) (y 3))) _ ?_ _ ?_).trans rfl
  · intro pc hpc x
    simp only [List.mem_cons, List.not_mem_nil, or_false] at hpc
    rcases hpc with rfl | rfl | rfl | rfl | rfl | rfl | rfl | rfl
    · exact pc4 P 3 1 h31 x
    · exact pc4 P 3 0 h30 x
    · exact pc4 P 2 1 h21 x
    · exact pc4 P 2 0 h20 x
    · exact pc4 P 1 1 h11 x
    · exact pc4 P 1 0 h10 x
    · exact pc4 P 0 1 h01 x
    · exact pc4 P 0 0 h00 x
  · match sb, d with
    | ⟨3, _⟩, ⟨1, _⟩ => exact ⟨_, .head _, mem4 3 1 h31 r c⟩
    | ⟨3, _⟩, ⟨0, _⟩ => exact ⟨_, .tail _ (.head _), mem4 3 0 h30 r c⟩
    | ⟨2, _⟩, ⟨1, _⟩ => exact ⟨_, .tail _ (.tail _ (.head _)), mem4 2 1 h21 r c⟩
    | ⟨2, _⟩, ⟨0, _⟩ => exact ⟨_, .tail _ (.tail _ (.tail _ (.head _))), mem4 2 0 h20 r c⟩
    | ⟨1, _⟩, ⟨1, _⟩ => exact ⟨_, .tail _ (.tail _ (.tail _ (.tail _ (.head _)))), mem4 1 1 h11 r c⟩
    | ⟨1, _⟩, ⟨0, _⟩ => exact ⟨_, .tail _ (.tail _ (.tail _ (.tail _ (.tail _ (.head _))))), mem4 1 0 h10 r c⟩
    | ⟨0, _⟩, ⟨1, _⟩ => exact ⟨_, .tail _ (.tail _ (.tail _ (.tail _ (.tail _ (.tail _ (.head _)))))), mem4 0 1 h01 r c⟩
    | ⟨0, _⟩, ⟨0, _⟩ => exact ⟨_, .tail _ (.tail _ (.tail _ (.tail _ (.tail _ (.tail _ (.tail _ (.head _))))))), mem4 0 0 h00 r c⟩

theorem pc5 {e : EltTy} {n : Nat} (P : Fin 4 → Fin 2 → Vec F ⟨5, ![1, 1, 1, 1, n]⟩ e) (sb : Fin 4) (d : Fin 2)
    (h) (x : (⟨5, ![1, 1, 1, 1, n]⟩ : Shape).Idx) :
    P sb d x = (fun y : (⟨5, ![4, 1, 1, 2, n]⟩ : Shape).Idx => P (y 0) (y 3) (ix5 0 0 0 0 (y 4)))
      ((Rect.unit (s := ⟨5, ![4, 1, 1, 2, n]⟩) ![sb.val, 0, 0, d.val, 0] ![1, 1, 1, 1, n] h).emb x) := by
  have e0 : (Rect.unit (s := ⟨5, ![4, 1, 1, 2, n]⟩) ![sb.val, 0, 0, d.val, 0] ![1, 1, 1, 1, n] h).emb x = ix5 sb 0 0 d (x 4) :=
    funext fun k => Fin.ext ((Rect.idx_unit_val _ _ h x k).trans (match k with
      | ⟨0, _⟩ => by have h0 : (x 0).val < 1 := (x 0).isLt
                     show sb.val + (x 0).val = sb.val; omega
      | ⟨1, _⟩ => by have h0 : (x 1).val < 1 := (x 1).isLt
                     show 0 + (x 1).val = 0; omega
      | ⟨2, _⟩ => by have h0 : (x 2).val < 1 := (x 2).isLt
                     show 0 + (x 2).val = 0; omega
      | ⟨3, _⟩ => by have h0 : (x 3).val < 1 := (x 3).isLt
                     show d.val + (x 3).val = d.val; omega
      | ⟨4, _⟩ => by show 0 + (x 4).val = (x 4).val; omega))
  rw [e0]
  show P sb d x = P sb d (ix5 0 0 0 0 (x 4))
  refine congrArg (P sb d) (funext fun k => Fin.ext ?_)
  match k with
  | ⟨0, _⟩ => have h0 : (x 0).val < 1 := (x 0).isLt
              show (x 0).val = 0; omega
  | ⟨1, _⟩ => have h0 : (x 1).val < 1 := (x 1).isLt
              show (x 1).val = 0; omega
  | ⟨2, _⟩ => have h0 : (x 2).val < 1 := (x 2).isLt
              show (x 2).val = 0; omega
  | ⟨3, _⟩ => have h0 : (x 3).val < 1 := (x 3).isLt
              show (x 3).val = 0; omega
  | ⟨4, _⟩ => rfl

theorem mem5 {n : Nat} (sb : Fin 4) (d : Fin 2) (h) (r : Fin n) :
    (ix5 sb 0 0 d r : (⟨5, ![4, 1, 1, 2, n]⟩ : Shape).Idx) ∈
      (Rect.unit (s := ⟨5, ![4, 1, 1, 2, n]⟩) ![sb.val, 0, 0, d.val, 0] ![1, 1, 1, 1, n] h).set :=
  Rect.mem_set_unit.2 fun k => match k with
    | ⟨0, _⟩ => ⟨Nat.le_refl sb.val, Nat.lt_succ_self sb.val⟩
    | ⟨1, _⟩ => ⟨Nat.zero_le _, Nat.zero_lt_one⟩
    | ⟨2, _⟩ => ⟨Nat.zero_le _, Nat.zero_lt_one⟩
    | ⟨3, _⟩ => ⟨Nat.le_refl d.val, Nat.lt_succ_self d.val⟩
    | ⟨4, _⟩ => ⟨Nat.zero_le _, by show r.val < 0 + n; omega⟩

/-- Eight lane pieces, one per sequence and direction, read at an index. -/
theorem canon5 {e : EltTy} {n : Nat} (P : Fin 4 → Fin 2 → Vec F ⟨5, ![1, 1, 1, 1, n]⟩ e)
    (h31) (h30) (h21) (h20) (h11) (h10) (h01) (h00)
    (sb : Fin 4) (d : Fin 2) (r : Fin n) :
    View.canon (Val := Elt F) (s := ⟨5, ![4, 1, 1, 2, n]⟩) (e := e) [
      ⟨Rect.unit (s := ⟨5, ![4, 1, 1, 2, n]⟩) ![3, 0, 0, 1, 0] ![1, 1, 1, 1, n] h31, P 3 1⟩,
      ⟨Rect.unit (s := ⟨5, ![4, 1, 1, 2, n]⟩) ![3, 0, 0, 0, 0] ![1, 1, 1, 1, n] h30, P 3 0⟩,
      ⟨Rect.unit (s := ⟨5, ![4, 1, 1, 2, n]⟩) ![2, 0, 0, 1, 0] ![1, 1, 1, 1, n] h21, P 2 1⟩,
      ⟨Rect.unit (s := ⟨5, ![4, 1, 1, 2, n]⟩) ![2, 0, 0, 0, 0] ![1, 1, 1, 1, n] h20, P 2 0⟩,
      ⟨Rect.unit (s := ⟨5, ![4, 1, 1, 2, n]⟩) ![1, 0, 0, 1, 0] ![1, 1, 1, 1, n] h11, P 1 1⟩,
      ⟨Rect.unit (s := ⟨5, ![4, 1, 1, 2, n]⟩) ![1, 0, 0, 0, 0] ![1, 1, 1, 1, n] h10, P 1 0⟩,
      ⟨Rect.unit (s := ⟨5, ![4, 1, 1, 2, n]⟩) ![0, 0, 0, 1, 0] ![1, 1, 1, 1, n] h01, P 0 1⟩,
      ⟨Rect.unit (s := ⟨5, ![4, 1, 1, 2, n]⟩) ![0, 0, 0, 0, 0] ![1, 1, 1, 1, n] h00, P 0 0⟩] (ix5 sb 0 0 d r)
      = P sb d (ix5 0 0 0 0 r) := by
  refine (View.canon_apply_of_pieces (Val := Elt F) (fun y : (⟨5, ![4, 1, 1, 2, n]⟩ : Shape).Idx => P (y 0) (y 3) (ix5 0 0 0 0 (y 4))) _ ?_ _ ?_).trans rfl
  · intro pc hpc x
    simp only [List.mem_cons, List.not_mem_nil, or_false] at hpc
    rcases hpc with rfl | rfl | rfl | rfl | rfl | rfl | rfl | rfl
    · exact pc5 P 3 1 h31 x
    · exact pc5 P 3 0 h30 x
    · exact pc5 P 2 1 h21 x
    · exact pc5 P 2 0 h20 x
    · exact pc5 P 1 1 h11 x
    · exact pc5 P 1 0 h10 x
    · exact pc5 P 0 1 h01 x
    · exact pc5 P 0 0 h00 x
  · match sb, d with
    | ⟨3, _⟩, ⟨1, _⟩ => exact ⟨_, .head _, mem5 3 1 h31 r⟩
    | ⟨3, _⟩, ⟨0, _⟩ => exact ⟨_, .tail _ (.head _), mem5 3 0 h30 r⟩
    | ⟨2, _⟩, ⟨1, _⟩ => exact ⟨_, .tail _ (.tail _ (.head _)), mem5 2 1 h21 r⟩
    | ⟨2, _⟩, ⟨0, _⟩ => exact ⟨_, .tail _ (.tail _ (.tail _ (.head _))), mem5 2 0 h20 r⟩
    | ⟨1, _⟩, ⟨1, _⟩ => exact ⟨_, .tail _ (.tail _ (.tail _ (.tail _ (.head _)))), mem5 1 1 h11 r⟩
    | ⟨1, _⟩, ⟨0, _⟩ => exact ⟨_, .tail _ (.tail _ (.tail _ (.tail _ (.tail _ (.head _))))), mem5 1 0 h10 r⟩
    | ⟨0, _⟩, ⟨1, _⟩ => exact ⟨_, .tail _ (.tail _ (.tail _ (.tail _ (.tail _ (.tail _ (.head _)))))), mem5 0 1 h01 r⟩
    | ⟨0, _⟩, ⟨0, _⟩ => exact ⟨_, .tail _ (.tail _ (.tail _ (.tail _ (.tail _ (.tail _ (.tail _ (.head _))))))), mem5 0 0 h00 r⟩

theorem ix2_rows_eq (sb : Fin 4) (r : Fin 256) : (256 * sb.val + r.val) / 256 = sb.val := by omega

/-- Row `256·sb + r` of a block of four sequences. -/
def rowIx (sb : Fin 4) (r : Fin 256) : Fin 1024 := ⟨256 * sb.val + r.val, by
  have h1 := sb.isLt
  have h2 := r.isLt
  omega⟩

def sbOf (i : Fin 1024) : Fin 4 := ⟨i.val / 256, by have := i.isLt; omega⟩
def rOf (i : Fin 1024) : Fin 256 := ⟨i.val % 256, Nat.mod_lt _ (by decide)⟩
theorem sbOf_rowIx (sb : Fin 4) (r : Fin 256) : sbOf (rowIx sb r) = sb :=
  Fin.ext (by show (256 * sb.val + r.val) / 256 = sb.val; omega)
theorem rOf_rowIx (sb : Fin 4) (r : Fin 256) : rOf (rowIx sb r) = r :=
  Fin.ext (by show (256 * sb.val + r.val) % 256 = r.val; omega)

/-- What the four row pieces `P` hold at a row of the block. -/
def byRows {e : EltTy} {n : Nat} (P : Fin 4 → Vec F ⟨2, ![256, n]⟩ e) : Vec F ⟨2, ![1024, n]⟩ e :=
  fun y => P (sbOf (y 0)) (ix2 (rOf (y 0)) (y 1))

theorem byRows_apply {e : EltTy} {n : Nat} (P : Fin 4 → Vec F ⟨2, ![256, n]⟩ e) (sb : Fin 4) (r : Fin 256) (c : Fin n) :
    byRows P (ix2 (rowIx sb r) c) = P sb (ix2 r c) := by
  show P (sbOf (rowIx sb r)) (ix2 (rOf (rowIx sb r)) c) = _
  rw [sbOf_rowIx, rOf_rowIx]

theorem pc2 {e : EltTy} {n : Nat} (P : Fin 4 → Vec F ⟨2, ![256, n]⟩ e) (sb : Fin 4) (off : Fin 2 → Nat)
    (h0 : off 0 = 256 * sb.val) (h1 : off 1 = 0) (h) (x : (⟨2, ![256, n]⟩ : Shape).Idx) :
    P sb x = byRows P ((Rect.unit (s := ⟨2, ![1024, n]⟩) off ![256, n] h).emb x) := by
  have hx : (x 0).val < 256 := (x 0).isLt
  have e0 : (Rect.unit (s := ⟨2, ![1024, n]⟩) off ![256, n] h).emb x = ix2 (rowIx sb (x 0)) (x 1) :=
    funext fun k => Fin.ext ((Rect.idx_unit_val _ _ h x k).trans (match k with
      | ⟨0, _⟩ => by show off 0 + (x 0).val = 256 * sb.val + (x 0).val; rw [h0]
      | ⟨1, _⟩ => by show off 1 + (x 1).val = (x 1).val; rw [h1]; omega))
  rw [e0]
  refine Eq.trans ?_ (byRows_apply P sb (x 0) (x 1)).symm
  exact congrArg (P sb) (eq_ix2 x)

theorem mem2 {n : Nat} (sb : Fin 4) (off : Fin 2 → Nat)
    (h0 : off 0 = 256 * sb.val) (h1 : off 1 = 0) (h) (y : (⟨2, ![1024, n]⟩ : Shape).Idx) (hy : sbOf (y 0) = sb) :
    y ∈ (Rect.unit (s := ⟨2, ![1024, n]⟩) off ![256, n] h).set :=
  Rect.mem_set_unit.2 fun k => match k with
    | ⟨0, _⟩ => by
        have e : (y 0).val / 256 = sb.val := congrArg Fin.val hy
        show off 0 ≤ (y 0).val ∧ (y 0).val < off 0 + 256
        rw [h0]; omega
    | ⟨1, _⟩ => by
        have e : (y 1).val < n := (y 1).isLt
        show off 1 ≤ (y 1).val ∧ (y 1).val < off 1 + n
        rw [h1]; omega

/-- Four row pieces make the whole block. -/
theorem canon2 {e : EltTy} {n : Nat} (P : Fin 4 → Vec F ⟨2, ![256, n]⟩ e) (h3) (h2) (h1) (h0) :
    View.canon (Val := Elt F) (s := ⟨2, ![1024, n]⟩) (e := e) [
      ⟨Rect.unit (s := ⟨2, ![1024, n]⟩) ![768, 0] ![256, n] h3, P 3⟩,
      ⟨Rect.unit (s := ⟨2, ![1024, n]⟩) ![512, 0] ![256, n] h2, P 2⟩,
      ⟨Rect.unit (s := ⟨2, ![1024, n]⟩) ![256, 0] ![256, n] h1, P 1⟩,
      ⟨Rect.unit (s := ⟨2, ![1024, n]⟩) ![0, 0] ![256, n] h0, P 0⟩] = byRows P := by
  funext y
  refine View.canon_apply_of_pieces (Val := Elt F) (byRows P) _ ?_ _ ?_
  · intro pc hpc x
    simp only [List.mem_cons, List.not_mem_nil, or_false] at hpc
    rcases hpc with rfl | rfl | rfl | rfl
    · exact pc2 P 3 _ rfl rfl h3 x
    · exact pc2 P 2 _ rfl rfl h2 x
    · exact pc2 P 1 _ rfl rfl h1 x
    · exact pc2 P 0 _ rfl rfl h0 x
  · have hs : ∃ sb, sbOf (y 0) = sb := ⟨_, rfl⟩
    obtain ⟨sb, hs⟩ := hs
    match sb, hs with
    | ⟨3, _⟩, hs => exact ⟨_, .head _, mem2 3 _ rfl rfl h3 y hs⟩
    | ⟨2, _⟩, hs => exact ⟨_, .tail _ (.head _), mem2 2 _ rfl rfl h2 y hs⟩
    | ⟨1, _⟩, hs => exact ⟨_, .tail _ (.tail _ (.head _)), mem2 1 _ rfl rfl h1 y hs⟩
    | ⟨0, _⟩, hs => exact ⟨_, .tail _ (.tail _ (.tail _ (.head _))), mem2 0 _ rfl rfl h0 y hs⟩

/-- The final cell state of sequence `sb`, direction `d`, of a block. -/
def Cblk (x4 : Vec F S1024x128 .f32) (x5 : Vec F S1x128 .f32) (x1 : Vec F S1024x256 .bf16) (x2 : Vec F S1024x512 .bf16)
    (sb : Fin 4) (d : Fin 2) : Vec F S1x1x256x512 .f32 :=
  match d with
  | 0 => C0 (rows sb x4) x5 (rows sb x1) (rows sb x2)
  | 1 => C1 (rows sb x4) x5 (rows sb x1) (rows sb x2)

/-- The final normaliser of sequence `sb`, direction `d`, of a block. -/
def Nblk (x4 : Vec F S1024x128 .f32) (x5 : Vec F S1x128 .f32) (x1 : Vec F S1024x256 .bf16)
    (sb : Fin 4) (d : Fin 2) : Vec F S1x1x1x256 .f32 :=
  match d with
  | 0 => N0 (rows sb x4) x5 (rows sb x1)
  | 1 => N1 (rows sb x4) x5 (rows sb x1)

/-- The stabiliser of the first direction over the lanes. -/
def M0 (x : Vec F S256x128 .f32) (b : Vec F S1x128 .f32) : Vec F S1x1x1x1x128 .f32 := k0_pay201 (mst0 x b)
/-- The stabiliser of the second direction over the lanes. -/
def M1 (x : Vec F S256x128 .f32) (b : Vec F S1x128 .f32) : Vec F S1x1x1x1x128 .f32 := k0_pay201 (mst1 x b)
theorem M0_fold (x : Vec F S256x128 .f32) (b : Vec F S1x128 .f32) : k0_pay201 (mst0 x b) = M0 x b := rfl
theorem M1_fold (x : Vec F S256x128 .f32) (b : Vec F S1x128 .f32) : k0_pay201 (mst1 x b) = M1 x b := rfl

/-- The final stabiliser of sequence `sb`, direction `d`, of a block, over the lanes. -/
def Mblk (x4 : Vec F S1024x128 .f32) (x5 : Vec F S1x128 .f32)
    (sb : Fin 4) (d : Fin 2) : Vec F S1x1x1x1x128 .f32 :=
  match d with
  | 0 => M0 (rows sb x4) x5
  | 1 => M1 (rows sb x4) x5

theorem p199 (x : FVec F S4x2x256x512 .f32) (sb : Fin 4) (d : Fin 2) (r : Fin 256) (c : Fin 512) :
    k0_pay199 x (ix6 sb 0 d 0 r c) = x (ix4 sb d r c) := by
  pointwise [k0_pay199]

theorem p200 (x : FVec F S4x2x1x256 .f32) (sb : Fin 4) (d : Fin 2) (c : Fin 256) :
    k0_pay200 x (ix6 sb 0 d 0 0 c) = x (ix4 sb d 0 c) := by
  pointwise [k0_pay200]
theorem off2 : (![0, 0] : Fin 2 → Nat) = fun _ => 0 := funext fun a => by fin_cases a <;> rfl
theorem off4 : (![0, 0, 0, 0] : Fin 4 → Nat) = fun _ => 0 := funext fun a => by fin_cases a <;> rfl
theorem off6 : (![0, 0, 0, 0, 0, 0] : Fin 6 → Nat) = fun _ => 0 := funext fun a => by fin_cases a <;> rfl

section Cases
variable (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S1x512 .f32) (harg8 : arg8.IsWhole) (arg13 : Memref sig .tc .vmem S1024x512 .bf16) (harg13 : arg13.IsWhole) (arg14 : Memref sig .tc .vmem S4x1x2x1x256x512 .f32) (harg14 : arg14.IsWhole) (arg15 : Memref sig .tc .vmem S4x1x2x1x1x256 .f32) (harg15 : arg15.IsWhole) (arg16 : Memref sig .tc .vmem S4x1x1x2x128 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S4x2x256x512 .f32) (harg19 : arg19.IsWhole) (arg20 : Memref sig .tc .vmem S4x2x1x256 .f32) (harg20 : arg20.IsWhole)
    (x0 : Vec F S1024x256 .bf16) (x1 : Vec F S1024x256 .bf16) (x2 : Vec F S1024x512 .bf16) (x3 : Vec F S1024x512 .f32) (x4 : Vec F S1024x128 .f32) (x5 : Vec F S1x128 .f32) (x6 : Vec F S1x512 .f32)

theorem out8_apply (sb : Fin 4) (d : Fin 2) (r : Fin 256) (c' : Fin 512) :
    out0_A_8 c i arg2 harg2 arg3 harg3 arg4 harg4 arg5 harg5 arg6 harg6 arg7 harg7 arg8 harg8 arg13 harg13 arg14 harg14 arg15 harg15 arg16 harg16 arg17 harg17 arg18 harg18 arg19 harg19 arg20 harg20 x0 x1 x2 x3 x4 x5 x6 (ix6 sb 0 d 0 r c') = Cblk x4 x5 x1 x2 sb d (ix4 0 0 r c') := by
  unfold out0_A_8
  rw [View.read_writes_eq_canon _ _ _ (cover0_A_8 c i arg2 harg2 arg3 harg3 arg4 harg4 arg5 harg5 arg6 harg6 arg7 harg7 arg8 harg8 arg13 harg13 arg14 harg14 arg15 harg15 arg16 harg16 arg17 harg17 arg18 harg18 arg19 harg19 arg20 harg20 x0 x1 x2 x3 x4 x5 x6)]
  unfold kernelRun0_A
  dsimp only
  sl_unfold_words
  rw [View.canon_unit_zero off6]
  simp only [View.readAt_eq_ld, harg2.read_unread, harg3.read_unread, harg4.read_unread, harg5.read_unread, harg6.read_unread, harg7.read_unread, harg8.read_unread, View.ld_unit_zero (S := S1x128) off2, View.ld_unit_zero (S := S1x512) off2]
  simp only [e_v43, e_v73, e_v103, e_v133, e_v44, e_v74, e_v104, e_v134, e_v52, e_v82, e_v112, e_v142, e_v60, e_v90, e_v120, e_v150, e_v169, e_v241, e_v313, e_v385, e_v178, e_v250, e_v322, e_v394, e_v179, e_v251, e_v323, e_v395, e_v181, e_v253, e_v325, e_v397, e_v184, e_v256, e_v328, e_v400, e_v186, e_v258, e_v330, e_v402, e_v440, e_v444, e_v448, e_v452, e_v477, e_v537, e_v597, e_v657, e_v478, e_v538, e_v598, e_v658, e_v481, e_v541, e_v601, e_v661, e_v482, e_v542, e_v602, e_v662, e_v484, e_v544, e_v604, e_v664, e_v205, e_v277, e_v349, e_v421, e_v214, e_v286, e_v358, e_v430, e_v215, e_v287, e_v359, e_v217, e_v289, e_v361, e_v433, e_v220, e_v292, e_v364, e_v436, e_v222, e_v294, e_v366, e_v442, e_v446, e_v450, e_v454, e_v507, e_v567, e_v627, e_v687, e_v508, e_v568, e_v628, e_v688, e_v511, e_v571, e_v631, e_v691, e_v512, e_v572, e_v632, e_v692, e_v514, e_v574, e_v634, e_v694, s_C00, s_N00, s_H00, s_C10, s_N10, s_H10, s_C01, s_N01, s_H01, s_C11, s_N11, s_H11, s_C02, s_N02, s_H02, s_C12, s_N12, s_H12, s_C03, s_N03, s_H03, s_C13, s_N13, s_H13, s_M201, s_M203, s_M204, s_M205, s_M206, s_M207, s_M208, s_M1]
  rw [p199, View.readCov_eq_canon']
  show View.canon _ (LoadRect.idx _ _) = _
  rw [idx_whole4]
  simp only [ld_rows0, ld_rows1, ld_rows2, ld_rows3]
  exact canon4 (fun sb d => Cblk x4 x5 x1 x2 sb d) _ _ _ _ _ _ _ _ sb d r c'

theorem out9_apply (sb : Fin 4) (d : Fin 2) (c' : Fin 256) :
    out0_A_9 c i arg2 harg2 arg3 harg3 arg4 harg4 arg5 harg5 arg6 harg6 arg7 harg7 arg8 harg8 arg13 harg13 arg14 harg14 arg15 harg15 arg16 harg16 arg17 harg17 arg18 harg18 arg19 harg19 arg20 harg20 x0 x1 x2 x3 x4 x5 x6 (ix6 sb 0 d 0 0 c') = Nblk x4 x5 x1 sb d (ix4 0 0 0 c') := by
  unfold out0_A_9
  rw [View.read_writes_eq_canon _ _ _ (cover0_A_9 c i arg2 harg2 arg3 harg3 arg4 harg4 arg5 harg5 arg6 harg6 arg7 harg7 arg8 harg8 arg13 harg13 arg14 harg14 arg15 harg15 arg16 harg16 arg17 harg17 arg18 harg18 arg19 harg19 arg20 harg20 x0 x1 x2 x3 x4 x5 x6)]
  unfold kernelRun0_A
  dsimp only
  sl_unfold_words
  rw [View.canon_unit_zero off6]
  simp only [View.readAt_eq_ld, harg2.read_unread, harg3.read_unread, harg4.read_unread, harg5.read_unread, harg6.read_unread, harg7.read_unread, harg8.read_unread, View.ld_unit_zero (S := S1x128) off2, View.ld_unit_zero (S := S1x512) off2]
  simp only [e_v43, e_v73, e_v103, e_v133, e_v44, e_v74, e_v104, e_v134, e_v52, e_v82, e_v112, e_v142, e_v60, e_v90, e_v120, e_v150, e_v169, e_v241, e_v313, e_v385, e_v178, e_v250, e_v322, e_v394, e_v179, e_v251, e_v323, e_v395, e_v181, e_v253, e_v325, e_v397, e_v184, e_v256, e_v328, e_v400, e_v186, e_v258, e_v330, e_v402, e_v440, e_v444, e_v448, e_v452, e_v477, e_v537, e_v597, e_v657, e_v478, e_v538, e_v598, e_v658, e_v481, e_v541, e_v601, e_v661, e_v482, e_v542, e_v602, e_v662, e_v484, e_v544, e_v604, e_v664, e_v205, e_v277, e_v349, e_v421, e_v214, e_v286, e_v358, e_v430, e_v215, e_v287, e_v359, e_v217, e_v289, e_v361, e_v433, e_v220, e_v292, e_v364, e_v436, e_v222, e_v294, e_v366, e_v442, e_v446, e_v450, e_v454, e_v507, e_v567, e_v627, e_v687, e_v508, e_v568, e_v628, e_v688, e_v511, e_v571, e_v631, e_v691, e_v512, e_v572, e_v632, e_v692, e_v514, e_v574, e_v634, e_v694, s_C00, s_N00, s_H00, s_C10, s_N10, s_H10, s_C01, s_N01, s_H01, s_C11, s_N11, s_H11, s_C02, s_N02, s_H02, s_C12, s_N12, s_H12, s_C03, s_N03, s_H03, s_C13, s_N13, s_H13, s_M201, s_M203, s_M204, s_M205, s_M206, s_M207, s_M208, s_M1]
  rw [p200, View.readCov_eq_canon']
  show View.canon _ (LoadRect.idx _ _) = _
  rw [idx_whole4]
  simp only [ld_rows0, ld_rows1, ld_rows2, ld_rows3]
  exact canon4 (fun sb d => Nblk x4 x5 x1 sb d) _ _ _ _ _ _ _ _ sb d 0 c'

end Cases
end Cert.Mlstm
end
-- ==== Proof.MlstmBlockM.lean ====
module

public import proofs.«01_k».proof.Proof.Gen.KernelIdeal.Frame
public import Idealize.ShloMosaic.Lib.Pipeline.Value
public import proofs.«01_k».proof.Proof.MlstmBlock
public import Idealize.ShloMosaic.Lib.Pointwise
public import Idealize.ShloMosaic.Lib.ValueIdxRank6
public import Idealize.ShloMosaic.Lib.Pipeline.ValueKit.Tiles
public import Idealize.ShloMosaic.Lib.IdealHost

@[expose] public section

set_option maxRecDepth 16384

noncomputable section

namespace Cert.Mlstm

open Cert.KernelIdeal Cert.KernelIdeal.Gen
open Idealize.ShloMosaic Idealize.ShloMosaic.TcCoe Idealize.SL.Sem

variable {F : FTy → Type} [FloatOps F]

section Cases
variable (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S1x512 .f32) (harg8 : arg8.IsWhole) (arg13 : Memref sig .tc .vmem S1024x512 .bf16) (harg13 : arg13.IsWhole) (arg14 : Memref sig .tc .vmem S4x1x2x1x256x512 .f32) (harg14 : arg14.IsWhole) (arg15 : Memref sig .tc .vmem S4x1x2x1x1x256 .f32) (harg15 : arg15.IsWhole) (arg16 : Memref sig .tc .vmem S4x1x1x2x128 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S4x2x256x512 .f32) (harg19 : arg19.IsWhole) (arg20 : Memref sig .tc .vmem S4x2x1x256 .f32) (harg20 : arg20.IsWhole)
    (x0 : Vec F S1024x256 .bf16) (x1 : Vec F S1024x256 .bf16) (x2 : Vec F S1024x512 .bf16) (x3 : Vec F S1024x512 .f32) (x4 : Vec F S1024x128 .f32) (x5 : Vec F S1x128 .f32) (x6 : Vec F S1x512 .f32)

theorem out10_apply (sb : Fin 4) (d : Fin 2) (l : Fin 128) :
    out0_A_10 c i arg2 harg2 arg3 harg3 arg4 harg4 arg5 harg5 arg6 harg6 arg7 harg7 arg8 harg8 arg13 harg13 arg14 harg14 arg15 harg15 arg16 harg16 arg17 harg17 arg18 harg18 arg19 harg19 arg20 harg20 x0 x1 x2 x3 x4 x5 x6 (ix5 sb 0 0 d l) = Mblk x4 x5 sb d (ix5 0 0 0 0 l) := by
  unfold out0_A_10
  rw [View.read_writes_eq_canon _ _ _ (cover0_A_10 c i arg2 harg2 arg3 harg3 arg4 harg4 arg5 harg5 arg6 harg6 arg7 harg7 arg8 harg8 arg13 harg13 arg14 harg14 arg15 harg15 arg16 harg16 arg17 harg17 arg18 harg18 arg19 harg19 arg20 harg20 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, View.ld_unit_zero (S := S1x128) off2, View.ld_unit_zero (S := S1x512) off2]
  simp only [e_v43, e_v73, e_v103, e_v133, e_v44, e_v74, e_v104, e_v134, e_v52, e_v82, e_v112, e_v142, e_v60, e_v90, e_v120, e_v150, e_v169, e_v241, e_v313, e_v385, e_v178, e_v250, e_v322, e_v394, e_v179, e_v251, e_v323, e_v395, e_v181, e_v253, e_v325, e_v397, e_v184, e_v256, e_v328, e_v400, e_v186, e_v258, e_v330, e_v402, e_v440, e_v444, e_v448, e_v452, e_v477, e_v537, e_v597, e_v657, e_v478, e_v538, e_v598, e_v658, e_v481, e_v541, e_v601, e_v661, e_v482, e_v542, e_v602, e_v662, e_v484, e_v544, e_v604, e_v664, e_v205, e_v277, e_v349, e_v421, e_v214, e_v286, e_v358, e_v430, e_v215, e_v287, e_v359, e_v217, e_v289, e_v361, e_v433, e_v220, e_v292, e_v364, e_v436, e_v222, e_v294, e_v366, e_v442, e_v446, e_v450, e_v454, e_v507, e_v567, e_v627, e_v687, e_v508, e_v568, e_v628, e_v688, e_v511, e_v571, e_v631, e_v691, e_v512, e_v572, e_v632, e_v692, e_v514, e_v574, e_v634, e_v694, s_C00, s_N00, s_H00, s_C10, s_N10, s_H10, s_C01, s_N01, s_H01, s_C11, s_N11, s_H11, s_C02, s_N02, s_H02, s_C12, s_N12, s_H12, s_C03, s_N03, s_H03, s_C13, s_N13, s_H13, s_M201, s_M203, s_M204, s_M205, s_M206, s_M207, s_M208, s_M1]
  simp only [ld_rows0, ld_rows1, ld_rows2, ld_rows3, M0_fold, M1_fold]
  have e := canon5 (fun sb d => Mblk x4 x5 sb d) inb_S4x1x1x2x128_S1x1x1x1x128_3_0_0_1_0 inb_S4x1x1x2x128_S1x1x1x1x128_3_0_0_0_0 inb_S4x1x1x2x128_S1x1x1x1x128_2_0_0_1_0 inb_S4x1x1x2x128_S1x1x1x1x128_2_0_0_0_0 inb_S4x1x1x2x128_S1x1x1x1x128_1_0_0_1_0 inb_S4x1x1x2x128_S1x1x1x1x128_1_0_0_0_0 inb_S4x1x1x2x128_S1x1x1x1x128_0_0_0_1_0 inb_S4x1x1x2x128_S1x1x1x1x128_0_0_0_0_0 sb d l
  dsimp only [Mblk] at e
  exact e

end Cases
end Cert.Mlstm
end
-- ==== Proof.MlstmBlockY.lean ====
module

public import proofs.«01_k».proof.Proof.Gen.KernelIdeal.Frame
public import Idealize.ShloMosaic.Lib.Pipeline.Value
public import proofs.«01_k».proof.Proof.MlstmBlock
public import Idealize.ShloMosaic.Lib.Pointwise
public import Idealize.ShloMosaic.Lib.ValueIdxRank6
public import Idealize.ShloMosaic.Lib.Pipeline.ValueKit.Tiles
public import Idealize.ShloMosaic.Lib.IdealHost

@[expose] public section

set_option maxRecDepth 16384

noncomputable section

namespace Cert.Mlstm

open Cert.KernelIdeal Cert.KernelIdeal.Gen
open Idealize.ShloMosaic Idealize.ShloMosaic.TcCoe Idealize.SL.Sem

variable {F : FTy → Type} [FloatOps F]

theorem trips4 : k0_t1_loop.trips = 4 := by decide +kernel

/-- The sequence a trip of the last loop finishes. -/
def sbTrip (k : Fin k0_t1_loop.trips) : Fin 4 := ⟨k.val, Nat.lt_of_lt_of_le k.isLt k0_t1_abs.2.1⟩

theorem off1_0 (k : Fin k0_t1_loop.trips) : k0_off1 k 0 = 256 * (sbTrip k).val := congrFun (k0_off1_eq k) 0
theorem off1_1 (k : Fin k0_t1_loop.trips) : k0_off1 k 1 = 0 := congrFun (k0_off1_eq k) 1

theorem ld_off1 {e : EltTy} (k : Fin k0_t1_loop.trips) (Y : Vec F S1024x512 e) :
    (fun j => Y ((Rect.unit (s := S1024x512) (k0_off1 k) S256x512.size (k0_off1_inb k)).toLoadRect.idx j)) = rows (sbTrip k) Y :=
  funext fun j => congrArg Y (funext fun a => Fin.ext ((Rect.idx_unit_val _ _ (k0_off1_inb k) j a).trans (match a with
    | ⟨0, _⟩ => by
        show k0_off1 k 0 + (j 0).val = 256 * (sbTrip k).val + (j 0).val
        rw [off1_0]
    | ⟨1, _⟩ => by
        show k0_off1 k 1 + (j 1).val = (j 1).val
        rw [off1_1]; omega)))

section Trip
variable (𝒱 : Variants) (c : Dev nD) (bd : Option 𝒱.V) (i : grid0.Coords) (arg2 : Memref sig .tc .vmem S1024x256 .bf16) (harg2 : arg2.IsWhole) (arg3 : Memref sig .tc .vmem S1024x256 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S1x512 .f32) (harg8 : arg8.IsWhole) (arg9 : Memref sig .tc .hbm S16384x2048 .bf16) (harg9 : arg9.IsWhole) (arg10 : Memref sig .tc .hbm S32x2x2x4x256x512 .f32) (harg10 : arg10.IsWhole) (arg11 : Memref sig .tc .hbm S32x2x2x4x1x256 .f32) (harg11 : arg11.IsWhole) (arg12 : Memref sig .tc .hbm S32x2x4x2x128 .f32) (harg12 : arg12.IsWhole) (arg13 : Memref sig .tc .vmem S1024x512 .bf16) (harg13 : arg13.IsWhole) (arg14 : Memref sig .tc .vmem S4x1x2x1x256x512 .f32) (harg14 : arg14.IsWhole) (arg15 : Memref sig .tc .vmem S4x1x2x1x1x256 .f32) (harg15 : arg15.IsWhole) (arg16 : Memref sig .tc .vmem S4x1x1x2x128 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S4x2x256x512 .f32) (harg19 : arg19.IsWhole) (arg20 : Memref sig .tc .vmem S4x2x1x256 .f32) (harg20 : arg20.IsWhole) (v440 : FVec F S1x1 .f32) (v442 : FVec F S1x1 .f32) (v835 : FVec F S256x512 .f32) (X_arg5 : BufTy.Contents (Elt F) arg5.view.ty) (X_arg8 : BufTy.Contents (Elt F) arg8.view.ty) (X_arg17 : BufTy.Contents (Elt F) arg17.view.ty) (X_arg18 : BufTy.Contents (Elt F) arg18.view.ty)

theorem trip_piece (k : Fin k0_t1_loop.trips) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v440 v442 v835 X_arg5 X_arg8 X_arg17 X_arg18 k = [⟨(Rect.unit (s := S1024x512) (k0_off1 k) S256x512.size (k0_off1_inb k)),
      k0_pay198 (View.readAt (Elt F) arg17.view (Rect.unit (s := S1024x512) (k0_off1 k) S256x512.size (k0_off1_inb k)).toLoadRect X_arg17) (View.readAt (Elt F) arg18.view (Rect.unit (s := S1024x512) (k0_off1 k) S256x512.size (k0_off1_inb k)).toLoadRect X_arg18)
        (View.readAt (Elt F) arg8.view (Rect.unit (s := S1x512) ![0, 0] S1x512.size inb_S1x512_S1x512_0_0).toLoadRect X_arg8)
        (View.readAt (Elt F) arg5.view (Rect.unit (s := S1024x512) (k0_off1 k) S256x512.size (k0_off1_inb k)).toLoadRect X_arg5)⟩] := by
  unfold tripL_k0_t1 trip_k0_t1
  rfl

theorem pb_pieces (Y17 Y18 Y5 : Vec F S1024x512 .f32) (Y8 : Vec F S1x512 .f32)
    (h17 : ∀ k, View.readAt (Elt F) arg17.view (Rect.unit (s := S1024x512) (k0_off1 k) S256x512.size (k0_off1_inb k)).toLoadRect X_arg17 = fun j => Y17 ((Rect.unit (s := S1024x512) (k0_off1 k) S256x512.size (k0_off1_inb k)).toLoadRect.idx j))
    (h18 : ∀ k, View.readAt (Elt F) arg18.view (Rect.unit (s := S1024x512) (k0_off1 k) S256x512.size (k0_off1_inb k)).toLoadRect X_arg18 = fun j => Y18 ((Rect.unit (s := S1024x512) (k0_off1 k) S256x512.size (k0_off1_inb k)).toLoadRect.idx j))
    (h5 : ∀ k, View.readAt (Elt F) arg5.view (Rect.unit (s := S1024x512) (k0_off1 k) S256x512.size (k0_off1_inb k)).toLoadRect X_arg5 = fun j => Y5 ((Rect.unit (s := S1024x512) (k0_off1 k) S256x512.size (k0_off1_inb k)).toLoadRect.idx j))
    (h8 : View.readAt (Elt F) arg8.view (Rect.unit (s := S1x512) ![0, 0] S1x512.size inb_S1x512_S1x512_0_0).toLoadRect X_arg8 = Y8) :
    ∀ n, n ≤ k0_t1_loop.trips →
      (∀ p ∈ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v440 v442 v835 X_arg5 X_arg8 X_arg17 X_arg18 n, ∀ x : p.1.shape.Idx,
        p.2 x = byRows (e := .bf16) (fun sb => k0_pay198 (rows sb Y17) (rows sb Y18) Y8 (rows sb Y5)) (p.1.emb x)) ∧
      (∀ y : S1024x512.Idx, (sbOf (y 0)).val < n → ∃ p ∈ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v440 v442 v835 X_arg5 X_arg8 X_arg17 X_arg18 n, y ∈ p.1.set)
  | 0, _ => ⟨fun p hp => absurd hp (by rw [pb_k0_t1.eq_1]; exact List.not_mem_nil), fun y hy => absurd hy (Nat.not_lt_zero _)⟩
  | n + 1, hn => by
    have ih := pb_pieces Y17 Y18 Y5 Y8 h17 h18 h5 h8 n (Nat.le_of_succ_le hn)
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v440 v442 v835 X_arg5 X_arg8 X_arg17 X_arg18 ⟨n, hn⟩
    have e2 := trip_piece (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v440 v442 v835 X_arg5 X_arg8 X_arg17 X_arg18 ⟨n, hn⟩
    rw [h17, h18, h5, h8, ld_off1, ld_off1, ld_off1] at e2
    rw [e2] at e
    rw [show (⟨n, hn⟩ : Fin k0_t1_loop.trips).val = n from rfl] at e
    rw [e]
    constructor
    · intro p hp x
      rcases List.mem_append.1 hp with hp | hp
      · rcases List.mem_singleton.1 hp with rfl
        exact pc2 (e := .bf16) (fun sb => k0_pay198 (rows sb Y17) (rows sb Y18) Y8 (rows sb Y5)) (sbTrip ⟨n, hn⟩) _
          (off1_0 _) (off1_1 _) (k0_off1_inb _) x
      · exact ih.1 p hp x
    · intro y hy
      by_cases hs : (sbOf (y 0)).val < n
      · obtain ⟨p, hp, hm⟩ := ih.2 y hs
        exact ⟨p, List.mem_append_right _ hp, hm⟩
      · exact ⟨_, List.mem_append_left _ (List.mem_singleton.2 rfl),
          mem2 (sbTrip ⟨n, hn⟩) _ (off1_0 _) (off1_1 _) (k0_off1_inb _) y
            (Fin.ext (by show (sbOf (y 0)).val = n; omega))⟩
end Trip

/-- The normalised and gated output rows of sequence `sb` of a block. -/
def Yblk (x0 x1 : Vec F S1024x256 .bf16) (x2 : Vec F S1024x512 .bf16) (x3 : Vec F S1024x512 .f32) (x4 : Vec F S1024x128 .f32)
    (x5 : Vec F S1x128 .f32) (x6 : Vec F S1x512 .f32) (sb : Fin 4) : FVec F S256x512 .bf16 :=
  k0_pay198 (H0 (rows sb x4) x5 (rows sb x0) (rows sb x1) (rows sb x2))
    (H1 (rows sb x4) x5 (rows sb x0) (rows sb x1) (rows sb x2)) x6 (rows sb x3)

theorem rows_byRows {e : EltTy} {n : Nat} (P : Fin 4 → Vec F ⟨2, ![256, n]⟩ e) (sb : Fin 4) : rows sb (byRows P) = P sb :=
  funext fun j => (byRows_apply P sb (j 0) (j 1)).trans (congrArg (P sb) (eq_ix2 j).symm)

/-- Reading back the rows of a scratch filled by the four sequences. -/
theorem readS (A : Memref sig .tc .vmem S1024x512 .f32) (P : Fin 4 → Vec F S256x512 .f32) (k : Fin k0_t1_loop.trips) :
    View.readAt (Elt F) A.view (Rect.unit (s := S1024x512) (k0_off1 k) S256x512.size (k0_off1_inb k)).toLoadRect (A.view.writes (Elt F) A.view.junk [⟨Rect.unit (s := S1024x512) ![768, 0] ![256, 512] inb_S1024x512_S256x512_768_0, P 3⟩, ⟨Rect.unit (s := S1024x512) ![512, 0] ![256, 512] inb_S1024x512_S256x512_512_0, P 2⟩, ⟨Rect.unit (s := S1024x512) ![256, 0] ![256, 512] inb_S1024x512_S256x512_256_0, P 1⟩, ⟨Rect.unit (s := S1024x512) ![0, 0] ![256, 512] inb_S1024x512_S256x512_0_0, P 0⟩])
      = fun j => byRows (e := .f32) P ((Rect.unit (s := S1024x512) (k0_off1 k) S256x512.size (k0_off1_inb k)).toLoadRect.idx j) := by
  rw [View.readAt_writes_junk_eq_canon]
  funext j
  exact congrFun (canon2 (e := .f32) P inb_S1024x512_S256x512_768_0 inb_S1024x512_S256x512_512_0
        inb_S1024x512_S256x512_256_0 inb_S1024x512_S256x512_0_0) _

section Cases
variable (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S1x512 .f32) (harg8 : arg8.IsWhole) (arg13 : Memref sig .tc .vmem S1024x512 .bf16) (harg13 : arg13.IsWhole) (arg14 : Memref sig .tc .vmem S4x1x2x1x256x512 .f32) (harg14 : arg14.IsWhole) (arg15 : Memref sig .tc .vmem S4x1x2x1x1x256 .f32) (harg15 : arg15.IsWhole) (arg16 : Memref sig .tc .vmem S4x1x1x2x128 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S4x2x256x512 .f32) (harg19 : arg19.IsWhole) (arg20 : Memref sig .tc .vmem S4x2x1x256 .f32) (harg20 : arg20.IsWhole)
    (x0 : Vec F S1024x256 .bf16) (x1 : Vec F S1024x256 .bf16) (x2 : Vec F S1024x512 .bf16) (x3 : Vec F S1024x512 .f32) (x4 : Vec F S1024x128 .f32) (x5 : Vec F S1x128 .f32) (x6 : Vec F S1x512 .f32)

theorem out7_apply (sb : Fin 4) (r : Fin 256) (c' : Fin 512) :
    out0_A_7 c i arg2 harg2 arg3 harg3 arg4 harg4 arg5 harg5 arg6 harg6 arg7 harg7 arg8 harg8 arg13 harg13 arg14 harg14 arg15 harg15 arg16 harg16 arg17 harg17 arg18 harg18 arg19 harg19 arg20 harg20 x0 x1 x2 x3 x4 x5 x6 (ix2 (rowIx sb r) c') = Yblk x0 x1 x2 x3 x4 x5 x6 sb (ix2 r c') := by
  unfold out0_A_7
  rw [View.read_writes_eq_canon _ _ _ (cover0_A_7 c i arg2 harg2 arg3 harg3 arg4 harg4 arg5 harg5 arg6 harg6 arg7 harg7 arg8 harg8 arg13 harg13 arg14 harg14 arg15 harg15 arg16 harg16 arg17 harg17 arg18 harg18 arg19 harg19 arg20 harg20 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, View.ld_unit_zero (S := S1x128) off2, View.ld_unit_zero (S := S1x512) off2]
  simp only [e_v43, e_v73, e_v103, e_v133, e_v44, e_v74, e_v104, e_v134, e_v52, e_v82, e_v112, e_v142, e_v60, e_v90, e_v120, e_v150, e_v169, e_v241, e_v313, e_v385, e_v178, e_v250, e_v322, e_v394, e_v179, e_v251, e_v323, e_v395, e_v181, e_v253, e_v325, e_v397, e_v184, e_v256, e_v328, e_v400, e_v186, e_v258, e_v330, e_v402, e_v440, e_v444, e_v448, e_v452, e_v477, e_v537, e_v597, e_v657, e_v478, e_v538, e_v598, e_v658, e_v481, e_v541, e_v601, e_v661, e_v482, e_v542, e_v602, e_v662, e_v484, e_v544, e_v604, e_v664, e_v205, e_v277, e_v349, e_v421, e_v214, e_v286, e_v358, e_v430, e_v215, e_v287, e_v359, e_v217, e_v289, e_v361, e_v433, e_v220, e_v292, e_v364, e_v436, e_v222, e_v294, e_v366, e_v442, e_v446, e_v450, e_v454, e_v507, e_v567, e_v627, e_v687, e_v508, e_v568, e_v628, e_v688, e_v511, e_v571, e_v631, e_v691, e_v512, e_v572, e_v632, e_v692, e_v514, e_v574, e_v634, e_v694, s_C00, s_N00, s_H00, s_C10, s_N10, s_H10, s_C01, s_N01, s_H01, s_C11, s_N11, s_H11, s_C02, s_N02, s_H02, s_C12, s_N12, s_H12, s_C03, s_N03, s_H03, s_C13, s_N13, s_H13, s_M201, s_M203, s_M204, s_M205, s_M206, s_M207, s_M208, s_M1]
  simp only [ld_rows0, ld_rows1, ld_rows2, ld_rows3]
  have h17 := readS arg17 (fun sb => H0 (rows sb x4) x5 (rows sb x0) (rows sb x1) (rows sb x2))
  have h18 := readS arg18 (fun sb => H1 (rows sb x4) x5 (rows sb x0) (rows sb x1) (rows sb x2))
  dsimp only at h17 h18
  generalize arg17.view.writes (Elt F) arg17.view.junk [⟨Rect.unit (s := S1024x512) ![768, 0] ![256, 512] inb_S1024x512_S256x512_768_0, H0 (rows 3 x4) x5 (rows 3 x0) (rows 3 x1) (rows 3 x2)⟩, ⟨Rect.unit (s := S1024x512) ![512, 0] ![256, 512] inb_S1024x512_S256x512_512_0, H0 (rows 2 x4) x5 (rows 2 x0) (rows 2 x1) (rows 2 x2)⟩, ⟨Rect.unit (s := S1024x512) ![256, 0] ![256, 512] inb_S1024x512_S256x512_256_0, H0 (rows 1 x4) x5 (rows 1 x0) (rows 1 x1) (rows 1 x2)⟩, ⟨Rect.unit (s := S1024x512) ![0, 0] ![256, 512] inb_S1024x512_S256x512_0_0, H0 (rows 0 x4) x5 (rows 0 x0) (rows 0 x1) (rows 0 x2)⟩] = X17 at h17 ⊢
  generalize arg18.view.writes (Elt F) arg18.view.junk [⟨Rect.unit (s := S1024x512) ![768, 0] ![256, 512] inb_S1024x512_S256x512_768_0, H1 (rows 3 x4) x5 (rows 3 x0) (rows 3 x1) (rows 3 x2)⟩, ⟨Rect.unit (s := S1024x512) ![512, 0] ![256, 512] inb_S1024x512_S256x512_512_0, H1 (rows 2 x4) x5 (rows 2 x0) (rows 2 x1) (rows 2 x2)⟩, ⟨Rect.unit (s := S1024x512) ![256, 0] ![256, 512] inb_S1024x512_S256x512_256_0, H1 (rows 1 x4) x5 (rows 1 x0) (rows 1 x1) (rows 1 x2)⟩, ⟨Rect.unit (s := S1024x512) ![0, 0] ![256, 512] inb_S1024x512_S256x512_0_0, H1 (rows 0 x4) x5 (rows 0 x0) (rows 0 x1) (rows 0 x2)⟩] = X18 at h18 ⊢
  have h5 : ∀ k, View.readAt (Elt F) arg5.view (Rect.unit (s := S1024x512) (k0_off1 k) S256x512.size (k0_off1_inb k)).toLoadRect (harg5.unread x3) = fun j => x3 ((Rect.unit (s := S1024x512) (k0_off1 k) S256x512.size (k0_off1_inb k)).toLoadRect.idx j) :=
    fun k => by rw [View.readAt_eq_ld, harg5.read_unread]
  have h8 : View.readAt (Elt F) arg8.view (Rect.unit (s := S1x512) ![0, 0] S1x512.size inb_S1x512_S1x512_0_0).toLoadRect (harg8.unread x6) = x6 := by
    rw [View.readAt_eq_ld, harg8.read_unread, View.ld_unit_zero (S := S1x512) off2]
  generalize harg5.unread x3 = X5 at h5 ⊢
  generalize harg8.unread x6 = X8 at h8 ⊢
  generalize mst0 (rows 0 x4) x5 = w1
  generalize mst1 (rows 0 x4) x5 = w2
  generalize k0_pay196 (F := F) _ _ _ = w3
  have hp := pb_pieces (F := F) Variants.none c none i arg2 harg2 arg3 harg3 arg4 harg4 arg5 harg5 arg6 harg6 arg7 harg7 arg8 harg8 (Memref.whole main_arg4) (Memref.isWhole_whole _) (Memref.whole main_arg5) (Memref.isWhole_whole _) (Memref.whole main_arg6) (Memref.isWhole_whole _) (Memref.whole main_arg7) (Memref.isWhole_whole _) arg13 harg13 arg14 harg14 arg15 harg15 arg16 harg16 arg17 harg17 arg18 harg18 arg19 harg19 arg20 harg20 w1 w2 w3 X5 X8 X17 X18 (byRows (e := .f32) (fun sb => H0 (rows sb x4) x5 (rows sb x0) (rows sb x1) (rows sb x2))) (byRows (e := .f32) (fun sb => H1 (rows sb x4) x5 (rows sb x0) (rows sb x1) (rows sb x2))) x3 x6 h17 h18 h5 h8
    _ (Nat.le_refl _)
  refine (View.canon_apply_of_pieces (Val := Elt F) _ _ hp.1 _ (hp.2 _ ?_)).trans
    ((byRows_apply _ sb r c').trans ?_)
  · exact Nat.lt_of_lt_of_eq (sbOf _).isLt trips4.symm
  · show k0_pay198 (rows sb (byRows _)) (rows sb (byRows _)) x6 (rows sb x3) _ = _
    rw [rows_byRows, rows_byRows]
    rfl
end Cases
end Cert.Mlstm
end
-- ==== Proof.MlstmSpec.lean ====
module

public import Idealize.ShloMosaic.Lib.Pointwise
public import Idealize.ShloMosaic.Lib.IdealHost

@[expose] public section

noncomputable section

/-! The stabilised mLSTM recurrence of one sequence of 256 tokens and one head, from the zero state, on the extended
reals. `P t s` says that token `s` is seen by token `t`; `L` is the token that sees all of them. -/

namespace Cert.Mlstm.Spec

open Idealize.ShloMosaic

/-- The sum of the log forget gates of the tokens seen. -/
def B (P : Fin 256 → Fin 256 → Prop) [∀ t s, Decidable (P t s)] (lf : Fin 256 → EReal) (t : Fin 256) : EReal :=
  ∑ s, if P t s then lf s else 0

/-- The log weight of token `s` at token `t`. -/
def D (P : Fin 256 → Fin 256 → Prop) [∀ t s, Decidable (P t s)] (li lf : Fin 256 → EReal) (t s : Fin 256) : EReal :=
  if P t s then B P lf t - B P lf s + li s else ⊥

/-- The stabiliser at token `t`. -/
def m (P : Fin 256 → Fin 256 → Prop) [∀ t s, Decidable (P t s)] (li lf : Fin 256 → EReal) (t : Fin 256) : EReal :=
  max (B P lf t) (Finset.fold max ⊥ (fun s => D P li lf t s) Finset.univ)

/-- The weighted scores. -/
def S (P : Fin 256 → Fin 256 → Prop) [∀ t s, Decidable (P t s)] (li lf : Fin 256 → EReal)
    (q k : Fin 256 → Fin 256 → EReal) (t s : Fin 256) : EReal :=
  (∑ x, q t x * k s x) * Ideal.exp (D P li lf t s - m P li lf t)

/-- The output before normalisation over the features. -/
def H (P : Fin 256 → Fin 256 → Prop) [∀ t s, Decidable (P t s)] (li lf : Fin 256 → EReal)
    (q k : Fin 256 → Fin 256 → EReal) (v : Fin 256 → Fin 512 → EReal) (t : Fin 256) (e : Fin 512) : EReal :=
  Ideal.div (∑ s, S P li lf q k t s * v s e)
    (max (FloatOps.absf (F := Ideal) (φ := .f32) (∑ s, S P li lf q k t s)) (Ideal.exp (-m P li lf t)))

/-- The log weight of token `s` in the final state. -/
def g (P : Fin 256 → Fin 256 → Prop) [∀ t s, Decidable (P t s)] (L : Fin 256) (li lf : Fin 256 → EReal) (s : Fin 256) : EReal :=
  B P lf L - B P lf s + li s

/-- The stabiliser of the final state. -/
def mn (P : Fin 256 → Fin 256 → Prop) [∀ t s, Decidable (P t s)] (L : Fin 256) (li lf : Fin 256 → EReal) : EReal :=
  max (B P lf L) (Finset.fold max ⊥ (fun s => g P L li lf s) Finset.univ)

/-- The weight of token `s` in the final state. -/
def w (P : Fin 256 → Fin 256 → Prop) [∀ t s, Decidable (P t s)] (L : Fin 256) (li lf : Fin 256 → EReal) (s : Fin 256) : EReal :=
  Ideal.exp (g P L li lf s - mn P L li lf)

/-- The matrix of the final state. -/
def C (P : Fin 256 → Fin 256 → Prop) [∀ t s, Decidable (P t s)] (L : Fin 256) (li lf : Fin 256 → EReal)
    (k : Fin 256 → Fin 256 → EReal) (v : Fin 256 → Fin 512 → EReal) (c : Fin 256) (e : Fin 512) : EReal :=
  ∑ s, w P L li lf s * k s c * v s e

/-- The normaliser of the final state. -/
def N (P : Fin 256 → Fin 256 → Prop) [∀ t s, Decidable (P t s)] (L : Fin 256) (li lf : Fin 256 → EReal)
    (k : Fin 256 → Fin 256 → EReal) (c : Fin 256) : EReal :=
  ∑ s, w P L li lf s * k s c

/-- Every token sees the earlier ones and itself. -/
abbrev fwd (t s : Fin 256) : Prop := s ≤ t
/-- Every token sees the later ones and itself. -/
abbrev bwd (t s : Fin 256) : Prop := t ≤ s

/-! ### Running the sequence backwards -/

theorem fold_rev (f : Fin 256 → EReal) :
    Finset.fold max ⊥ (fun s : Fin 256 => f s.rev) Finset.univ = Finset.fold max ⊥ f Finset.univ := by
  have h := Finset.fold_map (op := (max : EReal → EReal → EReal)) (g := Fin.revPerm.toEmbedding) (f := f) (b := ⊥)
    (s := (Finset.univ : Finset (Fin 256)))
  rw [Finset.univ_map_equiv_to_embedding] at h
  exact h.symm

theorem sum_rev (f : Fin 256 → EReal) : ∑ s : Fin 256, f s.rev = ∑ s, f s := Equiv.sum_comp Fin.revPerm f

variable (li lf : Fin 256 → EReal) (q k : Fin 256 → Fin 256 → EReal) (v : Fin 256 → Fin 512 → EReal)

theorem B_rev (t : Fin 256) : B fwd (fun s => lf s.rev) t.rev = B bwd lf t := by
  unfold B
  rw [← sum_rev]
  refine Finset.sum_congr rfl fun s _ => ?_
  simp only [Fin.rev_rev]
  exact if_congr Fin.rev_le_rev rfl rfl

theorem D_rev (t s : Fin 256) : D fwd (fun s => li s.rev) (fun s => lf s.rev) t.rev s.rev = D bwd li lf t s := by
  unfold D
  simp only [B_rev, Fin.rev_rev]
  exact if_congr Fin.rev_le_rev rfl rfl

theorem m_rev (t : Fin 256) : m fwd (fun s => li s.rev) (fun s => lf s.rev) t.rev = m bwd li lf t := by
  unfold m
  rw [B_rev, ← fold_rev]
  simp only [D_rev]

theorem S_rev (t s : Fin 256) :
    S fwd (fun s => li s.rev) (fun s => lf s.rev) (fun t => q t.rev) (fun s => k s.rev) t.rev s.rev = S bwd li lf q k t s := by
  unfold S
  rw [D_rev, m_rev]
  simp only [Fin.rev_rev]

theorem H_rev (t : Fin 256) (e : Fin 512) :
    H fwd (fun s => li s.rev) (fun s => lf s.rev) (fun t => q t.rev) (fun s => k s.rev) (fun s => v s.rev) t.rev e
      = H bwd li lf q k v t e := by
  unfold H
  rw [m_rev, ← sum_rev, ← sum_rev (fun s => S fwd _ _ _ _ t.rev s)]
  simp only [S_rev, Fin.rev_rev]

theorem g_rev (s : Fin 256) : g fwd 255 (fun s => li s.rev) (fun s => lf s.rev) s.rev = g bwd 0 li lf s := by
  unfold g
  simp only [B_rev, Fin.rev_rev]
  exact congrArg (fun z => z - B bwd lf s + li s) (B_rev lf 0)

theorem mn_rev : mn fwd 255 (fun s => li s.rev) (fun s => lf s.rev) = mn bwd 0 li lf := by
  unfold mn
  rw [← fold_rev]
  simp only [g_rev]
  exact congrArg (fun z => max z _) (B_rev lf 0)

theorem w_rev (s : Fin 256) : w fwd 255 (fun s => li s.rev) (fun s => lf s.rev) s.rev = w bwd 0 li lf s := by
  unfold w
  rw [g_rev, mn_rev]

theorem C_rev (c : Fin 256) (e : Fin 512) :
    C fwd 255 (fun s => li s.rev) (fun s => lf s.rev) (fun s => k s.rev) (fun s => v s.rev) c e = C bwd 0 li lf k v c e := by
  unfold C
  rw [← sum_rev]
  simp only [w_rev, Fin.rev_rev]

theorem N_rev (c : Fin 256) :
    N fwd 255 (fun s => li s.rev) (fun s => lf s.rev) (fun s => k s.rev) c = N bwd 0 li lf k c := by
  unfold N
  rw [← sum_rev]
  simp only [w_rev, Fin.rev_rev]

/-! ### The log weights written the other way round -/

/-- The log weight less the token's own running sum. -/
def K (P : Fin 256 → Fin 256 → Prop) [∀ t s, Decidable (P t s)] (li lf : Fin 256 → EReal) (t s : Fin 256) : EReal :=
  if P t s then li s - B P lf s else ⊥

section K
variable (P : Fin 256 → Fin 256 → Prop) [∀ t s, Decidable (P t s)]

theorem D_eq (t s : Fin 256) : D P li lf t s = B P lf t + K P li lf t s := by
  unfold D K
  split
  · rw [sub_eq_add_neg, sub_eq_add_neg, add_assoc, add_comm (li s)]
  · rw [EReal.add_bot]

theorem add_fold (β : EReal) (f : Fin 256 → EReal) :
    β + Finset.fold max ⊥ f Finset.univ = Finset.fold max ⊥ (fun s => β + f s) Finset.univ := by
  generalize (Finset.univ : Finset (Fin 256)) = u
  induction u using Finset.induction_on with
  | empty => simp
  | insert a u ha ih =>
    rw [Finset.fold_insert ha, Finset.fold_insert ha, ← ih]
    exact Monotone.map_max (f := fun z => β + z) fun x y h => add_le_add_right h β

theorem m_eq (t : Fin 256) : m P li lf t = max (B P lf t) (B P lf t + Finset.fold max ⊥ (fun s => K P li lf t s) Finset.univ) := by
  unfold m
  rw [add_fold]
  simp only [D_eq]

theorem D_sub_m (t s : Fin 256) : D P li lf t s - m P li lf t = K P li lf t s + (B P lf t - m P li lf t) := by
  rw [D_eq, sub_eq_add_neg, sub_eq_add_neg, ← add_assoc, add_comm (K P li lf t s)]

theorem g_eq (L s : Fin 256) : g P L li lf s = B P lf L + (li s - B P lf s) := by
  unfold g
  rw [sub_eq_add_neg, sub_eq_add_neg, add_assoc, add_comm (li s)]

/-! ### Finite gates -/

theorem coe_max (a b : ℝ) : ((max a b : ℝ) : EReal) = max (a : EReal) (b : EReal) := EReal.coe_strictMono.monotone.map_max
theorem coe_min (a b : ℝ) : ((min a b : ℝ) : EReal) = min (a : EReal) (b : EReal) := EReal.coe_strictMono.monotone.map_min
theorem coe_sum (r : Fin 256 → ℝ) : ((∑ s, r s : ℝ) : EReal) = ∑ s, (r s : EReal) := by
  generalize (Finset.univ : Finset (Fin 256)) = u
  induction u using Finset.induction_on with
  | empty => simp
  | insert a u ha ih => rw [Finset.sum_insert ha, Finset.sum_insert ha, EReal.coe_add, ih]

variable (hi : ∀ s, li s ≠ ⊤) (hf : ∀ s, ∃ r : ℝ, lf s = (r : EReal))
include hf

theorem B_real (t : Fin 256) : ∃ r : ℝ, B P lf t = (r : EReal) := by
  choose r hr using hf
  refine ⟨∑ s, if P t s then r s else 0, ?_⟩
  unfold B
  rw [coe_sum]
  refine Finset.sum_congr rfl fun s _ => ?_
  rw [hr]
  split <;> rfl

include hi

theorem fold_lt_top (f : Fin 256 → EReal) (h : ∀ s, f s ≠ ⊤) : Finset.fold max ⊥ f Finset.univ < ⊤ :=
  (Finset.fold_max_lt _).2 ⟨bot_lt_top, fun s _ => lt_top_iff_ne_top.2 (h s)⟩

theorem D_ne_top (t s : Fin 256) : D P li lf t s ≠ ⊤ := by
  unfold D
  split
  · obtain ⟨a, ha⟩ := B_real lf P hf t
    obtain ⟨b, hb⟩ := B_real lf P hf s
    rw [ha, hb, ← EReal.coe_sub]
    exact (EReal.add_lt_top (EReal.coe_ne_top _) (hi s)).ne
  · exact bot_ne_top

theorem m_ne_top (t : Fin 256) : m P li lf t ≠ ⊤ := by
  unfold m
  obtain ⟨a, ha⟩ := B_real lf P hf t
  exact (max_lt (ha ▸ EReal.coe_lt_top a) (fold_lt_top li lf hi hf _ fun s => D_ne_top li lf P hi hf t s)).ne

theorem exp_pos_of_ne_bot {x : EReal} (h : x ≠ ⊥) : 0 < Ideal.exp x := by
  induction x with
  | bot => exact absurd rfl h
  | top => exact EReal.zero_lt_top
  | coe r => exact EReal.coe_pos.2 (Real.exp_pos r)

theorem den_ne_zero (a : EReal) (t : Fin 256) : max a (Ideal.exp (-m P li lf t)) ≠ 0 := by
  refine (lt_max_of_lt_right (exp_pos_of_ne_bot li lf hi hf ?_)).ne'
  intro h
  exact m_ne_top li lf P hi hf t (EReal.neg_eq_bot_iff.1 h)
end K

/-! ### The gates -/

/-- The log of the forget gate: both ways of writing it agree at a finite number. -/
theorem log1p_real (r : ℝ) : ∃ l : ℝ, Ideal.log1p (Ideal.exp (r : EReal)) = (l : EReal) := by
  refine ⟨Real.log (1 + Real.exp r), ?_⟩
  show Ideal.log (1 + (Real.exp r : EReal)) = _
  rw [show (1 : EReal) + (Real.exp r : EReal) = ((1 + Real.exp r : ℝ) : EReal) from (EReal.coe_add 1 _).symm]
  show (if 1 + Real.exp r ≤ 0 then ⊥ else ((Real.log (1 + Real.exp r) : ℝ) : EReal)) = _
  rw [if_neg (not_le.2 (by positivity))]

theorem absf_coe (r : ℝ) : FloatOps.absf (F := Ideal) (φ := .f32) (r : EReal) = ((|r| : ℝ) : EReal) := by
  show max (r : EReal) (-(r : EReal)) = _
  rw [← EReal.coe_neg, ← coe_max]
  rfl

/-- The log of the logistic function, as the reference writes it. -/
def logsig (z : EReal) : EReal :=
  -(max (-z) 0 + Ideal.log1p (Ideal.exp (-FloatOps.absf (F := Ideal) (φ := .f32) (-z))))

theorem logsig_eq (r : ℝ) :
    min (r : EReal) 0 - Ideal.log1p (Ideal.exp (0 - FloatOps.absf (F := Ideal) (φ := .f32) (r : EReal))) = logsig (r : EReal) := by
  unfold logsig
  rw [← EReal.coe_neg, absf_coe, absf_coe, abs_neg, zero_sub, ← EReal.coe_neg]
  obtain ⟨l, hl⟩ := log1p_real (-|r|)
  rw [hl, show (0 : EReal) = ((0 : ℝ) : EReal) from rfl, ← coe_max, ← coe_min, ← EReal.coe_add, ← EReal.coe_neg,
    ← EReal.coe_sub]
  congr 1
  rcases le_total r 0 with h | h
  · rw [min_eq_left h, max_eq_left (by linarith)]; ring
  · rw [min_eq_right h, max_eq_right (by linarith)]; ring

theorem logsig_real (r : ℝ) : ∃ l : ℝ, logsig (r : EReal) = (l : EReal) := by
  unfold logsig
  rw [← EReal.coe_neg, absf_coe, ← EReal.coe_neg]
  obtain ⟨l, hl⟩ := log1p_real (-|(-r)|)
  rw [hl, show (0 : EReal) = ((0 : ℝ) : EReal) from rfl, ← coe_max, ← EReal.coe_add, ← EReal.coe_neg]
  exact ⟨_, rfl⟩

/-- The logistic function through the hyperbolic tangent. -/
theorem sigmoid_eq (x : EReal) (h : EReal) (hh : h = ((1 / 2 : ℝ) : EReal)) :
    h * Ideal.tanh (h * x) + h = Ideal.div 1 (1 + Ideal.exp (-x)) := by
  subst hh
  induction x with
  | bot =>
    rw [EReal.coe_mul_bot_of_pos (by norm_num)]
    show ((1 / 2 : ℝ) : EReal) * (-1) + _ = Ideal.div 1 (1 + Ideal.exp (-⊥))
    rw [EReal.neg_bot]
    show _ = Ideal.div 1 (1 + ⊤)
    rw [show (1 : EReal) + ⊤ = ⊤ from rfl, Ideal.div, if_neg (by decide), EReal.inv_top, mul_zero, mul_neg, mul_one,
      ← EReal.coe_neg, ← EReal.coe_add]
    norm_num
  | top =>
    rw [EReal.coe_mul_top_of_pos (by norm_num)]
    show ((1 / 2 : ℝ) : EReal) * 1 + _ = Ideal.div 1 (1 + Ideal.exp (-⊤))
    rw [EReal.neg_top]
    show _ = Ideal.div 1 (1 + 0)
    rw [add_zero, Ideal.div, if_neg one_ne_zero, mul_one, ← EReal.coe_add]
    norm_num
  | coe r =>
    rw [← EReal.coe_mul, ← EReal.coe_neg]
    show ((1 / 2 : ℝ) : EReal) * ((Real.tanh (1 / 2 * r) : ℝ) : EReal) + _ = Ideal.div 1 (1 + ((Real.exp (-r) : ℝ) : EReal))
    rw [show (1 : EReal) + ((Real.exp (-r) : ℝ) : EReal) = ((1 + Real.exp (-r) : ℝ) : EReal) from (EReal.coe_add 1 _).symm,
      Ideal.div, if_neg (by
        rw [EReal.coe_eq_zero]; positivity), one_mul, ← EReal.coe_inv, ← EReal.coe_mul, ← EReal.coe_add]
    congr 1
    have e : Real.exp (-r) = Real.exp (-(1 / 2 * r)) * Real.exp (-(1 / 2 * r)) := by
      rw [← Real.exp_add]; congr 1; ring
    have e1 : Real.exp (1 / 2 * r) * Real.exp (-(1 / 2 * r)) = 1 := by
      rw [← Real.exp_add]; simp
    rw [Real.tanh_eq_sinh_div_cosh, Real.sinh_eq, Real.cosh_eq, e]
    have p1 := Real.exp_pos (1 / 2 * r)
    have p2 := Real.exp_pos (-(1 / 2 * r))
    generalize Real.exp (1 / 2 * r) = a at *
    generalize Real.exp (-(1 / 2 * r)) = b at *
    have : a = b⁻¹ := eq_inv_of_mul_eq_one_left e1
    subst this
    field_simp
    ring

end Cert.Mlstm.Spec
end
-- ==== Proof.MlstmOut.lean ====
/-
  The four results of the mLSTM layer as functions of its arguments, in terms of the recurrence of `Spec`: `B` is the
  sequence, `h` the head, `t` the token; direction 0 goes forward in time and direction 1 backward.
-/
module

public import proofs.«01_k».proof.Proof.MlstmSpec
public import Idealize.ShloMosaic.Lib.Pointwise
public import Idealize.ShloMosaic.Lib.IdealHost

@[expose] public section

noncomputable section

namespace Cert.Mlstm

open Idealize.ShloMosaic

/-- A row of one head, normalised over the head, scaled by the gain `ng` and gated by the logistic function of `o`. -/
def yRow (h : Fin 512 → EReal) (ng o : EReal) (e : Fin 512) : EReal :=
  h e * Ideal.rsqrt (Ideal.div (∑ c, h c * h c) (Ideal.ofBits .f32 1140850688#32) + Ideal.ofBits .f32 897988541#32) * ng
    * Ideal.div 1 (1 + Ideal.exp (-o))

namespace Out

abbrev SQKV : Shape := ⟨2, ![16384, 4096]⟩
abbrev SOG : Shape := ⟨2, ![16384, 2560]⟩
abbrev SGB : Shape := ⟨2, ![1, 512]⟩
abbrev SNG : Shape := ⟨1, ![2048]⟩
abbrev SY : Shape := ⟨2, ![16384, 2048]⟩
abbrev SC : Shape := ⟨6, ![32, 2, 2, 4, 256, 512]⟩
abbrev SN : Shape := ⟨6, ![32, 2, 2, 4, 1, 256]⟩
abbrev SM : Shape := ⟨5, ![32, 2, 4, 2, 128]⟩

variable (x0 : FVec Ideal SQKV .bf16) (x1 : FVec Ideal SOG .f32) (x2 : FVec Ideal SGB .f32) (x3 : FVec Ideal SNG .f32)
  (x4 : FVec Ideal SY .bf16) (x5 : FVec Ideal SC .f32) (x6 : FVec Ideal SN .f32) (x7 : FVec Ideal SM .f32)

/-- Token `t` of sequence `B`, as a row. -/
abbrev row (B : Fin 32) (t : Fin 256) : Fin 16384 := ⟨B.val * 256 + t.val, by omega⟩

/-- Queries, keys and values. -/
def q (B : Fin 32) (h : Fin 4) (t : Fin 256) (c : Fin 256) : EReal := x0 (ix2 (row B t) ⟨h.val * 256 + c.val, by omega⟩)
def k (B : Fin 32) (h : Fin 4) (t : Fin 256) (c : Fin 256) : EReal := x0 (ix2 (row B t) ⟨1024 + (h.val * 256 + c.val), by omega⟩)
def v (B : Fin 32) (h : Fin 4) (t : Fin 256) (e : Fin 512) : EReal := x0 (ix2 (row B t) ⟨2048 + (h.val * 512 + e.val), by omega⟩)

/-- The gate pre-activations, in 128 lanes. -/
def z (B : Fin 32) (h : Fin 4) (t : Fin 256) (l : Fin 128) : EReal :=
  x1 (ix2 (row B t) ⟨2048 + (h.val * 128 + l.val), by omega⟩) + x2 (ix2 0 ⟨h.val * 128 + l.val, by omega⟩)

/-- The input gates' and the forget gates' logarithms, forward and backward. -/
def li0 (B : Fin 32) (h : Fin 4) (t : Fin 256) : EReal := z x1 x2 B h t 0
def lf0 (B : Fin 32) (h : Fin 4) (t : Fin 256) : EReal := Spec.logsig (z x1 x2 B h t 1)
def li1 (B : Fin 32) (h : Fin 4) (t : Fin 256) : EReal := z x1 x2 B h t 2
def lf1 (B : Fin 32) (h : Fin 4) (t : Fin 256) : EReal := Spec.logsig (z x1 x2 B h t 3)

/-- The two directions' hidden rows. -/
def H0 (B : Fin 32) (h : Fin 4) (t : Fin 256) (e : Fin 512) : EReal :=
  Spec.H Spec.fwd (li0 x1 x2 B h) (lf0 x1 x2 B h) (q x0 B h) (k x0 B h) (v x0 B h) t e
def H1 (B : Fin 32) (h : Fin 4) (t : Fin 256) (e : Fin 512) : EReal :=
  Spec.H Spec.bwd (li1 x1 x2 B h) (lf1 x1 x2 B h) (q x0 B h) (k x0 B h) (v x0 B h) t e

/-- The last token's matrix state, normaliser state and stabiliser of each direction. -/
def C0 (B : Fin 32) (h : Fin 4) (c : Fin 256) (e : Fin 512) : EReal :=
  Spec.C Spec.fwd 255 (li0 x1 x2 B h) (lf0 x1 x2 B h) (k x0 B h) (v x0 B h) c e
def C1 (B : Fin 32) (h : Fin 4) (c : Fin 256) (e : Fin 512) : EReal :=
  Spec.C Spec.bwd 0 (li1 x1 x2 B h) (lf1 x1 x2 B h) (k x0 B h) (v x0 B h) c e
def N0 (B : Fin 32) (h : Fin 4) (c : Fin 256) : EReal := Spec.N Spec.fwd 255 (li0 x1 x2 B h) (lf0 x1 x2 B h) (k x0 B h) c
def N1 (B : Fin 32) (h : Fin 4) (c : Fin 256) : EReal := Spec.N Spec.bwd 0 (li1 x1 x2 B h) (lf1 x1 x2 B h) (k x0 B h) c
def M0 (B : Fin 32) (h : Fin 4) : EReal := Spec.mn Spec.fwd 255 (li0 x1 x2 B h) (lf0 x1 x2 B h)
def M1 (B : Fin 32) (h : Fin 4) : EReal := Spec.mn Spec.bwd 0 (li1 x1 x2 B h) (lf1 x1 x2 B h)

/-- A row of the layer's output: the two directions' sum, normalised and gated. -/
def y (B : Fin 32) (h : Fin 4) (t : Fin 256) (e : Fin 512) : EReal :=
  yRow (fun e => H0 x0 x1 x2 B h t e + H1 x0 x1 x2 B h t e) (x3 (ix1 ⟨h.val * 512 + e.val, by omega⟩))
    (x1 (ix2 (row B t) ⟨h.val * 512 + e.val, by omega⟩)) e

/-- The four result arrays at an index: the first 8192 rows are computed and the others are kept; of the two layers' states
    the second's are computed and the first's are kept. -/
def yAt (r : Fin 16384) (c : Fin 2048) : EReal :=
  if hr : r.val < 8192 then y x0 x1 x2 x3 ⟨r.val / 256, by omega⟩ ⟨c.val / 512, by omega⟩ ⟨r.val % 256, by omega⟩ ⟨c.val % 512, by omega⟩
  else x4 (ix2 r c)
def cAt (B : Fin 32) (j d : Fin 2) (h : Fin 4) (c : Fin 256) (e : Fin 512) : EReal :=
  if j.val = 0 then x5 (ix6 B j d h c e) else if d.val = 0 then C0 x0 x1 x2 B h c e else C1 x0 x1 x2 B h c e
def nAt (B : Fin 32) (j d : Fin 2) (h : Fin 4) (u : Fin 1) (c : Fin 256) : EReal :=
  if j.val = 0 then x6 (ix6 B j d h u c) else if d.val = 0 then N0 x0 x1 x2 B h c else N1 x0 x1 x2 B h c
def mAt (B : Fin 32) (j : Fin 2) (h : Fin 4) (d : Fin 2) (l : Fin 128) : EReal :=
  if j.val = 0 then x7 (ix5 B j h d l) else if d.val = 0 then M0 x1 x2 B h else M1 x1 x2 B h

/-- The four result arrays. -/
def yArr : FVec Ideal SY .bf16 := fun i => yAt x0 x1 x2 x3 x4 (i 0) (i 1)
def cArr : FVec Ideal SC .f32 := fun i => cAt x0 x1 x2 x5 (i 0) (i 1) (i 2) (i 3) (i 4) (i 5)
def nArr : FVec Ideal SN .f32 := fun i => nAt x0 x1 x2 x6 (i 0) (i 1) (i 2) (i 3) (i 4) (i 5)
def mArr : FVec Ideal SM .f32 := fun i => mAt x1 x2 x7 (i 0) (i 1) (i 2) (i 3) (i 4)

end Out

end Cert.Mlstm

end
-- ==== Proof.MlstmPay.lean ====
module

public import proofs.«01_k».proof.Proof.MlstmUnit
public import proofs.«01_k».proof.Proof.MlstmOut
public import Idealize.ShloMosaic.Lib.Pointwise
public import Idealize.ShloMosaic.Lib.IdealHost
public import Idealize.ShloMosaic.Lib.WordCmp

@[expose] public section

set_option maxRecDepth 16384

noncomputable section

/-! What the kernel computes of one sequence and one head, for finite gates: the recurrence of `Spec`. -/

namespace Cert.Mlstm

open Cert.KernelIdeal Cert.KernelIdeal.Gen
open Idealize.ShloMosaic Idealize.ShloMosaic.TcCoe Idealize.SL.Sem

variable (x : Vec Ideal S256x128 .f32) (b : Vec Ideal S1x128 .f32)

/-- The gate pre-activation of token `i` in lane `l`. -/
def z (i : Fin 256) (l : Fin 128) : EReal := x (ix2 i l) + b (ix2 0 l)

theorem gt_0 (i : Fin 256) : gt x b (ix2 i 0) = z x b i 0 := by
  pointwise [gt, k0_pay12, k0_pay13, k0_pay14, k0_pay15, k0_pay16]
  exact if_neg (by decide)

theorem gt_2 (i : Fin 256) : gt x b (ix2 i 2) = z x b i 2 := by
  pointwise [gt, k0_pay12, k0_pay13, k0_pay14, k0_pay15, k0_pay16]
  exact if_neg (by decide)

theorem gt_1 (i : Fin 256) (h : ∃ r : ℝ, z x b i 1 = (r : EReal)) : gt x b (ix2 i 1) = Spec.logsig (z x b i 1) := by
  pointwise [gt, k0_pay12, k0_pay13, k0_pay14, k0_pay15, k0_pay16]
  obtain ⟨r, hr⟩ := h
  refine Eq.trans (if_pos (by decide)) ?_
  rw [hr, ← Spec.logsig_eq, ← hr]
  rfl

theorem gt_3 (i : Fin 256) (h : ∃ r : ℝ, z x b i 3 = (r : EReal)) : gt x b (ix2 i 3) = Spec.logsig (z x b i 3) := by
  pointwise [gt, k0_pay12, k0_pay13, k0_pay14, k0_pay15, k0_pay16]
  obtain ⟨r, hr⟩ := h
  refine Eq.trans (if_pos (by decide)) ?_
  rw [hr, ← Spec.logsig_eq, ← hr]
  rfl

theorem gtT_eq (i : Fin 256) (l : Fin 128) : gtT x b (ix2 l i) = gt x b (ix2 i l) := by
  pointwise [gtT, k0_pay17, gt]

theorem sub_self_real {a : EReal} (h : ∃ r : ℝ, a = (r : EReal)) : a - a = 0 := by
  obtain ⟨r, rfl⟩ := h
  rw [← EReal.coe_sub, sub_self]
  rfl

theorem mask_mul (c : BitVec 1) (y : EReal) :
    (FloatOps.sitofp (F := Ideal) FTy.f32 (BitVec.setWidth 32 c) : EReal) * y = if c = 1#1 then y else 0 := by
  rcases (by decide : ∀ c : BitVec 1, c = 0#1 ∨ c = 1#1) c with rfl | rfl
  · rw [if_neg (by decide)]
    show ((((BitVec.setWidth 32 (0#1)).toInt : ℝ)) : EReal) * y = 0
    rw [show (BitVec.setWidth 32 (0#1)).toInt = 0 by decide]
    simp
  · rw [if_pos rfl]
    show ((((BitVec.setWidth 32 (1#1)).toInt : ℝ)) : EReal) * y = y
    rw [show (BitVec.setWidth 32 (1#1)).toInt = 1 by decide]
    simp

theorem mul_mask (c : BitVec 1) (y : EReal) :
    y * (FloatOps.sitofp (F := Ideal) FTy.f32 (BitVec.setWidth 32 c) : EReal) = if c = 1#1 then y else 0 := by
  rw [mul_comm]
  exact mask_mul c y

theorem sle_iff (s t : Fin 256) : IntOp.cmpi .sle (BitVec.ofNat 32 s.val) (BitVec.ofNat 32 t.val) = 1#1 ↔ s ≤ t := by
  exact (WordCmp.cmpi_sle_ofNat_eq_one_iff (by have := s.isLt; show s.val < 2147483648; omega) (by have := t.isLt; show t.val < 2147483648; omega))

theorem sge_iff (s t : Fin 256) : IntOp.cmpi .sge (BitVec.ofNat 32 s.val) (BitVec.ofNat 32 t.val) = 1#1 ↔ t ≤ s := by
  exact (WordCmp.cmpi_sge_ofNat_eq_one_iff (by have := s.isLt; show s.val < 2147483648; omega) (by have := t.isLt; show t.val < 2147483648; omega))

theorem ninf : Ideal.ofBits .f32 4286578688#32 = ⊥ := by
  simp [Ideal.ofBits, Ideal.ieee]

theorem half : Ideal.ofBits .f32 1056964608#32 = ((1 / 2 : ℝ) : EReal) := by
  simp [Ideal.ofBits, Ideal.ieee]
  norm_num
  rw [← EReal.coe_mul]
  norm_num

theorem sp_1 (i : Fin 256) : (sp x b (ix2 i 1) : EReal) = gt x b (ix2 i 1) := by
  pointwise [sp, k0_pay18, gt]

theorem spT_1 (i : Fin 256) : (spT x b (ix2 1 i) : EReal) = gt x b (ix2 i 1) := by
  rw [← gtT_eq]
  pointwise [spT, k0_pay19, gtT]

theorem sp_129 (i : Fin 256) (h : ∃ r : ℝ, gt x b (ix2 i 1) = (r : EReal)) : (sp x b (ix2 i 129) : EReal) = 0 := by
  pointwise [sp, k0_pay18, gt]
  exact sub_self_real h

theorem spT_129 (i : Fin 256) (h : ∃ r : ℝ, gt x b (ix2 i 1) = (r : EReal)) : (spT x b (ix2 129 i) : EReal) = 0 := by
  rw [← gtT_eq] at h
  pointwise [spT, k0_pay19, gtT]
  exact sub_self_real h

theorem sp_257 (i : Fin 256) (h : ∃ r : ℝ, gt x b (ix2 i 1) = (r : EReal)) : (sp x b (ix2 i 257) : EReal) = 0 := by
  pointwise [sp, k0_pay18, gt]
  refine (congrArg₂ (· - ·) (sub_self_real h) (sub_self_real h)).trans ?_
  simp

theorem spT_257 (i : Fin 256) (h : ∃ r : ℝ, gt x b (ix2 i 1) = (r : EReal)) : (spT x b (ix2 257 i) : EReal) = 0 := by
  rw [← gtT_eq] at h
  pointwise [spT, k0_pay19, gtT]
  refine (congrArg₂ (· - ·) (sub_self_real h) (sub_self_real h)).trans ?_
  simp

theorem sp_3 (i : Fin 256) : (sp x b (ix2 i 3) : EReal) = gt x b (ix2 i 3) := by
  pointwise [sp, k0_pay18, gt]

theorem spT_3 (i : Fin 256) : (spT x b (ix2 3 i) : EReal) = gt x b (ix2 i 3) := by
  rw [← gtT_eq]
  pointwise [spT, k0_pay19, gtT]

theorem sp_131 (i : Fin 256) (h : ∃ r : ℝ, gt x b (ix2 i 3) = (r : EReal)) : (sp x b (ix2 i 131) : EReal) = 0 := by
  pointwise [sp, k0_pay18, gt]
  exact sub_self_real h

theorem spT_131 (i : Fin 256) (h : ∃ r : ℝ, gt x b (ix2 i 3) = (r : EReal)) : (spT x b (ix2 131 i) : EReal) = 0 := by
  rw [← gtT_eq] at h
  pointwise [spT, k0_pay19, gtT]
  exact sub_self_real h

theorem sp_259 (i : Fin 256) (h : ∃ r : ℝ, gt x b (ix2 i 3) = (r : EReal)) : (sp x b (ix2 i 259) : EReal) = 0 := by
  pointwise [sp, k0_pay18, gt]
  refine (congrArg₂ (· - ·) (sub_self_real h) (sub_self_real h)).trans ?_
  simp

theorem spT_259 (i : Fin 256) (h : ∃ r : ℝ, gt x b (ix2 i 3) = (r : EReal)) : (spT x b (ix2 259 i) : EReal) = 0 := by
  rw [← gtT_eq] at h
  pointwise [spT, k0_pay19, gtT]
  refine (congrArg₂ (· - ·) (sub_self_real h) (sub_self_real h)).trans ?_
  simp

/-- The input gate of direction 0. -/
abbrev li0 (s : Fin 256) : EReal := z x b s 0
/-- The input gate of direction 1. -/
abbrev li1 (s : Fin 256) : EReal := z x b s 2
/-- The log forget gate of direction 0. -/
abbrev lf0 (s : Fin 256) : EReal := Spec.logsig (z x b s 1)
/-- The log forget gate of direction 1. -/
abbrev lf1 (s : Fin 256) : EReal := Spec.logsig (z x b s 3)

section Finite
variable (hz : ∀ i l, ∃ r : ℝ, z x b i l = (r : EReal))
include hz

theorem lf0_real (i : Fin 256) : ∃ r : ℝ, lf0 x b i = (r : EReal) := by
  obtain ⟨r, hr⟩ := hz i 1
  unfold lf0
  rw [hr]
  exact Spec.logsig_real r

theorem lf1_real (i : Fin 256) : ∃ r : ℝ, lf1 x b i = (r : EReal) := by
  obtain ⟨r, hr⟩ := hz i 3
  unfold lf1
  rw [hr]
  exact Spec.logsig_real r

theorem li0_ne (i : Fin 256) : li0 x b i ≠ ⊤ := by
  obtain ⟨r, hr⟩ := hz i 0
  unfold li0
  rw [hr]
  exact EReal.coe_ne_top r

theorem li1_ne (i : Fin 256) : li1 x b i ≠ ⊤ := by
  obtain ⟨r, hr⟩ := hz i 2
  unfold li1
  rw [hr]
  exact EReal.coe_ne_top r

theorem gt1_real (i : Fin 256) : ∃ r : ℝ, gt x b (ix2 i 1) = (r : EReal) := by
  rw [gt_1 x b i (hz i 1)]
  exact lf0_real x b hz i

theorem gt3_real (i : Fin 256) : ∃ r : ℝ, gt x b (ix2 i 3) = (r : EReal) := by
  rw [gt_3 x b i (hz i 3)]
  exact lf1_real x b hz i

theorem cum0_eq (i : Fin 256) : (cum0 x b (ix2 i 0) : EReal) = Spec.B Spec.fwd (lf0 x b) i := by
  pointwise [cum0, k0_pay35, k0_pay10]
  have e0 : ∀ s, (sp x b (ix2 s 1) : EReal) = lf0 x b s := fun s => (sp_1 x b s).trans (gt_1 x b s (hz s 1))
  have e1 : ∀ s, (sp x b (ix2 s 129) : EReal) = 0 := fun s => sp_129 x b s (gt1_real x b hz s)
  have e2 : ∀ s, (sp x b (ix2 s 257) : EReal) = 0 := fun s => sp_257 x b s (gt1_real x b hz s)
  simp only [e0, e1, e2, mul_zero, Finset.sum_const_zero, add_zero, mask_mul]
  unfold Spec.B
  exact Finset.sum_congr rfl fun s _ => if_congr (sle_iff s i) rfl rfl

theorem msk0_eq (i j : Fin 256) : (msk0 x b (ix2 i j) : EReal) = Spec.K Spec.fwd (li0 x b) (lf0 x b) i j := by
  pointwise [msk0, k0_pay36, k0_pay10, k0_pay11]
  have e0 : ∀ s, (spT x b (ix2 1 s) : EReal) = lf0 x b s := fun s => (spT_1 x b s).trans (gt_1 x b s (hz s 1))
  have e1 : ∀ s, (spT x b (ix2 129 s) : EReal) = 0 := fun s => spT_129 x b s (gt1_real x b hz s)
  have e2 : ∀ s, (spT x b (ix2 257 s) : EReal) = 0 := fun s => spT_257 x b s (gt1_real x b hz s)
  have e3 : (gtT x b (ix2 0 j) : EReal) = li0 x b j := (gtT_eq x b j 0).trans (gt_0 x b j)
  simp only [e0, e1, e2, e3, zero_mul, Finset.sum_const_zero, add_zero, mul_mask, ninf]
  unfold Spec.K Spec.B
  exact if_congr (sle_iff j i) (congrArg (fun w => li0 x b j - w)
    (Finset.sum_congr rfl fun s _ => if_congr (sge_iff j s) rfl rfl)) rfl

theorem cum1_eq (i : Fin 256) : (cum1 x b (ix2 i 0) : EReal) = Spec.B Spec.bwd (lf1 x b) i := by
  pointwise [cum1, k0_pay41, k0_pay42, k0_pay43, k0_pay44, k0_pay11]
  have e0 : ∀ s, (sp x b (ix2 s 3) : EReal) = lf1 x b s := fun s => (sp_3 x b s).trans (gt_3 x b s (hz s 3))
  have e1 : ∀ s, (sp x b (ix2 s 131) : EReal) = 0 := fun s => sp_131 x b s (gt3_real x b hz s)
  have e2 : ∀ s, (sp x b (ix2 s 259) : EReal) = 0 := fun s => sp_259 x b s (gt3_real x b hz s)
  simp only [e0, e1, e2, mul_zero, Finset.sum_const_zero, add_zero, mask_mul]
  unfold Spec.B
  exact Finset.sum_congr rfl fun s _ => if_congr (sge_iff s i) rfl rfl

theorem msk1_eq (i j : Fin 256) : (msk1 x b (ix2 i j) : EReal) = Spec.K Spec.bwd (li1 x b) (lf1 x b) i j := by
  pointwise [msk1, k0_pay45, k0_pay10, k0_pay11]
  have e0 : ∀ s, (spT x b (ix2 3 s) : EReal) = lf1 x b s := fun s => (spT_3 x b s).trans (gt_3 x b s (hz s 3))
  have e1 : ∀ s, (spT x b (ix2 131 s) : EReal) = 0 := fun s => spT_131 x b s (gt3_real x b hz s)
  have e2 : ∀ s, (spT x b (ix2 259 s) : EReal) = 0 := fun s => spT_259 x b s (gt3_real x b hz s)
  have e3 : (gtT x b (ix2 2 j) : EReal) = li1 x b j := (gtT_eq x b j 2).trans (gt_2 x b j)
  simp only [e0, e1, e2, e3, zero_mul, Finset.sum_const_zero, add_zero, mul_mask, ninf]
  unfold Spec.K Spec.B
  exact if_congr (sge_iff j i) (congrArg (fun w => li1 x b j - w)
    (Finset.sum_congr rfl fun s _ => if_congr (sle_iff j s) rfl rfl)) rfl

theorem rmx0_eq (i : Fin 256) : (rmx0 x b (ix2 i 0) : EReal)
    = Spec.B Spec.fwd (lf0 x b) i + Finset.fold max ⊥ (fun s => Spec.K Spec.fwd (li0 x b) (lf0 x b) i s) Finset.univ := by
  pointwise [rmx0, k0_pay39, cum0, msk0]
  change (cum0 x b (ix2 i 0) : EReal) + Finset.fold max (Ideal.ofBits FTy.f32 4286578688#32) (fun s => (msk0 x b (ix2 i s) : EReal)) Finset.univ = _
  rw [ninf, cum0_eq x b hz i]
  simp only [msk0_eq x b hz]

theorem max0_eq (i : Fin 256) : max (cum0 x b (ix2 i 0) : EReal) (rmx0 x b (ix2 i 0)) = Spec.m Spec.fwd (li0 x b) (lf0 x b) i := by
  rw [Spec.m_eq, rmx0_eq x b hz, cum0_eq x b hz]

theorem gl0_eq (i : Fin 256) : (gl0 x b (ix2 i 0) : EReal) = Spec.g Spec.fwd 255 (li0 x b) (lf0 x b) i := by
  pointwise [gl0, k0_pay38, k0_pay37, cum0]
  change (cum0 x b (ix2 255 0) : EReal) + (gt x b (ix2 i 0) - cum0 x b (ix2 i 0)) = _
  rw [Spec.g_eq, cum0_eq x b hz, cum0_eq x b hz, gt_0]

/-- The stored running maximum is the stabiliser of the final state (direction 0). -/
theorem mst0_eq : (mst0 x b (ix2 0 0) : EReal) = Spec.mn Spec.fwd 255 (li0 x b) (lf0 x b) := by
  have e : (gmx0 x b (ix2 0 0) : EReal) = Finset.fold max ⊥ (fun s => Spec.g Spec.fwd 255 (li0 x b) (lf0 x b) s) Finset.univ := by
    pointwise [gmx0, k0_pay40, gl0]
    change Finset.fold max (Ideal.ofBits FTy.f32 4286578688#32) (fun s => (gl0 x b (ix2 s 0) : EReal)) Finset.univ = _
    rw [ninf]
    simp only [gl0_eq x b hz]
  pointwise [mst0, k0_pay91, k0_pay2, tot0, k0_pay37, cum0]
  change max (cum0 x b (ix2 255 0) : EReal) (gmx0 x b (ix2 0 0)) = _
  rw [e, cum0_eq x b hz]
  rfl

theorem num0_eq (q k : Vec Ideal S256x256 .bf16) (v : Vec Ideal S256x512 .bf16) (i : Fin 256) (j : Fin 512) :
    (num0 x b q k v (ix2 i j) : EReal) = ∑ s, Spec.S Spec.fwd (li0 x b) (lf0 x b) (fun t s => q (ix2 t s)) (fun t s => k (ix2 t s)) i s * v (ix2 s j) := by
  pointwise [num0, k0_pay102, k0_pay101, k0_pay99, k0_pay2]
  refine Finset.sum_congr rfl fun s _ => ?_
  rw [max0_eq x b hz, msk0_eq x b hz, cum0_eq x b hz, ← Spec.D_sub_m]
  rfl

theorem den0_eq (q k : Vec Ideal S256x256 .bf16) (v : Vec Ideal S256x512 .bf16) (i : Fin 256) (j : Fin 128) :
    (den0 x b q k v (ix2 i j) : EReal) = ∑ s, Spec.S Spec.fwd (li0 x b) (lf0 x b) (fun t s => q (ix2 t s)) (fun t s => k (ix2 t s)) i s := by
  pointwise [den0, k0_pay103, k0_pay101, k0_pay99, k0_pay2]
  refine Finset.sum_congr rfl fun s _ => ?_
  rw [max0_eq x b hz, msk0_eq x b hz, cum0_eq x b hz, ← Spec.D_sub_m]
  rfl

theorem flr0_eq (i : Fin 256) : (flr0 x b (ix2 i 0) : EReal) = Ideal.exp (-Spec.m Spec.fwd (li0 x b) (lf0 x b) i) := by
  pointwise [flr0, k0_pay104, k0_pay99, k0_pay2]
  rw [max0_eq x b hz, zero_sub]

/-- The stored rows of the result are the recurrence's output (direction 0). -/
theorem H0_eq (q k : Vec Ideal S256x256 .bf16) (v : Vec Ideal S256x512 .bf16) (i : Fin 256) (j : Fin 512) :
    (H0 x b q k v (ix2 i j) : EReal) = Spec.H Spec.fwd (li0 x b) (lf0 x b) (fun t s => q (ix2 t s)) (fun t s => k (ix2 t s)) (fun t s => v (ix2 t s)) i j := by
  pointwise [H0, k0_pay172]
  simp only [den0_eq x b hz, dite_eq_ite, ite_self, flr0_eq x b hz]
  rw [Ideal.mul_one_div (Spec.den_ne_zero _ _ Spec.fwd (fun s => li0_ne x b hz s) (fun s => lf0_real x b hz s) _ i), num0_eq x b hz]
  rfl

theorem kwt0_eq (s : Fin 256) : Ideal.exp ((gl0 x b (ix2 s 0) : EReal) - mst0 x b (ix2 0 0)) = Spec.w Spec.fwd 255 (li0 x b) (lf0 x b) s := by
  rw [gl0_eq x b hz, mst0_eq x b hz]
  rfl

/-- The stored matrix state is the recurrence's (direction 0). -/
theorem C0_eq (k : Vec Ideal S256x256 .bf16) (v : Vec Ideal S256x512 .bf16) (i : Fin 256) (j : Fin 512) :
    (C0 x b k v (ix4 0 0 i j) : EReal) = Spec.C Spec.fwd 255 (li0 x b) (lf0 x b) (fun t s => k (ix2 t s)) (fun t s => v (ix2 t s)) i j := by
  pointwise [C0, k0_pay170, kw0, k0_pay105, k0_pay100]
  refine Finset.sum_congr rfl fun s _ => ?_
  rw [kwt0_eq x b hz, mul_comm (k (ix2 s i) : EReal)]

/-- The stored vector state is the recurrence's (direction 0). -/
theorem N0_eq (k : Vec Ideal S256x256 .bf16) (j : Fin 256) :
    (N0 x b k (ix4 0 0 0 j) : EReal) = Spec.N Spec.fwd 255 (li0 x b) (lf0 x b) (fun t s => k (ix2 t s)) j := by
  pointwise [N0, k0_pay171, ksum0, k0_pay106, k0_pay100]
  refine Finset.sum_congr rfl fun s _ => ?_
  rw [kwt0_eq x b hz, mul_comm (k (ix2 s j) : EReal)]

theorem rmx1_eq (i : Fin 256) : (rmx1 x b (ix2 i 0) : EReal)
    = Spec.B Spec.bwd (lf1 x b) i + Finset.fold max ⊥ (fun s => Spec.K Spec.bwd (li1 x b) (lf1 x b) i s) Finset.univ := by
  pointwise [rmx1, k0_pay48, cum1, msk1]
  change (cum1 x b (ix2 i 0) : EReal) + Finset.fold max (Ideal.ofBits FTy.f32 4286578688#32) (fun s => (msk1 x b (ix2 i s) : EReal)) Finset.univ = _
  rw [ninf, cum1_eq x b hz i]
  simp only [msk1_eq x b hz]

theorem max1_eq (i : Fin 256) : max (cum1 x b (ix2 i 0) : EReal) (rmx1 x b (ix2 i 0)) = Spec.m Spec.bwd (li1 x b) (lf1 x b) i := by
  rw [Spec.m_eq, rmx1_eq x b hz, cum1_eq x b hz]

theorem gl1_eq (i : Fin 256) : (gl1 x b (ix2 i 0) : EReal) = Spec.g Spec.bwd 0 (li1 x b) (lf1 x b) i := by
  pointwise [gl1, k0_pay47, k0_pay46, cum1]
  change (cum1 x b (ix2 0 0) : EReal) + (gt x b (ix2 i 2) - cum1 x b (ix2 i 0)) = _
  rw [Spec.g_eq, cum1_eq x b hz, cum1_eq x b hz, gt_2]

/-- The stored running maximum is the stabiliser of the final state (direction 1). -/
theorem mst1_eq : (mst1 x b (ix2 0 0) : EReal) = Spec.mn Spec.bwd 0 (li1 x b) (lf1 x b) := by
  have e : (gmx1 x b (ix2 0 0) : EReal) = Finset.fold max ⊥ (fun s => Spec.g Spec.bwd 0 (li1 x b) (lf1 x b) s) Finset.univ := by
    pointwise [gmx1, k0_pay49, gl1]
    change Finset.fold max (Ideal.ofBits FTy.f32 4286578688#32) (fun s => (gl1 x b (ix2 s 0) : EReal)) Finset.univ = _
    rw [ninf]
    simp only [gl1_eq x b hz]
  pointwise [mst1, k0_pay92, k0_pay3, tot1, k0_pay46, cum1]
  change max (cum1 x b (ix2 0 0) : EReal) (gmx1 x b (ix2 0 0)) = _
  rw [e, cum1_eq x b hz]
  rfl

theorem num1_eq (q k : Vec Ideal S256x256 .bf16) (v : Vec Ideal S256x512 .bf16) (i : Fin 256) (j : Fin 512) :
    (num1 x b q k v (ix2 i j) : EReal) = ∑ s, Spec.S Spec.bwd (li1 x b) (lf1 x b) (fun t s => q (ix2 t s)) (fun t s => k (ix2 t s)) i s * v (ix2 s j) := by
  pointwise [num1, k0_pay113, k0_pay112, k0_pay108, k0_pay107, k0_pay3]
  refine Finset.sum_congr rfl fun s _ => ?_
  rw [max1_eq x b hz, msk1_eq x b hz, cum1_eq x b hz, ← Spec.D_sub_m]
  rfl

theorem den1_eq (q k : Vec Ideal S256x256 .bf16) (v : Vec Ideal S256x512 .bf16) (i : Fin 256) (j : Fin 128) :
    (den1 x b q k v (ix2 i j) : EReal) = ∑ s, Spec.S Spec.bwd (li1 x b) (lf1 x b) (fun t s => q (ix2 t s)) (fun t s => k (ix2 t s)) i s := by
  pointwise [den1, k0_pay114, k0_pay112, k0_pay108, k0_pay107, k0_pay3]
  refine Finset.sum_congr rfl fun s _ => ?_
  rw [max1_eq x b hz, msk1_eq x b hz, cum1_eq x b hz, ← Spec.D_sub_m]
  rfl

theorem flr1_eq (i : Fin 256) : (flr1 x b (ix2 i 0) : EReal) = Ideal.exp (-Spec.m Spec.bwd (li1 x b) (lf1 x b) i) := by
  pointwise [flr1, k0_pay115, k0_pay107, k0_pay3]
  rw [max1_eq x b hz, zero_sub]

/-- The stored rows of the result are the recurrence's output (direction 1). -/
theorem H1_eq (q k : Vec Ideal S256x256 .bf16) (v : Vec Ideal S256x512 .bf16) (i : Fin 256) (j : Fin 512) :
    (H1 x b q k v (ix2 i j) : EReal) = Spec.H Spec.bwd (li1 x b) (lf1 x b) (fun t s => q (ix2 t s)) (fun t s => k (ix2 t s)) (fun t s => v (ix2 t s)) i j := by
  pointwise [H1, k0_pay175]
  simp only [den1_eq x b hz, dite_eq_ite, ite_self, flr1_eq x b hz]
  rw [Ideal.mul_one_div (Spec.den_ne_zero _ _ Spec.bwd (fun s => li1_ne x b hz s) (fun s => lf1_real x b hz s) _ i), num1_eq x b hz]
  rfl

theorem kwt1_eq (s : Fin 256) : Ideal.exp ((gl1 x b (ix2 s 0) : EReal) - mst1 x b (ix2 0 0)) = Spec.w Spec.bwd 0 (li1 x b) (lf1 x b) s := by
  rw [gl1_eq x b hz, mst1_eq x b hz]
  rfl

/-- The stored matrix state is the recurrence's (direction 1). -/
theorem C1_eq (k : Vec Ideal S256x256 .bf16) (v : Vec Ideal S256x512 .bf16) (i : Fin 256) (j : Fin 512) :
    (C1 x b k v (ix4 0 0 i j) : EReal) = Spec.C Spec.bwd 0 (li1 x b) (lf1 x b) (fun t s => k (ix2 t s)) (fun t s => v (ix2 t s)) i j := by
  pointwise [C1, k0_pay173, kw1, k0_pay116, k0_pay111, k0_pay110, k0_pay109]
  refine Finset.sum_congr rfl fun s _ => ?_
  rw [kwt1_eq x b hz, mul_comm (k (ix2 s i) : EReal)]

/-- The stored vector state is the recurrence's (direction 1). -/
theorem N1_eq (k : Vec Ideal S256x256 .bf16) (j : Fin 256) :
    (N1 x b k (ix4 0 0 0 j) : EReal) = Spec.N Spec.bwd 0 (li1 x b) (lf1 x b) (fun t s => k (ix2 t s)) j := by
  pointwise [N1, k0_pay174, ksum1, k0_pay117, k0_pay111, k0_pay110, k0_pay109]
  refine Finset.sum_congr rfl fun s _ => ?_
  rw [kwt1_eq x b hz, mul_comm (k (ix2 s j) : EReal)]

end Finite

theorem pay201_apply (w : FVec Ideal S1x1 .f32) (l : Fin 128) : k0_pay201 w (ix5 0 0 0 0 l) = w (ix2 0 0) := by
  pointwise [k0_pay201]

/-- The normalised and gated rows of one head. -/
theorem pay198_apply (hf hb : Vec Ideal S256x512 .f32) (ng : Vec Ideal S1x512 .f32) (o : Vec Ideal S256x512 .f32) (i : Fin 256) (j : Fin 512) :
    (k0_pay198 hf hb ng o (ix2 i j) : EReal) = yRow (fun e => (hf (ix2 i e) : EReal) + hb (ix2 i e)) (ng (ix2 0 j)) (o (ix2 i j)) j := by
  pointwise [k0_pay198]
  unfold yRow
  rw [← Spec.sigmoid_eq (o (ix2 i j)) _ half]

end Cert.Mlstm
end
-- ==== Proof.MlstmRead.lean ====
/-
  The mLSTM call's blocks at an index, in terms of the arguments: grid point `t` is given four sequences, `4 (t / 4)` and
  the next three, and head `t % 4`.
-/
module

public import proofs.«01_k».proof.Proof.MlstmBlock
public import proofs.«01_k».proof.Proof.MlstmPay
public import Idealize.ShloMosaic.Lib.StableHlo.Run

@[expose] public section

set_option maxRecDepth 16384

noncomputable section

namespace Cert.Mlstm

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The arguments. -/
abbrev a0 : FVec Ideal Out.SQKV .bf16 := m ((c : Thread nD τ).loc main_arg0)
abbrev a1 : FVec Ideal Out.SOG .f32 := m ((c : Thread nD τ).loc main_arg1)
abbrev a2 : FVec Ideal Out.SGB .f32 := m ((c : Thread nD τ).loc main_arg2)
abbrev a3 : FVec Ideal Out.SNG .f32 := m ((c : Thread nD τ).loc main_arg3)
abbrev a4 : FVec Ideal Out.SY .bf16 := m ((c : Thread nD τ).loc main_arg4)
abbrev a5 : FVec Ideal Out.SC .f32 := m ((c : Thread nD τ).loc main_arg5)
abbrev a6 : FVec Ideal Out.SN .f32 := m ((c : Thread nD τ).loc main_arg6)
abbrev a7 : FVec Ideal Out.SM .f32 := m ((c : Thread nD τ).loc main_arg7)

theorem N32 : cfg0.N = 32 := N_0

/-- A grid point's sequences and its head. -/
abbrev seqOf (t : Fin cfg0.N) (sb : Fin 4) : Fin 32 := ⟨4 * (t.val / 4) + sb.val, by have := lt_of_lt_of_eq t.isLt N32; omega⟩
abbrev headOf (t : Fin cfg0.N) : Fin 4 := ⟨t.val % 4, by omega⟩

theorem ixw0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem ixw1 : ∀ t : Fin cfg0.N, win0_1.index t 0 = t.val / 4 ∧ win0_1.index t 1 = 4 + t.val % 4 :=
  (by decide +kernel : ∀ t : Fin grid0.N, win0_1.index t 0 = t.val / 4 ∧ win0_1.index t 1 = 4 + t.val % 4)
theorem ixw2 : ∀ t : Fin cfg0.N, win0_2.index t 0 = t.val / 4 ∧ win0_2.index t 1 = 4 + t.val % 4 :=
  (by decide +kernel : ∀ t : Fin grid0.N, win0_2.index t 0 = t.val / 4 ∧ win0_2.index t 1 = 4 + t.val % 4)
theorem ixw3 : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)
theorem ixw4 : ∀ t : Fin cfg0.N, win0_4.index t 0 = t.val / 4 ∧ win0_4.index t 1 = 16 + t.val % 4 :=
  (by decide +kernel : ∀ t : Fin grid0.N, win0_4.index t 0 = t.val / 4 ∧ win0_4.index t 1 = 16 + t.val % 4)
theorem ixw5 : ∀ t : Fin cfg0.N, win0_5.index t 0 = 0 ∧ win0_5.index t 1 = t.val % 4 :=
  (by decide +kernel : ∀ t : Fin grid0.N, win0_5.index t 0 = 0 ∧ win0_5.index t 1 = t.val % 4)
theorem ixw6 : ∀ t : Fin cfg0.N, win0_6.index t 0 = 0 ∧ win0_6.index t 1 = t.val % 4 :=
  (by decide +kernel : ∀ t : Fin grid0.N, win0_6.index t 0 = 0 ∧ win0_6.index t 1 = t.val % 4)
theorem ixw7 : ∀ t : Fin cfg0.N, win0_7.index t 0 = t.val / 4 ∧ win0_7.index t 1 = t.val % 4 :=
  (by decide +kernel : ∀ t : Fin grid0.N, win0_7.index t 0 = t.val / 4 ∧ win0_7.index t 1 = t.val % 4)
theorem ixw8 : ∀ t : Fin cfg0.N, win0_8.index t 0 = t.val / 4 ∧ win0_8.index t 1 = 1 ∧ win0_8.index t 2 = 0 ∧ win0_8.index t 3 = t.val % 4 ∧ win0_8.index t 4 = 0 ∧ win0_8.index t 5 = 0 :=
  (by decide +kernel : ∀ t : Fin grid0.N, win0_8.index t 0 = t.val / 4 ∧ win0_8.index t 1 = 1 ∧ win0_8.index t 2 = 0 ∧ win0_8.index t 3 = t.val % 4 ∧ win0_8.index t 4 = 0 ∧ win0_8.index t 5 = 0)
theorem ixw9 : ∀ t : Fin cfg0.N, win0_9.index t 0 = t.val / 4 ∧ win0_9.index t 1 = 1 ∧ win0_9.index t 2 = 0 ∧ win0_9.index t 3 = t.val % 4 ∧ win0_9.index t 4 = 0 ∧ win0_9.index t 5 = 0 :=
  (by decide +kernel : ∀ t : Fin grid0.N, win0_9.index t 0 = t.val / 4 ∧ win0_9.index t 1 = 1 ∧ win0_9.index t 2 = 0 ∧ win0_9.index t 3 = t.val % 4 ∧ win0_9.index t 4 = 0 ∧ win0_9.index t 5 = 0)
theorem ixw10 : ∀ t : Fin cfg0.N, win0_10.index t 0 = t.val / 4 ∧ win0_10.index t 1 = 1 ∧ win0_10.index t 2 = t.val % 4 ∧ win0_10.index t 3 = 0 ∧ win0_10.index t 4 = 0 :=
  (by decide +kernel : ∀ t : Fin grid0.N, win0_10.index t 0 = t.val / 4 ∧ win0_10.index t 1 = 1 ∧ win0_10.index t 2 = t.val % 4 ∧ win0_10.index t 3 = 0 ∧ win0_10.index t 4 = 0)

theorem rows_q (t : Fin cfg0.N) (sb : Fin 4) (r : Fin 256) (j : Fin 256) :
    (rows sb (iblk m c 0 t : FVec Ideal ⟨2, ![1024, 256]⟩ .bf16) (ix2 r j) : EReal) = Out.q (a0 m c) (seqOf t sb) (headOf t) r j := by
  unfold rows iblk
  rw [View.read_apply]
  show V m c main_arg0 _ = _
  rw [V_main_arg0]
  obtain ⟨h0, h1⟩ := ixw0 t
  refine congrArg (m ((c : Thread nD τ).loc main_arg0)) (funext fun a => Fin.ext ?_)
  match a with
  | ⟨0, _⟩ =>
    show win0_0.index t 0 * 1024 + 1 * (256 * sb.val + r.val) = (4 * (t.val / 4) + sb.val) * 256 + r.val
    omega
  | ⟨1, _⟩ =>
    show win0_0.index t 1 * 256 + 1 * j.val = t.val % 4 * 256 + j.val
    omega

theorem rows_k (t : Fin cfg0.N) (sb : Fin 4) (r : Fin 256) (j : Fin 256) :
    (rows sb (iblk m c 1 t : FVec Ideal ⟨2, ![1024, 256]⟩ .bf16) (ix2 r j) : EReal) = Out.k (a0 m c) (seqOf t sb) (headOf t) r j := by
  unfold rows iblk
  rw [View.read_apply]
  show V m c main_arg0 _ = _
  rw [V_main_arg0]
  obtain ⟨h0, h1⟩ := ixw1 t
  refine congrArg (m ((c : Thread nD τ).loc main_arg0)) (funext fun a => Fin.ext ?_)
  match a with
  | ⟨0, _⟩ =>
    show win0_1.index t 0 * 1024 + 1 * (256 * sb.val + r.val) = (4 * (t.val / 4) + sb.val) * 256 + r.val
    omega
  | ⟨1, _⟩ =>
    show win0_1.index t 1 * 256 + 1 * j.val = 1024 + (t.val % 4 * 256 + j.val)
    omega

theorem rows_v (t : Fin cfg0.N) (sb : Fin 4) (r : Fin 256) (j : Fin 512) :
    (rows sb (iblk m c 2 t : FVec Ideal ⟨2, ![1024, 512]⟩ .bf16) (ix2 r j) : EReal) = Out.v (a0 m c) (seqOf t sb) (headOf t) r j := by
  unfold rows iblk
  rw [View.read_apply]
  show V m c main_arg0 _ = _
  rw [V_main_arg0]
  obtain ⟨h0, h1⟩ := ixw2 t
  refine congrArg (m ((c : Thread nD τ).loc main_arg0)) (funext fun a => Fin.ext ?_)
  match a with
  | ⟨0, _⟩ =>
    show win0_2.index t 0 * 1024 + 1 * (256 * sb.val + r.val) = (4 * (t.val / 4) + sb.val) * 256 + r.val
    omega
  | ⟨1, _⟩ =>
    show win0_2.index t 1 * 512 + 1 * j.val = 2048 + (t.val % 4 * 512 + j.val)
    omega

theorem rows_o (t : Fin cfg0.N) (sb : Fin 4) (r : Fin 256) (j : Fin 512) :
    (rows sb (iblk m c 3 t : FVec Ideal ⟨2, ![1024, 512]⟩ .f32) (ix2 r j) : EReal) = a1 m c (ix2 (Out.row (seqOf t sb) r) ⟨(headOf t).val * 512 + j.val, by omega⟩) := by
  unfold rows iblk
  rw [View.read_apply]
  show V m c main_arg1 _ = _
  rw [V_main_arg1]
  obtain ⟨h0, h1⟩ := ixw3 t
  refine congrArg (m ((c : Thread nD τ).loc main_arg1)) (funext fun a => Fin.ext ?_)
  match a with
  | ⟨0, _⟩ =>
    show win0_3.index t 0 * 1024 + 1 * (256 * sb.val + r.val) = (4 * (t.val / 4) + sb.val) * 256 + r.val
    omega
  | ⟨1, _⟩ =>
    show win0_3.index t 1 * 512 + 1 * j.val = t.val % 4 * 512 + j.val
    omega

theorem rows_g (t : Fin cfg0.N) (sb : Fin 4) (r : Fin 256) (j : Fin 128) :
    (rows sb (iblk m c 4 t : FVec Ideal ⟨2, ![1024, 128]⟩ .f32) (ix2 r j) : EReal) = a1 m c (ix2 (Out.row (seqOf t sb) r) ⟨2048 + ((headOf t).val * 128 + j.val), by omega⟩) := by
  unfold rows iblk
  rw [View.read_apply]
  show V m c main_arg1 _ = _
  rw [V_main_arg1]
  obtain ⟨h0, h1⟩ := ixw4 t
  refine congrArg (m ((c : Thread nD τ).loc main_arg1)) (funext fun a => Fin.ext ?_)
  match a with
  | ⟨0, _⟩ =>
    show win0_4.index t 0 * 1024 + 1 * (256 * sb.val + r.val) = (4 * (t.val / 4) + sb.val) * 256 + r.val
    omega
  | ⟨1, _⟩ =>
    show win0_4.index t 1 * 128 + 1 * j.val = 2048 + (t.val % 4 * 128 + j.val)
    omega

theorem blk_b (t : Fin cfg0.N) (l : Fin 128) :
    ((iblk m c 5 t : FVec Ideal S1x128 .f32) (ix2 0 l) : EReal) = a2 m c (ix2 0 ⟨(headOf t).val * 128 + l.val, by omega⟩) := by
  unfold iblk
  rw [View.read_apply]
  show V m c main_arg2 _ = _
  rw [V_main_arg2]
  obtain ⟨h0, h1⟩ := ixw5 t
  refine congrArg (m ((c : Thread nD τ).loc main_arg2)) (funext fun a => Fin.ext ?_)
  match a with
  | ⟨0, _⟩ => show win0_5.index t 0 * 1 + 1 * 0 = 0; omega
  | ⟨1, _⟩ => show win0_5.index t 1 * 128 + 1 * l.val = t.val % 4 * 128 + l.val; omega

/-- The gain as the launch finds it. -/
theorem V_gain (d : Fin 2048) : (V m c main_v0 : FVec Ideal S1x2048 .f32) (ix2 0 d) = a3 m c (ix1 d) := by
  have e : @Eq (FVec Ideal S1x2048 .f32) (V m c main_v0) (shapeCast S1x2048 (a3 m c) shapeCasts_S2048_S1x2048) := by
    show StableHlo.after hostOps0 _ main_v0 = _
    after_results_simp
    rfl
  rw [e]
  pointwise

theorem blk_ng (t : Fin cfg0.N) (j : Fin 512) :
    ((iblk m c 6 t : FVec Ideal S1x512 .f32) (ix2 0 j) : EReal) = a3 m c (ix1 ⟨(headOf t).val * 512 + j.val, by omega⟩) := by
  rw [← V_gain m c]
  unfold iblk
  rw [View.read_apply]
  show V m c main_v0 _ = _
  obtain ⟨h0, h1⟩ := ixw6 t
  refine congrArg (V m c main_v0) (funext fun a => Fin.ext ?_)
  match a with
  | ⟨0, _⟩ => show win0_6.index t 0 * 1 + 1 * 0 = 0; omega
  | ⟨1, _⟩ => show win0_6.index t 1 * 512 + 1 * j.val = t.val % 4 * 512 + j.val; omega

/-- The gate pre-activations of a sequence and a head. -/
theorem z_blk (t : Fin cfg0.N) (sb : Fin 4) (r : Fin 256) (l : Fin 128) :
    z (rows sb (iblk m c 4 t : FVec Ideal ⟨2, ![1024, 128]⟩ .f32)) (iblk m c 5 t) r l = Out.z (a1 m c) (a2 m c) (seqOf t sb) (headOf t) r l := by
  unfold z Out.z
  rw [rows_g, blk_b]

theorem V_out0 : V m c main_v1_0 = m ((c : Thread nD τ).loc main_arg4) := by
  show StableHlo.after hostOps0 _ main_v1_0 = _
  after_results_simp
  rfl

theorem V_out1 : V m c main_v1_1 = m ((c : Thread nD τ).loc main_arg5) := by
  show StableHlo.after hostOps0 _ main_v1_1 = _
  after_results_simp
  rfl

theorem V_out2 : V m c main_v1_2 = m ((c : Thread nD τ).loc main_arg6) := by
  show StableHlo.after hostOps0 _ main_v1_2 = _
  after_results_simp
  rfl

theorem V_out3 : V m c main_v1_3 = m ((c : Thread nD τ).loc main_arg7) := by
  show StableHlo.after hostOps0 _ main_v1_3 = _
  after_results_simp
  rfl

end Cert.Mlstm

end
-- ==== Proof.MlstmFold.lean ====
/-
  The mLSTM call over its grid: for finite gate pre-activations the four result arrays end as `Out` states them.
-/
module

public import proofs.«01_k».proof.Proof.Gen.KernelIdeal.Value
public import proofs.«01_k».proof.Proof.MlstmBlockM
public import proofs.«01_k».proof.Proof.MlstmBlockY
public import proofs.«01_k».proof.Proof.MlstmRead

@[expose] public section

set_option maxRecDepth 16384

noncomputable section

namespace Cert.Mlstm

open Cert.KernelIdeal Cert.KernelIdeal.Gen Cert.KernelIdeal.Value
open Idealize.ShloMosaic Idealize.ShloMosaic.TcCoe Idealize.SL.Sem

variable (m : (ℓ : Loc nD τ sig) → Buf (Elt Ideal) ℓ) (c : Dev nD)

/-- The gates of a sequence in a block. -/
abbrev gx (t : Fin cfg0.N) (sb : Fin 4) : Vec Ideal S256x128 .f32 := rows sb (iblk m c 4 t : FVec Ideal ⟨2, ![1024, 128]⟩ .f32)
abbrev gb (t : Fin cfg0.N) : Vec Ideal S1x128 .f32 := iblk m c 5 t

theorem li0_blk (t : Fin cfg0.N) (sb : Fin 4) : li0 (gx m c t sb) (gb m c t) = Out.li0 (a1 m c) (a2 m c) (seqOf t sb) (headOf t) :=
  funext fun r => z_blk m c t sb r 0
theorem lf0_blk (t : Fin cfg0.N) (sb : Fin 4) : lf0 (gx m c t sb) (gb m c t) = Out.lf0 (a1 m c) (a2 m c) (seqOf t sb) (headOf t) :=
  funext fun r => congrArg Spec.logsig (z_blk m c t sb r 1)
theorem li1_blk (t : Fin cfg0.N) (sb : Fin 4) : li1 (gx m c t sb) (gb m c t) = Out.li1 (a1 m c) (a2 m c) (seqOf t sb) (headOf t) :=
  funext fun r => z_blk m c t sb r 2
theorem lf1_blk (t : Fin cfg0.N) (sb : Fin 4) : lf1 (gx m c t sb) (gb m c t) = Out.lf1 (a1 m c) (a2 m c) (seqOf t sb) (headOf t) :=
  funext fun r => congrArg Spec.logsig (z_blk m c t sb r 3)

/-- Every gate pre-activation is finite. -/
def GatesFinite : Prop := ∀ B h t l, ∃ r : ℝ, Out.z (a1 m c) (a2 m c) B h t l = (r : EReal)

abbrev gq (t : Fin cfg0.N) (sb : Fin 4) : Vec Ideal S256x256 .bf16 := rows sb (iblk m c 0 t : FVec Ideal ⟨2, ![1024, 256]⟩ .bf16)
abbrev gk (t : Fin cfg0.N) (sb : Fin 4) : Vec Ideal S256x256 .bf16 := rows sb (iblk m c 1 t : FVec Ideal ⟨2, ![1024, 256]⟩ .bf16)
abbrev gv (t : Fin cfg0.N) (sb : Fin 4) : Vec Ideal S256x512 .bf16 := rows sb (iblk m c 2 t : FVec Ideal ⟨2, ![1024, 512]⟩ .bf16)

variable (hfin : GatesFinite m c)
include hfin

theorem hz_blk (t : Fin cfg0.N) (sb : Fin 4) : ∀ i l, ∃ r : ℝ, z (gx m c t sb) (gb m c t) i l = (r : EReal) := fun i l => by
  obtain ⟨r, hr⟩ := hfin (seqOf t sb) (headOf t) i l
  exact ⟨r, (z_blk m c t sb i l).trans hr⟩

theorem H0_blk (t : Fin cfg0.N) (sb : Fin 4) (r : Fin 256) (e : Fin 512) :
    (H0 (gx m c t sb) (gb m c t) (gq m c t sb) (gk m c t sb) (gv m c t sb) (ix2 r e) : EReal)
      = Out.H0 (a0 m c) (a1 m c) (a2 m c) (seqOf t sb) (headOf t) r e := by
  rw [H0_eq _ _ (hz_blk m c hfin t sb), li0_blk, lf0_blk]
  simp only [rows_q, rows_k, rows_v]
  rfl
theorem C0_blk (t : Fin cfg0.N) (sb : Fin 4) (r : Fin 256) (e : Fin 512) :
    (C0 (gx m c t sb) (gb m c t) (gk m c t sb) (gv m c t sb) (ix4 0 0 r e) : EReal)
      = Out.C0 (a0 m c) (a1 m c) (a2 m c) (seqOf t sb) (headOf t) r e := by
  rw [C0_eq _ _ (hz_blk m c hfin t sb), li0_blk, lf0_blk]
  simp only [rows_k, rows_v]
  rfl
theorem N0_blk (t : Fin cfg0.N) (sb : Fin 4) (r : Fin 256) :
    (N0 (gx m c t sb) (gb m c t) (gk m c t sb) (ix4 0 0 0 r) : EReal)
      = Out.N0 (a0 m c) (a1 m c) (a2 m c) (seqOf t sb) (headOf t) r := by
  rw [N0_eq _ _ (hz_blk m c hfin t sb), li0_blk, lf0_blk]
  simp only [rows_k]
  rfl
theorem M0_blk (t : Fin cfg0.N) (sb : Fin 4) (l : Fin 128) :
    (M0 (gx m c t sb) (gb m c t) (ix5 0 0 0 0 l) : EReal) = Out.M0 (a1 m c) (a2 m c) (seqOf t sb) (headOf t) := by
  unfold M0
  rw [pay201_apply, mst0_eq _ _ (hz_blk m c hfin t sb), li0_blk, lf0_blk]
  rfl

theorem H1_blk (t : Fin cfg0.N) (sb : Fin 4) (r : Fin 256) (e : Fin 512) :
    (H1 (gx m c t sb) (gb m c t) (gq m c t sb) (gk m c t sb) (gv m c t sb) (ix2 r e) : EReal)
      = Out.H1 (a0 m c) (a1 m c) (a2 m c) (seqOf t sb) (headOf t) r e := by
  rw [H1_eq _ _ (hz_blk m c hfin t sb), li1_blk, lf1_blk]
  simp only [rows_q, rows_k, rows_v]
  rfl
theorem C1_blk (t : Fin cfg0.N) (sb : Fin 4) (r : Fin 256) (e : Fin 512) :
    (C1 (gx m c t sb) (gb m c t) (gk m c t sb) (gv m c t sb) (ix4 0 0 r e) : EReal)
      = Out.C1 (a0 m c) (a1 m c) (a2 m c) (seqOf t sb) (headOf t) r e := by
  rw [C1_eq _ _ (hz_blk m c hfin t sb), li1_blk, lf1_blk]
  simp only [rows_k, rows_v]
  rfl
theorem N1_blk (t : Fin cfg0.N) (sb : Fin 4) (r : Fin 256) :
    (N1 (gx m c t sb) (gb m c t) (gk m c t sb) (ix4 0 0 0 r) : EReal)
      = Out.N1 (a0 m c) (a1 m c) (a2 m c) (seqOf t sb) (headOf t) r := by
  rw [N1_eq _ _ (hz_blk m c hfin t sb), li1_blk, lf1_blk]
  simp only [rows_k]
  rfl
theorem M1_blk (t : Fin cfg0.N) (sb : Fin 4) (l : Fin 128) :
    (M1 (gx m c t sb) (gb m c t) (ix5 0 0 0 0 l) : EReal) = Out.M1 (a1 m c) (a2 m c) (seqOf t sb) (headOf t) := by
  unfold M1
  rw [pay201_apply, mst1_eq _ _ (hz_blk m c hfin t sb), li1_blk, lf1_blk]
  rfl

theorem Cblk_eq (t : Fin cfg0.N) (sb : Fin 4) (d : Fin 2) (r : Fin 256) (e : Fin 512) : (Cblk (iblk m c 4 t) (iblk m c 5 t) (iblk m c 1 t) (iblk m c 2 t) sb d (ix4 0 0 r e) : EReal)
      = if d.val = 0 then Out.C0 (a0 m c) (a1 m c) (a2 m c) (seqOf t sb) (headOf t) r e else Out.C1 (a0 m c) (a1 m c) (a2 m c) (seqOf t sb) (headOf t) r e :=
  match d with
  | 0 => C0_blk m c hfin t sb r e
  | 1 => C1_blk m c hfin t sb r e

theorem Nblk_eq (t : Fin cfg0.N) (sb : Fin 4) (d : Fin 2) (r : Fin 256) : (Nblk (iblk m c 4 t) (iblk m c 5 t) (iblk m c 1 t) sb d (ix4 0 0 0 r) : EReal)
      = if d.val = 0 then Out.N0 (a0 m c) (a1 m c) (a2 m c) (seqOf t sb) (headOf t) r else Out.N1 (a0 m c) (a1 m c) (a2 m c) (seqOf t sb) (headOf t) r :=
  match d with
  | 0 => N0_blk m c hfin t sb r
  | 1 => N1_blk m c hfin t sb r

theorem Mblk_eq (t : Fin cfg0.N) (sb : Fin 4) (d : Fin 2) (l : Fin 128) : (Mblk (iblk m c 4 t) (iblk m c 5 t) sb d (ix5 0 0 0 0 l) : EReal)
      = if d.val = 0 then Out.M0 (a1 m c) (a2 m c) (seqOf t sb) (headOf t) else Out.M1 (a1 m c) (a2 m c) (seqOf t sb) (headOf t) :=
  match d with
  | 0 => M0_blk m c hfin t sb l
  | 1 => M1_blk m c hfin t sb l

theorem at7 (t : Fin cfg0.N) (sb : Fin 4) (r : Fin 256) (e : Fin 512) :
    ((dats m 0 c).arrAt 7 cfg0.N (ix2 (Out.row (seqOf t sb) r) ⟨(headOf t).val * 512 + e.val, by omega⟩) : EReal) = Out.y (a0 m c) (a1 m c) (a2 m c) (a3 m c) (seqOf t sb) (headOf t) r e := by
  have h := congrFun (blocks7 m c t (flush0_7 t)) (ix2 (rowIx sb r) e)
  rw [View.read_apply, flushed7_A] at h
  obtain ⟨h0, h1⟩ := ixw7 t
  have he : ((cfg0.win 7).blk t).view.emb (ix2 (rowIx sb r) e) = ix2 (Out.row (seqOf t sb) r) ⟨(headOf t).val * 512 + e.val, by omega⟩ := by
    funext a
    apply Fin.ext
    match a with
    | ⟨0, _⟩ =>
      show win0_7.index t 0 * 1024 + 1 * (256 * sb.val + r.val) = (4 * (t.val / 4) + sb.val) * 256 + r.val
      omega
    | ⟨1, _⟩ =>
      show win0_7.index t 1 * 512 + 1 * e.val = t.val % 4 * 512 + e.val
      omega
  rw [he] at h
  refine h.trans ?_
  have hl : (cfg0.win 7).xinj (grid0.coords t) (ix2 (rowIx sb r) e) = ix2 (rowIx sb r) e := by
    funext a
    apply Fin.ext
    match a with
    | ⟨0, _⟩ => rfl
    | ⟨1, _⟩ => rfl
  show out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) ((cfg0.win 7).xinj (grid0.coords t) (ix2 (rowIx sb r) e)) = _
  rw [hl]
  refine (out7_apply _ _ _ _ _ _ _ _ _ _ _ _ _ _ _ _ _ _ _ _ _ _ _ _ _ _ _ _ _ _ _ _ _ _ _ _ _ _ _ sb r e).trans ?_
  unfold Yblk
  rw [pay198_apply, rows_o, blk_ng]
  unfold Out.y
  simp only [← H0_blk m c hfin, ← H1_blk m c hfin]

theorem at8 (t : Fin cfg0.N) (sb : Fin 4) (d : Fin 2) (r : Fin 256) (e : Fin 512) :
    ((dats m 0 c).arrAt 8 cfg0.N (ix6 (seqOf t sb) 1 d (headOf t) r e) : EReal) = if d.val = 0 then Out.C0 (a0 m c) (a1 m c) (a2 m c) (seqOf t sb) (headOf t) r e else Out.C1 (a0 m c) (a1 m c) (a2 m c) (seqOf t sb) (headOf t) r e := by
  have h := congrFun (blocks8 m c t (flush0_8 t)) (ix6 sb 0 d 0 r e)
  rw [View.read_apply, flushed8_A] at h
  obtain ⟨h0, h1, h2, h3, h4, h5⟩ := ixw8 t
  have he : ((cfg0.win 8).blk t).view.emb (ix6 sb 0 d 0 r e) = ix6 (seqOf t sb) 1 d (headOf t) r e := by
    funext a
    apply Fin.ext
    match a with
    | ⟨0, _⟩ =>
      show win0_8.index t 0 * 4 + 1 * sb.val = 4 * (t.val / 4) + sb.val
      omega
    | ⟨1, _⟩ =>
      show win0_8.index t 1 * 1 + 1 * 0 = 1
      omega
    | ⟨2, _⟩ =>
      show win0_8.index t 2 * 2 + 1 * d.val = d.val
      omega
    | ⟨3, _⟩ =>
      show win0_8.index t 3 * 1 + 1 * 0 = t.val % 4
      omega
    | ⟨4, _⟩ =>
      show win0_8.index t 4 * 256 + 1 * r.val = r.val
      omega
    | ⟨5, _⟩ =>
      show win0_8.index t 5 * 512 + 1 * e.val = e.val
      omega
  rw [he] at h
  refine h.trans ?_
  have hl : (cfg0.win 8).xinj (grid0.coords t) (ix6 sb 0 d 0 r e) = ix6 sb 0 d 0 r e := by
    funext a
    apply Fin.ext
    match a with
    | ⟨0, _⟩ => rfl
    | ⟨1, _⟩ => rfl
    | ⟨2, _⟩ => rfl
    | ⟨3, _⟩ => rfl
    | ⟨4, _⟩ => rfl
    | ⟨5, _⟩ => rfl
  show out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) ((cfg0.win 8).xinj (grid0.coords t) (ix6 sb 0 d 0 r e)) = _
  rw [hl]
  refine (out8_apply _ _ _ _ _ _ _ _ _ _ _ _ _ _ _ _ _ _ _ _ _ _ _ _ _ _ _ _ _ _ _ _ _ _ _ _ _ _ _ sb d r e).trans ?_
  exact Cblk_eq m c hfin t sb d r e

theorem at9 (t : Fin cfg0.N) (sb : Fin 4) (d : Fin 2) (r : Fin 256) :
    ((dats m 0 c).arrAt 9 cfg0.N (ix6 (seqOf t sb) 1 d (headOf t) 0 r) : EReal) = if d.val = 0 then Out.N0 (a0 m c) (a1 m c) (a2 m c) (seqOf t sb) (headOf t) r else Out.N1 (a0 m c) (a1 m c) (a2 m c) (seqOf t sb) (headOf t) r := by
  have h := congrFun (blocks9 m c t (flush0_9 t)) (ix6 sb 0 d 0 0 r)
  rw [View.read_apply, flushed9_A] at h
  obtain ⟨h0, h1, h2, h3, h4, h5⟩ := ixw9 t
  have he : ((cfg0.win 9).blk t).view.emb (ix6 sb 0 d 0 0 r) = ix6 (seqOf t sb) 1 d (headOf t) 0 r := by
    funext a
    apply Fin.ext
    match a with
    | ⟨0, _⟩ =>
      show win0_9.index t 0 * 4 + 1 * sb.val = 4 * (t.val / 4) + sb.val
      omega
    | ⟨1, _⟩ =>
      show win0_9.index t 1 * 1 + 1 * 0 = 1
      omega
    | ⟨2, _⟩ =>
      show win0_9.index t 2 * 2 + 1 * d.val = d.val
      omega
    | ⟨3, _⟩ =>
      show win0_9.index t 3 * 1 + 1 * 0 = t.val % 4
      omega
    | ⟨4, _⟩ =>
      show win0_9.index t 4 * 1 + 1 * 0 = 0
      omega
    | ⟨5, _⟩ =>
      show win0_9.index t 5 * 256 + 1 * r.val = r.val
      omega
  rw [he] at h
  refine h.trans ?_
  have hl : (cfg0.win 9).xinj (grid0.coords t) (ix6 sb 0 d 0 0 r) = ix6 sb 0 d 0 0 r := by
    funext a
    apply Fin.ext
    match a with
    | ⟨0, _⟩ => rfl
    | ⟨1, _⟩ => rfl
    | ⟨2, _⟩ => rfl
    | ⟨3, _⟩ => rfl
    | ⟨4, _⟩ => rfl
    | ⟨5, _⟩ => rfl
  show out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) ((cfg0.win 9).xinj (grid0.coords t) (ix6 sb 0 d 0 0 r)) = _
  rw [hl]
  refine (out9_apply _ _ _ _ _ _ _ _ _ _ _ _ _ _ _ _ _ _ _ _ _ _ _ _ _ _ _ _ _ _ _ _ _ _ _ _ _ _ _ sb d r).trans ?_
  exact Nblk_eq m c hfin t sb d r

theorem at10 (t : Fin cfg0.N) (sb : Fin 4) (d : Fin 2) (l : Fin 128) :
    ((dats m 0 c).arrAt 10 cfg0.N (ix5 (seqOf t sb) 1 (headOf t) d l) : EReal) = if d.val = 0 then Out.M0 (a1 m c) (a2 m c) (seqOf t sb) (headOf t) else Out.M1 (a1 m c) (a2 m c) (seqOf t sb) (headOf t) := by
  have h := congrFun (blocks10 m c t (flush0_10 t)) (ix5 sb 0 0 d l)
  rw [View.read_apply, flushed10_A] at h
  obtain ⟨h0, h1, h2, h3, h4⟩ := ixw10 t
  have he : ((cfg0.win 10).blk t).view.emb (ix5 sb 0 0 d l) = ix5 (seqOf t sb) 1 (headOf t) d l := by
    funext a
    apply Fin.ext
    match a with
    | ⟨0, _⟩ =>
      show win0_10.index t 0 * 4 + 1 * sb.val = 4 * (t.val / 4) + sb.val
      omega
    | ⟨1, _⟩ =>
      show win0_10.index t 1 * 1 + 1 * 0 = 1
      omega
    | ⟨2, _⟩ =>
      show win0_10.index t 2 * 1 + 1 * 0 = t.val % 4
      omega
    | ⟨3, _⟩ =>
      show win0_10.index t 3 * 2 + 1 * d.val = d.val
      omega
    | ⟨4, _⟩ =>
      show win0_10.index t 4 * 128 + 1 * l.val = l.val
      omega
  rw [he] at h
  refine h.trans ?_
  have hl : (cfg0.win 10).xinj (grid0.coords t) (ix5 sb 0 0 d l) = ix5 sb 0 0 d l := by
    funext a
    apply Fin.ext
    match a with
    | ⟨0, _⟩ => rfl
    | ⟨1, _⟩ => rfl
    | ⟨2, _⟩ => rfl
    | ⟨3, _⟩ => rfl
    | ⟨4, _⟩ => rfl
  show out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) ((cfg0.win 10).xinj (grid0.coords t) (ix5 sb 0 0 d l)) = _
  rw [hl]
  refine (out10_apply _ _ _ _ _ _ _ _ _ _ _ _ _ _ _ _ _ _ _ _ _ _ _ _ _ _ _ _ _ _ _ _ _ _ _ _ _ _ _ sb d l).trans ?_
  exact Mblk_eq m c hfin t sb d l

/-- The four result arrays. -/
theorem final7 : @Eq (FVec Ideal Out.SY .bf16) ((dats m 0 c).arrAt 7 cfg0.N) (Out.yArr (a0 m c) (a1 m c) (a2 m c) (a3 m c) (a4 m c)) := by
  funext i
  have h0 : (i 0).val < 16384 := (i 0).isLt
  have h1 : (i 1).val < 2048 := (i 1).isLt
  show _ = Out.yAt _ _ _ _ _ (i 0) (i 1)
  unfold Out.yAt
  by_cases hr : (i 0).val < 8192
  · rw [dif_pos hr]
    obtain ⟨t, ht⟩ : ∃ t : Fin cfg0.N, t.val = 4 * ((i 0).val / 1024) + (i 1).val / 512 := ⟨⟨4 * ((i 0).val / 1024) + (i 1).val / 512, by rw [N32]; omega⟩, rfl⟩
    have h := at7 m c hfin t ⟨(i 0).val / 256 % 4, by omega⟩ ⟨(i 0).val % 256, by omega⟩ ⟨(i 1).val % 512, by omega⟩
    have e1 : seqOf t ⟨(i 0).val / 256 % 4, by omega⟩ = ⟨(i 0).val / 256, by omega⟩ := Fin.ext (by show 4 * (t.val / 4) + (i 0).val / 256 % 4 = (i 0).val / 256; omega)
    have e2 : headOf t = ⟨(i 1).val / 512, by omega⟩ := Fin.ext (by show t.val % 4 = (i 1).val / 512; omega)
    refine Eq.trans (congrArg _ (funext fun a => Fin.ext ?_)) (h.trans ?_)
    · match a with
      | ⟨0, _⟩ => show (i 0).val = (4 * (t.val / 4) + (i 0).val / 256 % 4) * 256 + (i 0).val % 256; omega
      | ⟨1, _⟩ => show (i 1).val = t.val % 4 * 512 + (i 1).val % 512; omega
    · rw [e1, e2]
  · rw [dif_neg hr]
    refine (entry7 m c i fun t _ hm => ?_).trans ((congrFun (V_out0 m c) i).trans (congrArg (a4 m c) (funext fun a => match a with | ⟨0, _⟩ => rfl | ⟨1, _⟩ => rfl)))
    obtain ⟨e0, e1⟩ := ixw7 t
    have ht := lt_of_lt_of_eq t.isLt N32
    change i ∈ ((View.whole main_v1_0).slice (win0_7.rect t)).set at hm
    rw [View.set_slice_whole, Rect.mem_set_unit] at hm
    have := (hm 0).2
    change (i 0).val < win0_7.index t 0 * 1024 + 1024 at this
    omega

theorem final8 : @Eq (FVec Ideal Out.SC .f32) ((dats m 0 c).arrAt 8 cfg0.N) (Out.cArr (a0 m c) (a1 m c) (a2 m c) (a5 m c)) := by
  funext i
  have h0 : (i 0).val < 32 := (i 0).isLt
  have h1 : (i 1).val < 2 := (i 1).isLt
  have h2 : (i 2).val < 2 := (i 2).isLt
  have h3 : (i 3).val < 4 := (i 3).isLt
  have h4 : (i 4).val < 256 := (i 4).isLt
  have h5 : (i 5).val < 512 := (i 5).isLt
  show _ = Out.cAt _ _ _ _ (i 0) (i 1) (i 2) (i 3) (i 4) (i 5)
  unfold Out.cAt
  by_cases hj : (i 1).val = 0
  · rw [if_pos hj]
    refine (entry8 m c i fun t _ hm => ?_).trans ((congrFun (V_out1 m c) i).trans (congrArg (a5 m c) (funext fun a => match a with | ⟨0, _⟩ => rfl | ⟨1, _⟩ => rfl | ⟨2, _⟩ => rfl | ⟨3, _⟩ => rfl | ⟨4, _⟩ => rfl | ⟨5, _⟩ => rfl)))
    obtain ⟨e0, e1, e2, e3, e4, e5⟩ := ixw8 t
    change i ∈ ((View.whole main_v1_1).slice (win0_8.rect t)).set at hm
    rw [View.set_slice_whole, Rect.mem_set_unit] at hm
    have := (hm 1).1
    change win0_8.index t 1 * 1 ≤ (i 1).val at this
    omega
  · rw [if_neg hj]
    obtain ⟨t, ht⟩ : ∃ t : Fin cfg0.N, t.val = 4 * ((i 0).val / 4) + (i 3).val := ⟨⟨4 * ((i 0).val / 4) + (i 3).val, by rw [N32]; omega⟩, rfl⟩
    have h := at8 m c hfin t ⟨(i 0).val % 4, by omega⟩ (i 2) (i 4) (i 5)
    have e1 : seqOf t ⟨(i 0).val % 4, by omega⟩ = i 0 := Fin.ext (by show 4 * (t.val / 4) + (i 0).val % 4 = (i 0).val; omega)
    have e2 : headOf t = i 3 := Fin.ext (by show t.val % 4 = (i 3).val; omega)
    rw [e1, e2] at h
    refine Eq.trans (congrArg _ (funext fun a => Fin.ext ?_)) h
    match a with
    | ⟨0, _⟩ => rfl
    | ⟨1, _⟩ => show (i 1).val = 1; omega
    | ⟨2, _⟩ => rfl
    | ⟨3, _⟩ => rfl
    | ⟨4, _⟩ => rfl
    | ⟨5, _⟩ => rfl

theorem final9 : @Eq (FVec Ideal Out.SN .f32) ((dats m 0 c).arrAt 9 cfg0.N) (Out.nArr (a0 m c) (a1 m c) (a2 m c) (a6 m c)) := by
  funext i
  have h0 : (i 0).val < 32 := (i 0).isLt
  have h1 : (i 1).val < 2 := (i 1).isLt
  have h2 : (i 2).val < 2 := (i 2).isLt
  have h3 : (i 3).val < 4 := (i 3).isLt
  have h4 : (i 4).val < 1 := (i 4).isLt
  have h5 : (i 5).val < 256 := (i 5).isLt
  show _ = Out.nAt _ _ _ _ (i 0) (i 1) (i 2) (i 3) (i 4) (i 5)
  unfold Out.nAt
  by_cases hj : (i 1).val = 0
  · rw [if_pos hj]
    refine (entry9 m c i fun t _ hm => ?_).trans ((congrFun (V_out2 m c) i).trans (congrArg (a6 m c) (funext fun a => match a with | ⟨0, _⟩ => rfl | ⟨1, _⟩ => rfl | ⟨2, _⟩ => rfl | ⟨3, _⟩ => rfl | ⟨4, _⟩ => rfl | ⟨5, _⟩ => rfl)))
    obtain ⟨e0, e1, e2, e3, e4, e5⟩ := ixw9 t
    change i ∈ ((View.whole main_v1_2).slice (win0_9.rect t)).set at hm
    rw [View.set_slice_whole, Rect.mem_set_unit] at hm
    have := (hm 1).1
    change win0_9.index t 1 * 1 ≤ (i 1).val at this
    omega
  · rw [if_neg hj]
    obtain ⟨t, ht⟩ : ∃ t : Fin cfg0.N, t.val = 4 * ((i 0).val / 4) + (i 3).val := ⟨⟨4 * ((i 0).val / 4) + (i 3).val, by rw [N32]; omega⟩, rfl⟩
    have h := at9 m c hfin t ⟨(i 0).val % 4, by omega⟩ (i 2) (i 5)
    have e1 : seqOf t ⟨(i 0).val % 4, by omega⟩ = i 0 := Fin.ext (by show 4 * (t.val / 4) + (i 0).val % 4 = (i 0).val; omega)
    have e2 : headOf t = i 3 := Fin.ext (by show t.val % 4 = (i 3).val; omega)
    rw [e1, e2] at h
    refine Eq.trans (congrArg _ (funext fun a => Fin.ext ?_)) h
    match a with
    | ⟨0, _⟩ => rfl
    | ⟨1, _⟩ => show (i 1).val = 1; omega
    | ⟨2, _⟩ => rfl
    | ⟨3, _⟩ => rfl
    | ⟨4, _⟩ => show (i 4).val = 0; omega
    | ⟨5, _⟩ => rfl

theorem final10 : @Eq (FVec Ideal Out.SM .f32) ((dats m 0 c).arrAt 10 cfg0.N) (Out.mArr (a1 m c) (a2 m c) (a7 m c)) := by
  funext i
  have h0 : (i 0).val < 32 := (i 0).isLt
  have h1 : (i 1).val < 2 := (i 1).isLt
  have h2 : (i 2).val < 4 := (i 2).isLt
  have h3 : (i 3).val < 2 := (i 3).isLt
  have h4 : (i 4).val < 128 := (i 4).isLt
  show _ = Out.mAt _ _ _ (i 0) (i 1) (i 2) (i 3) (i 4)
  unfold Out.mAt
  by_cases hj : (i 1).val = 0
  · rw [if_pos hj]
    refine (entry10 m c i fun t _ hm => ?_).trans ((congrFun (V_out3 m c) i).trans (congrArg (a7 m c) (funext fun a => match a with | ⟨0, _⟩ => rfl | ⟨1, _⟩ => rfl | ⟨2, _⟩ => rfl | ⟨3, _⟩ => rfl | ⟨4, _⟩ => rfl)))
    obtain ⟨e0, e1, e2, e3, e4⟩ := ixw10 t
    change i ∈ ((View.whole main_v1_3).slice (win0_10.rect t)).set at hm
    rw [View.set_slice_whole, Rect.mem_set_unit] at hm
    have := (hm 1).1
    change win0_10.index t 1 * 1 ≤ (i 1).val at this
    omega
  · rw [if_neg hj]
    obtain ⟨t, ht⟩ : ∃ t : Fin cfg0.N, t.val = 4 * ((i 0).val / 4) + (i 2).val := ⟨⟨4 * ((i 0).val / 4) + (i 2).val, by rw [N32]; omega⟩, rfl⟩
    have h := at10 m c hfin t ⟨(i 0).val % 4, by omega⟩ (i 3) (i 4)
    have e1 : seqOf t ⟨(i 0).val % 4, by omega⟩ = i 0 := Fin.ext (by show 4 * (t.val / 4) + (i 0).val % 4 = (i 0).val; omega)
    have e2 : headOf t = i 2 := Fin.ext (by show t.val % 4 = (i 2).val; omega)
    rw [e1, e2] at h
    refine Eq.trans (congrArg _ (funext fun a => Fin.ext ?_)) h
    match a with
    | ⟨0, _⟩ => rfl
    | ⟨1, _⟩ => show (i 1).val = 1; omega
    | ⟨2, _⟩ => rfl
    | ⟨3, _⟩ => rfl
    | ⟨4, _⟩ => rfl

end Cert.Mlstm

end
-- ==== Proof.MlstmPre.lean ====
/-
  What the precondition says: every gate pre-activation's two summands are finite, so the pre-activation is.
-/
module

public import proofs.«01_k».proof.Proof.Gen.Pre_finite_gates
public import proofs.«01_k».proof.Proof.MlstmOut
public import Idealize.ShloMosaic.Lib.ReduceAll
public import Idealize.ShloMosaic.Lib.Pointwise
public import Idealize.ShloMosaic.Lib.IdealHost

@[expose] public section

noncomputable section

namespace Cert.Mlstm.Pre

open Cert.Pre_finite_gates Cert.Pre_finite_gates.Gen
open Idealize.ShloMosaic

theorem inf_bits : Ideal.ofBits .f32 0x7F800000#32 = (⊤ : EReal) := by
  simp [Ideal.ofBits, Ideal.ieee]

/-- A number whose absolute value is below infinity is a real number. -/
theorem real_of (x : EReal) (h : Ideal.cmp .olt (FloatOps.absf (F := Ideal) (φ := .f32) x) (Ideal.ofBits .f32 0x7F800000#32) = 1#1) :
    ∃ r : ℝ, x = (r : EReal) := by
  rw [inf_bits] at h
  induction x using EReal.rec with
  | coe r => exact ⟨r, rfl⟩
  | bot =>
    exfalso
    revert h
    show ¬ (Ideal.cmp .olt (max (⊥ : EReal) (-⊥)) ⊤ = 1#1)
    simp [Ideal.cmp]
  | top =>
    exfalso
    revert h
    show ¬ (Ideal.cmp .olt (max (⊤ : EReal) (-⊤)) ⊤ = 1#1)
    simp [Ideal.cmp]

instance : Subsingleton S_.Idx := ⟨fun a b => funext fun i => i.elim0⟩

variable (x0 : FVec Ideal S16384x4096 .bf16) (x1 : FVec Ideal S16384x2560 .f32) (x2 : FVec Ideal S1x512 .f32) (x3 : FVec Ideal S2048 .f32)
  (x4 : FVec Ideal S16384x2048 .bf16) (x5 : FVec Ideal S32x2x2x4x256x512 .f32) (x6 : FVec Ideal S32x2x2x4x1x256 .f32) (x7 : FVec Ideal S32x2x4x2x128 .f32)

theorem finite_z (h : fn (F := Ideal) x0 x1 x2 x3 x4 x5 x6 x7 = fun _ => 1#1) (B : Fin 32) (hd : Fin 4) (t : Fin 256) (l : Fin 128) :
    ∃ r : ℝ, Out.z x1 x2 B hd t l = (r : EReal) := by
  have h' := congrFun h (fun a => a.elim0)
  unfold fn at h'
  dsimp only at h'
  obtain ⟨ha, hb⟩ := IntOp.andi_eq_one.1 h'
  have h1 := Host.reduce_andi_all _ _ _ _ _ ha (ix2 (Out.row B t) ⟨hd.val * 128 + l.val, by omega⟩)
  have h2 := Host.reduce_andi_all _ _ _ _ _ hb (ix2 0 ⟨hd.val * 128 + l.val, by omega⟩)
  obtain ⟨r1, e1⟩ := real_of (x1 (ix2 (Out.row B t) ⟨2048 + (hd.val * 128 + l.val), by omega⟩)) (by
    refine Eq.trans (congrArg (fun z => Ideal.cmp .olt (FloatOps.absf (F := Ideal) (φ := .f32) (x1 z)) _) (funext fun a => Fin.ext ?_)) h1
    match a with
    | ⟨0, _⟩ => show (Out.row B t).val = 0 + (Out.row B t).val; omega
    | ⟨1, _⟩ => rfl)
  obtain ⟨r2, e2⟩ := real_of (x2 (ix2 0 ⟨hd.val * 128 + l.val, by omega⟩)) h2
  refine ⟨r1 + r2, ?_⟩
  unfold Out.z
  rw [e1, e2]
  exact (EReal.coe_add r1 r2).symm

end Cert.Mlstm.Pre

end
-- ==== Proof.MlstmRef.lean ====
module

public import proofs.«01_k».proof.Proof.Gen.ReferenceIdeal.Read
public import proofs.«01_k».proof.Proof.MlstmSpec
public import Idealize.ShloMosaic.Lib.Pointwise
public import Idealize.ShloMosaic.Lib.IdealHost
public import Idealize.ShloMosaic.Lib.WordCmp

@[expose] public section

set_option maxRecDepth 16384

noncomputable section

/-! The reference, stage by stage, as the recurrence of `Spec`. -/

namespace Cert.Mlstm.Ref

open Cert.ReferenceIdeal Cert.ReferenceIdeal.Gen Cert.ReferenceIdeal.Read
open Idealize.ShloMosaic Idealize.ShloMosaic.TcCoe Idealize.SL.Sem

theorem foldl_add {n : Nat} (f : Fin n → EReal) : (List.finRange n).foldl (fun r i => r + f i) 0 = ∑ i, f i := by
  rw [Fin.sum_univ_def, List.sum_eq_foldl, List.foldl_map]

/-- The window's positions, by the token axis. -/
def winEquiv : (⟨3, ![1, 256, 1]⟩ : Shape).Idx ≃ Fin 256 where
  toFun i := i 1
  invFun n := ix3 0 n 0
  left_inv i := funext fun a => Fin.ext (by
    match a with
    | ⟨0, _⟩ => have := (i 0).isLt; show 0 = (i 0).val; change (i 0).val < 1 at this; omega
    | ⟨1, _⟩ => rfl
    | ⟨2, _⟩ => have := (i 2).isLt; show 0 = (i 2).val; change (i 2).val < 1 at this; omega)
  right_inv n := rfl

/-- The running sum along the token axis. -/
theorem cumsum_apply (x : FVec Ideal S32x256x4 .f32) (h : Shape.ReduceWindows (s := S32x256x4) ![1, 256, 1] ![1, 1, 1] ![0, 255, 0] ![0, 0, 0] S32x256x4)
    (init : FVec Ideal S_ .f32) (hu : 0 < S_.numel) (h0 : init (Shape.Idx.first hu) = (0 : EReal)) (B : Fin 32) (t : Fin 256) (hd : Fin 4) :
    (Host.reduceWindowAdd (F := Ideal) (s := S32x256x4) ![1, 256, 1] ![1, 1, 1] ![0, 255, 0] ![0, 0, 0] x init h hu (ix3 B t hd) : EReal)
      = Spec.B Spec.fwd (fun s => x (ix3 B s hd)) t := by
  unfold Host.reduceWindowAdd
  change Ideal.hostReduceWindowAdd _ _ _ _ h x (init (Shape.Idx.first hu)) (ix3 B t hd) = _
  unfold Ideal.hostReduceWindowAdd Host.reduceWindow
  dsimp only
  rw [h0]
  refine (foldl_add _).trans ?_
  rw [← Equiv.sum_comp (Shape.rowMajor _)]
  refine (Equiv.sum_comp winEquiv.symm _).symm.trans ?_
  unfold Spec.B
  refine Eq.trans ?_ (Equiv.sum_comp (Equiv.addRight (t + 1)) (fun s => if Spec.fwd t s then (x (ix3 B s hd) : EReal) else 0))
  refine Finset.sum_congr rfl fun n _ => ?_
  simp only [Equiv.symm_apply_apply]
  have hv : ((Equiv.addRight (t + 1)) n).val = (n.val + (t.val + 1) % 256) % 256 := by
    show (n + (t + 1)).val = _
    rw [Fin.val_add, Fin.val_add]
    rfl
  have ht := t.isLt
  have hn := n.isLt
  by_cases hc : 255 ≤ t.val + n.val
  · rw [if_pos (show Spec.fwd t ((Equiv.addRight (t + 1)) n) from by show ((Equiv.addRight (t + 1)) n).val ≤ t.val; omega), dif_pos]
    · refine congrArg x (funext fun a => Fin.ext ?_)
      match a with
      | ⟨0, _⟩ => show B.val * 1 + 0 - 0 = B.val; omega
      | ⟨1, _⟩ => show t.val * 1 + n.val - 255 = ((Equiv.addRight (t + 1)) n).val; omega
      | ⟨2, _⟩ => show hd.val * 1 + 0 - 0 = hd.val; omega
    · intro a
      match a with
      | ⟨0, _⟩ => exact ⟨Nat.zero_le _, by have := B.isLt; show B.val * 1 + 0 - 0 < 32; omega⟩
      | ⟨1, _⟩ => exact ⟨by show 255 ≤ t.val * 1 + n.val; omega, by show t.val * 1 + n.val - 255 < 256; omega⟩
      | ⟨2, _⟩ => exact ⟨Nat.zero_le _, by have := hd.isLt; show hd.val * 1 + 0 - 0 < 4; omega⟩
  · rw [if_neg (show ¬ Spec.fwd t ((Equiv.addRight (t + 1)) n) from by show ¬ ((Equiv.addRight (t + 1)) n).val ≤ t.val; omega), dif_neg]
    intro hin
    exact hc (by have := (hin 1).1; change 255 ≤ t.val * 1 + n.val at this; omega)

variable (x0 : (⟨S16384x4096, .bf16⟩ : BufTy).Contents (Elt Ideal)) (x1 : (⟨S16384x2560, .f32⟩ : BufTy).Contents (Elt Ideal)) (x2 : (⟨S1x512, .f32⟩ : BufTy).Contents (Elt Ideal)) (x3 : (⟨S2048, .f32⟩ : BufTy).Contents (Elt Ideal)) (x4 : (⟨S16384x2048, .bf16⟩ : BufTy).Contents (Elt Ideal)) (x5 : (⟨S32x2x2x4x256x512, .f32⟩ : BufTy).Contents (Elt Ideal)) (x6 : (⟨S32x2x2x4x1x256, .f32⟩ : BufTy).Contents (Elt Ideal)) (x7 : (⟨S32x2x4x2x128, .f32⟩ : BufTy).Contents (Elt Ideal))

theorem ninf : Ideal.ofBits .f32 4286578688#32 = ⊥ := by
  simp [Ideal.ofBits, Ideal.ieee]

theorem zero_bits : Ideal.ofBits .f32 0x00000000#32 = 0 := by
  simp [Ideal.ofBits, Ideal.ieee]

theorem sel (t s : Fin 256) (a b : EReal) :
    Scalar.select (Scalar.select (IntOp.cmpi CmpIPredicate.sge (IntOp.addi (BitVec.ofNat 32 t.val) 0#32) (BitVec.ofNat 32 s.val)) 1#1 0#1) a b
      = if s ≤ t then a else b := by
  have e : IntOp.addi (BitVec.ofNat 32 t.val) 0#32 = BitVec.ofNat 32 t.val := by
    show BitVec.ofNat 32 t.val + 0#32 = _
    exact BitVec.add_zero _
  rw [e]
  have hc : IntOp.cmpi .sge (BitVec.ofNat 32 t.val) (BitVec.ofNat 32 s.val) = 1#1 ↔ s ≤ t :=
    WordCmp.cmpi_sle_ofNat_eq_one_iff (by have := s.isLt; show s.val < 2147483648; omega) (by have := t.isLt; show t.val < 2147483648; omega)
  by_cases h : s ≤ t
  · rw [if_pos h, hc.2 h]
    rfl
  · rw [if_neg h]
    have h' := fun hh => h (hc.1 hh)
    generalize IntOp.cmpi .sge (BitVec.ofNat 32 t.val) (BitVec.ofNat 32 s.val) = c at h'
    rcases (by decide : ∀ c : BitVec 1, c = 0#1 ∨ c = 1#1) c with rfl | rfl
    · rfl
    · exact absurd rfl h'

theorem neg_select (a : EReal) : (-(if a ≠ a then a else max a 0 + Ideal.log1p (Ideal.exp (-FloatOps.absf (F := Ideal) (φ := .f32) a))))
    = -(max a 0 + Ideal.log1p (Ideal.exp (-FloatOps.absf (F := Ideal) (φ := .f32) a))) := by
  rw [if_neg (fun h => h rfl)]

theorem B0 (B : Fin 32) (t : Fin 256) (h : Fin 4) : (val_main_v25 (F := Ideal) x1 x2 (ix3 B t h) : EReal) = Spec.B Spec.fwd (fun s => val_main_v19 (F := Ideal) x1 x2 (ix3 B s h)) t :=
  cumsum_apply (val_main_v19 (F := Ideal) x1 x2) _ _ _ zero_bits B t h

theorem D0 (B : Fin 32) (t s : Fin 256) (h : Fin 4) : (val_main_v35 (F := Ideal) x1 x2 (ix4 B t s h) : EReal) = Spec.D Spec.fwd (fun s => val_main_v16 (F := Ideal) x1 x2 (ix3 B s h)) (fun s => val_main_v19 (F := Ideal) x1 x2 (ix3 B s h)) t s := by
  pointwise [val_main_v35, val_main_call3_v2, val_main_call3_v0, val_main_cst_2, val_main_v33, val_main_v32, val_main_v31, val_main_v30, val_main_v29, val_main_v27, val_main_v28, val_main_v26, val_main_call3_v1, val_main_v34, val_main_v24, val_main_call1_v5, val_main_call1_c_0, val_main_v23, val_main_c, val_main_call1_v4, val_main_call1_v3, val_main_call1_v2, val_main_call1_v1, val_main_call1_c, val_main_call1_v0]
  rw [sel, B0, B0]
  exact if_congr Iff.rfl rfl ninf

theorem F0 (B : Fin 32) (t : Fin 256) (h : Fin 4) : (val_main_v39 (F := Ideal) x1 x2 (ix3 B t h) : EReal)
    = Finset.fold max (Ideal.ofBits .f32 4286578688#32) (fun s => (val_main_v35 (F := Ideal) x1 x2 (ix4 B t s h) : EReal)) Finset.univ := by
  pointwise [val_main_v39, val_main_cst_3]

theorem M0 (B : Fin 32) (t : Fin 256) (h : Fin 4) : (val_main_v40 (F := Ideal) x1 x2 (ix3 B t h) : EReal) = max (val_main_v25 (F := Ideal) x1 x2 (ix3 B t h) : EReal) (val_main_v39 (F := Ideal) x1 x2 (ix3 B t h)) := by
  pointwise [val_main_v40, val_main_v38, val_main_v37, val_main_v36, val_main_v22, val_main_cst_1]

theorem m0 (B : Fin 32) (t : Fin 256) (h : Fin 4) : (val_main_v40 (F := Ideal) x1 x2 (ix3 B t h) : EReal) = Spec.m Spec.fwd (fun s => val_main_v16 (F := Ideal) x1 x2 (ix3 B s h)) (fun s => val_main_v19 (F := Ideal) x1 x2 (ix3 B s h)) t := by
  unfold Spec.m
  refine (M0 x1 x2 B t h).trans ?_
  rw [B0, F0, ninf]
  simp only [D0]

theorem S0 (B : Fin 32) (t s : Fin 256) (h : Fin 4) : (val_main_v49 (F := Ideal) x0 x1 x2 (ix4 B t s h) : EReal) = Spec.S Spec.fwd (fun s => val_main_v16 (F := Ideal) x1 x2 (ix3 B s h)) (fun s => val_main_v19 (F := Ideal) x1 x2 (ix3 B s h)) (fun t c => val_main_v6 (F := Ideal) x0 (ix4 B t h c)) (fun t c => val_main_v7 (F := Ideal) x0 (ix4 B t h c)) t s := by
  pointwise [val_main_v49, val_main_v48, val_main_v47, val_main_v46, val_main_v45, val_main_v44, val_main_v43]
  rw [D0, m0]
  unfold Spec.S
  exact congrArg (fun z => z * _) (Finset.sum_congr rfl fun c _ => mul_comm _ _)

theorem H0 (B : Fin 32) (t : Fin 256) (h : Fin 4) (e : Fin 512) : (val_main_v69 (F := Ideal) x0 x1 x2 (ix4 B t h e) : EReal) = Spec.H Spec.fwd (fun s => val_main_v16 (F := Ideal) x1 x2 (ix3 B s h)) (fun s => val_main_v19 (F := Ideal) x1 x2 (ix3 B s h)) (fun t c => val_main_v6 (F := Ideal) x0 (ix4 B t h c)) (fun t c => val_main_v7 (F := Ideal) x0 (ix4 B t h c)) (fun t e => val_main_v8 (F := Ideal) x0 (ix4 B t h e)) t e := by
  pointwise [val_main_v69, val_main_v68, val_main_v67, val_main_v66, val_main_v65, val_main_v64, val_main_v63, val_main_v62, val_main_v61, val_main_v60, val_main_v59, val_main_v21, val_main_cst_0, val_main_v42, val_main_v41, val_main_v38, val_main_v37, val_main_v36, val_main_v22, val_main_cst_1, val_main_v58, val_main_cst_4, val_main_v57, val_main_v56, val_main_v54, val_main_v53, val_main_v20, val_main_cst, val_main_v55, val_main_v52, val_main_v51, val_main_v50]
  simp only [zero_mul, Finset.sum_const_zero, mul_zero, add_zero, S0, m0]
  unfold Spec.H
  exact congrArg (fun z => Ideal.div z _) (Finset.sum_congr rfl fun s _ => mul_comm _ _)

theorem g0 (B : Fin 32) (s : Fin 256) (h : Fin 4) : (val_main_v75 (F := Ideal) x1 x2 (ix3 B s h) : EReal) = Spec.g Spec.fwd 255 (fun s => val_main_v16 (F := Ideal) x1 x2 (ix3 B s h)) (fun s => val_main_v19 (F := Ideal) x1 x2 (ix3 B s h)) s := by
  pointwise [val_main_v75, val_main_v74, val_main_v73, val_main_v72, val_main_v71, val_main_v70]
  rw [B0, B0]
  rfl

theorem mn0 (B : Fin 32) (h : Fin 4) : (val_main_v78 (F := Ideal) x1 x2 (ix2 B h) : EReal) = Spec.mn Spec.fwd 255 (fun s => val_main_v16 (F := Ideal) x1 x2 (ix3 B s h)) (fun s => val_main_v19 (F := Ideal) x1 x2 (ix3 B s h)) := by
  pointwise [val_main_v78, val_main_v77, val_main_cst_5, val_main_v76, val_main_v22, val_main_cst_1, val_main_v71, val_main_v70]
  rw [B0, ninf]
  simp only [g0]
  rfl

theorem C0 (B : Fin 32) (h : Fin 4) (c : Fin 256) (e : Fin 512) : (val_main_v93 (F := Ideal) x0 x1 x2 (ix4 B h c e) : EReal) = Spec.C Spec.fwd 255 (fun s => val_main_v16 (F := Ideal) x1 x2 (ix3 B s h)) (fun s => val_main_v19 (F := Ideal) x1 x2 (ix3 B s h)) (fun t c => val_main_v7 (F := Ideal) x0 (ix4 B t h c)) (fun t e => val_main_v8 (F := Ideal) x0 (ix4 B t h e)) c e := by
  pointwise [val_main_v93, val_main_v92, val_main_v91, val_main_v90, val_main_v89, val_main_v85, val_main_v84, val_main_v83, val_main_v82, val_main_v88, val_main_v20, val_main_cst, val_main_v87, val_main_v86, val_main_v81, val_main_v80, val_main_v79, val_main_v22, val_main_cst_1, val_main_v71, val_main_v70]
  simp only [mul_zero, zero_add, g0, mn0]
  rfl

theorem N0 (B : Fin 32) (h : Fin 4) (c : Fin 256) : (val_main_v98 (F := Ideal) x0 x1 x2 (ix3 B h c) : EReal) = Spec.N Spec.fwd 255 (fun s => val_main_v16 (F := Ideal) x1 x2 (ix3 B s h)) (fun s => val_main_v19 (F := Ideal) x1 x2 (ix3 B s h)) (fun t c => val_main_v7 (F := Ideal) x0 (ix4 B t h c)) c := by
  pointwise [val_main_v98, val_main_v97, val_main_v85, val_main_v84, val_main_v83, val_main_v82, val_main_v96, val_main_v21, val_main_cst_0, val_main_v95, val_main_v94, val_main_v81, val_main_v80, val_main_v79, val_main_v22, val_main_cst_1, val_main_v71, val_main_v70]
  simp only [mul_zero, zero_add, g0, mn0]
  rfl

theorem B1 (B : Fin 32) (t : Fin 256) (h : Fin 4) : (val_main_v114 (F := Ideal) x1 x2 (ix3 B t h) : EReal) = Spec.B Spec.fwd (fun s => val_main_v108 (F := Ideal) x1 x2 (ix3 B s h)) t :=
  cumsum_apply (val_main_v108 (F := Ideal) x1 x2) _ _ _ zero_bits B t h

theorem D1 (B : Fin 32) (t s : Fin 256) (h : Fin 4) : (val_main_v124 (F := Ideal) x1 x2 (ix4 B t s h) : EReal) = Spec.D Spec.fwd (fun s => val_main_v107 (F := Ideal) x1 x2 (ix3 B s h)) (fun s => val_main_v108 (F := Ideal) x1 x2 (ix3 B s h)) t s := by
  pointwise [val_main_v124, val_main_call12_v2, val_main_call12_v0, val_main_cst_10, val_main_v122, val_main_v121, val_main_v120, val_main_v119, val_main_v118, val_main_v116, val_main_v117, val_main_v115, val_main_call12_v1, val_main_v123, val_main_v113, val_main_call10_v5, val_main_call10_c_0, val_main_v112, val_main_c_9, val_main_call10_v4, val_main_call10_v3, val_main_call10_v2, val_main_call10_v1, val_main_call10_c, val_main_call10_v0]
  rw [sel, B1, B1]
  exact if_congr Iff.rfl rfl ninf

theorem F1 (B : Fin 32) (t : Fin 256) (h : Fin 4) : (val_main_v128 (F := Ideal) x1 x2 (ix3 B t h) : EReal)
    = Finset.fold max (Ideal.ofBits .f32 4286578688#32) (fun s => (val_main_v124 (F := Ideal) x1 x2 (ix4 B t s h) : EReal)) Finset.univ := by
  pointwise [val_main_v128, val_main_cst_11]

theorem M1 (B : Fin 32) (t : Fin 256) (h : Fin 4) : (val_main_v129 (F := Ideal) x1 x2 (ix3 B t h) : EReal) = max (val_main_v114 (F := Ideal) x1 x2 (ix3 B t h) : EReal) (val_main_v128 (F := Ideal) x1 x2 (ix3 B t h)) := by
  pointwise [val_main_v129, val_main_v127, val_main_v126, val_main_v125, val_main_v111, val_main_cst_8]

theorem m1 (B : Fin 32) (t : Fin 256) (h : Fin 4) : (val_main_v129 (F := Ideal) x1 x2 (ix3 B t h) : EReal) = Spec.m Spec.fwd (fun s => val_main_v107 (F := Ideal) x1 x2 (ix3 B s h)) (fun s => val_main_v108 (F := Ideal) x1 x2 (ix3 B s h)) t := by
  unfold Spec.m
  refine (M1 x1 x2 B t h).trans ?_
  rw [B1, F1, ninf]
  simp only [D1]

theorem S1 (B : Fin 32) (t s : Fin 256) (h : Fin 4) : (val_main_v138 (F := Ideal) x0 x1 x2 (ix4 B t s h) : EReal) = Spec.S Spec.fwd (fun s => val_main_v107 (F := Ideal) x1 x2 (ix3 B s h)) (fun s => val_main_v108 (F := Ideal) x1 x2 (ix3 B s h)) (fun t c => val_main_v104 (F := Ideal) x0 (ix4 B t h c)) (fun t c => val_main_v105 (F := Ideal) x0 (ix4 B t h c)) t s := by
  pointwise [val_main_v138, val_main_v137, val_main_v136, val_main_v135, val_main_v134, val_main_v133, val_main_v132]
  rw [D1, m1]
  unfold Spec.S
  exact congrArg (fun z => z * _) (Finset.sum_congr rfl fun c _ => mul_comm _ _)

theorem H1 (B : Fin 32) (t : Fin 256) (h : Fin 4) (e : Fin 512) : (val_main_v158 (F := Ideal) x0 x1 x2 (ix4 B t h e) : EReal) = Spec.H Spec.fwd (fun s => val_main_v107 (F := Ideal) x1 x2 (ix3 B s h)) (fun s => val_main_v108 (F := Ideal) x1 x2 (ix3 B s h)) (fun t c => val_main_v104 (F := Ideal) x0 (ix4 B t h c)) (fun t c => val_main_v105 (F := Ideal) x0 (ix4 B t h c)) (fun t e => val_main_v106 (F := Ideal) x0 (ix4 B t h e)) t e := by
  pointwise [val_main_v158, val_main_v157, val_main_v156, val_main_v155, val_main_v154, val_main_v153, val_main_v152, val_main_v151, val_main_v150, val_main_v149, val_main_v148, val_main_v110, val_main_cst_7, val_main_v131, val_main_v130, val_main_v127, val_main_v126, val_main_v125, val_main_v111, val_main_cst_8, val_main_v147, val_main_cst_12, val_main_v146, val_main_v145, val_main_v143, val_main_v142, val_main_v109, val_main_cst_6, val_main_v144, val_main_v141, val_main_v140, val_main_v139]
  simp only [zero_mul, Finset.sum_const_zero, mul_zero, add_zero, S1, m1]
  unfold Spec.H
  exact congrArg (fun z => Ideal.div z _) (Finset.sum_congr rfl fun s _ => mul_comm _ _)

theorem g1 (B : Fin 32) (s : Fin 256) (h : Fin 4) : (val_main_v164 (F := Ideal) x1 x2 (ix3 B s h) : EReal) = Spec.g Spec.fwd 255 (fun s => val_main_v107 (F := Ideal) x1 x2 (ix3 B s h)) (fun s => val_main_v108 (F := Ideal) x1 x2 (ix3 B s h)) s := by
  pointwise [val_main_v164, val_main_v163, val_main_v162, val_main_v161, val_main_v160, val_main_v159]
  rw [B1, B1]
  rfl

theorem mn1 (B : Fin 32) (h : Fin 4) : (val_main_v167 (F := Ideal) x1 x2 (ix2 B h) : EReal) = Spec.mn Spec.fwd 255 (fun s => val_main_v107 (F := Ideal) x1 x2 (ix3 B s h)) (fun s => val_main_v108 (F := Ideal) x1 x2 (ix3 B s h)) := by
  pointwise [val_main_v167, val_main_v166, val_main_cst_13, val_main_v165, val_main_v111, val_main_cst_8, val_main_v160, val_main_v159]
  rw [B1, ninf]
  simp only [g1]
  rfl

theorem C1 (B : Fin 32) (h : Fin 4) (c : Fin 256) (e : Fin 512) : (val_main_v182 (F := Ideal) x0 x1 x2 (ix4 B h c e) : EReal) = Spec.C Spec.fwd 255 (fun s => val_main_v107 (F := Ideal) x1 x2 (ix3 B s h)) (fun s => val_main_v108 (F := Ideal) x1 x2 (ix3 B s h)) (fun t c => val_main_v105 (F := Ideal) x0 (ix4 B t h c)) (fun t e => val_main_v106 (F := Ideal) x0 (ix4 B t h e)) c e := by
  pointwise [val_main_v182, val_main_v181, val_main_v180, val_main_v179, val_main_v178, val_main_v174, val_main_v173, val_main_v172, val_main_v171, val_main_v177, val_main_v109, val_main_cst_6, val_main_v176, val_main_v175, val_main_v170, val_main_v169, val_main_v168, val_main_v111, val_main_cst_8, val_main_v160, val_main_v159]
  simp only [mul_zero, zero_add, g1, mn1]
  rfl

theorem N1 (B : Fin 32) (h : Fin 4) (c : Fin 256) : (val_main_v187 (F := Ideal) x0 x1 x2 (ix3 B h c) : EReal) = Spec.N Spec.fwd 255 (fun s => val_main_v107 (F := Ideal) x1 x2 (ix3 B s h)) (fun s => val_main_v108 (F := Ideal) x1 x2 (ix3 B s h)) (fun t c => val_main_v105 (F := Ideal) x0 (ix4 B t h c)) c := by
  pointwise [val_main_v187, val_main_v186, val_main_v174, val_main_v173, val_main_v172, val_main_v171, val_main_v185, val_main_v110, val_main_cst_7, val_main_v184, val_main_v183, val_main_v170, val_main_v169, val_main_v168, val_main_v111, val_main_cst_8, val_main_v160, val_main_v159]
  simp only [mul_zero, zero_add, g1, mn1]
  rfl

end Cert.Mlstm.Ref
end
-- ==== Proof.MlstmRefOut.lean ====
module

public import proofs.«01_k».proof.Proof.Gen.ReferenceIdeal.Read
public import proofs.«01_k».proof.Proof.MlstmRef
public import proofs.«01_k».proof.Proof.MlstmOut
public import Idealize.ShloMosaic.Lib.Pointwise
public import Idealize.ShloMosaic.Lib.IdealHost

@[expose] public section

set_option maxRecDepth 16384

noncomputable section

/-! The reference's four results as functions of the arguments. -/

namespace Cert.Mlstm.Ref

open Cert.ReferenceIdeal Cert.ReferenceIdeal.Gen Cert.ReferenceIdeal.Read
open Idealize.ShloMosaic Idealize.ShloMosaic.TcCoe Idealize.SL.Sem

theorem pick {α : Type} (j d : Fin 2) (a a' b c : α) (ha : j.val = 0 → a = a') :
    (if _ : j.val < 1 then a else if _ : d.val < 1 then b else c) = if j.val = 0 then a' else if d.val = 0 then b else c := by
  by_cases hj : j.val = 0
  · rw [dif_pos (by omega), if_pos hj, ha hj]
  · rw [dif_neg (by omega), if_neg hj]
    by_cases hd : d.val = 0
    · rw [dif_pos (by omega), if_pos hd]
    · rw [dif_neg (by omega), if_neg hd]

variable (x0 : (⟨S16384x4096, .bf16⟩ : BufTy).Contents (Elt Ideal)) (x1 : (⟨S16384x2560, .f32⟩ : BufTy).Contents (Elt Ideal)) (x2 : (⟨S1x512, .f32⟩ : BufTy).Contents (Elt Ideal)) (x3 : (⟨S2048, .f32⟩ : BufTy).Contents (Elt Ideal)) (x4 : (⟨S16384x2048, .bf16⟩ : BufTy).Contents (Elt Ideal)) (x5 : (⟨S32x2x2x4x256x512, .f32⟩ : BufTy).Contents (Elt Ideal)) (x6 : (⟨S32x2x2x4x1x256, .f32⟩ : BufTy).Contents (Elt Ideal)) (x7 : (⟨S32x2x4x2x128, .f32⟩ : BufTy).Contents (Elt Ideal))

theorem q_eq (B : Fin 32) (t : Fin 256) (h : Fin 4) (c : Fin 256) : ((val_main_v6 (F := Ideal) x0) (ix4 B t h c) : EReal) = Out.q x0 B h t c := by
  pointwise [val_main_v6, val_main_v3, val_main_v2, val_main_v1, val_main_v0]
  rfl

theorem k_eq (B : Fin 32) (t : Fin 256) (h : Fin 4) (c : Fin 256) : ((val_main_v7 (F := Ideal) x0) (ix4 B t h c) : EReal) = Out.k x0 B h t c := by
  pointwise [val_main_v7, val_main_v4, val_main_v2, val_main_v1, val_main_v0]
  rfl

theorem v_eq (B : Fin 32) (t : Fin 256) (h : Fin 4) (e : Fin 512) : ((val_main_v8 (F := Ideal) x0) (ix4 B t h e) : EReal) = Out.v x0 B h t e := by
  pointwise [val_main_v8, val_main_v5, val_main_v2, val_main_v1, val_main_v0]
  rfl

theorem z_eq (B : Fin 32) (t : Fin 256) (h : Fin 4) (l : Fin 128) : ((val_main_v14 (F := Ideal) x1 x2) (ix4 B t h l) : EReal) = Out.z x1 x2 B h t l := by
  pointwise [val_main_v14, val_main_v13, val_main_v12, val_main_v11]
  rfl

theorem li0_eq (B : Fin 32) (t : Fin 256) (h : Fin 4) : ((val_main_v16 (F := Ideal) x1 x2) (ix3 B t h) : EReal) = Out.li0 x1 x2 B h t := by
  pointwise [val_main_v16, val_main_v15]
  exact z_eq x1 x2 B t h 0

theorem lf0_eq (B : Fin 32) (t : Fin 256) (h : Fin 4) : ((val_main_v19 (F := Ideal) x1 x2) (ix3 B t h) : EReal) = Out.lf0 x1 x2 B h t := by
  pointwise [val_main_v19, val_main_call0_v1, val_main_call0_call0_v11, val_main_call0_call0_v10, val_main_call0_call0_v9, val_main_call0_call0_v8, val_main_call0_call0_v7, val_main_call0_call0_v3, val_main_call0_call0_v2, val_main_call0_call0_cst, val_main_call0_v0, val_main_v18, val_main_v17, val_main_call0_call0_v1, val_main_call0_call0_v0, val_main_call0_call0_v6, val_main_call0_call0_v5, val_main_call0_call0_v4]
  refine (neg_select _).trans ?_
  exact congrArg Spec.logsig (z_eq x1 x2 B t h 1)

theorem li1_eq (B : Fin 32) (t : Fin 256) (h : Fin 4) : ((val_main_v107 (F := Ideal) x1 x2) (ix3 B t h) : EReal) = Out.li1 x1 x2 B h t.rev := by
  pointwise [val_main_v107, val_main_v100, val_main_v99]
  exact z_eq x1 x2 B t.rev h 2

theorem lf1_eq (B : Fin 32) (t : Fin 256) (h : Fin 4) : ((val_main_v108 (F := Ideal) x1 x2) (ix3 B t h) : EReal) = Out.lf1 x1 x2 B h t.rev := by
  pointwise [val_main_v108, val_main_v103, val_main_call4_v1, val_main_call4_call0_v11, val_main_call4_call0_v10, val_main_call4_call0_v9, val_main_call4_call0_v8, val_main_call4_call0_v7, val_main_call4_call0_v3, val_main_call4_call0_v2, val_main_call4_call0_cst, val_main_call4_v0, val_main_v102, val_main_v101, val_main_call4_call0_v1, val_main_call4_call0_v0, val_main_call4_call0_v6, val_main_call4_call0_v5, val_main_call4_call0_v4]
  refine (neg_select _).trans ?_
  exact congrArg Spec.logsig (z_eq x1 x2 B t.rev h 3)

theorem q1_eq (B : Fin 32) (t : Fin 256) (h : Fin 4) (c : Fin 256) : ((val_main_v104 (F := Ideal) x0) (ix4 B t h c) : EReal) = Out.q x0 B h t.rev c := by
  pointwise [val_main_v104]
  exact q_eq x0 B t.rev h c

theorem k1_eq (B : Fin 32) (t : Fin 256) (h : Fin 4) (c : Fin 256) : ((val_main_v105 (F := Ideal) x0) (ix4 B t h c) : EReal) = Out.k x0 B h t.rev c := by
  pointwise [val_main_v105]
  exact k_eq x0 B t.rev h c

theorem v1_eq (B : Fin 32) (t : Fin 256) (h : Fin 4) (e : Fin 512) : ((val_main_v106 (F := Ideal) x0) (ix4 B t h e) : EReal) = Out.v x0 B h t.rev e := by
  pointwise [val_main_v106]
  exact v_eq x0 B t.rev h e

theorem H0_eq (B : Fin 32) (t : Fin 256) (h : Fin 4) (e : Fin 512) : ((val_main_v69 (F := Ideal) x0 x1 x2) (ix4 B t h e) : EReal) = Out.H0 x0 x1 x2 B h t e := by
  refine (H0 x0 x1 x2 B t h e).trans ?_
  simp only [li0_eq, lf0_eq, q_eq, k_eq, v_eq]
  rfl

theorem H1_eq (B : Fin 32) (t : Fin 256) (h : Fin 4) (e : Fin 512) : ((val_main_v158 (F := Ideal) x0 x1 x2) (ix4 B t.rev h e) : EReal) = Out.H1 x0 x1 x2 B h t e := by
  refine (H1 x0 x1 x2 B t.rev h e).trans ?_
  simp only [li1_eq, lf1_eq, q1_eq, k1_eq, v1_eq]
  exact Spec.H_rev _ _ _ _ _ t e

theorem C0_eq (B : Fin 32) (h : Fin 4) (c : Fin 256) (e : Fin 512) : ((val_main_v93 (F := Ideal) x0 x1 x2) (ix4 B h c e) : EReal) = Out.C0 x0 x1 x2 B h c e := by
  refine (C0 x0 x1 x2 B h c e).trans ?_
  simp only [li0_eq, lf0_eq, q_eq, k_eq, v_eq]
  rfl

theorem C1_eq (B : Fin 32) (h : Fin 4) (c : Fin 256) (e : Fin 512) : ((val_main_v182 (F := Ideal) x0 x1 x2) (ix4 B h c e) : EReal) = Out.C1 x0 x1 x2 B h c e := by
  refine (C1 x0 x1 x2 B h c e).trans ?_
  simp only [li1_eq, lf1_eq, q1_eq, k1_eq, v1_eq]
  exact Spec.C_rev _ _ _ _ c e

theorem N0_eq (B : Fin 32) (h : Fin 4) (c : Fin 256) : ((val_main_v98 (F := Ideal) x0 x1 x2) (ix3 B h c) : EReal) = Out.N0 x0 x1 x2 B h c := by
  refine (N0 x0 x1 x2 B h c).trans ?_
  simp only [li0_eq, lf0_eq, q_eq, k_eq, v_eq]
  rfl

theorem N1_eq (B : Fin 32) (h : Fin 4) (c : Fin 256) : ((val_main_v187 (F := Ideal) x0 x1 x2) (ix3 B h c) : EReal) = Out.N1 x0 x1 x2 B h c := by
  refine (N1 x0 x1 x2 B h c).trans ?_
  simp only [li1_eq, lf1_eq, q1_eq, k1_eq, v1_eq]
  exact Spec.N_rev _ _ _ c

theorem M0_eq (B : Fin 32) (h : Fin 4) : ((val_main_v78 (F := Ideal) x1 x2) (ix2 B h) : EReal) = Out.M0 x1 x2 B h := by
  refine (mn0 x1 x2 B h).trans ?_
  simp only [li0_eq, lf0_eq, q_eq, k_eq, v_eq]
  rfl

theorem M1_eq (B : Fin 32) (h : Fin 4) : ((val_main_v167 (F := Ideal) x1 x2) (ix2 B h) : EReal) = Out.M1 x1 x2 B h := by
  refine (mn1 x1 x2 B h).trans ?_
  simp only [li1_eq, lf1_eq, q1_eq, k1_eq, v1_eq]
  exact Spec.mn_rev _ _

theorem Hs_eq (B : Fin 32) (t : Fin 256) (h : Fin 4) (e : Fin 512) : ((val_main_v189 (F := Ideal) x0 x1 x2) (ix4 B t h e) : EReal) = Out.H0 x0 x1 x2 B h t e + Out.H1 x0 x1 x2 B h t e := by
  rw [← H0_eq, ← H1_eq]
  pointwise [val_main_v189, val_main_v188]
  rfl

theorem v210_eq (B : Fin 32) (t : Fin 256) (c : Fin 2048) : ((val_main_v210 (F := Ideal) x0 x1 x2 x3) (ix3 B t c) : EReal) = Out.y x0 x1 x2 x3 B ⟨c.val / 512, by omega⟩ t ⟨c.val % 512, by omega⟩ := by
  unfold Out.y yRow
  simp only [← Hs_eq]
  pointwise [val_main_v210, val_main_v209, val_main_v207, val_main_v205, val_main_v204, val_main_v10, val_main_v9, val_main_v206, val_main_cst_17, val_main_v208, val_main_cst_18, val_main_v203, val_main_v202, val_main_v201, val_main_v200, val_main_v199, val_main_v198, val_main_v197, val_main_v196, val_main_v195, val_main_cst_16, val_main_v194, val_main_v193, val_main_cst_15, val_main_v192, val_main_v191, val_main_cst_14, val_main_v190]
  have e1 : ∀ w, (⟨c.val / 512 * 512 + c.val % 512, w⟩ : Fin 2048) = c := fun w => Fin.ext (by show c.val / 512 * 512 + c.val % 512 = c.val; omega)
  have e2 : ∀ w, (⟨c.val / 512 * 512 + c.val % 512, w⟩ : Fin 2560) = ⟨c.val, by omega⟩ := fun w => Fin.ext (by show c.val / 512 * 512 + c.val % 512 = c.val; omega)
  simp only [e1, e2]

theorem v212_eq (r : Fin 8192) (c : Fin 2048) : ((val_main_v212 (F := Ideal) x0 x1 x2 x3) (ix2 r c) : EReal) = (val_main_v210 (F := Ideal) x0 x1 x2 x3) (ix3 ⟨r.val / 256, by omega⟩ ⟨r.val % 256, by omega⟩ c) := by
  pointwise [val_main_v212, val_main_v211]

theorem y_eq (r : Fin 16384) (c : Fin 2048) : ((val_main_v214 (F := Ideal) x0 x1 x2 x3 x4) (ix2 r c) : EReal) = Out.yAt x0 x1 x2 x3 x4 r c := by
  unfold Out.yAt
  pointwise [val_main_v214, val_main_v213]
  refine dite_congr rfl (fun hr => ?_) (fun hr => ?_)
  · rw [v212_eq, v210_eq]
  · exact congrArg (fun r => x4 (ix2 r c)) (Fin.ext (by show 8192 + (r.val - 8192) = r.val; omega))

theorem c_eq (B : Fin 32) (j d : Fin 2) (h : Fin 4) (c : Fin 256) (e : Fin 512) : ((val_main_v222 (F := Ideal) x0 x1 x2 x5) (ix6 B j d h c e) : EReal) = Out.cAt x0 x1 x2 x5 B j d h c e := by
  unfold Out.cAt
  rw [← C0_eq, ← C1_eq]
  pointwise [val_main_v222, val_main_v221, val_main_v219, val_main_v218, val_main_v217, val_main_v220, val_main_v216, val_main_v215]
  exact pick j d _ _ _ _ fun hj => by rw [show j = 0 from Fin.ext hj]

theorem n_eq (B : Fin 32) (j d : Fin 2) (h : Fin 4) (u : Fin 1) (c : Fin 256) : ((val_main_v231 (F := Ideal) x0 x1 x2 x6) (ix6 B j d h u c) : EReal) = Out.nAt x0 x1 x2 x6 B j d h u c := by
  unfold Out.nAt
  rw [← N0_eq, ← N1_eq]
  pointwise [val_main_v231, val_main_v230, val_main_v228, val_main_v227, val_main_v226, val_main_v225, val_main_v229, val_main_v224, val_main_v223]
  exact pick j d _ _ _ _ fun hj => by rw [show j = 0 from Fin.ext hj, show u = 0 from Subsingleton.elim _ _]

theorem m_eq (B : Fin 32) (j : Fin 2) (h : Fin 4) (d : Fin 2) (l : Fin 128) : ((val_main_v241 (F := Ideal) x1 x2 x7) (ix5 B j h d l) : EReal) = Out.mAt x1 x2 x7 B j h d l := by
  unfold Out.mAt
  rw [← M0_eq, ← M1_eq]
  pointwise [val_main_v241, val_main_v240, val_main_v236, val_main_v235, val_main_v234, val_main_v233, val_main_v232, val_main_v239, val_main_v238, val_main_v237]
  exact pick j d _ _ _ _ fun hj => by rw [show j = 0 from Fin.ext hj]

/-- The reference's four result arrays. -/
theorem y_arr : ((val_main_v214 (F := Ideal) x0 x1 x2 x3 x4) : FVec Ideal Out.SY .bf16) = Out.yArr x0 x1 x2 x3 x4 := by
  funext i
  rw [show i = ix2 (i 0) (i 1) from funext fun a => match a with | ⟨0, _⟩ => rfl | ⟨1, _⟩ => rfl]
  exact y_eq x0 x1 x2 x3 x4 (i 0) (i 1)

theorem c_arr : ((val_main_v222 (F := Ideal) x0 x1 x2 x5) : FVec Ideal Out.SC .f32) = Out.cArr x0 x1 x2 x5 := by
  funext i
  rw [show i = ix6 (i 0) (i 1) (i 2) (i 3) (i 4) (i 5) from funext fun a => match a with | ⟨0, _⟩ => rfl | ⟨1, _⟩ => rfl | ⟨2, _⟩ => rfl | ⟨3, _⟩ => rfl | ⟨4, _⟩ => rfl | ⟨5, _⟩ => rfl]
  exact c_eq x0 x1 x2 x5 (i 0) (i 1) (i 2) (i 3) (i 4) (i 5)

theorem n_arr : ((val_main_v231 (F := Ideal) x0 x1 x2 x6) : FVec Ideal Out.SN .f32) = Out.nArr x0 x1 x2 x6 := by
  funext i
  rw [show i = ix6 (i 0) (i 1) (i 2) (i 3) (i 4) (i 5) from funext fun a => match a with | ⟨0, _⟩ => rfl | ⟨1, _⟩ => rfl | ⟨2, _⟩ => rfl | ⟨3, _⟩ => rfl | ⟨4, _⟩ => rfl | ⟨5, _⟩ => rfl]
  exact n_eq x0 x1 x2 x6 (i 0) (i 1) (i 2) (i 3) (i 4) (i 5)

theorem m_arr : ((val_main_v241 (F := Ideal) x1 x2 x7) : FVec Ideal Out.SM .f32) = Out.mArr x1 x2 x7 := by
  funext i
  rw [show i = ix5 (i 0) (i 1) (i 2) (i 3) (i 4) from funext fun a => match a with | ⟨0, _⟩ => rfl | ⟨1, _⟩ => rfl | ⟨2, _⟩ => rfl | ⟨3, _⟩ => rfl | ⟨4, _⟩ => rfl]
  exact m_eq x1 x2 x7 (i 0) (i 1) (i 2) (i 3) (i 4)

end Cert.Mlstm.Ref

end
-- ==== Proof.lean ====
module

public import proofs.«01_k».proof.Defs
public import proofs.«01_k».proof.Proof.Gen.Kernel.Frame
public import proofs.«01_k».proof.Proof.Gen.Kernel2.Frame
public import proofs.«01_k».proof.Proof.Gen.Kernel2Ideal.Frame
public import proofs.«01_k».proof.Proof.Gen.KernelIdeal.Frame
public import proofs.«01_k».proof.Proof.Gen.KernelIdeal.Value
public import proofs.«01_k».proof.Proof.Gen.Pre_finite_gates
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.FfnRef
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Ffn1Ref
public import proofs.«01_k».proof.Proof.Ffn2Ref
public import proofs.«01_k».proof.Proof.Ffn3Ref
public import proofs.«01_k».proof.Proof.Ffn4Ref
public import proofs.«01_k».proof.Proof.MlstmInRef
public import proofs.«01_k».proof.Proof.LruInRef
public import proofs.«01_k».proof.Proof.FnetOutRef
public import proofs.«01_k».proof.Proof.LruOutRef
public import proofs.«01_k».proof.Proof.SecondOutRef
public import proofs.«01_k».proof.Proof.FirstInRef
public import proofs.«01_k».proof.Proof.FirstOutRef
public import proofs.«01_k».proof.Proof.MlstmFold
public import proofs.«01_k».proof.Proof.MlstmPre
public import proofs.«01_k».proof.Proof.MlstmRefOut
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_Kernel2Ideal_Reference2Ideal : algebraic_Kernel2Ideal_Reference2Ideal := by
  intro m ρ m' ρ' _ hagree
  refine ⟨_, Cert.Ffn.run m ρ, ?_⟩
  refine (θ_run Cert.Reference2Ideal.defs _ _).mono (fun _ h c => ⟨?_, (h c).2⟩) (Cert.Reference2Ideal.Value.run (F := Ideal) m' ρ')
  obtain ⟨h0, h1, h2, h3, h4, h5⟩ := hagree c
  rw [(h c).1, Cert.Reference2Ideal.Read.val_main_v52_eq, h0, h1, h2, h3, h4, h5]
  exact Cert.Ffn.ref_eq _ _ _ _ _ _

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic_Kernel3Ideal_Reference3Ideal : algebraic_Kernel3Ideal_Reference3Ideal := by
  intro m ρ m' ρ' _ hagree
  refine ⟨_, Cert.Ffn1.run m ρ, ?_⟩
  refine (θ_run Cert.Reference3Ideal.defs _ _).mono (fun _ h c => ⟨?_, (h c).2⟩) (Cert.Reference3Ideal.Value.run (F := Ideal) m' ρ')
  obtain ⟨h0, h1, h2, h3, h4, h5⟩ := hagree c
  rw [(h c).1, Cert.Reference3Ideal.Read.val_main_v52_eq, h0, h1, h2, h3, h4, h5]
  exact Cert.Ffn1.ref_eq _ _ _ _ _ _

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic_Kernel4Ideal_Reference4Ideal : algebraic_Kernel4Ideal_Reference4Ideal := by
  intro m ρ m' ρ' _ hagree
  refine ⟨_, Cert.Ffn2.run m ρ, ?_⟩
  refine (θ_run Cert.Reference4Ideal.defs _ _).mono (fun _ h c => ⟨?_, (h c).2⟩) (Cert.Reference4Ideal.Value.run (F := Ideal) m' ρ')
  obtain ⟨h0, h1, h2, h3, h4, h5⟩ := hagree c
  rw [(h c).1, Cert.Reference4Ideal.Read.val_main_v52_eq, h0, h1, h2, h3, h4, h5]
  exact Cert.Ffn2.ref_eq _ _ _ _ _ _

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic_Kernel5Ideal_Reference5Ideal : algebraic_Kernel5Ideal_Reference5Ideal := by
  intro m ρ m' ρ' _ hagree
  refine ⟨_, Cert.Ffn3.run m ρ, ?_⟩
  refine (θ_run Cert.Reference5Ideal.defs _ _).mono (fun _ h c => ⟨?_, (h c).2⟩) (Cert.Reference5Ideal.Value.run (F := Ideal) m' ρ')
  obtain ⟨h0, h1, h2, h3, h4, h5⟩ := hagree c
  rw [(h c).1, Cert.Reference5Ideal.Read.val_main_v54_eq, h0, h1, h2, h3, h4, h5]
  exact Cert.Ffn3.ref_eq _ _ _ _ _ _

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic_Kernel6Ideal_Reference6Ideal : algebraic_Kernel6Ideal_Reference6Ideal := by
  intro m ρ m' ρ' _ hagree
  refine ⟨_, Cert.Ffn4.run m ρ, ?_⟩
  refine (θ_run Cert.Reference6Ideal.defs _ _).mono (fun _ h c => ⟨?_, (h c).2⟩) (Cert.Reference6Ideal.Value.run (F := Ideal) m' ρ')
  obtain ⟨h0, h1, h2, h3, h4, h5⟩ := hagree c
  rw [(h c).1, Cert.Reference6Ideal.Read.val_main_v54_eq, h0, h1, h2, h3, h4, h5]
  exact Cert.Ffn4.ref_eq _ _ _ _ _ _

theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic_Kernel7Ideal_Reference7Ideal : algebraic_Kernel7Ideal_Reference7Ideal := by
  intro m ρ m' ρ' _ hagree
  refine ⟨_, Cert.FnetOut.run m ρ, ?_⟩
  refine (θ_run Cert.Reference7Ideal.defs _ _).mono (fun _ h c => ⟨?_, (h c).2⟩) (Cert.Reference7Ideal.Value.run (F := Ideal) m' ρ')
  obtain ⟨h0, h1, h2, h3, h4, h5⟩ := hagree c
  refine (h c).1.trans ((Cert.Reference7Ideal.Read.val_main_v30_eq _ _ _ _ _ _).trans ?_)
  rw [h0, h1, h2, h3, h4, h5]
  exact Cert.FnetOut.ref_eq _ _ _ _ _ _

theorem quiescent_Reference8Ideal : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic_Kernel8Ideal_Reference8Ideal : algebraic_Kernel8Ideal_Reference8Ideal := by
  intro m ρ m' ρ' _ hagree
  refine ⟨_, Cert.LruIn.run m ρ, ?_⟩
  refine (θ_run Cert.Reference8Ideal.defs _ _).mono (fun _ h c => ⟨?_, (h c).2⟩) (Cert.Reference8Ideal.Value.run (F := Ideal) m' ρ')
  obtain ⟨h0, h1, h2, h3⟩ := hagree c
  rw [(h c).1, Cert.Reference8Ideal.Read.val_main_v29_eq, h0, h1, h2, h3]
  exact Cert.LruIn.ref_eq _ _ _ _

theorem quiescent_Reference9Ideal : quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

theorem algebraic_Kernel9Ideal_Reference9Ideal : algebraic_Kernel9Ideal_Reference9Ideal := by
  intro m ρ m' ρ' _ hagree
  refine ⟨_, _, (θ_run Cert.Kernel9Ideal.defs _ _).mono (fun r h c => h c) (Cert.MlstmIn.run m ρ), ?_⟩
  refine (θ_run Cert.Reference9Ideal.defs _ _).mono (fun _ h c => ⟨?_, ?_, (h c).2.2⟩) (Cert.Reference9Ideal.Value.run (F := Ideal) m' ρ')
  · obtain ⟨h0, h1, h2, h3⟩ := hagree c
    rw [(h c).1, Cert.Reference9Ideal.Read.val_main_v43_eq, h0, h1, h2, h3]
    exact Cert.MlstmIn.ref_eqA _ _ _ _
  · obtain ⟨h0, h1, h2, h3⟩ := hagree c
    rw [(h c).2.1, Cert.Reference9Ideal.Read.val_main_v44_eq, h0, h1, h2, h3]
    exact Cert.MlstmIn.ref_eqB _ _ _ _

theorem quiescent_Reference10Ideal : quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic_Kernel10Ideal_Reference10Ideal : algebraic_Kernel10Ideal_Reference10Ideal := by
  intro m ρ m' ρ' _ hagree
  refine ⟨_, Cert.LruOut.run m ρ, ?_⟩
  refine (θ_run Cert.Reference10Ideal.defs _ _).mono (fun _ h c => ⟨?_, (h c).2⟩) (Cert.Reference10Ideal.Value.run (F := Ideal) m' ρ')
  obtain ⟨h0, h1, h2, h3, h4⟩ := hagree c
  refine (h c).1.trans ((Cert.Reference10Ideal.Read.val_main_v26_eq _ _ _ _ _).trans ?_)
  rw [h0, h1, h2, h3, h4]
  exact Cert.LruOut.ref_eq _ _ _ _ _

theorem quiescent_Reference11Ideal : quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic_Kernel11Ideal_Reference11Ideal : algebraic_Kernel11Ideal_Reference11Ideal := by
  intro m ρ m' ρ' _ hagree
  refine ⟨_, Cert.SecondOut.run m ρ, ?_⟩
  refine (θ_run Cert.Reference11Ideal.defs _ _).mono (fun _ h c => ⟨?_, (h c).2⟩) (Cert.Reference11Ideal.Value.run (F := Ideal) m' ρ')
  obtain ⟨h0, h1, h2, h3, h4⟩ := hagree c
  refine (h c).1.trans ((Cert.Reference11Ideal.Read.val_main_v27_eq _ _ _ _ _).trans ?_)
  rw [h0, h1, h2, h3, h4]
  exact Cert.SecondOut.ref_eq _ _ _ _ _

theorem quiescent_Reference13Ideal : quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem algebraic_Kernel13Ideal_Reference13Ideal : algebraic_Kernel13Ideal_Reference13Ideal := by
  intro m ρ m' ρ' _ hagree
  refine ⟨_, Cert.FirstOut.run m ρ, ?_⟩
  refine (θ_run Cert.Reference13Ideal.defs _ _).mono (fun _ h c => ⟨?_, (h c).2⟩) (Cert.Reference13Ideal.Value.run (F := Ideal) m' ρ')
  obtain ⟨h0, h1, h2, h3, h4, h5⟩ := hagree c
  refine (h c).1.trans ((Cert.Reference13Ideal.Read.val_main_v30_eq _ _ _ _ _ _).trans ?_)
  rw [h0, h1, h2, h3, h4, h5]
  exact Cert.FirstOut.ref_eq _ _ _ _ _ _

theorem quiescent_Reference12Ideal : quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

theorem algebraic_Kernel12Ideal_Reference12Ideal : algebraic_Kernel12Ideal_Reference12Ideal := by
  intro m ρ m' ρ' _ hagree
  refine ⟨_, _, (θ_run Cert.Kernel12Ideal.defs _ _).mono (fun r h c => h c) (Cert.FirstIn.run m ρ), ?_⟩
  refine (θ_run Cert.Reference12Ideal.defs _ _).mono (fun _ h c => ⟨?_, ?_, (h c).2.2⟩) (Cert.Reference12Ideal.Value.run (F := Ideal) m' ρ')
  · obtain ⟨h0, h1, h2, h3, h4⟩ := hagree c
    refine (h c).1.trans ((Cert.Reference12Ideal.Read.val_main_v46_eq _ _).trans ?_)
    rw [h0, h1, h2, h3, h4]
    exact Cert.FirstIn.ref_eqA _ _ _ _ _
  · obtain ⟨h0, h1, h2, h3, h4⟩ := hagree c
    refine (h c).2.1.trans ((Cert.Reference12Ideal.Read.val_main_v47_eq _ _).trans ?_)
    rw [h0, h1, h2, h3, h4]
    exact Cert.FirstIn.ref_eqB _ _ _ _ _

/-- Every gate pre-activation the mLSTM kernel reads is finite, on memories the precondition admits. -/
theorem gates_finite (m : (ℓ : Loc Cert.KernelIdeal.nD Cert.KernelIdeal.τ Cert.KernelIdeal.sig) → Buf (Elt Ideal) ℓ)
    (h : Pre_KernelIdeal_finite_gates m) (c : Dev Cert.KernelIdeal.nD) : Cert.Mlstm.GatesFinite m c :=
  fun B hd t l => Cert.Mlstm.Pre.finite_z _ _ _ _ _ _ _ _ (h c) B hd t l

theorem quiescent_ReferenceIdeal : quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The mLSTM kernel's run, its four results being the arrays of the specification. -/
theorem mlstm_run (m : (ℓ : Loc Cert.KernelIdeal.nD Cert.KernelIdeal.τ Cert.KernelIdeal.sig) → Buf (Elt Ideal) ℓ)
    (ρ : Dev Cert.KernelIdeal.nD → PrngReg) (h : Pre_KernelIdeal_finite_gates m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v1_0) = Cert.Mlstm.Out.yArr (Cert.Mlstm.a0 m c) (Cert.Mlstm.a1 m c) (Cert.Mlstm.a2 m c) (Cert.Mlstm.a3 m c) (Cert.Mlstm.a4 m c)
      ∧ r.2.mem ((c.tc : Thread Cert.KernelIdeal.nD Cert.KernelIdeal.τ).loc Cert.KernelIdeal.main_v1_1) = Cert.Mlstm.Out.cArr (Cert.Mlstm.a0 m c) (Cert.Mlstm.a1 m c) (Cert.Mlstm.a2 m c) (Cert.Mlstm.a5 m c)
      ∧ r.2.mem ((c.tc : Thread Cert.KernelIdeal.nD Cert.KernelIdeal.τ).loc Cert.KernelIdeal.main_v1_2) = Cert.Mlstm.Out.nArr (Cert.Mlstm.a0 m c) (Cert.Mlstm.a1 m c) (Cert.Mlstm.a2 m c) (Cert.Mlstm.a6 m c)
      ∧ r.2.mem ((c.tc : Thread Cert.KernelIdeal.nD Cert.KernelIdeal.τ).loc Cert.KernelIdeal.main_v1_3) = Cert.Mlstm.Out.mArr (Cert.Mlstm.a1 m c) (Cert.Mlstm.a2 m c) (Cert.Mlstm.a7 m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono (fun _ k c => ⟨(k c).1.trans (Cert.Mlstm.final7 m c (gates_finite m h c)),
    (k c).2.1.trans (Cert.Mlstm.final8 m c (gates_finite m h c)), (k c).2.2.1.trans (Cert.Mlstm.final9 m c (gates_finite m h c)),
    (k c).2.2.2.1.trans (Cert.Mlstm.final10 m c (gates_finite m h c)), (k c).2.2.2.2⟩) (Cert.KernelIdeal.Value.run_blocks m ρ)

theorem algebraic_KernelIdeal_ReferenceIdeal : algebraic_KernelIdeal_ReferenceIdeal_pre_finite_gates := by
  intro m ρ m' ρ' hpre hagree
  refine ⟨_, _, _, _, mlstm_run m ρ hpre, ?_⟩
  refine (θ_run Cert.ReferenceIdeal.defs _ _).mono (fun _ h c => ⟨?_, ?_, ?_, ?_, (h c).2.2.2.2⟩) (Cert.ReferenceIdeal.Value.run (F := Ideal) m' ρ')
  · obtain ⟨h0, h1, h2, h3, h4, h5, h6, h7⟩ := hagree c
    refine (h c).1.trans ((Cert.ReferenceIdeal.Read.val_main_v214_eq (StableHlo.launchContents m' c)).trans ?_)
    rw [StableHlo.launchContents_devRef, StableHlo.launchContents_devRef, StableHlo.launchContents_devRef, StableHlo.launchContents_devRef, StableHlo.launchContents_devRef, h0, h1, h2, h3, h4]
    exact Cert.Mlstm.Ref.y_arr _ _ _ _ _
  · obtain ⟨h0, h1, h2, h3, h4, h5, h6, h7⟩ := hagree c
    refine (h c).2.1.trans ((Cert.ReferenceIdeal.Read.val_main_v222_eq (StableHlo.launchContents m' c)).trans ?_)
    rw [StableHlo.launchContents_devRef, StableHlo.launchContents_devRef, StableHlo.launchContents_devRef, StableHlo.launchContents_devRef, h0, h1, h2, h5]
    exact Cert.Mlstm.Ref.c_arr _ _ _ _
  · obtain ⟨h0, h1, h2, h3, h4, h5, h6, h7⟩ := hagree c
    refine (h c).2.2.1.trans ((Cert.ReferenceIdeal.Read.val_main_v231_eq (StableHlo.launchContents m' c)).trans ?_)
    rw [StableHlo.launchContents_devRef, StableHlo.launchContents_devRef, StableHlo.launchContents_devRef, StableHlo.launchContents_devRef, h0, h1, h2, h6]
    exact Cert.Mlstm.Ref.n_arr _ _ _ _
  · obtain ⟨h0, h1, h2, h3, h4, h5, h6, h7⟩ := hagree c
    refine (h c).2.2.2.1.trans ((Cert.ReferenceIdeal.Read.val_main_v241_eq (StableHlo.launchContents m' c)).trans ?_)
    rw [StableHlo.launchContents_devRef, StableHlo.launchContents_devRef, StableHlo.launchContents_devRef, h1, h2, h7]
    exact Cert.Mlstm.Ref.m_arr _ _ _

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Pre_finite_gates.Gen.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ, quiescent_Reference6Ideal,
  fun m ρ _ => Cert.Kernel7.Gen.frame m ρ, fun m ρ _ => Cert.Kernel7Ideal.Gen.frame m ρ, quiescent_Reference7Ideal,
  fun m ρ _ => Cert.Kernel8.Gen.frame m ρ, fun m ρ _ => Cert.Kernel8Ideal.Gen.frame m ρ, quiescent_Reference8Ideal,
  fun m ρ _ => Cert.Kernel9.Gen.frame m ρ, fun m ρ _ => Cert.Kernel9Ideal.Gen.frame m ρ, quiescent_Reference9Ideal,
  fun m ρ _ => Cert.Kernel10.Gen.frame m ρ, fun m ρ _ => Cert.Kernel10Ideal.Gen.frame m ρ, quiescent_Reference10Ideal,
  fun m ρ _ => Cert.Kernel11.Gen.frame m ρ, fun m ρ _ => Cert.Kernel11Ideal.Gen.frame m ρ, quiescent_Reference11Ideal,
  fun m ρ _ => Cert.Kernel12.Gen.frame m ρ, fun m ρ _ => Cert.Kernel12Ideal.Gen.frame m ρ, quiescent_Reference12Ideal,
  fun m ρ _ => Cert.Kernel13.Gen.frame m ρ, fun m ρ _ => Cert.Kernel13Ideal.Gen.frame m ρ, quiescent_Reference13Ideal,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal,
  (trivial : preserves_Kernel5_Kernel5Ideal), algebraic_Kernel5Ideal_Reference5Ideal,
  (trivial : preserves_Kernel6_Kernel6Ideal), algebraic_Kernel6Ideal_Reference6Ideal,
  (trivial : preserves_Kernel7_Kernel7Ideal), algebraic_Kernel7Ideal_Reference7Ideal,
  (trivial : preserves_Kernel8_Kernel8Ideal), algebraic_Kernel8Ideal_Reference8Ideal,
  (trivial : preserves_Kernel9_Kernel9Ideal), algebraic_Kernel9Ideal_Reference9Ideal,
  (trivial : preserves_Kernel10_Kernel10Ideal), algebraic_Kernel10Ideal_Reference10Ideal,
  (trivial : preserves_Kernel11_Kernel11Ideal), algebraic_Kernel11Ideal_Reference11Ideal,
  (trivial : preserves_Kernel12_Kernel12Ideal), algebraic_Kernel12Ideal_Reference12Ideal,
  (trivial : preserves_Kernel13_Kernel13Ideal), algebraic_Kernel13Ideal_Reference13Ideal⟩

end Cert.Proof

end
